-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInRefIdeal (m : (ℓ : Loc Cert.GlaInRefIdeal.nD Cert.GlaInRefIdeal.τ Cert.GlaInRefIdeal.sig) → Buf (Elt Ideal) ℓ) : Prop :=
  True

def Pre_GlaInDw (m : (ℓ : Loc Cert.GlaInDw.nD Cert.GlaInDw.τ Cert.GlaInDw.sig) → Buf (Elt Bits) ℓ) : Prop :=
  True

def Pre_GlaInDwIdeal (m : (ℓ : Loc Cert.GlaInDwIdeal.nD Cert.GlaInDwIdeal.τ Cert.GlaInDwIdeal.sig) → Buf (Elt Ideal) ℓ) : Prop :=
  True

def Pre_GlaInDwRefIdeal (m : (ℓ : Loc Cert.GlaInDwRefIdeal.nD Cert.GlaInDwRefIdeal.τ Cert.GlaInDwRefIdeal.sig) → Buf (Elt Ideal) ℓ) : Prop :=
  True

def Pre_GlaInDx (m : (ℓ : Loc Cert.GlaInDx.nD Cert.GlaInDx.τ Cert.GlaInDx.sig) → Buf (Elt Bits) ℓ) : Prop :=
  True

def Pre_GlaInDxIdeal (m : (ℓ : Loc Cert.GlaInDxIdeal.nD Cert.GlaInDxIdeal.τ Cert.GlaInDxIdeal.sig) → Buf (Elt Ideal) ℓ) : Prop :=
  True

def Pre_GlaInDxRefIdeal (m : (ℓ : Loc Cert.GlaInDxRefIdeal.nD Cert.GlaInDxRefIdeal.τ Cert.GlaInDxRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_ConvInDw (m : (ℓ : Loc Cert.ConvInDw.nD Cert.ConvInDw.τ Cert.ConvInDw.sig) → Buf (Elt Bits) ℓ) : Prop :=
  True

def Pre_ConvInDwIdeal (m : (ℓ : Loc Cert.ConvInDwIdeal.nD Cert.ConvInDwIdeal.τ Cert.ConvInDwIdeal.sig) → Buf (Elt Ideal) ℓ) : Prop :=
  True

def Pre_ConvInDwRefIdeal (m : (ℓ : Loc Cert.ConvInDwRefIdeal.nD Cert.ConvInDwRefIdeal.τ Cert.ConvInDwRefIdeal.sig) → Buf (Elt Ideal) ℓ) : Prop :=
  True

def Pre_ConvInDx (m : (ℓ : Loc Cert.ConvInDx.nD Cert.ConvInDx.τ Cert.ConvInDx.sig) → Buf (Elt Bits) ℓ) : Prop :=
  True

def Pre_ConvInDxIdeal (m : (ℓ : Loc Cert.ConvInDxIdeal.nD Cert.ConvInDxIdeal.τ Cert.ConvInDxIdeal.sig) → Buf (Elt Ideal) ℓ) : Prop :=
  True

def Pre_ConvInDxRefIdeal (m : (ℓ : Loc Cert.ConvInDxRefIdeal.nD Cert.ConvInDxRefIdeal.τ Cert.ConvInDxRefIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwRefIdeal (m : (ℓ : Loc Cert.SquareDwRefIdeal.nD Cert.SquareDwRefIdeal.τ Cert.SquareDwRefIdeal.sig) → Buf (Elt Ideal) ℓ) : Prop :=
  True

def Pre_SquareDx (m : (ℓ : Loc Cert.SquareDx.nD Cert.SquareDx.τ Cert.SquareDx.sig) → Buf (Elt Bits) ℓ) : Prop :=
  True

def Pre_SquareDxIdeal (m : (ℓ : Loc Cert.SquareDxIdeal.nD Cert.SquareDxIdeal.τ Cert.SquareDxIdeal.sig) → Buf (Elt Ideal) ℓ) : Prop :=
  True

def Pre_SquareDxRefIdeal (m : (ℓ : Loc Cert.SquareDxRefIdeal.nD Cert.SquareDxRefIdeal.τ Cert.SquareDxRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_StepGlaOut (m : (ℓ : Loc Cert.StepGlaOut.nD Cert.StepGlaOut.τ Cert.StepGlaOut.sig) → Buf (Elt Bits) ℓ) : Prop :=
  True

def Pre_StepGlaOutIdeal (m : (ℓ : Loc Cert.StepGlaOutIdeal.nD Cert.StepGlaOutIdeal.τ Cert.StepGlaOutIdeal.sig) → Buf (Elt Ideal) ℓ) : Prop :=
  True

def Pre_StepGlaOutRefIdeal (m : (ℓ : Loc Cert.StepGlaOutRefIdeal.nD Cert.StepGlaOutRefIdeal.τ Cert.StepGlaOutRefIdeal.sig) → Buf (Elt Ideal) ℓ) : Prop :=
  True

def Pre_StepMlaIn (m : (ℓ : Loc Cert.StepMlaIn.nD Cert.StepMlaIn.τ Cert.StepMlaIn.sig) → Buf (Elt Bits) ℓ) : Prop :=
  True

def Pre_StepMlaInIdeal (m : (ℓ : Loc Cert.StepMlaInIdeal.nD Cert.StepMlaInIdeal.τ Cert.StepMlaInIdeal.sig) → Buf (Elt Ideal) ℓ) : Prop :=
  True

def Pre_StepMlaInRefIdeal (m : (ℓ : Loc Cert.StepMlaInRefIdeal.nD Cert.StepMlaInRefIdeal.τ Cert.StepMlaInRefIdeal.sig) → Buf (Elt Ideal) ℓ) : Prop :=
  True

def Pre_StepMlaUq (m : (ℓ : Loc Cert.StepMlaUq.nD Cert.StepMlaUq.τ Cert.StepMlaUq.sig) → Buf (Elt Bits) ℓ) : Prop :=
  True

def Pre_StepMlaUqIdeal (m : (ℓ : Loc Cert.StepMlaUqIdeal.nD Cert.StepMlaUqIdeal.τ Cert.StepMlaUqIdeal.sig) → Buf (Elt Ideal) ℓ) : Prop :=
  True

def Pre_StepMlaUqRefIdeal (m : (ℓ : Loc Cert.StepMlaUqRefIdeal.nD Cert.StepMlaUqRefIdeal.τ Cert.StepMlaUqRefIdeal.sig) → Buf (Elt Ideal) ℓ) : Prop :=
  True

def Pre_StepMlaUkv (m : (ℓ : Loc Cert.StepMlaUkv.nD Cert.StepMlaUkv.τ Cert.StepMlaUkv.sig) → Buf (Elt Bits) ℓ) : Prop :=
  True

def Pre_StepMlaUkvIdeal (m : (ℓ : Loc Cert.StepMlaUkvIdeal.nD Cert.StepMlaUkvIdeal.τ Cert.StepMlaUkvIdeal.sig) → Buf (Elt Ideal) ℓ) : Prop :=
  True

def Pre_StepMlaUkvRefIdeal (m : (ℓ : Loc Cert.StepMlaUkvRefIdeal.nD Cert.StepMlaUkvRefIdeal.τ Cert.StepMlaUkvRefIdeal.sig) → Buf (Elt Ideal) ℓ) : Prop :=
  True

def Pre_StepRowsOut (m : (ℓ : Loc Cert.StepRowsOut.nD Cert.StepRowsOut.τ Cert.StepRowsOut.sig) → Buf (Elt Bits) ℓ) : Prop :=
  True

def Pre_StepRowsOutIdeal (m : (ℓ : Loc Cert.StepRowsOutIdeal.nD Cert.StepRowsOutIdeal.τ Cert.StepRowsOutIdeal.sig) → Buf (Elt Ideal) ℓ) : Prop :=
  True

def Pre_StepRowsOutRefIdeal (m : (ℓ : Loc Cert.StepRowsOutRefIdeal.nD Cert.StepRowsOutRefIdeal.τ Cert.StepRowsOutRefIdeal.sig) → Buf (Elt Ideal) ℓ) : Prop :=
  True

def Pre_StepConvIn (m : (ℓ : Loc Cert.StepConvIn.nD Cert.StepConvIn.τ Cert.StepConvIn.sig) → Buf (Elt Bits) ℓ) : Prop :=
  True

def Pre_StepConvInIdeal (m : (ℓ : Loc Cert.StepConvInIdeal.nD Cert.StepConvInIdeal.τ Cert.StepConvInIdeal.sig) → Buf (Elt Ideal) ℓ) : Prop :=
  True

def Pre_StepConvInRefIdeal (m : (ℓ : Loc Cert.StepConvInRefIdeal.nD Cert.StepConvInRefIdeal.τ Cert.StepConvInRefIdeal.sig) → Buf (Elt Ideal) ℓ) : Prop :=
  True

def Pre_StepMlp (m : (ℓ : Loc Cert.StepMlp.nD Cert.StepMlp.τ Cert.StepMlp.sig) → Buf (Elt Bits) ℓ) : Prop :=
  True

def Pre_StepMlpIdeal (m : (ℓ : Loc Cert.StepMlpIdeal.nD Cert.StepMlpIdeal.τ Cert.StepMlpIdeal.sig) → Buf (Elt Ideal) ℓ) : Prop :=
  True

def Pre_StepMlpRefIdeal (m : (ℓ : Loc Cert.StepMlpRefIdeal.nD Cert.StepMlpRefIdeal.τ Cert.StepMlpRefIdeal.sig) → Buf (Elt Ideal) ℓ) : Prop :=
  True

def Pre_StepPleGate (m : (ℓ : Loc Cert.StepPleGate.nD Cert.StepPleGate.τ Cert.StepPleGate.sig) → Buf (Elt Bits) ℓ) : Prop :=
  True

def Pre_StepPleGateIdeal (m : (ℓ : Loc Cert.StepPleGateIdeal.nD Cert.StepPleGateIdeal.τ Cert.StepPleGateIdeal.sig) → Buf (Elt Ideal) ℓ) : Prop :=
  True

def Pre_StepPleGateRefIdeal (m : (ℓ : Loc Cert.StepPleGateRefIdeal.nD Cert.StepPleGateRefIdeal.τ Cert.StepPleGateRefIdeal.sig) → Buf (Elt Ideal) ℓ) : Prop :=
  True

def Pre_StepPleProj (m : (ℓ : Loc Cert.StepPleProj.nD Cert.StepPleProj.τ Cert.StepPleProj.sig) → Buf (Elt Bits) ℓ) : Prop :=
  True

def Pre_StepPleProjIdeal (m : (ℓ : Loc Cert.StepPleProjIdeal.nD Cert.StepPleProjIdeal.τ Cert.StepPleProjIdeal.sig) → Buf (Elt Ideal) ℓ) : Prop :=
  True

def Pre_StepPleProjRefIdeal (m : (ℓ : Loc Cert.StepPleProjRefIdeal.nD Cert.StepPleProjRefIdeal.τ Cert.StepPleProjRefIdeal.sig) → Buf (Elt Ideal) ℓ) : Prop :=
  True

def Pre_StepGlaIn (m : (ℓ : Loc Cert.StepGlaIn.nD Cert.StepGlaIn.τ Cert.StepGlaIn.sig) → Buf (Elt Bits) ℓ) : Prop :=
  True

def Pre_StepGlaInIdeal (m : (ℓ : Loc Cert.StepGlaInIdeal.nD Cert.StepGlaInIdeal.τ Cert.StepGlaInIdeal.sig) → Buf (Elt Ideal) ℓ) : Prop :=
  True

def Pre_StepGlaInRefIdeal (m : (ℓ : Loc Cert.StepGlaInRefIdeal.nD Cert.StepGlaInRefIdeal.τ Cert.StepGlaInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2)
      ∧ r.2.mem ((c.tc : Thread Cert.DownDw.nD Cert.DownDw.τ).loc Cert.DownDw.main_arg3) = m ((c.tc : Thread Cert.DownDw.nD Cert.DownDw.τ).loc Cert.DownDw.main_arg3))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2)
      ∧ r.2.mem ((c.tc : Thread Cert.DownDwIdeal.nD Cert.DownDwIdeal.τ).loc Cert.DownDwIdeal.main_arg3) = m ((c.tc : Thread Cert.DownDwIdeal.nD Cert.DownDwIdeal.τ).loc Cert.DownDwIdeal.main_arg3))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2)
      ∧ r.2.mem ((c.tc : Thread Cert.DownDwRefIdeal.nD Cert.DownDwRefIdeal.τ).loc Cert.DownDwRefIdeal.main_arg3) = m ((c.tc : Thread Cert.DownDwRefIdeal.nD Cert.DownDwRefIdeal.τ).loc Cert.DownDwRefIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2)
      ∧ r.2.mem ((c.tc : Thread Cert.DownDx.nD Cert.DownDx.τ).loc Cert.DownDx.main_arg3) = m ((c.tc : Thread Cert.DownDx.nD Cert.DownDx.τ).loc Cert.DownDx.main_arg3))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2)
      ∧ r.2.mem ((c.tc : Thread Cert.DownDxRefIdeal.nD Cert.DownDxRefIdeal.τ).loc Cert.DownDxRefIdeal.main_arg3) = m ((c.tc : Thread Cert.DownDxRefIdeal.nD Cert.DownDxRefIdeal.τ).loc Cert.DownDxRefIdeal.main_arg3))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2)
      ∧ r.2.mem ((c.tc : Thread Cert.UpDw.nD Cert.UpDw.τ).loc Cert.UpDw.main_arg3) = m ((c.tc : Thread Cert.UpDw.nD Cert.UpDw.τ).loc Cert.UpDw.main_arg3))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
      ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2)
      ∧ r.2.mem ((c.tc : Thread Cert.UpDwRefIdeal.nD Cert.UpDwRefIdeal.τ).loc Cert.UpDwRefIdeal.main_arg3) = m ((c.tc : Thread Cert.UpDwRefIdeal.nD Cert.UpDwRefIdeal.τ).loc Cert.UpDwRefIdeal.main_arg3))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ r.2.sem = fun _ => 0)

def quiescent_GlaInRefIdeal [hGlaInRefIdeal : Cert.GlaInRefIdeal.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1))
      ∧ r.2.sem = fun _ => 0)

def quiescent_GlaInDw [hGlaInDw : Cert.GlaInDw.Facts] : Prop :=
  ∀ (m : (ℓ : Loc Cert.GlaInDw.nD Cert.GlaInDw.τ Cert.GlaInDw.sig) → Buf (Elt Bits) ℓ) (g : Dev Cert.GlaInDw.nD → PrngReg), Pre_GlaInDw m →
    θ_run (Cert.GlaInDw.defs (F := Bits)) (onTc (τ := Cert.GlaInDw.τ) (Cert.GlaInDw.main (F := Bits))) ⟨m, fun _ => 0, g⟩ (fun r => (∀ c : Dev Cert.GlaInDw.nD,
      r.2.mem ((c.tc : Thread Cert.GlaInDw.nD Cert.GlaInDw.τ).loc Cert.GlaInDw.main_arg0) = m ((c.tc : Thread Cert.GlaInDw.nD Cert.GlaInDw.τ).loc Cert.GlaInDw.main_arg0)
      ∧ r.2.mem ((c.tc : Thread Cert.GlaInDw.nD Cert.GlaInDw.τ).loc Cert.GlaInDw.main_arg1) = m ((c.tc : Thread Cert.GlaInDw.nD Cert.GlaInDw.τ).loc Cert.GlaInDw.main_arg1)
      ∧ r.2.mem ((c.tc : Thread Cert.GlaInDw.nD Cert.GlaInDw.τ).loc Cert.GlaInDw.main_arg2) = m ((c.tc : Thread Cert.GlaInDw.nD Cert.GlaInDw.τ).loc Cert.GlaInDw.main_arg2))
      ∧ r.2.sem = fun _ => 0)

def quiescent_GlaInDwIdeal [hGlaInDwIdeal : Cert.GlaInDwIdeal.Facts] : Prop :=
  ∀ (m : (ℓ : Loc Cert.GlaInDwIdeal.nD Cert.GlaInDwIdeal.τ Cert.GlaInDwIdeal.sig) → Buf (Elt Ideal) ℓ) (g : Dev Cert.GlaInDwIdeal.nD → PrngReg), Pre_GlaInDwIdeal m →
    θ_run (Cert.GlaInDwIdeal.defs (F := Ideal)) (onTc (τ := Cert.GlaInDwIdeal.τ) (Cert.GlaInDwIdeal.main (F := Ideal))) ⟨m, fun _ => 0, g⟩ (fun r => (∀ c : Dev Cert.GlaInDwIdeal.nD,
      r.2.mem ((c.tc : Thread Cert.GlaInDwIdeal.nD Cert.GlaInDwIdeal.τ).loc Cert.GlaInDwIdeal.main_arg0) = m ((c.tc : Thread Cert.GlaInDwIdeal.nD Cert.GlaInDwIdeal.τ).loc Cert.GlaInDwIdeal.main_arg0)
      ∧ r.2.mem ((c.tc : Thread Cert.GlaInDwIdeal.nD Cert.GlaInDwIdeal.τ).loc Cert.GlaInDwIdeal.main_arg1) = m ((c.tc : Thread Cert.GlaInDwIdeal.nD Cert.GlaInDwIdeal.τ).loc Cert.GlaInDwIdeal.main_arg1)
      ∧ r.2.mem ((c.tc : Thread Cert.GlaInDwIdeal.nD Cert.GlaInDwIdeal.τ).loc Cert.GlaInDwIdeal.main_arg2) = m ((c.tc : Thread Cert.GlaInDwIdeal.nD Cert.GlaInDwIdeal.τ).loc Cert.GlaInDwIdeal.main_arg2))
      ∧ r.2.sem = fun _ => 0)

def quiescent_GlaInDwRefIdeal [hGlaInDwRefIdeal : Cert.GlaInDwRefIdeal.Facts] : Prop :=
  ∀ (m : (ℓ : Loc Cert.GlaInDwRefIdeal.nD Cert.GlaInDwRefIdeal.τ Cert.GlaInDwRefIdeal.sig) → Buf (Elt Ideal) ℓ) (g : Dev Cert.GlaInDwRefIdeal.nD → PrngReg), Pre_GlaInDwRefIdeal m →
    θ_run (Cert.GlaInDwRefIdeal.defs (F := Ideal)) (onTc (τ := Cert.GlaInDwRefIdeal.τ) (Cert.GlaInDwRefIdeal.main (F := Ideal))) ⟨m, fun _ => 0, g⟩ (fun r => (∀ c : Dev Cert.GlaInDwRefIdeal.nD,
      r.2.mem ((c.tc : Thread Cert.GlaInDwRefIdeal.nD Cert.GlaInDwRefIdeal.τ).loc Cert.GlaInDwRefIdeal.main_arg0) = m ((c.tc : Thread Cert.GlaInDwRefIdeal.nD Cert.GlaInDwRefIdeal.τ).loc Cert.GlaInDwRefIdeal.main_arg0)
      ∧ r.2.mem ((c.tc : Thread Cert.GlaInDwRefIdeal.nD Cert.GlaInDwRefIdeal.τ).loc Cert.GlaInDwRefIdeal.main_arg1) = m ((c.tc : Thread Cert.GlaInDwRefIdeal.nD Cert.GlaInDwRefIdeal.τ).loc Cert.GlaInDwRefIdeal.main_arg1)
      ∧ r.2.mem ((c.tc : Thread Cert.GlaInDwRefIdeal.nD Cert.GlaInDwRefIdeal.τ).loc Cert.GlaInDwRefIdeal.main_arg2) = m ((c.tc : Thread Cert.GlaInDwRefIdeal.nD Cert.GlaInDwRefIdeal.τ).loc Cert.GlaInDwRefIdeal.main_arg2))
      ∧ r.2.sem = fun _ => 0)

def quiescent_GlaInDx [hGlaInDx : Cert.GlaInDx.Facts] : Prop :=
  ∀ (m : (ℓ : Loc Cert.GlaInDx.nD Cert.GlaInDx.τ Cert.GlaInDx.sig) → Buf (Elt Bits) ℓ) (g : Dev Cert.GlaInDx.nD → PrngReg), Pre_GlaInDx m →
    θ_run (Cert.GlaInDx.defs (F := Bits)) (onTc (τ := Cert.GlaInDx.τ) (Cert.GlaInDx.main (F := Bits))) ⟨m, fun _ => 0, g⟩ (fun r => (∀ c : Dev Cert.GlaInDx.nD,
      r.2.mem ((c.tc : Thread Cert.GlaInDx.nD Cert.GlaInDx.τ).loc Cert.GlaInDx.main_arg0) = m ((c.tc : Thread Cert.GlaInDx.nD Cert.GlaInDx.τ).loc Cert.GlaInDx.main_arg0)
      ∧ r.2.mem ((c.tc : Thread Cert.GlaInDx.nD Cert.GlaInDx.τ).loc Cert.GlaInDx.main_arg1) = m ((c.tc : Thread Cert.GlaInDx.nD Cert.GlaInDx.τ).loc Cert.GlaInDx.main_arg1)
      ∧ r.2.mem ((c.tc : Thread Cert.GlaInDx.nD Cert.GlaInDx.τ).loc Cert.GlaInDx.main_arg2) = m ((c.tc : Thread Cert.GlaInDx.nD Cert.GlaInDx.τ).loc Cert.GlaInDx.main_arg2)
      ∧ r.2.mem ((c.tc : Thread Cert.GlaInDx.nD Cert.GlaInDx.τ).loc Cert.GlaInDx.main_arg3) = m ((c.tc : Thread Cert.GlaInDx.nD Cert.GlaInDx.τ).loc Cert.GlaInDx.main_arg3))
      ∧ r.2.sem = fun _ => 0)

def quiescent_GlaInDxIdeal [hGlaInDxIdeal : Cert.GlaInDxIdeal.Facts] : Prop :=
  ∀ (m : (ℓ : Loc Cert.GlaInDxIdeal.nD Cert.GlaInDxIdeal.τ Cert.GlaInDxIdeal.sig) → Buf (Elt Ideal) ℓ) (g : Dev Cert.GlaInDxIdeal.nD → PrngReg), Pre_GlaInDxIdeal m →
    θ_run (Cert.GlaInDxIdeal.defs (F := Ideal)) (onTc (τ := Cert.GlaInDxIdeal.τ) (Cert.GlaInDxIdeal.main (F := Ideal))) ⟨m, fun _ => 0, g⟩ (fun r => (∀ c : Dev Cert.GlaInDxIdeal.nD,
      r.2.mem ((c.tc : Thread Cert.GlaInDxIdeal.nD Cert.GlaInDxIdeal.τ).loc Cert.GlaInDxIdeal.main_arg0) = m ((c.tc : Thread Cert.GlaInDxIdeal.nD Cert.GlaInDxIdeal.τ).loc Cert.GlaInDxIdeal.main_arg0)
      ∧ r.2.mem ((c.tc : Thread Cert.GlaInDxIdeal.nD Cert.GlaInDxIdeal.τ).loc Cert.GlaInDxIdeal.main_arg1) = m ((c.tc : Thread Cert.GlaInDxIdeal.nD Cert.GlaInDxIdeal.τ).loc Cert.GlaInDxIdeal.main_arg1)
      ∧ r.2.mem ((c.tc : Thread Cert.GlaInDxIdeal.nD Cert.GlaInDxIdeal.τ).loc Cert.GlaInDxIdeal.main_arg2) = m ((c.tc : Thread Cert.GlaInDxIdeal.nD Cert.GlaInDxIdeal.τ).loc Cert.GlaInDxIdeal.main_arg2)
      ∧ r.2.mem ((c.tc : Thread Cert.GlaInDxIdeal.nD Cert.GlaInDxIdeal.τ).loc Cert.GlaInDxIdeal.main_arg3) = m ((c.tc : Thread Cert.GlaInDxIdeal.nD Cert.GlaInDxIdeal.τ).loc Cert.GlaInDxIdeal.main_arg3))
      ∧ r.2.sem = fun _ => 0)

def quiescent_GlaInDxRefIdeal [hGlaInDxRefIdeal : Cert.GlaInDxRefIdeal.Facts] : Prop :=
  ∀ (m : (ℓ : Loc Cert.GlaInDxRefIdeal.nD Cert.GlaInDxRefIdeal.τ Cert.GlaInDxRefIdeal.sig) → Buf (Elt Ideal) ℓ) (g : Dev Cert.GlaInDxRefIdeal.nD → PrngReg), Pre_GlaInDxRefIdeal m →
    θ_run (Cert.GlaInDxRefIdeal.defs (F := Ideal)) (onTc (τ := Cert.GlaInDxRefIdeal.τ) (Cert.GlaInDxRefIdeal.main (F := Ideal))) ⟨m, fun _ => 0, g⟩ (fun r => (∀ c : Dev Cert.GlaInDxRefIdeal.nD,
      r.2.mem ((c.tc : Thread Cert.GlaInDxRefIdeal.nD Cert.GlaInDxRefIdeal.τ).loc Cert.GlaInDxRefIdeal.main_arg0) = m ((c.tc : Thread Cert.GlaInDxRefIdeal.nD Cert.GlaInDxRefIdeal.τ).loc Cert.GlaInDxRefIdeal.main_arg0)
      ∧ r.2.mem ((c.tc : Thread Cert.GlaInDxRefIdeal.nD Cert.GlaInDxRefIdeal.τ).loc Cert.GlaInDxRefIdeal.main_arg1) = m ((c.tc : Thread Cert.GlaInDxRefIdeal.nD Cert.GlaInDxRefIdeal.τ).loc Cert.GlaInDxRefIdeal.main_arg1)
      ∧ r.2.mem ((c.tc : Thread Cert.GlaInDxRefIdeal.nD Cert.GlaInDxRefIdeal.τ).loc Cert.GlaInDxRefIdeal.main_arg2) = m ((c.tc : Thread Cert.GlaInDxRefIdeal.nD Cert.GlaInDxRefIdeal.τ).loc Cert.GlaInDxRefIdeal.main_arg2)
      ∧ r.2.mem ((c.tc : Thread Cert.GlaInDxRefIdeal.nD Cert.GlaInDxRefIdeal.τ).loc Cert.GlaInDxRefIdeal.main_arg3) = m ((c.tc : Thread Cert.GlaInDxRefIdeal.nD Cert.GlaInDxRefIdeal.τ).loc Cert.GlaInDxRefIdeal.main_arg3))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1))
      ∧ r.2.sem = fun _ => 0)

def quiescent_ConvInDw [hConvInDw : Cert.ConvInDw.Facts] : Prop :=
  ∀ (m : (ℓ : Loc Cert.ConvInDw.nD Cert.ConvInDw.τ Cert.ConvInDw.sig) → Buf (Elt Bits) ℓ) (g : Dev Cert.ConvInDw.nD → PrngReg), Pre_ConvInDw m →
    θ_run (Cert.ConvInDw.defs (F := Bits)) (onTc (τ := Cert.ConvInDw.τ) (Cert.ConvInDw.main (F := Bits))) ⟨m, fun _ => 0, g⟩ (fun r => (∀ c : Dev Cert.ConvInDw.nD,
      r.2.mem ((c.tc : Thread Cert.ConvInDw.nD Cert.ConvInDw.τ).loc Cert.ConvInDw.main_arg0) = m ((c.tc : Thread Cert.ConvInDw.nD Cert.ConvInDw.τ).loc Cert.ConvInDw.main_arg0)
      ∧ r.2.mem ((c.tc : Thread Cert.ConvInDw.nD Cert.ConvInDw.τ).loc Cert.ConvInDw.main_arg1) = m ((c.tc : Thread Cert.ConvInDw.nD Cert.ConvInDw.τ).loc Cert.ConvInDw.main_arg1)
      ∧ r.2.mem ((c.tc : Thread Cert.ConvInDw.nD Cert.ConvInDw.τ).loc Cert.ConvInDw.main_arg2) = m ((c.tc : Thread Cert.ConvInDw.nD Cert.ConvInDw.τ).loc Cert.ConvInDw.main_arg2))
      ∧ r.2.sem = fun _ => 0)

def quiescent_ConvInDwIdeal [hConvInDwIdeal : Cert.ConvInDwIdeal.Facts] : Prop :=
  ∀ (m : (ℓ : Loc Cert.ConvInDwIdeal.nD Cert.ConvInDwIdeal.τ Cert.ConvInDwIdeal.sig) → Buf (Elt Ideal) ℓ) (g : Dev Cert.ConvInDwIdeal.nD → PrngReg), Pre_ConvInDwIdeal m →
    θ_run (Cert.ConvInDwIdeal.defs (F := Ideal)) (onTc (τ := Cert.ConvInDwIdeal.τ) (Cert.ConvInDwIdeal.main (F := Ideal))) ⟨m, fun _ => 0, g⟩ (fun r => (∀ c : Dev Cert.ConvInDwIdeal.nD,
      r.2.mem ((c.tc : Thread Cert.ConvInDwIdeal.nD Cert.ConvInDwIdeal.τ).loc Cert.ConvInDwIdeal.main_arg0) = m ((c.tc : Thread Cert.ConvInDwIdeal.nD Cert.ConvInDwIdeal.τ).loc Cert.ConvInDwIdeal.main_arg0)
      ∧ r.2.mem ((c.tc : Thread Cert.ConvInDwIdeal.nD Cert.ConvInDwIdeal.τ).loc Cert.ConvInDwIdeal.main_arg1) = m ((c.tc : Thread Cert.ConvInDwIdeal.nD Cert.ConvInDwIdeal.τ).loc Cert.ConvInDwIdeal.main_arg1)
      ∧ r.2.mem ((c.tc : Thread Cert.ConvInDwIdeal.nD Cert.ConvInDwIdeal.τ).loc Cert.ConvInDwIdeal.main_arg2) = m ((c.tc : Thread Cert.ConvInDwIdeal.nD Cert.ConvInDwIdeal.τ).loc Cert.ConvInDwIdeal.main_arg2))
      ∧ r.2.sem = fun _ => 0)

def quiescent_ConvInDwRefIdeal [hConvInDwRefIdeal : Cert.ConvInDwRefIdeal.Facts] : Prop :=
  ∀ (m : (ℓ : Loc Cert.ConvInDwRefIdeal.nD Cert.ConvInDwRefIdeal.τ Cert.ConvInDwRefIdeal.sig) → Buf (Elt Ideal) ℓ) (g : Dev Cert.ConvInDwRefIdeal.nD → PrngReg), Pre_ConvInDwRefIdeal m →
    θ_run (Cert.ConvInDwRefIdeal.defs (F := Ideal)) (onTc (τ := Cert.ConvInDwRefIdeal.τ) (Cert.ConvInDwRefIdeal.main (F := Ideal))) ⟨m, fun _ => 0, g⟩ (fun r => (∀ c : Dev Cert.ConvInDwRefIdeal.nD,
      r.2.mem ((c.tc : Thread Cert.ConvInDwRefIdeal.nD Cert.ConvInDwRefIdeal.τ).loc Cert.ConvInDwRefIdeal.main_arg0) = m ((c.tc : Thread Cert.ConvInDwRefIdeal.nD Cert.ConvInDwRefIdeal.τ).loc Cert.ConvInDwRefIdeal.main_arg0)
      ∧ r.2.mem ((c.tc : Thread Cert.ConvInDwRefIdeal.nD Cert.ConvInDwRefIdeal.τ).loc Cert.ConvInDwRefIdeal.main_arg1) = m ((c.tc : Thread Cert.ConvInDwRefIdeal.nD Cert.ConvInDwRefIdeal.τ).loc Cert.ConvInDwRefIdeal.main_arg1)
      ∧ r.2.mem ((c.tc : Thread Cert.ConvInDwRefIdeal.nD Cert.ConvInDwRefIdeal.τ).loc Cert.ConvInDwRefIdeal.main_arg2) = m ((c.tc : Thread Cert.ConvInDwRefIdeal.nD Cert.ConvInDwRefIdeal.τ).loc Cert.ConvInDwRefIdeal.main_arg2))
      ∧ r.2.sem = fun _ => 0)

def quiescent_ConvInDx [hConvInDx : Cert.ConvInDx.Facts] : Prop :=
  ∀ (m : (ℓ : Loc Cert.ConvInDx.nD Cert.ConvInDx.τ Cert.ConvInDx.sig) → Buf (Elt Bits) ℓ) (g : Dev Cert.ConvInDx.nD → PrngReg), Pre_ConvInDx m →
    θ_run (Cert.ConvInDx.defs (F := Bits)) (onTc (τ := Cert.ConvInDx.τ) (Cert.ConvInDx.main (F := Bits))) ⟨m, fun _ => 0, g⟩ (fun r => (∀ c : Dev Cert.ConvInDx.nD,
      r.2.mem ((c.tc : Thread Cert.ConvInDx.nD Cert.ConvInDx.τ).loc Cert.ConvInDx.main_arg0) = m ((c.tc : Thread Cert.ConvInDx.nD Cert.ConvInDx.τ).loc Cert.ConvInDx.main_arg0)
      ∧ r.2.mem ((c.tc : Thread Cert.ConvInDx.nD Cert.ConvInDx.τ).loc Cert.ConvInDx.main_arg1) = m ((c.tc : Thread Cert.ConvInDx.nD Cert.ConvInDx.τ).loc Cert.ConvInDx.main_arg1)
      ∧ r.2.mem ((c.tc : Thread Cert.ConvInDx.nD Cert.ConvInDx.τ).loc Cert.ConvInDx.main_arg2) = m ((c.tc : Thread Cert.ConvInDx.nD Cert.ConvInDx.τ).loc Cert.ConvInDx.main_arg2)
      ∧ r.2.mem ((c.tc : Thread Cert.ConvInDx.nD Cert.ConvInDx.τ).loc Cert.ConvInDx.main_arg3) = m ((c.tc : Thread Cert.ConvInDx.nD Cert.ConvInDx.τ).loc Cert.ConvInDx.main_arg3)
      ∧ r.2.mem ((c.tc : Thread Cert.ConvInDx.nD Cert.ConvInDx.τ).loc Cert.ConvInDx.main_arg4) = m ((c.tc : Thread Cert.ConvInDx.nD Cert.ConvInDx.τ).loc Cert.ConvInDx.main_arg4)
      ∧ r.2.mem ((c.tc : Thread Cert.ConvInDx.nD Cert.ConvInDx.τ).loc Cert.ConvInDx.main_arg5) = m ((c.tc : Thread Cert.ConvInDx.nD Cert.ConvInDx.τ).loc Cert.ConvInDx.main_arg5))
      ∧ r.2.sem = fun _ => 0)

def quiescent_ConvInDxIdeal [hConvInDxIdeal : Cert.ConvInDxIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg), Pre_ConvInDxIdeal m →
    θ_run (Cert.ConvInDxIdeal.defs (F := Ideal)) (onTc (τ := Cert.ConvInDxIdeal.τ) (Cert.ConvInDxIdeal.main (F := Ideal))) ⟨m, fun _ => 0, g⟩ (fun r => (∀ c : Dev Cert.ConvInDxIdeal.nD,
      r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
      ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1)
      ∧ r.2.mem ((c.tc : Thread Cert.ConvInDxIdeal.nD Cert.ConvInDxIdeal.τ).loc Cert.ConvInDxIdeal.main_arg2) = m ((c.tc : Thread Cert.ConvInDxIdeal.nD Cert.ConvInDxIdeal.τ).loc Cert.ConvInDxIdeal.main_arg2)
      ∧ r.2.mem ((c.tc : Thread Cert.ConvInDxIdeal.nD Cert.ConvInDxIdeal.τ).loc Cert.ConvInDxIdeal.main_arg3) = m ((c.tc : Thread Cert.ConvInDxIdeal.nD Cert.ConvInDxIdeal.τ).loc Cert.ConvInDxIdeal.main_arg3)
      ∧ r.2.mem ((c.tc : Thread Cert.ConvInDxIdeal.nD Cert.ConvInDxIdeal.τ).loc Cert.ConvInDxIdeal.main_arg4) = m ((c.tc : Thread Cert.ConvInDxIdeal.nD Cert.ConvInDxIdeal.τ).loc Cert.ConvInDxIdeal.main_arg4)
      ∧ r.2.mem ((c.tc : Thread Cert.ConvInDxIdeal.nD Cert.ConvInDxIdeal.τ).loc Cert.ConvInDxIdeal.main_arg5) = m ((c.tc : Thread Cert.ConvInDxIdeal.nD Cert.ConvInDxIdeal.τ).loc Cert.ConvInDxIdeal.main_arg5))
      ∧ r.2.sem = fun _ => 0)

def quiescent_ConvInDxRefIdeal [hConvInDxRefIdeal : Cert.ConvInDxRefIdeal.Facts] : Prop :=
  ∀ (m : (ℓ : Loc Cert.ConvInDxRefIdeal.nD Cert.ConvInDxRefIdeal.τ Cert.ConvInDxRefIdeal.sig) → Buf (Elt Ideal) ℓ) (g : Dev Cert.ConvInDxRefIdeal.nD → PrngReg), Pre_ConvInDxRefIdeal m →
    θ_run (Cert.ConvInDxRefIdeal.defs (F := Ideal)) (onTc (τ := Cert.ConvInDxRefIdeal.τ) (Cert.ConvInDxRefIdeal.main (F := Ideal))) ⟨m, fun _ => 0, g⟩ (fun r => (∀ c : Dev Cert.ConvInDxRefIdeal.nD,
      r.2.mem ((c.tc : Thread Cert.ConvInDxRefIdeal.nD Cert.ConvInDxRefIdeal.τ).loc Cert.ConvInDxRefIdeal.main_arg0) = m ((c.tc : Thread Cert.ConvInDxRefIdeal.nD Cert.ConvInDxRefIdeal.τ).loc Cert.ConvInDxRefIdeal.main_arg0)
      ∧ r.2.mem ((c.tc : Thread Cert.ConvInDxRefIdeal.nD Cert.ConvInDxRefIdeal.τ).loc Cert.ConvInDxRefIdeal.main_arg1) = m ((c.tc : Thread Cert.ConvInDxRefIdeal.nD Cert.ConvInDxRefIdeal.τ).loc Cert.ConvInDxRefIdeal.main_arg1)
      ∧ r.2.mem ((c.tc : Thread Cert.ConvInDxRefIdeal.nD Cert.ConvInDxRefIdeal.τ).loc Cert.ConvInDxRefIdeal.main_arg2) = m ((c.tc : Thread Cert.ConvInDxRefIdeal.nD Cert.ConvInDxRefIdeal.τ).loc Cert.ConvInDxRefIdeal.main_arg2)
      ∧ r.2.mem ((c.tc : Thread Cert.ConvInDxRefIdeal.nD Cert.ConvInDxRefIdeal.τ).loc Cert.ConvInDxRefIdeal.main_arg3) = m ((c.tc : Thread Cert.ConvInDxRefIdeal.nD Cert.ConvInDxRefIdeal.τ).loc Cert.ConvInDxRefIdeal.main_arg3)
      ∧ r.2.mem ((c.tc : Thread Cert.ConvInDxRefIdeal.nD Cert.ConvInDxRefIdeal.τ).loc Cert.ConvInDxRefIdeal.main_arg4) = m ((c.tc : Thread Cert.ConvInDxRefIdeal.nD Cert.ConvInDxRefIdeal.τ).loc Cert.ConvInDxRefIdeal.main_arg4)
      ∧ r.2.mem ((c.tc : Thread Cert.ConvInDxRefIdeal.nD Cert.ConvInDxRefIdeal.τ).loc Cert.ConvInDxRefIdeal.main_arg5) = m ((c.tc : Thread Cert.ConvInDxRefIdeal.nD Cert.ConvInDxRefIdeal.τ).loc Cert.ConvInDxRefIdeal.main_arg5))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1)
      ∧ r.2.mem ((c.tc : Thread Cert.SquareDw.nD Cert.SquareDw.τ).loc Cert.SquareDw.main_arg2) = m ((c.tc : Thread Cert.SquareDw.nD Cert.SquareDw.τ).loc Cert.SquareDw.main_arg2))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1)
      ∧ r.2.mem ((c.tc : Thread Cert.SquareDwIdeal.nD Cert.SquareDwIdeal.τ).loc Cert.SquareDwIdeal.main_arg2) = m ((c.tc : Thread Cert.SquareDwIdeal.nD Cert.SquareDwIdeal.τ).loc Cert.SquareDwIdeal.main_arg2))
      ∧ r.2.sem = fun _ => 0)

def quiescent_SquareDwRefIdeal [hSquareDwRefIdeal : Cert.SquareDwRefIdeal.Facts] : Prop :=
  ∀ (m : (ℓ : Loc Cert.SquareDwRefIdeal.nD Cert.SquareDwRefIdeal.τ Cert.SquareDwRefIdeal.sig) → Buf (Elt Ideal) ℓ) (g : Dev Cert.SquareDwRefIdeal.nD → PrngReg), Pre_SquareDwRefIdeal m →
    θ_run (Cert.SquareDwRefIdeal.defs (F := Ideal)) (onTc (τ := Cert.SquareDwRefIdeal.τ) (Cert.SquareDwRefIdeal.main (F := Ideal))) ⟨m, fun _ => 0, g⟩ (fun r => (∀ c : Dev Cert.SquareDwRefIdeal.nD,
      r.2.mem ((c.tc : Thread Cert.SquareDwRefIdeal.nD Cert.SquareDwRefIdeal.τ).loc Cert.SquareDwRefIdeal.main_arg0) = m ((c.tc : Thread Cert.SquareDwRefIdeal.nD Cert.SquareDwRefIdeal.τ).loc Cert.SquareDwRefIdeal.main_arg0)
      ∧ r.2.mem ((c.tc : Thread Cert.SquareDwRefIdeal.nD Cert.SquareDwRefIdeal.τ).loc Cert.SquareDwRefIdeal.main_arg1) = m ((c.tc : Thread Cert.SquareDwRefIdeal.nD Cert.SquareDwRefIdeal.τ).loc Cert.SquareDwRefIdeal.main_arg1)
      ∧ r.2.mem ((c.tc : Thread Cert.SquareDwRefIdeal.nD Cert.SquareDwRefIdeal.τ).loc Cert.SquareDwRefIdeal.main_arg2) = m ((c.tc : Thread Cert.SquareDwRefIdeal.nD Cert.SquareDwRefIdeal.τ).loc Cert.SquareDwRefIdeal.main_arg2))
      ∧ r.2.sem = fun _ => 0)

def quiescent_SquareDx [hSquareDx : Cert.SquareDx.Facts] : Prop :=
  ∀ (m : (ℓ : Loc Cert.SquareDx.nD Cert.SquareDx.τ Cert.SquareDx.sig) → Buf (Elt Bits) ℓ) (g : Dev Cert.SquareDx.nD → PrngReg), Pre_SquareDx m →
    θ_run (Cert.SquareDx.defs (F := Bits)) (onTc (τ := Cert.SquareDx.τ) (Cert.SquareDx.main (F := Bits))) ⟨m, fun _ => 0, g⟩ (fun r => (∀ c : Dev Cert.SquareDx.nD,
      r.2.mem ((c.tc : Thread Cert.SquareDx.nD Cert.SquareDx.τ).loc Cert.SquareDx.main_arg0) = m ((c.tc : Thread Cert.SquareDx.nD Cert.SquareDx.τ).loc Cert.SquareDx.main_arg0)
      ∧ r.2.mem ((c.tc : Thread Cert.SquareDx.nD Cert.SquareDx.τ).loc Cert.SquareDx.main_arg1) = m ((c.tc : Thread Cert.SquareDx.nD Cert.SquareDx.τ).loc Cert.SquareDx.main_arg1)
      ∧ r.2.mem ((c.tc : Thread Cert.SquareDx.nD Cert.SquareDx.τ).loc Cert.SquareDx.main_arg2) = m ((c.tc : Thread Cert.SquareDx.nD Cert.SquareDx.τ).loc Cert.SquareDx.main_arg2))
      ∧ r.2.sem = fun _ => 0)

def quiescent_SquareDxIdeal [hSquareDxIdeal : Cert.SquareDxIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg), Pre_SquareDxIdeal m →
    θ_run (Cert.SquareDxIdeal.defs (F := Ideal)) (onTc (τ := Cert.SquareDxIdeal.τ) (Cert.SquareDxIdeal.main (F := Ideal))) ⟨m, fun _ => 0, g⟩ (fun r => (∀ c : Dev Cert.SquareDxIdeal.nD,
      r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
      ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1)
      ∧ r.2.mem ((c.tc : Thread Cert.SquareDxIdeal.nD Cert.SquareDxIdeal.τ).loc Cert.SquareDxIdeal.main_arg2) = m ((c.tc : Thread Cert.SquareDxIdeal.nD Cert.SquareDxIdeal.τ).loc Cert.SquareDxIdeal.main_arg2))
      ∧ r.2.sem = fun _ => 0)

def quiescent_SquareDxRefIdeal [hSquareDxRefIdeal : Cert.SquareDxRefIdeal.Facts] : Prop :=
  ∀ (m : (ℓ : Loc Cert.SquareDxRefIdeal.nD Cert.SquareDxRefIdeal.τ Cert.SquareDxRefIdeal.sig) → Buf (Elt Ideal) ℓ) (g : Dev Cert.SquareDxRefIdeal.nD → PrngReg), Pre_SquareDxRefIdeal m →
    θ_run (Cert.SquareDxRefIdeal.defs (F := Ideal)) (onTc (τ := Cert.SquareDxRefIdeal.τ) (Cert.SquareDxRefIdeal.main (F := Ideal))) ⟨m, fun _ => 0, g⟩ (fun r => (∀ c : Dev Cert.SquareDxRefIdeal.nD,
      r.2.mem ((c.tc : Thread Cert.SquareDxRefIdeal.nD Cert.SquareDxRefIdeal.τ).loc Cert.SquareDxRefIdeal.main_arg0) = m ((c.tc : Thread Cert.SquareDxRefIdeal.nD Cert.SquareDxRefIdeal.τ).loc Cert.SquareDxRefIdeal.main_arg0)
      ∧ r.2.mem ((c.tc : Thread Cert.SquareDxRefIdeal.nD Cert.SquareDxRefIdeal.τ).loc Cert.SquareDxRefIdeal.main_arg1) = m ((c.tc : Thread Cert.SquareDxRefIdeal.nD Cert.SquareDxRefIdeal.τ).loc Cert.SquareDxRefIdeal.main_arg1)
      ∧ r.2.mem ((c.tc : Thread Cert.SquareDxRefIdeal.nD Cert.SquareDxRefIdeal.τ).loc Cert.SquareDxRefIdeal.main_arg2) = m ((c.tc : Thread Cert.SquareDxRefIdeal.nD Cert.SquareDxRefIdeal.τ).loc Cert.SquareDxRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_StepGlaOut [hStepGlaOut : Cert.StepGlaOut.Facts] : Prop :=
  ∀ (m : (ℓ : Loc Cert.StepGlaOut.nD Cert.StepGlaOut.τ Cert.StepGlaOut.sig) → Buf (Elt Bits) ℓ) (g : Dev Cert.StepGlaOut.nD → PrngReg), Pre_StepGlaOut m →
    θ_run (Cert.StepGlaOut.defs (F := Bits)) (onTc (τ := Cert.StepGlaOut.τ) (Cert.StepGlaOut.main (F := Bits))) ⟨m, fun _ => 0, g⟩ (fun r => (∀ c : Dev Cert.StepGlaOut.nD,
      r.2.mem ((c.tc : Thread Cert.StepGlaOut.nD Cert.StepGlaOut.τ).loc Cert.StepGlaOut.main_arg0) = m ((c.tc : Thread Cert.StepGlaOut.nD Cert.StepGlaOut.τ).loc Cert.StepGlaOut.main_arg0)
      ∧ r.2.mem ((c.tc : Thread Cert.StepGlaOut.nD Cert.StepGlaOut.τ).loc Cert.StepGlaOut.main_arg1) = m ((c.tc : Thread Cert.StepGlaOut.nD Cert.StepGlaOut.τ).loc Cert.StepGlaOut.main_arg1)
      ∧ r.2.mem ((c.tc : Thread Cert.StepGlaOut.nD Cert.StepGlaOut.τ).loc Cert.StepGlaOut.main_arg2) = m ((c.tc : Thread Cert.StepGlaOut.nD Cert.StepGlaOut.τ).loc Cert.StepGlaOut.main_arg2)
      ∧ r.2.mem ((c.tc : Thread Cert.StepGlaOut.nD Cert.StepGlaOut.τ).loc Cert.StepGlaOut.main_arg3) = m ((c.tc : Thread Cert.StepGlaOut.nD Cert.StepGlaOut.τ).loc Cert.StepGlaOut.main_arg3)
      ∧ r.2.mem ((c.tc : Thread Cert.StepGlaOut.nD Cert.StepGlaOut.τ).loc Cert.StepGlaOut.main_arg4) = m ((c.tc : Thread Cert.StepGlaOut.nD Cert.StepGlaOut.τ).loc Cert.StepGlaOut.main_arg4))
      ∧ r.2.sem = fun _ => 0)

def quiescent_StepGlaOutIdeal [hStepGlaOutIdeal : Cert.StepGlaOutIdeal.Facts] : Prop :=
  ∀ (m : (ℓ : Loc Cert.StepGlaOutIdeal.nD Cert.StepGlaOutIdeal.τ Cert.StepGlaOutIdeal.sig) → Buf (Elt Ideal) ℓ) (g : Dev Cert.StepGlaOutIdeal.nD → PrngReg), Pre_StepGlaOutIdeal m →
    θ_run (Cert.StepGlaOutIdeal.defs (F := Ideal)) (onTc (τ := Cert.StepGlaOutIdeal.τ) (Cert.StepGlaOutIdeal.main (F := Ideal))) ⟨m, fun _ => 0, g⟩ (fun r => (∀ c : Dev Cert.StepGlaOutIdeal.nD,
      r.2.mem ((c.tc : Thread Cert.StepGlaOutIdeal.nD Cert.StepGlaOutIdeal.τ).loc Cert.StepGlaOutIdeal.main_arg0) = m ((c.tc : Thread Cert.StepGlaOutIdeal.nD Cert.StepGlaOutIdeal.τ).loc Cert.StepGlaOutIdeal.main_arg0)
      ∧ r.2.mem ((c.tc : Thread Cert.StepGlaOutIdeal.nD Cert.StepGlaOutIdeal.τ).loc Cert.StepGlaOutIdeal.main_arg1) = m ((c.tc : Thread Cert.StepGlaOutIdeal.nD Cert.StepGlaOutIdeal.τ).loc Cert.StepGlaOutIdeal.main_arg1)
      ∧ r.2.mem ((c.tc : Thread Cert.StepGlaOutIdeal.nD Cert.StepGlaOutIdeal.τ).loc Cert.StepGlaOutIdeal.main_arg2) = m ((c.tc : Thread Cert.StepGlaOutIdeal.nD Cert.StepGlaOutIdeal.τ).loc Cert.StepGlaOutIdeal.main_arg2)
      ∧ r.2.mem ((c.tc : Thread Cert.StepGlaOutIdeal.nD Cert.StepGlaOutIdeal.τ).loc Cert.StepGlaOutIdeal.main_arg3) = m ((c.tc : Thread Cert.StepGlaOutIdeal.nD Cert.StepGlaOutIdeal.τ).loc Cert.StepGlaOutIdeal.main_arg3)
      ∧ r.2.mem ((c.tc : Thread Cert.StepGlaOutIdeal.nD Cert.StepGlaOutIdeal.τ).loc Cert.StepGlaOutIdeal.main_arg4) = m ((c.tc : Thread Cert.StepGlaOutIdeal.nD Cert.StepGlaOutIdeal.τ).loc Cert.StepGlaOutIdeal.main_arg4))
      ∧ r.2.sem = fun _ => 0)

def quiescent_StepGlaOutRefIdeal [hStepGlaOutRefIdeal : Cert.StepGlaOutRefIdeal.Facts] : Prop :=
  ∀ (m : (ℓ : Loc Cert.StepGlaOutRefIdeal.nD Cert.StepGlaOutRefIdeal.τ Cert.StepGlaOutRefIdeal.sig) → Buf (Elt Ideal) ℓ) (g : Dev Cert.StepGlaOutRefIdeal.nD → PrngReg), Pre_StepGlaOutRefIdeal m →
    θ_run (Cert.StepGlaOutRefIdeal.defs (F := Ideal)) (onTc (τ := Cert.StepGlaOutRefIdeal.τ) (Cert.StepGlaOutRefIdeal.main (F := Ideal))) ⟨m, fun _ => 0, g⟩ (fun r => (∀ c : Dev Cert.StepGlaOutRefIdeal.nD,
      r.2.mem ((c.tc : Thread Cert.StepGlaOutRefIdeal.nD Cert.StepGlaOutRefIdeal.τ).loc Cert.StepGlaOutRefIdeal.main_arg0) = m ((c.tc : Thread Cert.StepGlaOutRefIdeal.nD Cert.StepGlaOutRefIdeal.τ).loc Cert.StepGlaOutRefIdeal.main_arg0)
      ∧ r.2.mem ((c.tc : Thread Cert.StepGlaOutRefIdeal.nD Cert.StepGlaOutRefIdeal.τ).loc Cert.StepGlaOutRefIdeal.main_arg1) = m ((c.tc : Thread Cert.StepGlaOutRefIdeal.nD Cert.StepGlaOutRefIdeal.τ).loc Cert.StepGlaOutRefIdeal.main_arg1)
      ∧ r.2.mem ((c.tc : Thread Cert.StepGlaOutRefIdeal.nD Cert.StepGlaOutRefIdeal.τ).loc Cert.StepGlaOutRefIdeal.main_arg2) = m ((c.tc : Thread Cert.StepGlaOutRefIdeal.nD Cert.StepGlaOutRefIdeal.τ).loc Cert.StepGlaOutRefIdeal.main_arg2)
      ∧ r.2.mem ((c.tc : Thread Cert.StepGlaOutRefIdeal.nD Cert.StepGlaOutRefIdeal.τ).loc Cert.StepGlaOutRefIdeal.main_arg3) = m ((c.tc : Thread Cert.StepGlaOutRefIdeal.nD Cert.StepGlaOutRefIdeal.τ).loc Cert.StepGlaOutRefIdeal.main_arg3)
      ∧ r.2.mem ((c.tc : Thread Cert.StepGlaOutRefIdeal.nD Cert.StepGlaOutRefIdeal.τ).loc Cert.StepGlaOutRefIdeal.main_arg4) = m ((c.tc : Thread Cert.StepGlaOutRefIdeal.nD Cert.StepGlaOutRefIdeal.τ).loc Cert.StepGlaOutRefIdeal.main_arg4))
      ∧ r.2.sem = fun _ => 0)

def quiescent_StepMlaIn [hStepMlaIn : Cert.StepMlaIn.Facts] : Prop :=
  ∀ (m : (ℓ : Loc Cert.StepMlaIn.nD Cert.StepMlaIn.τ Cert.StepMlaIn.sig) → Buf (Elt Bits) ℓ) (g : Dev Cert.StepMlaIn.nD → PrngReg), Pre_StepMlaIn m →
    θ_run (Cert.StepMlaIn.defs (F := Bits)) (onTc (τ := Cert.StepMlaIn.τ) (Cert.StepMlaIn.main (F := Bits))) ⟨m, fun _ => 0, g⟩ (fun r => (∀ c : Dev Cert.StepMlaIn.nD,
      r.2.mem ((c.tc : Thread Cert.StepMlaIn.nD Cert.StepMlaIn.τ).loc Cert.StepMlaIn.main_arg0) = m ((c.tc : Thread Cert.StepMlaIn.nD Cert.StepMlaIn.τ).loc Cert.StepMlaIn.main_arg0)
      ∧ r.2.mem ((c.tc : Thread Cert.StepMlaIn.nD Cert.StepMlaIn.τ).loc Cert.StepMlaIn.main_arg1) = m ((c.tc : Thread Cert.StepMlaIn.nD Cert.StepMlaIn.τ).loc Cert.StepMlaIn.main_arg1)
      ∧ r.2.mem ((c.tc : Thread Cert.StepMlaIn.nD Cert.StepMlaIn.τ).loc Cert.StepMlaIn.main_arg2) = m ((c.tc : Thread Cert.StepMlaIn.nD Cert.StepMlaIn.τ).loc Cert.StepMlaIn.main_arg2)
      ∧ r.2.mem ((c.tc : Thread Cert.StepMlaIn.nD Cert.StepMlaIn.τ).loc Cert.StepMlaIn.main_arg3) = m ((c.tc : Thread Cert.StepMlaIn.nD Cert.StepMlaIn.τ).loc Cert.StepMlaIn.main_arg3))
      ∧ r.2.sem = fun _ => 0)

def quiescent_StepMlaInIdeal [hStepMlaInIdeal : Cert.StepMlaInIdeal.Facts] : Prop :=
  ∀ (m : (ℓ : Loc Cert.StepMlaInIdeal.nD Cert.StepMlaInIdeal.τ Cert.StepMlaInIdeal.sig) → Buf (Elt Ideal) ℓ) (g : Dev Cert.StepMlaInIdeal.nD → PrngReg), Pre_StepMlaInIdeal m →
    θ_run (Cert.StepMlaInIdeal.defs (F := Ideal)) (onTc (τ := Cert.StepMlaInIdeal.τ) (Cert.StepMlaInIdeal.main (F := Ideal))) ⟨m, fun _ => 0, g⟩ (fun r => (∀ c : Dev Cert.StepMlaInIdeal.nD,
      r.2.mem ((c.tc : Thread Cert.StepMlaInIdeal.nD Cert.StepMlaInIdeal.τ).loc Cert.StepMlaInIdeal.main_arg0) = m ((c.tc : Thread Cert.StepMlaInIdeal.nD Cert.StepMlaInIdeal.τ).loc Cert.StepMlaInIdeal.main_arg0)
      ∧ r.2.mem ((c.tc : Thread Cert.StepMlaInIdeal.nD Cert.StepMlaInIdeal.τ).loc Cert.StepMlaInIdeal.main_arg1) = m ((c.tc : Thread Cert.StepMlaInIdeal.nD Cert.StepMlaInIdeal.τ).loc Cert.StepMlaInIdeal.main_arg1)
      ∧ r.2.mem ((c.tc : Thread Cert.StepMlaInIdeal.nD Cert.StepMlaInIdeal.τ).loc Cert.StepMlaInIdeal.main_arg2) = m ((c.tc : Thread Cert.StepMlaInIdeal.nD Cert.StepMlaInIdeal.τ).loc Cert.StepMlaInIdeal.main_arg2)
      ∧ r.2.mem ((c.tc : Thread Cert.StepMlaInIdeal.nD Cert.StepMlaInIdeal.τ).loc Cert.StepMlaInIdeal.main_arg3) = m ((c.tc : Thread Cert.StepMlaInIdeal.nD Cert.StepMlaInIdeal.τ).loc Cert.StepMlaInIdeal.main_arg3))
      ∧ r.2.sem = fun _ => 0)

def quiescent_StepMlaInRefIdeal [hStepMlaInRefIdeal : Cert.StepMlaInRefIdeal.Facts] : Prop :=
  ∀ (m : (ℓ : Loc Cert.StepMlaInRefIdeal.nD Cert.StepMlaInRefIdeal.τ Cert.StepMlaInRefIdeal.sig) → Buf (Elt Ideal) ℓ) (g : Dev Cert.StepMlaInRefIdeal.nD → PrngReg), Pre_StepMlaInRefIdeal m →
    θ_run (Cert.StepMlaInRefIdeal.defs (F := Ideal)) (onTc (τ := Cert.StepMlaInRefIdeal.τ) (Cert.StepMlaInRefIdeal.main (F := Ideal))) ⟨m, fun _ => 0, g⟩ (fun r => (∀ c : Dev Cert.StepMlaInRefIdeal.nD,
      r.2.mem ((c.tc : Thread Cert.StepMlaInRefIdeal.nD Cert.StepMlaInRefIdeal.τ).loc Cert.StepMlaInRefIdeal.main_arg0) = m ((c.tc : Thread Cert.StepMlaInRefIdeal.nD Cert.StepMlaInRefIdeal.τ).loc Cert.StepMlaInRefIdeal.main_arg0)
      ∧ r.2.mem ((c.tc : Thread Cert.StepMlaInRefIdeal.nD Cert.StepMlaInRefIdeal.τ).loc Cert.StepMlaInRefIdeal.main_arg1) = m ((c.tc : Thread Cert.StepMlaInRefIdeal.nD Cert.StepMlaInRefIdeal.τ).loc Cert.StepMlaInRefIdeal.main_arg1)
      ∧ r.2.mem ((c.tc : Thread Cert.StepMlaInRefIdeal.nD Cert.StepMlaInRefIdeal.τ).loc Cert.StepMlaInRefIdeal.main_arg2) = m ((c.tc : Thread Cert.StepMlaInRefIdeal.nD Cert.StepMlaInRefIdeal.τ).loc Cert.StepMlaInRefIdeal.main_arg2)
      ∧ r.2.mem ((c.tc : Thread Cert.StepMlaInRefIdeal.nD Cert.StepMlaInRefIdeal.τ).loc Cert.StepMlaInRefIdeal.main_arg3) = m ((c.tc : Thread Cert.StepMlaInRefIdeal.nD Cert.StepMlaInRefIdeal.τ).loc Cert.StepMlaInRefIdeal.main_arg3))
      ∧ r.2.sem = fun _ => 0)

def quiescent_StepMlaUq [hStepMlaUq : Cert.StepMlaUq.Facts] : Prop :=
  ∀ (m : (ℓ : Loc Cert.StepMlaUq.nD Cert.StepMlaUq.τ Cert.StepMlaUq.sig) → Buf (Elt Bits) ℓ) (g : Dev Cert.StepMlaUq.nD → PrngReg), Pre_StepMlaUq m →
    θ_run (Cert.StepMlaUq.defs (F := Bits)) (onTc (τ := Cert.StepMlaUq.τ) (Cert.StepMlaUq.main (F := Bits))) ⟨m, fun _ => 0, g⟩ (fun r => (∀ c : Dev Cert.StepMlaUq.nD,
      r.2.mem ((c.tc : Thread Cert.StepMlaUq.nD Cert.StepMlaUq.τ).loc Cert.StepMlaUq.main_arg0) = m ((c.tc : Thread Cert.StepMlaUq.nD Cert.StepMlaUq.τ).loc Cert.StepMlaUq.main_arg0)
      ∧ r.2.mem ((c.tc : Thread Cert.StepMlaUq.nD Cert.StepMlaUq.τ).loc Cert.StepMlaUq.main_arg1) = m ((c.tc : Thread Cert.StepMlaUq.nD Cert.StepMlaUq.τ).loc Cert.StepMlaUq.main_arg1)
      ∧ r.2.mem ((c.tc : Thread Cert.StepMlaUq.nD Cert.StepMlaUq.τ).loc Cert.StepMlaUq.main_arg2) = m ((c.tc : Thread Cert.StepMlaUq.nD Cert.StepMlaUq.τ).loc Cert.StepMlaUq.main_arg2)
      ∧ r.2.mem ((c.tc : Thread Cert.StepMlaUq.nD Cert.StepMlaUq.τ).loc Cert.StepMlaUq.main_arg3) = m ((c.tc : Thread Cert.StepMlaUq.nD Cert.StepMlaUq.τ).loc Cert.StepMlaUq.main_arg3))
      ∧ r.2.sem = fun _ => 0)

def quiescent_StepMlaUqIdeal [hStepMlaUqIdeal : Cert.StepMlaUqIdeal.Facts] : Prop :=
  ∀ (m : (ℓ : Loc Cert.StepMlaUqIdeal.nD Cert.StepMlaUqIdeal.τ Cert.StepMlaUqIdeal.sig) → Buf (Elt Ideal) ℓ) (g : Dev Cert.StepMlaUqIdeal.nD → PrngReg), Pre_StepMlaUqIdeal m →
    θ_run (Cert.StepMlaUqIdeal.defs (F := Ideal)) (onTc (τ := Cert.StepMlaUqIdeal.τ) (Cert.StepMlaUqIdeal.main (F := Ideal))) ⟨m, fun _ => 0, g⟩ (fun r => (∀ c : Dev Cert.StepMlaUqIdeal.nD,
      r.2.mem ((c.tc : Thread Cert.StepMlaUqIdeal.nD Cert.StepMlaUqIdeal.τ).loc Cert.StepMlaUqIdeal.main_arg0) = m ((c.tc : Thread Cert.StepMlaUqIdeal.nD Cert.StepMlaUqIdeal.τ).loc Cert.StepMlaUqIdeal.main_arg0)
      ∧ r.2.mem ((c.tc : Thread Cert.StepMlaUqIdeal.nD Cert.StepMlaUqIdeal.τ).loc Cert.StepMlaUqIdeal.main_arg1) = m ((c.tc : Thread Cert.StepMlaUqIdeal.nD Cert.StepMlaUqIdeal.τ).loc Cert.StepMlaUqIdeal.main_arg1)
      ∧ r.2.mem ((c.tc : Thread Cert.StepMlaUqIdeal.nD Cert.StepMlaUqIdeal.τ).loc Cert.StepMlaUqIdeal.main_arg2) = m ((c.tc : Thread Cert.StepMlaUqIdeal.nD Cert.StepMlaUqIdeal.τ).loc Cert.StepMlaUqIdeal.main_arg2)
      ∧ r.2.mem ((c.tc : Thread Cert.StepMlaUqIdeal.nD Cert.StepMlaUqIdeal.τ).loc Cert.StepMlaUqIdeal.main_arg3) = m ((c.tc : Thread Cert.StepMlaUqIdeal.nD Cert.StepMlaUqIdeal.τ).loc Cert.StepMlaUqIdeal.main_arg3))
      ∧ r.2.sem = fun _ => 0)

def quiescent_StepMlaUqRefIdeal [hStepMlaUqRefIdeal : Cert.StepMlaUqRefIdeal.Facts] : Prop :=
  ∀ (m : (ℓ : Loc Cert.StepMlaUqRefIdeal.nD Cert.StepMlaUqRefIdeal.τ Cert.StepMlaUqRefIdeal.sig) → Buf (Elt Ideal) ℓ) (g : Dev Cert.StepMlaUqRefIdeal.nD → PrngReg), Pre_StepMlaUqRefIdeal m →
    θ_run (Cert.StepMlaUqRefIdeal.defs (F := Ideal)) (onTc (τ := Cert.StepMlaUqRefIdeal.τ) (Cert.StepMlaUqRefIdeal.main (F := Ideal))) ⟨m, fun _ => 0, g⟩ (fun r => (∀ c : Dev Cert.StepMlaUqRefIdeal.nD,
      r.2.mem ((c.tc : Thread Cert.StepMlaUqRefIdeal.nD Cert.StepMlaUqRefIdeal.τ).loc Cert.StepMlaUqRefIdeal.main_arg0) = m ((c.tc : Thread Cert.StepMlaUqRefIdeal.nD Cert.StepMlaUqRefIdeal.τ).loc Cert.StepMlaUqRefIdeal.main_arg0)
      ∧ r.2.mem ((c.tc : Thread Cert.StepMlaUqRefIdeal.nD Cert.StepMlaUqRefIdeal.τ).loc Cert.StepMlaUqRefIdeal.main_arg1) = m ((c.tc : Thread Cert.StepMlaUqRefIdeal.nD Cert.StepMlaUqRefIdeal.τ).loc Cert.StepMlaUqRefIdeal.main_arg1)
      ∧ r.2.mem ((c.tc : Thread Cert.StepMlaUqRefIdeal.nD Cert.StepMlaUqRefIdeal.τ).loc Cert.StepMlaUqRefIdeal.main_arg2) = m ((c.tc : Thread Cert.StepMlaUqRefIdeal.nD Cert.StepMlaUqRefIdeal.τ).loc Cert.StepMlaUqRefIdeal.main_arg2)
      ∧ r.2.mem ((c.tc : Thread Cert.StepMlaUqRefIdeal.nD Cert.StepMlaUqRefIdeal.τ).loc Cert.StepMlaUqRefIdeal.main_arg3) = m ((c.tc : Thread Cert.StepMlaUqRefIdeal.nD Cert.StepMlaUqRefIdeal.τ).loc Cert.StepMlaUqRefIdeal.main_arg3))
      ∧ r.2.sem = fun _ => 0)

def quiescent_StepMlaUkv [hStepMlaUkv : Cert.StepMlaUkv.Facts] : Prop :=
  ∀ (m : (ℓ : Loc Cert.StepMlaUkv.nD Cert.StepMlaUkv.τ Cert.StepMlaUkv.sig) → Buf (Elt Bits) ℓ) (g : Dev Cert.StepMlaUkv.nD → PrngReg), Pre_StepMlaUkv m →
    θ_run (Cert.StepMlaUkv.defs (F := Bits)) (onTc (τ := Cert.StepMlaUkv.τ) (Cert.StepMlaUkv.main (F := Bits))) ⟨m, fun _ => 0, g⟩ (fun r => (∀ c : Dev Cert.StepMlaUkv.nD,
      r.2.mem ((c.tc : Thread Cert.StepMlaUkv.nD Cert.StepMlaUkv.τ).loc Cert.StepMlaUkv.main_arg0) = m ((c.tc : Thread Cert.StepMlaUkv.nD Cert.StepMlaUkv.τ).loc Cert.StepMlaUkv.main_arg0)
      ∧ r.2.mem ((c.tc : Thread Cert.StepMlaUkv.nD Cert.StepMlaUkv.τ).loc Cert.StepMlaUkv.main_arg1) = m ((c.tc : Thread Cert.StepMlaUkv.nD Cert.StepMlaUkv.τ).loc Cert.StepMlaUkv.main_arg1)
      ∧ r.2.mem ((c.tc : Thread Cert.StepMlaUkv.nD Cert.StepMlaUkv.τ).loc Cert.StepMlaUkv.main_arg2) = m ((c.tc : Thread Cert.StepMlaUkv.nD Cert.StepMlaUkv.τ).loc Cert.StepMlaUkv.main_arg2)
      ∧ r.2.mem ((c.tc : Thread Cert.StepMlaUkv.nD Cert.StepMlaUkv.τ).loc Cert.StepMlaUkv.main_arg3) = m ((c.tc : Thread Cert.StepMlaUkv.nD Cert.StepMlaUkv.τ).loc Cert.StepMlaUkv.main_arg3))
      ∧ r.2.sem = fun _ => 0)

def quiescent_StepMlaUkvIdeal [hStepMlaUkvIdeal : Cert.StepMlaUkvIdeal.Facts] : Prop :=
  ∀ (m : (ℓ : Loc Cert.StepMlaUkvIdeal.nD Cert.StepMlaUkvIdeal.τ Cert.StepMlaUkvIdeal.sig) → Buf (Elt Ideal) ℓ) (g : Dev Cert.StepMlaUkvIdeal.nD → PrngReg), Pre_StepMlaUkvIdeal m →
    θ_run (Cert.StepMlaUkvIdeal.defs (F := Ideal)) (onTc (τ := Cert.StepMlaUkvIdeal.τ) (Cert.StepMlaUkvIdeal.main (F := Ideal))) ⟨m, fun _ => 0, g⟩ (fun r => (∀ c : Dev Cert.StepMlaUkvIdeal.nD,
      r.2.mem ((c.tc : Thread Cert.StepMlaUkvIdeal.nD Cert.StepMlaUkvIdeal.τ).loc Cert.StepMlaUkvIdeal.main_arg0) = m ((c.tc : Thread Cert.StepMlaUkvIdeal.nD Cert.StepMlaUkvIdeal.τ).loc Cert.StepMlaUkvIdeal.main_arg0)
      ∧ r.2.mem ((c.tc : Thread Cert.StepMlaUkvIdeal.nD Cert.StepMlaUkvIdeal.τ).loc Cert.StepMlaUkvIdeal.main_arg1) = m ((c.tc : Thread Cert.StepMlaUkvIdeal.nD Cert.StepMlaUkvIdeal.τ).loc Cert.StepMlaUkvIdeal.main_arg1)
      ∧ r.2.mem ((c.tc : Thread Cert.StepMlaUkvIdeal.nD Cert.StepMlaUkvIdeal.τ).loc Cert.StepMlaUkvIdeal.main_arg2) = m ((c.tc : Thread Cert.StepMlaUkvIdeal.nD Cert.StepMlaUkvIdeal.τ).loc Cert.StepMlaUkvIdeal.main_arg2)
      ∧ r.2.mem ((c.tc : Thread Cert.StepMlaUkvIdeal.nD Cert.StepMlaUkvIdeal.τ).loc Cert.StepMlaUkvIdeal.main_arg3) = m ((c.tc : Thread Cert.StepMlaUkvIdeal.nD Cert.StepMlaUkvIdeal.τ).loc Cert.StepMlaUkvIdeal.main_arg3))
      ∧ r.2.sem = fun _ => 0)

def quiescent_StepMlaUkvRefIdeal [hStepMlaUkvRefIdeal : Cert.StepMlaUkvRefIdeal.Facts] : Prop :=
  ∀ (m : (ℓ : Loc Cert.StepMlaUkvRefIdeal.nD Cert.StepMlaUkvRefIdeal.τ Cert.StepMlaUkvRefIdeal.sig) → Buf (Elt Ideal) ℓ) (g : Dev Cert.StepMlaUkvRefIdeal.nD → PrngReg), Pre_StepMlaUkvRefIdeal m →
    θ_run (Cert.StepMlaUkvRefIdeal.defs (F := Ideal)) (onTc (τ := Cert.StepMlaUkvRefIdeal.τ) (Cert.StepMlaUkvRefIdeal.main (F := Ideal))) ⟨m, fun _ => 0, g⟩ (fun r => (∀ c : Dev Cert.StepMlaUkvRefIdeal.nD,
      r.2.mem ((c.tc : Thread Cert.StepMlaUkvRefIdeal.nD Cert.StepMlaUkvRefIdeal.τ).loc Cert.StepMlaUkvRefIdeal.main_arg0) = m ((c.tc : Thread Cert.StepMlaUkvRefIdeal.nD Cert.StepMlaUkvRefIdeal.τ).loc Cert.StepMlaUkvRefIdeal.main_arg0)
      ∧ r.2.mem ((c.tc : Thread Cert.StepMlaUkvRefIdeal.nD Cert.StepMlaUkvRefIdeal.τ).loc Cert.StepMlaUkvRefIdeal.main_arg1) = m ((c.tc : Thread Cert.StepMlaUkvRefIdeal.nD Cert.StepMlaUkvRefIdeal.τ).loc Cert.StepMlaUkvRefIdeal.main_arg1)
      ∧ r.2.mem ((c.tc : Thread Cert.StepMlaUkvRefIdeal.nD Cert.StepMlaUkvRefIdeal.τ).loc Cert.StepMlaUkvRefIdeal.main_arg2) = m ((c.tc : Thread Cert.StepMlaUkvRefIdeal.nD Cert.StepMlaUkvRefIdeal.τ).loc Cert.StepMlaUkvRefIdeal.main_arg2)
      ∧ r.2.mem ((c.tc : Thread Cert.StepMlaUkvRefIdeal.nD Cert.StepMlaUkvRefIdeal.τ).loc Cert.StepMlaUkvRefIdeal.main_arg3) = m ((c.tc : Thread Cert.StepMlaUkvRefIdeal.nD Cert.StepMlaUkvRefIdeal.τ).loc Cert.StepMlaUkvRefIdeal.main_arg3))
      ∧ r.2.sem = fun _ => 0)

def quiescent_StepRowsOut [hStepRowsOut : Cert.StepRowsOut.Facts] : Prop :=
  ∀ (m : (ℓ : Loc Cert.StepRowsOut.nD Cert.StepRowsOut.τ Cert.StepRowsOut.sig) → Buf (Elt Bits) ℓ) (g : Dev Cert.StepRowsOut.nD → PrngReg), Pre_StepRowsOut m →
    θ_run (Cert.StepRowsOut.defs (F := Bits)) (onTc (τ := Cert.StepRowsOut.τ) (Cert.StepRowsOut.main (F := Bits))) ⟨m, fun _ => 0, g⟩ (fun r => (∀ c : Dev Cert.StepRowsOut.nD,
      r.2.mem ((c.tc : Thread Cert.StepRowsOut.nD Cert.StepRowsOut.τ).loc Cert.StepRowsOut.main_arg0) = m ((c.tc : Thread Cert.StepRowsOut.nD Cert.StepRowsOut.τ).loc Cert.StepRowsOut.main_arg0)
      ∧ r.2.mem ((c.tc : Thread Cert.StepRowsOut.nD Cert.StepRowsOut.τ).loc Cert.StepRowsOut.main_arg1) = m ((c.tc : Thread Cert.StepRowsOut.nD Cert.StepRowsOut.τ).loc Cert.StepRowsOut.main_arg1)
      ∧ r.2.mem ((c.tc : Thread Cert.StepRowsOut.nD Cert.StepRowsOut.τ).loc Cert.StepRowsOut.main_arg2) = m ((c.tc : Thread Cert.StepRowsOut.nD Cert.StepRowsOut.τ).loc Cert.StepRowsOut.main_arg2)
      ∧ r.2.mem ((c.tc : Thread Cert.StepRowsOut.nD Cert.StepRowsOut.τ).loc Cert.StepRowsOut.main_arg3) = m ((c.tc : Thread Cert.StepRowsOut.nD Cert.StepRowsOut.τ).loc Cert.StepRowsOut.main_arg3))
      ∧ r.2.sem = fun _ => 0)

def quiescent_StepRowsOutIdeal [hStepRowsOutIdeal : Cert.StepRowsOutIdeal.Facts] : Prop :=
  ∀ (m : (ℓ : Loc Cert.StepRowsOutIdeal.nD Cert.StepRowsOutIdeal.τ Cert.StepRowsOutIdeal.sig) → Buf (Elt Ideal) ℓ) (g : Dev Cert.StepRowsOutIdeal.nD → PrngReg), Pre_StepRowsOutIdeal m →
    θ_run (Cert.StepRowsOutIdeal.defs (F := Ideal)) (onTc (τ := Cert.StepRowsOutIdeal.τ) (Cert.StepRowsOutIdeal.main (F := Ideal))) ⟨m, fun _ => 0, g⟩ (fun r => (∀ c : Dev Cert.StepRowsOutIdeal.nD,
      r.2.mem ((c.tc : Thread Cert.StepRowsOutIdeal.nD Cert.StepRowsOutIdeal.τ).loc Cert.StepRowsOutIdeal.main_arg0) = m ((c.tc : Thread Cert.StepRowsOutIdeal.nD Cert.StepRowsOutIdeal.τ).loc Cert.StepRowsOutIdeal.main_arg0)
      ∧ r.2.mem ((c.tc : Thread Cert.StepRowsOutIdeal.nD Cert.StepRowsOutIdeal.τ).loc Cert.StepRowsOutIdeal.main_arg1) = m ((c.tc : Thread Cert.StepRowsOutIdeal.nD Cert.StepRowsOutIdeal.τ).loc Cert.StepRowsOutIdeal.main_arg1)
      ∧ r.2.mem ((c.tc : Thread Cert.StepRowsOutIdeal.nD Cert.StepRowsOutIdeal.τ).loc Cert.StepRowsOutIdeal.main_arg2) = m ((c.tc : Thread Cert.StepRowsOutIdeal.nD Cert.StepRowsOutIdeal.τ).loc Cert.StepRowsOutIdeal.main_arg2)
      ∧ r.2.mem ((c.tc : Thread Cert.StepRowsOutIdeal.nD Cert.StepRowsOutIdeal.τ).loc Cert.StepRowsOutIdeal.main_arg3) = m ((c.tc : Thread Cert.StepRowsOutIdeal.nD Cert.StepRowsOutIdeal.τ).loc Cert.StepRowsOutIdeal.main_arg3))
      ∧ r.2.sem = fun _ => 0)

def quiescent_StepRowsOutRefIdeal [hStepRowsOutRefIdeal : Cert.StepRowsOutRefIdeal.Facts] : Prop :=
  ∀ (m : (ℓ : Loc Cert.StepRowsOutRefIdeal.nD Cert.StepRowsOutRefIdeal.τ Cert.StepRowsOutRefIdeal.sig) → Buf (Elt Ideal) ℓ) (g : Dev Cert.StepRowsOutRefIdeal.nD → PrngReg), Pre_StepRowsOutRefIdeal m →
    θ_run (Cert.StepRowsOutRefIdeal.defs (F := Ideal)) (onTc (τ := Cert.StepRowsOutRefIdeal.τ) (Cert.StepRowsOutRefIdeal.main (F := Ideal))) ⟨m, fun _ => 0, g⟩ (fun r => (∀ c : Dev Cert.StepRowsOutRefIdeal.nD,
      r.2.mem ((c.tc : Thread Cert.StepRowsOutRefIdeal.nD Cert.StepRowsOutRefIdeal.τ).loc Cert.StepRowsOutRefIdeal.main_arg0) = m ((c.tc : Thread Cert.StepRowsOutRefIdeal.nD Cert.StepRowsOutRefIdeal.τ).loc Cert.StepRowsOutRefIdeal.main_arg0)
      ∧ r.2.mem ((c.tc : Thread Cert.StepRowsOutRefIdeal.nD Cert.StepRowsOutRefIdeal.τ).loc Cert.StepRowsOutRefIdeal.main_arg1) = m ((c.tc : Thread Cert.StepRowsOutRefIdeal.nD Cert.StepRowsOutRefIdeal.τ).loc Cert.StepRowsOutRefIdeal.main_arg1)
      ∧ r.2.mem ((c.tc : Thread Cert.StepRowsOutRefIdeal.nD Cert.StepRowsOutRefIdeal.τ).loc Cert.StepRowsOutRefIdeal.main_arg2) = m ((c.tc : Thread Cert.StepRowsOutRefIdeal.nD Cert.StepRowsOutRefIdeal.τ).loc Cert.StepRowsOutRefIdeal.main_arg2)
      ∧ r.2.mem ((c.tc : Thread Cert.StepRowsOutRefIdeal.nD Cert.StepRowsOutRefIdeal.τ).loc Cert.StepRowsOutRefIdeal.main_arg3) = m ((c.tc : Thread Cert.StepRowsOutRefIdeal.nD Cert.StepRowsOutRefIdeal.τ).loc Cert.StepRowsOutRefIdeal.main_arg3))
      ∧ r.2.sem = fun _ => 0)

def quiescent_StepConvIn [hStepConvIn : Cert.StepConvIn.Facts] : Prop :=
  ∀ (m : (ℓ : Loc Cert.StepConvIn.nD Cert.StepConvIn.τ Cert.StepConvIn.sig) → Buf (Elt Bits) ℓ) (g : Dev Cert.StepConvIn.nD → PrngReg), Pre_StepConvIn m →
    θ_run (Cert.StepConvIn.defs (F := Bits)) (onTc (τ := Cert.StepConvIn.τ) (Cert.StepConvIn.main (F := Bits))) ⟨m, fun _ => 0, g⟩ (fun r => (∀ c : Dev Cert.StepConvIn.nD,
      r.2.mem ((c.tc : Thread Cert.StepConvIn.nD Cert.StepConvIn.τ).loc Cert.StepConvIn.main_arg0) = m ((c.tc : Thread Cert.StepConvIn.nD Cert.StepConvIn.τ).loc Cert.StepConvIn.main_arg0)
      ∧ r.2.mem ((c.tc : Thread Cert.StepConvIn.nD Cert.StepConvIn.τ).loc Cert.StepConvIn.main_arg1) = m ((c.tc : Thread Cert.StepConvIn.nD Cert.StepConvIn.τ).loc Cert.StepConvIn.main_arg1)
      ∧ r.2.mem ((c.tc : Thread Cert.StepConvIn.nD Cert.StepConvIn.τ).loc Cert.StepConvIn.main_arg2) = m ((c.tc : Thread Cert.StepConvIn.nD Cert.StepConvIn.τ).loc Cert.StepConvIn.main_arg2)
      ∧ r.2.mem ((c.tc : Thread Cert.StepConvIn.nD Cert.StepConvIn.τ).loc Cert.StepConvIn.main_arg3) = m ((c.tc : Thread Cert.StepConvIn.nD Cert.StepConvIn.τ).loc Cert.StepConvIn.main_arg3))
      ∧ r.2.sem = fun _ => 0)

def quiescent_StepConvInIdeal [hStepConvInIdeal : Cert.StepConvInIdeal.Facts] : Prop :=
  ∀ (m : (ℓ : Loc Cert.StepConvInIdeal.nD Cert.StepConvInIdeal.τ Cert.StepConvInIdeal.sig) → Buf (Elt Ideal) ℓ) (g : Dev Cert.StepConvInIdeal.nD → PrngReg), Pre_StepConvInIdeal m →
    θ_run (Cert.StepConvInIdeal.defs (F := Ideal)) (onTc (τ := Cert.StepConvInIdeal.τ) (Cert.StepConvInIdeal.main (F := Ideal))) ⟨m, fun _ => 0, g⟩ (fun r => (∀ c : Dev Cert.StepConvInIdeal.nD,
      r.2.mem ((c.tc : Thread Cert.StepConvInIdeal.nD Cert.StepConvInIdeal.τ).loc Cert.StepConvInIdeal.main_arg0) = m ((c.tc : Thread Cert.StepConvInIdeal.nD Cert.StepConvInIdeal.τ).loc Cert.StepConvInIdeal.main_arg0)
      ∧ r.2.mem ((c.tc : Thread Cert.StepConvInIdeal.nD Cert.StepConvInIdeal.τ).loc Cert.StepConvInIdeal.main_arg1) = m ((c.tc : Thread Cert.StepConvInIdeal.nD Cert.StepConvInIdeal.τ).loc Cert.StepConvInIdeal.main_arg1)
      ∧ r.2.mem ((c.tc : Thread Cert.StepConvInIdeal.nD Cert.StepConvInIdeal.τ).loc Cert.StepConvInIdeal.main_arg2) = m ((c.tc : Thread Cert.StepConvInIdeal.nD Cert.StepConvInIdeal.τ).loc Cert.StepConvInIdeal.main_arg2)
      ∧ r.2.mem ((c.tc : Thread Cert.StepConvInIdeal.nD Cert.StepConvInIdeal.τ).loc Cert.StepConvInIdeal.main_arg3) = m ((c.tc : Thread Cert.StepConvInIdeal.nD Cert.StepConvInIdeal.τ).loc Cert.StepConvInIdeal.main_arg3))
      ∧ r.2.sem = fun _ => 0)

def quiescent_StepConvInRefIdeal [hStepConvInRefIdeal : Cert.StepConvInRefIdeal.Facts] : Prop :=
  ∀ (m : (ℓ : Loc Cert.StepConvInRefIdeal.nD Cert.StepConvInRefIdeal.τ Cert.StepConvInRefIdeal.sig) → Buf (Elt Ideal) ℓ) (g : Dev Cert.StepConvInRefIdeal.nD → PrngReg), Pre_StepConvInRefIdeal m →
    θ_run (Cert.StepConvInRefIdeal.defs (F := Ideal)) (onTc (τ := Cert.StepConvInRefIdeal.τ) (Cert.StepConvInRefIdeal.main (F := Ideal))) ⟨m, fun _ => 0, g⟩ (fun r => (∀ c : Dev Cert.StepConvInRefIdeal.nD,
      r.2.mem ((c.tc : Thread Cert.StepConvInRefIdeal.nD Cert.StepConvInRefIdeal.τ).loc Cert.StepConvInRefIdeal.main_arg0) = m ((c.tc : Thread Cert.StepConvInRefIdeal.nD Cert.StepConvInRefIdeal.τ).loc Cert.StepConvInRefIdeal.main_arg0)
      ∧ r.2.mem ((c.tc : Thread Cert.StepConvInRefIdeal.nD Cert.StepConvInRefIdeal.τ).loc Cert.StepConvInRefIdeal.main_arg1) = m ((c.tc : Thread Cert.StepConvInRefIdeal.nD Cert.StepConvInRefIdeal.τ).loc Cert.StepConvInRefIdeal.main_arg1)
      ∧ r.2.mem ((c.tc : Thread Cert.StepConvInRefIdeal.nD Cert.StepConvInRefIdeal.τ).loc Cert.StepConvInRefIdeal.main_arg2) = m ((c.tc : Thread Cert.StepConvInRefIdeal.nD Cert.StepConvInRefIdeal.τ).loc Cert.StepConvInRefIdeal.main_arg2)
      ∧ r.2.mem ((c.tc : Thread Cert.StepConvInRefIdeal.nD Cert.StepConvInRefIdeal.τ).loc Cert.StepConvInRefIdeal.main_arg3) = m ((c.tc : Thread Cert.StepConvInRefIdeal.nD Cert.StepConvInRefIdeal.τ).loc Cert.StepConvInRefIdeal.main_arg3))
      ∧ r.2.sem = fun _ => 0)

def quiescent_StepMlp [hStepMlp : Cert.StepMlp.Facts] : Prop :=
  ∀ (m : (ℓ : Loc Cert.StepMlp.nD Cert.StepMlp.τ Cert.StepMlp.sig) → Buf (Elt Bits) ℓ) (g : Dev Cert.StepMlp.nD → PrngReg), Pre_StepMlp m →
    θ_run (Cert.StepMlp.defs (F := Bits)) (onTc (τ := Cert.StepMlp.τ) (Cert.StepMlp.main (F := Bits))) ⟨m, fun _ => 0, g⟩ (fun r => (∀ c : Dev Cert.StepMlp.nD,
      r.2.mem ((c.tc : Thread Cert.StepMlp.nD Cert.StepMlp.τ).loc Cert.StepMlp.main_arg0) = m ((c.tc : Thread Cert.StepMlp.nD Cert.StepMlp.τ).loc Cert.StepMlp.main_arg0)
      ∧ r.2.mem ((c.tc : Thread Cert.StepMlp.nD Cert.StepMlp.τ).loc Cert.StepMlp.main_arg1) = m ((c.tc : Thread Cert.StepMlp.nD Cert.StepMlp.τ).loc Cert.StepMlp.main_arg1)
      ∧ r.2.mem ((c.tc : Thread Cert.StepMlp.nD Cert.StepMlp.τ).loc Cert.StepMlp.main_arg2) = m ((c.tc : Thread Cert.StepMlp.nD Cert.StepMlp.τ).loc Cert.StepMlp.main_arg2)
      ∧ r.2.mem ((c.tc : Thread Cert.StepMlp.nD Cert.StepMlp.τ).loc Cert.StepMlp.main_arg3) = m ((c.tc : Thread Cert.StepMlp.nD Cert.StepMlp.τ).loc Cert.StepMlp.main_arg3)
      ∧ r.2.mem ((c.tc : Thread Cert.StepMlp.nD Cert.StepMlp.τ).loc Cert.StepMlp.main_arg4) = m ((c.tc : Thread Cert.StepMlp.nD Cert.StepMlp.τ).loc Cert.StepMlp.main_arg4)
      ∧ r.2.mem ((c.tc : Thread Cert.StepMlp.nD Cert.StepMlp.τ).loc Cert.StepMlp.main_arg5) = m ((c.tc : Thread Cert.StepMlp.nD Cert.StepMlp.τ).loc Cert.StepMlp.main_arg5)
      ∧ r.2.mem ((c.tc : Thread Cert.StepMlp.nD Cert.StepMlp.τ).loc Cert.StepMlp.main_arg6) = m ((c.tc : Thread Cert.StepMlp.nD Cert.StepMlp.τ).loc Cert.StepMlp.main_arg6))
      ∧ r.2.sem = fun _ => 0)

def quiescent_StepMlpIdeal [hStepMlpIdeal : Cert.StepMlpIdeal.Facts] : Prop :=
  ∀ (m : (ℓ : Loc Cert.StepMlpIdeal.nD Cert.StepMlpIdeal.τ Cert.StepMlpIdeal.sig) → Buf (Elt Ideal) ℓ) (g : Dev Cert.StepMlpIdeal.nD → PrngReg), Pre_StepMlpIdeal m →
    θ_run (Cert.StepMlpIdeal.defs (F := Ideal)) (onTc (τ := Cert.StepMlpIdeal.τ) (Cert.StepMlpIdeal.main (F := Ideal))) ⟨m, fun _ => 0, g⟩ (fun r => (∀ c : Dev Cert.StepMlpIdeal.nD,
      r.2.mem ((c.tc : Thread Cert.StepMlpIdeal.nD Cert.StepMlpIdeal.τ).loc Cert.StepMlpIdeal.main_arg0) = m ((c.tc : Thread Cert.StepMlpIdeal.nD Cert.StepMlpIdeal.τ).loc Cert.StepMlpIdeal.main_arg0)
      ∧ r.2.mem ((c.tc : Thread Cert.StepMlpIdeal.nD Cert.StepMlpIdeal.τ).loc Cert.StepMlpIdeal.main_arg1) = m ((c.tc : Thread Cert.StepMlpIdeal.nD Cert.StepMlpIdeal.τ).loc Cert.StepMlpIdeal.main_arg1)
      ∧ r.2.mem ((c.tc : Thread Cert.StepMlpIdeal.nD Cert.StepMlpIdeal.τ).loc Cert.StepMlpIdeal.main_arg2) = m ((c.tc : Thread Cert.StepMlpIdeal.nD Cert.StepMlpIdeal.τ).loc Cert.StepMlpIdeal.main_arg2)
      ∧ r.2.mem ((c.tc : Thread Cert.StepMlpIdeal.nD Cert.StepMlpIdeal.τ).loc Cert.StepMlpIdeal.main_arg3) = m ((c.tc : Thread Cert.StepMlpIdeal.nD Cert.StepMlpIdeal.τ).loc Cert.StepMlpIdeal.main_arg3)
      ∧ r.2.mem ((c.tc : Thread Cert.StepMlpIdeal.nD Cert.StepMlpIdeal.τ).loc Cert.StepMlpIdeal.main_arg4) = m ((c.tc : Thread Cert.StepMlpIdeal.nD Cert.StepMlpIdeal.τ).loc Cert.StepMlpIdeal.main_arg4)
      ∧ r.2.mem ((c.tc : Thread Cert.StepMlpIdeal.nD Cert.StepMlpIdeal.τ).loc Cert.StepMlpIdeal.main_arg5) = m ((c.tc : Thread Cert.StepMlpIdeal.nD Cert.StepMlpIdeal.τ).loc Cert.StepMlpIdeal.main_arg5)
      ∧ r.2.mem ((c.tc : Thread Cert.StepMlpIdeal.nD Cert.StepMlpIdeal.τ).loc Cert.StepMlpIdeal.main_arg6) = m ((c.tc : Thread Cert.StepMlpIdeal.nD Cert.StepMlpIdeal.τ).loc Cert.StepMlpIdeal.main_arg6))
      ∧ r.2.sem = fun _ => 0)

def quiescent_StepMlpRefIdeal [hStepMlpRefIdeal : Cert.StepMlpRefIdeal.Facts] : Prop :=
  ∀ (m : (ℓ : Loc Cert.StepMlpRefIdeal.nD Cert.StepMlpRefIdeal.τ Cert.StepMlpRefIdeal.sig) → Buf (Elt Ideal) ℓ) (g : Dev Cert.StepMlpRefIdeal.nD → PrngReg), Pre_StepMlpRefIdeal m →
    θ_run (Cert.StepMlpRefIdeal.defs (F := Ideal)) (onTc (τ := Cert.StepMlpRefIdeal.τ) (Cert.StepMlpRefIdeal.main (F := Ideal))) ⟨m, fun _ => 0, g⟩ (fun r => (∀ c : Dev Cert.StepMlpRefIdeal.nD,
      r.2.mem ((c.tc : Thread Cert.StepMlpRefIdeal.nD Cert.StepMlpRefIdeal.τ).loc Cert.StepMlpRefIdeal.main_arg0) = m ((c.tc : Thread Cert.StepMlpRefIdeal.nD Cert.StepMlpRefIdeal.τ).loc Cert.StepMlpRefIdeal.main_arg0)
      ∧ r.2.mem ((c.tc : Thread Cert.StepMlpRefIdeal.nD Cert.StepMlpRefIdeal.τ).loc Cert.StepMlpRefIdeal.main_arg1) = m ((c.tc : Thread Cert.StepMlpRefIdeal.nD Cert.StepMlpRefIdeal.τ).loc Cert.StepMlpRefIdeal.main_arg1)
      ∧ r.2.mem ((c.tc : Thread Cert.StepMlpRefIdeal.nD Cert.StepMlpRefIdeal.τ).loc Cert.StepMlpRefIdeal.main_arg2) = m ((c.tc : Thread Cert.StepMlpRefIdeal.nD Cert.StepMlpRefIdeal.τ).loc Cert.StepMlpRefIdeal.main_arg2)
      ∧ r.2.mem ((c.tc : Thread Cert.StepMlpRefIdeal.nD Cert.StepMlpRefIdeal.τ).loc Cert.StepMlpRefIdeal.main_arg3) = m ((c.tc : Thread Cert.StepMlpRefIdeal.nD Cert.StepMlpRefIdeal.τ).loc Cert.StepMlpRefIdeal.main_arg3)
      ∧ r.2.mem ((c.tc : Thread Cert.StepMlpRefIdeal.nD Cert.StepMlpRefIdeal.τ).loc Cert.StepMlpRefIdeal.main_arg4) = m ((c.tc : Thread Cert.StepMlpRefIdeal.nD Cert.StepMlpRefIdeal.τ).loc Cert.StepMlpRefIdeal.main_arg4)
      ∧ r.2.mem ((c.tc : Thread Cert.StepMlpRefIdeal.nD Cert.StepMlpRefIdeal.τ).loc Cert.StepMlpRefIdeal.main_arg5) = m ((c.tc : Thread Cert.StepMlpRefIdeal.nD Cert.StepMlpRefIdeal.τ).loc Cert.StepMlpRefIdeal.main_arg5)
      ∧ r.2.mem ((c.tc : Thread Cert.StepMlpRefIdeal.nD Cert.StepMlpRefIdeal.τ).loc Cert.StepMlpRefIdeal.main_arg6) = m ((c.tc : Thread Cert.StepMlpRefIdeal.nD Cert.StepMlpRefIdeal.τ).loc Cert.StepMlpRefIdeal.main_arg6))
      ∧ r.2.sem = fun _ => 0)

def quiescent_StepPleGate [hStepPleGate : Cert.StepPleGate.Facts] : Prop :=
  ∀ (m : (ℓ : Loc Cert.StepPleGate.nD Cert.StepPleGate.τ Cert.StepPleGate.sig) → Buf (Elt Bits) ℓ) (g : Dev Cert.StepPleGate.nD → PrngReg), Pre_StepPleGate m →
    θ_run (Cert.StepPleGate.defs (F := Bits)) (onTc (τ := Cert.StepPleGate.τ) (Cert.StepPleGate.main (F := Bits))) ⟨m, fun _ => 0, g⟩ (fun r => (∀ c : Dev Cert.StepPleGate.nD,
      r.2.mem ((c.tc : Thread Cert.StepPleGate.nD Cert.StepPleGate.τ).loc Cert.StepPleGate.main_arg0) = m ((c.tc : Thread Cert.StepPleGate.nD Cert.StepPleGate.τ).loc Cert.StepPleGate.main_arg0)
      ∧ r.2.mem ((c.tc : Thread Cert.StepPleGate.nD Cert.StepPleGate.τ).loc Cert.StepPleGate.main_arg1) = m ((c.tc : Thread Cert.StepPleGate.nD Cert.StepPleGate.τ).loc Cert.StepPleGate.main_arg1)
      ∧ r.2.mem ((c.tc : Thread Cert.StepPleGate.nD Cert.StepPleGate.τ).loc Cert.StepPleGate.main_arg2) = m ((c.tc : Thread Cert.StepPleGate.nD Cert.StepPleGate.τ).loc Cert.StepPleGate.main_arg2)
      ∧ r.2.mem ((c.tc : Thread Cert.StepPleGate.nD Cert.StepPleGate.τ).loc Cert.StepPleGate.main_arg3) = m ((c.tc : Thread Cert.StepPleGate.nD Cert.StepPleGate.τ).loc Cert.StepPleGate.main_arg3)
      ∧ r.2.mem ((c.tc : Thread Cert.StepPleGate.nD Cert.StepPleGate.τ).loc Cert.StepPleGate.main_arg4) = m ((c.tc : Thread Cert.StepPleGate.nD Cert.StepPleGate.τ).loc Cert.StepPleGate.main_arg4)
      ∧ r.2.mem ((c.tc : Thread Cert.StepPleGate.nD Cert.StepPleGate.τ).loc Cert.StepPleGate.main_arg5) = m ((c.tc : Thread Cert.StepPleGate.nD Cert.StepPleGate.τ).loc Cert.StepPleGate.main_arg5)
      ∧ r.2.mem ((c.tc : Thread Cert.StepPleGate.nD Cert.StepPleGate.τ).loc Cert.StepPleGate.main_arg6) = m ((c.tc : Thread Cert.StepPleGate.nD Cert.StepPleGate.τ).loc Cert.StepPleGate.main_arg6))
      ∧ r.2.sem = fun _ => 0)

def quiescent_StepPleGateIdeal [hStepPleGateIdeal : Cert.StepPleGateIdeal.Facts] : Prop :=
  ∀ (m : (ℓ : Loc Cert.StepPleGateIdeal.nD Cert.StepPleGateIdeal.τ Cert.StepPleGateIdeal.sig) → Buf (Elt Ideal) ℓ) (g : Dev Cert.StepPleGateIdeal.nD → PrngReg), Pre_StepPleGateIdeal m →
    θ_run (Cert.StepPleGateIdeal.defs (F := Ideal)) (onTc (τ := Cert.StepPleGateIdeal.τ) (Cert.StepPleGateIdeal.main (F := Ideal))) ⟨m, fun _ => 0, g⟩ (fun r => (∀ c : Dev Cert.StepPleGateIdeal.nD,
      r.2.mem ((c.tc : Thread Cert.StepPleGateIdeal.nD Cert.StepPleGateIdeal.τ).loc Cert.StepPleGateIdeal.main_arg0) = m ((c.tc : Thread Cert.StepPleGateIdeal.nD Cert.StepPleGateIdeal.τ).loc Cert.StepPleGateIdeal.main_arg0)
      ∧ r.2.mem ((c.tc : Thread Cert.StepPleGateIdeal.nD Cert.StepPleGateIdeal.τ).loc Cert.StepPleGateIdeal.main_arg1) = m ((c.tc : Thread Cert.StepPleGateIdeal.nD Cert.StepPleGateIdeal.τ).loc Cert.StepPleGateIdeal.main_arg1)
      ∧ r.2.mem ((c.tc : Thread Cert.StepPleGateIdeal.nD Cert.StepPleGateIdeal.τ).loc Cert.StepPleGateIdeal.main_arg2) = m ((c.tc : Thread Cert.StepPleGateIdeal.nD Cert.StepPleGateIdeal.τ).loc Cert.StepPleGateIdeal.main_arg2)
      ∧ r.2.mem ((c.tc : Thread Cert.StepPleGateIdeal.nD Cert.StepPleGateIdeal.τ).loc Cert.StepPleGateIdeal.main_arg3) = m ((c.tc : Thread Cert.StepPleGateIdeal.nD Cert.StepPleGateIdeal.τ).loc Cert.StepPleGateIdeal.main_arg3)
      ∧ r.2.mem ((c.tc : Thread Cert.StepPleGateIdeal.nD Cert.StepPleGateIdeal.τ).loc Cert.StepPleGateIdeal.main_arg4) = m ((c.tc : Thread Cert.StepPleGateIdeal.nD Cert.StepPleGateIdeal.τ).loc Cert.StepPleGateIdeal.main_arg4)
      ∧ r.2.mem ((c.tc : Thread Cert.StepPleGateIdeal.nD Cert.StepPleGateIdeal.τ).loc Cert.StepPleGateIdeal.main_arg5) = m ((c.tc : Thread Cert.StepPleGateIdeal.nD Cert.StepPleGateIdeal.τ).loc Cert.StepPleGateIdeal.main_arg5)
      ∧ r.2.mem ((c.tc : Thread Cert.StepPleGateIdeal.nD Cert.StepPleGateIdeal.τ).loc Cert.StepPleGateIdeal.main_arg6) = m ((c.tc : Thread Cert.StepPleGateIdeal.nD Cert.StepPleGateIdeal.τ).loc Cert.StepPleGateIdeal.main_arg6))
      ∧ r.2.sem = fun _ => 0)

def quiescent_StepPleGateRefIdeal [hStepPleGateRefIdeal : Cert.StepPleGateRefIdeal.Facts] : Prop :=
  ∀ (m : (ℓ : Loc Cert.StepPleGateRefIdeal.nD Cert.StepPleGateRefIdeal.τ Cert.StepPleGateRefIdeal.sig) → Buf (Elt Ideal) ℓ) (g : Dev Cert.StepPleGateRefIdeal.nD → PrngReg), Pre_StepPleGateRefIdeal m →
    θ_run (Cert.StepPleGateRefIdeal.defs (F := Ideal)) (onTc (τ := Cert.StepPleGateRefIdeal.τ) (Cert.StepPleGateRefIdeal.main (F := Ideal))) ⟨m, fun _ => 0, g⟩ (fun r => (∀ c : Dev Cert.StepPleGateRefIdeal.nD,
      r.2.mem ((c.tc : Thread Cert.StepPleGateRefIdeal.nD Cert.StepPleGateRefIdeal.τ).loc Cert.StepPleGateRefIdeal.main_arg0) = m ((c.tc : Thread Cert.StepPleGateRefIdeal.nD Cert.StepPleGateRefIdeal.τ).loc Cert.StepPleGateRefIdeal.main_arg0)
      ∧ r.2.mem ((c.tc : Thread Cert.StepPleGateRefIdeal.nD Cert.StepPleGateRefIdeal.τ).loc Cert.StepPleGateRefIdeal.main_arg1) = m ((c.tc : Thread Cert.StepPleGateRefIdeal.nD Cert.StepPleGateRefIdeal.τ).loc Cert.StepPleGateRefIdeal.main_arg1)
      ∧ r.2.mem ((c.tc : Thread Cert.StepPleGateRefIdeal.nD Cert.StepPleGateRefIdeal.τ).loc Cert.StepPleGateRefIdeal.main_arg2) = m ((c.tc : Thread Cert.StepPleGateRefIdeal.nD Cert.StepPleGateRefIdeal.τ).loc Cert.StepPleGateRefIdeal.main_arg2)
      ∧ r.2.mem ((c.tc : Thread Cert.StepPleGateRefIdeal.nD Cert.StepPleGateRefIdeal.τ).loc Cert.StepPleGateRefIdeal.main_arg3) = m ((c.tc : Thread Cert.StepPleGateRefIdeal.nD Cert.StepPleGateRefIdeal.τ).loc Cert.StepPleGateRefIdeal.main_arg3)
      ∧ r.2.mem ((c.tc : Thread Cert.StepPleGateRefIdeal.nD Cert.StepPleGateRefIdeal.τ).loc Cert.StepPleGateRefIdeal.main_arg4) = m ((c.tc : Thread Cert.StepPleGateRefIdeal.nD Cert.StepPleGateRefIdeal.τ).loc Cert.StepPleGateRefIdeal.main_arg4)
      ∧ r.2.mem ((c.tc : Thread Cert.StepPleGateRefIdeal.nD Cert.StepPleGateRefIdeal.τ).loc Cert.StepPleGateRefIdeal.main_arg5) = m ((c.tc : Thread Cert.StepPleGateRefIdeal.nD Cert.StepPleGateRefIdeal.τ).loc Cert.StepPleGateRefIdeal.main_arg5)
      ∧ r.2.mem ((c.tc : Thread Cert.StepPleGateRefIdeal.nD Cert.StepPleGateRefIdeal.τ).loc Cert.StepPleGateRefIdeal.main_arg6) = m ((c.tc : Thread Cert.StepPleGateRefIdeal.nD Cert.StepPleGateRefIdeal.τ).loc Cert.StepPleGateRefIdeal.main_arg6))
      ∧ r.2.sem = fun _ => 0)

def quiescent_StepPleProj [hStepPleProj : Cert.StepPleProj.Facts] : Prop :=
  ∀ (m : (ℓ : Loc Cert.StepPleProj.nD Cert.StepPleProj.τ Cert.StepPleProj.sig) → Buf (Elt Bits) ℓ) (g : Dev Cert.StepPleProj.nD → PrngReg), Pre_StepPleProj m →
    θ_run (Cert.StepPleProj.defs (F := Bits)) (onTc (τ := Cert.StepPleProj.τ) (Cert.StepPleProj.main (F := Bits))) ⟨m, fun _ => 0, g⟩ (fun r => (∀ c : Dev Cert.StepPleProj.nD,
      r.2.mem ((c.tc : Thread Cert.StepPleProj.nD Cert.StepPleProj.τ).loc Cert.StepPleProj.main_arg0) = m ((c.tc : Thread Cert.StepPleProj.nD Cert.StepPleProj.τ).loc Cert.StepPleProj.main_arg0)
      ∧ r.2.mem ((c.tc : Thread Cert.StepPleProj.nD Cert.StepPleProj.τ).loc Cert.StepPleProj.main_arg1) = m ((c.tc : Thread Cert.StepPleProj.nD Cert.StepPleProj.τ).loc Cert.StepPleProj.main_arg1)
      ∧ r.2.mem ((c.tc : Thread Cert.StepPleProj.nD Cert.StepPleProj.τ).loc Cert.StepPleProj.main_arg2) = m ((c.tc : Thread Cert.StepPleProj.nD Cert.StepPleProj.τ).loc Cert.StepPleProj.main_arg2)
      ∧ r.2.mem ((c.tc : Thread Cert.StepPleProj.nD Cert.StepPleProj.τ).loc Cert.StepPleProj.main_arg3) = m ((c.tc : Thread Cert.StepPleProj.nD Cert.StepPleProj.τ).loc Cert.StepPleProj.main_arg3)
      ∧ r.2.mem ((c.tc : Thread Cert.StepPleProj.nD Cert.StepPleProj.τ).loc Cert.StepPleProj.main_arg4) = m ((c.tc : Thread Cert.StepPleProj.nD Cert.StepPleProj.τ).loc Cert.StepPleProj.main_arg4)
      ∧ r.2.mem ((c.tc : Thread Cert.StepPleProj.nD Cert.StepPleProj.τ).loc Cert.StepPleProj.main_arg5) = m ((c.tc : Thread Cert.StepPleProj.nD Cert.StepPleProj.τ).loc Cert.StepPleProj.main_arg5)
      ∧ r.2.mem ((c.tc : Thread Cert.StepPleProj.nD Cert.StepPleProj.τ).loc Cert.StepPleProj.main_arg6) = m ((c.tc : Thread Cert.StepPleProj.nD Cert.StepPleProj.τ).loc Cert.StepPleProj.main_arg6))
      ∧ r.2.sem = fun _ => 0)

def quiescent_StepPleProjIdeal [hStepPleProjIdeal : Cert.StepPleProjIdeal.Facts] : Prop :=
  ∀ (m : (ℓ : Loc Cert.StepPleProjIdeal.nD Cert.StepPleProjIdeal.τ Cert.StepPleProjIdeal.sig) → Buf (Elt Ideal) ℓ) (g : Dev Cert.StepPleProjIdeal.nD → PrngReg), Pre_StepPleProjIdeal m →
    θ_run (Cert.StepPleProjIdeal.defs (F := Ideal)) (onTc (τ := Cert.StepPleProjIdeal.τ) (Cert.StepPleProjIdeal.main (F := Ideal))) ⟨m, fun _ => 0, g⟩ (fun r => (∀ c : Dev Cert.StepPleProjIdeal.nD,
      r.2.mem ((c.tc : Thread Cert.StepPleProjIdeal.nD Cert.StepPleProjIdeal.τ).loc Cert.StepPleProjIdeal.main_arg0) = m ((c.tc : Thread Cert.StepPleProjIdeal.nD Cert.StepPleProjIdeal.τ).loc Cert.StepPleProjIdeal.main_arg0)
      ∧ r.2.mem ((c.tc : Thread Cert.StepPleProjIdeal.nD Cert.StepPleProjIdeal.τ).loc Cert.StepPleProjIdeal.main_arg1) = m ((c.tc : Thread Cert.StepPleProjIdeal.nD Cert.StepPleProjIdeal.τ).loc Cert.StepPleProjIdeal.main_arg1)
      ∧ r.2.mem ((c.tc : Thread Cert.StepPleProjIdeal.nD Cert.StepPleProjIdeal.τ).loc Cert.StepPleProjIdeal.main_arg2) = m ((c.tc : Thread Cert.StepPleProjIdeal.nD Cert.StepPleProjIdeal.τ).loc Cert.StepPleProjIdeal.main_arg2)
      ∧ r.2.mem ((c.tc : Thread Cert.StepPleProjIdeal.nD Cert.StepPleProjIdeal.τ).loc Cert.StepPleProjIdeal.main_arg3) = m ((c.tc : Thread Cert.StepPleProjIdeal.nD Cert.StepPleProjIdeal.τ).loc Cert.StepPleProjIdeal.main_arg3)
      ∧ r.2.mem ((c.tc : Thread Cert.StepPleProjIdeal.nD Cert.StepPleProjIdeal.τ).loc Cert.StepPleProjIdeal.main_arg4) = m ((c.tc : Thread Cert.StepPleProjIdeal.nD Cert.StepPleProjIdeal.τ).loc Cert.StepPleProjIdeal.main_arg4)
      ∧ r.2.mem ((c.tc : Thread Cert.StepPleProjIdeal.nD Cert.StepPleProjIdeal.τ).loc Cert.StepPleProjIdeal.main_arg5) = m ((c.tc : Thread Cert.StepPleProjIdeal.nD Cert.StepPleProjIdeal.τ).loc Cert.StepPleProjIdeal.main_arg5)
      ∧ r.2.mem ((c.tc : Thread Cert.StepPleProjIdeal.nD Cert.StepPleProjIdeal.τ).loc Cert.StepPleProjIdeal.main_arg6) = m ((c.tc : Thread Cert.StepPleProjIdeal.nD Cert.StepPleProjIdeal.τ).loc Cert.StepPleProjIdeal.main_arg6))
      ∧ r.2.sem = fun _ => 0)

def quiescent_StepPleProjRefIdeal [hStepPleProjRefIdeal : Cert.StepPleProjRefIdeal.Facts] : Prop :=
  ∀ (m : (ℓ : Loc Cert.StepPleProjRefIdeal.nD Cert.StepPleProjRefIdeal.τ Cert.StepPleProjRefIdeal.sig) → Buf (Elt Ideal) ℓ) (g : Dev Cert.StepPleProjRefIdeal.nD → PrngReg), Pre_StepPleProjRefIdeal m →
    θ_run (Cert.StepPleProjRefIdeal.defs (F := Ideal)) (onTc (τ := Cert.StepPleProjRefIdeal.τ) (Cert.StepPleProjRefIdeal.main (F := Ideal))) ⟨m, fun _ => 0, g⟩ (fun r => (∀ c : Dev Cert.StepPleProjRefIdeal.nD,
      r.2.mem ((c.tc : Thread Cert.StepPleProjRefIdeal.nD Cert.StepPleProjRefIdeal.τ).loc Cert.StepPleProjRefIdeal.main_arg0) = m ((c.tc : Thread Cert.StepPleProjRefIdeal.nD Cert.StepPleProjRefIdeal.τ).loc Cert.StepPleProjRefIdeal.main_arg0)
      ∧ r.2.mem ((c.tc : Thread Cert.StepPleProjRefIdeal.nD Cert.StepPleProjRefIdeal.τ).loc Cert.StepPleProjRefIdeal.main_arg1) = m ((c.tc : Thread Cert.StepPleProjRefIdeal.nD Cert.StepPleProjRefIdeal.τ).loc Cert.StepPleProjRefIdeal.main_arg1)
      ∧ r.2.mem ((c.tc : Thread Cert.StepPleProjRefIdeal.nD Cert.StepPleProjRefIdeal.τ).loc Cert.StepPleProjRefIdeal.main_arg2) = m ((c.tc : Thread Cert.StepPleProjRefIdeal.nD Cert.StepPleProjRefIdeal.τ).loc Cert.StepPleProjRefIdeal.main_arg2)
      ∧ r.2.mem ((c.tc : Thread Cert.StepPleProjRefIdeal.nD Cert.StepPleProjRefIdeal.τ).loc Cert.StepPleProjRefIdeal.main_arg3) = m ((c.tc : Thread Cert.StepPleProjRefIdeal.nD Cert.StepPleProjRefIdeal.τ).loc Cert.StepPleProjRefIdeal.main_arg3)
      ∧ r.2.mem ((c.tc : Thread Cert.StepPleProjRefIdeal.nD Cert.StepPleProjRefIdeal.τ).loc Cert.StepPleProjRefIdeal.main_arg4) = m ((c.tc : Thread Cert.StepPleProjRefIdeal.nD Cert.StepPleProjRefIdeal.τ).loc Cert.StepPleProjRefIdeal.main_arg4)
      ∧ r.2.mem ((c.tc : Thread Cert.StepPleProjRefIdeal.nD Cert.StepPleProjRefIdeal.τ).loc Cert.StepPleProjRefIdeal.main_arg5) = m ((c.tc : Thread Cert.StepPleProjRefIdeal.nD Cert.StepPleProjRefIdeal.τ).loc Cert.StepPleProjRefIdeal.main_arg5)
      ∧ r.2.mem ((c.tc : Thread Cert.StepPleProjRefIdeal.nD Cert.StepPleProjRefIdeal.τ).loc Cert.StepPleProjRefIdeal.main_arg6) = m ((c.tc : Thread Cert.StepPleProjRefIdeal.nD Cert.StepPleProjRefIdeal.τ).loc Cert.StepPleProjRefIdeal.main_arg6))
      ∧ r.2.sem = fun _ => 0)

def quiescent_StepGlaIn [hStepGlaIn : Cert.StepGlaIn.Facts] : Prop :=
  ∀ (m : (ℓ : Loc Cert.StepGlaIn.nD Cert.StepGlaIn.τ Cert.StepGlaIn.sig) → Buf (Elt Bits) ℓ) (g : Dev Cert.StepGlaIn.nD → PrngReg), Pre_StepGlaIn m →
    θ_run (Cert.StepGlaIn.defs (F := Bits)) (onTc (τ := Cert.StepGlaIn.τ) (Cert.StepGlaIn.main (F := Bits))) ⟨m, fun _ => 0, g⟩ (fun r => (∀ c : Dev Cert.StepGlaIn.nD,
      r.2.mem ((c.tc : Thread Cert.StepGlaIn.nD Cert.StepGlaIn.τ).loc Cert.StepGlaIn.main_arg0) = m ((c.tc : Thread Cert.StepGlaIn.nD Cert.StepGlaIn.τ).loc Cert.StepGlaIn.main_arg0)
      ∧ r.2.mem ((c.tc : Thread Cert.StepGlaIn.nD Cert.StepGlaIn.τ).loc Cert.StepGlaIn.main_arg1) = m ((c.tc : Thread Cert.StepGlaIn.nD Cert.StepGlaIn.τ).loc Cert.StepGlaIn.main_arg1)
      ∧ r.2.mem ((c.tc : Thread Cert.StepGlaIn.nD Cert.StepGlaIn.τ).loc Cert.StepGlaIn.main_arg2) = m ((c.tc : Thread Cert.StepGlaIn.nD Cert.StepGlaIn.τ).loc Cert.StepGlaIn.main_arg2)
      ∧ r.2.mem ((c.tc : Thread Cert.StepGlaIn.nD Cert.StepGlaIn.τ).loc Cert.StepGlaIn.main_arg3) = m ((c.tc : Thread Cert.StepGlaIn.nD Cert.StepGlaIn.τ).loc Cert.StepGlaIn.main_arg3)
      ∧ r.2.mem ((c.tc : Thread Cert.StepGlaIn.nD Cert.StepGlaIn.τ).loc Cert.StepGlaIn.main_arg4) = m ((c.tc : Thread Cert.StepGlaIn.nD Cert.StepGlaIn.τ).loc Cert.StepGlaIn.main_arg4))
      ∧ r.2.sem = fun _ => 0)

def quiescent_StepGlaInIdeal [hStepGlaInIdeal : Cert.StepGlaInIdeal.Facts] : Prop :=
  ∀ (m : (ℓ : Loc Cert.StepGlaInIdeal.nD Cert.StepGlaInIdeal.τ Cert.StepGlaInIdeal.sig) → Buf (Elt Ideal) ℓ) (g : Dev Cert.StepGlaInIdeal.nD → PrngReg), Pre_StepGlaInIdeal m →
    θ_run (Cert.StepGlaInIdeal.defs (F := Ideal)) (onTc (τ := Cert.StepGlaInIdeal.τ) (Cert.StepGlaInIdeal.main (F := Ideal))) ⟨m, fun _ => 0, g⟩ (fun r => (∀ c : Dev Cert.StepGlaInIdeal.nD,
      r.2.mem ((c.tc : Thread Cert.StepGlaInIdeal.nD Cert.StepGlaInIdeal.τ).loc Cert.StepGlaInIdeal.main_arg0) = m ((c.tc : Thread Cert.StepGlaInIdeal.nD Cert.StepGlaInIdeal.τ).loc Cert.StepGlaInIdeal.main_arg0)
      ∧ r.2.mem ((c.tc : Thread Cert.StepGlaInIdeal.nD Cert.StepGlaInIdeal.τ).loc Cert.StepGlaInIdeal.main_arg1) = m ((c.tc : Thread Cert.StepGlaInIdeal.nD Cert.StepGlaInIdeal.τ).loc Cert.StepGlaInIdeal.main_arg1)
      ∧ r.2.mem ((c.tc : Thread Cert.StepGlaInIdeal.nD Cert.StepGlaInIdeal.τ).loc Cert.StepGlaInIdeal.main_arg2) = m ((c.tc : Thread Cert.StepGlaInIdeal.nD Cert.StepGlaInIdeal.τ).loc Cert.StepGlaInIdeal.main_arg2)
      ∧ r.2.mem ((c.tc : Thread Cert.StepGlaInIdeal.nD Cert.StepGlaInIdeal.τ).loc Cert.StepGlaInIdeal.main_arg3) = m ((c.tc : Thread Cert.StepGlaInIdeal.nD Cert.StepGlaInIdeal.τ).loc Cert.StepGlaInIdeal.main_arg3)
      ∧ r.2.mem ((c.tc : Thread Cert.StepGlaInIdeal.nD Cert.StepGlaInIdeal.τ).loc Cert.StepGlaInIdeal.main_arg4) = m ((c.tc : Thread Cert.StepGlaInIdeal.nD Cert.StepGlaInIdeal.τ).loc Cert.StepGlaInIdeal.main_arg4))
      ∧ r.2.sem = fun _ => 0)

def quiescent_StepGlaInRefIdeal [hStepGlaInRefIdeal : Cert.StepGlaInRefIdeal.Facts] : Prop :=
  ∀ (m : (ℓ : Loc Cert.StepGlaInRefIdeal.nD Cert.StepGlaInRefIdeal.τ Cert.StepGlaInRefIdeal.sig) → Buf (Elt Ideal) ℓ) (g : Dev Cert.StepGlaInRefIdeal.nD → PrngReg), Pre_StepGlaInRefIdeal m →
    θ_run (Cert.StepGlaInRefIdeal.defs (F := Ideal)) (onTc (τ := Cert.StepGlaInRefIdeal.τ) (Cert.StepGlaInRefIdeal.main (F := Ideal))) ⟨m, fun _ => 0, g⟩ (fun r => (∀ c : Dev Cert.StepGlaInRefIdeal.nD,
      r.2.mem ((c.tc : Thread Cert.StepGlaInRefIdeal.nD Cert.StepGlaInRefIdeal.τ).loc Cert.StepGlaInRefIdeal.main_arg0) = m ((c.tc : Thread Cert.StepGlaInRefIdeal.nD Cert.StepGlaInRefIdeal.τ).loc Cert.StepGlaInRefIdeal.main_arg0)
      ∧ r.2.mem ((c.tc : Thread Cert.StepGlaInRefIdeal.nD Cert.StepGlaInRefIdeal.τ).loc Cert.StepGlaInRefIdeal.main_arg1) = m ((c.tc : Thread Cert.StepGlaInRefIdeal.nD Cert.StepGlaInRefIdeal.τ).loc Cert.StepGlaInRefIdeal.main_arg1)
      ∧ r.2.mem ((c.tc : Thread Cert.StepGlaInRefIdeal.nD Cert.StepGlaInRefIdeal.τ).loc Cert.StepGlaInRefIdeal.main_arg2) = m ((c.tc : Thread Cert.StepGlaInRefIdeal.nD Cert.StepGlaInRefIdeal.τ).loc Cert.StepGlaInRefIdeal.main_arg2)
      ∧ r.2.mem ((c.tc : Thread Cert.StepGlaInRefIdeal.nD Cert.StepGlaInRefIdeal.τ).loc Cert.StepGlaInRefIdeal.main_arg3) = m ((c.tc : Thread Cert.StepGlaInRefIdeal.nD Cert.StepGlaInRefIdeal.τ).loc Cert.StepGlaInRefIdeal.main_arg3)
      ∧ r.2.mem ((c.tc : Thread Cert.StepGlaInRefIdeal.nD Cert.StepGlaInRefIdeal.τ).loc Cert.StepGlaInRefIdeal.main_arg4) = m ((c.tc : Thread Cert.StepGlaInRefIdeal.nD Cert.StepGlaInRefIdeal.τ).loc Cert.StepGlaInRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)) (v3 : (c : Dev Cert.KernelIdeal.nD) → Buf (Elt Ideal) ((c.tc : Thread Cert.KernelIdeal.nD Cert.KernelIdeal.τ).loc Cert.KernelIdeal.main_v36_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_v36_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_v13) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v5_0)) (v1 : (c : Dev Cert.DownIdeal.nD) → Buf (Elt Ideal) ((c.tc : Thread Cert.DownIdeal.nD Cert.DownIdeal.τ).loc Cert.DownIdeal.main_v5_1)) (v2 : (c : Dev Cert.DownIdeal.nD) → Buf (Elt Ideal) ((c.tc : Thread Cert.DownIdeal.nD Cert.DownIdeal.τ).loc Cert.DownIdeal.main_v5_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5_0) = v0 c
          ∧ r.2.mem ((c.tc : Thread Cert.DownIdeal.nD Cert.DownIdeal.τ).loc Cert.DownIdeal.main_v5_1) = v1 c
          ∧ r.2.mem ((c.tc : Thread Cert.DownIdeal.nD Cert.DownIdeal.τ).loc Cert.DownIdeal.main_v5_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v28) = v0 c
          ∧ r.2.mem ((c.tc : Thread Cert.DownRefIdeal.nD Cert.DownRefIdeal.τ).loc Cert.DownRefIdeal.main_v29) = v1 c
          ∧ r.2.mem ((c.tc : Thread Cert.DownRefIdeal.nD Cert.DownRefIdeal.τ).loc Cert.DownRefIdeal.main_v6) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)
      ∧ m' ((c.tc : Thread Cert.DownDwRefIdeal.nD Cert.DownDwRefIdeal.τ).loc Cert.DownDwRefIdeal.main_arg3) = m ((c.tc : Thread Cert.DownDwIdeal.nD Cert.DownDwIdeal.τ).loc Cert.DownDwIdeal.main_arg3)) →
    ∃ (v0 : (c : Dev Cert.DownDwIdeal.nD) → Buf (Elt Ideal) ((c.tc : Thread Cert.DownDwIdeal.nD Cert.DownDwIdeal.τ).loc Cert.DownDwIdeal.main_v5)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v5) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2)
          ∧ r.2.mem ((c.tc : Thread Cert.DownDwIdeal.nD Cert.DownDwIdeal.τ).loc Cert.DownDwIdeal.main_arg3) = m ((c.tc : Thread Cert.DownDwIdeal.nD Cert.DownDwIdeal.τ).loc Cert.DownDwIdeal.main_arg3))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2)
          ∧ r.2.mem ((c.tc : Thread Cert.DownDwRefIdeal.nD Cert.DownDwRefIdeal.τ).loc Cert.DownDwRefIdeal.main_arg3) = m' ((c.tc : Thread Cert.DownDwRefIdeal.nD Cert.DownDwRefIdeal.τ).loc Cert.DownDwRefIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)
      ∧ m' ((c.tc : Thread Cert.DownDxRefIdeal.nD Cert.DownDxRefIdeal.τ).loc Cert.DownDxRefIdeal.main_arg3) = m ((c.tc : Thread Cert.DownDxIdeal.nD Cert.DownDxIdeal.τ).loc Cert.DownDxIdeal.main_arg3)) →
    ∃ (v0 : (c : Dev Cert.DownDxIdeal.nD) → Buf (Elt Ideal) ((c.tc : Thread Cert.DownDxIdeal.nD Cert.DownDxIdeal.τ).loc Cert.DownDxIdeal.main_v7)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v7) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
          ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v13) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2)
          ∧ r.2.mem ((c.tc : Thread Cert.DownDxRefIdeal.nD Cert.DownDxRefIdeal.τ).loc Cert.DownDxRefIdeal.main_arg3) = m' ((c.tc : Thread Cert.DownDxRefIdeal.nD Cert.DownDxRefIdeal.τ).loc Cert.DownDxRefIdeal.main_arg3))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)
      ∧ m' ((c.tc : Thread Cert.UpDwRefIdeal.nD Cert.UpDwRefIdeal.τ).loc Cert.UpDwRefIdeal.main_arg3) = m ((c.tc : Thread Cert.UpDwIdeal.nD Cert.UpDwIdeal.τ).loc Cert.UpDwIdeal.main_arg3)) →
    ∃ (v0 : (c : Dev Cert.UpDwIdeal.nD) → Buf (Elt Ideal) ((c.tc : Thread Cert.UpDwIdeal.nD Cert.UpDwIdeal.τ).loc Cert.UpDwIdeal.main_v15)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v15) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
          ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v17) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2)
          ∧ r.2.mem ((c.tc : Thread Cert.UpDwRefIdeal.nD Cert.UpDwRefIdeal.τ).loc Cert.UpDwRefIdeal.main_arg3) = m' ((c.tc : Thread Cert.UpDwRefIdeal.nD Cert.UpDwRefIdeal.τ).loc Cert.UpDwRefIdeal.main_arg3))

def preserves_GlaIn_GlaInIdeal : Prop :=
  True

def algebraic_GlaInIdeal_GlaInRefIdeal [hGlaInIdeal : Cert.GlaInIdeal.Facts] [hGlaInRefIdeal : Cert.GlaInRefIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInRefIdeal.nD Cert.GlaInRefIdeal.τ Cert.GlaInRefIdeal.sig) → Buf (Elt Ideal) ℓ) (g' : Dev Cert.GlaInRefIdeal.nD → PrngReg), Pre_GlaInIdeal m →
    (∀ c : Dev Cert.GlaInIdeal.nD,
      m' ((c.tc : Thread Cert.GlaInRefIdeal.nD Cert.GlaInRefIdeal.τ).loc Cert.GlaInRefIdeal.main_arg0) = m ((c.tc : Thread Cert.GlaInIdeal.nD Cert.GlaInIdeal.τ).loc Cert.GlaInIdeal.main_arg0)
      ∧ m' ((c.tc : Thread Cert.GlaInRefIdeal.nD Cert.GlaInRefIdeal.τ).loc Cert.GlaInRefIdeal.main_arg1) = m ((c.tc : Thread Cert.GlaInIdeal.nD Cert.GlaInIdeal.τ).loc Cert.GlaInIdeal.main_arg1)) →
    ∃ (v0 : (c : Dev Cert.GlaInIdeal.nD) → Buf (Elt Ideal) ((c.tc : Thread Cert.GlaInIdeal.nD Cert.GlaInIdeal.τ).loc Cert.GlaInIdeal.main_v4)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v4) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ θ_run (Cert.GlaInRefIdeal.defs (F := Ideal)) (onTc (τ := Cert.GlaInRefIdeal.τ) (Cert.GlaInRefIdeal.main (F := Ideal))) ⟨m', fun _ => 0, g'⟩ (fun r => ∀ c : Dev Cert.GlaInRefIdeal.nD,
          r.2.mem ((c.tc : Thread Cert.GlaInRefIdeal.nD Cert.GlaInRefIdeal.τ).loc Cert.GlaInRefIdeal.main_v1) = v0 c
          ∧ r.2.mem ((c.tc : Thread Cert.GlaInRefIdeal.nD Cert.GlaInRefIdeal.τ).loc Cert.GlaInRefIdeal.main_arg0) = m' ((c.tc : Thread Cert.GlaInRefIdeal.nD Cert.GlaInRefIdeal.τ).loc Cert.GlaInRefIdeal.main_arg0)
          ∧ r.2.mem ((c.tc : Thread Cert.GlaInRefIdeal.nD Cert.GlaInRefIdeal.τ).loc Cert.GlaInRefIdeal.main_arg1) = m' ((c.tc : Thread Cert.GlaInRefIdeal.nD Cert.GlaInRefIdeal.τ).loc Cert.GlaInRefIdeal.main_arg1))

def preserves_GlaInDw_GlaInDwIdeal : Prop :=
  True

def algebraic_GlaInDwIdeal_GlaInDwRefIdeal [hGlaInDwIdeal : Cert.GlaInDwIdeal.Facts] [hGlaInDwRefIdeal : Cert.GlaInDwRefIdeal.Facts] : Prop :=
  ∀ (m : (ℓ : Loc Cert.GlaInDwIdeal.nD Cert.GlaInDwIdeal.τ Cert.GlaInDwIdeal.sig) → Buf (Elt Ideal) ℓ) (g : Dev Cert.GlaInDwIdeal.nD → PrngReg)
    (m' : (ℓ : Loc Cert.GlaInDwRefIdeal.nD Cert.GlaInDwRefIdeal.τ Cert.GlaInDwRefIdeal.sig) → Buf (Elt Ideal) ℓ) (g' : Dev Cert.GlaInDwRefIdeal.nD → PrngReg), Pre_GlaInDwIdeal m →
    (∀ c : Dev Cert.GlaInDwIdeal.nD,
      m' ((c.tc : Thread Cert.GlaInDwRefIdeal.nD Cert.GlaInDwRefIdeal.τ).loc Cert.GlaInDwRefIdeal.main_arg0) = m ((c.tc : Thread Cert.GlaInDwIdeal.nD Cert.GlaInDwIdeal.τ).loc Cert.GlaInDwIdeal.main_arg0)
      ∧ m' ((c.tc : Thread Cert.GlaInDwRefIdeal.nD Cert.GlaInDwRefIdeal.τ).loc Cert.GlaInDwRefIdeal.main_arg1) = m ((c.tc : Thread Cert.GlaInDwIdeal.nD Cert.GlaInDwIdeal.τ).loc Cert.GlaInDwIdeal.main_arg1)
      ∧ m' ((c.tc : Thread Cert.GlaInDwRefIdeal.nD Cert.GlaInDwRefIdeal.τ).loc Cert.GlaInDwRefIdeal.main_arg2) = m ((c.tc : Thread Cert.GlaInDwIdeal.nD Cert.GlaInDwIdeal.τ).loc Cert.GlaInDwIdeal.main_arg2)) →
    ∃ (v0 : (c : Dev Cert.GlaInDwIdeal.nD) → Buf (Elt Ideal) ((c.tc : Thread Cert.GlaInDwIdeal.nD Cert.GlaInDwIdeal.τ).loc Cert.GlaInDwIdeal.main_v3)),
      θ_run (Cert.GlaInDwIdeal.defs (F := Ideal)) (onTc (τ := Cert.GlaInDwIdeal.τ) (Cert.GlaInDwIdeal.main (F := Ideal))) ⟨m, fun _ => 0, g⟩ (fun r => ∀ c : Dev Cert.GlaInDwIdeal.nD,
          r.2.mem ((c.tc : Thread Cert.GlaInDwIdeal.nD Cert.GlaInDwIdeal.τ).loc Cert.GlaInDwIdeal.main_v3) = v0 c
          ∧ r.2.mem ((c.tc : Thread Cert.GlaInDwIdeal.nD Cert.GlaInDwIdeal.τ).loc Cert.GlaInDwIdeal.main_arg0) = m ((c.tc : Thread Cert.GlaInDwIdeal.nD Cert.GlaInDwIdeal.τ).loc Cert.GlaInDwIdeal.main_arg0)
          ∧ r.2.mem ((c.tc : Thread Cert.GlaInDwIdeal.nD Cert.GlaInDwIdeal.τ).loc Cert.GlaInDwIdeal.main_arg1) = m ((c.tc : Thread Cert.GlaInDwIdeal.nD Cert.GlaInDwIdeal.τ).loc Cert.GlaInDwIdeal.main_arg1)
          ∧ r.2.mem ((c.tc : Thread Cert.GlaInDwIdeal.nD Cert.GlaInDwIdeal.τ).loc Cert.GlaInDwIdeal.main_arg2) = m ((c.tc : Thread Cert.GlaInDwIdeal.nD Cert.GlaInDwIdeal.τ).loc Cert.GlaInDwIdeal.main_arg2))
      ∧ θ_run (Cert.GlaInDwRefIdeal.defs (F := Ideal)) (onTc (τ := Cert.GlaInDwRefIdeal.τ) (Cert.GlaInDwRefIdeal.main (F := Ideal))) ⟨m', fun _ => 0, g'⟩ (fun r => ∀ c : Dev Cert.GlaInDwRefIdeal.nD,
          r.2.mem ((c.tc : Thread Cert.GlaInDwRefIdeal.nD Cert.GlaInDwRefIdeal.τ).loc Cert.GlaInDwRefIdeal.main_v5) = v0 c
          ∧ r.2.mem ((c.tc : Thread Cert.GlaInDwRefIdeal.nD Cert.GlaInDwRefIdeal.τ).loc Cert.GlaInDwRefIdeal.main_arg0) = m' ((c.tc : Thread Cert.GlaInDwRefIdeal.nD Cert.GlaInDwRefIdeal.τ).loc Cert.GlaInDwRefIdeal.main_arg0)
          ∧ r.2.mem ((c.tc : Thread Cert.GlaInDwRefIdeal.nD Cert.GlaInDwRefIdeal.τ).loc Cert.GlaInDwRefIdeal.main_arg1) = m' ((c.tc : Thread Cert.GlaInDwRefIdeal.nD Cert.GlaInDwRefIdeal.τ).loc Cert.GlaInDwRefIdeal.main_arg1)
          ∧ r.2.mem ((c.tc : Thread Cert.GlaInDwRefIdeal.nD Cert.GlaInDwRefIdeal.τ).loc Cert.GlaInDwRefIdeal.main_arg2) = m' ((c.tc : Thread Cert.GlaInDwRefIdeal.nD Cert.GlaInDwRefIdeal.τ).loc Cert.GlaInDwRefIdeal.main_arg2))

def preserves_GlaInDx_GlaInDxIdeal : Prop :=
  True

def algebraic_GlaInDxIdeal_GlaInDxRefIdeal [hGlaInDxIdeal : Cert.GlaInDxIdeal.Facts] [hGlaInDxRefIdeal : Cert.GlaInDxRefIdeal.Facts] : Prop :=
  ∀ (m : (ℓ : Loc Cert.GlaInDxIdeal.nD Cert.GlaInDxIdeal.τ Cert.GlaInDxIdeal.sig) → Buf (Elt Ideal) ℓ) (g : Dev Cert.GlaInDxIdeal.nD → PrngReg)
    (m' : (ℓ : Loc Cert.GlaInDxRefIdeal.nD Cert.GlaInDxRefIdeal.τ Cert.GlaInDxRefIdeal.sig) → Buf (Elt Ideal) ℓ) (g' : Dev Cert.GlaInDxRefIdeal.nD → PrngReg), Pre_GlaInDxIdeal m →
    (∀ c : Dev Cert.GlaInDxIdeal.nD,
      m' ((c.tc : Thread Cert.GlaInDxRefIdeal.nD Cert.GlaInDxRefIdeal.τ).loc Cert.GlaInDxRefIdeal.main_arg0) = m ((c.tc : Thread Cert.GlaInDxIdeal.nD Cert.GlaInDxIdeal.τ).loc Cert.GlaInDxIdeal.main_arg0)
      ∧ m' ((c.tc : Thread Cert.GlaInDxRefIdeal.nD Cert.GlaInDxRefIdeal.τ).loc Cert.GlaInDxRefIdeal.main_arg1) = m ((c.tc : Thread Cert.GlaInDxIdeal.nD Cert.GlaInDxIdeal.τ).loc Cert.GlaInDxIdeal.main_arg1)
      ∧ m' ((c.tc : Thread Cert.GlaInDxRefIdeal.nD Cert.GlaInDxRefIdeal.τ).loc Cert.GlaInDxRefIdeal.main_arg2) = m ((c.tc : Thread Cert.GlaInDxIdeal.nD Cert.GlaInDxIdeal.τ).loc Cert.GlaInDxIdeal.main_arg2)
      ∧ m' ((c.tc : Thread Cert.GlaInDxRefIdeal.nD Cert.GlaInDxRefIdeal.τ).loc Cert.GlaInDxRefIdeal.main_arg3) = m ((c.tc : Thread Cert.GlaInDxIdeal.nD Cert.GlaInDxIdeal.τ).loc Cert.GlaInDxIdeal.main_arg3)) →
    ∃ (v0 : (c : Dev Cert.GlaInDxIdeal.nD) → Buf (Elt Ideal) ((c.tc : Thread Cert.GlaInDxIdeal.nD Cert.GlaInDxIdeal.τ).loc Cert.GlaInDxIdeal.main_v5)),
      θ_run (Cert.GlaInDxIdeal.defs (F := Ideal)) (onTc (τ := Cert.GlaInDxIdeal.τ) (Cert.GlaInDxIdeal.main (F := Ideal))) ⟨m, fun _ => 0, g⟩ (fun r => ∀ c : Dev Cert.GlaInDxIdeal.nD,
          r.2.mem ((c.tc : Thread Cert.GlaInDxIdeal.nD Cert.GlaInDxIdeal.τ).loc Cert.GlaInDxIdeal.main_v5) = v0 c
          ∧ r.2.mem ((c.tc : Thread Cert.GlaInDxIdeal.nD Cert.GlaInDxIdeal.τ).loc Cert.GlaInDxIdeal.main_arg0) = m ((c.tc : Thread Cert.GlaInDxIdeal.nD Cert.GlaInDxIdeal.τ).loc Cert.GlaInDxIdeal.main_arg0)
          ∧ r.2.mem ((c.tc : Thread Cert.GlaInDxIdeal.nD Cert.GlaInDxIdeal.τ).loc Cert.GlaInDxIdeal.main_arg1) = m ((c.tc : Thread Cert.GlaInDxIdeal.nD Cert.GlaInDxIdeal.τ).loc Cert.GlaInDxIdeal.main_arg1)
          ∧ r.2.mem ((c.tc : Thread Cert.GlaInDxIdeal.nD Cert.GlaInDxIdeal.τ).loc Cert.GlaInDxIdeal.main_arg2) = m ((c.tc : Thread Cert.GlaInDxIdeal.nD Cert.GlaInDxIdeal.τ).loc Cert.GlaInDxIdeal.main_arg2)
          ∧ r.2.mem ((c.tc : Thread Cert.GlaInDxIdeal.nD Cert.GlaInDxIdeal.τ).loc Cert.GlaInDxIdeal.main_arg3) = m ((c.tc : Thread Cert.GlaInDxIdeal.nD Cert.GlaInDxIdeal.τ).loc Cert.GlaInDxIdeal.main_arg3))
      ∧ θ_run (Cert.GlaInDxRefIdeal.defs (F := Ideal)) (onTc (τ := Cert.GlaInDxRefIdeal.τ) (Cert.GlaInDxRefIdeal.main (F := Ideal))) ⟨m', fun _ => 0, g'⟩ (fun r => ∀ c : Dev Cert.GlaInDxRefIdeal.nD,
          r.2.mem ((c.tc : Thread Cert.GlaInDxRefIdeal.nD Cert.GlaInDxRefIdeal.τ).loc Cert.GlaInDxRefIdeal.main_v8) = v0 c
          ∧ r.2.mem ((c.tc : Thread Cert.GlaInDxRefIdeal.nD Cert.GlaInDxRefIdeal.τ).loc Cert.GlaInDxRefIdeal.main_arg0) = m' ((c.tc : Thread Cert.GlaInDxRefIdeal.nD Cert.GlaInDxRefIdeal.τ).loc Cert.GlaInDxRefIdeal.main_arg0)
          ∧ r.2.mem ((c.tc : Thread Cert.GlaInDxRefIdeal.nD Cert.GlaInDxRefIdeal.τ).loc Cert.GlaInDxRefIdeal.main_arg1) = m' ((c.tc : Thread Cert.GlaInDxRefIdeal.nD Cert.GlaInDxRefIdeal.τ).loc Cert.GlaInDxRefIdeal.main_arg1)
          ∧ r.2.mem ((c.tc : Thread Cert.GlaInDxRefIdeal.nD Cert.GlaInDxRefIdeal.τ).loc Cert.GlaInDxRefIdeal.main_arg2) = m' ((c.tc : Thread Cert.GlaInDxRefIdeal.nD Cert.GlaInDxRefIdeal.τ).loc Cert.GlaInDxRefIdeal.main_arg2)
          ∧ r.2.mem ((c.tc : Thread Cert.GlaInDxRefIdeal.nD Cert.GlaInDxRefIdeal.τ).loc Cert.GlaInDxRefIdeal.main_arg3) = m' ((c.tc : Thread Cert.GlaInDxRefIdeal.nD Cert.GlaInDxRefIdeal.τ).loc Cert.GlaInDxRefIdeal.main_arg3))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)) →
    ∃ (v0 : (c : Dev Cert.ConvInIdeal.nD) → Buf (Elt Ideal) ((c.tc : Thread Cert.ConvInIdeal.nD Cert.ConvInIdeal.τ).loc Cert.ConvInIdeal.main_v4)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v4) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v0) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1))

def preserves_ConvInDw_ConvInDwIdeal : Prop :=
  True

def algebraic_ConvInDwIdeal_ConvInDwRefIdeal [hConvInDwIdeal : Cert.ConvInDwIdeal.Facts] [hConvInDwRefIdeal : Cert.ConvInDwRefIdeal.Facts] : Prop :=
  ∀ (m : (ℓ : Loc Cert.ConvInDwIdeal.nD Cert.ConvInDwIdeal.τ Cert.ConvInDwIdeal.sig) → Buf (Elt Ideal) ℓ) (g : Dev Cert.ConvInDwIdeal.nD → PrngReg)
    (m' : (ℓ : Loc Cert.ConvInDwRefIdeal.nD Cert.ConvInDwRefIdeal.τ Cert.ConvInDwRefIdeal.sig) → Buf (Elt Ideal) ℓ) (g' : Dev Cert.ConvInDwRefIdeal.nD → PrngReg), Pre_ConvInDwIdeal m →
    (∀ c : Dev Cert.ConvInDwIdeal.nD,
      m' ((c.tc : Thread Cert.ConvInDwRefIdeal.nD Cert.ConvInDwRefIdeal.τ).loc Cert.ConvInDwRefIdeal.main_arg0) = m ((c.tc : Thread Cert.ConvInDwIdeal.nD Cert.ConvInDwIdeal.τ).loc Cert.ConvInDwIdeal.main_arg0)
      ∧ m' ((c.tc : Thread Cert.ConvInDwRefIdeal.nD Cert.ConvInDwRefIdeal.τ).loc Cert.ConvInDwRefIdeal.main_arg1) = m ((c.tc : Thread Cert.ConvInDwIdeal.nD Cert.ConvInDwIdeal.τ).loc Cert.ConvInDwIdeal.main_arg1)
      ∧ m' ((c.tc : Thread Cert.ConvInDwRefIdeal.nD Cert.ConvInDwRefIdeal.τ).loc Cert.ConvInDwRefIdeal.main_arg2) = m ((c.tc : Thread Cert.ConvInDwIdeal.nD Cert.ConvInDwIdeal.τ).loc Cert.ConvInDwIdeal.main_arg2)) →
    ∃ (v0 : (c : Dev Cert.ConvInDwIdeal.nD) → Buf (Elt Ideal) ((c.tc : Thread Cert.ConvInDwIdeal.nD Cert.ConvInDwIdeal.τ).loc Cert.ConvInDwIdeal.main_v2)),
      θ_run (Cert.ConvInDwIdeal.defs (F := Ideal)) (onTc (τ := Cert.ConvInDwIdeal.τ) (Cert.ConvInDwIdeal.main (F := Ideal))) ⟨m, fun _ => 0, g⟩ (fun r => ∀ c : Dev Cert.ConvInDwIdeal.nD,
          r.2.mem ((c.tc : Thread Cert.ConvInDwIdeal.nD Cert.ConvInDwIdeal.τ).loc Cert.ConvInDwIdeal.main_v2) = v0 c
          ∧ r.2.mem ((c.tc : Thread Cert.ConvInDwIdeal.nD Cert.ConvInDwIdeal.τ).loc Cert.ConvInDwIdeal.main_arg0) = m ((c.tc : Thread Cert.ConvInDwIdeal.nD Cert.ConvInDwIdeal.τ).loc Cert.ConvInDwIdeal.main_arg0)
          ∧ r.2.mem ((c.tc : Thread Cert.ConvInDwIdeal.nD Cert.ConvInDwIdeal.τ).loc Cert.ConvInDwIdeal.main_arg1) = m ((c.tc : Thread Cert.ConvInDwIdeal.nD Cert.ConvInDwIdeal.τ).loc Cert.ConvInDwIdeal.main_arg1)
          ∧ r.2.mem ((c.tc : Thread Cert.ConvInDwIdeal.nD Cert.ConvInDwIdeal.τ).loc Cert.ConvInDwIdeal.main_arg2) = m ((c.tc : Thread Cert.ConvInDwIdeal.nD Cert.ConvInDwIdeal.τ).loc Cert.ConvInDwIdeal.main_arg2))
      ∧ θ_run (Cert.ConvInDwRefIdeal.defs (F := Ideal)) (onTc (τ := Cert.ConvInDwRefIdeal.τ) (Cert.ConvInDwRefIdeal.main (F := Ideal))) ⟨m', fun _ => 0, g'⟩ (fun r => ∀ c : Dev Cert.ConvInDwRefIdeal.nD,
          r.2.mem ((c.tc : Thread Cert.ConvInDwRefIdeal.nD Cert.ConvInDwRefIdeal.τ).loc Cert.ConvInDwRefIdeal.main_v6) = v0 c
          ∧ r.2.mem ((c.tc : Thread Cert.ConvInDwRefIdeal.nD Cert.ConvInDwRefIdeal.τ).loc Cert.ConvInDwRefIdeal.main_arg0) = m' ((c.tc : Thread Cert.ConvInDwRefIdeal.nD Cert.ConvInDwRefIdeal.τ).loc Cert.ConvInDwRefIdeal.main_arg0)
          ∧ r.2.mem ((c.tc : Thread Cert.ConvInDwRefIdeal.nD Cert.ConvInDwRefIdeal.τ).loc Cert.ConvInDwRefIdeal.main_arg1) = m' ((c.tc : Thread Cert.ConvInDwRefIdeal.nD Cert.ConvInDwRefIdeal.τ).loc Cert.ConvInDwRefIdeal.main_arg1)
          ∧ r.2.mem ((c.tc : Thread Cert.ConvInDwRefIdeal.nD Cert.ConvInDwRefIdeal.τ).loc Cert.ConvInDwRefIdeal.main_arg2) = m' ((c.tc : Thread Cert.ConvInDwRefIdeal.nD Cert.ConvInDwRefIdeal.τ).loc Cert.ConvInDwRefIdeal.main_arg2))

def preserves_ConvInDx_ConvInDxIdeal : Prop :=
  True

def algebraic_ConvInDxIdeal_ConvInDxRefIdeal [hConvInDxIdeal : Cert.ConvInDxIdeal.Facts] [hConvInDxRefIdeal : Cert.ConvInDxRefIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg)
    (m' : (ℓ : Loc Cert.ConvInDxRefIdeal.nD Cert.ConvInDxRefIdeal.τ Cert.ConvInDxRefIdeal.sig) → Buf (Elt Ideal) ℓ) (g' : Dev Cert.ConvInDxRefIdeal.nD → PrngReg), Pre_ConvInDxIdeal m →
    (∀ c : Dev Cert.ConvInDxIdeal.nD,
      m' ((c.tc : Thread Cert.ConvInDxRefIdeal.nD Cert.ConvInDxRefIdeal.τ).loc Cert.ConvInDxRefIdeal.main_arg0) = m ((c.tc : Thread Cert.ConvInDxIdeal.nD Cert.ConvInDxIdeal.τ).loc Cert.ConvInDxIdeal.main_arg0)
      ∧ m' ((c.tc : Thread Cert.ConvInDxRefIdeal.nD Cert.ConvInDxRefIdeal.τ).loc Cert.ConvInDxRefIdeal.main_arg1) = m ((c.tc : Thread Cert.ConvInDxIdeal.nD Cert.ConvInDxIdeal.τ).loc Cert.ConvInDxIdeal.main_arg1)
      ∧ m' ((c.tc : Thread Cert.ConvInDxRefIdeal.nD Cert.ConvInDxRefIdeal.τ).loc Cert.ConvInDxRefIdeal.main_arg2) = m ((c.tc : Thread Cert.ConvInDxIdeal.nD Cert.ConvInDxIdeal.τ).loc Cert.ConvInDxIdeal.main_arg2)
      ∧ m' ((c.tc : Thread Cert.ConvInDxRefIdeal.nD Cert.ConvInDxRefIdeal.τ).loc Cert.ConvInDxRefIdeal.main_arg3) = m ((c.tc : Thread Cert.ConvInDxIdeal.nD Cert.ConvInDxIdeal.τ).loc Cert.ConvInDxIdeal.main_arg3)
      ∧ m' ((c.tc : Thread Cert.ConvInDxRefIdeal.nD Cert.ConvInDxRefIdeal.τ).loc Cert.ConvInDxRefIdeal.main_arg4) = m ((c.tc : Thread Cert.ConvInDxIdeal.nD Cert.ConvInDxIdeal.τ).loc Cert.ConvInDxIdeal.main_arg4)
      ∧ m' ((c.tc : Thread Cert.ConvInDxRefIdeal.nD Cert.ConvInDxRefIdeal.τ).loc Cert.ConvInDxRefIdeal.main_arg5) = m ((c.tc : Thread Cert.ConvInDxIdeal.nD Cert.ConvInDxIdeal.τ).loc Cert.ConvInDxIdeal.main_arg5)) →
    ∃ (v0 : (c : Dev Cert.ConvInDxIdeal.nD) → Buf (Elt Ideal) ((c.tc : Thread Cert.ConvInDxIdeal.nD Cert.ConvInDxIdeal.τ).loc Cert.ConvInDxIdeal.main_v4_0)) (v1 : (c : Dev Cert.ConvInDxIdeal.nD) → Buf (Elt Ideal) ((c.tc : Thread Cert.ConvInDxIdeal.nD Cert.ConvInDxIdeal.τ).loc Cert.ConvInDxIdeal.main_v4_1)) (v2 : (c : Dev Cert.ConvInDxIdeal.nD) → Buf (Elt Ideal) ((c.tc : Thread Cert.ConvInDxIdeal.nD Cert.ConvInDxIdeal.τ).loc Cert.ConvInDxIdeal.main_v4_2)),
      θ_run (Cert.ConvInDxIdeal.defs (F := Ideal)) (onTc (τ := Cert.ConvInDxIdeal.τ) (Cert.ConvInDxIdeal.main (F := Ideal))) ⟨m, fun _ => 0, g⟩ (fun r => ∀ c : Dev Cert.ConvInDxIdeal.nD,
          r.2.mem ((c.tc : Thread Cert.ConvInDxIdeal.nD Cert.ConvInDxIdeal.τ).loc Cert.ConvInDxIdeal.main_v4_0) = v0 c
          ∧ r.2.mem ((c.tc : Thread Cert.ConvInDxIdeal.nD Cert.ConvInDxIdeal.τ).loc Cert.ConvInDxIdeal.main_v4_1) = v1 c
          ∧ r.2.mem ((c.tc : Thread Cert.ConvInDxIdeal.nD Cert.ConvInDxIdeal.τ).loc Cert.ConvInDxIdeal.main_v4_2) = v2 c
          ∧ r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
          ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1)
          ∧ r.2.mem ((c.tc : Thread Cert.ConvInDxIdeal.nD Cert.ConvInDxIdeal.τ).loc Cert.ConvInDxIdeal.main_arg2) = m ((c.tc : Thread Cert.ConvInDxIdeal.nD Cert.ConvInDxIdeal.τ).loc Cert.ConvInDxIdeal.main_arg2)
          ∧ r.2.mem ((c.tc : Thread Cert.ConvInDxIdeal.nD Cert.ConvInDxIdeal.τ).loc Cert.ConvInDxIdeal.main_arg3) = m ((c.tc : Thread Cert.ConvInDxIdeal.nD Cert.ConvInDxIdeal.τ).loc Cert.ConvInDxIdeal.main_arg3)
          ∧ r.2.mem ((c.tc : Thread Cert.ConvInDxIdeal.nD Cert.ConvInDxIdeal.τ).loc Cert.ConvInDxIdeal.main_arg4) = m ((c.tc : Thread Cert.ConvInDxIdeal.nD Cert.ConvInDxIdeal.τ).loc Cert.ConvInDxIdeal.main_arg4)
          ∧ r.2.mem ((c.tc : Thread Cert.ConvInDxIdeal.nD Cert.ConvInDxIdeal.τ).loc Cert.ConvInDxIdeal.main_arg5) = m ((c.tc : Thread Cert.ConvInDxIdeal.nD Cert.ConvInDxIdeal.τ).loc Cert.ConvInDxIdeal.main_arg5))
      ∧ θ_run (Cert.ConvInDxRefIdeal.defs (F := Ideal)) (onTc (τ := Cert.ConvInDxRefIdeal.τ) (Cert.ConvInDxRefIdeal.main (F := Ideal))) ⟨m', fun _ => 0, g'⟩ (fun r => ∀ c : Dev Cert.ConvInDxRefIdeal.nD,
          r.2.mem ((c.tc : Thread Cert.ConvInDxRefIdeal.nD Cert.ConvInDxRefIdeal.τ).loc Cert.ConvInDxRefIdeal.main_v8) = v0 c
          ∧ r.2.mem ((c.tc : Thread Cert.ConvInDxRefIdeal.nD Cert.ConvInDxRefIdeal.τ).loc Cert.ConvInDxRefIdeal.main_v22) = v1 c
          ∧ r.2.mem ((c.tc : Thread Cert.ConvInDxRefIdeal.nD Cert.ConvInDxRefIdeal.τ).loc Cert.ConvInDxRefIdeal.main_v23) = v2 c
          ∧ r.2.mem ((c.tc : Thread Cert.ConvInDxRefIdeal.nD Cert.ConvInDxRefIdeal.τ).loc Cert.ConvInDxRefIdeal.main_arg0) = m' ((c.tc : Thread Cert.ConvInDxRefIdeal.nD Cert.ConvInDxRefIdeal.τ).loc Cert.ConvInDxRefIdeal.main_arg0)
          ∧ r.2.mem ((c.tc : Thread Cert.ConvInDxRefIdeal.nD Cert.ConvInDxRefIdeal.τ).loc Cert.ConvInDxRefIdeal.main_arg1) = m' ((c.tc : Thread Cert.ConvInDxRefIdeal.nD Cert.ConvInDxRefIdeal.τ).loc Cert.ConvInDxRefIdeal.main_arg1)
          ∧ r.2.mem ((c.tc : Thread Cert.ConvInDxRefIdeal.nD Cert.ConvInDxRefIdeal.τ).loc Cert.ConvInDxRefIdeal.main_arg2) = m' ((c.tc : Thread Cert.ConvInDxRefIdeal.nD Cert.ConvInDxRefIdeal.τ).loc Cert.ConvInDxRefIdeal.main_arg2)
          ∧ r.2.mem ((c.tc : Thread Cert.ConvInDxRefIdeal.nD Cert.ConvInDxRefIdeal.τ).loc Cert.ConvInDxRefIdeal.main_arg3) = m' ((c.tc : Thread Cert.ConvInDxRefIdeal.nD Cert.ConvInDxRefIdeal.τ).loc Cert.ConvInDxRefIdeal.main_arg3)
          ∧ r.2.mem ((c.tc : Thread Cert.ConvInDxRefIdeal.nD Cert.ConvInDxRefIdeal.τ).loc Cert.ConvInDxRefIdeal.main_arg4) = m' ((c.tc : Thread Cert.ConvInDxRefIdeal.nD Cert.ConvInDxRefIdeal.τ).loc Cert.ConvInDxRefIdeal.main_arg4)
          ∧ r.2.mem ((c.tc : Thread Cert.ConvInDxRefIdeal.nD Cert.ConvInDxRefIdeal.τ).loc Cert.ConvInDxRefIdeal.main_arg5) = m' ((c.tc : Thread Cert.ConvInDxRefIdeal.nD Cert.ConvInDxRefIdeal.τ).loc Cert.ConvInDxRefIdeal.main_arg5))

def preserves_SquareDw_SquareDwIdeal : Prop :=
  True

def algebraic_SquareDwIdeal_SquareDwRefIdeal [hSquareDwIdeal : Cert.SquareDwIdeal.Facts] [hSquareDwRefIdeal : Cert.SquareDwRefIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareDwRefIdeal.nD Cert.SquareDwRefIdeal.τ Cert.SquareDwRefIdeal.sig) → Buf (Elt Ideal) ℓ) (g' : Dev Cert.SquareDwRefIdeal.nD → PrngReg), Pre_SquareDwIdeal m →
    (∀ c : Dev Cert.SquareDwIdeal.nD,
      m' ((c.tc : Thread Cert.SquareDwRefIdeal.nD Cert.SquareDwRefIdeal.τ).loc Cert.SquareDwRefIdeal.main_arg0) = m ((c.tc : Thread Cert.SquareDwIdeal.nD Cert.SquareDwIdeal.τ).loc Cert.SquareDwIdeal.main_arg0)
      ∧ m' ((c.tc : Thread Cert.SquareDwRefIdeal.nD Cert.SquareDwRefIdeal.τ).loc Cert.SquareDwRefIdeal.main_arg1) = m ((c.tc : Thread Cert.SquareDwIdeal.nD Cert.SquareDwIdeal.τ).loc Cert.SquareDwIdeal.main_arg1)
      ∧ m' ((c.tc : Thread Cert.SquareDwRefIdeal.nD Cert.SquareDwRefIdeal.τ).loc Cert.SquareDwRefIdeal.main_arg2) = m ((c.tc : Thread Cert.SquareDwIdeal.nD Cert.SquareDwIdeal.τ).loc Cert.SquareDwIdeal.main_arg2)) →
    ∃ (v0 : (c : Dev Cert.SquareDwIdeal.nD) → Buf (Elt Ideal) ((c.tc : Thread Cert.SquareDwIdeal.nD Cert.SquareDwIdeal.τ).loc Cert.SquareDwIdeal.main_v2)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v2) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1)
          ∧ r.2.mem ((c.tc : Thread Cert.SquareDwIdeal.nD Cert.SquareDwIdeal.τ).loc Cert.SquareDwIdeal.main_arg2) = m ((c.tc : Thread Cert.SquareDwIdeal.nD Cert.SquareDwIdeal.τ).loc Cert.SquareDwIdeal.main_arg2))
      ∧ θ_run (Cert.SquareDwRefIdeal.defs (F := Ideal)) (onTc (τ := Cert.SquareDwRefIdeal.τ) (Cert.SquareDwRefIdeal.main (F := Ideal))) ⟨m', fun _ => 0, g'⟩ (fun r => ∀ c : Dev Cert.SquareDwRefIdeal.nD,
          r.2.mem ((c.tc : Thread Cert.SquareDwRefIdeal.nD Cert.SquareDwRefIdeal.τ).loc Cert.SquareDwRefIdeal.main_v4) = v0 c
          ∧ r.2.mem ((c.tc : Thread Cert.SquareDwRefIdeal.nD Cert.SquareDwRefIdeal.τ).loc Cert.SquareDwRefIdeal.main_arg0) = m' ((c.tc : Thread Cert.SquareDwRefIdeal.nD Cert.SquareDwRefIdeal.τ).loc Cert.SquareDwRefIdeal.main_arg0)
          ∧ r.2.mem ((c.tc : Thread Cert.SquareDwRefIdeal.nD Cert.SquareDwRefIdeal.τ).loc Cert.SquareDwRefIdeal.main_arg1) = m' ((c.tc : Thread Cert.SquareDwRefIdeal.nD Cert.SquareDwRefIdeal.τ).loc Cert.SquareDwRefIdeal.main_arg1)
          ∧ r.2.mem ((c.tc : Thread Cert.SquareDwRefIdeal.nD Cert.SquareDwRefIdeal.τ).loc Cert.SquareDwRefIdeal.main_arg2) = m' ((c.tc : Thread Cert.SquareDwRefIdeal.nD Cert.SquareDwRefIdeal.τ).loc Cert.SquareDwRefIdeal.main_arg2))

def preserves_SquareDx_SquareDxIdeal : Prop :=
  True

def algebraic_SquareDxIdeal_SquareDxRefIdeal [hSquareDxIdeal : Cert.SquareDxIdeal.Facts] [hSquareDxRefIdeal : Cert.SquareDxRefIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg)
    (m' : (ℓ : Loc Cert.SquareDxRefIdeal.nD Cert.SquareDxRefIdeal.τ Cert.SquareDxRefIdeal.sig) → Buf (Elt Ideal) ℓ) (g' : Dev Cert.SquareDxRefIdeal.nD → PrngReg), Pre_SquareDxIdeal m →
    (∀ c : Dev Cert.SquareDxIdeal.nD,
      m' ((c.tc : Thread Cert.SquareDxRefIdeal.nD Cert.SquareDxRefIdeal.τ).loc Cert.SquareDxRefIdeal.main_arg0) = m ((c.tc : Thread Cert.SquareDxIdeal.nD Cert.SquareDxIdeal.τ).loc Cert.SquareDxIdeal.main_arg0)
      ∧ m' ((c.tc : Thread Cert.SquareDxRefIdeal.nD Cert.SquareDxRefIdeal.τ).loc Cert.SquareDxRefIdeal.main_arg1) = m ((c.tc : Thread Cert.SquareDxIdeal.nD Cert.SquareDxIdeal.τ).loc Cert.SquareDxIdeal.main_arg1)
      ∧ m' ((c.tc : Thread Cert.SquareDxRefIdeal.nD Cert.SquareDxRefIdeal.τ).loc Cert.SquareDxRefIdeal.main_arg2) = m ((c.tc : Thread Cert.SquareDxIdeal.nD Cert.SquareDxIdeal.τ).loc Cert.SquareDxIdeal.main_arg2)) →
    ∃ (v0 : (c : Dev Cert.SquareDxIdeal.nD) → Buf (Elt Ideal) ((c.tc : Thread Cert.SquareDxIdeal.nD Cert.SquareDxIdeal.τ).loc Cert.SquareDxIdeal.main_v2)),
      θ_run (Cert.SquareDxIdeal.defs (F := Ideal)) (onTc (τ := Cert.SquareDxIdeal.τ) (Cert.SquareDxIdeal.main (F := Ideal))) ⟨m, fun _ => 0, g⟩ (fun r => ∀ c : Dev Cert.SquareDxIdeal.nD,
          r.2.mem ((c.tc : Thread Cert.SquareDxIdeal.nD Cert.SquareDxIdeal.τ).loc Cert.SquareDxIdeal.main_v2) = v0 c
          ∧ r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
          ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1)
          ∧ r.2.mem ((c.tc : Thread Cert.SquareDxIdeal.nD Cert.SquareDxIdeal.τ).loc Cert.SquareDxIdeal.main_arg2) = m ((c.tc : Thread Cert.SquareDxIdeal.nD Cert.SquareDxIdeal.τ).loc Cert.SquareDxIdeal.main_arg2))
      ∧ θ_run (Cert.SquareDxRefIdeal.defs (F := Ideal)) (onTc (τ := Cert.SquareDxRefIdeal.τ) (Cert.SquareDxRefIdeal.main (F := Ideal))) ⟨m', fun _ => 0, g'⟩ (fun r => ∀ c : Dev Cert.SquareDxRefIdeal.nD,
          r.2.mem ((c.tc : Thread Cert.SquareDxRefIdeal.nD Cert.SquareDxRefIdeal.τ).loc Cert.SquareDxRefIdeal.main_v3) = v0 c
          ∧ r.2.mem ((c.tc : Thread Cert.SquareDxRefIdeal.nD Cert.SquareDxRefIdeal.τ).loc Cert.SquareDxRefIdeal.main_arg0) = m' ((c.tc : Thread Cert.SquareDxRefIdeal.nD Cert.SquareDxRefIdeal.τ).loc Cert.SquareDxRefIdeal.main_arg0)
          ∧ r.2.mem ((c.tc : Thread Cert.SquareDxRefIdeal.nD Cert.SquareDxRefIdeal.τ).loc Cert.SquareDxRefIdeal.main_arg1) = m' ((c.tc : Thread Cert.SquareDxRefIdeal.nD Cert.SquareDxRefIdeal.τ).loc Cert.SquareDxRefIdeal.main_arg1)
          ∧ r.2.mem ((c.tc : Thread Cert.SquareDxRefIdeal.nD Cert.SquareDxRefIdeal.τ).loc Cert.SquareDxRefIdeal.main_arg2) = m' ((c.tc : Thread Cert.SquareDxRefIdeal.nD Cert.SquareDxRefIdeal.τ).loc Cert.SquareDxRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)) (v2 : (c : Dev Cert.MixOutIdeal.nD) → Buf (Elt Ideal) ((c.tc : Thread Cert.MixOutIdeal.nD Cert.MixOutIdeal.τ).loc Cert.MixOutIdeal.main_v2_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_v2_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v25) = v0 c
          ∧ r.2.mem ((c.tc : Thread Cert.MixOutRefIdeal.nD Cert.MixOutRefIdeal.τ).loc Cert.MixOutRefIdeal.main_v26) = v1 c
          ∧ r.2.mem ((c.tc : Thread Cert.MixOutRefIdeal.nD Cert.MixOutRefIdeal.τ).loc Cert.MixOutRefIdeal.main_v3) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v2_0)) (v1 : (c : Dev Cert.GateIdeal.nD) → Buf (Elt Ideal) ((c.tc : Thread Cert.GateIdeal.nD Cert.GateIdeal.τ).loc Cert.GateIdeal.main_v2_1)) (v2 : (c : Dev Cert.GateIdeal.nD) → Buf (Elt Ideal) ((c.tc : Thread Cert.GateIdeal.nD Cert.GateIdeal.τ).loc Cert.GateIdeal.main_v2_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2_0) = v0 c
          ∧ r.2.mem ((c.tc : Thread Cert.GateIdeal.nD Cert.GateIdeal.τ).loc Cert.GateIdeal.main_v2_1) = v1 c
          ∧ r.2.mem ((c.tc : Thread Cert.GateIdeal.nD Cert.GateIdeal.τ).loc Cert.GateIdeal.main_v2_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v0) = v0 c
          ∧ r.2.mem ((c.tc : Thread Cert.GateRefIdeal.nD Cert.GateRefIdeal.τ).loc Cert.GateRefIdeal.main_v8) = v1 c
          ∧ r.2.mem ((c.tc : Thread Cert.GateRefIdeal.nD Cert.GateRefIdeal.τ).loc Cert.GateRefIdeal.main_v9) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_StepGlaOut_StepGlaOutIdeal : Prop :=
  True

def algebraic_StepGlaOutIdeal_StepGlaOutRefIdeal [hStepGlaOutIdeal : Cert.StepGlaOutIdeal.Facts] [hStepGlaOutRefIdeal : Cert.StepGlaOutRefIdeal.Facts] : Prop :=
  ∀ (m : (ℓ : Loc Cert.StepGlaOutIdeal.nD Cert.StepGlaOutIdeal.τ Cert.StepGlaOutIdeal.sig) → Buf (Elt Ideal) ℓ) (g : Dev Cert.StepGlaOutIdeal.nD → PrngReg)
    (m' : (ℓ : Loc Cert.StepGlaOutRefIdeal.nD Cert.StepGlaOutRefIdeal.τ Cert.StepGlaOutRefIdeal.sig) → Buf (Elt Ideal) ℓ) (g' : Dev Cert.StepGlaOutRefIdeal.nD → PrngReg), Pre_StepGlaOutIdeal m →
    (∀ c : Dev Cert.StepGlaOutIdeal.nD,
      m' ((c.tc : Thread Cert.StepGlaOutRefIdeal.nD Cert.StepGlaOutRefIdeal.τ).loc Cert.StepGlaOutRefIdeal.main_arg0) = m ((c.tc : Thread Cert.StepGlaOutIdeal.nD Cert.StepGlaOutIdeal.τ).loc Cert.StepGlaOutIdeal.main_arg0)
      ∧ m' ((c.tc : Thread Cert.StepGlaOutRefIdeal.nD Cert.StepGlaOutRefIdeal.τ).loc Cert.StepGlaOutRefIdeal.main_arg1) = m ((c.tc : Thread Cert.StepGlaOutIdeal.nD Cert.StepGlaOutIdeal.τ).loc Cert.StepGlaOutIdeal.main_arg1)
      ∧ m' ((c.tc : Thread Cert.StepGlaOutRefIdeal.nD Cert.StepGlaOutRefIdeal.τ).loc Cert.StepGlaOutRefIdeal.main_arg2) = m ((c.tc : Thread Cert.StepGlaOutIdeal.nD Cert.StepGlaOutIdeal.τ).loc Cert.StepGlaOutIdeal.main_arg2)
      ∧ m' ((c.tc : Thread Cert.StepGlaOutRefIdeal.nD Cert.StepGlaOutRefIdeal.τ).loc Cert.StepGlaOutRefIdeal.main_arg3) = m ((c.tc : Thread Cert.StepGlaOutIdeal.nD Cert.StepGlaOutIdeal.τ).loc Cert.StepGlaOutIdeal.main_arg3)
      ∧ m' ((c.tc : Thread Cert.StepGlaOutRefIdeal.nD Cert.StepGlaOutRefIdeal.τ).loc Cert.StepGlaOutRefIdeal.main_arg4) = m ((c.tc : Thread Cert.StepGlaOutIdeal.nD Cert.StepGlaOutIdeal.τ).loc Cert.StepGlaOutIdeal.main_arg4)) →
    ∃ (v0 : (c : Dev Cert.StepGlaOutIdeal.nD) → Buf (Elt Ideal) ((c.tc : Thread Cert.StepGlaOutIdeal.nD Cert.StepGlaOutIdeal.τ).loc Cert.StepGlaOutIdeal.main_v0_0)) (v1 : (c : Dev Cert.StepGlaOutIdeal.nD) → Buf (Elt Ideal) ((c.tc : Thread Cert.StepGlaOutIdeal.nD Cert.StepGlaOutIdeal.τ).loc Cert.StepGlaOutIdeal.main_v0_1)) (v2 : (c : Dev Cert.StepGlaOutIdeal.nD) → Buf (Elt Ideal) ((c.tc : Thread Cert.StepGlaOutIdeal.nD Cert.StepGlaOutIdeal.τ).loc Cert.StepGlaOutIdeal.main_v0_2)) (v3 : (c : Dev Cert.StepGlaOutIdeal.nD) → Buf (Elt Ideal) ((c.tc : Thread Cert.StepGlaOutIdeal.nD Cert.StepGlaOutIdeal.τ).loc Cert.StepGlaOutIdeal.main_v0_3)),
      θ_run (Cert.StepGlaOutIdeal.defs (F := Ideal)) (onTc (τ := Cert.StepGlaOutIdeal.τ) (Cert.StepGlaOutIdeal.main (F := Ideal))) ⟨m, fun _ => 0, g⟩ (fun r => ∀ c : Dev Cert.StepGlaOutIdeal.nD,
          r.2.mem ((c.tc : Thread Cert.StepGlaOutIdeal.nD Cert.StepGlaOutIdeal.τ).loc Cert.StepGlaOutIdeal.main_v0_0) = v0 c
          ∧ r.2.mem ((c.tc : Thread Cert.StepGlaOutIdeal.nD Cert.StepGlaOutIdeal.τ).loc Cert.StepGlaOutIdeal.main_v0_1) = v1 c
          ∧ r.2.mem ((c.tc : Thread Cert.StepGlaOutIdeal.nD Cert.StepGlaOutIdeal.τ).loc Cert.StepGlaOutIdeal.main_v0_2) = v2 c
          ∧ r.2.mem ((c.tc : Thread Cert.StepGlaOutIdeal.nD Cert.StepGlaOutIdeal.τ).loc Cert.StepGlaOutIdeal.main_v0_3) = v3 c
          ∧ r.2.mem ((c.tc : Thread Cert.StepGlaOutIdeal.nD Cert.StepGlaOutIdeal.τ).loc Cert.StepGlaOutIdeal.main_arg0) = m ((c.tc : Thread Cert.StepGlaOutIdeal.nD Cert.StepGlaOutIdeal.τ).loc Cert.StepGlaOutIdeal.main_arg0)
          ∧ r.2.mem ((c.tc : Thread Cert.StepGlaOutIdeal.nD Cert.StepGlaOutIdeal.τ).loc Cert.StepGlaOutIdeal.main_arg1) = m ((c.tc : Thread Cert.StepGlaOutIdeal.nD Cert.StepGlaOutIdeal.τ).loc Cert.StepGlaOutIdeal.main_arg1)
          ∧ r.2.mem ((c.tc : Thread Cert.StepGlaOutIdeal.nD Cert.StepGlaOutIdeal.τ).loc Cert.StepGlaOutIdeal.main_arg2) = m ((c.tc : Thread Cert.StepGlaOutIdeal.nD Cert.StepGlaOutIdeal.τ).loc Cert.StepGlaOutIdeal.main_arg2)
          ∧ r.2.mem ((c.tc : Thread Cert.StepGlaOutIdeal.nD Cert.StepGlaOutIdeal.τ).loc Cert.StepGlaOutIdeal.main_arg3) = m ((c.tc : Thread Cert.StepGlaOutIdeal.nD Cert.StepGlaOutIdeal.τ).loc Cert.StepGlaOutIdeal.main_arg3)
          ∧ r.2.mem ((c.tc : Thread Cert.StepGlaOutIdeal.nD Cert.StepGlaOutIdeal.τ).loc Cert.StepGlaOutIdeal.main_arg4) = m ((c.tc : Thread Cert.StepGlaOutIdeal.nD Cert.StepGlaOutIdeal.τ).loc Cert.StepGlaOutIdeal.main_arg4))
      ∧ θ_run (Cert.StepGlaOutRefIdeal.defs (F := Ideal)) (onTc (τ := Cert.StepGlaOutRefIdeal.τ) (Cert.StepGlaOutRefIdeal.main (F := Ideal))) ⟨m', fun _ => 0, g'⟩ (fun r => ∀ c : Dev Cert.StepGlaOutRefIdeal.nD,
          r.2.mem ((c.tc : Thread Cert.StepGlaOutRefIdeal.nD Cert.StepGlaOutRefIdeal.τ).loc Cert.StepGlaOutRefIdeal.main_v2) = v0 c
          ∧ r.2.mem ((c.tc : Thread Cert.StepGlaOutRefIdeal.nD Cert.StepGlaOutRefIdeal.τ).loc Cert.StepGlaOutRefIdeal.main_v26) = v1 c
          ∧ r.2.mem ((c.tc : Thread Cert.StepGlaOutRefIdeal.nD Cert.StepGlaOutRefIdeal.τ).loc Cert.StepGlaOutRefIdeal.main_v7) = v2 c
          ∧ r.2.mem ((c.tc : Thread Cert.StepGlaOutRefIdeal.nD Cert.StepGlaOutRefIdeal.τ).loc Cert.StepGlaOutRefIdeal.main_v13) = v3 c
          ∧ r.2.mem ((c.tc : Thread Cert.StepGlaOutRefIdeal.nD Cert.StepGlaOutRefIdeal.τ).loc Cert.StepGlaOutRefIdeal.main_arg0) = m' ((c.tc : Thread Cert.StepGlaOutRefIdeal.nD Cert.StepGlaOutRefIdeal.τ).loc Cert.StepGlaOutRefIdeal.main_arg0)
          ∧ r.2.mem ((c.tc : Thread Cert.StepGlaOutRefIdeal.nD Cert.StepGlaOutRefIdeal.τ).loc Cert.StepGlaOutRefIdeal.main_arg1) = m' ((c.tc : Thread Cert.StepGlaOutRefIdeal.nD Cert.StepGlaOutRefIdeal.τ).loc Cert.StepGlaOutRefIdeal.main_arg1)
          ∧ r.2.mem ((c.tc : Thread Cert.StepGlaOutRefIdeal.nD Cert.StepGlaOutRefIdeal.τ).loc Cert.StepGlaOutRefIdeal.main_arg2) = m' ((c.tc : Thread Cert.StepGlaOutRefIdeal.nD Cert.StepGlaOutRefIdeal.τ).loc Cert.StepGlaOutRefIdeal.main_arg2)
          ∧ r.2.mem ((c.tc : Thread Cert.StepGlaOutRefIdeal.nD Cert.StepGlaOutRefIdeal.τ).loc Cert.StepGlaOutRefIdeal.main_arg3) = m' ((c.tc : Thread Cert.StepGlaOutRefIdeal.nD Cert.StepGlaOutRefIdeal.τ).loc Cert.StepGlaOutRefIdeal.main_arg3)
          ∧ r.2.mem ((c.tc : Thread Cert.StepGlaOutRefIdeal.nD Cert.StepGlaOutRefIdeal.τ).loc Cert.StepGlaOutRefIdeal.main_arg4) = m' ((c.tc : Thread Cert.StepGlaOutRefIdeal.nD Cert.StepGlaOutRefIdeal.τ).loc Cert.StepGlaOutRefIdeal.main_arg4))

def preserves_StepMlaIn_StepMlaInIdeal : Prop :=
  True

def algebraic_StepMlaInIdeal_StepMlaInRefIdeal [hStepMlaInIdeal : Cert.StepMlaInIdeal.Facts] [hStepMlaInRefIdeal : Cert.StepMlaInRefIdeal.Facts] : Prop :=
  ∀ (m : (ℓ : Loc Cert.StepMlaInIdeal.nD Cert.StepMlaInIdeal.τ Cert.StepMlaInIdeal.sig) → Buf (Elt Ideal) ℓ) (g : Dev Cert.StepMlaInIdeal.nD → PrngReg)
    (m' : (ℓ : Loc Cert.StepMlaInRefIdeal.nD Cert.StepMlaInRefIdeal.τ Cert.StepMlaInRefIdeal.sig) → Buf (Elt Ideal) ℓ) (g' : Dev Cert.StepMlaInRefIdeal.nD → PrngReg), Pre_StepMlaInIdeal m →
    (∀ c : Dev Cert.StepMlaInIdeal.nD,
      m' ((c.tc : Thread Cert.StepMlaInRefIdeal.nD Cert.StepMlaInRefIdeal.τ).loc Cert.StepMlaInRefIdeal.main_arg0) = m ((c.tc : Thread Cert.StepMlaInIdeal.nD Cert.StepMlaInIdeal.τ).loc Cert.StepMlaInIdeal.main_arg0)
      ∧ m' ((c.tc : Thread Cert.StepMlaInRefIdeal.nD Cert.StepMlaInRefIdeal.τ).loc Cert.StepMlaInRefIdeal.main_arg1) = m ((c.tc : Thread Cert.StepMlaInIdeal.nD Cert.StepMlaInIdeal.τ).loc Cert.StepMlaInIdeal.main_arg1)
      ∧ m' ((c.tc : Thread Cert.StepMlaInRefIdeal.nD Cert.StepMlaInRefIdeal.τ).loc Cert.StepMlaInRefIdeal.main_arg2) = m ((c.tc : Thread Cert.StepMlaInIdeal.nD Cert.StepMlaInIdeal.τ).loc Cert.StepMlaInIdeal.main_arg2)
      ∧ m' ((c.tc : Thread Cert.StepMlaInRefIdeal.nD Cert.StepMlaInRefIdeal.τ).loc Cert.StepMlaInRefIdeal.main_arg3) = m ((c.tc : Thread Cert.StepMlaInIdeal.nD Cert.StepMlaInIdeal.τ).loc Cert.StepMlaInIdeal.main_arg3)) →
    ∃ (v0 : (c : Dev Cert.StepMlaInIdeal.nD) → Buf (Elt Ideal) ((c.tc : Thread Cert.StepMlaInIdeal.nD Cert.StepMlaInIdeal.τ).loc Cert.StepMlaInIdeal.main_v0_0)) (v1 : (c : Dev Cert.StepMlaInIdeal.nD) → Buf (Elt Ideal) ((c.tc : Thread Cert.StepMlaInIdeal.nD Cert.StepMlaInIdeal.τ).loc Cert.StepMlaInIdeal.main_v0_1)) (v2 : (c : Dev Cert.StepMlaInIdeal.nD) → Buf (Elt Ideal) ((c.tc : Thread Cert.StepMlaInIdeal.nD Cert.StepMlaInIdeal.τ).loc Cert.StepMlaInIdeal.main_v0_2)) (v3 : (c : Dev Cert.StepMlaInIdeal.nD) → Buf (Elt Ideal) ((c.tc : Thread Cert.StepMlaInIdeal.nD Cert.StepMlaInIdeal.τ).loc Cert.StepMlaInIdeal.main_v0_3)),
      θ_run (Cert.StepMlaInIdeal.defs (F := Ideal)) (onTc (τ := Cert.StepMlaInIdeal.τ) (Cert.StepMlaInIdeal.main (F := Ideal))) ⟨m, fun _ => 0, g⟩ (fun r => ∀ c : Dev Cert.StepMlaInIdeal.nD,
          r.2.mem ((c.tc : Thread Cert.StepMlaInIdeal.nD Cert.StepMlaInIdeal.τ).loc Cert.StepMlaInIdeal.main_v0_0) = v0 c
          ∧ r.2.mem ((c.tc : Thread Cert.StepMlaInIdeal.nD Cert.StepMlaInIdeal.τ).loc Cert.StepMlaInIdeal.main_v0_1) = v1 c
          ∧ r.2.mem ((c.tc : Thread Cert.StepMlaInIdeal.nD Cert.StepMlaInIdeal.τ).loc Cert.StepMlaInIdeal.main_v0_2) = v2 c
          ∧ r.2.mem ((c.tc : Thread Cert.StepMlaInIdeal.nD Cert.StepMlaInIdeal.τ).loc Cert.StepMlaInIdeal.main_v0_3) = v3 c
          ∧ r.2.mem ((c.tc : Thread Cert.StepMlaInIdeal.nD Cert.StepMlaInIdeal.τ).loc Cert.StepMlaInIdeal.main_arg0) = m ((c.tc : Thread Cert.StepMlaInIdeal.nD Cert.StepMlaInIdeal.τ).loc Cert.StepMlaInIdeal.main_arg0)
          ∧ r.2.mem ((c.tc : Thread Cert.StepMlaInIdeal.nD Cert.StepMlaInIdeal.τ).loc Cert.StepMlaInIdeal.main_arg1) = m ((c.tc : Thread Cert.StepMlaInIdeal.nD Cert.StepMlaInIdeal.τ).loc Cert.StepMlaInIdeal.main_arg1)
          ∧ r.2.mem ((c.tc : Thread Cert.StepMlaInIdeal.nD Cert.StepMlaInIdeal.τ).loc Cert.StepMlaInIdeal.main_arg2) = m ((c.tc : Thread Cert.StepMlaInIdeal.nD Cert.StepMlaInIdeal.τ).loc Cert.StepMlaInIdeal.main_arg2)
          ∧ r.2.mem ((c.tc : Thread Cert.StepMlaInIdeal.nD Cert.StepMlaInIdeal.τ).loc Cert.StepMlaInIdeal.main_arg3) = m ((c.tc : Thread Cert.StepMlaInIdeal.nD Cert.StepMlaInIdeal.τ).loc Cert.StepMlaInIdeal.main_arg3))
      ∧ θ_run (Cert.StepMlaInRefIdeal.defs (F := Ideal)) (onTc (τ := Cert.StepMlaInRefIdeal.τ) (Cert.StepMlaInRefIdeal.main (F := Ideal))) ⟨m', fun _ => 0, g'⟩ (fun r => ∀ c : Dev Cert.StepMlaInRefIdeal.nD,
          r.2.mem ((c.tc : Thread Cert.StepMlaInRefIdeal.nD Cert.StepMlaInRefIdeal.τ).loc Cert.StepMlaInRefIdeal.main_v0) = v0 c
          ∧ r.2.mem ((c.tc : Thread Cert.StepMlaInRefIdeal.nD Cert.StepMlaInRefIdeal.τ).loc Cert.StepMlaInRefIdeal.main_v24) = v1 c
          ∧ r.2.mem ((c.tc : Thread Cert.StepMlaInRefIdeal.nD Cert.StepMlaInRefIdeal.τ).loc Cert.StepMlaInRefIdeal.main_v5) = v2 c
          ∧ r.2.mem ((c.tc : Thread Cert.StepMlaInRefIdeal.nD Cert.StepMlaInRefIdeal.τ).loc Cert.StepMlaInRefIdeal.main_v11) = v3 c
          ∧ r.2.mem ((c.tc : Thread Cert.StepMlaInRefIdeal.nD Cert.StepMlaInRefIdeal.τ).loc Cert.StepMlaInRefIdeal.main_arg0) = m' ((c.tc : Thread Cert.StepMlaInRefIdeal.nD Cert.StepMlaInRefIdeal.τ).loc Cert.StepMlaInRefIdeal.main_arg0)
          ∧ r.2.mem ((c.tc : Thread Cert.StepMlaInRefIdeal.nD Cert.StepMlaInRefIdeal.τ).loc Cert.StepMlaInRefIdeal.main_arg1) = m' ((c.tc : Thread Cert.StepMlaInRefIdeal.nD Cert.StepMlaInRefIdeal.τ).loc Cert.StepMlaInRefIdeal.main_arg1)
          ∧ r.2.mem ((c.tc : Thread Cert.StepMlaInRefIdeal.nD Cert.StepMlaInRefIdeal.τ).loc Cert.StepMlaInRefIdeal.main_arg2) = m' ((c.tc : Thread Cert.StepMlaInRefIdeal.nD Cert.StepMlaInRefIdeal.τ).loc Cert.StepMlaInRefIdeal.main_arg2)
          ∧ r.2.mem ((c.tc : Thread Cert.StepMlaInRefIdeal.nD Cert.StepMlaInRefIdeal.τ).loc Cert.StepMlaInRefIdeal.main_arg3) = m' ((c.tc : Thread Cert.StepMlaInRefIdeal.nD Cert.StepMlaInRefIdeal.τ).loc Cert.StepMlaInRefIdeal.main_arg3))

def preserves_StepMlaUq_StepMlaUqIdeal : Prop :=
  True

def algebraic_StepMlaUqIdeal_StepMlaUqRefIdeal [hStepMlaUqIdeal : Cert.StepMlaUqIdeal.Facts] [hStepMlaUqRefIdeal : Cert.StepMlaUqRefIdeal.Facts] : Prop :=
  ∀ (m : (ℓ : Loc Cert.StepMlaUqIdeal.nD Cert.StepMlaUqIdeal.τ Cert.StepMlaUqIdeal.sig) → Buf (Elt Ideal) ℓ) (g : Dev Cert.StepMlaUqIdeal.nD → PrngReg)
    (m' : (ℓ : Loc Cert.StepMlaUqRefIdeal.nD Cert.StepMlaUqRefIdeal.τ Cert.StepMlaUqRefIdeal.sig) → Buf (Elt Ideal) ℓ) (g' : Dev Cert.StepMlaUqRefIdeal.nD → PrngReg), Pre_StepMlaUqIdeal m →
    (∀ c : Dev Cert.StepMlaUqIdeal.nD,
      m' ((c.tc : Thread Cert.StepMlaUqRefIdeal.nD Cert.StepMlaUqRefIdeal.τ).loc Cert.StepMlaUqRefIdeal.main_arg0) = m ((c.tc : Thread Cert.StepMlaUqIdeal.nD Cert.StepMlaUqIdeal.τ).loc Cert.StepMlaUqIdeal.main_arg0)
      ∧ m' ((c.tc : Thread Cert.StepMlaUqRefIdeal.nD Cert.StepMlaUqRefIdeal.τ).loc Cert.StepMlaUqRefIdeal.main_arg1) = m ((c.tc : Thread Cert.StepMlaUqIdeal.nD Cert.StepMlaUqIdeal.τ).loc Cert.StepMlaUqIdeal.main_arg1)
      ∧ m' ((c.tc : Thread Cert.StepMlaUqRefIdeal.nD Cert.StepMlaUqRefIdeal.τ).loc Cert.StepMlaUqRefIdeal.main_arg2) = m ((c.tc : Thread Cert.StepMlaUqIdeal.nD Cert.StepMlaUqIdeal.τ).loc Cert.StepMlaUqIdeal.main_arg2)
      ∧ m' ((c.tc : Thread Cert.StepMlaUqRefIdeal.nD Cert.StepMlaUqRefIdeal.τ).loc Cert.StepMlaUqRefIdeal.main_arg3) = m ((c.tc : Thread Cert.StepMlaUqIdeal.nD Cert.StepMlaUqIdeal.τ).loc Cert.StepMlaUqIdeal.main_arg3)) →
    ∃ (v0 : (c : Dev Cert.StepMlaUqIdeal.nD) → Buf (Elt Ideal) ((c.tc : Thread Cert.StepMlaUqIdeal.nD Cert.StepMlaUqIdeal.τ).loc Cert.StepMlaUqIdeal.main_v0_0)) (v1 : (c : Dev Cert.StepMlaUqIdeal.nD) → Buf (Elt Ideal) ((c.tc : Thread Cert.StepMlaUqIdeal.nD Cert.StepMlaUqIdeal.τ).loc Cert.StepMlaUqIdeal.main_v0_1)) (v2 : (c : Dev Cert.StepMlaUqIdeal.nD) → Buf (Elt Ideal) ((c.tc : Thread Cert.StepMlaUqIdeal.nD Cert.StepMlaUqIdeal.τ).loc Cert.StepMlaUqIdeal.main_v0_2)) (v3 : (c : Dev Cert.StepMlaUqIdeal.nD) → Buf (Elt Ideal) ((c.tc : Thread Cert.StepMlaUqIdeal.nD Cert.StepMlaUqIdeal.τ).loc Cert.StepMlaUqIdeal.main_v0_3)),
      θ_run (Cert.StepMlaUqIdeal.defs (F := Ideal)) (onTc (τ := Cert.StepMlaUqIdeal.τ) (Cert.StepMlaUqIdeal.main (F := Ideal))) ⟨m, fun _ => 0, g⟩ (fun r => ∀ c : Dev Cert.StepMlaUqIdeal.nD,
          r.2.mem ((c.tc : Thread Cert.StepMlaUqIdeal.nD Cert.StepMlaUqIdeal.τ).loc Cert.StepMlaUqIdeal.main_v0_0) = v0 c
          ∧ r.2.mem ((c.tc : Thread Cert.StepMlaUqIdeal.nD Cert.StepMlaUqIdeal.τ).loc Cert.StepMlaUqIdeal.main_v0_1) = v1 c
          ∧ r.2.mem ((c.tc : Thread Cert.StepMlaUqIdeal.nD Cert.StepMlaUqIdeal.τ).loc Cert.StepMlaUqIdeal.main_v0_2) = v2 c
          ∧ r.2.mem ((c.tc : Thread Cert.StepMlaUqIdeal.nD Cert.StepMlaUqIdeal.τ).loc Cert.StepMlaUqIdeal.main_v0_3) = v3 c
          ∧ r.2.mem ((c.tc : Thread Cert.StepMlaUqIdeal.nD Cert.StepMlaUqIdeal.τ).loc Cert.StepMlaUqIdeal.main_arg0) = m ((c.tc : Thread Cert.StepMlaUqIdeal.nD Cert.StepMlaUqIdeal.τ).loc Cert.StepMlaUqIdeal.main_arg0)
          ∧ r.2.mem ((c.tc : Thread Cert.StepMlaUqIdeal.nD Cert.StepMlaUqIdeal.τ).loc Cert.StepMlaUqIdeal.main_arg1) = m ((c.tc : Thread Cert.StepMlaUqIdeal.nD Cert.StepMlaUqIdeal.τ).loc Cert.StepMlaUqIdeal.main_arg1)
          ∧ r.2.mem ((c.tc : Thread Cert.StepMlaUqIdeal.nD Cert.StepMlaUqIdeal.τ).loc Cert.StepMlaUqIdeal.main_arg2) = m ((c.tc : Thread Cert.StepMlaUqIdeal.nD Cert.StepMlaUqIdeal.τ).loc Cert.StepMlaUqIdeal.main_arg2)
          ∧ r.2.mem ((c.tc : Thread Cert.StepMlaUqIdeal.nD Cert.StepMlaUqIdeal.τ).loc Cert.StepMlaUqIdeal.main_arg3) = m ((c.tc : Thread Cert.StepMlaUqIdeal.nD Cert.StepMlaUqIdeal.τ).loc Cert.StepMlaUqIdeal.main_arg3))
      ∧ θ_run (Cert.StepMlaUqRefIdeal.defs (F := Ideal)) (onTc (τ := Cert.StepMlaUqRefIdeal.τ) (Cert.StepMlaUqRefIdeal.main (F := Ideal))) ⟨m', fun _ => 0, g'⟩ (fun r => ∀ c : Dev Cert.StepMlaUqRefIdeal.nD,
          r.2.mem ((c.tc : Thread Cert.StepMlaUqRefIdeal.nD Cert.StepMlaUqRefIdeal.τ).loc Cert.StepMlaUqRefIdeal.main_v0) = v0 c
          ∧ r.2.mem ((c.tc : Thread Cert.StepMlaUqRefIdeal.nD Cert.StepMlaUqRefIdeal.τ).loc Cert.StepMlaUqRefIdeal.main_v24) = v1 c
          ∧ r.2.mem ((c.tc : Thread Cert.StepMlaUqRefIdeal.nD Cert.StepMlaUqRefIdeal.τ).loc Cert.StepMlaUqRefIdeal.main_v5) = v2 c
          ∧ r.2.mem ((c.tc : Thread Cert.StepMlaUqRefIdeal.nD Cert.StepMlaUqRefIdeal.τ).loc Cert.StepMlaUqRefIdeal.main_v11) = v3 c
          ∧ r.2.mem ((c.tc : Thread Cert.StepMlaUqRefIdeal.nD Cert.StepMlaUqRefIdeal.τ).loc Cert.StepMlaUqRefIdeal.main_arg0) = m' ((c.tc : Thread Cert.StepMlaUqRefIdeal.nD Cert.StepMlaUqRefIdeal.τ).loc Cert.StepMlaUqRefIdeal.main_arg0)
          ∧ r.2.mem ((c.tc : Thread Cert.StepMlaUqRefIdeal.nD Cert.StepMlaUqRefIdeal.τ).loc Cert.StepMlaUqRefIdeal.main_arg1) = m' ((c.tc : Thread Cert.StepMlaUqRefIdeal.nD Cert.StepMlaUqRefIdeal.τ).loc Cert.StepMlaUqRefIdeal.main_arg1)
          ∧ r.2.mem ((c.tc : Thread Cert.StepMlaUqRefIdeal.nD Cert.StepMlaUqRefIdeal.τ).loc Cert.StepMlaUqRefIdeal.main_arg2) = m' ((c.tc : Thread Cert.StepMlaUqRefIdeal.nD Cert.StepMlaUqRefIdeal.τ).loc Cert.StepMlaUqRefIdeal.main_arg2)
          ∧ r.2.mem ((c.tc : Thread Cert.StepMlaUqRefIdeal.nD Cert.StepMlaUqRefIdeal.τ).loc Cert.StepMlaUqRefIdeal.main_arg3) = m' ((c.tc : Thread Cert.StepMlaUqRefIdeal.nD Cert.StepMlaUqRefIdeal.τ).loc Cert.StepMlaUqRefIdeal.main_arg3))

def preserves_StepMlaUkv_StepMlaUkvIdeal : Prop :=
  True

def algebraic_StepMlaUkvIdeal_StepMlaUkvRefIdeal [hStepMlaUkvIdeal : Cert.StepMlaUkvIdeal.Facts] [hStepMlaUkvRefIdeal : Cert.StepMlaUkvRefIdeal.Facts] : Prop :=
  ∀ (m : (ℓ : Loc Cert.StepMlaUkvIdeal.nD Cert.StepMlaUkvIdeal.τ Cert.StepMlaUkvIdeal.sig) → Buf (Elt Ideal) ℓ) (g : Dev Cert.StepMlaUkvIdeal.nD → PrngReg)
    (m' : (ℓ : Loc Cert.StepMlaUkvRefIdeal.nD Cert.StepMlaUkvRefIdeal.τ Cert.StepMlaUkvRefIdeal.sig) → Buf (Elt Ideal) ℓ) (g' : Dev Cert.StepMlaUkvRefIdeal.nD → PrngReg), Pre_StepMlaUkvIdeal m →
    (∀ c : Dev Cert.StepMlaUkvIdeal.nD,
      m' ((c.tc : Thread Cert.StepMlaUkvRefIdeal.nD Cert.StepMlaUkvRefIdeal.τ).loc Cert.StepMlaUkvRefIdeal.main_arg0) = m ((c.tc : Thread Cert.StepMlaUkvIdeal.nD Cert.StepMlaUkvIdeal.τ).loc Cert.StepMlaUkvIdeal.main_arg0)
      ∧ m' ((c.tc : Thread Cert.StepMlaUkvRefIdeal.nD Cert.StepMlaUkvRefIdeal.τ).loc Cert.StepMlaUkvRefIdeal.main_arg1) = m ((c.tc : Thread Cert.StepMlaUkvIdeal.nD Cert.StepMlaUkvIdeal.τ).loc Cert.StepMlaUkvIdeal.main_arg1)
      ∧ m' ((c.tc : Thread Cert.StepMlaUkvRefIdeal.nD Cert.StepMlaUkvRefIdeal.τ).loc Cert.StepMlaUkvRefIdeal.main_arg2) = m ((c.tc : Thread Cert.StepMlaUkvIdeal.nD Cert.StepMlaUkvIdeal.τ).loc Cert.StepMlaUkvIdeal.main_arg2)
      ∧ m' ((c.tc : Thread Cert.StepMlaUkvRefIdeal.nD Cert.StepMlaUkvRefIdeal.τ).loc Cert.StepMlaUkvRefIdeal.main_arg3) = m ((c.tc : Thread Cert.StepMlaUkvIdeal.nD Cert.StepMlaUkvIdeal.τ).loc Cert.StepMlaUkvIdeal.main_arg3)) →
    ∃ (v0 : (c : Dev Cert.StepMlaUkvIdeal.nD) → Buf (Elt Ideal) ((c.tc : Thread Cert.StepMlaUkvIdeal.nD Cert.StepMlaUkvIdeal.τ).loc Cert.StepMlaUkvIdeal.main_v0_0)) (v1 : (c : Dev Cert.StepMlaUkvIdeal.nD) → Buf (Elt Ideal) ((c.tc : Thread Cert.StepMlaUkvIdeal.nD Cert.StepMlaUkvIdeal.τ).loc Cert.StepMlaUkvIdeal.main_v0_1)) (v2 : (c : Dev Cert.StepMlaUkvIdeal.nD) → Buf (Elt Ideal) ((c.tc : Thread Cert.StepMlaUkvIdeal.nD Cert.StepMlaUkvIdeal.τ).loc Cert.StepMlaUkvIdeal.main_v0_2)) (v3 : (c : Dev Cert.StepMlaUkvIdeal.nD) → Buf (Elt Ideal) ((c.tc : Thread Cert.StepMlaUkvIdeal.nD Cert.StepMlaUkvIdeal.τ).loc Cert.StepMlaUkvIdeal.main_v0_3)),
      θ_run (Cert.StepMlaUkvIdeal.defs (F := Ideal)) (onTc (τ := Cert.StepMlaUkvIdeal.τ) (Cert.StepMlaUkvIdeal.main (F := Ideal))) ⟨m, fun _ => 0, g⟩ (fun r => ∀ c : Dev Cert.StepMlaUkvIdeal.nD,
          r.2.mem ((c.tc : Thread Cert.StepMlaUkvIdeal.nD Cert.StepMlaUkvIdeal.τ).loc Cert.StepMlaUkvIdeal.main_v0_0) = v0 c
          ∧ r.2.mem ((c.tc : Thread Cert.StepMlaUkvIdeal.nD Cert.StepMlaUkvIdeal.τ).loc Cert.StepMlaUkvIdeal.main_v0_1) = v1 c
          ∧ r.2.mem ((c.tc : Thread Cert.StepMlaUkvIdeal.nD Cert.StepMlaUkvIdeal.τ).loc Cert.StepMlaUkvIdeal.main_v0_2) = v2 c
          ∧ r.2.mem ((c.tc : Thread Cert.StepMlaUkvIdeal.nD Cert.StepMlaUkvIdeal.τ).loc Cert.StepMlaUkvIdeal.main_v0_3) = v3 c
          ∧ r.2.mem ((c.tc : Thread Cert.StepMlaUkvIdeal.nD Cert.StepMlaUkvIdeal.τ).loc Cert.StepMlaUkvIdeal.main_arg0) = m ((c.tc : Thread Cert.StepMlaUkvIdeal.nD Cert.StepMlaUkvIdeal.τ).loc Cert.StepMlaUkvIdeal.main_arg0)
          ∧ r.2.mem ((c.tc : Thread Cert.StepMlaUkvIdeal.nD Cert.StepMlaUkvIdeal.τ).loc Cert.StepMlaUkvIdeal.main_arg1) = m ((c.tc : Thread Cert.StepMlaUkvIdeal.nD Cert.StepMlaUkvIdeal.τ).loc Cert.StepMlaUkvIdeal.main_arg1)
          ∧ r.2.mem ((c.tc : Thread Cert.StepMlaUkvIdeal.nD Cert.StepMlaUkvIdeal.τ).loc Cert.StepMlaUkvIdeal.main_arg2) = m ((c.tc : Thread Cert.StepMlaUkvIdeal.nD Cert.StepMlaUkvIdeal.τ).loc Cert.StepMlaUkvIdeal.main_arg2)
          ∧ r.2.mem ((c.tc : Thread Cert.StepMlaUkvIdeal.nD Cert.StepMlaUkvIdeal.τ).loc Cert.StepMlaUkvIdeal.main_arg3) = m ((c.tc : Thread Cert.StepMlaUkvIdeal.nD Cert.StepMlaUkvIdeal.τ).loc Cert.StepMlaUkvIdeal.main_arg3))
      ∧ θ_run (Cert.StepMlaUkvRefIdeal.defs (F := Ideal)) (onTc (τ := Cert.StepMlaUkvRefIdeal.τ) (Cert.StepMlaUkvRefIdeal.main (F := Ideal))) ⟨m', fun _ => 0, g'⟩ (fun r => ∀ c : Dev Cert.StepMlaUkvRefIdeal.nD,
          r.2.mem ((c.tc : Thread Cert.StepMlaUkvRefIdeal.nD Cert.StepMlaUkvRefIdeal.τ).loc Cert.StepMlaUkvRefIdeal.main_v0) = v0 c
          ∧ r.2.mem ((c.tc : Thread Cert.StepMlaUkvRefIdeal.nD Cert.StepMlaUkvRefIdeal.τ).loc Cert.StepMlaUkvRefIdeal.main_v24) = v1 c
          ∧ r.2.mem ((c.tc : Thread Cert.StepMlaUkvRefIdeal.nD Cert.StepMlaUkvRefIdeal.τ).loc Cert.StepMlaUkvRefIdeal.main_v5) = v2 c
          ∧ r.2.mem ((c.tc : Thread Cert.StepMlaUkvRefIdeal.nD Cert.StepMlaUkvRefIdeal.τ).loc Cert.StepMlaUkvRefIdeal.main_v11) = v3 c
          ∧ r.2.mem ((c.tc : Thread Cert.StepMlaUkvRefIdeal.nD Cert.StepMlaUkvRefIdeal.τ).loc Cert.StepMlaUkvRefIdeal.main_arg0) = m' ((c.tc : Thread Cert.StepMlaUkvRefIdeal.nD Cert.StepMlaUkvRefIdeal.τ).loc Cert.StepMlaUkvRefIdeal.main_arg0)
          ∧ r.2.mem ((c.tc : Thread Cert.StepMlaUkvRefIdeal.nD Cert.StepMlaUkvRefIdeal.τ).loc Cert.StepMlaUkvRefIdeal.main_arg1) = m' ((c.tc : Thread Cert.StepMlaUkvRefIdeal.nD Cert.StepMlaUkvRefIdeal.τ).loc Cert.StepMlaUkvRefIdeal.main_arg1)
          ∧ r.2.mem ((c.tc : Thread Cert.StepMlaUkvRefIdeal.nD Cert.StepMlaUkvRefIdeal.τ).loc Cert.StepMlaUkvRefIdeal.main_arg2) = m' ((c.tc : Thread Cert.StepMlaUkvRefIdeal.nD Cert.StepMlaUkvRefIdeal.τ).loc Cert.StepMlaUkvRefIdeal.main_arg2)
          ∧ r.2.mem ((c.tc : Thread Cert.StepMlaUkvRefIdeal.nD Cert.StepMlaUkvRefIdeal.τ).loc Cert.StepMlaUkvRefIdeal.main_arg3) = m' ((c.tc : Thread Cert.StepMlaUkvRefIdeal.nD Cert.StepMlaUkvRefIdeal.τ).loc Cert.StepMlaUkvRefIdeal.main_arg3))

def preserves_StepRowsOut_StepRowsOutIdeal : Prop :=
  True

def algebraic_StepRowsOutIdeal_StepRowsOutRefIdeal [hStepRowsOutIdeal : Cert.StepRowsOutIdeal.Facts] [hStepRowsOutRefIdeal : Cert.StepRowsOutRefIdeal.Facts] : Prop :=
  ∀ (m : (ℓ : Loc Cert.StepRowsOutIdeal.nD Cert.StepRowsOutIdeal.τ Cert.StepRowsOutIdeal.sig) → Buf (Elt Ideal) ℓ) (g : Dev Cert.StepRowsOutIdeal.nD → PrngReg)
    (m' : (ℓ : Loc Cert.StepRowsOutRefIdeal.nD Cert.StepRowsOutRefIdeal.τ Cert.StepRowsOutRefIdeal.sig) → Buf (Elt Ideal) ℓ) (g' : Dev Cert.StepRowsOutRefIdeal.nD → PrngReg), Pre_StepRowsOutIdeal m →
    (∀ c : Dev Cert.StepRowsOutIdeal.nD,
      m' ((c.tc : Thread Cert.StepRowsOutRefIdeal.nD Cert.StepRowsOutRefIdeal.τ).loc Cert.StepRowsOutRefIdeal.main_arg0) = m ((c.tc : Thread Cert.StepRowsOutIdeal.nD Cert.StepRowsOutIdeal.τ).loc Cert.StepRowsOutIdeal.main_arg0)
      ∧ m' ((c.tc : Thread Cert.StepRowsOutRefIdeal.nD Cert.StepRowsOutRefIdeal.τ).loc Cert.StepRowsOutRefIdeal.main_arg1) = m ((c.tc : Thread Cert.StepRowsOutIdeal.nD Cert.StepRowsOutIdeal.τ).loc Cert.StepRowsOutIdeal.main_arg1)
      ∧ m' ((c.tc : Thread Cert.StepRowsOutRefIdeal.nD Cert.StepRowsOutRefIdeal.τ).loc Cert.StepRowsOutRefIdeal.main_arg2) = m ((c.tc : Thread Cert.StepRowsOutIdeal.nD Cert.StepRowsOutIdeal.τ).loc Cert.StepRowsOutIdeal.main_arg2)
      ∧ m' ((c.tc : Thread Cert.StepRowsOutRefIdeal.nD Cert.StepRowsOutRefIdeal.τ).loc Cert.StepRowsOutRefIdeal.main_arg3) = m ((c.tc : Thread Cert.StepRowsOutIdeal.nD Cert.StepRowsOutIdeal.τ).loc Cert.StepRowsOutIdeal.main_arg3)) →
    ∃ (v0 : (c : Dev Cert.StepRowsOutIdeal.nD) → Buf (Elt Ideal) ((c.tc : Thread Cert.StepRowsOutIdeal.nD Cert.StepRowsOutIdeal.τ).loc Cert.StepRowsOutIdeal.main_v0_0)) (v1 : (c : Dev Cert.StepRowsOutIdeal.nD) → Buf (Elt Ideal) ((c.tc : Thread Cert.StepRowsOutIdeal.nD Cert.StepRowsOutIdeal.τ).loc Cert.StepRowsOutIdeal.main_v0_1)) (v2 : (c : Dev Cert.StepRowsOutIdeal.nD) → Buf (Elt Ideal) ((c.tc : Thread Cert.StepRowsOutIdeal.nD Cert.StepRowsOutIdeal.τ).loc Cert.StepRowsOutIdeal.main_v0_2)) (v3 : (c : Dev Cert.StepRowsOutIdeal.nD) → Buf (Elt Ideal) ((c.tc : Thread Cert.StepRowsOutIdeal.nD Cert.StepRowsOutIdeal.τ).loc Cert.StepRowsOutIdeal.main_v0_3)),
      θ_run (Cert.StepRowsOutIdeal.defs (F := Ideal)) (onTc (τ := Cert.StepRowsOutIdeal.τ) (Cert.StepRowsOutIdeal.main (F := Ideal))) ⟨m, fun _ => 0, g⟩ (fun r => ∀ c : Dev Cert.StepRowsOutIdeal.nD,
          r.2.mem ((c.tc : Thread Cert.StepRowsOutIdeal.nD Cert.StepRowsOutIdeal.τ).loc Cert.StepRowsOutIdeal.main_v0_0) = v0 c
          ∧ r.2.mem ((c.tc : Thread Cert.StepRowsOutIdeal.nD Cert.StepRowsOutIdeal.τ).loc Cert.StepRowsOutIdeal.main_v0_1) = v1 c
          ∧ r.2.mem ((c.tc : Thread Cert.StepRowsOutIdeal.nD Cert.StepRowsOutIdeal.τ).loc Cert.StepRowsOutIdeal.main_v0_2) = v2 c
          ∧ r.2.mem ((c.tc : Thread Cert.StepRowsOutIdeal.nD Cert.StepRowsOutIdeal.τ).loc Cert.StepRowsOutIdeal.main_v0_3) = v3 c
          ∧ r.2.mem ((c.tc : Thread Cert.StepRowsOutIdeal.nD Cert.StepRowsOutIdeal.τ).loc Cert.StepRowsOutIdeal.main_arg0) = m ((c.tc : Thread Cert.StepRowsOutIdeal.nD Cert.StepRowsOutIdeal.τ).loc Cert.StepRowsOutIdeal.main_arg0)
          ∧ r.2.mem ((c.tc : Thread Cert.StepRowsOutIdeal.nD Cert.StepRowsOutIdeal.τ).loc Cert.StepRowsOutIdeal.main_arg1) = m ((c.tc : Thread Cert.StepRowsOutIdeal.nD Cert.StepRowsOutIdeal.τ).loc Cert.StepRowsOutIdeal.main_arg1)
          ∧ r.2.mem ((c.tc : Thread Cert.StepRowsOutIdeal.nD Cert.StepRowsOutIdeal.τ).loc Cert.StepRowsOutIdeal.main_arg2) = m ((c.tc : Thread Cert.StepRowsOutIdeal.nD Cert.StepRowsOutIdeal.τ).loc Cert.StepRowsOutIdeal.main_arg2)
          ∧ r.2.mem ((c.tc : Thread Cert.StepRowsOutIdeal.nD Cert.StepRowsOutIdeal.τ).loc Cert.StepRowsOutIdeal.main_arg3) = m ((c.tc : Thread Cert.StepRowsOutIdeal.nD Cert.StepRowsOutIdeal.τ).loc Cert.StepRowsOutIdeal.main_arg3))
      ∧ θ_run (Cert.StepRowsOutRefIdeal.defs (F := Ideal)) (onTc (τ := Cert.StepRowsOutRefIdeal.τ) (Cert.StepRowsOutRefIdeal.main (F := Ideal))) ⟨m', fun _ => 0, g'⟩ (fun r => ∀ c : Dev Cert.StepRowsOutRefIdeal.nD,
          r.2.mem ((c.tc : Thread Cert.StepRowsOutRefIdeal.nD Cert.StepRowsOutRefIdeal.τ).loc Cert.StepRowsOutRefIdeal.main_v0) = v0 c
          ∧ r.2.mem ((c.tc : Thread Cert.StepRowsOutRefIdeal.nD Cert.StepRowsOutRefIdeal.τ).loc Cert.StepRowsOutRefIdeal.main_v24) = v1 c
          ∧ r.2.mem ((c.tc : Thread Cert.StepRowsOutRefIdeal.nD Cert.StepRowsOutRefIdeal.τ).loc Cert.StepRowsOutRefIdeal.main_v5) = v2 c
          ∧ r.2.mem ((c.tc : Thread Cert.StepRowsOutRefIdeal.nD Cert.StepRowsOutRefIdeal.τ).loc Cert.StepRowsOutRefIdeal.main_v11) = v3 c
          ∧ r.2.mem ((c.tc : Thread Cert.StepRowsOutRefIdeal.nD Cert.StepRowsOutRefIdeal.τ).loc Cert.StepRowsOutRefIdeal.main_arg0) = m' ((c.tc : Thread Cert.StepRowsOutRefIdeal.nD Cert.StepRowsOutRefIdeal.τ).loc Cert.StepRowsOutRefIdeal.main_arg0)
          ∧ r.2.mem ((c.tc : Thread Cert.StepRowsOutRefIdeal.nD Cert.StepRowsOutRefIdeal.τ).loc Cert.StepRowsOutRefIdeal.main_arg1) = m' ((c.tc : Thread Cert.StepRowsOutRefIdeal.nD Cert.StepRowsOutRefIdeal.τ).loc Cert.StepRowsOutRefIdeal.main_arg1)
          ∧ r.2.mem ((c.tc : Thread Cert.StepRowsOutRefIdeal.nD Cert.StepRowsOutRefIdeal.τ).loc Cert.StepRowsOutRefIdeal.main_arg2) = m' ((c.tc : Thread Cert.StepRowsOutRefIdeal.nD Cert.StepRowsOutRefIdeal.τ).loc Cert.StepRowsOutRefIdeal.main_arg2)
          ∧ r.2.mem ((c.tc : Thread Cert.StepRowsOutRefIdeal.nD Cert.StepRowsOutRefIdeal.τ).loc Cert.StepRowsOutRefIdeal.main_arg3) = m' ((c.tc : Thread Cert.StepRowsOutRefIdeal.nD Cert.StepRowsOutRefIdeal.τ).loc Cert.StepRowsOutRefIdeal.main_arg3))

def preserves_StepConvIn_StepConvInIdeal : Prop :=
  True

def algebraic_StepConvInIdeal_StepConvInRefIdeal [hStepConvInIdeal : Cert.StepConvInIdeal.Facts] [hStepConvInRefIdeal : Cert.StepConvInRefIdeal.Facts] : Prop :=
  ∀ (m : (ℓ : Loc Cert.StepConvInIdeal.nD Cert.StepConvInIdeal.τ Cert.StepConvInIdeal.sig) → Buf (Elt Ideal) ℓ) (g : Dev Cert.StepConvInIdeal.nD → PrngReg)
    (m' : (ℓ : Loc Cert.StepConvInRefIdeal.nD Cert.StepConvInRefIdeal.τ Cert.StepConvInRefIdeal.sig) → Buf (Elt Ideal) ℓ) (g' : Dev Cert.StepConvInRefIdeal.nD → PrngReg), Pre_StepConvInIdeal m →
    (∀ c : Dev Cert.StepConvInIdeal.nD,
      m' ((c.tc : Thread Cert.StepConvInRefIdeal.nD Cert.StepConvInRefIdeal.τ).loc Cert.StepConvInRefIdeal.main_arg0) = m ((c.tc : Thread Cert.StepConvInIdeal.nD Cert.StepConvInIdeal.τ).loc Cert.StepConvInIdeal.main_arg0)
      ∧ m' ((c.tc : Thread Cert.StepConvInRefIdeal.nD Cert.StepConvInRefIdeal.τ).loc Cert.StepConvInRefIdeal.main_arg1) = m ((c.tc : Thread Cert.StepConvInIdeal.nD Cert.StepConvInIdeal.τ).loc Cert.StepConvInIdeal.main_arg1)
      ∧ m' ((c.tc : Thread Cert.StepConvInRefIdeal.nD Cert.StepConvInRefIdeal.τ).loc Cert.StepConvInRefIdeal.main_arg2) = m ((c.tc : Thread Cert.StepConvInIdeal.nD Cert.StepConvInIdeal.τ).loc Cert.StepConvInIdeal.main_arg2)
      ∧ m' ((c.tc : Thread Cert.StepConvInRefIdeal.nD Cert.StepConvInRefIdeal.τ).loc Cert.StepConvInRefIdeal.main_arg3) = m ((c.tc : Thread Cert.StepConvInIdeal.nD Cert.StepConvInIdeal.τ).loc Cert.StepConvInIdeal.main_arg3)) →
    ∃ (v0 : (c : Dev Cert.StepConvInIdeal.nD) → Buf (Elt Ideal) ((c.tc : Thread Cert.StepConvInIdeal.nD Cert.StepConvInIdeal.τ).loc Cert.StepConvInIdeal.main_v0_0)) (v1 : (c : Dev Cert.StepConvInIdeal.nD) → Buf (Elt Ideal) ((c.tc : Thread Cert.StepConvInIdeal.nD Cert.StepConvInIdeal.τ).loc Cert.StepConvInIdeal.main_v0_1)) (v2 : (c : Dev Cert.StepConvInIdeal.nD) → Buf (Elt Ideal) ((c.tc : Thread Cert.StepConvInIdeal.nD Cert.StepConvInIdeal.τ).loc Cert.StepConvInIdeal.main_v0_2)) (v3 : (c : Dev Cert.StepConvInIdeal.nD) → Buf (Elt Ideal) ((c.tc : Thread Cert.StepConvInIdeal.nD Cert.StepConvInIdeal.τ).loc Cert.StepConvInIdeal.main_v0_3)),
      θ_run (Cert.StepConvInIdeal.defs (F := Ideal)) (onTc (τ := Cert.StepConvInIdeal.τ) (Cert.StepConvInIdeal.main (F := Ideal))) ⟨m, fun _ => 0, g⟩ (fun r => ∀ c : Dev Cert.StepConvInIdeal.nD,
          r.2.mem ((c.tc : Thread Cert.StepConvInIdeal.nD Cert.StepConvInIdeal.τ).loc Cert.StepConvInIdeal.main_v0_0) = v0 c
          ∧ r.2.mem ((c.tc : Thread Cert.StepConvInIdeal.nD Cert.StepConvInIdeal.τ).loc Cert.StepConvInIdeal.main_v0_1) = v1 c
          ∧ r.2.mem ((c.tc : Thread Cert.StepConvInIdeal.nD Cert.StepConvInIdeal.τ).loc Cert.StepConvInIdeal.main_v0_2) = v2 c
          ∧ r.2.mem ((c.tc : Thread Cert.StepConvInIdeal.nD Cert.StepConvInIdeal.τ).loc Cert.StepConvInIdeal.main_v0_3) = v3 c
          ∧ r.2.mem ((c.tc : Thread Cert.StepConvInIdeal.nD Cert.StepConvInIdeal.τ).loc Cert.StepConvInIdeal.main_arg0) = m ((c.tc : Thread Cert.StepConvInIdeal.nD Cert.StepConvInIdeal.τ).loc Cert.StepConvInIdeal.main_arg0)
          ∧ r.2.mem ((c.tc : Thread Cert.StepConvInIdeal.nD Cert.StepConvInIdeal.τ).loc Cert.StepConvInIdeal.main_arg1) = m ((c.tc : Thread Cert.StepConvInIdeal.nD Cert.StepConvInIdeal.τ).loc Cert.StepConvInIdeal.main_arg1)
          ∧ r.2.mem ((c.tc : Thread Cert.StepConvInIdeal.nD Cert.StepConvInIdeal.τ).loc Cert.StepConvInIdeal.main_arg2) = m ((c.tc : Thread Cert.StepConvInIdeal.nD Cert.StepConvInIdeal.τ).loc Cert.StepConvInIdeal.main_arg2)
          ∧ r.2.mem ((c.tc : Thread Cert.StepConvInIdeal.nD Cert.StepConvInIdeal.τ).loc Cert.StepConvInIdeal.main_arg3) = m ((c.tc : Thread Cert.StepConvInIdeal.nD Cert.StepConvInIdeal.τ).loc Cert.StepConvInIdeal.main_arg3))
      ∧ θ_run (Cert.StepConvInRefIdeal.defs (F := Ideal)) (onTc (τ := Cert.StepConvInRefIdeal.τ) (Cert.StepConvInRefIdeal.main (F := Ideal))) ⟨m', fun _ => 0, g'⟩ (fun r => ∀ c : Dev Cert.StepConvInRefIdeal.nD,
          r.2.mem ((c.tc : Thread Cert.StepConvInRefIdeal.nD Cert.StepConvInRefIdeal.τ).loc Cert.StepConvInRefIdeal.main_v0) = v0 c
          ∧ r.2.mem ((c.tc : Thread Cert.StepConvInRefIdeal.nD Cert.StepConvInRefIdeal.τ).loc Cert.StepConvInRefIdeal.main_v24) = v1 c
          ∧ r.2.mem ((c.tc : Thread Cert.StepConvInRefIdeal.nD Cert.StepConvInRefIdeal.τ).loc Cert.StepConvInRefIdeal.main_v5) = v2 c
          ∧ r.2.mem ((c.tc : Thread Cert.StepConvInRefIdeal.nD Cert.StepConvInRefIdeal.τ).loc Cert.StepConvInRefIdeal.main_v11) = v3 c
          ∧ r.2.mem ((c.tc : Thread Cert.StepConvInRefIdeal.nD Cert.StepConvInRefIdeal.τ).loc Cert.StepConvInRefIdeal.main_arg0) = m' ((c.tc : Thread Cert.StepConvInRefIdeal.nD Cert.StepConvInRefIdeal.τ).loc Cert.StepConvInRefIdeal.main_arg0)
          ∧ r.2.mem ((c.tc : Thread Cert.StepConvInRefIdeal.nD Cert.StepConvInRefIdeal.τ).loc Cert.StepConvInRefIdeal.main_arg1) = m' ((c.tc : Thread Cert.StepConvInRefIdeal.nD Cert.StepConvInRefIdeal.τ).loc Cert.StepConvInRefIdeal.main_arg1)
          ∧ r.2.mem ((c.tc : Thread Cert.StepConvInRefIdeal.nD Cert.StepConvInRefIdeal.τ).loc Cert.StepConvInRefIdeal.main_arg2) = m' ((c.tc : Thread Cert.StepConvInRefIdeal.nD Cert.StepConvInRefIdeal.τ).loc Cert.StepConvInRefIdeal.main_arg2)
          ∧ r.2.mem ((c.tc : Thread Cert.StepConvInRefIdeal.nD Cert.StepConvInRefIdeal.τ).loc Cert.StepConvInRefIdeal.main_arg3) = m' ((c.tc : Thread Cert.StepConvInRefIdeal.nD Cert.StepConvInRefIdeal.τ).loc Cert.StepConvInRefIdeal.main_arg3))

def preserves_StepMlp_StepMlpIdeal : Prop :=
  True

def algebraic_StepMlpIdeal_StepMlpRefIdeal [hStepMlpIdeal : Cert.StepMlpIdeal.Facts] [hStepMlpRefIdeal : Cert.StepMlpRefIdeal.Facts] : Prop :=
  ∀ (m : (ℓ : Loc Cert.StepMlpIdeal.nD Cert.StepMlpIdeal.τ Cert.StepMlpIdeal.sig) → Buf (Elt Ideal) ℓ) (g : Dev Cert.StepMlpIdeal.nD → PrngReg)
    (m' : (ℓ : Loc Cert.StepMlpRefIdeal.nD Cert.StepMlpRefIdeal.τ Cert.StepMlpRefIdeal.sig) → Buf (Elt Ideal) ℓ) (g' : Dev Cert.StepMlpRefIdeal.nD → PrngReg), Pre_StepMlpIdeal m →
    (∀ c : Dev Cert.StepMlpIdeal.nD,
      m' ((c.tc : Thread Cert.StepMlpRefIdeal.nD Cert.StepMlpRefIdeal.τ).loc Cert.StepMlpRefIdeal.main_arg0) = m ((c.tc : Thread Cert.StepMlpIdeal.nD Cert.StepMlpIdeal.τ).loc Cert.StepMlpIdeal.main_arg0)
      ∧ m' ((c.tc : Thread Cert.StepMlpRefIdeal.nD Cert.StepMlpRefIdeal.τ).loc Cert.StepMlpRefIdeal.main_arg1) = m ((c.tc : Thread Cert.StepMlpIdeal.nD Cert.StepMlpIdeal.τ).loc Cert.StepMlpIdeal.main_arg1)
      ∧ m' ((c.tc : Thread Cert.StepMlpRefIdeal.nD Cert.StepMlpRefIdeal.τ).loc Cert.StepMlpRefIdeal.main_arg2) = m ((c.tc : Thread Cert.StepMlpIdeal.nD Cert.StepMlpIdeal.τ).loc Cert.StepMlpIdeal.main_arg2)
      ∧ m' ((c.tc : Thread Cert.StepMlpRefIdeal.nD Cert.StepMlpRefIdeal.τ).loc Cert.StepMlpRefIdeal.main_arg3) = m ((c.tc : Thread Cert.StepMlpIdeal.nD Cert.StepMlpIdeal.τ).loc Cert.StepMlpIdeal.main_arg3)
      ∧ m' ((c.tc : Thread Cert.StepMlpRefIdeal.nD Cert.StepMlpRefIdeal.τ).loc Cert.StepMlpRefIdeal.main_arg4) = m ((c.tc : Thread Cert.StepMlpIdeal.nD Cert.StepMlpIdeal.τ).loc Cert.StepMlpIdeal.main_arg4)
      ∧ m' ((c.tc : Thread Cert.StepMlpRefIdeal.nD Cert.StepMlpRefIdeal.τ).loc Cert.StepMlpRefIdeal.main_arg5) = m ((c.tc : Thread Cert.StepMlpIdeal.nD Cert.StepMlpIdeal.τ).loc Cert.StepMlpIdeal.main_arg5)
      ∧ m' ((c.tc : Thread Cert.StepMlpRefIdeal.nD Cert.StepMlpRefIdeal.τ).loc Cert.StepMlpRefIdeal.main_arg6) = m ((c.tc : Thread Cert.StepMlpIdeal.nD Cert.StepMlpIdeal.τ).loc Cert.StepMlpIdeal.main_arg6)) →
    ∃ (v0 : (c : Dev Cert.StepMlpIdeal.nD) → Buf (Elt Ideal) ((c.tc : Thread Cert.StepMlpIdeal.nD Cert.StepMlpIdeal.τ).loc Cert.StepMlpIdeal.main_v0_0)) (v1 : (c : Dev Cert.StepMlpIdeal.nD) → Buf (Elt Ideal) ((c.tc : Thread Cert.StepMlpIdeal.nD Cert.StepMlpIdeal.τ).loc Cert.StepMlpIdeal.main_v0_1)) (v2 : (c : Dev Cert.StepMlpIdeal.nD) → Buf (Elt Ideal) ((c.tc : Thread Cert.StepMlpIdeal.nD Cert.StepMlpIdeal.τ).loc Cert.StepMlpIdeal.main_v0_2)) (v3 : (c : Dev Cert.StepMlpIdeal.nD) → Buf (Elt Ideal) ((c.tc : Thread Cert.StepMlpIdeal.nD Cert.StepMlpIdeal.τ).loc Cert.StepMlpIdeal.main_v0_3)),
      θ_run (Cert.StepMlpIdeal.defs (F := Ideal)) (onTc (τ := Cert.StepMlpIdeal.τ) (Cert.StepMlpIdeal.main (F := Ideal))) ⟨m, fun _ => 0, g⟩ (fun r => ∀ c : Dev Cert.StepMlpIdeal.nD,
          r.2.mem ((c.tc : Thread Cert.StepMlpIdeal.nD Cert.StepMlpIdeal.τ).loc Cert.StepMlpIdeal.main_v0_0) = v0 c
          ∧ r.2.mem ((c.tc : Thread Cert.StepMlpIdeal.nD Cert.StepMlpIdeal.τ).loc Cert.StepMlpIdeal.main_v0_1) = v1 c
          ∧ r.2.mem ((c.tc : Thread Cert.StepMlpIdeal.nD Cert.StepMlpIdeal.τ).loc Cert.StepMlpIdeal.main_v0_2) = v2 c
          ∧ r.2.mem ((c.tc : Thread Cert.StepMlpIdeal.nD Cert.StepMlpIdeal.τ).loc Cert.StepMlpIdeal.main_v0_3) = v3 c
          ∧ r.2.mem ((c.tc : Thread Cert.StepMlpIdeal.nD Cert.StepMlpIdeal.τ).loc Cert.StepMlpIdeal.main_arg0) = m ((c.tc : Thread Cert.StepMlpIdeal.nD Cert.StepMlpIdeal.τ).loc Cert.StepMlpIdeal.main_arg0)
          ∧ r.2.mem ((c.tc : Thread Cert.StepMlpIdeal.nD Cert.StepMlpIdeal.τ).loc Cert.StepMlpIdeal.main_arg1) = m ((c.tc : Thread Cert.StepMlpIdeal.nD Cert.StepMlpIdeal.τ).loc Cert.StepMlpIdeal.main_arg1)
          ∧ r.2.mem ((c.tc : Thread Cert.StepMlpIdeal.nD Cert.StepMlpIdeal.τ).loc Cert.StepMlpIdeal.main_arg2) = m ((c.tc : Thread Cert.StepMlpIdeal.nD Cert.StepMlpIdeal.τ).loc Cert.StepMlpIdeal.main_arg2)
          ∧ r.2.mem ((c.tc : Thread Cert.StepMlpIdeal.nD Cert.StepMlpIdeal.τ).loc Cert.StepMlpIdeal.main_arg3) = m ((c.tc : Thread Cert.StepMlpIdeal.nD Cert.StepMlpIdeal.τ).loc Cert.StepMlpIdeal.main_arg3)
          ∧ r.2.mem ((c.tc : Thread Cert.StepMlpIdeal.nD Cert.StepMlpIdeal.τ).loc Cert.StepMlpIdeal.main_arg4) = m ((c.tc : Thread Cert.StepMlpIdeal.nD Cert.StepMlpIdeal.τ).loc Cert.StepMlpIdeal.main_arg4)
          ∧ r.2.mem ((c.tc : Thread Cert.StepMlpIdeal.nD Cert.StepMlpIdeal.τ).loc Cert.StepMlpIdeal.main_arg5) = m ((c.tc : Thread Cert.StepMlpIdeal.nD Cert.StepMlpIdeal.τ).loc Cert.StepMlpIdeal.main_arg5)
          ∧ r.2.mem ((c.tc : Thread Cert.StepMlpIdeal.nD Cert.StepMlpIdeal.τ).loc Cert.StepMlpIdeal.main_arg6) = m ((c.tc : Thread Cert.StepMlpIdeal.nD Cert.StepMlpIdeal.τ).loc Cert.StepMlpIdeal.main_arg6))
      ∧ θ_run (Cert.StepMlpRefIdeal.defs (F := Ideal)) (onTc (τ := Cert.StepMlpRefIdeal.τ) (Cert.StepMlpRefIdeal.main (F := Ideal))) ⟨m', fun _ => 0, g'⟩ (fun r => ∀ c : Dev Cert.StepMlpRefIdeal.nD,
          r.2.mem ((c.tc : Thread Cert.StepMlpRefIdeal.nD Cert.StepMlpRefIdeal.τ).loc Cert.StepMlpRefIdeal.main_v4) = v0 c
          ∧ r.2.mem ((c.tc : Thread Cert.StepMlpRefIdeal.nD Cert.StepMlpRefIdeal.τ).loc Cert.StepMlpRefIdeal.main_v28) = v1 c
          ∧ r.2.mem ((c.tc : Thread Cert.StepMlpRefIdeal.nD Cert.StepMlpRefIdeal.τ).loc Cert.StepMlpRefIdeal.main_v9) = v2 c
          ∧ r.2.mem ((c.tc : Thread Cert.StepMlpRefIdeal.nD Cert.StepMlpRefIdeal.τ).loc Cert.StepMlpRefIdeal.main_v15) = v3 c
          ∧ r.2.mem ((c.tc : Thread Cert.StepMlpRefIdeal.nD Cert.StepMlpRefIdeal.τ).loc Cert.StepMlpRefIdeal.main_arg0) = m' ((c.tc : Thread Cert.StepMlpRefIdeal.nD Cert.StepMlpRefIdeal.τ).loc Cert.StepMlpRefIdeal.main_arg0)
          ∧ r.2.mem ((c.tc : Thread Cert.StepMlpRefIdeal.nD Cert.StepMlpRefIdeal.τ).loc Cert.StepMlpRefIdeal.main_arg1) = m' ((c.tc : Thread Cert.StepMlpRefIdeal.nD Cert.StepMlpRefIdeal.τ).loc Cert.StepMlpRefIdeal.main_arg1)
          ∧ r.2.mem ((c.tc : Thread Cert.StepMlpRefIdeal.nD Cert.StepMlpRefIdeal.τ).loc Cert.StepMlpRefIdeal.main_arg2) = m' ((c.tc : Thread Cert.StepMlpRefIdeal.nD Cert.StepMlpRefIdeal.τ).loc Cert.StepMlpRefIdeal.main_arg2)
          ∧ r.2.mem ((c.tc : Thread Cert.StepMlpRefIdeal.nD Cert.StepMlpRefIdeal.τ).loc Cert.StepMlpRefIdeal.main_arg3) = m' ((c.tc : Thread Cert.StepMlpRefIdeal.nD Cert.StepMlpRefIdeal.τ).loc Cert.StepMlpRefIdeal.main_arg3)
          ∧ r.2.mem ((c.tc : Thread Cert.StepMlpRefIdeal.nD Cert.StepMlpRefIdeal.τ).loc Cert.StepMlpRefIdeal.main_arg4) = m' ((c.tc : Thread Cert.StepMlpRefIdeal.nD Cert.StepMlpRefIdeal.τ).loc Cert.StepMlpRefIdeal.main_arg4)
          ∧ r.2.mem ((c.tc : Thread Cert.StepMlpRefIdeal.nD Cert.StepMlpRefIdeal.τ).loc Cert.StepMlpRefIdeal.main_arg5) = m' ((c.tc : Thread Cert.StepMlpRefIdeal.nD Cert.StepMlpRefIdeal.τ).loc Cert.StepMlpRefIdeal.main_arg5)
          ∧ r.2.mem ((c.tc : Thread Cert.StepMlpRefIdeal.nD Cert.StepMlpRefIdeal.τ).loc Cert.StepMlpRefIdeal.main_arg6) = m' ((c.tc : Thread Cert.StepMlpRefIdeal.nD Cert.StepMlpRefIdeal.τ).loc Cert.StepMlpRefIdeal.main_arg6))

def preserves_StepPleGate_StepPleGateIdeal : Prop :=
  True

def algebraic_StepPleGateIdeal_StepPleGateRefIdeal [hStepPleGateIdeal : Cert.StepPleGateIdeal.Facts] [hStepPleGateRefIdeal : Cert.StepPleGateRefIdeal.Facts] : Prop :=
  ∀ (m : (ℓ : Loc Cert.StepPleGateIdeal.nD Cert.StepPleGateIdeal.τ Cert.StepPleGateIdeal.sig) → Buf (Elt Ideal) ℓ) (g : Dev Cert.StepPleGateIdeal.nD → PrngReg)
    (m' : (ℓ : Loc Cert.StepPleGateRefIdeal.nD Cert.StepPleGateRefIdeal.τ Cert.StepPleGateRefIdeal.sig) → Buf (Elt Ideal) ℓ) (g' : Dev Cert.StepPleGateRefIdeal.nD → PrngReg), Pre_StepPleGateIdeal m →
    (∀ c : Dev Cert.StepPleGateIdeal.nD,
      m' ((c.tc : Thread Cert.StepPleGateRefIdeal.nD Cert.StepPleGateRefIdeal.τ).loc Cert.StepPleGateRefIdeal.main_arg0) = m ((c.tc : Thread Cert.StepPleGateIdeal.nD Cert.StepPleGateIdeal.τ).loc Cert.StepPleGateIdeal.main_arg0)
      ∧ m' ((c.tc : Thread Cert.StepPleGateRefIdeal.nD Cert.StepPleGateRefIdeal.τ).loc Cert.StepPleGateRefIdeal.main_arg1) = m ((c.tc : Thread Cert.StepPleGateIdeal.nD Cert.StepPleGateIdeal.τ).loc Cert.StepPleGateIdeal.main_arg1)
      ∧ m' ((c.tc : Thread Cert.StepPleGateRefIdeal.nD Cert.StepPleGateRefIdeal.τ).loc Cert.StepPleGateRefIdeal.main_arg2) = m ((c.tc : Thread Cert.StepPleGateIdeal.nD Cert.StepPleGateIdeal.τ).loc Cert.StepPleGateIdeal.main_arg2)
      ∧ m' ((c.tc : Thread Cert.StepPleGateRefIdeal.nD Cert.StepPleGateRefIdeal.τ).loc Cert.StepPleGateRefIdeal.main_arg3) = m ((c.tc : Thread Cert.StepPleGateIdeal.nD Cert.StepPleGateIdeal.τ).loc Cert.StepPleGateIdeal.main_arg3)
      ∧ m' ((c.tc : Thread Cert.StepPleGateRefIdeal.nD Cert.StepPleGateRefIdeal.τ).loc Cert.StepPleGateRefIdeal.main_arg4) = m ((c.tc : Thread Cert.StepPleGateIdeal.nD Cert.StepPleGateIdeal.τ).loc Cert.StepPleGateIdeal.main_arg4)
      ∧ m' ((c.tc : Thread Cert.StepPleGateRefIdeal.nD Cert.StepPleGateRefIdeal.τ).loc Cert.StepPleGateRefIdeal.main_arg5) = m ((c.tc : Thread Cert.StepPleGateIdeal.nD Cert.StepPleGateIdeal.τ).loc Cert.StepPleGateIdeal.main_arg5)
      ∧ m' ((c.tc : Thread Cert.StepPleGateRefIdeal.nD Cert.StepPleGateRefIdeal.τ).loc Cert.StepPleGateRefIdeal.main_arg6) = m ((c.tc : Thread Cert.StepPleGateIdeal.nD Cert.StepPleGateIdeal.τ).loc Cert.StepPleGateIdeal.main_arg6)) →
    ∃ (v0 : (c : Dev Cert.StepPleGateIdeal.nD) → Buf (Elt Ideal) ((c.tc : Thread Cert.StepPleGateIdeal.nD Cert.StepPleGateIdeal.τ).loc Cert.StepPleGateIdeal.main_v0_0)) (v1 : (c : Dev Cert.StepPleGateIdeal.nD) → Buf (Elt Ideal) ((c.tc : Thread Cert.StepPleGateIdeal.nD Cert.StepPleGateIdeal.τ).loc Cert.StepPleGateIdeal.main_v0_1)) (v2 : (c : Dev Cert.StepPleGateIdeal.nD) → Buf (Elt Ideal) ((c.tc : Thread Cert.StepPleGateIdeal.nD Cert.StepPleGateIdeal.τ).loc Cert.StepPleGateIdeal.main_v0_2)) (v3 : (c : Dev Cert.StepPleGateIdeal.nD) → Buf (Elt Ideal) ((c.tc : Thread Cert.StepPleGateIdeal.nD Cert.StepPleGateIdeal.τ).loc Cert.StepPleGateIdeal.main_v0_3)),
      θ_run (Cert.StepPleGateIdeal.defs (F := Ideal)) (onTc (τ := Cert.StepPleGateIdeal.τ) (Cert.StepPleGateIdeal.main (F := Ideal))) ⟨m, fun _ => 0, g⟩ (fun r => ∀ c : Dev Cert.StepPleGateIdeal.nD,
          r.2.mem ((c.tc : Thread Cert.StepPleGateIdeal.nD Cert.StepPleGateIdeal.τ).loc Cert.StepPleGateIdeal.main_v0_0) = v0 c
          ∧ r.2.mem ((c.tc : Thread Cert.StepPleGateIdeal.nD Cert.StepPleGateIdeal.τ).loc Cert.StepPleGateIdeal.main_v0_1) = v1 c
          ∧ r.2.mem ((c.tc : Thread Cert.StepPleGateIdeal.nD Cert.StepPleGateIdeal.τ).loc Cert.StepPleGateIdeal.main_v0_2) = v2 c
          ∧ r.2.mem ((c.tc : Thread Cert.StepPleGateIdeal.nD Cert.StepPleGateIdeal.τ).loc Cert.StepPleGateIdeal.main_v0_3) = v3 c
          ∧ r.2.mem ((c.tc : Thread Cert.StepPleGateIdeal.nD Cert.StepPleGateIdeal.τ).loc Cert.StepPleGateIdeal.main_arg0) = m ((c.tc : Thread Cert.StepPleGateIdeal.nD Cert.StepPleGateIdeal.τ).loc Cert.StepPleGateIdeal.main_arg0)
          ∧ r.2.mem ((c.tc : Thread Cert.StepPleGateIdeal.nD Cert.StepPleGateIdeal.τ).loc Cert.StepPleGateIdeal.main_arg1) = m ((c.tc : Thread Cert.StepPleGateIdeal.nD Cert.StepPleGateIdeal.τ).loc Cert.StepPleGateIdeal.main_arg1)
          ∧ r.2.mem ((c.tc : Thread Cert.StepPleGateIdeal.nD Cert.StepPleGateIdeal.τ).loc Cert.StepPleGateIdeal.main_arg2) = m ((c.tc : Thread Cert.StepPleGateIdeal.nD Cert.StepPleGateIdeal.τ).loc Cert.StepPleGateIdeal.main_arg2)
          ∧ r.2.mem ((c.tc : Thread Cert.StepPleGateIdeal.nD Cert.StepPleGateIdeal.τ).loc Cert.StepPleGateIdeal.main_arg3) = m ((c.tc : Thread Cert.StepPleGateIdeal.nD Cert.StepPleGateIdeal.τ).loc Cert.StepPleGateIdeal.main_arg3)
          ∧ r.2.mem ((c.tc : Thread Cert.StepPleGateIdeal.nD Cert.StepPleGateIdeal.τ).loc Cert.StepPleGateIdeal.main_arg4) = m ((c.tc : Thread Cert.StepPleGateIdeal.nD Cert.StepPleGateIdeal.τ).loc Cert.StepPleGateIdeal.main_arg4)
          ∧ r.2.mem ((c.tc : Thread Cert.StepPleGateIdeal.nD Cert.StepPleGateIdeal.τ).loc Cert.StepPleGateIdeal.main_arg5) = m ((c.tc : Thread Cert.StepPleGateIdeal.nD Cert.StepPleGateIdeal.τ).loc Cert.StepPleGateIdeal.main_arg5)
          ∧ r.2.mem ((c.tc : Thread Cert.StepPleGateIdeal.nD Cert.StepPleGateIdeal.τ).loc Cert.StepPleGateIdeal.main_arg6) = m ((c.tc : Thread Cert.StepPleGateIdeal.nD Cert.StepPleGateIdeal.τ).loc Cert.StepPleGateIdeal.main_arg6))
      ∧ θ_run (Cert.StepPleGateRefIdeal.defs (F := Ideal)) (onTc (τ := Cert.StepPleGateRefIdeal.τ) (Cert.StepPleGateRefIdeal.main (F := Ideal))) ⟨m', fun _ => 0, g'⟩ (fun r => ∀ c : Dev Cert.StepPleGateRefIdeal.nD,
          r.2.mem ((c.tc : Thread Cert.StepPleGateRefIdeal.nD Cert.StepPleGateRefIdeal.τ).loc Cert.StepPleGateRefIdeal.main_v4) = v0 c
          ∧ r.2.mem ((c.tc : Thread Cert.StepPleGateRefIdeal.nD Cert.StepPleGateRefIdeal.τ).loc Cert.StepPleGateRefIdeal.main_v28) = v1 c
          ∧ r.2.mem ((c.tc : Thread Cert.StepPleGateRefIdeal.nD Cert.StepPleGateRefIdeal.τ).loc Cert.StepPleGateRefIdeal.main_v9) = v2 c
          ∧ r.2.mem ((c.tc : Thread Cert.StepPleGateRefIdeal.nD Cert.StepPleGateRefIdeal.τ).loc Cert.StepPleGateRefIdeal.main_v15) = v3 c
          ∧ r.2.mem ((c.tc : Thread Cert.StepPleGateRefIdeal.nD Cert.StepPleGateRefIdeal.τ).loc Cert.StepPleGateRefIdeal.main_arg0) = m' ((c.tc : Thread Cert.StepPleGateRefIdeal.nD Cert.StepPleGateRefIdeal.τ).loc Cert.StepPleGateRefIdeal.main_arg0)
          ∧ r.2.mem ((c.tc : Thread Cert.StepPleGateRefIdeal.nD Cert.StepPleGateRefIdeal.τ).loc Cert.StepPleGateRefIdeal.main_arg1) = m' ((c.tc : Thread Cert.StepPleGateRefIdeal.nD Cert.StepPleGateRefIdeal.τ).loc Cert.StepPleGateRefIdeal.main_arg1)
          ∧ r.2.mem ((c.tc : Thread Cert.StepPleGateRefIdeal.nD Cert.StepPleGateRefIdeal.τ).loc Cert.StepPleGateRefIdeal.main_arg2) = m' ((c.tc : Thread Cert.StepPleGateRefIdeal.nD Cert.StepPleGateRefIdeal.τ).loc Cert.StepPleGateRefIdeal.main_arg2)
          ∧ r.2.mem ((c.tc : Thread Cert.StepPleGateRefIdeal.nD Cert.StepPleGateRefIdeal.τ).loc Cert.StepPleGateRefIdeal.main_arg3) = m' ((c.tc : Thread Cert.StepPleGateRefIdeal.nD Cert.StepPleGateRefIdeal.τ).loc Cert.StepPleGateRefIdeal.main_arg3)
          ∧ r.2.mem ((c.tc : Thread Cert.StepPleGateRefIdeal.nD Cert.StepPleGateRefIdeal.τ).loc Cert.StepPleGateRefIdeal.main_arg4) = m' ((c.tc : Thread Cert.StepPleGateRefIdeal.nD Cert.StepPleGateRefIdeal.τ).loc Cert.StepPleGateRefIdeal.main_arg4)
          ∧ r.2.mem ((c.tc : Thread Cert.StepPleGateRefIdeal.nD Cert.StepPleGateRefIdeal.τ).loc Cert.StepPleGateRefIdeal.main_arg5) = m' ((c.tc : Thread Cert.StepPleGateRefIdeal.nD Cert.StepPleGateRefIdeal.τ).loc Cert.StepPleGateRefIdeal.main_arg5)
          ∧ r.2.mem ((c.tc : Thread Cert.StepPleGateRefIdeal.nD Cert.StepPleGateRefIdeal.τ).loc Cert.StepPleGateRefIdeal.main_arg6) = m' ((c.tc : Thread Cert.StepPleGateRefIdeal.nD Cert.StepPleGateRefIdeal.τ).loc Cert.StepPleGateRefIdeal.main_arg6))

def preserves_StepPleProj_StepPleProjIdeal : Prop :=
  True

def algebraic_StepPleProjIdeal_StepPleProjRefIdeal [hStepPleProjIdeal : Cert.StepPleProjIdeal.Facts] [hStepPleProjRefIdeal : Cert.StepPleProjRefIdeal.Facts] : Prop :=
  ∀ (m : (ℓ : Loc Cert.StepPleProjIdeal.nD Cert.StepPleProjIdeal.τ Cert.StepPleProjIdeal.sig) → Buf (Elt Ideal) ℓ) (g : Dev Cert.StepPleProjIdeal.nD → PrngReg)
    (m' : (ℓ : Loc Cert.StepPleProjRefIdeal.nD Cert.StepPleProjRefIdeal.τ Cert.StepPleProjRefIdeal.sig) → Buf (Elt Ideal) ℓ) (g' : Dev Cert.StepPleProjRefIdeal.nD → PrngReg), Pre_StepPleProjIdeal m →
    (∀ c : Dev Cert.StepPleProjIdeal.nD,
      m' ((c.tc : Thread Cert.StepPleProjRefIdeal.nD Cert.StepPleProjRefIdeal.τ).loc Cert.StepPleProjRefIdeal.main_arg0) = m ((c.tc : Thread Cert.StepPleProjIdeal.nD Cert.StepPleProjIdeal.τ).loc Cert.StepPleProjIdeal.main_arg0)
      ∧ m' ((c.tc : Thread Cert.StepPleProjRefIdeal.nD Cert.StepPleProjRefIdeal.τ).loc Cert.StepPleProjRefIdeal.main_arg1) = m ((c.tc : Thread Cert.StepPleProjIdeal.nD Cert.StepPleProjIdeal.τ).loc Cert.StepPleProjIdeal.main_arg1)
      ∧ m' ((c.tc : Thread Cert.StepPleProjRefIdeal.nD Cert.StepPleProjRefIdeal.τ).loc Cert.StepPleProjRefIdeal.main_arg2) = m ((c.tc : Thread Cert.StepPleProjIdeal.nD Cert.StepPleProjIdeal.τ).loc Cert.StepPleProjIdeal.main_arg2)
      ∧ m' ((c.tc : Thread Cert.StepPleProjRefIdeal.nD Cert.StepPleProjRefIdeal.τ).loc Cert.StepPleProjRefIdeal.main_arg3) = m ((c.tc : Thread Cert.StepPleProjIdeal.nD Cert.StepPleProjIdeal.τ).loc Cert.StepPleProjIdeal.main_arg3)
      ∧ m' ((c.tc : Thread Cert.StepPleProjRefIdeal.nD Cert.StepPleProjRefIdeal.τ).loc Cert.StepPleProjRefIdeal.main_arg4) = m ((c.tc : Thread Cert.StepPleProjIdeal.nD Cert.StepPleProjIdeal.τ).loc Cert.StepPleProjIdeal.main_arg4)
      ∧ m' ((c.tc : Thread Cert.StepPleProjRefIdeal.nD Cert.StepPleProjRefIdeal.τ).loc Cert.StepPleProjRefIdeal.main_arg5) = m ((c.tc : Thread Cert.StepPleProjIdeal.nD Cert.StepPleProjIdeal.τ).loc Cert.StepPleProjIdeal.main_arg5)
      ∧ m' ((c.tc : Thread Cert.StepPleProjRefIdeal.nD Cert.StepPleProjRefIdeal.τ).loc Cert.StepPleProjRefIdeal.main_arg6) = m ((c.tc : Thread Cert.StepPleProjIdeal.nD Cert.StepPleProjIdeal.τ).loc Cert.StepPleProjIdeal.main_arg6)) →
    ∃ (v0 : (c : Dev Cert.StepPleProjIdeal.nD) → Buf (Elt Ideal) ((c.tc : Thread Cert.StepPleProjIdeal.nD Cert.StepPleProjIdeal.τ).loc Cert.StepPleProjIdeal.main_v0_0)) (v1 : (c : Dev Cert.StepPleProjIdeal.nD) → Buf (Elt Ideal) ((c.tc : Thread Cert.StepPleProjIdeal.nD Cert.StepPleProjIdeal.τ).loc Cert.StepPleProjIdeal.main_v0_1)) (v2 : (c : Dev Cert.StepPleProjIdeal.nD) → Buf (Elt Ideal) ((c.tc : Thread Cert.StepPleProjIdeal.nD Cert.StepPleProjIdeal.τ).loc Cert.StepPleProjIdeal.main_v0_2)) (v3 : (c : Dev Cert.StepPleProjIdeal.nD) → Buf (Elt Ideal) ((c.tc : Thread Cert.StepPleProjIdeal.nD Cert.StepPleProjIdeal.τ).loc Cert.StepPleProjIdeal.main_v0_3)),
      θ_run (Cert.StepPleProjIdeal.defs (F := Ideal)) (onTc (τ := Cert.StepPleProjIdeal.τ) (Cert.StepPleProjIdeal.main (F := Ideal))) ⟨m, fun _ => 0, g⟩ (fun r => ∀ c : Dev Cert.StepPleProjIdeal.nD,
          r.2.mem ((c.tc : Thread Cert.StepPleProjIdeal.nD Cert.StepPleProjIdeal.τ).loc Cert.StepPleProjIdeal.main_v0_0) = v0 c
          ∧ r.2.mem ((c.tc : Thread Cert.StepPleProjIdeal.nD Cert.StepPleProjIdeal.τ).loc Cert.StepPleProjIdeal.main_v0_1) = v1 c
          ∧ r.2.mem ((c.tc : Thread Cert.StepPleProjIdeal.nD Cert.StepPleProjIdeal.τ).loc Cert.StepPleProjIdeal.main_v0_2) = v2 c
          ∧ r.2.mem ((c.tc : Thread Cert.StepPleProjIdeal.nD Cert.StepPleProjIdeal.τ).loc Cert.StepPleProjIdeal.main_v0_3) = v3 c
          ∧ r.2.mem ((c.tc : Thread Cert.StepPleProjIdeal.nD Cert.StepPleProjIdeal.τ).loc Cert.StepPleProjIdeal.main_arg0) = m ((c.tc : Thread Cert.StepPleProjIdeal.nD Cert.StepPleProjIdeal.τ).loc Cert.StepPleProjIdeal.main_arg0)
          ∧ r.2.mem ((c.tc : Thread Cert.StepPleProjIdeal.nD Cert.StepPleProjIdeal.τ).loc Cert.StepPleProjIdeal.main_arg1) = m ((c.tc : Thread Cert.StepPleProjIdeal.nD Cert.StepPleProjIdeal.τ).loc Cert.StepPleProjIdeal.main_arg1)
          ∧ r.2.mem ((c.tc : Thread Cert.StepPleProjIdeal.nD Cert.StepPleProjIdeal.τ).loc Cert.StepPleProjIdeal.main_arg2) = m ((c.tc : Thread Cert.StepPleProjIdeal.nD Cert.StepPleProjIdeal.τ).loc Cert.StepPleProjIdeal.main_arg2)
          ∧ r.2.mem ((c.tc : Thread Cert.StepPleProjIdeal.nD Cert.StepPleProjIdeal.τ).loc Cert.StepPleProjIdeal.main_arg3) = m ((c.tc : Thread Cert.StepPleProjIdeal.nD Cert.StepPleProjIdeal.τ).loc Cert.StepPleProjIdeal.main_arg3)
          ∧ r.2.mem ((c.tc : Thread Cert.StepPleProjIdeal.nD Cert.StepPleProjIdeal.τ).loc Cert.StepPleProjIdeal.main_arg4) = m ((c.tc : Thread Cert.StepPleProjIdeal.nD Cert.StepPleProjIdeal.τ).loc Cert.StepPleProjIdeal.main_arg4)
          ∧ r.2.mem ((c.tc : Thread Cert.StepPleProjIdeal.nD Cert.StepPleProjIdeal.τ).loc Cert.StepPleProjIdeal.main_arg5) = m ((c.tc : Thread Cert.StepPleProjIdeal.nD Cert.StepPleProjIdeal.τ).loc Cert.StepPleProjIdeal.main_arg5)
          ∧ r.2.mem ((c.tc : Thread Cert.StepPleProjIdeal.nD Cert.StepPleProjIdeal.τ).loc Cert.StepPleProjIdeal.main_arg6) = m ((c.tc : Thread Cert.StepPleProjIdeal.nD Cert.StepPleProjIdeal.τ).loc Cert.StepPleProjIdeal.main_arg6))
      ∧ θ_run (Cert.StepPleProjRefIdeal.defs (F := Ideal)) (onTc (τ := Cert.StepPleProjRefIdeal.τ) (Cert.StepPleProjRefIdeal.main (F := Ideal))) ⟨m', fun _ => 0, g'⟩ (fun r => ∀ c : Dev Cert.StepPleProjRefIdeal.nD,
          r.2.mem ((c.tc : Thread Cert.StepPleProjRefIdeal.nD Cert.StepPleProjRefIdeal.τ).loc Cert.StepPleProjRefIdeal.main_v4) = v0 c
          ∧ r.2.mem ((c.tc : Thread Cert.StepPleProjRefIdeal.nD Cert.StepPleProjRefIdeal.τ).loc Cert.StepPleProjRefIdeal.main_v28) = v1 c
          ∧ r.2.mem ((c.tc : Thread Cert.StepPleProjRefIdeal.nD Cert.StepPleProjRefIdeal.τ).loc Cert.StepPleProjRefIdeal.main_v9) = v2 c
          ∧ r.2.mem ((c.tc : Thread Cert.StepPleProjRefIdeal.nD Cert.StepPleProjRefIdeal.τ).loc Cert.StepPleProjRefIdeal.main_v15) = v3 c
          ∧ r.2.mem ((c.tc : Thread Cert.StepPleProjRefIdeal.nD Cert.StepPleProjRefIdeal.τ).loc Cert.StepPleProjRefIdeal.main_arg0) = m' ((c.tc : Thread Cert.StepPleProjRefIdeal.nD Cert.StepPleProjRefIdeal.τ).loc Cert.StepPleProjRefIdeal.main_arg0)
          ∧ r.2.mem ((c.tc : Thread Cert.StepPleProjRefIdeal.nD Cert.StepPleProjRefIdeal.τ).loc Cert.StepPleProjRefIdeal.main_arg1) = m' ((c.tc : Thread Cert.StepPleProjRefIdeal.nD Cert.StepPleProjRefIdeal.τ).loc Cert.StepPleProjRefIdeal.main_arg1)
          ∧ r.2.mem ((c.tc : Thread Cert.StepPleProjRefIdeal.nD Cert.StepPleProjRefIdeal.τ).loc Cert.StepPleProjRefIdeal.main_arg2) = m' ((c.tc : Thread Cert.StepPleProjRefIdeal.nD Cert.StepPleProjRefIdeal.τ).loc Cert.StepPleProjRefIdeal.main_arg2)
          ∧ r.2.mem ((c.tc : Thread Cert.StepPleProjRefIdeal.nD Cert.StepPleProjRefIdeal.τ).loc Cert.StepPleProjRefIdeal.main_arg3) = m' ((c.tc : Thread Cert.StepPleProjRefIdeal.nD Cert.StepPleProjRefIdeal.τ).loc Cert.StepPleProjRefIdeal.main_arg3)
          ∧ r.2.mem ((c.tc : Thread Cert.StepPleProjRefIdeal.nD Cert.StepPleProjRefIdeal.τ).loc Cert.StepPleProjRefIdeal.main_arg4) = m' ((c.tc : Thread Cert.StepPleProjRefIdeal.nD Cert.StepPleProjRefIdeal.τ).loc Cert.StepPleProjRefIdeal.main_arg4)
          ∧ r.2.mem ((c.tc : Thread Cert.StepPleProjRefIdeal.nD Cert.StepPleProjRefIdeal.τ).loc Cert.StepPleProjRefIdeal.main_arg5) = m' ((c.tc : Thread Cert.StepPleProjRefIdeal.nD Cert.StepPleProjRefIdeal.τ).loc Cert.StepPleProjRefIdeal.main_arg5)
          ∧ r.2.mem ((c.tc : Thread Cert.StepPleProjRefIdeal.nD Cert.StepPleProjRefIdeal.τ).loc Cert.StepPleProjRefIdeal.main_arg6) = m' ((c.tc : Thread Cert.StepPleProjRefIdeal.nD Cert.StepPleProjRefIdeal.τ).loc Cert.StepPleProjRefIdeal.main_arg6))

def preserves_StepGlaIn_StepGlaInIdeal : Prop :=
  True

def algebraic_StepGlaInIdeal_StepGlaInRefIdeal [hStepGlaInIdeal : Cert.StepGlaInIdeal.Facts] [hStepGlaInRefIdeal : Cert.StepGlaInRefIdeal.Facts] : Prop :=
  ∀ (m : (ℓ : Loc Cert.StepGlaInIdeal.nD Cert.StepGlaInIdeal.τ Cert.StepGlaInIdeal.sig) → Buf (Elt Ideal) ℓ) (g : Dev Cert.StepGlaInIdeal.nD → PrngReg)
    (m' : (ℓ : Loc Cert.StepGlaInRefIdeal.nD Cert.StepGlaInRefIdeal.τ Cert.StepGlaInRefIdeal.sig) → Buf (Elt Ideal) ℓ) (g' : Dev Cert.StepGlaInRefIdeal.nD → PrngReg), Pre_StepGlaInIdeal m →
    (∀ c : Dev Cert.StepGlaInIdeal.nD,
      m' ((c.tc : Thread Cert.StepGlaInRefIdeal.nD Cert.StepGlaInRefIdeal.τ).loc Cert.StepGlaInRefIdeal.main_arg0) = m ((c.tc : Thread Cert.StepGlaInIdeal.nD Cert.StepGlaInIdeal.τ).loc Cert.StepGlaInIdeal.main_arg0)
      ∧ m' ((c.tc : Thread Cert.StepGlaInRefIdeal.nD Cert.StepGlaInRefIdeal.τ).loc Cert.StepGlaInRefIdeal.main_arg1) = m ((c.tc : Thread Cert.StepGlaInIdeal.nD Cert.StepGlaInIdeal.τ).loc Cert.StepGlaInIdeal.main_arg1)
      ∧ m' ((c.tc : Thread Cert.StepGlaInRefIdeal.nD Cert.StepGlaInRefIdeal.τ).loc Cert.StepGlaInRefIdeal.main_arg2) = m ((c.tc : Thread Cert.StepGlaInIdeal.nD Cert.StepGlaInIdeal.τ).loc Cert.StepGlaInIdeal.main_arg2)
      ∧ m' ((c.tc : Thread Cert.StepGlaInRefIdeal.nD Cert.StepGlaInRefIdeal.τ).loc Cert.StepGlaInRefIdeal.main_arg3) = m ((c.tc : Thread Cert.StepGlaInIdeal.nD Cert.StepGlaInIdeal.τ).loc Cert.StepGlaInIdeal.main_arg3)
      ∧ m' ((c.tc : Thread Cert.StepGlaInRefIdeal.nD Cert.StepGlaInRefIdeal.τ).loc Cert.StepGlaInRefIdeal.main_arg4) = m ((c.tc : Thread Cert.StepGlaInIdeal.nD Cert.StepGlaInIdeal.τ).loc Cert.StepGlaInIdeal.main_arg4)) →
    ∃ (v0 : (c : Dev Cert.StepGlaInIdeal.nD) → Buf (Elt Ideal) ((c.tc : Thread Cert.StepGlaInIdeal.nD Cert.StepGlaInIdeal.τ).loc Cert.StepGlaInIdeal.main_v8_0)) (v1 : (c : Dev Cert.StepGlaInIdeal.nD) → Buf (Elt Ideal) ((c.tc : Thread Cert.StepGlaInIdeal.nD Cert.StepGlaInIdeal.τ).loc Cert.StepGlaInIdeal.main_v8_1)) (v2 : (c : Dev Cert.StepGlaInIdeal.nD) → Buf (Elt Ideal) ((c.tc : Thread Cert.StepGlaInIdeal.nD Cert.StepGlaInIdeal.τ).loc Cert.StepGlaInIdeal.main_v8_2)) (v3 : (c : Dev Cert.StepGlaInIdeal.nD) → Buf (Elt Ideal) ((c.tc : Thread Cert.StepGlaInIdeal.nD Cert.StepGlaInIdeal.τ).loc Cert.StepGlaInIdeal.main_v8_3)),
      θ_run (Cert.StepGlaInIdeal.defs (F := Ideal)) (onTc (τ := Cert.StepGlaInIdeal.τ) (Cert.StepGlaInIdeal.main (F := Ideal))) ⟨m, fun _ => 0, g⟩ (fun r => ∀ c : Dev Cert.StepGlaInIdeal.nD,
          r.2.mem ((c.tc : Thread Cert.StepGlaInIdeal.nD Cert.StepGlaInIdeal.τ).loc Cert.StepGlaInIdeal.main_v8_0) = v0 c
          ∧ r.2.mem ((c.tc : Thread Cert.StepGlaInIdeal.nD Cert.StepGlaInIdeal.τ).loc Cert.StepGlaInIdeal.main_v8_1) = v1 c
          ∧ r.2.mem ((c.tc : Thread Cert.StepGlaInIdeal.nD Cert.StepGlaInIdeal.τ).loc Cert.StepGlaInIdeal.main_v8_2) = v2 c
          ∧ r.2.mem ((c.tc : Thread Cert.StepGlaInIdeal.nD Cert.StepGlaInIdeal.τ).loc Cert.StepGlaInIdeal.main_v8_3) = v3 c
          ∧ r.2.mem ((c.tc : Thread Cert.StepGlaInIdeal.nD Cert.StepGlaInIdeal.τ).loc Cert.StepGlaInIdeal.main_arg0) = m ((c.tc : Thread Cert.StepGlaInIdeal.nD Cert.StepGlaInIdeal.τ).loc Cert.StepGlaInIdeal.main_arg0)
          ∧ r.2.mem ((c.tc : Thread Cert.StepGlaInIdeal.nD Cert.StepGlaInIdeal.τ).loc Cert.StepGlaInIdeal.main_arg1) = m ((c.tc : Thread Cert.StepGlaInIdeal.nD Cert.StepGlaInIdeal.τ).loc Cert.StepGlaInIdeal.main_arg1)
          ∧ r.2.mem ((c.tc : Thread Cert.StepGlaInIdeal.nD Cert.StepGlaInIdeal.τ).loc Cert.StepGlaInIdeal.main_arg2) = m ((c.tc : Thread Cert.StepGlaInIdeal.nD Cert.StepGlaInIdeal.τ).loc Cert.StepGlaInIdeal.main_arg2)
          ∧ r.2.mem ((c.tc : Thread Cert.StepGlaInIdeal.nD Cert.StepGlaInIdeal.τ).loc Cert.StepGlaInIdeal.main_arg3) = m ((c.tc : Thread Cert.StepGlaInIdeal.nD Cert.StepGlaInIdeal.τ).loc Cert.StepGlaInIdeal.main_arg3)
          ∧ r.2.mem ((c.tc : Thread Cert.StepGlaInIdeal.nD Cert.StepGlaInIdeal.τ).loc Cert.StepGlaInIdeal.main_arg4) = m ((c.tc : Thread Cert.StepGlaInIdeal.nD Cert.StepGlaInIdeal.τ).loc Cert.StepGlaInIdeal.main_arg4))
      ∧ θ_run (Cert.StepGlaInRefIdeal.defs (F := Ideal)) (onTc (τ := Cert.StepGlaInRefIdeal.τ) (Cert.StepGlaInRefIdeal.main (F := Ideal))) ⟨m', fun _ => 0, g'⟩ (fun r => ∀ c : Dev Cert.StepGlaInRefIdeal.nD,
          r.2.mem ((c.tc : Thread Cert.StepGlaInRefIdeal.nD Cert.StepGlaInRefIdeal.τ).loc Cert.StepGlaInRefIdeal.main_v27) = v0 c
          ∧ r.2.mem ((c.tc : Thread Cert.StepGlaInRefIdeal.nD Cert.StepGlaInRefIdeal.τ).loc Cert.StepGlaInRefIdeal.main_v28) = v1 c
          ∧ r.2.mem ((c.tc : Thread Cert.StepGlaInRefIdeal.nD Cert.StepGlaInRefIdeal.τ).loc Cert.StepGlaInRefIdeal.main_v29) = v2 c
          ∧ r.2.mem ((c.tc : Thread Cert.StepGlaInRefIdeal.nD Cert.StepGlaInRefIdeal.τ).loc Cert.StepGlaInRefIdeal.main_v30) = v3 c
          ∧ r.2.mem ((c.tc : Thread Cert.StepGlaInRefIdeal.nD Cert.StepGlaInRefIdeal.τ).loc Cert.StepGlaInRefIdeal.main_arg0) = m' ((c.tc : Thread Cert.StepGlaInRefIdeal.nD Cert.StepGlaInRefIdeal.τ).loc Cert.StepGlaInRefIdeal.main_arg0)
          ∧ r.2.mem ((c.tc : Thread Cert.StepGlaInRefIdeal.nD Cert.StepGlaInRefIdeal.τ).loc Cert.StepGlaInRefIdeal.main_arg1) = m' ((c.tc : Thread Cert.StepGlaInRefIdeal.nD Cert.StepGlaInRefIdeal.τ).loc Cert.StepGlaInRefIdeal.main_arg1)
          ∧ r.2.mem ((c.tc : Thread Cert.StepGlaInRefIdeal.nD Cert.StepGlaInRefIdeal.τ).loc Cert.StepGlaInRefIdeal.main_arg2) = m' ((c.tc : Thread Cert.StepGlaInRefIdeal.nD Cert.StepGlaInRefIdeal.τ).loc Cert.StepGlaInRefIdeal.main_arg2)
          ∧ r.2.mem ((c.tc : Thread Cert.StepGlaInRefIdeal.nD Cert.StepGlaInRefIdeal.τ).loc Cert.StepGlaInRefIdeal.main_arg3) = m' ((c.tc : Thread Cert.StepGlaInRefIdeal.nD Cert.StepGlaInRefIdeal.τ).loc Cert.StepGlaInRefIdeal.main_arg3)
          ∧ r.2.mem ((c.tc : Thread Cert.StepGlaInRefIdeal.nD Cert.StepGlaInRefIdeal.τ).loc Cert.StepGlaInRefIdeal.main_arg4) = m' ((c.tc : Thread Cert.StepGlaInRefIdeal.nD Cert.StepGlaInRefIdeal.τ).loc Cert.StepGlaInRefIdeal.main_arg4))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hUpDw : Cert.UpDw.Facts) (hUpDwIdeal : Cert.UpDwIdeal.Facts) (hUpDwRefIdeal : Cert.UpDwRefIdeal.Facts) (hGlaIn : Cert.GlaIn.Facts) (hGlaInIdeal : Cert.GlaInIdeal.Facts) (hGlaInRefIdeal : Cert.GlaInRefIdeal.Facts) (hGlaInDw : Cert.GlaInDw.Facts) (hGlaInDwIdeal : Cert.GlaInDwIdeal.Facts) (hGlaInDwRefIdeal : Cert.GlaInDwRefIdeal.Facts) (hGlaInDx : Cert.GlaInDx.Facts) (hGlaInDxIdeal : Cert.GlaInDxIdeal.Facts) (hGlaInDxRefIdeal : Cert.GlaInDxRefIdeal.Facts) (hConvIn : Cert.ConvIn.Facts) (hConvInIdeal : Cert.ConvInIdeal.Facts) (hConvInRefIdeal : Cert.ConvInRefIdeal.Facts) (hConvInDw : Cert.ConvInDw.Facts) (hConvInDwIdeal : Cert.ConvInDwIdeal.Facts) (hConvInDwRefIdeal : Cert.ConvInDwRefIdeal.Facts) (hConvInDx : Cert.ConvInDx.Facts) (hConvInDxIdeal : Cert.ConvInDxIdeal.Facts) (hConvInDxRefIdeal : Cert.ConvInDxRefIdeal.Facts) (hSquareDw : Cert.SquareDw.Facts) (hSquareDwIdeal : Cert.SquareDwIdeal.Facts) (hSquareDwRefIdeal : Cert.SquareDwRefIdeal.Facts) (hSquareDx : Cert.SquareDx.Facts) (hSquareDxIdeal : Cert.SquareDxIdeal.Facts) (hSquareDxRefIdeal : Cert.SquareDxRefIdeal.Facts) (hMixOut : Cert.MixOut.Facts) (hMixOutIdeal : Cert.MixOutIdeal.Facts) (hMixOutRefIdeal : Cert.MixOutRefIdeal.Facts) (hGate : Cert.Gate.Facts) (hGateIdeal : Cert.GateIdeal.Facts) (hGateRefIdeal : Cert.GateRefIdeal.Facts) (hStepGlaOut : Cert.StepGlaOut.Facts) (hStepGlaOutIdeal : Cert.StepGlaOutIdeal.Facts) (hStepGlaOutRefIdeal : Cert.StepGlaOutRefIdeal.Facts) (hStepMlaIn : Cert.StepMlaIn.Facts) (hStepMlaInIdeal : Cert.StepMlaInIdeal.Facts) (hStepMlaInRefIdeal : Cert.StepMlaInRefIdeal.Facts) (hStepMlaUq : Cert.StepMlaUq.Facts) (hStepMlaUqIdeal : Cert.StepMlaUqIdeal.Facts) (hStepMlaUqRefIdeal : Cert.StepMlaUqRefIdeal.Facts) (hStepMlaUkv : Cert.StepMlaUkv.Facts) (hStepMlaUkvIdeal : Cert.StepMlaUkvIdeal.Facts) (hStepMlaUkvRefIdeal : Cert.StepMlaUkvRefIdeal.Facts) (hStepRowsOut : Cert.StepRowsOut.Facts) (hStepRowsOutIdeal : Cert.StepRowsOutIdeal.Facts) (hStepRowsOutRefIdeal : Cert.StepRowsOutRefIdeal.Facts) (hStepConvIn : Cert.StepConvIn.Facts) (hStepConvInIdeal : Cert.StepConvInIdeal.Facts) (hStepConvInRefIdeal : Cert.StepConvInRefIdeal.Facts) (hStepMlp : Cert.StepMlp.Facts) (hStepMlpIdeal : Cert.StepMlpIdeal.Facts) (hStepMlpRefIdeal : Cert.StepMlpRefIdeal.Facts) (hStepPleGate : Cert.StepPleGate.Facts) (hStepPleGateIdeal : Cert.StepPleGateIdeal.Facts) (hStepPleGateRefIdeal : Cert.StepPleGateRefIdeal.Facts) (hStepPleProj : Cert.StepPleProj.Facts) (hStepPleProjIdeal : Cert.StepPleProjIdeal.Facts) (hStepPleProjRefIdeal : Cert.StepPleProjRefIdeal.Facts) (hStepGlaIn : Cert.StepGlaIn.Facts) (hStepGlaInIdeal : Cert.StepGlaInIdeal.Facts) (hStepGlaInRefIdeal : Cert.StepGlaInRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_GlaIn (hGlaIn := hGlaIn)
    ∧ quiescent_GlaInIdeal (hGlaInIdeal := hGlaInIdeal)
    ∧ quiescent_GlaInRefIdeal (hGlaInRefIdeal := hGlaInRefIdeal)
    ∧ quiescent_GlaInDw (hGlaInDw := hGlaInDw)
    ∧ quiescent_GlaInDwIdeal (hGlaInDwIdeal := hGlaInDwIdeal)
    ∧ quiescent_GlaInDwRefIdeal (hGlaInDwRefIdeal := hGlaInDwRefIdeal)
    ∧ quiescent_GlaInDx (hGlaInDx := hGlaInDx)
    ∧ quiescent_GlaInDxIdeal (hGlaInDxIdeal := hGlaInDxIdeal)
    ∧ quiescent_GlaInDxRefIdeal (hGlaInDxRefIdeal := hGlaInDxRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_ConvInDw (hConvInDw := hConvInDw)
    ∧ quiescent_ConvInDwIdeal (hConvInDwIdeal := hConvInDwIdeal)
    ∧ quiescent_ConvInDwRefIdeal (hConvInDwRefIdeal := hConvInDwRefIdeal)
    ∧ quiescent_ConvInDx (hConvInDx := hConvInDx)
    ∧ quiescent_ConvInDxIdeal (hConvInDxIdeal := hConvInDxIdeal)
    ∧ quiescent_ConvInDxRefIdeal (hConvInDxRefIdeal := hConvInDxRefIdeal)
    ∧ quiescent_SquareDw (hSquareDw := hSquareDw)
    ∧ quiescent_SquareDwIdeal (hSquareDwIdeal := hSquareDwIdeal)
    ∧ quiescent_SquareDwRefIdeal (hSquareDwRefIdeal := hSquareDwRefIdeal)
    ∧ quiescent_SquareDx (hSquareDx := hSquareDx)
    ∧ quiescent_SquareDxIdeal (hSquareDxIdeal := hSquareDxIdeal)
    ∧ quiescent_SquareDxRefIdeal (hSquareDxRefIdeal := hSquareDxRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Gate (hGate := hGate)
    ∧ quiescent_GateIdeal (hGateIdeal := hGateIdeal)
    ∧ quiescent_GateRefIdeal (hGateRefIdeal := hGateRefIdeal)
    ∧ quiescent_StepGlaOut (hStepGlaOut := hStepGlaOut)
    ∧ quiescent_StepGlaOutIdeal (hStepGlaOutIdeal := hStepGlaOutIdeal)
    ∧ quiescent_StepGlaOutRefIdeal (hStepGlaOutRefIdeal := hStepGlaOutRefIdeal)
    ∧ quiescent_StepMlaIn (hStepMlaIn := hStepMlaIn)
    ∧ quiescent_StepMlaInIdeal (hStepMlaInIdeal := hStepMlaInIdeal)
    ∧ quiescent_StepMlaInRefIdeal (hStepMlaInRefIdeal := hStepMlaInRefIdeal)
    ∧ quiescent_StepMlaUq (hStepMlaUq := hStepMlaUq)
    ∧ quiescent_StepMlaUqIdeal (hStepMlaUqIdeal := hStepMlaUqIdeal)
    ∧ quiescent_StepMlaUqRefIdeal (hStepMlaUqRefIdeal := hStepMlaUqRefIdeal)
    ∧ quiescent_StepMlaUkv (hStepMlaUkv := hStepMlaUkv)
    ∧ quiescent_StepMlaUkvIdeal (hStepMlaUkvIdeal := hStepMlaUkvIdeal)
    ∧ quiescent_StepMlaUkvRefIdeal (hStepMlaUkvRefIdeal := hStepMlaUkvRefIdeal)
    ∧ quiescent_StepRowsOut (hStepRowsOut := hStepRowsOut)
    ∧ quiescent_StepRowsOutIdeal (hStepRowsOutIdeal := hStepRowsOutIdeal)
    ∧ quiescent_StepRowsOutRefIdeal (hStepRowsOutRefIdeal := hStepRowsOutRefIdeal)
    ∧ quiescent_StepConvIn (hStepConvIn := hStepConvIn)
    ∧ quiescent_StepConvInIdeal (hStepConvInIdeal := hStepConvInIdeal)
    ∧ quiescent_StepConvInRefIdeal (hStepConvInRefIdeal := hStepConvInRefIdeal)
    ∧ quiescent_StepMlp (hStepMlp := hStepMlp)
    ∧ quiescent_StepMlpIdeal (hStepMlpIdeal := hStepMlpIdeal)
    ∧ quiescent_StepMlpRefIdeal (hStepMlpRefIdeal := hStepMlpRefIdeal)
    ∧ quiescent_StepPleGate (hStepPleGate := hStepPleGate)
    ∧ quiescent_StepPleGateIdeal (hStepPleGateIdeal := hStepPleGateIdeal)
    ∧ quiescent_StepPleGateRefIdeal (hStepPleGateRefIdeal := hStepPleGateRefIdeal)
    ∧ quiescent_StepPleProj (hStepPleProj := hStepPleProj)
    ∧ quiescent_StepPleProjIdeal (hStepPleProjIdeal := hStepPleProjIdeal)
    ∧ quiescent_StepPleProjRefIdeal (hStepPleProjRefIdeal := hStepPleProjRefIdeal)
    ∧ quiescent_StepGlaIn (hStepGlaIn := hStepGlaIn)
    ∧ quiescent_StepGlaInIdeal (hStepGlaInIdeal := hStepGlaInIdeal)
    ∧ quiescent_StepGlaInRefIdeal (hStepGlaInRefIdeal := hStepGlaInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_UpDw_UpDwIdeal
    ∧ algebraic_UpDwIdeal_UpDwRefIdeal (hUpDwIdeal := hUpDwIdeal) (hUpDwRefIdeal := hUpDwRefIdeal)
    ∧ preserves_GlaIn_GlaInIdeal
    ∧ algebraic_GlaInIdeal_GlaInRefIdeal (hGlaInIdeal := hGlaInIdeal) (hGlaInRefIdeal := hGlaInRefIdeal)
    ∧ preserves_GlaInDw_GlaInDwIdeal
    ∧ algebraic_GlaInDwIdeal_GlaInDwRefIdeal (hGlaInDwIdeal := hGlaInDwIdeal) (hGlaInDwRefIdeal := hGlaInDwRefIdeal)
    ∧ preserves_GlaInDx_GlaInDxIdeal
    ∧ algebraic_GlaInDxIdeal_GlaInDxRefIdeal (hGlaInDxIdeal := hGlaInDxIdeal) (hGlaInDxRefIdeal := hGlaInDxRefIdeal)
    ∧ preserves_ConvIn_ConvInIdeal
    ∧ algebraic_ConvInIdeal_ConvInRefIdeal (hConvInIdeal := hConvInIdeal) (hConvInRefIdeal := hConvInRefIdeal)
    ∧ preserves_ConvInDw_ConvInDwIdeal
    ∧ algebraic_ConvInDwIdeal_ConvInDwRefIdeal (hConvInDwIdeal := hConvInDwIdeal) (hConvInDwRefIdeal := hConvInDwRefIdeal)
    ∧ preserves_ConvInDx_ConvInDxIdeal
    ∧ algebraic_ConvInDxIdeal_ConvInDxRefIdeal (hConvInDxIdeal := hConvInDxIdeal) (hConvInDxRefIdeal := hConvInDxRefIdeal)
    ∧ preserves_SquareDw_SquareDwIdeal
    ∧ algebraic_SquareDwIdeal_SquareDwRefIdeal (hSquareDwIdeal := hSquareDwIdeal) (hSquareDwRefIdeal := hSquareDwRefIdeal)
    ∧ preserves_SquareDx_SquareDxIdeal
    ∧ algebraic_SquareDxIdeal_SquareDxRefIdeal (hSquareDxIdeal := hSquareDxIdeal) (hSquareDxRefIdeal := hSquareDxRefIdeal)
    ∧ preserves_MixOut_MixOutIdeal
    ∧ algebraic_MixOutIdeal_MixOutRefIdeal (hMixOutIdeal := hMixOutIdeal) (hMixOutRefIdeal := hMixOutRefIdeal)
    ∧ preserves_Gate_GateIdeal
    ∧ algebraic_GateIdeal_GateRefIdeal (hGateIdeal := hGateIdeal) (hGateRefIdeal := hGateRefIdeal)
    ∧ preserves_StepGlaOut_StepGlaOutIdeal
    ∧ algebraic_StepGlaOutIdeal_StepGlaOutRefIdeal (hStepGlaOutIdeal := hStepGlaOutIdeal) (hStepGlaOutRefIdeal := hStepGlaOutRefIdeal)
    ∧ preserves_StepMlaIn_StepMlaInIdeal
    ∧ algebraic_StepMlaInIdeal_StepMlaInRefIdeal (hStepMlaInIdeal := hStepMlaInIdeal) (hStepMlaInRefIdeal := hStepMlaInRefIdeal)
    ∧ preserves_StepMlaUq_StepMlaUqIdeal
    ∧ algebraic_StepMlaUqIdeal_StepMlaUqRefIdeal (hStepMlaUqIdeal := hStepMlaUqIdeal) (hStepMlaUqRefIdeal := hStepMlaUqRefIdeal)
    ∧ preserves_StepMlaUkv_StepMlaUkvIdeal
    ∧ algebraic_StepMlaUkvIdeal_StepMlaUkvRefIdeal (hStepMlaUkvIdeal := hStepMlaUkvIdeal) (hStepMlaUkvRefIdeal := hStepMlaUkvRefIdeal)
    ∧ preserves_StepRowsOut_StepRowsOutIdeal
    ∧ algebraic_StepRowsOutIdeal_StepRowsOutRefIdeal (hStepRowsOutIdeal := hStepRowsOutIdeal) (hStepRowsOutRefIdeal := hStepRowsOutRefIdeal)
    ∧ preserves_StepConvIn_StepConvInIdeal
    ∧ algebraic_StepConvInIdeal_StepConvInRefIdeal (hStepConvInIdeal := hStepConvInIdeal) (hStepConvInRefIdeal := hStepConvInRefIdeal)
    ∧ preserves_StepMlp_StepMlpIdeal
    ∧ algebraic_StepMlpIdeal_StepMlpRefIdeal (hStepMlpIdeal := hStepMlpIdeal) (hStepMlpRefIdeal := hStepMlpRefIdeal)
    ∧ preserves_StepPleGate_StepPleGateIdeal
    ∧ algebraic_StepPleGateIdeal_StepPleGateRefIdeal (hStepPleGateIdeal := hStepPleGateIdeal) (hStepPleGateRefIdeal := hStepPleGateRefIdeal)
    ∧ preserves_StepPleProj_StepPleProjIdeal
    ∧ algebraic_StepPleProjIdeal_StepPleProjRefIdeal (hStepPleProjIdeal := hStepPleProjIdeal) (hStepPleProjRefIdeal := hStepPleProjRefIdeal)
    ∧ preserves_StepGlaIn_StepGlaInIdeal
    ∧ algebraic_StepGlaInIdeal_StepGlaInRefIdeal (hStepGlaInIdeal := hStepGlaInIdeal) (hStepGlaInRefIdeal := hStepGlaInRefIdeal)
-- ==== Pre_finite.lean ====
abbrev S2048x8x192 : Shape := ⟨3, ![2048, 8, 192]⟩
abbrev S2048x8x128 : Shape := ⟨3, ![2048, 8, 128]⟩
abbrev S2048x64 : Shape := ⟨2, ![2048, 64]⟩
abbrev S_ : Shape := ⟨0, ![]⟩

class Facts : Prop where
  bcast_S_S2048x8x192 : S_.BroadcastsInDim S2048x8x192 (![] : Fin 0 → Fin S2048x8x192.rank)
  reducesTo_S2048x8x192_S_d0_1_2 : S2048x8x192.ReducesTo [0, 1, 2] S_
  h_S_ : 0 < S_.numel
  bcast_S_S2048x8x128 : S_.BroadcastsInDim S2048x8x128 (![] : Fin 0 → Fin S2048x8x128.rank)
  reducesTo_S2048x8x128_S_d0_1_2 : S2048x8x128.ReducesTo [0, 1, 2] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_arg4 : FVec F S2048x8x128 .f32) (main_v13 : IVec S_ 1) (main_v16 : IVec S2048x8x128 1) : IVec S_ 1 :=
  let main_c_5 : IVec S_ 1 := constantI S_ 1 1#1
  let main_v17 : IVec S_ 1 := (fun x v => Host.reduce IntOp.andi x v reducesTo_S2048x8x128_S_d0_1_2 h_S_) main_v16 main_c_5
  let main_v18 : IVec S_ 1 := andi main_v13 main_v17
  let main_v19 : FVec F S2048x8x128 .f32 := Host.absf main_arg4
  let main_cst_6 : FVec F S_ .f32 := constant S_ .f32 0x7F800000#32
  let main_v20 : FVec F S2048x8x128 .f32 := broadcastInDim S2048x8x128 ![] bcast_S_S2048x8x128 main_cst_6
  let main_v21 : IVec S2048x8x128 1 := cmpf .olt main_v19 main_v20
  let main_c_7 : IVec S_ 1 := constantI S_ 1 1#1
  let main_v22 : IVec S_ 1 := (fun x v => Host.reduce IntOp.andi x v reducesTo_S2048x8x128_S_d0_1_2 h_S_) main_v21 main_c_7
  let main_v23 : IVec S_ 1 := andi main_v18 main_v22
  main_v23

def fn {F : FTy → Type} [FloatOps F] (main_arg0 : FVec F S2048x8x192 .f32) (main_arg1 : FVec F S2048x8x128 .f32) (main_arg2 : FVec F S2048x64 .f32) (main_arg3 : FVec F S2048x8x128 .f32) (main_arg4 : FVec F S2048x8x128 .f32) : IVec S_ 1 :=
  let main_v0 : FVec F S2048x8x192 .f32 := Host.absf main_arg0
  let main_cst : FVec F S_ .f32 := constant S_ .f32 0x7F800000#32
  let main_v1 : FVec F S2048x8x192 .f32 := broadcastInDim S2048x8x192 ![] bcast_S_S2048x8x192 main_cst
  let main_v2 : IVec S2048x8x192 1 := cmpf .olt main_v0 main_v1
  let main_c : IVec S_ 1 := constantI S_ 1 1#1
  let main_v3 : IVec S_ 1 := (fun x v => Host.reduce IntOp.andi x v reducesTo_S2048x8x192_S_d0_1_2 h_S_) main_v2 main_c
  let main_v4 : FVec F S2048x8x128 .f32 := Host.absf main_arg1
  let main_cst_0 : FVec F S_ .f32 := constant S_ .f32 0x7F800000#32
  let main_v5 : FVec F S2048x8x128 .f32 := broadcastInDim S2048x8x128 ![] bcast_S_S2048x8x128 main_cst_0
  let main_v6 : IVec S2048x8x128 1 := cmpf .olt main_v4 main_v5
  let main_c_1 : IVec S_ 1 := constantI S_ 1 1#1
  let main_v7 : IVec S_ 1 := (fun x v => Host.reduce IntOp.andi x v reducesTo_S2048x8x128_S_d0_1_2 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S2048x8x128 .f32 := Host.absf main_arg3
  let main_cst_4 : FVec F S_ .f32 := constant S_ .f32 0x7F800000#32
  let main_v15 : FVec F S2048x8x128 .f32 := broadcastInDim S2048x8x128 ![] bcast_S_S2048x8x128 main_cst_4
  let main_v16 : IVec S2048x8x128 1 := cmpf .olt main_v14 main_v15
  fn_part1 (F := F) main_arg4 main_v13 main_v16
-- ==== Kernel.lean ====
abbrev S2048x8x192 : Shape := ⟨3, ![2048, 8, 192]⟩
abbrev S2048x8x128 : Shape := ⟨3, ![2048, 8, 128]⟩
abbrev S2048x64 : Shape := ⟨2, ![2048, 64]⟩
abbrev S2048x1x64 : Shape := ⟨3, ![2048, 1, 64]⟩
abbrev S2048x8x64 : Shape := ⟨3, ![2048, 8, 64]⟩
abbrev S2048 : Shape := ⟨1, ![2048]⟩
abbrev S_ : Shape := ⟨0, ![]⟩
abbrev S8x2048x2048 : Shape := ⟨3, ![8, 2048, 2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S2048x1024 : Shape := ⟨2, ![2048, 1024]⟩
abbrev S2048x8x256 : Shape := ⟨3, ![2048, 8, 256]⟩
abbrev S2048x128 : Shape := ⟨2, ![2048, 128]⟩
abbrev S2048x256 : Shape := ⟨2, ![2048, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S512x256 : Shape := ⟨2, ![512, 256]⟩
abbrev S512x128 : Shape := ⟨2, ![512, 128]⟩
abbrev S256x512 : Shape := ⟨2, ![256, 512]⟩
abbrev S768x256 : Shape := ⟨2, ![768, 256]⟩
abbrev S768x128 : Shape := ⟨2, ![768, 128]⟩
abbrev S256x768 : Shape := ⟨2, ![256, 768]⟩
abbrev S1024x256 : Shape := ⟨2, ![1024, 256]⟩
abbrev S1024x128 : Shape := ⟨2, ![1024, 128]⟩
abbrev S256x1024 : Shape := ⟨2, ![256, 1024]⟩
abbrev S1280x256 : Shape := ⟨2, ![1280, 256]⟩
abbrev S1280x128 : Shape := ⟨2, ![1280, 128]⟩
abbrev S256x1280 : Shape := ⟨2, ![256, 1280]⟩
abbrev S1536x256 : Shape := ⟨2, ![1536, 256]⟩
abbrev S1536x128 : Shape := ⟨2, ![1536, 128]⟩
abbrev S256x1536 : Shape := ⟨2, ![256, 1536]⟩
abbrev S1792x256 : Shape := ⟨2, ![1792, 256]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 73
  | .vmem => 22
  | .smem => 0
  | _ => 0

abbrev bufTy : (tb : Table) → Fin (tcTables nBuf tb) → BufTy
  | .hbm, ⟨0, _⟩ => ⟨S2048x8x192, .f32⟩
  | .hbm, ⟨1, _⟩ => ⟨S2048x8x128, .f32⟩
  | .hbm, ⟨2, _⟩ => ⟨S2048x64, .f32⟩
  | .hbm, ⟨3, _⟩ => ⟨S2048x8x128, .f32⟩
  | .hbm, ⟨4, _⟩ => ⟨S2048x8x128, .f32⟩
  | .hbm, ⟨5, _⟩ => ⟨S2048x1x64, .f32⟩
  | .hbm, ⟨6, _⟩ => ⟨S2048x8x64, .f32⟩
  | .hbm, ⟨7, _⟩ => ⟨S2048x8x192, .f32⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S8x2048x2048, .f32⟩
  | .hbm, ⟨28, _⟩ => ⟨S1x2048, .i32⟩
  | .hbm, ⟨29, _⟩ => ⟨S2048x1, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S_, .f32⟩
  | .hbm, ⟨34, _⟩ => ⟨S_, .f32⟩
  | .hbm, ⟨35, _⟩ => ⟨S8x2048x2048, .i1⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S8x2048x2048, .f32⟩
  | .hbm, ⟨51, _⟩ => ⟨S8x2048x2048, .f32⟩
  | .hbm, ⟨52, _⟩ => ⟨S8x128x2048, .f32⟩
  | .hbm, ⟨53, _⟩ => ⟨S2048x8x128, .f32⟩
  | .hbm, ⟨54, _⟩ => ⟨S2048x1024, .f32⟩
  | .hbm, ⟨55, _⟩ => ⟨S_, .i32⟩
  | .hbm, ⟨56, _⟩ => ⟨S_, .f32⟩
  | .hbm, ⟨57, _⟩ => ⟨S2048x8x256, .f32⟩
  | .hbm, ⟨58, _⟩ => ⟨S2048x2048, .f32⟩
  | .hbm, ⟨59, _⟩ => ⟨S2048x1024, .f32⟩
  | .hbm, ⟨60, _⟩ => ⟨S2048x1024, .f32⟩
  | .hbm, ⟨61, _⟩ => ⟨S2048x2048, .f32⟩
  | .hbm, ⟨62, _⟩ => ⟨S_, .i32⟩
  | .hbm, ⟨63, _⟩ => ⟨S_, .f32⟩
  | .hbm, ⟨64, _⟩ => ⟨S2048x128, .f32⟩
  | .hbm, ⟨65, _⟩ => ⟨S2048x2048, .bf16⟩
  | .hbm, ⟨66, _⟩ => ⟨S2048x2048, .bf16⟩
  | .hbm, ⟨67, _⟩ => ⟨S2048x128, .bf16⟩
  | .hbm, ⟨68, _⟩ => ⟨S2048x1024, .f32⟩
  | .hbm, ⟨69, _⟩ => ⟨S2048x2048, .f32⟩
  | .hbm, ⟨70, _⟩ => ⟨S2048x1024, .bf16⟩
  | .hbm, ⟨71, _⟩ => ⟨S2048x1024, .bf16⟩
  | .hbm, ⟨72, _⟩ => ⟨S2048x1024, .f32⟩
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x256, .f32⟩
  | .local _ .vmem, ⟨12, _⟩ => ⟨S2048x256, .f32⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .f32⟩
  | .local _ .vmem, ⟨18, _⟩ => ⟨S2048x128, .f32⟩
  | .local _ .vmem, ⟨19, _⟩ => ⟨S2048x256, .bf16⟩
  | .local _ .vmem, ⟨20, _⟩ => ⟨S2048x256, .f32⟩
  | .local _ .vmem, ⟨21, _⟩ => ⟨S2048x128, .f32⟩
  | _, _ => ⟨S2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v11 : Ref sig .tc := ⟨.hbm, 37, rfl⟩
abbrev main_cst_0 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_3 : Ref sig .tc := ⟨.hbm, 55, rfl⟩
abbrev main_call2_v0 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_4 : Ref sig .tc := ⟨.hbm, 62, rfl⟩
abbrev main_call3_v0 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36_0 : Ref sig .tc := ⟨.hbm, 69, rfl⟩
abbrev main_v36_1 : Ref sig .tc := ⟨.hbm, 70, rfl⟩
abbrev main_v36_2 : Ref sig .tc := ⟨.hbm, 71, rfl⟩
abbrev main_v36_3 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2048x8x192 : Shape := ⟨3, ![2048, 8, 192]⟩
abbrev S2048x8x128 : Shape := ⟨3, ![2048, 8, 128]⟩
abbrev S2048x64 : Shape := ⟨2, ![2048, 64]⟩
abbrev S2048x1x64 : Shape := ⟨3, ![2048, 1, 64]⟩
abbrev S2048x8x64 : Shape := ⟨3, ![2048, 8, 64]⟩
abbrev S2048 : Shape := ⟨1, ![2048]⟩
abbrev S_ : Shape := ⟨0, ![]⟩
abbrev S8x2048x2048 : Shape := ⟨3, ![8, 2048, 2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S8x2048x192 : Shape := ⟨3, ![8, 2048, 192]⟩
abbrev S2048x8x256 : Shape := ⟨3, ![2048, 8, 256]⟩
abbrev S2048x1024 : Shape := ⟨2, ![2048, 1024]⟩

abbrev nBuf : Space → Nat
  | .hbm => 119
  | .vmem => 0
  | .smem => 0
  | _ => 0

abbrev bufTy : (tb : Table) → Fin (tcTables nBuf tb) → BufTy
  | .hbm, ⟨0, _⟩ => ⟨S2048x8x192, .f32⟩
  | .hbm, ⟨1, _⟩ => ⟨S2048x8x128, .f32⟩
  | .hbm, ⟨2, _⟩ => ⟨S2048x64, .f32⟩
  | .hbm, ⟨3, _⟩ => ⟨S2048x8x128, .f32⟩
  | .hbm, ⟨4, _⟩ => ⟨S2048x8x128, .f32⟩
  | .hbm, ⟨5, _⟩ => ⟨S2048x1x64, .f32⟩
  | .hbm, ⟨6, _⟩ => ⟨S2048x8x64, .f32⟩
  | .hbm, ⟨7, _⟩ => ⟨S2048x8x192, .f32⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S8x2048x2048, .f32⟩
  | .hbm, ⟨28, _⟩ => ⟨S1x2048, .i32⟩
  | .hbm, ⟨29, _⟩ => ⟨S2048x1, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S_, .f32⟩
  | .hbm, ⟨34, _⟩ => ⟨S_, .f32⟩
  | .hbm, ⟨35, _⟩ => ⟨S8x2048x2048, .i1⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .i1⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S8x2048, .f32⟩
  | .hbm, ⟨51, _⟩ => ⟨S_, .f32⟩
  | .hbm, ⟨52, _⟩ => ⟨S8x2048, .f32⟩
  | .hbm, ⟨53, _⟩ => ⟨S8x2048, .i1⟩
  | .hbm, ⟨54, _⟩ => ⟨S_, .f32⟩
  | .hbm, ⟨55, _⟩ => ⟨S8x2048, .f32⟩
  | .hbm, ⟨56, _⟩ => ⟨S8x2048, .i1⟩
  | .hbm, ⟨57, _⟩ => ⟨S_, .f32⟩
  | .hbm, ⟨58, _⟩ => ⟨S8x2048, .f32⟩
  | .hbm, ⟨59, _⟩ => ⟨S_, .f32⟩
  | .hbm, ⟨60, _⟩ => ⟨S8x2048, .f32⟩
  | .hbm, ⟨61, _⟩ => ⟨S_, .f32⟩
  | .hbm, ⟨62, _⟩ => ⟨S8x2048, .f32⟩
  | .hbm, ⟨63, _⟩ => ⟨S8x2048, .f32⟩
  | .hbm, ⟨64, _⟩ => ⟨S8x2048, .f32⟩
  | .hbm, ⟨65, _⟩ => ⟨S8x2048x1, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S8x2048x2048, .f32⟩
  | .hbm, ⟨73, _⟩ => ⟨S8x2048x2048, .f32⟩
  | .hbm, ⟨74, _⟩ => ⟨S8x2048x1, .f32⟩
  | .hbm, ⟨75, _⟩ => ⟨S_, .f32⟩
  | .hbm, ⟨76, _⟩ => ⟨S8x2048x1, .f32⟩
  | .hbm, ⟨77, _⟩ => ⟨S8x2048x1, .f32⟩
  | .hbm, ⟨78, _⟩ => ⟨S8x128x2048, .f32⟩
  | .hbm, ⟨79, _⟩ => ⟨S2048x8x128, .f32⟩
  | .hbm, ⟨80, _⟩ => ⟨S8x128x2048, .f32⟩
  | .hbm, ⟨81, _⟩ => ⟨S8x2048x2048, .f32⟩
  | .hbm, ⟨82, _⟩ => ⟨S8x128x2048, .f32⟩
  | .hbm, ⟨83, _⟩ => ⟨S2048x8x128, .f32⟩
  | .hbm, ⟨84, _⟩ => ⟨S8x2048x2048, .f32⟩
  | .hbm, ⟨85, _⟩ => ⟨S8x2048x2048, .f32⟩
  | .hbm, ⟨86, _⟩ => ⟨S8x2048x2048, .f32⟩
  | .hbm, ⟨87, _⟩ => ⟨S_, .f32⟩
  | .hbm, ⟨88, _⟩ => ⟨S8x2048, .f32⟩
  | .hbm, ⟨89, _⟩ => ⟨S8x2048x1, .f32⟩
  | .hbm, ⟨90, _⟩ => ⟨S8x2048x1, .f32⟩
  | .hbm, ⟨91, _⟩ => ⟨S8x2048x2048, .f32⟩
  | .hbm, ⟨92, _⟩ => ⟨S8x2048x2048, .f32⟩
  | .hbm, ⟨93, _⟩ => ⟨S_, .f32⟩
  | .hbm, ⟨94, _⟩ => ⟨S8x2048, .f32⟩
  | .hbm, ⟨95, _⟩ => ⟨S8x2048x2048, .f32⟩
  | .hbm, ⟨96, _⟩ => ⟨S8x2048x2048, .f32⟩
  | .hbm, ⟨97, _⟩ => ⟨S8x2048x2048, .f32⟩
  | .hbm, ⟨98, _⟩ => ⟨S_, .f32⟩
  | .hbm, ⟨99, _⟩ => ⟨S8x2048x2048, .f32⟩
  | .hbm, ⟨100, _⟩ => ⟨S8x2048x2048, .f32⟩
  | .hbm, ⟨101, _⟩ => ⟨S8x2048x192, .f32⟩
  | .hbm, ⟨102, _⟩ => ⟨S2048x8x192, .f32⟩
  | .hbm, ⟨103, _⟩ => ⟨S8x2048x192, .f32⟩
  | .hbm, ⟨104, _⟩ => ⟨S2048x8x192, .f32⟩
  | .hbm, ⟨105, _⟩ => ⟨S2048x8x128, .f32⟩
  | .hbm, ⟨106, _⟩ => ⟨S2048x8x64, .f32⟩
  | .hbm, ⟨107, _⟩ => ⟨S_, .i32⟩
  | .hbm, ⟨108, _⟩ => ⟨S_, .f32⟩
  | .hbm, ⟨109, _⟩ => ⟨S2048x8x256, .f32⟩
  | .hbm, ⟨110, _⟩ => ⟨S2048x2048, .f32⟩
  | .hbm, ⟨111, _⟩ => ⟨S2048x1024, .f32⟩
  | .hbm, ⟨112, _⟩ => ⟨S2048x1024, .bf16⟩
  | .hbm, ⟨113, _⟩ => ⟨S2048x1024, .f32⟩
  | .hbm, ⟨114, _⟩ => ⟨S2048x1024, .bf16⟩
  | .hbm, ⟨115, _⟩ => ⟨S_, .i32⟩
  | .hbm, ⟨116, _⟩ => ⟨S_, .f32⟩
  | .hbm, ⟨117, _⟩ => ⟨S2048x8x128, .f32⟩
  | .hbm, ⟨118, _⟩ => ⟨S2048x1024, .f32⟩
  | _, _ => ⟨S2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_call1_v0 : Ref sig .tc := ⟨.hbm, 34, rfl⟩
abbrev main_v11_1 : Ref sig .tc := ⟨.hbm, 35, rfl⟩
abbrev main_call1_v2 : Ref sig .tc := ⟨.hbm, 36, rfl⟩
abbrev main_v11_0 : Ref sig .tc := ⟨.hbm, 37, rfl⟩
abbrev main_call1_cst : Ref sig .tc := ⟨.hbm, 38, rfl⟩
abbrev main_v11_2 : Ref sig .tc := ⟨.hbm, 39, rfl⟩
abbrev main_cst_0 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_1 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_v19 : Ref sig .tc := ⟨.hbm, 50, rfl⟩
abbrev main_cst_3 : Ref sig .tc := ⟨.hbm, 51, rfl⟩
abbrev main_v20 : Ref sig .tc := ⟨.hbm, 52, rfl⟩
abbrev main_v21 : Ref sig .tc := ⟨.hbm, 53, rfl⟩
abbrev main_cst_4 : Ref sig .tc := ⟨.hbm, 54, rfl⟩
abbrev main_v22 : Ref sig .tc := ⟨.hbm, 55, rfl⟩
abbrev main_v23 : Ref sig .tc := ⟨.hbm, 56, rfl⟩
abbrev main_cst_5 : Ref sig .tc := ⟨.hbm, 57, rfl⟩
abbrev main_v24 : Ref sig .tc := ⟨.hbm, 58, rfl⟩
abbrev main_cst_6 : Ref sig .tc := ⟨.hbm, 59, rfl⟩
abbrev main_v25 : Ref sig .tc := ⟨.hbm, 60, rfl⟩
abbrev main_cst_7 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_8 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_9 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_10 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_11 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_call2_cst : Ref sig .tc := ⟨.hbm, 98, rfl⟩
abbrev main_call2_v0 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_c_12 : Ref sig .tc := ⟨.hbm, 107, rfl⟩
abbrev main_call3_v0 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_c_13 : Ref sig .tc := ⟨.hbm, 115, rfl⟩
abbrev main_call4_v0 : Ref sig .tc := ⟨.hbm, 116, rfl⟩
abbrev main_v71 : Ref sig .tc := ⟨.hbm, 117, rfl⟩
abbrev main_v72 : Ref sig .tc := ⟨.hbm, 118, rfl⟩

abbrev nD : Nat := 1
abbrev τ : Topo := Topo.v7x

variable {F : FTy → Type} [FloatOps F]
-- ==== Up.lean ====
abbrev S2048x1024 : Shape := ⟨2, ![2048, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .bf16⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S2048x4096, .bf16⟩
  | .hbm, ⟨7, _⟩ => ⟨S2048x4096, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x4096, .bf16⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Down.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S2048x4096 : Shape := ⟨2, ![2048, 4096]⟩
abbrev S_ : Shape := ⟨0, ![]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .bf16⟩
  | .hbm, ⟨11, _⟩ => ⟨S4096x1024, .bf16⟩
  | .hbm, ⟨12, _⟩ => ⟨S2048x1024, .f32⟩
  | .hbm, ⟨13, _⟩ => ⟨S2048x1024, .bf16⟩
  | .hbm, ⟨14, _⟩ => ⟨S2048x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== DownRefIdeal.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S2048x4096 : Shape := ⟨2, ![2048, 4096]⟩
abbrev S2048 : Shape := ⟨1, ![2048]⟩
abbrev S2048x1 : Shape := ⟨2, ![2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== DownDw.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S2048x512 : Shape := ⟨2, ![2048, 512]⟩
abbrev S1024x512 : Shape := ⟨2, ![1024, 512]⟩

abbrev nBuf : Space → Nat
  | .hbm => 12
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .bf16⟩
  | .hbm, ⟨10, _⟩ => ⟨S2048x1024, .bf16⟩
  | .hbm, ⟨11, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== DownDx.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S512x1024 : Shape := ⟨2, ![512, 1024]⟩
abbrev S2048x512 : Shape := ⟨2, ![2048, 512]⟩

abbrev nBuf : Space → Nat
  | .hbm => 15
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x1024, .bf16⟩
  | .hbm, ⟨12, _⟩ => ⟨S4096x1024, .bf16⟩
  | .hbm, ⟨13, _⟩ => ⟨S2048x4096, .bf16⟩
  | .hbm, ⟨14, _⟩ => ⟨S2048x4096, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== UpDw.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S4x1024x1024 : Shape := ⟨3, ![4, 1024, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 26
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x1024, .bf16⟩
  | .hbm, ⟨24, _⟩ => ⟨S2048x4096, .bf16⟩
  | .hbm, ⟨25, _⟩ => ⟨S4x1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S1024x4x1024 : Shape := ⟨3, ![1024, 4, 1024]⟩
abbrev S4x1024x1024 : Shape := ⟨3, ![4, 1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S4096x1024, .f32⟩
  | .hbm, ⟨24, _⟩ => ⟨S1024x4096, .f32⟩
  | .hbm, ⟨25, _⟩ => ⟨S1024x4x1024, .f32⟩
  | .hbm, ⟨26, _⟩ => ⟨S4x1024x1024, .f32⟩
  | .hbm, ⟨27, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== GlaIn.lean ====
abbrev S2048x1024 : Shape := ⟨2, ![2048, 1024]⟩
abbrev S1024x3088 : Shape := ⟨2, ![1024, 3088]⟩
abbrev S3088x1024 : Shape := ⟨2, ![3088, 1024]⟩
abbrev S_ : Shape := ⟨0, ![]⟩
abbrev S3200x1024 : Shape := ⟨2, ![3200, 1024]⟩
abbrev S2048x3200 : Shape := ⟨2, ![2048, 3200]⟩
abbrev S640x1024 : Shape := ⟨2, ![640, 1024]⟩
abbrev S2048x640 : Shape := ⟨2, ![2048, 640]⟩

abbrev nBuf : Space → Nat
  | .hbm => 9
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x3088, .f32⟩
  | .hbm, ⟨2, _⟩ => ⟨S2048x1024, .bf16⟩
  | .hbm, ⟨3, _⟩ => ⟨S3088x1024, .f32⟩
  | .hbm, ⟨4, _⟩ => ⟨S3088x1024, .bf16⟩
  | .hbm, ⟨5, _⟩ => ⟨S_, .i32⟩
  | .hbm, ⟨6, _⟩ => ⟨S_, .bf16⟩
  | .hbm, ⟨7, _⟩ => ⟨S3200x1024, .bf16⟩
  | .hbm, ⟨8, _⟩ => ⟨S2048x3200, .f32⟩
  | .local _ .vmem, ⟨0, _⟩ => ⟨S2048x1024, .bf16⟩
  | .local _ .vmem, ⟨1, _⟩ => ⟨S640x1024, .bf16⟩
  | .local _ .vmem, ⟨2, _⟩ => ⟨S640x1024, .bf16⟩
  | .local _ .vmem, ⟨3, _⟩ => ⟨S2048x640, .f32⟩
  | .local _ .vmem, ⟨4, _⟩ => ⟨S2048x640, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaInRefIdeal.lean ====
abbrev S2048x1024 : Shape := ⟨2, ![2048, 1024]⟩
abbrev S1024x3088 : Shape := ⟨2, ![1024, 3088]⟩
abbrev S2048x3088 : Shape := ⟨2, ![2048, 3088]⟩
abbrev S_ : Shape := ⟨0, ![]⟩
abbrev S2048x3200 : Shape := ⟨2, ![2048, 3200]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3088, .f32⟩
  | .hbm, ⟨2, _⟩ => ⟨S2048x3088, .f32⟩
  | .hbm, ⟨3, _⟩ => ⟨S_, .i32⟩
  | .hbm, ⟨4, _⟩ => ⟨S_, .f32⟩
  | .hbm, ⟨5, _⟩ => ⟨S2048x3200, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== GlaInDw.lean ====
abbrev S2048x1024 : Shape := ⟨2, ![2048, 1024]⟩
abbrev S1024x3088 : Shape := ⟨2, ![1024, 3088]⟩
abbrev S2048x3088 : Shape := ⟨2, ![2048, 3088]⟩
abbrev S_ : Shape := ⟨0, ![]⟩
abbrev S2048x3200 : Shape := ⟨2, ![2048, 3200]⟩
abbrev S1024x3200 : Shape := ⟨2, ![1024, 3200]⟩
abbrev S2048x640 : Shape := ⟨2, ![2048, 640]⟩
abbrev S1024x640 : Shape := ⟨2, ![1024, 640]⟩

abbrev nBuf : Space → Nat
  | .hbm => 9
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x3088, .f32⟩
  | .hbm, ⟨2, _⟩ => ⟨S2048x3088, .f32⟩
  | .hbm, ⟨3, _⟩ => ⟨S2048x1024, .bf16⟩
  | .hbm, ⟨4, _⟩ => ⟨S2048x3088, .bf16⟩
  | .hbm, ⟨5, _⟩ => ⟨S_, .i32⟩
  | .hbm, ⟨6, _⟩ => ⟨S_, .bf16⟩
  | .hbm, ⟨7, _⟩ => ⟨S2048x3200, .bf16⟩
  | .hbm, ⟨8, _⟩ => ⟨S1024x3200, .bf16⟩
  | .local _ .vmem, ⟨0, _⟩ => ⟨S2048x1024, .bf16⟩
  | .local _ .vmem, ⟨1, _⟩ => ⟨S2048x640, .bf16⟩
  | .local _ .vmem, ⟨2, _⟩ => ⟨S2048x640, .bf16⟩
  | .local _ .vmem, ⟨3, _⟩ => ⟨S1024x640, .bf16⟩
  | .local _ .vmem, ⟨4, _⟩ => ⟨S1024x640, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaInDwRefIdeal.lean ====
abbrev S2048x1024 : Shape := ⟨2, ![2048, 1024]⟩
abbrev S1024x3088 : Shape := ⟨2, ![1024, 3088]⟩
abbrev S2048x3088 : Shape := ⟨2, ![2048, 3088]⟩
abbrev S3088x1024 : Shape := ⟨2, ![3088, 1024]⟩
abbrev S_ : Shape := ⟨0, ![]⟩
abbrev S1024x3200 : Shape := ⟨2, ![1024, 3200]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3088, .f32⟩
  | .hbm, ⟨2, _⟩ => ⟨S2048x3088, .f32⟩
  | .hbm, ⟨3, _⟩ => ⟨S2048x3088, .f32⟩
  | .hbm, ⟨4, _⟩ => ⟨S3088x1024, .f32⟩
  | .hbm, ⟨5, _⟩ => ⟨S1024x3088, .f32⟩
  | .hbm, ⟨6, _⟩ => ⟨S2048x1024, .f32⟩
  | .hbm, ⟨7, _⟩ => ⟨S_, .i32⟩
  | .hbm, ⟨8, _⟩ => ⟨S_, .f32⟩
  | .hbm, ⟨9, _⟩ => ⟨S1024x3200, .f32⟩
  | .hbm, ⟨10, _⟩ => ⟨S1024x3200, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== GlaInDx.lean ====
abbrev S2048x1024 : Shape := ⟨2, ![2048, 1024]⟩
abbrev S1024x3088 : Shape := ⟨2, ![1024, 3088]⟩
abbrev S2048x3088 : Shape := ⟨2, ![2048, 3088]⟩
abbrev S_ : Shape := ⟨0, ![]⟩
abbrev S2048x3200 : Shape := ⟨2, ![2048, 3200]⟩
abbrev S3088x1024 : Shape := ⟨2, ![3088, 1024]⟩
abbrev S3200x1024 : Shape := ⟨2, ![3200, 1024]⟩
abbrev S1024x3200 : Shape := ⟨2, ![1024, 3200]⟩
abbrev S1024x1024 : Shape := ⟨2, ![1024, 1024]⟩

abbrev nBuf : Space → Nat
  | .hbm => 14
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x3088, .f32⟩
  | .hbm, ⟨2, _⟩ => ⟨S2048x3088, .f32⟩
  | .hbm, ⟨3, _⟩ => ⟨S2048x1024, .f32⟩
  | .hbm, ⟨4, _⟩ => ⟨S2048x3088, .bf16⟩
  | .hbm, ⟨5, _⟩ => ⟨S_, .i32⟩
  | .hbm, ⟨6, _⟩ => ⟨S_, .bf16⟩
  | .hbm, ⟨7, _⟩ => ⟨S2048x3200, .bf16⟩
  | .hbm, ⟨8, _⟩ => ⟨S3088x1024, .f32⟩
  | .hbm, ⟨9, _⟩ => ⟨S3088x1024, .bf16⟩
  | .hbm, ⟨10, _⟩ => ⟨S_, .i32⟩
  | .hbm, ⟨11, _⟩ => ⟨S_, .bf16⟩
  | .hbm, ⟨12, _⟩ => ⟨S3200x1024, .bf16⟩
  | .hbm, ⟨13, _⟩ => ⟨S2048x1024, .f32⟩
  | .local _ .vmem, ⟨0, _⟩ => ⟨S1024x3200, .bf16⟩
  | .local _ .vmem, ⟨1, _⟩ => ⟨S1024x3200, .bf16⟩
  | .local _ .vmem, ⟨2, _⟩ => ⟨S3200x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GlaInDxRefIdeal.lean ====
abbrev S2048x1024 : Shape := ⟨2, ![2048, 1024]⟩
abbrev S1024x3088 : Shape := ⟨2, ![1024, 3088]⟩
abbrev S2048x3088 : Shape := ⟨2, ![2048, 3088]⟩
abbrev S_ : Shape := ⟨0, ![]⟩
abbrev S3088x1024 : Shape := ⟨2, ![3088, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3088, .f32⟩
  | .hbm, ⟨2, _⟩ => ⟨S2048x3088, .f32⟩
  | .hbm, ⟨3, _⟩ => ⟨S2048x1024, .f32⟩
  | .hbm, ⟨4, _⟩ => ⟨S2048x3088, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S3088x1024, .f32⟩
  | .hbm, ⟨12, _⟩ => ⟨S1024x3088, .f32⟩
  | .hbm, ⟨13, _⟩ => ⟨S2048x1024, .f32⟩
  | .hbm, ⟨14, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== ConvIn.lean ====
abbrev S2048x1024 : Shape := ⟨2, ![2048, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S2048x3072 : Shape := ⟨2, ![2048, 3072]⟩
abbrev S1x1024x768 : Shape := ⟨3, ![1, 1024, 768]⟩
abbrev S2048x768 : Shape := ⟨2, ![2048, 768]⟩
abbrev S1024x768 : Shape := ⟨2, ![1024, 768]⟩

abbrev nBuf : Space → Nat
  | .hbm => 7
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x1024, .bf16⟩
  | .hbm, ⟨3, _⟩ => ⟨S1024x3072, .bf16⟩
  | .hbm, ⟨4, _⟩ => ⟨S1024x4x768, .bf16⟩
  | .hbm, ⟨5, _⟩ => ⟨S4x1024x768, .bf16⟩
  | .hbm, ⟨6, _⟩ => ⟨S2048x3072, .f32⟩
  | .local _ .vmem, ⟨0, _⟩ => ⟨S2048x1024, .bf16⟩
  | .local _ .vmem, ⟨1, _⟩ => ⟨S1x1024x768, .bf16⟩
  | .local _ .vmem, ⟨2, _⟩ => ⟨S1x1024x768, .bf16⟩
  | .local _ .vmem, ⟨3, _⟩ => ⟨S2048x768, .f32⟩
  | .local _ .vmem, ⟨4, _⟩ => ⟨S2048x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInRefIdeal.lean ====
abbrev S2048x1024 : Shape := ⟨2, ![2048, 1024]⟩
abbrev S1024x3072 : Shape := ⟨2, ![1024, 3072]⟩
abbrev S2048x3072 : Shape := ⟨2, ![2048, 3072]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x3072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ConvInDw.lean ====
abbrev S2048x1024 : Shape := ⟨2, ![2048, 1024]⟩
abbrev S1024x3072 : Shape := ⟨2, ![1024, 3072]⟩
abbrev S2048x3072 : Shape := ⟨2, ![2048, 3072]⟩
abbrev S4x1024x768 : Shape := ⟨3, ![4, 1024, 768]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x3072, .f32⟩
  | .hbm, ⟨3, _⟩ => ⟨S2048x1024, .bf16⟩
  | .hbm, ⟨4, _⟩ => ⟨S2048x3072, .bf16⟩
  | .hbm, ⟨5, _⟩ => ⟨S4x1024x768, .bf16⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S1x1024x768, .bf16⟩
  | .local _ .vmem, ⟨4, _⟩ => ⟨S1x1024x768, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInDwRefIdeal.lean ====
abbrev S2048x1024 : Shape := ⟨2, ![2048, 1024]⟩
abbrev S1024x3072 : Shape := ⟨2, ![1024, 3072]⟩
abbrev S2048x3072 : Shape := ⟨2, ![2048, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x3072, .f32⟩
  | .hbm, ⟨3, _⟩ => ⟨S2048x3072, .f32⟩
  | .hbm, ⟨4, _⟩ => ⟨S3072x1024, .f32⟩
  | .hbm, ⟨5, _⟩ => ⟨S1024x3072, .f32⟩
  | .hbm, ⟨6, _⟩ => ⟨S2048x1024, .f32⟩
  | .hbm, ⟨7, _⟩ => ⟨S1024x4x768, .f32⟩
  | .hbm, ⟨8, _⟩ => ⟨S4x1024x768, .f32⟩
  | .hbm, ⟨9, _⟩ => ⟨S4x1024x768, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvInDx.lean ====
abbrev S2048x1024 : Shape := ⟨2, ![2048, 1024]⟩
abbrev S1024x3072 : Shape := ⟨2, ![1024, 3072]⟩
abbrev S2048x3072 : Shape := ⟨2, ![2048, 3072]⟩
abbrev S1024x4x768 : Shape := ⟨3, ![1024, 4, 768]⟩
abbrev S4x1024x768 : Shape := ⟨3, ![4, 1024, 768]⟩
abbrev S512x3072 : Shape := ⟨2, ![512, 3072]⟩
abbrev S1x1024x768 : Shape := ⟨3, ![1, 1024, 768]⟩
abbrev S512x1024 : Shape := ⟨2, ![512, 1024]⟩
abbrev S512x768 : Shape := ⟨2, ![512, 768]⟩
abbrev S1024x768 : Shape := ⟨2, ![1024, 768]⟩

abbrev nBuf : Space → Nat
  | .hbm => 13
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x3072, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x3072, .bf16⟩
  | .hbm, ⟨7, _⟩ => ⟨S1024x3072, .bf16⟩
  | .hbm, ⟨8, _⟩ => ⟨S1024x4x768, .bf16⟩
  | .hbm, ⟨9, _⟩ => ⟨S4x1024x768, .bf16⟩
  | .hbm, ⟨10, _⟩ => ⟨S2048x1024, .f32⟩
  | .hbm, ⟨11, _⟩ => ⟨S2048x1024, .bf16⟩
  | .hbm, ⟨12, _⟩ => ⟨S2048x1024, .bf16⟩
  | .local _ .vmem, ⟨0, _⟩ => ⟨S512x3072, .bf16⟩
  | .local _ .vmem, ⟨1, _⟩ => ⟨S512x3072, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ConvInDxRefIdeal.lean ====
abbrev S2048x1024 : Shape := ⟨2, ![2048, 1024]⟩
abbrev S1024x3072 : Shape := ⟨2, ![1024, 3072]⟩
abbrev S2048x3072 : Shape := ⟨2, ![2048, 3072]⟩
abbrev S_ : Shape := ⟨0, ![]⟩
abbrev S3072x1024 : Shape := ⟨2, ![3072, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x3072, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x3072, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S3072x1024, .f32⟩
  | .hbm, ⟨14, _⟩ => ⟨S1024x3072, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | .hbm, ⟨34, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== SquareDw.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .hbm, ⟨5, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDwRefIdeal.lean ====
abbrev S2048x1024 : Shape := ⟨2, ![2048, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SquareDx.lean ====
abbrev S2048x1024 : Shape := ⟨2, ![2048, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1024x1024, .bf16⟩
  | .hbm, ⟨5, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDxRefIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixOut.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .bf16⟩
  | .hbm, ⟨6, _⟩ => ⟨S1024x1024, .bf16⟩
  | .hbm, ⟨7, _⟩ => ⟨S2048x1024, .f32⟩
  | .hbm, ⟨8, _⟩ => ⟨S2048x1024, .bf16⟩
  | .hbm, ⟨9, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MixOutRefIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Gate.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1024x1024, .bf16⟩
  | .hbm, ⟨5, _⟩ => ⟨S2048x1024, .f32⟩
  | .hbm, ⟨6, _⟩ => ⟨S2048x1024, .f32⟩
  | .hbm, ⟨7, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== GateRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== StepGlaOut.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepGlaOutIdeal.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepGlaOutRefIdeal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== StepMlaIn.lean ====
abbrev S1x256x576 : Shape := ⟨3, ![1, 256, 576]⟩
abbrev S256x576 : Shape := ⟨2, ![256, 576]⟩

abbrev nBuf : Space → Nat
  | .hbm => 8
  | .vmem => 8
  | .smem => 0
  | _ => 0

abbrev bufTy : (tb : Table) → Fin (tcTables nBuf tb) → BufTy
  | .hbm, ⟨0, _⟩ => ⟨S1x256x576, .f32⟩
  | .hbm, ⟨1, _⟩ => ⟨S1x256x576, .f32⟩
  | .hbm, ⟨2, _⟩ => ⟨S1x256x576, .f32⟩
  | .hbm, ⟨3, _⟩ => ⟨S256x576, .f32⟩
  | .hbm, ⟨4, _⟩ => ⟨S1x256x576, .f32⟩
  | .hbm, ⟨5, _⟩ => ⟨S1x256x576, .f32⟩
  | .hbm, ⟨6, _⟩ => ⟨S1x256x576, .f32⟩
  | .hbm, ⟨7, _⟩ => ⟨S1x256x576, .f32⟩
  | .local _ .vmem, ⟨0, _⟩ => ⟨S1x256x576, .f32⟩
  | .local _ .vmem, ⟨1, _⟩ => ⟨S1x256x576, .f32⟩
  | .local _ .vmem, ⟨2, _⟩ => ⟨S1x256x576, .f32⟩
  | .local _ .vmem, ⟨3, _⟩ => ⟨S256x576, .f32⟩
  | .local _ .vmem, ⟨4, _⟩ => ⟨S1x256x576, .f32⟩
  | .local _ .vmem, ⟨5, _⟩ => ⟨S1x256x576, .f32⟩
  | .local _ .vmem, ⟨6, _⟩ => ⟨S1x256x576, .f32⟩
  | .local _ .vmem, ⟨7, _⟩ => ⟨S1x256x576, .f32⟩
  | _, _ => ⟨S1x256x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x576 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== StepMlaInIdeal.lean ====
abbrev S1x256x576 : Shape := ⟨3, ![1, 256, 576]⟩
abbrev S256x576 : Shape := ⟨2, ![256, 576]⟩

abbrev nBuf : Space → Nat
  | .hbm => 8
  | .vmem => 8
  | .smem => 0
  | _ => 0

abbrev bufTy : (tb : Table) → Fin (tcTables nBuf tb) → BufTy
  | .hbm, ⟨0, _⟩ => ⟨S1x256x576, .f32⟩
  | .hbm, ⟨1, _⟩ => ⟨S1x256x576, .f32⟩
  | .hbm, ⟨2, _⟩ => ⟨S1x256x576, .f32⟩
  | .hbm, ⟨3, _⟩ => ⟨S256x576, .f32⟩
  | .hbm, ⟨4, _⟩ => ⟨S1x256x576, .f32⟩
  | .hbm, ⟨5, _⟩ => ⟨S1x256x576, .f32⟩
  | .hbm, ⟨6, _⟩ => ⟨S1x256x576, .f32⟩
  | .hbm, ⟨7, _⟩ => ⟨S1x256x576, .f32⟩
  | .local _ .vmem, ⟨0, _⟩ => ⟨S1x256x576, .f32⟩
  | .local _ .vmem, ⟨1, _⟩ => ⟨S1x256x576, .f32⟩
  | .local _ .vmem, ⟨2, _⟩ => ⟨S1x256x576, .f32⟩
  | .local _ .vmem, ⟨3, _⟩ => ⟨S256x576, .f32⟩
  | .local _ .vmem, ⟨4, _⟩ => ⟨S1x256x576, .f32⟩
  | .local _ .vmem, ⟨5, _⟩ => ⟨S1x256x576, .f32⟩
  | .local _ .vmem, ⟨6, _⟩ => ⟨S1x256x576, .f32⟩
  | .local _ .vmem, ⟨7, _⟩ => ⟨S1x256x576, .f32⟩
  | _, _ => ⟨S1x256x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x576 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== StepMlaInRefIdeal.lean ====
abbrev S1x256x576 : Shape := ⟨3, ![1, 256, 576]⟩
abbrev S256x576 : Shape := ⟨2, ![256, 576]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256x576, .f32⟩
  | .hbm, ⟨1, _⟩ => ⟨S1x256x576, .f32⟩
  | .hbm, ⟨2, _⟩ => ⟨S1x256x576, .f32⟩
  | .hbm, ⟨3, _⟩ => ⟨S256x576, .f32⟩
  | .hbm, ⟨4, _⟩ => ⟨S1x256x576, .f32⟩
  | .hbm, ⟨5, _⟩ => ⟨S_, .f32⟩
  | .hbm, ⟨6, _⟩ => ⟨S1x256x576, .f32⟩
  | .hbm, ⟨7, _⟩ => ⟨S1x256x576, .f32⟩
  | .hbm, ⟨8, _⟩ => ⟨S_, .f32⟩
  | .hbm, ⟨9, _⟩ => ⟨S1x256x576, .f32⟩
  | .hbm, ⟨10, _⟩ => ⟨S1x256x576, .f32⟩
  | .hbm, ⟨11, _⟩ => ⟨S1x256x576, .f32⟩
  | .hbm, ⟨12, _⟩ => ⟨S_, .f32⟩
  | .hbm, ⟨13, _⟩ => ⟨S1x256x576, .f32⟩
  | .hbm, ⟨14, _⟩ => ⟨S1x256x576, .f32⟩
  | .hbm, ⟨15, _⟩ => ⟨S1x256x576, .f32⟩
  | .hbm, ⟨16, _⟩ => ⟨S_, .f32⟩
  | .hbm, ⟨17, _⟩ => ⟨S1x256x576, .f32⟩
  | .hbm, ⟨18, _⟩ => ⟨S1x256x576, .f32⟩
  | .hbm, ⟨19, _⟩ => ⟨S1x256x576, .f32⟩
  | .hbm, ⟨20, _⟩ => ⟨S_, .f32⟩
  | .hbm, ⟨21, _⟩ => ⟨S1x256x576, .f32⟩
  | .hbm, ⟨22, _⟩ => ⟨S1x256x576, .f32⟩
  | .hbm, ⟨23, _⟩ => ⟨S_, .f32⟩
  | .hbm, ⟨24, _⟩ => ⟨S1x256x576, .f32⟩
  | .hbm, ⟨25, _⟩ => ⟨S1x256x576, .f32⟩
  | .hbm, ⟨26, _⟩ => ⟨S1x256x576, .f32⟩
  | .hbm, ⟨27, _⟩ => ⟨S_, .f32⟩
  | .hbm, ⟨28, _⟩ => ⟨S1x256x576, .f32⟩
  | .hbm, ⟨29, _⟩ => ⟨S1x256x576, .f32⟩
  | .hbm, ⟨30, _⟩ => ⟨S1x256x576, .f32⟩
  | .hbm, ⟨31, _⟩ => ⟨S_, .f32⟩
  | .hbm, ⟨32, _⟩ => ⟨S1x256x576, .f32⟩
  | .hbm, ⟨33, _⟩ => ⟨S1x256x576, .f32⟩
  | .hbm, ⟨34, _⟩ => ⟨S1x256x576, .f32⟩
  | .hbm, ⟨35, _⟩ => ⟨S_, .f32⟩
  | .hbm, ⟨36, _⟩ => ⟨S1x256x576, .f32⟩
  | .hbm, ⟨37, _⟩ => ⟨S1x256x576, .f32⟩
  | _, _ => ⟨S1x256x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== StepMlaUq.lean ====
abbrev S1x256x384 : Shape := ⟨3, ![1, 256, 384]⟩
abbrev S256x384 : Shape := ⟨2, ![256, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x256x384, .f32⟩
  | .hbm, ⟨1, _⟩ => ⟨S1x256x384, .f32⟩
  | .hbm, ⟨2, _⟩ => ⟨S1x256x384, .f32⟩
  | .hbm, ⟨3, _⟩ => ⟨S256x384, .f32⟩
  | .hbm, ⟨4, _⟩ => ⟨S1x256x384, .f32⟩
  | .hbm, ⟨5, _⟩ => ⟨S1x256x384, .f32⟩
  | .hbm, ⟨6, _⟩ => ⟨S1x256x384, .f32⟩
  | .hbm, ⟨7, _⟩ => ⟨S1x256x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | _, _ => ⟨S1x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== StepMlaUqIdeal.lean ====
abbrev S1x256x384 : Shape := ⟨3, ![1, 256, 384]⟩
abbrev S256x384 : Shape := ⟨2, ![256, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x256x384, .f32⟩
  | .hbm, ⟨1, _⟩ => ⟨S1x256x384, .f32⟩
  | .hbm, ⟨2, _⟩ => ⟨S1x256x384, .f32⟩
  | .hbm, ⟨3, _⟩ => ⟨S256x384, .f32⟩
  | .hbm, ⟨4, _⟩ => ⟨S1x256x384, .f32⟩
  | .hbm, ⟨5, _⟩ => ⟨S1x256x384, .f32⟩
  | .hbm, ⟨6, _⟩ => ⟨S1x256x384, .f32⟩
  | .hbm, ⟨7, _⟩ => ⟨S1x256x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | _, _ => ⟨S1x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== StepMlaUqRefIdeal.lean ====
abbrev S1x256x384 : Shape := ⟨3, ![1, 256, 384]⟩
abbrev S256x384 : Shape := ⟨2, ![256, 384]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256x384, .f32⟩
  | .hbm, ⟨1, _⟩ => ⟨S1x256x384, .f32⟩
  | .hbm, ⟨2, _⟩ => ⟨S1x256x384, .f32⟩
  | .hbm, ⟨3, _⟩ => ⟨S256x384, .f32⟩
  | .hbm, ⟨4, _⟩ => ⟨S1x256x384, .f32⟩
  | .hbm, ⟨5, _⟩ => ⟨S_, .f32⟩
  | .hbm, ⟨6, _⟩ => ⟨S1x256x384, .f32⟩
  | .hbm, ⟨7, _⟩ => ⟨S1x256x384, .f32⟩
  | .hbm, ⟨8, _⟩ => ⟨S_, .f32⟩
  | .hbm, ⟨9, _⟩ => ⟨S1x256x384, .f32⟩
  | .hbm, ⟨10, _⟩ => ⟨S1x256x384, .f32⟩
  | .hbm, ⟨11, _⟩ => ⟨S1x256x384, .f32⟩
  | .hbm, ⟨12, _⟩ => ⟨S_, .f32⟩
  | .hbm, ⟨13, _⟩ => ⟨S1x256x384, .f32⟩
  | .hbm, ⟨14, _⟩ => ⟨S1x256x384, .f32⟩
  | .hbm, ⟨15, _⟩ => ⟨S1x256x384, .f32⟩
  | .hbm, ⟨16, _⟩ => ⟨S_, .f32⟩
  | .hbm, ⟨17, _⟩ => ⟨S1x256x384, .f32⟩
  | .hbm, ⟨18, _⟩ => ⟨S1x256x384, .f32⟩
  | .hbm, ⟨19, _⟩ => ⟨S1x256x384, .f32⟩
  | .hbm, ⟨20, _⟩ => ⟨S_, .f32⟩
  | .hbm, ⟨21, _⟩ => ⟨S1x256x384, .f32⟩
  | .hbm, ⟨22, _⟩ => ⟨S1x256x384, .f32⟩
  | .hbm, ⟨23, _⟩ => ⟨S_, .f32⟩
  | .hbm, ⟨24, _⟩ => ⟨S1x256x384, .f32⟩
  | .hbm, ⟨25, _⟩ => ⟨S1x256x384, .f32⟩
  | .hbm, ⟨26, _⟩ => ⟨S1x256x384, .f32⟩
  | .hbm, ⟨27, _⟩ => ⟨S_, .f32⟩
  | .hbm, ⟨28, _⟩ => ⟨S1x256x384, .f32⟩
  | .hbm, ⟨29, _⟩ => ⟨S1x256x384, .f32⟩
  | .hbm, ⟨30, _⟩ => ⟨S1x256x384, .f32⟩
  | .hbm, ⟨31, _⟩ => ⟨S_, .f32⟩
  | .hbm, ⟨32, _⟩ => ⟨S1x256x384, .f32⟩
  | .hbm, ⟨33, _⟩ => ⟨S1x256x384, .f32⟩
  | .hbm, ⟨34, _⟩ => ⟨S1x256x384, .f32⟩
  | .hbm, ⟨35, _⟩ => ⟨S_, .f32⟩
  | .hbm, ⟨36, _⟩ => ⟨S1x256x384, .f32⟩
  | .hbm, ⟨37, _⟩ => ⟨S1x256x384, .f32⟩
  | _, _ => ⟨S1x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== StepMlaUkv.lean ====
abbrev S1x256x512 : Shape := ⟨3, ![1, 256, 512]⟩
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S256x512, .f32⟩
  | .hbm, ⟨4, _⟩ => ⟨S1x256x512, .f32⟩
  | .hbm, ⟨5, _⟩ => ⟨S1x256x512, .f32⟩
  | .hbm, ⟨6, _⟩ => ⟨S1x256x512, .f32⟩
  | .hbm, ⟨7, _⟩ => ⟨S1x256x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== StepMlaUkvIdeal.lean ====
abbrev S1x256x512 : Shape := ⟨3, ![1, 256, 512]⟩
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S256x512, .f32⟩
  | .hbm, ⟨4, _⟩ => ⟨S1x256x512, .f32⟩
  | .hbm, ⟨5, _⟩ => ⟨S1x256x512, .f32⟩
  | .hbm, ⟨6, _⟩ => ⟨S1x256x512, .f32⟩
  | .hbm, ⟨7, _⟩ => ⟨S1x256x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== StepMlaUkvRefIdeal.lean ====
abbrev S1x256x512 : Shape := ⟨3, ![1, 256, 512]⟩
abbrev S256x512 : Shape := ⟨2, ![256, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S256x512, .f32⟩
  | .hbm, ⟨4, _⟩ => ⟨S1x256x512, .f32⟩
  | .hbm, ⟨5, _⟩ => ⟨S_, .f32⟩
  | .hbm, ⟨6, _⟩ => ⟨S1x256x512, .f32⟩
  | .hbm, ⟨7, _⟩ => ⟨S1x256x512, .f32⟩
  | .hbm, ⟨8, _⟩ => ⟨S_, .f32⟩
  | .hbm, ⟨9, _⟩ => ⟨S1x256x512, .f32⟩
  | .hbm, ⟨10, _⟩ => ⟨S1x256x512, .f32⟩
  | .hbm, ⟨11, _⟩ => ⟨S1x256x512, .f32⟩
  | .hbm, ⟨12, _⟩ => ⟨S_, .f32⟩
  | .hbm, ⟨13, _⟩ => ⟨S1x256x512, .f32⟩
  | .hbm, ⟨14, _⟩ => ⟨S1x256x512, .f32⟩
  | .hbm, ⟨15, _⟩ => ⟨S1x256x512, .f32⟩
  | .hbm, ⟨16, _⟩ => ⟨S_, .f32⟩
  | .hbm, ⟨17, _⟩ => ⟨S1x256x512, .f32⟩
  | .hbm, ⟨18, _⟩ => ⟨S1x256x512, .f32⟩
  | .hbm, ⟨19, _⟩ => ⟨S1x256x512, .f32⟩
  | .hbm, ⟨20, _⟩ => ⟨S_, .f32⟩
  | .hbm, ⟨21, _⟩ => ⟨S1x256x512, .f32⟩
  | .hbm, ⟨22, _⟩ => ⟨S1x256x512, .f32⟩
  | .hbm, ⟨23, _⟩ => ⟨S_, .f32⟩
  | .hbm, ⟨24, _⟩ => ⟨S1x256x512, .f32⟩
  | .hbm, ⟨25, _⟩ => ⟨S1x256x512, .f32⟩
  | .hbm, ⟨26, _⟩ => ⟨S1x256x512, .f32⟩
  | .hbm, ⟨27, _⟩ => ⟨S_, .f32⟩
  | .hbm, ⟨28, _⟩ => ⟨S1x256x512, .f32⟩
  | .hbm, ⟨29, _⟩ => ⟨S1x256x512, .f32⟩
  | .hbm, ⟨30, _⟩ => ⟨S1x256x512, .f32⟩
  | .hbm, ⟨31, _⟩ => ⟨S_, .f32⟩
  | .hbm, ⟨32, _⟩ => ⟨S1x256x512, .f32⟩
  | .hbm, ⟨33, _⟩ => ⟨S1x256x512, .f32⟩
  | .hbm, ⟨34, _⟩ => ⟨S1x256x512, .f32⟩
  | .hbm, ⟨35, _⟩ => ⟨S_, .f32⟩
  | .hbm, ⟨36, _⟩ => ⟨S1x256x512, .f32⟩
  | .hbm, ⟨37, _⟩ => ⟨S1x256x512, .f32⟩
  | _, _ => ⟨S1x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== StepRowsOut.lean ====
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== StepRowsOutIdeal.lean ====
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== StepRowsOutRefIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== StepConvIn.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepConvInIdeal.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepConvInRefIdeal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1024x768, .f32⟩
  | .hbm, ⟨4, _⟩ => ⟨S1x1024x768, .f32⟩
  | .hbm, ⟨5, _⟩ => ⟨S_, .f32⟩
  | .hbm, ⟨6, _⟩ => ⟨S1x1024x768, .f32⟩
  | .hbm, ⟨7, _⟩ => ⟨S1x1024x768, .f32⟩
  | .hbm, ⟨8, _⟩ => ⟨S_, .f32⟩
  | .hbm, ⟨9, _⟩ => ⟨S1x1024x768, .f32⟩
  | .hbm, ⟨10, _⟩ => ⟨S1x1024x768, .f32⟩
  | .hbm, ⟨11, _⟩ => ⟨S1x1024x768, .f32⟩
  | .hbm, ⟨12, _⟩ => ⟨S_, .f32⟩
  | .hbm, ⟨13, _⟩ => ⟨S1x1024x768, .f32⟩
  | .hbm, ⟨14, _⟩ => ⟨S1x1024x768, .f32⟩
  | .hbm, ⟨15, _⟩ => ⟨S1x1024x768, .f32⟩
  | .hbm, ⟨16, _⟩ => ⟨S_, .f32⟩
  | .hbm, ⟨17, _⟩ => ⟨S1x1024x768, .f32⟩
  | .hbm, ⟨18, _⟩ => ⟨S1x1024x768, .f32⟩
  | .hbm, ⟨19, _⟩ => ⟨S1x1024x768, .f32⟩
  | .hbm, ⟨20, _⟩ => ⟨S_, .f32⟩
  | .hbm, ⟨21, _⟩ => ⟨S1x1024x768, .f32⟩
  | .hbm, ⟨22, _⟩ => ⟨S1x1024x768, .f32⟩
  | .hbm, ⟨23, _⟩ => ⟨S_, .f32⟩
  | .hbm, ⟨24, _⟩ => ⟨S1x1024x768, .f32⟩
  | .hbm, ⟨25, _⟩ => ⟨S1x1024x768, .f32⟩
  | .hbm, ⟨26, _⟩ => ⟨S1x1024x768, .f32⟩
  | .hbm, ⟨27, _⟩ => ⟨S_, .f32⟩
  | .hbm, ⟨28, _⟩ => ⟨S1x1024x768, .f32⟩
  | .hbm, ⟨29, _⟩ => ⟨S1x1024x768, .f32⟩
  | .hbm, ⟨30, _⟩ => ⟨S1x1024x768, .f32⟩
  | .hbm, ⟨31, _⟩ => ⟨S_, .f32⟩
  | .hbm, ⟨32, _⟩ => ⟨S1x1024x768, .f32⟩
  | .hbm, ⟨33, _⟩ => ⟨S1x1024x768, .f32⟩
  | .hbm, ⟨34, _⟩ => ⟨S1x1024x768, .f32⟩
  | .hbm, ⟨35, _⟩ => ⟨S_, .f32⟩
  | .hbm, ⟨36, _⟩ => ⟨S1x1024x768, .f32⟩
  | .hbm, ⟨37, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== StepMlp.lean ====
abbrev S4x1024x1024 : Shape := ⟨3, ![4, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StepMlpIdeal.lean ====
abbrev S4x1024x1024 : Shape := ⟨3, ![4, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StepMlpRefIdeal.lean ====
abbrev S4x1024x1024 : Shape := ⟨3, ![4, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S4x1024x1024, .f32⟩
  | .hbm, ⟨12, _⟩ => ⟨S_, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S4x1024x1024, .f32⟩
  | .hbm, ⟨23, _⟩ => ⟨S_, .f32⟩
  | .hbm, ⟨24, _⟩ => ⟨S4x1024x1024, .f32⟩
  | .hbm, ⟨25, _⟩ => ⟨S4x1024x1024, .f32⟩
  | .hbm, ⟨26, _⟩ => ⟨S4x1024x1024, .f32⟩
  | .hbm, ⟨27, _⟩ => ⟨S_, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4x1024x1024, .f32⟩
  | .hbm, ⟨38, _⟩ => ⟨S_, .f32⟩
  | .hbm, ⟨39, _⟩ => ⟨S4x1024x1024, .f32⟩
  | .hbm, ⟨40, _⟩ => ⟨S4x1024x1024, .f32⟩
  | .hbm, ⟨41, _⟩ => ⟨S4x1024x1024, .f32⟩
  | .hbm, ⟨42, _⟩ => ⟨S_, .f32⟩
  | .hbm, ⟨43, _⟩ => ⟨S4x1024x1024, .f32⟩
  | .hbm, ⟨44, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== StepPleGate.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StepPleGateIdeal.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StepPleGateRefIdeal.lean ====
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S1x256x1024, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S4x256x1024, .f32⟩
  | .hbm, ⟨12, _⟩ => ⟨S_, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S_, .f32⟩
  | .hbm, ⟨43, _⟩ => ⟨S4x256x1024, .f32⟩
  | .hbm, ⟨44, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== StepPleProj.lean ====
abbrev S4x256x256 : Shape := ⟨3, ![4, 256, 256]⟩
abbrev S256x256 : Shape := ⟨2, ![256, 256]⟩
abbrev S1x256x256 : Shape := ⟨3, ![1, 256, 256]⟩

abbrev nBuf : Space → Nat
  | .hbm => 11
  | .vmem => 22
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S4x256x256, .f32⟩
  | .hbm, ⟨8, _⟩ => ⟨S4x256x256, .f32⟩
  | .hbm, ⟨9, _⟩ => ⟨S4x256x256, .f32⟩
  | .hbm, ⟨10, _⟩ => ⟨S4x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StepPleProjRefIdeal.lean ====
abbrev S4x256x256 : Shape := ⟨3, ![4, 256, 256]⟩
abbrev S256x256 : Shape := ⟨2, ![256, 256]⟩
abbrev S1x256x256 : Shape := ⟨3, ![1, 256, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S1x256x256, .f32⟩
  | .hbm, ⟨8, _⟩ => ⟨S1x256x256, .f32⟩
  | .hbm, ⟨9, _⟩ => ⟨S1x256x256, .f32⟩
  | .hbm, ⟨10, _⟩ => ⟨S1x256x256, .f32⟩
  | .hbm, ⟨11, _⟩ => ⟨S4x256x256, .f32⟩
  | .hbm, ⟨12, _⟩ => ⟨S_, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S4x256x256, .f32⟩
  | .hbm, ⟨21, _⟩ => ⟨S4x256x256, .f32⟩
  | .hbm, ⟨22, _⟩ => ⟨S4x256x256, .f32⟩
  | .hbm, ⟨23, _⟩ => ⟨S_, .f32⟩
  | .hbm, ⟨24, _⟩ => ⟨S4x256x256, .f32⟩
  | .hbm, ⟨25, _⟩ => ⟨S4x256x256, .f32⟩
  | .hbm, ⟨26, _⟩ => ⟨S4x256x256, .f32⟩
  | .hbm, ⟨27, _⟩ => ⟨S_, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4x256x256, .f32⟩
  | .hbm, ⟨36, _⟩ => ⟨S4x256x256, .f32⟩
  | .hbm, ⟨37, _⟩ => ⟨S4x256x256, .f32⟩
  | .hbm, ⟨38, _⟩ => ⟨S_, .f32⟩
  | .hbm, ⟨39, _⟩ => ⟨S4x256x256, .f32⟩
  | .hbm, ⟨40, _⟩ => ⟨S4x256x256, .f32⟩
  | .hbm, ⟨41, _⟩ => ⟨S4x256x256, .f32⟩
  | .hbm, ⟨42, _⟩ => ⟨S_, .f32⟩
  | .hbm, ⟨43, _⟩ => ⟨S4x256x256, .f32⟩
  | .hbm, ⟨44, _⟩ => ⟨S4x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== StepGlaIn.lean ====
abbrev S2x1024x772 : Shape := ⟨3, ![2, 1024, 772]⟩
abbrev S1024x772 : Shape := ⟨2, ![1024, 772]⟩
abbrev S772x1024 : Shape := ⟨2, ![772, 1024]⟩
abbrev S772x1x1024 : Shape := ⟨3, ![772, 1, 1024]⟩
abbrev S772x2x1024 : Shape := ⟨3, ![772, 2, 1024]⟩
abbrev S193x2x1024 : Shape := ⟨3, ![193, 2, 1024]⟩

abbrev nBuf : Space → Nat
  | .hbm => 17
  | .vmem => 16
  | .smem => 0
  | _ => 0

abbrev bufTy : (tb : Table) → Fin (tcTables nBuf tb) → BufTy
  | .hbm, ⟨0, _⟩ => ⟨S2x1024x772, .f32⟩
  | .hbm, ⟨1, _⟩ => ⟨S2x1024x772, .f32⟩
  | .hbm, ⟨2, _⟩ => ⟨S2x1024x772, .f32⟩
  | .hbm, ⟨3, _⟩ => ⟨S1024x772, .f32⟩
  | .hbm, ⟨4, _⟩ => ⟨S1024x772, .f32⟩
  | .hbm, ⟨5, _⟩ => ⟨S772x1024, .f32⟩
  | .hbm, ⟨6, _⟩ => ⟨S772x1024, .f32⟩
  | .hbm, ⟨7, _⟩ => ⟨S772x1x1024, .f32⟩
  | .hbm, ⟨8, _⟩ => ⟨S772x1x1024, .f32⟩
  | .hbm, ⟨9, _⟩ => ⟨S772x2x1024, .f32⟩
  | .hbm, ⟨10, _⟩ => ⟨S772x2x1024, .f32⟩
  | .hbm, ⟨11, _⟩ => ⟨S772x2x1024, .f32⟩
  | .hbm, ⟨12, _⟩ => ⟨S772x2x1024, .f32⟩
  | .hbm, ⟨13, _⟩ => ⟨S772x2x1024, .f32⟩
  | .hbm, ⟨14, _⟩ => ⟨S772x2x1024, .f32⟩
  | .hbm, ⟨15, _⟩ => ⟨S772x2x1024, .f32⟩
  | .hbm, ⟨16, _⟩ => ⟨S772x2x1024, .f32⟩
  | .local _ .vmem, ⟨0, _⟩ => ⟨S193x2x1024, .f32⟩
  | .local _ .vmem, ⟨1, _⟩ => ⟨S193x2x1024, .f32⟩
  | .local _ .vmem, ⟨2, _⟩ => ⟨S193x2x1024, .f32⟩
  | .local _ .vmem, ⟨3, _⟩ => ⟨S193x2x1024, .f32⟩
  | .local _ .vmem, ⟨4, _⟩ => ⟨S193x2x1024, .f32⟩
  | .local _ .vmem, ⟨5, _⟩ => ⟨S193x2x1024, .f32⟩
  | .local _ .vmem, ⟨6, _⟩ => ⟨S193x2x1024, .f32⟩
  | .local _ .vmem, ⟨7, _⟩ => ⟨S193x2x1024, .f32⟩
  | .local _ .vmem, ⟨8, _⟩ => ⟨S193x2x1024, .f32⟩
  | .local _ .vmem, ⟨9, _⟩ => ⟨S193x2x1024, .f32⟩
  | .local _ .vmem, ⟨10, _⟩ => ⟨S193x2x1024, .f32⟩
  | .local _ .vmem, ⟨11, _⟩ => ⟨S193x2x1024, .f32⟩
  | .local _ .vmem, ⟨12, _⟩ => ⟨S193x2x1024, .f32⟩
  | .local _ .vmem, ⟨13, _⟩ => ⟨S193x2x1024, .f32⟩
  | .local _ .vmem, ⟨14, _⟩ => ⟨S193x2x1024, .f32⟩
  | .local _ .vmem, ⟨15, _⟩ => ⟨S193x2x1024, .f32⟩
  | _, _ => ⟨S2x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S193x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S193x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S193x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S193x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S193x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S193x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S193x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S193x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepGlaInRefIdeal.lean ====
abbrev S2x1024x772 : Shape := ⟨3, ![2, 1024, 772]⟩
abbrev S1024x772 : Shape := ⟨2, ![1024, 772]⟩
abbrev S1x1024x772 : Shape := ⟨3, ![1, 1024, 772]⟩
abbrev S_ : Shape := ⟨0, ![]⟩
abbrev S772x2x1024 : Shape := ⟨3, ![772, 2, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x1024x772, .f32⟩
  | .hbm, ⟨1, _⟩ => ⟨S2x1024x772, .f32⟩
  | .hbm, ⟨2, _⟩ => ⟨S2x1024x772, .f32⟩
  | .hbm, ⟨3, _⟩ => ⟨S1024x772, .f32⟩
  | .hbm, ⟨4, _⟩ => ⟨S1024x772, .f32⟩
  | .hbm, ⟨5, _⟩ => ⟨S1x1024x772, .f32⟩
  | .hbm, ⟨6, _⟩ => ⟨S1x1024x772, .f32⟩
  | .hbm, ⟨7, _⟩ => ⟨S2x1024x772, .f32⟩
  | .hbm, ⟨8, _⟩ => ⟨S_, .f32⟩
  | .hbm, ⟨9, _⟩ => ⟨S2x1024x772, .f32⟩
  | .hbm, ⟨10, _⟩ => ⟨S2x1024x772, .f32⟩
  | .hbm, ⟨11, _⟩ => ⟨S_, .f32⟩
  | .hbm, ⟨12, _⟩ => ⟨S2x1024x772, .f32⟩
  | .hbm, ⟨13, _⟩ => ⟨S2x1024x772, .f32⟩
  | .hbm, ⟨14, _⟩ => ⟨S2x1024x772, .f32⟩
  | .hbm, ⟨15, _⟩ => ⟨S_, .f32⟩
  | .hbm, ⟨16, _⟩ => ⟨S2x1024x772, .f32⟩
  | .hbm, ⟨17, _⟩ => ⟨S2x1024x772, .f32⟩
  | .hbm, ⟨18, _⟩ => ⟨S2x1024x772, .f32⟩
  | .hbm, ⟨19, _⟩ => ⟨S_, .f32⟩
  | .hbm, ⟨20, _⟩ => ⟨S2x1024x772, .f32⟩
  | .hbm, ⟨21, _⟩ => ⟨S2x1024x772, .f32⟩
  | .hbm, ⟨22, _⟩ => ⟨S2x1024x772, .f32⟩
  | .hbm, ⟨23, _⟩ => ⟨S_, .f32⟩
  | .hbm, ⟨24, _⟩ => ⟨S2x1024x772, .f32⟩
  | .hbm, ⟨25, _⟩ => ⟨S2x1024x772, .f32⟩
  | .hbm, ⟨26, _⟩ => ⟨S_, .f32⟩
  | .hbm, ⟨27, _⟩ => ⟨S2x1024x772, .f32⟩
  | .hbm, ⟨28, _⟩ => ⟨S2x1024x772, .f32⟩
  | .hbm, ⟨29, _⟩ => ⟨S2x1024x772, .f32⟩
  | .hbm, ⟨30, _⟩ => ⟨S_, .f32⟩
  | .hbm, ⟨31, _⟩ => ⟨S2x1024x772, .f32⟩
  | .hbm, ⟨32, _⟩ => ⟨S2x1024x772, .f32⟩
  | .hbm, ⟨33, _⟩ => ⟨S2x1024x772, .f32⟩
  | .hbm, ⟨34, _⟩ => ⟨S_, .f32⟩
  | .hbm, ⟨35, _⟩ => ⟨S2x1024x772, .f32⟩
  | .hbm, ⟨36, _⟩ => ⟨S2x1024x772, .f32⟩
  | .hbm, ⟨37, _⟩ => ⟨S2x1024x772, .f32⟩
  | .hbm, ⟨38, _⟩ => ⟨S_, .f32⟩
  | .hbm, ⟨39, _⟩ => ⟨S2x1024x772, .f32⟩
  | .hbm, ⟨40, _⟩ => ⟨S2x1024x772, .f32⟩
  | .hbm, ⟨41, _⟩ => ⟨S772x2x1024, .f32⟩
  | .hbm, ⟨42, _⟩ => ⟨S772x2x1024, .f32⟩
  | .hbm, ⟨43, _⟩ => ⟨S772x2x1024, .f32⟩
  | .hbm, ⟨44, _⟩ => ⟨S772x2x1024, .f32⟩
  | _, _ => ⟨S2x1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Proof.Soft.lean ====
/- The softmax and its gradient, as real arithmetic: what a row of masked scores gives in extended reals, whatever finite
   number is subtracted before the exponential, and the gradients of attention written with plain sums. Rows, keys and columns
   are natural numbers here; an array of the program is tied to such a function where it is read. -/
module

public import Idealize.ShloMosaic.Lib.Pointwise
public import Idealize.ShloMosaic.Lib.Pipeline.ValueKit

@[expose] public section

noncomputable section

namespace Cert.Attn

open Idealize.ShloMosaic
open Finset (range sum_congr)

/-- A finite sum of reals, read in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The same over a `Fin`, whose terms are a function of the number. -/
theorem coe_sum_fin (n : ℕ) (f : ℕ → ℝ) : ∑ i : Fin n, (f i : EReal) = ((∑ i ∈ range n, f i : ℝ) : EReal) := by
  rw [coe_sum, Finset.sum_range]

/-- A sum over the first `n` numbers is the sum over the first `N` of them when the rest of the terms are zero. -/
theorem sum_range_zero {n N : ℕ} (h : n ≤ N) (f : ℕ → ℝ) (hf : ∀ k, n ≤ k → f k = 0) :
    ∑ k ∈ range n, f k = ∑ k ∈ range N, f k := by
  refine Finset.sum_subset (fun x hx => ?_) fun x _ hx => hf x ?_
  · rw [Finset.mem_range] at hx ⊢; omega
  · rw [Finset.mem_range] at hx; omega

/-- A score where the mask allows the key, minus infinity elsewhere. -/
def masked (A : ℕ → Prop) [DecidablePred A] (s : ℕ → ℝ) (k : ℕ) : EReal := if A k then ((s k : ℝ) : EReal) else ⊥

/-- The maximum of a row of masked scores is a real number, if one key is allowed. -/
theorem max_masked (A : ℕ → Prop) [DecidablePred A] (s : ℕ → ℝ) {n : ℕ} (k0 : Fin n) (h0 : A k0) :
    ∃ M : ℝ, Finset.univ.fold max (⊥ : EReal) (fun k : Fin n => masked A s k) = (M : EReal) := by
  have hne : Finset.univ.fold max (⊥ : EReal) (fun k : Fin n => masked A s k) ≠ ⊥ := by
    intro h
    have hle : masked A s k0 ≤ Finset.univ.fold max (⊥ : EReal) (fun k : Fin n => masked A s k) :=
      Finset.le_fold_max _ |>.2 (Or.inr ⟨k0, Finset.mem_univ _, le_rfl⟩)
    rw [h, masked, if_pos h0] at hle
    exact absurd (le_bot_iff.1 hle) (EReal.coe_ne_bot _)
  have hnt : Finset.univ.fold max (⊥ : EReal) (fun k : Fin n => masked A s k) ≠ ⊤ := by
    refine ne_of_lt ?_
    rw [Finset.fold_max_lt]
    refine ⟨bot_lt_top, fun k _ => ?_⟩
    unfold masked
    split
    · exact EReal.coe_lt_top _
    · exact bot_lt_top
  exact ⟨_, (EReal.coe_toReal hnt hne).symm⟩

/-- The weight of a key before the division: its exponential where the mask allows it. -/
def wt (A : ℕ → Prop) [DecidablePred A] (s : ℕ → ℝ) (k : ℕ) : ℝ := if A k then Real.exp (s k) else 0

theorem exp_masked (A : ℕ → Prop) [DecidablePred A] (s : ℕ → ℝ) (M : ℝ) (k : ℕ) :
    Ideal.exp (masked A s k - (M : EReal)) = ((wt A s k * Real.exp (-M) : ℝ) : EReal) := by
  unfold masked wt
  split
  · rw [← EReal.coe_sub, Ideal.exp_coe, ← Real.exp_add, sub_eq_add_neg]
  · rw [EReal.bot_sub, Ideal.exp_bot, zero_mul, EReal.coe_zero]

theorem wt_nonneg (A : ℕ → Prop) [DecidablePred A] (s : ℕ → ℝ) (k : ℕ) : 0 ≤ wt A s k := by
  unfold wt; split
  · exact (Real.exp_pos _).le
  · exact le_rfl

theorem sum_wt_pos (A : ℕ → Prop) [DecidablePred A] (s : ℕ → ℝ) {n : ℕ} (k0 : ℕ) (hk : k0 < n) (h0 : A k0) :
    0 < ∑ k ∈ range n, wt A s k := by
  refine Finset.sum_pos' (fun k _ => wt_nonneg A s k) ⟨k0, Finset.mem_range.2 hk, ?_⟩
  rw [wt, if_pos h0]; exact Real.exp_pos _

/-- Division of reals, in the extended reals. -/
theorem div_real (a b : ℝ) (hb : b ≠ 0) : Ideal.div (a : EReal) (b : EReal) = ((a / b : ℝ) : EReal) := by
  rw [Ideal.div_coe hb, ← EReal.coe_mul, mul_one_div]

/-- The probabilities of a row, whatever number `M` is subtracted. -/
theorem prob_masked (A : ℕ → Prop) [DecidablePred A] (s : ℕ → ℝ) (M : ℝ) {n : ℕ} (k0 : ℕ) (hk : k0 < n) (h0 : A k0) (k : ℕ) :
    Ideal.div (Ideal.exp (masked A s k - (M : EReal))) (∑ l : Fin n, Ideal.exp (masked A s l - (M : EReal)))
      = ((wt A s k / ∑ l ∈ range n, wt A s l : ℝ) : EReal) := by
  have hZ := sum_wt_pos A s k0 hk h0
  have hE := Real.exp_pos (-M)
  simp only [exp_masked]
  rw [coe_sum_fin n fun l => wt A s l * Real.exp (-M), ← Finset.sum_mul, div_real _ _ (mul_pos hZ hE).ne',
    mul_div_mul_right _ _ hE.ne']

/-! ## Attention with plain sums: 2048 rows and keys, chunks of 64 -/

variable (Q K V O G : ℕ → ℕ → ℝ)

/-- The key's chunk is not after the row's. -/
def allow (r k : ℕ) : Prop := k / 64 ≤ r / 64
instance (r : ℕ) : DecidablePred (allow r) := fun k => inferInstanceAs (Decidable (k / 64 ≤ r / 64))

/-- The score of a row and a key. -/
def score (r k : ℕ) : ℝ := ∑ d ∈ range 256, Q r d * K k d

/-- The probability of a key. -/
def prob (r k : ℕ) : ℝ := wt (allow r) (score Q K r) k / ∑ l ∈ range 2048, wt (allow r) (score Q K r) l

/-- The gradient of the probability. -/
def dprob (r k : ℕ) : ℝ := ∑ d ∈ range 128, G r d * V k d

/-- The gradient of the score. -/
def dscore (r k : ℕ) : ℝ := prob Q K r k * (dprob V G r k - ∑ l ∈ range 2048, prob Q K r l * dprob V G r l)

theorem allow_zero (r : ℕ) : allow r 0 := by unfold allow; simp

theorem prob_eq_zero {r k : ℕ} (h : ¬ allow r k) : prob Q K r k = 0 := by
  rw [prob, wt, if_neg h, zero_div]

theorem dscore_eq_zero {r k : ℕ} (h : ¬ allow r k) : dscore Q K V G r k = 0 := by
  rw [dscore, prob_eq_zero Q K h, zero_mul]

/-- A row of the tile below `n` (a multiple of 256) sees no key at or after `n`. -/
theorem not_allow {r k n : ℕ} (hr : r < n) (hk : n ≤ k) (hn : n % 64 = 0) : ¬ allow r k := by
  unfold allow; omega

/-- The denominator over the first `n` keys is the whole one for a row below `n`. -/
theorem prob_prefix {r n : ℕ} (hr : r < n) (hn : n % 64 = 0) (hN : n ≤ 2048) (k : ℕ) :
    wt (allow r) (score Q K r) k / ∑ l ∈ range n, wt (allow r) (score Q K r) l = prob Q K r k := by
  rw [prob, sum_range_zero hN]
  intro k hk
  rw [wt, if_neg (not_allow hr hk hn)]

/-- The row sum of the gradient, by the output: the sum over the columns of the output's gradient times the output. -/
theorem delta_eq (hO : ∀ r d, r < 2048 → d < 128 → O r d = ∑ k ∈ range 2048, prob Q K r k * V k d) {r : ℕ} (hr : r < 2048) :
    ∑ d ∈ range 128, G r d * O r d = ∑ l ∈ range 2048, prob Q K r l * dprob V G r l := by
  have h1 : ∀ d ∈ range 128, G r d * O r d = ∑ l ∈ range 2048, prob Q K r l * (G r d * V l d) := by
    intro d hd
    rw [hO r d hr (Finset.mem_range.1 hd), Finset.mul_sum]
    exact Finset.sum_congr rfl fun l _ => by ring
  rw [Finset.sum_congr rfl h1, Finset.sum_comm]
  refine Finset.sum_congr rfl fun l _ => ?_
  rw [dprob, Finset.mul_sum]

end Cert.Attn

end
-- ==== Proof.Tile.lean ====
/- One tile of query rows: what the kernel's expressions over extended reals are as real numbers, for a tile of 256 rows that
   reads the keys up to its own end. The lemmas are stated for any tile; the eight tiles of the body are instances. -/
module

public import proofs.«01_k».proof.Proof.Soft

@[expose] public section

set_option maxRecDepth 16384

noncomputable section

namespace Cert.Attn

open Idealize.ShloMosaic
open Finset (range sum_congr)

/-! ## The mask: a floor division by 64 on words -/

/-- The floor division of a word by 64, as the kernel computes it: the quotient rounded to zero, less one where the signs
    differ and the division leaves a remainder. -/
def fdiv (w : BitVec 32) : BitVec 32 :=
  Scalar.select (IntOp.andi (IntOp.cmpi .ne (IntOp.subi (BitVec.setWidth 32 (IntOp.cmpi .sgt w 0#32)) (BitVec.setWidth 32 (IntOp.cmpi .slt w 0#32)))
      (Scalar.subi (Scalar.extui (Scalar.cmpi .sgt 64#32 0#32)) (Scalar.extui (Scalar.cmpi .slt 64#32 0#32))))
    (IntOp.cmpi .ne (IntOp.remsi ArithUnit.vector w 64#32) 0#32))
    (IntOp.subi (IntOp.divsi ArithUnit.vector w 64#32) 1#32) (IntOp.divsi ArithUnit.vector w 64#32)

theorem fdiv_fin : ∀ a : Fin 2048, fdiv (BitVec.ofNat 32 a) = BitVec.ofNat 32 (a / 64) := by decide +kernel

theorem sle_fin : ∀ a b : Fin 32, IntOp.cmpi .sle (BitVec.ofNat 32 a) (BitVec.ofNat 32 b) = if a.val ≤ b.val then 1#1 else 0#1 := by
  decide +kernel

/-- The mask's word: the key's chunk against the chunk of row `r` of the tile that begins at row `c`. -/
def mword (c r k : ℕ) : BitVec 1 :=
  IntOp.cmpi .sle (fdiv (BitVec.ofNat 32 k)) (fdiv (IntOp.addi (BitVec.ofNat 32 c) (BitVec.ofNat 32 r)))

theorem sel_mword {α : Type} (c r k : ℕ) (hr : c + r < 2048) (hk : k < 2048) (a b : α) :
    Scalar.select (mword c r k) a b = if allow (c + r) k then a else b := by
  have h1 := fdiv_fin ⟨k, hk⟩
  have h2 := fdiv_fin ⟨c + r, hr⟩
  have h3 := sle_fin ⟨k / 64, by omega⟩ ⟨(c + r) / 64, by omega⟩
  dsimp only at h1 h2 h3
  have h4 : IntOp.addi (BitVec.ofNat 32 c) (BitVec.ofNat 32 r) = BitVec.ofNat 32 (c + r) := by
    rw [IntOp.addi, BitVec.ofNat_add]
  rw [mword, h4, h1, h2, h3]
  unfold allow Scalar.select
  by_cases h : k / 64 ≤ (c + r) / 64
  · simp [h]
  · simp [h]

/-! ## A tile -/

/-- The literal of the mask is minus infinity. -/
theorem ninf : Ideal.ofBits FTy.f32 4286578688#32 = ⊥ := by
  show Ideal.ieee 8 23 4286578688#32 = ⊥
  simp [Ideal.ieee, BitVec.toNat]

/-- A masked score of the tile, as the kernel writes it. -/
def ms {n : ℕ} (c r : ℕ) (S : Fin n → EReal) (k : Fin n) : EReal :=
  Scalar.select (mword c r k) (S k) (Ideal.ofBits FTy.f32 4286578688#32)

/-- A probability of the tile, as the kernel writes it. -/
def pr {n : ℕ} (c r : ℕ) (S : Fin n → EReal) (k : Fin n) : EReal :=
  Ideal.div (Ideal.exp (ms c r S k - Finset.univ.fold (β := Ideal FTy.f32) max (Ideal.ofBits FTy.f32 4286578688#32) fun x => ms c r S x))
    (∑ x, Ideal.exp (ms c r S x - Finset.univ.fold (β := Ideal FTy.f32) max (Ideal.ofBits FTy.f32 4286578688#32) fun x => ms c r S x))

section
variable {n c : ℕ} (hn : n = c + 256) (hc : c % 64 = 0) (hN : n ≤ 2048)
variable {Q K V O G : ℕ → ℕ → ℝ}
variable {q : Fin 256 → Fin 256 → EReal} {kk : Fin n → Fin 256 → EReal} {v : Fin n → Fin 128 → EReal} {g o : Fin 256 → Fin 128 → EReal}
variable (hq : ∀ r d, q r d = ((Q (c + r.val) d.val : ℝ) : EReal)) (hk : ∀ k d, kk k d = ((K k.val d.val : ℝ) : EReal))
variable (hv : ∀ k d, v k d = ((V k.val d.val : ℝ) : EReal)) (hg : ∀ r d, g r d = ((G (c + r.val) d.val : ℝ) : EReal))
variable (ho : ∀ r d, o r d = ((O (c + r.val) d.val : ℝ) : EReal))
variable (hO : ∀ r d, r < 2048 → d < 128 → O r d = ∑ k ∈ range 2048, prob Q K r k * V k d)

include hn hN hq hk in
theorem ms_eq (r : Fin 256) (k : Fin n) :
    ms c r (fun x => ∑ d, q r d * kk x d) k = masked (allow (c + r.val)) (score Q K (c + r.val)) k.val := by
  have h : ∀ d, q r d * kk k d = ((Q (c + r.val) d.val * K k.val d.val : ℝ) : EReal) := fun d => by rw [hq, hk, EReal.coe_mul]
  rw [ms, sel_mword _ _ _ (by omega) (by omega), ninf]
  rw [Finset.sum_congr rfl fun d _ => h d, coe_sum_fin 256 fun d => Q (c + r.val) d * K k.val d]
  rfl

include hn hc hN hq hk in
theorem pr_eq (r : Fin 256) (k : Fin n) : pr c r (fun x => ∑ d, q r d * kk x d) k = ((prob Q K (c + r.val) k.val : ℝ) : EReal) := by
  obtain ⟨M, hM⟩ := max_masked (n := n) (allow (c + r.val)) (score Q K (c + r.val)) ⟨0, by omega⟩ (allow_zero _)
  have hM' : Finset.univ.fold (β := Ideal FTy.f32) max (⊥ : EReal) (fun k : Fin n => masked (allow (c + r.val)) (score Q K (c + r.val)) k) = (M : EReal) := by
    rw [← hM]
  rw [pr]
  simp only [ms_eq hn hN hq hk, ninf]
  rw [hM', prob_masked (allow (c + r.val)) (score Q K (c + r.val)) M 0 (by omega) (allow_zero _), prob_prefix Q K (by omega) (by omega) hN]

include hn hc hN hq hk hv hg ho hO in
theorem ds_eq (r : Fin 256) (k : Fin n) :
    pr c r (fun x => ∑ d, q r d * kk x d) k * (∑ d, g r d * v k d - ∑ d, g r d * o r d) = ((dscore Q K V G (c + r.val) k.val : ℝ) : EReal) := by
  have h1 : ∀ d, g r d * v k d = ((G (c + r.val) d.val * V k.val d.val : ℝ) : EReal) := fun d => by rw [hg, hv, EReal.coe_mul]
  have h2 : ∀ d, g r d * o r d = ((G (c + r.val) d.val * O (c + r.val) d.val : ℝ) : EReal) := fun d => by rw [hg, ho, EReal.coe_mul]
  rw [pr_eq hn hc hN hq hk, Finset.sum_congr rfl fun d _ => h1 d, Finset.sum_congr rfl fun d _ => h2 d,
    coe_sum_fin 128 fun d => G (c + r.val) d * V k.val d, coe_sum_fin 128 fun d => G (c + r.val) d * O (c + r.val) d,
    delta_eq Q K V O G hO (by omega), ← EReal.coe_sub, ← EReal.coe_mul]
  rfl

include hn hc hN hq hk hv hg ho hO in
/-- The tile's rows of the gradient of q. -/
theorem dq_eq (r d : Fin 256) :
    ∑ k, pr c r (fun x => ∑ d, q r d * kk x d) k * (∑ d, g r d * v k d - ∑ d, g r d * o r d) * kk k d
      = ((∑ k ∈ range 2048, dscore Q K V G (c + r.val) k * K k d.val : ℝ) : EReal) := by
  refine Eq.trans (sum_congr rfl fun k _ => ?_) (Eq.trans (coe_sum_fin n fun k => dscore Q K V G (c + r.val) k * K k d.val) ?_)
  · rw [ds_eq hn hc hN hq hk hv hg ho hO, hk, EReal.coe_mul]
  rw [sum_range_zero hN]
  intro k hk'
  rw [dscore_eq_zero Q K V G (not_allow (by omega) hk' (by omega)), zero_mul]

include hn hc hN hq hk hv hg ho hO in
/-- What the tile adds to the gradient of the keys. -/
theorem dk_eq (k : Fin n) (d : Fin 256) :
    ∑ r, pr c r.val (fun x => ∑ d, q r d * kk x d) k * (∑ d, g r d * v k d - ∑ d, g r d * o r d) * q r d
      = ((∑ r ∈ range 256, dscore Q K V G (c + r) k.val * Q (c + r) d.val : ℝ) : EReal) := by
  refine Eq.trans (sum_congr rfl fun r _ => ?_) (coe_sum_fin 256 fun r => dscore Q K V G (c + r) k.val * Q (c + r) d.val)
  rw [ds_eq hn hc hN hq hk hv hg ho hO, hq, EReal.coe_mul]

include hn hc hN hq hk hg in
/-- What the tile adds to the gradient of the values. -/
theorem dv_eq (k : Fin n) (d : Fin 128) :
    ∑ r, pr c r.val (fun x => ∑ d, q r d * kk x d) k * g r d
      = ((∑ r ∈ range 256, prob Q K (c + r) k.val * G (c + r) d.val : ℝ) : EReal) := by
  refine Eq.trans (sum_congr rfl fun r _ => ?_) (coe_sum_fin 256 fun r => prob Q K (c + r) k.val * G (c + r) d.val)
  rw [pr_eq hn hc hN hq hk, hg, EReal.coe_mul]

end

/-! ## The accumulators, tile by tile -/

theorem sum_range_zero' {c n : ℕ} (h : c ≤ n) (f : ℕ → ℝ) (hf : ∀ k, c ≤ k → k < n → f k = 0) :
    ∑ k ∈ range c, f k = ∑ k ∈ range n, f k := by
  refine Finset.sum_subset (fun x hx => ?_) fun x hx' hx => hf x ?_ (Finset.mem_range.1 hx')
  · rw [Finset.mem_range] at hx ⊢; omega
  · rw [Finset.mem_range] at hx; omega

/-- The gradient of the keys from the rows below `n`. -/
def dkUpto (Q K V G : ℕ → ℕ → ℝ) (n k d : ℕ) : ℝ := ∑ r ∈ range n, dscore Q K V G r k * Q r d
/-- The gradient of the values from the rows below `n`. -/
def dvUpto (Q K G : ℕ → ℕ → ℝ) (n k d : ℕ) : ℝ := ∑ r ∈ range n, prob Q K r k * G r d

section
variable {n c : ℕ} (hn : n = c + 256) (hc : c % 64 = 0) (Q K V G : ℕ → ℕ → ℝ)

include hn in
theorem dkUpto_step (k d : ℕ) :
    ((dkUpto Q K V G c k d : ℝ) : EReal) + ((∑ r ∈ range 256, dscore Q K V G (c + r) k * Q (c + r) d : ℝ) : EReal) = (dkUpto Q K V G n k d : ℝ) := by
  rw [← EReal.coe_add, hn, dkUpto, dkUpto, Finset.sum_range_add]

include hn in
theorem dvUpto_step (k d : ℕ) :
    ((dvUpto Q K G c k d : ℝ) : EReal) + ((∑ r ∈ range 256, prob Q K (c + r) k * G (c + r) d : ℝ) : EReal) = (dvUpto Q K G n k d : ℝ) := by
  rw [← EReal.coe_add, hn, dvUpto, dvUpto, Finset.sum_range_add]

include hn hc in
theorem dkUpto_skip {k : ℕ} (hk : n ≤ k) (d : ℕ) : dkUpto Q K V G c k d = dkUpto Q K V G n k d := by
  refine sum_range_zero' (by omega) _ fun r _ hr => ?_
  rw [dscore_eq_zero Q K V G (not_allow hr hk (by omega)), zero_mul]

include hn hc in
theorem dvUpto_skip {k : ℕ} (hk : n ≤ k) (d : ℕ) : dvUpto Q K G c k d = dvUpto Q K G n k d := by
  refine sum_range_zero' (by omega) _ fun r _ hr => ?_
  rw [prob_eq_zero Q K (not_allow hr hk (by omega)), zero_mul]

end

/-! ## Stores of a block of a buffer, and loads -/

section
variable {e : EltTy} {Val : EltTy → Type} [∀ e, Nonempty (Val e)] {N W a b n w : ℕ}

/-- A store of a block, read back: the store's payload inside the block, what was there before outside. -/
theorem canon_block (inb : ∀ x, (![a, b] : Fin 2 → ℕ) x + (⟨2, ![n, w]⟩ : Shape).size x ≤ (⟨2, ![N, W]⟩ : Shape).size x)
    (P : (⟨2, ![n, w]⟩ : Shape).Idx → Val e) (L : List (View.Piece Val (⟨2, ![N, W]⟩ : Shape) e)) (k : Fin N) (d : Fin W) :
    View.canon ((⟨Rect.unit (s := (⟨2, ![N, W]⟩ : Shape)) ![a, b] (⟨2, ![n, w]⟩ : Shape).size inb, P⟩ : View.Piece Val (⟨2, ![N, W]⟩ : Shape) e) :: L) (ix2 k d)
      = if h : (a ≤ k.val ∧ k.val < a + n) ∧ (b ≤ d.val ∧ d.val < b + w) then P (ix2 ⟨k.val - a, by omega⟩ ⟨d.val - b, by omega⟩)
        else View.canon L (ix2 k d) := by
  split
  · rename_i h
    have hx : (Rect.unit (s := (⟨2, ![N, W]⟩ : Shape)) ![a, b] (⟨2, ![n, w]⟩ : Shape).size inb).emb
        (ix2 (⟨k.val - a, by omega⟩ : Fin n) (⟨d.val - b, by omega⟩ : Fin w)) = ix2 k d := by
      funext x; apply Fin.ext
      fin_cases x
      · show a + 1 * (k.val - a) = k.val; omega
      · show b + 1 * (d.val - b) = d.val; omega
    rw [← hx]
    exact View.canon_cons_emb (Rect.unit (s := (⟨2, ![N, W]⟩ : Shape)) ![a, b] (⟨2, ![n, w]⟩ : Shape).size inb) P L _
  · rename_i h
    refine View.canon_cons_of_not_mem _ _ fun hm => h ?_
    have hm' := (Rect.mem_set_unit (s := (⟨2, ![N, W]⟩ : Shape)) (inb := inb)).1 hm
    exact ⟨⟨(hm' 0).1, (hm' 0).2⟩, (hm' 1).1, (hm' 1).2⟩

/-- A load of a block reads the buffer's contents inside it. -/
theorem ld_block (inb : ∀ x, (![a, b] : Fin 2 → ℕ) x + (⟨2, ![n, w]⟩ : Shape).size x ≤ (⟨2, ![N, W]⟩ : Shape).size x)
    (X : (⟨2, ![N, W]⟩ : Shape).Idx → Val e) (k : Fin n) (d : Fin w) :
    X ((Rect.unit (s := (⟨2, ![N, W]⟩ : Shape)) ![a, b] (⟨2, ![n, w]⟩ : Shape).size inb).toLoadRect.idx (ix2 k d))
      = X (ix2 ⟨a + k.val, by have := inb 0; simp at this; omega⟩ ⟨b + d.val, by have := inb 1; simp at this; omega⟩) := by
  refine congrArg X ?_
  funext x; apply Fin.ext
  fin_cases x
  · show a + 1 * k.val = a + k.val; omega
  · show b + 1 * d.val = b + d.val; omega

variable {sig : RefSig} {κ : Kind} {sp : Space}

/-- A load of a whole buffer's block, over the contents the buffer holds. -/
theorem readAt_block (m : Memref sig κ sp (⟨2, ![N, W]⟩ : Shape) e) (hm : m.IsWhole) (X : (⟨2, ![N, W]⟩ : Shape).Idx → Val e)
    (inb : ∀ x, (![a, b] : Fin 2 → ℕ) x + (⟨2, ![n, w]⟩ : Shape).size x ≤ (⟨2, ![N, W]⟩ : Shape).size x) (k : Fin n) (d : Fin w) :
    m.view.readAt Val (Rect.unit (s := (⟨2, ![N, W]⟩ : Shape)) ![a, b] (⟨2, ![n, w]⟩ : Shape).size inb).toLoadRect (hm.unread X) (ix2 k d)
      = X (ix2 ⟨a + k.val, by have := inb 0; simp at this; omega⟩ ⟨b + d.val, by have := inb 1; simp at this; omega⟩) := by
  rw [View.readAt_eq_ld, hm.read_unread]
  exact ld_block inb X k d

/-- A load of a block of a buffer the body has written. -/
theorem readCov_block (v : View sig κ sp (⟨2, ![N, W]⟩ : Shape) e) (L : List (View.Piece Val (⟨2, ![N, W]⟩ : Shape) e))
    (inb : ∀ x, (![a, b] : Fin 2 → ℕ) x + (⟨2, ![n, w]⟩ : Shape).size x ≤ (⟨2, ![N, W]⟩ : Shape).size x) (k : Fin n) (d : Fin w) :
    v.readCov L (Rect.unit (s := (⟨2, ![N, W]⟩ : Shape)) ![a, b] (⟨2, ![n, w]⟩ : Shape).size inb).toLoadRect (ix2 k d)
      = View.canon L (ix2 ⟨a + k.val, by have := inb 0; simp at this; omega⟩ ⟨b + d.val, by have := inb 1; simp at this; omega⟩) := by
  rw [View.readCov_eq_canon']
  exact ld_block inb (View.canon L) k d

end

end Cert.Attn

end
-- ==== Proof.Body.lean ====
/- The body of the kernel over one head: what it leaves in its four output blocks, as real numbers, where its six input
   blocks hold real numbers. The eight tiles of 256 rows are eight instances of the lemmas of the module Tile; the two
   accumulators are followed store by store. -/
module

public import proofs.«01_k».proof.Proof.Gen.KernelIdeal.Frame
public import Idealize.ShloMosaic.Lib.Pipeline.ValueKit
public import proofs.«01_k».proof.Proof.Tile

@[expose] public section

set_option maxRecDepth 16384

noncomputable section

namespace Cert.KernelIdeal.Body

open Cert.KernelIdeal Cert.KernelIdeal.Gen Cert.Attn Idealize.ShloMosaic Idealize.ShloMosaic.TcCoe Idealize.SL.Sem
open Finset (range)

variable (c : Dev nD)
variable (arg1 : Memref sig .tc .vmem S2048x256 .bf16) (harg1 : arg1.IsWhole)
variable (arg2 : Memref sig .tc .vmem S2048x128 .bf16) (harg2 : arg2.IsWhole)
variable (arg3 : Memref sig .tc .vmem S2048x128 .bf16) (harg3 : arg3.IsWhole)
variable (arg4 : Memref sig .tc .vmem S2048x128 .bf16) (harg4 : arg4.IsWhole)
variable (arg5 : Memref sig .tc .vmem S2048x128 .f32) (harg5 : arg5.IsWhole)
variable (arg6 : Memref sig .tc .vmem S2048x128 .f32) (harg6 : arg6.IsWhole)
variable (arg7 : Memref sig .tc .vmem S2048x256 .f32) (harg7 : arg7.IsWhole)
variable (arg8 : Memref sig .tc .vmem S2048x128 .bf16) (harg8 : arg8.IsWhole)
variable (arg9 : Memref sig .tc .vmem S2048x128 .bf16) (harg9 : arg9.IsWhole)
variable (arg10 : Memref sig .tc .vmem S2048x128 .f32) (harg10 : arg10.IsWhole)
variable (arg11 : Memref sig .tc .vmem S2048x256 .bf16) (harg11 : arg11.IsWhole)
variable (arg12 : Memref sig .tc .vmem S2048x256 .f32) (harg12 : arg12.IsWhole)
variable (arg13 : Memref sig .tc .vmem S2048x128 .f32) (harg13 : arg13.IsWhole)
variable (x0 : Vec Ideal S2048x256 .bf16) (x1 x2 x3 : Vec Ideal S2048x128 .bf16) (x4 x5 : Vec Ideal S2048x128 .f32)
variable (Q K V O G : ℕ → ℕ → ℝ)

/-- The six blocks hold the real arrays: the queries, the two halves of the keys, the values, the output and its gradient. -/
structure Holds : Prop where
  q : ∀ (r : Fin 2048) (d : Fin 256), x0 (ix2 r d) = ((Q r.val d.val : ℝ) : EReal)
  kn : ∀ (k : Fin 2048) (d : Fin 128), x1 (ix2 k d) = ((K k.val d.val : ℝ) : EReal)
  v : ∀ (k : Fin 2048) (d : Fin 128), x2 (ix2 k d) = ((V k.val d.val : ℝ) : EReal)
  kr : ∀ (k : Fin 2048) (d : Fin 128), x3 (ix2 k d) = ((K k.val (128 + d.val) : ℝ) : EReal)
  o : ∀ (r : Fin 2048) (d : Fin 128), x4 (ix2 r d) = ((O r.val d.val : ℝ) : EReal)
  g : ∀ (r : Fin 2048) (d : Fin 128), x5 (ix2 r d) = ((G r.val d.val : ℝ) : EReal)
  out : ∀ r d, r < 2048 → d < 128 → O r d = ∑ k ∈ range 2048, prob Q K r k * V k d

variable (H : Holds x0 x1 x2 x3 x4 x5 Q K V O G)

include H

/-- The scratch that holds the keys: its two halves are the two blocks. -/
theorem keys (k : Fin 2048) (d : Fin 256) :
    View.canon (kernelRun0_A.sl.HS0_2 (F := Ideal) c arg2 harg2 arg4 harg4 x1 x3) (ix2 k d) = ((K k.val d.val : ℝ) : EReal) := by
  unfold kernelRun0_A.sl.HS0_2
  refine (canon_block _ _ _ k d).trans ?_
  split
  · rename_i h
    pointwise [k0_pay3]
    refine (readAt_block arg4 harg4 x3 _ _ _).trans ((H.kr _ _).trans ?_)
    congr 2 <;> simp only [] <;> omega
  · refine (canon_block _ _ _ k d).trans ?_
    rw [dif_pos (by omega)]
    pointwise [k0_pay2]
    refine (readAt_block arg2 harg2 x1 _ _ _).trans ((H.kn _ _).trans ?_)
    congr 2 <;> simp only [] <;> omega

theorem dk0 (k : Fin 2048) (d : Fin 256) :
    View.canon (kernelRun0_A.sl.HS1_1 (F := Ideal)) (ix2 k d) = ((dkUpto Q K V G 0 k.val d.val : ℝ) : EReal) := by
  unfold kernelRun0_A.sl.HS1_1
  refine (canon_block _ _ _ k d).trans ?_
  rw [dif_pos (by omega)]
  pointwise [k0_pay4]
  simp [dkUpto]

theorem dv0 (k : Fin 2048) (d : Fin 128) :
    View.canon (kernelRun0_A.sl.HS2_1 (F := Ideal)) (ix2 k d) = ((dvUpto Q K G 0 k.val d.val : ℝ) : EReal) := by
  unfold kernelRun0_A.sl.HS2_1
  refine (canon_block _ _ _ k d).trans ?_
  rw [dif_pos (by omega)]
  pointwise [k0_pay5]
  simp [dvUpto]

theorem lq0 (r d : Fin 256) :
    View.readAt (Elt Ideal) arg1.view (Rect.unit (s := S2048x256) ![0, 0] S256x256.size inb_S2048x256_S256x256_0_0).toLoadRect (harg1.unread x0) (ix2 r d)
      = ((Q (0 + r.val) d.val : ℝ) : EReal) := by
  refine (readAt_block arg1 harg1 x0 _ r d).trans ((H.q _ _).trans ?_)
  simp only [Nat.zero_add]

theorem lg0 (r : Fin 256) (d : Fin 128) :
    View.readAt (Elt Ideal) arg6.view (Rect.unit (s := S2048x128) ![0, 0] S256x128.size inb_S2048x128_S256x128_0_0).toLoadRect (harg6.unread x5) (ix2 r d)
      = ((G (0 + r.val) d.val : ℝ) : EReal) := by
  refine (readAt_block arg6 harg6 x5 _ r d).trans ((H.g _ _).trans ?_)
  simp only [Nat.zero_add]

theorem lo0 (r : Fin 256) (d : Fin 128) :
    View.readAt (Elt Ideal) arg5.view (Rect.unit (s := S2048x128) ![0, 0] S256x128.size inb_S2048x128_S256x128_0_0).toLoadRect (harg5.unread x4) (ix2 r d)
      = ((O (0 + r.val) d.val : ℝ) : EReal) := by
  refine (readAt_block arg5 harg5 x4 _ r d).trans ((H.o _ _).trans ?_)
  simp only [Nat.zero_add]

theorem lv0 (k : Fin 256) (d : Fin 128) :
    View.readAt (Elt Ideal) arg3.view (Rect.unit (s := S2048x128) ![0, 0] S256x128.size inb_S2048x128_S256x128_0_0).toLoadRect (harg3.unread x2) (ix2 k d)
      = ((V k.val d.val : ℝ) : EReal) := by
  refine (readAt_block arg3 harg3 x2 _ k d).trans ((H.v _ _).trans ?_)
  simp only [Nat.zero_add]

theorem lk0 (k : Fin 256) (d : Fin 256) :
    kernelRun0_A.sl.v20 (F := Ideal) c arg2 harg2 arg4 harg4 arg11 x1 x3 (ix2 k d) = ((K k.val d.val : ℝ) : EReal) := by
  unfold kernelRun0_A.sl.v20
  refine (readCov_block arg11.view _ _ k d).trans ((keys c arg2 harg2 arg4 harg4 x0 x1 x2 x3 x4 x5 Q K V O G H _ _).trans ?_)
  simp only [Nat.zero_add]

theorem dk1 (k : Fin 2048) (d : Fin 256) :
    View.canon (kernelRun0_A.sl.HS1_2 (F := Ideal) c arg1 harg1 arg2 harg2 arg3 harg3 arg4 harg4 arg5 harg5 arg6 harg6 arg11 arg12 x0 x1 x2 x3 x4 x5) (ix2 k d)
      = ((dkUpto Q K V G 256 k.val d.val : ℝ) : EReal) := by
  unfold kernelRun0_A.sl.HS1_2
  refine (canon_block _ _ _ k d).trans ?_
  split
  · rename_i h
    have ha : ∀ (k : Fin 256) (d : Fin 256), kernelRun0_A.sl.v105 (F := Ideal) c arg12 (ix2 k d) = ((dkUpto Q K V G 0 k.val d.val : ℝ) : EReal) := by
      intro k d
      unfold kernelRun0_A.sl.v105
      refine (readCov_block arg12.view _ _ _ _).trans ((dk0 x0 x1 x2 x3 x4 x5 Q K V O G H _ _).trans ?_)
      simp only [Nat.zero_add]
    generalize kernelRun0_A.sl.v105 (F := Ideal) c arg12 = acc at ha ⊢
    unfold kernelRun0_A.sl.r_3 kernelRun0_A.sl.r_2 kernelRun0_A.sl.r_1 kernelRun0_A.sl.r
    have hq := lq0 arg1 harg1 x0 x1 x2 x3 x4 x5 Q K V O G H
    have hk := lk0 c arg2 harg2 arg4 harg4 arg11 x0 x1 x2 x3 x4 x5 Q K V O G H
    have hv := lv0 arg3 harg3 x0 x1 x2 x3 x4 x5 Q K V O G H
    have ho := lo0 arg5 harg5 x0 x1 x2 x3 x4 x5 Q K V O G H
    have hg := lg0 arg6 harg6 x0 x1 x2 x3 x4 x5 Q K V O G H
    generalize View.readAt (Elt Ideal) arg1.view (Rect.unit (s := S2048x256) ![0, 0] S256x256.size inb_S2048x256_S256x256_0_0).toLoadRect (harg1.unread x0) = q at hq ⊢
    generalize kernelRun0_A.sl.v20 (F := Ideal) c arg2 harg2 arg4 harg4 arg11 x1 x3 = kk at hk ⊢
    generalize View.readAt (Elt Ideal) arg3.view (Rect.unit (s := S2048x128) ![0, 0] S256x128.size inb_S2048x128_S256x128_0_0).toLoadRect (harg3.unread x2) = v at hv ⊢
    generalize View.readAt (Elt Ideal) arg5.view (Rect.unit (s := S2048x128) ![0, 0] S256x128.size inb_S2048x128_S256x128_0_0).toLoadRect (harg5.unread x4) = o at ho ⊢
    generalize View.readAt (Elt Ideal) arg6.view (Rect.unit (s := S2048x128) ![0, 0] S256x128.size inb_S2048x128_S256x128_0_0).toLoadRect (harg6.unread x5) = g at hg ⊢
    obtain ⟨k', hk'⟩ : ∃ k' : Fin 256, k' = ⟨k.val - 0, by omega⟩ := ⟨_, rfl⟩
    obtain ⟨d', hd'⟩ : ∃ d' : Fin 256, d' = ⟨d.val - 0, by omega⟩ := ⟨_, rfl⟩
    have hk2 : k.val = k'.val := by rw [hk']; rfl
    have hd2 : d.val = d'.val := by rw [hd']; rfl
    rw [← hk', ← hd', hk2, hd2, ← dkUpto_step (n := 256) (c := 0) rfl]
    have e := dk_eq (n := 256) (c := 0) rfl rfl (by norm_num) hq hk hv hg ho H.out k' d'
    unfold pr ms mword fdiv at e
    generalize (∑ r ∈ range 256, dscore Q K V G (0 + r) k'.val * Q (0 + r) d'.val) = R at e ⊢
    clear hk' hd' hk2 hd2
    pointwise [k0_pay13, k0_pay11, k0_pay9, k0_pay10, k0_pay12, k0_pay8, k0_pay6, k0_pay7, k0_pay19, k0_pay17, k0_pay14, k0_pay16, k0_pay15]
    dsimp only at e
    exact congrArg₂ (· + ·) (ha k' d') e
  · rename_i h
    refine (dk0 x0 x1 x2 x3 x4 x5 Q K V O G H k d).trans ?_
    rw [dkUpto_skip (n := 256) (c := 0) rfl rfl _ _ _ _ (by omega)]

theorem dv1 (k : Fin 2048) (d : Fin 128) :
    View.canon (kernelRun0_A.sl.HS2_2 (F := Ideal) c arg1 harg1 arg2 harg2 arg4 harg4 arg6 harg6 arg11 arg13 x0 x1 x3 x5) (ix2 k d)
      = ((dvUpto Q K G 256 k.val d.val : ℝ) : EReal) := by
  unfold kernelRun0_A.sl.HS2_2
  refine (canon_block _ _ _ k d).trans ?_
  split
  · rename_i h
    have ha : ∀ (k : Fin 256) (d : Fin 128), kernelRun0_A.sl.v111 (F := Ideal) c arg13 (ix2 k d) = ((dvUpto Q K G 0 k.val d.val : ℝ) : EReal) := by
      intro k d
      unfold kernelRun0_A.sl.v111
      refine (readCov_block arg13.view _ _ _ _).trans ((dv0 x0 x1 x2 x3 x4 x5 Q K V O G H _ _).trans ?_)
      simp only [Nat.zero_add]
    unfold kernelRun0_A.sl.r_4
    generalize kernelRun0_A.sl.v111 (F := Ideal) c arg13 = acc at ha ⊢
    unfold kernelRun0_A.sl.r_3 kernelRun0_A.sl.r_2
    have hq := lq0 arg1 harg1 x0 x1 x2 x3 x4 x5 Q K V O G H
    have hk := lk0 c arg2 harg2 arg4 harg4 arg11 x0 x1 x2 x3 x4 x5 Q K V O G H
    have hg := lg0 arg6 harg6 x0 x1 x2 x3 x4 x5 Q K V O G H
    generalize View.readAt (Elt Ideal) arg1.view (Rect.unit (s := S2048x256) ![0, 0] S256x256.size inb_S2048x256_S256x256_0_0).toLoadRect (harg1.unread x0) = q at hq ⊢
    generalize kernelRun0_A.sl.v20 (F := Ideal) c arg2 harg2 arg4 harg4 arg11 x1 x3 = kk at hk ⊢
    generalize View.readAt (Elt Ideal) arg6.view (Rect.unit (s := S2048x128) ![0, 0] S256x128.size inb_S2048x128_S256x128_0_0).toLoadRect (harg6.unread x5) = g at hg ⊢
    obtain ⟨k', hk'⟩ : ∃ k' : Fin 256, k' = ⟨k.val - 0, by omega⟩ := ⟨_, rfl⟩
    obtain ⟨d', hd'⟩ : ∃ d' : Fin 128, d' = ⟨d.val - 0, by omega⟩ := ⟨_, rfl⟩
    have hk2 : k.val = k'.val := by rw [hk']; rfl
    have hd2 : d.val = d'.val := by rw [hd']; rfl
    rw [← hk', ← hd', hk2, hd2, ← dvUpto_step (n := 256) (c := 0) rfl]
    have e := dv_eq (n := 256) (c := 0) rfl rfl (by norm_num) hq hk hg k' d'
    unfold pr ms mword fdiv at e
    generalize (∑ r ∈ range 256, prob Q K (0 + r) k'.val * G (0 + r) d'.val) = R at e ⊢
    clear hk' hd' hk2 hd2
    pointwise [k0_pay13, k0_pay11, k0_pay9, k0_pay10, k0_pay12, k0_pay8, k0_pay6, k0_pay20, k0_pay16, k0_pay15, k0_pay14, k0_pay21]
    dsimp only at e
    exact congrArg₂ (· + ·) (ha k' d') e
  · rename_i h
    refine (dv0 x0 x1 x2 x3 x4 x5 Q K V O G H k d).trans ?_
    rw [dvUpto_skip (n := 256) (c := 0) rfl rfl _ _ _ (by omega)]

theorem lq1 (r d : Fin 256) :
    View.readAt (Elt Ideal) arg1.view (Rect.unit (s := S2048x256) ![256, 0] S256x256.size inb_S2048x256_S256x256_256_0).toLoadRect (harg1.unread x0) (ix2 r d)
      = ((Q (256 + r.val) d.val : ℝ) : EReal) := by
  refine (readAt_block arg1 harg1 x0 _ r d).trans ((H.q _ _).trans ?_)
  simp only [Nat.zero_add]

theorem lg1 (r : Fin 256) (d : Fin 128) :
    View.readAt (Elt Ideal) arg6.view (Rect.unit (s := S2048x128) ![256, 0] S256x128.size inb_S2048x128_S256x128_256_0).toLoadRect (harg6.unread x5) (ix2 r d)
      = ((G (256 + r.val) d.val : ℝ) : EReal) := by
  refine (readAt_block arg6 harg6 x5 _ r d).trans ((H.g _ _).trans ?_)
  simp only [Nat.zero_add]

theorem lo1 (r : Fin 256) (d : Fin 128) :
    View.readAt (Elt Ideal) arg5.view (Rect.unit (s := S2048x128) ![256, 0] S256x128.size inb_S2048x128_S256x128_256_0).toLoadRect (harg5.unread x4) (ix2 r d)
      = ((O (256 + r.val) d.val : ℝ) : EReal) := by
  refine (readAt_block arg5 harg5 x4 _ r d).trans ((H.o _ _).trans ?_)
  simp only [Nat.zero_add]

theorem lv1 (k : Fin 512) (d : Fin 128) :
    View.readAt (Elt Ideal) arg3.view (Rect.unit (s := S2048x128) ![0, 0] S512x128.size inb_S2048x128_S512x128_0_0).toLoadRect (harg3.unread x2) (ix2 k d)
      = ((V k.val d.val : ℝ) : EReal) := by
  refine (readAt_block arg3 harg3 x2 _ k d).trans ((H.v _ _).trans ?_)
  simp only [Nat.zero_add]

theorem lk1 (k : Fin 512) (d : Fin 256) :
    kernelRun0_A.sl.v120 (F := Ideal) c arg2 harg2 arg4 harg4 arg11 x1 x3 (ix2 k d) = ((K k.val d.val : ℝ) : EReal) := by
  unfold kernelRun0_A.sl.v120
  refine (readCov_block arg11.view _ _ k d).trans ((keys c arg2 harg2 arg4 harg4 x0 x1 x2 x3 x4 x5 Q K V O G H _ _).trans ?_)
  simp only [Nat.zero_add]

theorem dk2 (k : Fin 2048) (d : Fin 256) :
    View.canon (kernelRun0_A.sl.HS1_3 (F := Ideal) c arg1 harg1 arg2 harg2 arg3 harg3 arg4 harg4 arg5 harg5 arg6 harg6 arg11 arg12 x0 x1 x2 x3 x4 x5) (ix2 k d)
      = ((dkUpto Q K V G 512 k.val d.val : ℝ) : EReal) := by
  unfold kernelRun0_A.sl.HS1_3
  refine (canon_block _ _ _ k d).trans ?_
  split
  · rename_i h
    have ha : ∀ (k : Fin 512) (d : Fin 256), kernelRun0_A.sl.v205 (F := Ideal) c arg1 harg1 arg2 harg2 arg3 harg3 arg4 harg4 arg5 harg5 arg6 harg6 arg11 arg12 x0 x1 x2 x3 x4 x5 (ix2 k d) = ((dkUpto Q K V G 256 k.val d.val : ℝ) : EReal) := by
      intro k d
      unfold kernelRun0_A.sl.v205
      refine (readCov_block arg12.view _ _ _ _).trans ((dk1 c arg1 harg1 arg2 harg2 arg3 harg3 arg4 harg4 arg5 harg5 arg6 harg6 arg11 arg12 x0 x1 x2 x3 x4 x5 Q K V O G H _ _).trans ?_)
      simp only [Nat.zero_add]
    generalize kernelRun0_A.sl.v205 (F := Ideal) c arg1 harg1 arg2 harg2 arg3 harg3 arg4 harg4 arg5 harg5 arg6 harg6 arg11 arg12 x0 x1 x2 x3 x4 x5 = acc at ha ⊢
    unfold kernelRun0_A.sl.r_10 kernelRun0_A.sl.r_7 kernelRun0_A.sl.r_6 kernelRun0_A.sl.r_5
    have hq := lq1 arg1 harg1 x0 x1 x2 x3 x4 x5 Q K V O G H
    have hk := lk1 c arg2 harg2 arg4 harg4 arg11 x0 x1 x2 x3 x4 x5 Q K V O G H
    have hv := lv1 arg3 harg3 x0 x1 x2 x3 x4 x5 Q K V O G H
    have ho := lo1 arg5 harg5 x0 x1 x2 x3 x4 x5 Q K V O G H
    have hg := lg1 arg6 harg6 x0 x1 x2 x3 x4 x5 Q K V O G H
    generalize View.readAt (Elt Ideal) arg1.view (Rect.unit (s := S2048x256) ![256, 0] S256x256.size inb_S2048x256_S256x256_256_0).toLoadRect (harg1.unread x0) = q at hq ⊢
    generalize kernelRun0_A.sl.v120 (F := Ideal) c arg2 harg2 arg4 harg4 arg11 x1 x3 = kk at hk ⊢
    generalize View.readAt (Elt Ideal) arg3.view (Rect.unit (s := S2048x128) ![0, 0] S512x128.size inb_S2048x128_S512x128_0_0).toLoadRect (harg3.unread x2) = v at hv ⊢
    generalize View.readAt (Elt Ideal) arg5.view (Rect.unit (s := S2048x128) ![256, 0] S256x128.size inb_S2048x128_S256x128_256_0).toLoadRect (harg5.unread x4) = o at ho ⊢
    generalize View.readAt (Elt Ideal) arg6.view (Rect.unit (s := S2048x128) ![256, 0] S256x128.size inb_S2048x128_S256x128_256_0).toLoadRect (harg6.unread x5) = g at hg ⊢
    obtain ⟨k', hk'⟩ : ∃ k' : Fin 512, k' = ⟨k.val - 0, by omega⟩ := ⟨_, rfl⟩
    obtain ⟨d', hd'⟩ : ∃ d' : Fin 256, d' = ⟨d.val - 0, by omega⟩ := ⟨_, rfl⟩
    have hk2 : k.val = k'.val := by rw [hk']; rfl
    have hd2 : d.val = d'.val := by rw [hd']; rfl
    rw [← hk', ← hd', hk2, hd2, ← dkUpto_step (n := 512) (c := 256) rfl]
    have e := dk_eq (n := 512) (c := 256) rfl rfl (by norm_num) hq hk hv hg ho H.out k' d'
    unfold pr ms mword fdiv at e
    generalize (∑ r ∈ range 256, dscore Q K V G (256 + r) k'.val * Q (256 + r) d'.val) = R at e ⊢
    clear hk' hd' hk2 hd2
    pointwise [k0_pay27, k0_pay26, kernelRun0_A.sl.v151, k0_pay25, k0_pay24, k0_pay22, k0_pay23, k0_pay31, k0_pay28, k0_pay30, k0_pay29, k0_pay34]
    dsimp only at e
    exact congrArg₂ (· + ·) (ha k' d') e
  · rename_i h
    refine (dk1 c arg1 harg1 arg2 harg2 arg3 harg3 arg4 harg4 arg5 harg5 arg6 harg6 arg11 arg12 x0 x1 x2 x3 x4 x5 Q K V O G H k d).trans ?_
    rw [dkUpto_skip (n := 512) (c := 256) rfl rfl _ _ _ _ (by omega)]

theorem dv2 (k : Fin 2048) (d : Fin 128) :
    View.canon (kernelRun0_A.sl.HS2_3 (F := Ideal) c arg1 harg1 arg2 harg2 arg4 harg4 arg6 harg6 arg11 arg13 x0 x1 x3 x5) (ix2 k d)
      = ((dvUpto Q K G 512 k.val d.val : ℝ) : EReal) := by
  unfold kernelRun0_A.sl.HS2_3
  refine (canon_block _ _ _ k d).trans ?_
  split
  · rename_i h
    have ha : ∀ (k : Fin 512) (d : Fin 128), kernelRun0_A.sl.v211 (F := Ideal) c arg1 harg1 arg2 harg2 arg4 harg4 arg6 harg6 arg11 arg13 x0 x1 x3 x5 (ix2 k d) = ((dvUpto Q K G 256 k.val d.val : ℝ) : EReal) := by
      intro k d
      unfold kernelRun0_A.sl.v211
      refine (readCov_block arg13.view _ _ _ _).trans ((dv1 c arg1 harg1 arg2 harg2 arg4 harg4 arg6 harg6 arg11 arg13 x0 x1 x2 x3 x4 x5 Q K V O G H _ _).trans ?_)
      simp only [Nat.zero_add]
    generalize kernelRun0_A.sl.v211 (F := Ideal) c arg1 harg1 arg2 harg2 arg4 harg4 arg6 harg6 arg11 arg13 x0 x1 x3 x5 = acc at ha ⊢
    unfold kernelRun0_A.sl.r_9 kernelRun0_A.sl.r_8 kernelRun0_A.sl.r_7
    have hq := lq1 arg1 harg1 x0 x1 x2 x3 x4 x5 Q K V O G H
    have hk := lk1 c arg2 harg2 arg4 harg4 arg11 x0 x1 x2 x3 x4 x5 Q K V O G H
    have hg := lg1 arg6 harg6 x0 x1 x2 x3 x4 x5 Q K V O G H
    generalize View.readAt (Elt Ideal) arg1.view (Rect.unit (s := S2048x256) ![256, 0] S256x256.size inb_S2048x256_S256x256_256_0).toLoadRect (harg1.unread x0) = q at hq ⊢
    generalize kernelRun0_A.sl.v120 (F := Ideal) c arg2 harg2 arg4 harg4 arg11 x1 x3 = kk at hk ⊢
    generalize View.readAt (Elt Ideal) arg6.view (Rect.unit (s := S2048x128) ![256, 0] S256x128.size inb_S2048x128_S256x128_256_0).toLoadRect (harg6.unread x5) = g at hg ⊢
    obtain ⟨k', hk'⟩ : ∃ k' : Fin 512, k' = ⟨k.val - 0, by omega⟩ := ⟨_, rfl⟩
    obtain ⟨d', hd'⟩ : ∃ d' : Fin 128, d' = ⟨d.val - 0, by omega⟩ := ⟨_, rfl⟩
    have hk2 : k.val = k'.val := by rw [hk']; rfl
    have hd2 : d.val = d'.val := by rw [hd']; rfl
    rw [← hk', ← hd', hk2, hd2, ← dvUpto_step (n := 512) (c := 256) rfl]
    have e := dv_eq (n := 512) (c := 256) rfl rfl (by norm_num) hq hk hg k' d'
    unfold pr ms mword fdiv at e
    generalize (∑ r ∈ range 256, prob Q K (256 + r) k'.val * G (256 + r) d'.val) = R at e ⊢
    clear hk' hd' hk2 hd2
    pointwise [k0_pay30, k0_pay29, k0_pay27, k0_pay26, kernelRun0_A.sl.v151, k0_pay25, k0_pay24, k0_pay22, k0_pay28, k0_pay35]
    dsimp only at e
    exact congrArg₂ (· + ·) (ha k' d') e
  · rename_i h
    refine (dv1 c arg1 harg1 arg2 harg2 arg4 harg4 arg6 harg6 arg11 arg13 x0 x1 x2 x3 x4 x5 Q K V O G H k d).trans ?_
    rw [dvUpto_skip (n := 512) (c := 256) rfl rfl _ _ _ (by omega)]

theorem lq2 (r d : Fin 256) :
    View.readAt (Elt Ideal) arg1.view (Rect.unit (s := S2048x256) ![512, 0] S256x256.size inb_S2048x256_S256x256_512_0).toLoadRect (harg1.unread x0) (ix2 r d)
      = ((Q (512 + r.val) d.val : ℝ) : EReal) := by
  refine (readAt_block arg1 harg1 x0 _ r d).trans ((H.q _ _).trans ?_)
  simp only [Nat.zero_add]

theorem lg2 (r : Fin 256) (d : Fin 128) :
    View.readAt (Elt Ideal) arg6.view (Rect.unit (s := S2048x128) ![512, 0] S256x128.size inb_S2048x128_S256x128_512_0).toLoadRect (harg6.unread x5) (ix2 r d)
      = ((G (512 + r.val) d.val : ℝ) : EReal) := by
  refine (readAt_block arg6 harg6 x5 _ r d).trans ((H.g _ _).trans ?_)
  simp only [Nat.zero_add]

theorem lo2 (r : Fin 256) (d : Fin 128) :
    View.readAt (Elt Ideal) arg5.view (Rect.unit (s := S2048x128) ![512, 0] S256x128.size inb_S2048x128_S256x128_512_0).toLoadRect (harg5.unread x4) (ix2 r d)
      = ((O (512 + r.val) d.val : ℝ) : EReal) := by
  refine (readAt_block arg5 harg5 x4 _ r d).trans ((H.o _ _).trans ?_)
  simp only [Nat.zero_add]

theorem lv2 (k : Fin 768) (d : Fin 128) :
    View.readAt (Elt Ideal) arg3.view (Rect.unit (s := S2048x128) ![0, 0] S768x128.size inb_S2048x128_S768x128_0_0).toLoadRect (harg3.unread x2) (ix2 k d)
      = ((V k.val d.val : ℝ) : EReal) := by
  refine (readAt_block arg3 harg3 x2 _ k d).trans ((H.v _ _).trans ?_)
  simp only [Nat.zero_add]

theorem lk2 (k : Fin 768) (d : Fin 256) :
    kernelRun0_A.sl.v220 (F := Ideal) c arg2 harg2 arg4 harg4 arg11 x1 x3 (ix2 k d) = ((K k.val d.val : ℝ) : EReal) := by
  unfold kernelRun0_A.sl.v220
  refine (readCov_block arg11.view _ _ k d).trans ((keys c arg2 harg2 arg4 harg4 x0 x1 x2 x3 x4 x5 Q K V O G H _ _).trans ?_)
  simp only [Nat.zero_add]

theorem dk3 (k : Fin 2048) (d : Fin 256) :
    View.canon (kernelRun0_A.sl.HS1_4 (F := Ideal) c arg1 harg1 arg2 harg2 arg3 harg3 arg4 harg4 arg5 harg5 arg6 harg6 arg11 arg12 x0 x1 x2 x3 x4 x5) (ix2 k d)
      = ((dkUpto Q K V G 768 k.val d.val : ℝ) : EReal) := by
  unfold kernelRun0_A.sl.HS1_4
  refine (canon_block _ _ _ k d).trans ?_
  split
  · rename_i h
    have ha : ∀ (k : Fin 768) (d : Fin 256), kernelRun0_A.sl.v305 (F := Ideal) c arg1 harg1 arg2 harg2 arg3 harg3 arg4 harg4 arg5 harg5 arg6 harg6 arg11 arg12 x0 x1 x2 x3 x4 x5 (ix2 k d) = ((dkUpto Q K V G 512 k.val d.val : ℝ) : EReal) := by
      intro k d
      unfold kernelRun0_A.sl.v305
      refine (readCov_block arg12.view _ _ _ _).trans ((dk2 c arg1 harg1 arg2 harg2 arg3 harg3 arg4 harg4 arg5 harg5 arg6 harg6 arg11 arg12 x0 x1 x2 x3 x4 x5 Q K V O G H _ _).trans ?_)
      simp only [Nat.zero_add]
    generalize kernelRun0_A.sl.v305 (F := Ideal) c arg1 harg1 arg2 harg2 arg3 harg3 arg4 harg4 arg5 harg5 arg6 harg6 arg11 arg12 x0 x1 x2 x3 x4 x5 = acc at ha ⊢
    unfold kernelRun0_A.sl.r_15 kernelRun0_A.sl.r_14 kernelRun0_A.sl.r_13 kernelRun0_A.sl.r_12
    have hq := lq2 arg1 harg1 x0 x1 x2 x3 x4 x5 Q K V O G H
    have hk := lk2 c arg2 harg2 arg4 harg4 arg11 x0 x1 x2 x3 x4 x5 Q K V O G H
    have hv := lv2 arg3 harg3 x0 x1 x2 x3 x4 x5 Q K V O G H
    have ho := lo2 arg5 harg5 x0 x1 x2 x3 x4 x5 Q K V O G H
    have hg := lg2 arg6 harg6 x0 x1 x2 x3 x4 x5 Q K V O G H
    generalize View.readAt (Elt Ideal) arg1.view (Rect.unit (s := S2048x256) ![512, 0] S256x256.size inb_S2048x256_S256x256_512_0).toLoadRect (harg1.unread x0) = q at hq ⊢
    generalize kernelRun0_A.sl.v220 (F := Ideal) c arg2 harg2 arg4 harg4 arg11 x1 x3 = kk at hk ⊢
    generalize View.readAt (Elt Ideal) arg3.view (Rect.unit (s := S2048x128) ![0, 0] S768x128.size inb_S2048x128_S768x128_0_0).toLoadRect (harg3.unread x2) = v at hv ⊢
    generalize View.readAt (Elt Ideal) arg5.view (Rect.unit (s := S2048x128) ![512, 0] S256x128.size inb_S2048x128_S256x128_512_0).toLoadRect (harg5.unread x4) = o at ho ⊢
    generalize View.readAt (Elt Ideal) arg6.view (Rect.unit (s := S2048x128) ![512, 0] S256x128.size inb_S2048x128_S256x128_512_0).toLoadRect (harg6.unread x5) = g at hg ⊢
    obtain ⟨k', hk'⟩ : ∃ k' : Fin 768, k' = ⟨k.val - 0, by omega⟩ := ⟨_, rfl⟩
    obtain ⟨d', hd'⟩ : ∃ d' : Fin 256, d' = ⟨d.val - 0, by omega⟩ := ⟨_, rfl⟩
    have hk2 : k.val = k'.val := by rw [hk']; rfl
    have hd2 : d.val = d'.val := by rw [hd']; rfl
    rw [← hk', ← hd', hk2, hd2, ← dkUpto_step (n := 768) (c := 512) rfl]
    have e := dk_eq (n := 768) (c := 512) rfl rfl (by norm_num) hq hk hv hg ho H.out k' d'
    unfold pr ms mword fdiv at e
    generalize (∑ r ∈ range 256, dscore Q K V G (512 + r) k'.val * Q (512 + r) d'.val) = R at e ⊢
    clear hk' hd' hk2 hd2
    pointwise [k0_pay41, k0_pay39, k0_pay40, k0_pay38, k0_pay36, k0_pay42, k0_pay37, k0_pay48, k0_pay46, k0_pay43, k0_pay45, k0_pay44]
    dsimp only at e
    exact congrArg₂ (· + ·) (ha k' d') e
  · rename_i h
    refine (dk2 c arg1 harg1 arg2 harg2 arg3 harg3 arg4 harg4 arg5 harg5 arg6 harg6 arg11 arg12 x0 x1 x2 x3 x4 x5 Q K V O G H k d).trans ?_
    rw [dkUpto_skip (n := 768) (c := 512) rfl rfl _ _ _ _ (by omega)]

theorem dv3 (k : Fin 2048) (d : Fin 128) :
    View.canon (kernelRun0_A.sl.HS2_4 (F := Ideal) c arg1 harg1 arg2 harg2 arg4 harg4 arg6 harg6 arg11 arg13 x0 x1 x3 x5) (ix2 k d)
      = ((dvUpto Q K G 768 k.val d.val : ℝ) : EReal) := by
  unfold kernelRun0_A.sl.HS2_4
  refine (canon_block _ _ _ k d).trans ?_
  split
  · rename_i h
    have ha : ∀ (k : Fin 768) (d : Fin 128), kernelRun0_A.sl.v311 (F := Ideal) c arg1 harg1 arg2 harg2 arg4 harg4 arg6 harg6 arg11 arg13 x0 x1 x3 x5 (ix2 k d) = ((dvUpto Q K G 512 k.val d.val : ℝ) : EReal) := by
      intro k d
      unfold kernelRun0_A.sl.v311
      refine (readCov_block arg13.view _ _ _ _).trans ((dv2 c arg1 harg1 arg2 harg2 arg4 harg4 arg6 harg6 arg11 arg13 x0 x1 x2 x3 x4 x5 Q K V O G H _ _).trans ?_)
      simp only [Nat.zero_add]
    generalize kernelRun0_A.sl.v311 (F := Ideal) c arg1 harg1 arg2 harg2 arg4 harg4 arg6 harg6 arg11 arg13 x0 x1 x3 x5 = acc at ha ⊢
    unfold kernelRun0_A.sl.r_15 kernelRun0_A.sl.r_14
    have hq := lq2 arg1 harg1 x0 x1 x2 x3 x4 x5 Q K V O G H
    have hk := lk2 c arg2 harg2 arg4 harg4 arg11 x0 x1 x2 x3 x4 x5 Q K V O G H
    have hg := lg2 arg6 harg6 x0 x1 x2 x3 x4 x5 Q K V O G H
    generalize View.readAt (Elt Ideal) arg1.view (Rect.unit (s := S2048x256) ![512, 0] S256x256.size inb_S2048x256_S256x256_512_0).toLoadRect (harg1.unread x0) = q at hq ⊢
    generalize kernelRun0_A.sl.v220 (F := Ideal) c arg2 harg2 arg4 harg4 arg11 x1 x3 = kk at hk ⊢
    generalize View.readAt (Elt Ideal) arg6.view (Rect.unit (s := S2048x128) ![512, 0] S256x128.size inb_S2048x128_S256x128_512_0).toLoadRect (harg6.unread x5) = g at hg ⊢
    obtain ⟨k', hk'⟩ : ∃ k' : Fin 768, k' = ⟨k.val - 0, by omega⟩ := ⟨_, rfl⟩
    obtain ⟨d', hd'⟩ : ∃ d' : Fin 128, d' = ⟨d.val - 0, by omega⟩ := ⟨_, rfl⟩
    have hk2 : k.val = k'.val := by rw [hk']; rfl
    have hd2 : d.val = d'.val := by rw [hd']; rfl
    rw [← hk', ← hd', hk2, hd2, ← dvUpto_step (n := 768) (c := 512) rfl]
    have e := dv_eq (n := 768) (c := 512) rfl rfl (by norm_num) hq hk hg k' d'
    unfold pr ms mword fdiv at e
    generalize (∑ r ∈ range 256, prob Q K (512 + r) k'.val * G (512 + r) d'.val) = R at e ⊢
    clear hk' hd' hk2 hd2
    pointwise [k0_pay41, k0_pay39, k0_pay40, k0_pay38, k0_pay36, k0_pay42, k0_pay49, k0_pay45, k0_pay44, k0_pay43]
    dsimp only at e
    exact congrArg₂ (· + ·) (ha k' d') e
  · rename_i h
    refine (dv2 c arg1 harg1 arg2 harg2 arg4 harg4 arg6 harg6 arg11 arg13 x0 x1 x2 x3 x4 x5 Q K V O G H k d).trans ?_
    rw [dvUpto_skip (n := 768) (c := 512) rfl rfl _ _ _ (by omega)]

theorem lq3 (r d : Fin 256) :
    View.readAt (Elt Ideal) arg1.view (Rect.unit (s := S2048x256) ![768, 0] S256x256.size inb_S2048x256_S256x256_768_0).toLoadRect (harg1.unread x0) (ix2 r d)
      = ((Q (768 + r.val) d.val : ℝ) : EReal) := by
  refine (readAt_block arg1 harg1 x0 _ r d).trans ((H.q _ _).trans ?_)
  simp only [Nat.zero_add]

theorem lg3 (r : Fin 256) (d : Fin 128) :
    View.readAt (Elt Ideal) arg6.view (Rect.unit (s := S2048x128) ![768, 0] S256x128.size inb_S2048x128_S256x128_768_0).toLoadRect (harg6.unread x5) (ix2 r d)
      = ((G (768 + r.val) d.val : ℝ) : EReal) := by
  refine (readAt_block arg6 harg6 x5 _ r d).trans ((H.g _ _).trans ?_)
  simp only [Nat.zero_add]

theorem lo3 (r : Fin 256) (d : Fin 128) :
    View.readAt (Elt Ideal) arg5.view (Rect.unit (s := S2048x128) ![768, 0] S256x128.size inb_S2048x128_S256x128_768_0).toLoadRect (harg5.unread x4) (ix2 r d)
      = ((O (768 + r.val) d.val : ℝ) : EReal) := by
  refine (readAt_block arg5 harg5 x4 _ r d).trans ((H.o _ _).trans ?_)
  simp only [Nat.zero_add]

theorem lv3 (k : Fin 1024) (d : Fin 128) :
    View.readAt (Elt Ideal) arg3.view (Rect.unit (s := S2048x128) ![0, 0] S1024x128.size inb_S2048x128_S1024x128_0_0).toLoadRect (harg3.unread x2) (ix2 k d)
      = ((V k.val d.val : ℝ) : EReal) := by
  refine (readAt_block arg3 harg3 x2 _ k d).trans ((H.v _ _).trans ?_)
  simp only [Nat.zero_add]

theorem lk3 (k : Fin 1024) (d : Fin 256) :
    kernelRun0_A.sl.v320 (F := Ideal) c arg2 harg2 arg4 harg4 arg11 x1 x3 (ix2 k d) = ((K k.val d.val : ℝ) : EReal) := by
  unfold kernelRun0_A.sl.v320
  refine (readCov_block arg11.view _ _ k d).trans ((keys c arg2 harg2 arg4 harg4 x0 x1 x2 x3 x4 x5 Q K V O G H _ _).trans ?_)
  simp only [Nat.zero_add]

theorem dk4 (k : Fin 2048) (d : Fin 256) :
    View.canon (kernelRun0_A.sl.HS1_5 (F := Ideal) c arg1 harg1 arg2 harg2 arg3 harg3 arg4 harg4 arg5 harg5 arg6 harg6 arg11 arg12 x0 x1 x2 x3 x4 x5) (ix2 k d)
      = ((dkUpto Q K V G 1024 k.val d.val : ℝ) : EReal) := by
  unfold kernelRun0_A.sl.HS1_5
  refine (canon_block _ _ _ k d).trans ?_
  split
  · rename_i h
    have ha : ∀ (k : Fin 1024) (d : Fin 256), kernelRun0_A.sl.v405 (F := Ideal) c arg1 harg1 arg2 harg2 arg3 harg3 arg4 harg4 arg5 harg5 arg6 harg6 arg11 arg12 x0 x1 x2 x3 x4 x5 (ix2 k d) = ((dkUpto Q K V G 768 k.val d.val : ℝ) : EReal) := by
      intro k d
      unfold kernelRun0_A.sl.v405
      refine (readCov_block arg12.view _ _ _ _).trans ((dk3 c arg1 harg1 arg2 harg2 arg3 harg3 arg4 harg4 arg5 harg5 arg6 harg6 arg11 arg12 x0 x1 x2 x3 x4 x5 Q K V O G H _ _).trans ?_)
      simp only [Nat.zero_add]
    generalize kernelRun0_A.sl.v405 (F := Ideal) c arg1 harg1 arg2 harg2 arg3 harg3 arg4 harg4 arg5 harg5 arg6 harg6 arg11 arg12 x0 x1 x2 x3 x4 x5 = acc at ha ⊢
    unfold kernelRun0_A.sl.r_21 kernelRun0_A.sl.r_18 kernelRun0_A.sl.r_17 kernelRun0_A.sl.r_16
    have hq := lq3 arg1 harg1 x0 x1 x2 x3 x4 x5 Q K V O G H
    have hk := lk3 c arg2 harg2 arg4 harg4 arg11 x0 x1 x2 x3 x4 x5 Q K V O G H
    have hv := lv3 arg3 harg3 x0 x1 x2 x3 x4 x5 Q K V O G H
    have ho := lo3 arg5 harg5 x0 x1 x2 x3 x4 x5 Q K V O G H
    have hg := lg3 arg6 harg6 x0 x1 x2 x3 x4 x5 Q K V O G H
    generalize View.readAt (Elt Ideal) arg1.view (Rect.unit (s := S2048x256) ![768, 0] S256x256.size inb_S2048x256_S256x256_768_0).toLoadRect (harg1.unread x0) = q at hq ⊢
    generalize kernelRun0_A.sl.v320 (F := Ideal) c arg2 harg2 arg4 harg4 arg11 x1 x3 = kk at hk ⊢
    generalize View.readAt (Elt Ideal) arg3.view (Rect.unit (s := S2048x128) ![0, 0] S1024x128.size inb_S2048x128_S1024x128_0_0).toLoadRect (harg3.unread x2) = v at hv ⊢
    generalize View.readAt (Elt Ideal) arg5.view (Rect.unit (s := S2048x128) ![768, 0] S256x128.size inb_S2048x128_S256x128_768_0).toLoadRect (harg5.unread x4) = o at ho ⊢
    generalize View.readAt (Elt Ideal) arg6.view (Rect.unit (s := S2048x128) ![768, 0] S256x128.size inb_S2048x128_S256x128_768_0).toLoadRect (harg6.unread x5) = g at hg ⊢
    obtain ⟨k', hk'⟩ : ∃ k' : Fin 1024, k' = ⟨k.val - 0, by omega⟩ := ⟨_, rfl⟩
    obtain ⟨d', hd'⟩ : ∃ d' : Fin 256, d' = ⟨d.val - 0, by omega⟩ := ⟨_, rfl⟩
    have hk2 : k.val = k'.val := by rw [hk']; rfl
    have hd2 : d.val = d'.val := by rw [hd']; rfl
    rw [← hk', ← hd', hk2, hd2, ← dkUpto_step (n := 1024) (c := 768) rfl]
    have e := dk_eq (n := 1024) (c := 768) rfl rfl (by norm_num) hq hk hv hg ho H.out k' d'
    unfold pr ms mword fdiv at e
    generalize (∑ r ∈ range 256, dscore Q K V G (768 + r) k'.val * Q (768 + r) d'.val) = R at e ⊢
    clear hk' hd' hk2 hd2
    pointwise [k0_pay55, k0_pay54, kernelRun0_A.sl.v351, k0_pay53, k0_pay52, k0_pay50, k0_pay51, k0_pay59, k0_pay56, k0_pay58, k0_pay57, k0_pay61]
    dsimp only at e
    exact congrArg₂ (· + ·) (ha k' d') e
  · rename_i h
    refine (dk3 c arg1 harg1 arg2 harg2 arg3 harg3 arg4 harg4 arg5 harg5 arg6 harg6 arg11 arg12 x0 x1 x2 x3 x4 x5 Q K V O G H k d).trans ?_
    rw [dkUpto_skip (n := 1024) (c := 768) rfl rfl _ _ _ _ (by omega)]

theorem dv4 (k : Fin 2048) (d : Fin 128) :
    View.canon (kernelRun0_A.sl.HS2_5 (F := Ideal) c arg1 harg1 arg2 harg2 arg4 harg4 arg6 harg6 arg11 arg13 x0 x1 x3 x5) (ix2 k d)
      = ((dvUpto Q K G 1024 k.val d.val : ℝ) : EReal) := by
  unfold kernelRun0_A.sl.HS2_5
  refine (canon_block _ _ _ k d).trans ?_
  split
  · rename_i h
    have ha : ∀ (k : Fin 1024) (d : Fin 128), kernelRun0_A.sl.v411 (F := Ideal) c arg1 harg1 arg2 harg2 arg4 harg4 arg6 harg6 arg11 arg13 x0 x1 x3 x5 (ix2 k d) = ((dvUpto Q K G 768 k.val d.val : ℝ) : EReal) := by
      intro k d
      unfold kernelRun0_A.sl.v411
      refine (readCov_block arg13.view _ _ _ _).trans ((dv3 c arg1 harg1 arg2 harg2 arg4 harg4 arg6 harg6 arg11 arg13 x0 x1 x2 x3 x4 x5 Q K V O G H _ _).trans ?_)
      simp only [Nat.zero_add]
    generalize kernelRun0_A.sl.v411 (F := Ideal) c arg1 harg1 arg2 harg2 arg4 harg4 arg6 harg6 arg11 arg13 x0 x1 x3 x5 = acc at ha ⊢
    unfold kernelRun0_A.sl.r_20 kernelRun0_A.sl.r_19 kernelRun0_A.sl.r_18
    have hq := lq3 arg1 harg1 x0 x1 x2 x3 x4 x5 Q K V O G H
    have hk := lk3 c arg2 harg2 arg4 harg4 arg11 x0 x1 x2 x3 x4 x5 Q K V O G H
    have hg := lg3 arg6 harg6 x0 x1 x2 x3 x4 x5 Q K V O G H
    generalize View.readAt (Elt Ideal) arg1.view (Rect.unit (s := S2048x256) ![768, 0] S256x256.size inb_S2048x256_S256x256_768_0).toLoadRect (harg1.unread x0) = q at hq ⊢
    generalize kernelRun0_A.sl.v320 (F := Ideal) c arg2 harg2 arg4 harg4 arg11 x1 x3 = kk at hk ⊢
    generalize View.readAt (Elt Ideal) arg6.view (Rect.unit (s := S2048x128) ![768, 0] S256x128.size inb_S2048x128_S256x128_768_0).toLoadRect (harg6.unread x5) = g at hg ⊢
    obtain ⟨k', hk'⟩ : ∃ k' : Fin 1024, k' = ⟨k.val - 0, by omega⟩ := ⟨_, rfl⟩
    obtain ⟨d', hd'⟩ : ∃ d' : Fin 128, d' = ⟨d.val - 0, by omega⟩ := ⟨_, rfl⟩
    have hk2 : k.val = k'.val := by rw [hk']; rfl
    have hd2 : d.val = d'.val := by rw [hd']; rfl
    rw [← hk', ← hd', hk2, hd2, ← dvUpto_step (n := 1024) (c := 768) rfl]
    have e := dv_eq (n := 1024) (c := 768) rfl rfl (by norm_num) hq hk hg k' d'
    unfold pr ms mword fdiv at e
    generalize (∑ r ∈ range 256, prob Q K (768 + r) k'.val * G (768 + r) d'.val) = R at e ⊢
    clear hk' hd' hk2 hd2
    pointwise [k0_pay58, k0_pay57, k0_pay55, k0_pay54, kernelRun0_A.sl.v351, k0_pay53, k0_pay52, k0_pay50, k0_pay56, k0_pay62]
    dsimp only at e
    exact congrArg₂ (· + ·) (ha k' d') e
  · rename_i h
    refine (dv3 c arg1 harg1 arg2 harg2 arg4 harg4 arg6 harg6 arg11 arg13 x0 x1 x2 x3 x4 x5 Q K V O G H k d).trans ?_
    rw [dvUpto_skip (n := 1024) (c := 768) rfl rfl _ _ _ (by omega)]

theorem lq4 (r d : Fin 256) :
    View.readAt (Elt Ideal) arg1.view (Rect.unit (s := S2048x256) ![1024, 0] S256x256.size inb_S2048x256_S256x256_1024_0).toLoadRect (harg1.unread x0) (ix2 r d)
      = ((Q (1024 + r.val) d.val : ℝ) : EReal) := by
  refine (readAt_block arg1 harg1 x0 _ r d).trans ((H.q _ _).trans ?_)
  simp only [Nat.zero_add]

theorem lg4 (r : Fin 256) (d : Fin 128) :
    View.readAt (Elt Ideal) arg6.view (Rect.unit (s := S2048x128) ![1024, 0] S256x128.size inb_S2048x128_S256x128_1024_0).toLoadRect (harg6.unread x5) (ix2 r d)
      = ((G (1024 + r.val) d.val : ℝ) : EReal) := by
  refine (readAt_block arg6 harg6 x5 _ r d).trans ((H.g _ _).trans ?_)
  simp only [Nat.zero_add]

theorem lo4 (r : Fin 256) (d : Fin 128) :
    View.readAt (Elt Ideal) arg5.view (Rect.unit (s := S2048x128) ![1024, 0] S256x128.size inb_S2048x128_S256x128_1024_0).toLoadRect (harg5.unread x4) (ix2 r d)
      = ((O (1024 + r.val) d.val : ℝ) : EReal) := by
  refine (readAt_block arg5 harg5 x4 _ r d).trans ((H.o _ _).trans ?_)
  simp only [Nat.zero_add]

theorem lv4 (k : Fin 1280) (d : Fin 128) :
    View.readAt (Elt Ideal) arg3.view (Rect.unit (s := S2048x128) ![0, 0] S1280x128.size inb_S2048x128_S1280x128_0_0).toLoadRect (harg3.unread x2) (ix2 k d)
      = ((V k.val d.val : ℝ) : EReal) := by
  refine (readAt_block arg3 harg3 x2 _ k d).trans ((H.v _ _).trans ?_)
  simp only [Nat.zero_add]

theorem lk4 (k : Fin 1280) (d : Fin 256) :
    kernelRun0_A.sl.v420 (F := Ideal) c arg2 harg2 arg4 harg4 arg11 x1 x3 (ix2 k d) = ((K k.val d.val : ℝ) : EReal) := by
  unfold kernelRun0_A.sl.v420
  refine (readCov_block arg11.view _ _ k d).trans ((keys c arg2 harg2 arg4 harg4 x0 x1 x2 x3 x4 x5 Q K V O G H _ _).trans ?_)
  simp only [Nat.zero_add]

theorem dk5 (k : Fin 2048) (d : Fin 256) :
    View.canon (kernelRun0_A.sl.HS1_6 (F := Ideal) c arg1 harg1 arg2 harg2 arg3 harg3 arg4 harg4 arg5 harg5 arg6 harg6 arg11 arg12 x0 x1 x2 x3 x4 x5) (ix2 k d)
      = ((dkUpto Q K V G 1280 k.val d.val : ℝ) : EReal) := by
  unfold kernelRun0_A.sl.HS1_6
  refine (canon_block _ _ _ k d).trans ?_
  split
  · rename_i h
    have ha : ∀ (k : Fin 1280) (d : Fin 256), kernelRun0_A.sl.v505 (F := Ideal) c arg1 harg1 arg2 harg2 arg3 harg3 arg4 harg4 arg5 harg5 arg6 harg6 arg11 arg12 x0 x1 x2 x3 x4 x5 (ix2 k d) = ((dkUpto Q K V G 1024 k.val d.val : ℝ) : EReal) := by
      intro k d
      unfold kernelRun0_A.sl.v505
      refine (readCov_block arg12.view _ _ _ _).trans ((dk4 c arg1 harg1 arg2 harg2 arg3 harg3 arg4 harg4 arg5 harg5 arg6 harg6 arg11 arg12 x0 x1 x2 x3 x4 x5 Q K V O G H _ _).trans ?_)
      simp only [Nat.zero_add]
    generalize kernelRun0_A.sl.v505 (F := Ideal) c arg1 harg1 arg2 harg2 arg3 harg3 arg4 harg4 arg5 harg5 arg6 harg6 arg11 arg12 x0 x1 x2 x3 x4 x5 = acc at ha ⊢
    unfold kernelRun0_A.sl.r_25 kernelRun0_A.sl.r_24 kernelRun0_A.sl.r_23 kernelRun0_A.sl.r_22
    have hq := lq4 arg1 harg1 x0 x1 x2 x3 x4 x5 Q K V O G H
    have hk := lk4 c arg2 harg2 arg4 harg4 arg11 x0 x1 x2 x3 x4 x5 Q K V O G H
    have hv := lv4 arg3 harg3 x0 x1 x2 x3 x4 x5 Q K V O G H
    have ho := lo4 arg5 harg5 x0 x1 x2 x3 x4 x5 Q K V O G H
    have hg := lg4 arg6 harg6 x0 x1 x2 x3 x4 x5 Q K V O G H
    generalize View.readAt (Elt Ideal) arg1.view (Rect.unit (s := S2048x256) ![1024, 0] S256x256.size inb_S2048x256_S256x256_1024_0).toLoadRect (harg1.unread x0) = q at hq ⊢
    generalize kernelRun0_A.sl.v420 (F := Ideal) c arg2 harg2 arg4 harg4 arg11 x1 x3 = kk at hk ⊢
    generalize View.readAt (Elt Ideal) arg3.view (Rect.unit (s := S2048x128) ![0, 0] S1280x128.size inb_S2048x128_S1280x128_0_0).toLoadRect (harg3.unread x2) = v at hv ⊢
    generalize View.readAt (Elt Ideal) arg5.view (Rect.unit (s := S2048x128) ![1024, 0] S256x128.size inb_S2048x128_S256x128_1024_0).toLoadRect (harg5.unread x4) = o at ho ⊢
    generalize View.readAt (Elt Ideal) arg6.view (Rect.unit (s := S2048x128) ![1024, 0] S256x128.size inb_S2048x128_S256x128_1024_0).toLoadRect (harg6.unread x5) = g at hg ⊢
    obtain ⟨k', hk'⟩ : ∃ k' : Fin 1280, k' = ⟨k.val - 0, by omega⟩ := ⟨_, rfl⟩
    obtain ⟨d', hd'⟩ : ∃ d' : Fin 256, d' = ⟨d.val - 0, by omega⟩ := ⟨_, rfl⟩
    have hk2 : k.val = k'.val := by rw [hk']; rfl
    have hd2 : d.val = d'.val := by rw [hd']; rfl
    rw [← hk', ← hd', hk2, hd2, ← dkUpto_step (n := 1280) (c := 1024) rfl]
    have e := dk_eq (n := 1280) (c := 1024) rfl rfl (by norm_num) hq hk hv hg ho H.out k' d'
    unfold pr ms mword fdiv at e
    generalize (∑ r ∈ range 256, dscore Q K V G (1024 + r) k'.val * Q (1024 + r) d'.val) = R at e ⊢
    clear hk' hd' hk2 hd2
    pointwise [k0_pay68, k0_pay66, k0_pay67, k0_pay65, k0_pay63, k0_pay69, k0_pay64, k0_pay74, k0_pay72, k0_pay71, k0_pay70]
    dsimp only at e
    exact congrArg₂ (· + ·) (ha k' d') e
  · rename_i h
    refine (dk4 c arg1 harg1 arg2 harg2 arg3 harg3 arg4 harg4 arg5 harg5 arg6 harg6 arg11 arg12 x0 x1 x2 x3 x4 x5 Q K V O G H k d).trans ?_
    rw [dkUpto_skip (n := 1280) (c := 1024) rfl rfl _ _ _ _ (by omega)]

theorem dv5 (k : Fin 2048) (d : Fin 128) :
    View.canon (kernelRun0_A.sl.HS2_6 (F := Ideal) c arg1 harg1 arg2 harg2 arg4 harg4 arg6 harg6 arg11 arg13 x0 x1 x3 x5) (ix2 k d)
      = ((dvUpto Q K G 1280 k.val d.val : ℝ) : EReal) := by
  unfold kernelRun0_A.sl.HS2_6
  refine (canon_block _ _ _ k d).trans ?_
  split
  · rename_i h
    have ha : ∀ (k : Fin 1280) (d : Fin 128), kernelRun0_A.sl.v511 (F := Ideal) c arg1 harg1 arg2 harg2 arg4 harg4 arg6 harg6 arg11 arg13 x0 x1 x3 x5 (ix2 k d) = ((dvUpto Q K G 1024 k.val d.val : ℝ) : EReal) := by
      intro k d
      unfold kernelRun0_A.sl.v511
      refine (readCov_block arg13.view _ _ _ _).trans ((dv4 c arg1 harg1 arg2 harg2 arg4 harg4 arg6 harg6 arg11 arg13 x0 x1 x2 x3 x4 x5 Q K V O G H _ _).trans ?_)
      simp only [Nat.zero_add]
    generalize kernelRun0_A.sl.v511 (F := Ideal) c arg1 harg1 arg2 harg2 arg4 harg4 arg6 harg6 arg11 arg13 x0 x1 x3 x5 = acc at ha ⊢
    unfold kernelRun0_A.sl.r_25 kernelRun0_A.sl.r_24
    have hq := lq4 arg1 harg1 x0 x1 x2 x3 x4 x5 Q K V O G H
    have hk := lk4 c arg2 harg2 arg4 harg4 arg11 x0 x1 x2 x3 x4 x5 Q K V O G H
    have hg := lg4 arg6 harg6 x0 x1 x2 x3 x4 x5 Q K V O G H
    generalize View.readAt (Elt Ideal) arg1.view (Rect.unit (s := S2048x256) ![1024, 0] S256x256.size inb_S2048x256_S256x256_1024_0).toLoadRect (harg1.unread x0) = q at hq ⊢
    generalize kernelRun0_A.sl.v420 (F := Ideal) c arg2 harg2 arg4 harg4 arg11 x1 x3 = kk at hk ⊢
    generalize View.readAt (Elt Ideal) arg6.view (Rect.unit (s := S2048x128) ![1024, 0] S256x128.size inb_S2048x128_S256x128_1024_0).toLoadRect (harg6.unread x5) = g at hg ⊢
    obtain ⟨k', hk'⟩ : ∃ k' : Fin 1280, k' = ⟨k.val - 0, by omega⟩ := ⟨_, rfl⟩
    obtain ⟨d', hd'⟩ : ∃ d' : Fin 128, d' = ⟨d.val - 0, by omega⟩ := ⟨_, rfl⟩
    have hk2 : k.val = k'.val := by rw [hk']; rfl
    have hd2 : d.val = d'.val := by rw [hd']; rfl
    rw [← hk', ← hd', hk2, hd2, ← dvUpto_step (n := 1280) (c := 1024) rfl]
    have e := dv_eq (n := 1280) (c := 1024) rfl rfl (by norm_num) hq hk hg k' d'
    unfold pr ms mword fdiv at e
    generalize (∑ r ∈ range 256, prob Q K (1024 + r) k'.val * G (1024 + r) d'.val) = R at e ⊢
    clear hk' hd' hk2 hd2
    pointwise [k0_pay68, k0_pay66, k0_pay67, k0_pay65, k0_pay63, k0_pay69, k0_pay75, k0_pay71, k0_pay70]
    dsimp only at e
    exact congrArg₂ (· + ·) (ha k' d') e
  · rename_i h
    refine (dv4 c arg1 harg1 arg2 harg2 arg4 harg4 arg6 harg6 arg11 arg13 x0 x1 x2 x3 x4 x5 Q K V O G H k d).trans ?_
    rw [dvUpto_skip (n := 1280) (c := 1024) rfl rfl _ _ _ (by omega)]

theorem lq5 (r d : Fin 256) :
    View.readAt (Elt Ideal) arg1.view (Rect.unit (s := S2048x256) ![1280, 0] S256x256.size inb_S2048x256_S256x256_1280_0).toLoadRect (harg1.unread x0) (ix2 r d)
      = ((Q (1280 + r.val) d.val : ℝ) : EReal) := by
  refine (readAt_block arg1 harg1 x0 _ r d).trans ((H.q _ _).trans ?_)
  simp only [Nat.zero_add]

theorem lg5 (r : Fin 256) (d : Fin 128) :
    View.readAt (Elt Ideal) arg6.view (Rect.unit (s := S2048x128) ![1280, 0] S256x128.size inb_S2048x128_S256x128_1280_0).toLoadRect (harg6.unread x5) (ix2 r d)
      = ((G (1280 + r.val) d.val : ℝ) : EReal) := by
  refine (readAt_block arg6 harg6 x5 _ r d).trans ((H.g _ _).trans ?_)
  simp only [Nat.zero_add]

theorem lo5 (r : Fin 256) (d : Fin 128) :
    View.readAt (Elt Ideal) arg5.view (Rect.unit (s := S2048x128) ![1280, 0] S256x128.size inb_S2048x128_S256x128_1280_0).toLoadRect (harg5.unread x4) (ix2 r d)
      = ((O (1280 + r.val) d.val : ℝ) : EReal) := by
  refine (readAt_block arg5 harg5 x4 _ r d).trans ((H.o _ _).trans ?_)
  simp only [Nat.zero_add]

theorem lv5 (k : Fin 1536) (d : Fin 128) :
    View.readAt (Elt Ideal) arg3.view (Rect.unit (s := S2048x128) ![0, 0] S1536x128.size inb_S2048x128_S1536x128_0_0).toLoadRect (harg3.unread x2) (ix2 k d)
      = ((V k.val d.val : ℝ) : EReal) := by
  refine (readAt_block arg3 harg3 x2 _ k d).trans ((H.v _ _).trans ?_)
  simp only [Nat.zero_add]

theorem lk5 (k : Fin 1536) (d : Fin 256) :
    kernelRun0_A.sl.v520 (F := Ideal) c arg2 harg2 arg4 harg4 arg11 x1 x3 (ix2 k d) = ((K k.val d.val : ℝ) : EReal) := by
  unfold kernelRun0_A.sl.v520
  refine (readCov_block arg11.view _ _ k d).trans ((keys c arg2 harg2 arg4 harg4 x0 x1 x2 x3 x4 x5 Q K V O G H _ _).trans ?_)
  simp only [Nat.zero_add]

theorem dk6 (k : Fin 2048) (d : Fin 256) :
    View.canon (kernelRun0_A.sl.HS1_7 (F := Ideal) c arg1 harg1 arg2 harg2 arg3 harg3 arg4 harg4 arg5 harg5 arg6 harg6 arg11 arg12 x0 x1 x2 x3 x4 x5) (ix2 k d)
      = ((dkUpto Q K V G 1536 k.val d.val : ℝ) : EReal) := by
  unfold kernelRun0_A.sl.HS1_7
  refine (canon_block _ _ _ k d).trans ?_
  split
  · rename_i h
    have ha : ∀ (k : Fin 1536) (d : Fin 256), kernelRun0_A.sl.v605 (F := Ideal) c arg1 harg1 arg2 harg2 arg3 harg3 arg4 harg4 arg5 harg5 arg6 harg6 arg11 arg12 x0 x1 x2 x3 x4 x5 (ix2 k d) = ((dkUpto Q K V G 1280 k.val d.val : ℝ) : EReal) := by
      intro k d
      unfold kernelRun0_A.sl.v605
      refine (readCov_block arg12.view _ _ _ _).trans ((dk5 c arg1 harg1 arg2 harg2 arg3 harg3 arg4 harg4 arg5 harg5 arg6 harg6 arg11 arg12 x0 x1 x2 x3 x4 x5 Q K V O G H _ _).trans ?_)
      simp only [Nat.zero_add]
    unfold kernelRun0_A.sl.r_31
    generalize kernelRun0_A.sl.v605 (F := Ideal) c arg1 harg1 arg2 harg2 arg3 harg3 arg4 harg4 arg5 harg5 arg6 harg6 arg11 arg12 x0 x1 x2 x3 x4 x5 = acc at ha ⊢
    unfold kernelRun0_A.sl.r_28 kernelRun0_A.sl.r_26 kernelRun0_A.sl.r_27
    have hq := lq5 arg1 harg1 x0 x1 x2 x3 x4 x5 Q K V O G H
    have hk := lk5 c arg2 harg2 arg4 harg4 arg11 x0 x1 x2 x3 x4 x5 Q K V O G H
    have hv := lv5 arg3 harg3 x0 x1 x2 x3 x4 x5 Q K V O G H
    have ho := lo5 arg5 harg5 x0 x1 x2 x3 x4 x5 Q K V O G H
    have hg := lg5 arg6 harg6 x0 x1 x2 x3 x4 x5 Q K V O G H
    generalize View.readAt (Elt Ideal) arg1.view (Rect.unit (s := S2048x256) ![1280, 0] S256x256.size inb_S2048x256_S256x256_1280_0).toLoadRect (harg1.unread x0) = q at hq ⊢
    generalize kernelRun0_A.sl.v520 (F := Ideal) c arg2 harg2 arg4 harg4 arg11 x1 x3 = kk at hk ⊢
    generalize View.readAt (Elt Ideal) arg3.view (Rect.unit (s := S2048x128) ![0, 0] S1536x128.size inb_S2048x128_S1536x128_0_0).toLoadRect (harg3.unread x2) = v at hv ⊢
    generalize View.readAt (Elt Ideal) arg5.view (Rect.unit (s := S2048x128) ![1280, 0] S256x128.size inb_S2048x128_S256x128_1280_0).toLoadRect (harg5.unread x4) = o at ho ⊢
    generalize View.readAt (Elt Ideal) arg6.view (Rect.unit (s := S2048x128) ![1280, 0] S256x128.size inb_S2048x128_S256x128_1280_0).toLoadRect (harg6.unread x5) = g at hg ⊢
    obtain ⟨k', hk'⟩ : ∃ k' : Fin 1536, k' = ⟨k.val - 0, by omega⟩ := ⟨_, rfl⟩
    obtain ⟨d', hd'⟩ : ∃ d' : Fin 256, d' = ⟨d.val - 0, by omega⟩ := ⟨_, rfl⟩
    have hk2 : k.val = k'.val := by rw [hk']; rfl
    have hd2 : d.val = d'.val := by rw [hd']; rfl
    rw [← hk', ← hd', hk2, hd2, ← dkUpto_step (n := 1536) (c := 1280) rfl]
    have e := dk_eq (n := 1536) (c := 1280) rfl rfl (by norm_num) hq hk hv hg ho H.out k' d'
    unfold pr ms mword fdiv at e
    generalize (∑ r ∈ range 256, dscore Q K V G (1280 + r) k'.val * Q (1280 + r) d'.val) = R at e ⊢
    clear hk' hd' hk2 hd2
    pointwise [k0_pay81, k0_pay80, kernelRun0_A.sl.v551, k0_pay79, k0_pay76, k0_pay78, k0_pay77, k0_pay87, k0_pay85, k0_pay82, k0_pay84, k0_pay83, k0_pay88]
    dsimp only at e
    exact congrArg₂ (· + ·) (ha k' d') e
  · rename_i h
    refine (dk5 c arg1 harg1 arg2 harg2 arg3 harg3 arg4 harg4 arg5 harg5 arg6 harg6 arg11 arg12 x0 x1 x2 x3 x4 x5 Q K V O G H k d).trans ?_
    rw [dkUpto_skip (n := 1536) (c := 1280) rfl rfl _ _ _ _ (by omega)]

theorem dv6 (k : Fin 2048) (d : Fin 128) :
    View.canon (kernelRun0_A.sl.HS2_7 (F := Ideal) c arg1 harg1 arg2 harg2 arg4 harg4 arg6 harg6 arg11 arg13 x0 x1 x3 x5) (ix2 k d)
      = ((dvUpto Q K G 1536 k.val d.val : ℝ) : EReal) := by
  unfold kernelRun0_A.sl.HS2_7
  refine (canon_block _ _ _ k d).trans ?_
  split
  · rename_i h
    have ha : ∀ (k : Fin 1536) (d : Fin 128), kernelRun0_A.sl.v611 (F := Ideal) c arg1 harg1 arg2 harg2 arg4 harg4 arg6 harg6 arg11 arg13 x0 x1 x3 x5 (ix2 k d) = ((dvUpto Q K G 1280 k.val d.val : ℝ) : EReal) := by
      intro k d
      unfold kernelRun0_A.sl.v611
      refine (readCov_block arg13.view _ _ _ _).trans ((dv5 c arg1 harg1 arg2 harg2 arg4 harg4 arg6 harg6 arg11 arg13 x0 x1 x2 x3 x4 x5 Q K V O G H _ _).trans ?_)
      simp only [Nat.zero_add]
    generalize kernelRun0_A.sl.v611 (F := Ideal) c arg1 harg1 arg2 harg2 arg4 harg4 arg6 harg6 arg11 arg13 x0 x1 x3 x5 = acc at ha ⊢
    unfold kernelRun0_A.sl.r_30 kernelRun0_A.sl.r_29 kernelRun0_A.sl.r_28 kernelRun0_A.sl.r_26
    have hq := lq5 arg1 harg1 x0 x1 x2 x3 x4 x5 Q K V O G H
    have hk := lk5 c arg2 harg2 arg4 harg4 arg11 x0 x1 x2 x3 x4 x5 Q K V O G H
    have hg := lg5 arg6 harg6 x0 x1 x2 x3 x4 x5 Q K V O G H
    generalize View.readAt (Elt Ideal) arg1.view (Rect.unit (s := S2048x256) ![1280, 0] S256x256.size inb_S2048x256_S256x256_1280_0).toLoadRect (harg1.unread x0) = q at hq ⊢
    generalize kernelRun0_A.sl.v520 (F := Ideal) c arg2 harg2 arg4 harg4 arg11 x1 x3 = kk at hk ⊢
    generalize View.readAt (Elt Ideal) arg6.view (Rect.unit (s := S2048x128) ![1280, 0] S256x128.size inb_S2048x128_S256x128_1280_0).toLoadRect (harg6.unread x5) = g at hg ⊢
    obtain ⟨k', hk'⟩ : ∃ k' : Fin 1536, k' = ⟨k.val - 0, by omega⟩ := ⟨_, rfl⟩
    obtain ⟨d', hd'⟩ : ∃ d' : Fin 128, d' = ⟨d.val - 0, by omega⟩ := ⟨_, rfl⟩
    have hk2 : k.val = k'.val := by rw [hk']; rfl
    have hd2 : d.val = d'.val := by rw [hd']; rfl
    rw [← hk', ← hd', hk2, hd2, ← dvUpto_step (n := 1536) (c := 1280) rfl]
    have e := dv_eq (n := 1536) (c := 1280) rfl rfl (by norm_num) hq hk hg k' d'
    unfold pr ms mword fdiv at e
    generalize (∑ r ∈ range 256, prob Q K (1280 + r) k'.val * G (1280 + r) d'.val) = R at e ⊢
    clear hk' hd' hk2 hd2
    pointwise [k0_pay84, k0_pay83, k0_pay81, k0_pay80, kernelRun0_A.sl.v551, k0_pay79, k0_pay76, k0_pay78, k0_pay82, k0_pay89]
    dsimp only at e
    exact congrArg₂ (· + ·) (ha k' d') e
  · rename_i h
    refine (dv5 c arg1 harg1 arg2 harg2 arg4 harg4 arg6 harg6 arg11 arg13 x0 x1 x2 x3 x4 x5 Q K V O G H k d).trans ?_
    rw [dvUpto_skip (n := 1536) (c := 1280) rfl rfl _ _ _ (by omega)]

theorem lq6 (r d : Fin 256) :
    View.readAt (Elt Ideal) arg1.view (Rect.unit (s := S2048x256) ![1536, 0] S256x256.size inb_S2048x256_S256x256_1536_0).toLoadRect (harg1.unread x0) (ix2 r d)
      = ((Q (1536 + r.val) d.val : ℝ) : EReal) := by
  refine (readAt_block arg1 harg1 x0 _ r d).trans ((H.q _ _).trans ?_)
  simp only [Nat.zero_add]

theorem lg6 (r : Fin 256) (d : Fin 128) :
    View.readAt (Elt Ideal) arg6.view (Rect.unit (s := S2048x128) ![1536, 0] S256x128.size inb_S2048x128_S256x128_1536_0).toLoadRect (harg6.unread x5) (ix2 r d)
      = ((G (1536 + r.val) d.val : ℝ) : EReal) := by
  refine (readAt_block arg6 harg6 x5 _ r d).trans ((H.g _ _).trans ?_)
  simp only [Nat.zero_add]

theorem lo6 (r : Fin 256) (d : Fin 128) :
    View.readAt (Elt Ideal) arg5.view (Rect.unit (s := S2048x128) ![1536, 0] S256x128.size inb_S2048x128_S256x128_1536_0).toLoadRect (harg5.unread x4) (ix2 r d)
      = ((O (1536 + r.val) d.val : ℝ) : EReal) := by
  refine (readAt_block arg5 harg5 x4 _ r d).trans ((H.o _ _).trans ?_)
  simp only [Nat.zero_add]

theorem lv6 (k : Fin 1792) (d : Fin 128) :
    View.readAt (Elt Ideal) arg3.view (Rect.unit (s := S2048x128) ![0, 0] S1792x128.size inb_S2048x128_S1792x128_0_0).toLoadRect (harg3.unread x2) (ix2 k d)
      = ((V k.val d.val : ℝ) : EReal) := by
  refine (readAt_block arg3 harg3 x2 _ k d).trans ((H.v _ _).trans ?_)
  simp only [Nat.zero_add]

theorem lk6 (k : Fin 1792) (d : Fin 256) :
    kernelRun0_A.sl.v620 (F := Ideal) c arg2 harg2 arg4 harg4 arg11 x1 x3 (ix2 k d) = ((K k.val d.val : ℝ) : EReal) := by
  unfold kernelRun0_A.sl.v620
  refine (readCov_block arg11.view _ _ k d).trans ((keys c arg2 harg2 arg4 harg4 x0 x1 x2 x3 x4 x5 Q K V O G H _ _).trans ?_)
  simp only [Nat.zero_add]

theorem dk7 (k : Fin 2048) (d : Fin 256) :
    View.canon (kernelRun0_A.sl.HS1_8 (F := Ideal) c arg1 harg1 arg2 harg2 arg3 harg3 arg4 harg4 arg5 harg5 arg6 harg6 arg11 arg12 x0 x1 x2 x3 x4 x5) (ix2 k d)
      = ((dkUpto Q K V G 1792 k.val d.val : ℝ) : EReal) := by
  unfold kernelRun0_A.sl.HS1_8
  refine (canon_block _ _ _ k d).trans ?_
  split
  · rename_i h
    have ha : ∀ (k : Fin 1792) (d : Fin 256), kernelRun0_A.sl.v705 (F := Ideal) c arg1 harg1 arg2 harg2 arg3 harg3 arg4 harg4 arg5 harg5 arg6 harg6 arg11 arg12 x0 x1 x2 x3 x4 x5 (ix2 k d) = ((dkUpto Q K V G 1536 k.val d.val : ℝ) : EReal) := by
      intro k d
      unfold kernelRun0_A.sl.v705
      refine (readCov_block arg12.view _ _ _ _).trans ((dk6 c arg1 harg1 arg2 harg2 arg3 harg3 arg4 harg4 arg5 harg5 arg6 harg6 arg11 arg12 x0 x1 x2 x3 x4 x5 Q K V O G H _ _).trans ?_)
      simp only [Nat.zero_add]
    generalize kernelRun0_A.sl.v705 (F := Ideal) c arg1 harg1 arg2 harg2 arg3 harg3 arg4 harg4 arg5 harg5 arg6 harg6 arg11 arg12 x0 x1 x2 x3 x4 x5 = acc at ha ⊢
    unfold kernelRun0_A.sl.r_36 kernelRun0_A.sl.r_35 kernelRun0_A.sl.r_34 kernelRun0_A.sl.r_33 kernelRun0_A.sl.r_32
    have hq := lq6 arg1 harg1 x0 x1 x2 x3 x4 x5 Q K V O G H
    have hk := lk6 c arg2 harg2 arg4 harg4 arg11 x0 x1 x2 x3 x4 x5 Q K V O G H
    have hv := lv6 arg3 harg3 x0 x1 x2 x3 x4 x5 Q K V O G H
    have ho := lo6 arg5 harg5 x0 x1 x2 x3 x4 x5 Q K V O G H
    have hg := lg6 arg6 harg6 x0 x1 x2 x3 x4 x5 Q K V O G H
    generalize View.readAt (Elt Ideal) arg1.view (Rect.unit (s := S2048x256) ![1536, 0] S256x256.size inb_S2048x256_S256x256_1536_0).toLoadRect (harg1.unread x0) = q at hq ⊢
    generalize kernelRun0_A.sl.v620 (F := Ideal) c arg2 harg2 arg4 harg4 arg11 x1 x3 = kk at hk ⊢
    generalize View.readAt (Elt Ideal) arg3.view (Rect.unit (s := S2048x128) ![0, 0] S1792x128.size inb_S2048x128_S1792x128_0_0).toLoadRect (harg3.unread x2) = v at hv ⊢
    generalize View.readAt (Elt Ideal) arg5.view (Rect.unit (s := S2048x128) ![1536, 0] S256x128.size inb_S2048x128_S256x128_1536_0).toLoadRect (harg5.unread x4) = o at ho ⊢
    generalize View.readAt (Elt Ideal) arg6.view (Rect.unit (s := S2048x128) ![1536, 0] S256x128.size inb_S2048x128_S256x128_1536_0).toLoadRect (harg6.unread x5) = g at hg ⊢
    obtain ⟨k', hk'⟩ : ∃ k' : Fin 1792, k' = ⟨k.val - 0, by omega⟩ := ⟨_, rfl⟩
    obtain ⟨d', hd'⟩ : ∃ d' : Fin 256, d' = ⟨d.val - 0, by omega⟩ := ⟨_, rfl⟩
    have hk2 : k.val = k'.val := by rw [hk']; rfl
    have hd2 : d.val = d'.val := by rw [hd']; rfl
    rw [← hk', ← hd', hk2, hd2, ← dkUpto_step (n := 1792) (c := 1536) rfl]
    have e := dk_eq (n := 1792) (c := 1536) rfl rfl (by norm_num) hq hk hv hg ho H.out k' d'
    unfold pr ms mword fdiv at e
    generalize (∑ r ∈ range 256, dscore Q K V G (1536 + r) k'.val * Q (1536 + r) d'.val) = R at e ⊢
    clear hk' hd' hk2 hd2
    pointwise [k0_pay98, k0_pay96, k0_pay93, k0_pay95, k0_pay94, k0_pay92, k0_pay90, k0_pay97, k0_pay91, k0_pay102, k0_pay100, k0_pay99]
    dsimp only at e
    exact congrArg₂ (· + ·) (ha k' d') e
  · rename_i h
    refine (dk6 c arg1 harg1 arg2 harg2 arg3 harg3 arg4 harg4 arg5 harg5 arg6 harg6 arg11 arg12 x0 x1 x2 x3 x4 x5 Q K V O G H k d).trans ?_
    rw [dkUpto_skip (n := 1792) (c := 1536) rfl rfl _ _ _ _ (by omega)]

theorem dv7 (k : Fin 2048) (d : Fin 128) :
    View.canon (kernelRun0_A.sl.HS2_8 (F := Ideal) c arg1 harg1 arg2 harg2 arg4 harg4 arg6 harg6 arg11 arg13 x0 x1 x3 x5) (ix2 k d)
      = ((dvUpto Q K G 1792 k.val d.val : ℝ) : EReal) := by
  unfold kernelRun0_A.sl.HS2_8
  refine (canon_block _ _ _ k d).trans ?_
  split
  · rename_i h
    have ha : ∀ (k : Fin 1792) (d : Fin 128), kernelRun0_A.sl.v711 (F := Ideal) c arg1 harg1 arg2 harg2 arg4 harg4 arg6 harg6 arg11 arg13 x0 x1 x3 x5 (ix2 k d) = ((dvUpto Q K G 1536 k.val d.val : ℝ) : EReal) := by
      intro k d
      unfold kernelRun0_A.sl.v711
      refine (readCov_block arg13.view _ _ _ _).trans ((dv6 c arg1 harg1 arg2 harg2 arg4 harg4 arg6 harg6 arg11 arg13 x0 x1 x2 x3 x4 x5 Q K V O G H _ _).trans ?_)
      simp only [Nat.zero_add]
    generalize kernelRun0_A.sl.v711 (F := Ideal) c arg1 harg1 arg2 harg2 arg4 harg4 arg6 harg6 arg11 arg13 x0 x1 x3 x5 = acc at ha ⊢
    unfold kernelRun0_A.sl.r_36 kernelRun0_A.sl.r_35 kernelRun0_A.sl.r_34
    have hq := lq6 arg1 harg1 x0 x1 x2 x3 x4 x5 Q K V O G H
    have hk := lk6 c arg2 harg2 arg4 harg4 arg11 x0 x1 x2 x3 x4 x5 Q K V O G H
    have hg := lg6 arg6 harg6 x0 x1 x2 x3 x4 x5 Q K V O G H
    generalize View.readAt (Elt Ideal) arg1.view (Rect.unit (s := S2048x256) ![1536, 0] S256x256.size inb_S2048x256_S256x256_1536_0).toLoadRect (harg1.unread x0) = q at hq ⊢
    generalize kernelRun0_A.sl.v620 (F := Ideal) c arg2 harg2 arg4 harg4 arg11 x1 x3 = kk at hk ⊢
    generalize View.readAt (Elt Ideal) arg6.view (Rect.unit (s := S2048x128) ![1536, 0] S256x128.size inb_S2048x128_S256x128_1536_0).toLoadRect (harg6.unread x5) = g at hg ⊢
    obtain ⟨k', hk'⟩ : ∃ k' : Fin 1792, k' = ⟨k.val - 0, by omega⟩ := ⟨_, rfl⟩
    obtain ⟨d', hd'⟩ : ∃ d' : Fin 128, d' = ⟨d.val - 0, by omega⟩ := ⟨_, rfl⟩
    have hk2 : k.val = k'.val := by rw [hk']; rfl
    have hd2 : d.val = d'.val := by rw [hd']; rfl
    rw [← hk', ← hd', hk2, hd2, ← dvUpto_step (n := 1792) (c := 1536) rfl]
    have e := dv_eq (n := 1792) (c := 1536) rfl rfl (by norm_num) hq hk hg k' d'
    unfold pr ms mword fdiv at e
    generalize (∑ r ∈ range 256, prob Q K (1536 + r) k'.val * G (1536 + r) d'.val) = R at e ⊢
    clear hk' hd' hk2 hd2
    pointwise [k0_pay98, k0_pay96, k0_pay93, k0_pay95, k0_pay94, k0_pay92, k0_pay90, k0_pay97, k0_pay103, k0_pay99]
    dsimp only at e
    exact congrArg₂ (· + ·) (ha k' d') e
  · rename_i h
    refine (dv6 c arg1 harg1 arg2 harg2 arg4 harg4 arg6 harg6 arg11 arg13 x0 x1 x2 x3 x4 x5 Q K V O G H k d).trans ?_
    rw [dvUpto_skip (n := 1792) (c := 1536) rfl rfl _ _ _ (by omega)]

theorem lq7 (r d : Fin 256) :
    View.readAt (Elt Ideal) arg1.view (Rect.unit (s := S2048x256) ![1792, 0] S256x256.size inb_S2048x256_S256x256_1792_0).toLoadRect (harg1.unread x0) (ix2 r d)
      = ((Q (1792 + r.val) d.val : ℝ) : EReal) := by
  refine (readAt_block arg1 harg1 x0 _ r d).trans ((H.q _ _).trans ?_)
  simp only [Nat.zero_add]

theorem lg7 (r : Fin 256) (d : Fin 128) :
    View.readAt (Elt Ideal) arg6.view (Rect.unit (s := S2048x128) ![1792, 0] S256x128.size inb_S2048x128_S256x128_1792_0).toLoadRect (harg6.unread x5) (ix2 r d)
      = ((G (1792 + r.val) d.val : ℝ) : EReal) := by
  refine (readAt_block arg6 harg6 x5 _ r d).trans ((H.g _ _).trans ?_)
  simp only [Nat.zero_add]

theorem lo7 (r : Fin 256) (d : Fin 128) :
    View.readAt (Elt Ideal) arg5.view (Rect.unit (s := S2048x128) ![1792, 0] S256x128.size inb_S2048x128_S256x128_1792_0).toLoadRect (harg5.unread x4) (ix2 r d)
      = ((O (1792 + r.val) d.val : ℝ) : EReal) := by
  refine (readAt_block arg5 harg5 x4 _ r d).trans ((H.o _ _).trans ?_)
  simp only [Nat.zero_add]

theorem lv7 (k : Fin 2048) (d : Fin 128) :
    View.readAt (Elt Ideal) arg3.view (Rect.unit (s := S2048x128) ![0, 0] S2048x128.size inb_S2048x128_S2048x128_0_0).toLoadRect (harg3.unread x2) (ix2 k d)
      = ((V k.val d.val : ℝ) : EReal) := by
  refine (readAt_block arg3 harg3 x2 _ k d).trans ((H.v _ _).trans ?_)
  simp only [Nat.zero_add]

theorem lk7 (k : Fin 2048) (d : Fin 256) :
    kernelRun0_A.sl.v720 (F := Ideal) c arg2 harg2 arg4 harg4 arg11 x1 x3 (ix2 k d) = ((K k.val d.val : ℝ) : EReal) := by
  unfold kernelRun0_A.sl.v720
  refine (readCov_block arg11.view _ _ k d).trans ((keys c arg2 harg2 arg4 harg4 x0 x1 x2 x3 x4 x5 Q K V O G H _ _).trans ?_)
  simp only [Nat.zero_add]

theorem dk8 (k : Fin 2048) (d : Fin 256) :
    View.canon (kernelRun0_A.sl.HS1_9 (F := Ideal) c arg1 harg1 arg2 harg2 arg3 harg3 arg4 harg4 arg5 harg5 arg6 harg6 arg11 arg12 x0 x1 x2 x3 x4 x5) (ix2 k d)
      = ((dkUpto Q K V G 2048 k.val d.val : ℝ) : EReal) := by
  unfold kernelRun0_A.sl.HS1_9
  refine (canon_block _ _ _ k d).trans ?_
  split
  · rename_i h
    have ha : ∀ (k : Fin 2048) (d : Fin 256), kernelRun0_A.sl.v805 (F := Ideal) c arg1 harg1 arg2 harg2 arg3 harg3 arg4 harg4 arg5 harg5 arg6 harg6 arg11 arg12 x0 x1 x2 x3 x4 x5 (ix2 k d) = ((dkUpto Q K V G 1792 k.val d.val : ℝ) : EReal) := by
      intro k d
      unfold kernelRun0_A.sl.v805
      refine (readCov_block arg12.view _ _ _ _).trans ((dk7 c arg1 harg1 arg2 harg2 arg3 harg3 arg4 harg4 arg5 harg5 arg6 harg6 arg11 arg12 x0 x1 x2 x3 x4 x5 Q K V O G H _ _).trans ?_)
      simp only [Nat.zero_add]
    generalize kernelRun0_A.sl.v805 (F := Ideal) c arg1 harg1 arg2 harg2 arg3 harg3 arg4 harg4 arg5 harg5 arg6 harg6 arg11 arg12 x0 x1 x2 x3 x4 x5 = acc at ha ⊢
    unfold kernelRun0_A.sl.r_39 kernelRun0_A.sl.r_38 kernelRun0_A.sl.r_37
    have hq := lq7 arg1 harg1 x0 x1 x2 x3 x4 x5 Q K V O G H
    have hk := lk7 c arg2 harg2 arg4 harg4 arg11 x0 x1 x2 x3 x4 x5 Q K V O G H
    have hv := lv7 arg3 harg3 x0 x1 x2 x3 x4 x5 Q K V O G H
    have ho := lo7 arg5 harg5 x0 x1 x2 x3 x4 x5 Q K V O G H
    have hg := lg7 arg6 harg6 x0 x1 x2 x3 x4 x5 Q K V O G H
    generalize View.readAt (Elt Ideal) arg1.view (Rect.unit (s := S2048x256) ![1792, 0] S256x256.size inb_S2048x256_S256x256_1792_0).toLoadRect (harg1.unread x0) = q at hq ⊢
    generalize kernelRun0_A.sl.v720 (F := Ideal) c arg2 harg2 arg4 harg4 arg11 x1 x3 = kk at hk ⊢
    generalize View.readAt (Elt Ideal) arg3.view (Rect.unit (s := S2048x128) ![0, 0] S2048x128.size inb_S2048x128_S2048x128_0_0).toLoadRect (harg3.unread x2) = v at hv ⊢
    generalize View.readAt (Elt Ideal) arg5.view (Rect.unit (s := S2048x128) ![1792, 0] S256x128.size inb_S2048x128_S256x128_1792_0).toLoadRect (harg5.unread x4) = o at ho ⊢
    generalize View.readAt (Elt Ideal) arg6.view (Rect.unit (s := S2048x128) ![1792, 0] S256x128.size inb_S2048x128_S256x128_1792_0).toLoadRect (harg6.unread x5) = g at hg ⊢
    obtain ⟨k', hk'⟩ : ∃ k' : Fin 2048, k' = ⟨k.val - 0, by omega⟩ := ⟨_, rfl⟩
    obtain ⟨d', hd'⟩ : ∃ d' : Fin 256, d' = ⟨d.val - 0, by omega⟩ := ⟨_, rfl⟩
    have hk2 : k.val = k'.val := by rw [hk']; rfl
    have hd2 : d.val = d'.val := by rw [hd']; rfl
    rw [← hk', ← hd', hk2, hd2, ← dkUpto_step (n := 2048) (c := 1792) rfl]
    have e := dk_eq (n := 2048) (c := 1792) rfl rfl (by norm_num) hq hk hv hg ho H.out k' d'
    unfold pr ms mword fdiv at e
    generalize (∑ r ∈ range 256, dscore Q K V G (1792 + r) k'.val * Q (1792 + r) d'.val) = R at e ⊢
    clear hk' hd' hk2 hd2
    pointwise [kernelRun0_A.sl.v729, kernelRun0_A.sl.v727, kernelRun0_A.sl.v751, kernelRun0_A.sl.v767, kernelRun0_A.sl.v741, kernelRun0_A.sl.v759, kernelRun0_A.sl.v756, kernelRun0_A.sl.v750, kernelRun0_A.sl.v728, kernelRun0_A.sl.v724, kernelRun0_A.sl.v725, kernelRun0_A.sl.v747, kernelRun0_A.sl.v744, kernelRun0_A.sl.v742, kernelRun0_A.sl.v734, kernelRun0_A.sl.v733, kernelRun0_A.sl.v731, kernelRun0_A.sl.v730, k0_pay106, k0_pay104, k0_pay105, k0_pay117, k0_pay115, k0_pay112, k0_pay114, k0_pay113]
    dsimp only at e
    exact congrArg₂ (· + ·) (ha k' d') e
  · rename_i h
    refine (dk7 c arg1 harg1 arg2 harg2 arg3 harg3 arg4 harg4 arg5 harg5 arg6 harg6 arg11 arg12 x0 x1 x2 x3 x4 x5 Q K V O G H k d).trans ?_
    rw [dkUpto_skip (n := 2048) (c := 1792) rfl rfl _ _ _ _ (by omega)]

theorem dv8 (k : Fin 2048) (d : Fin 128) :
    View.canon (kernelRun0_A.sl.HS2_9 (F := Ideal) c arg1 harg1 arg2 harg2 arg4 harg4 arg6 harg6 arg11 arg13 x0 x1 x3 x5) (ix2 k d)
      = ((dvUpto Q K G 2048 k.val d.val : ℝ) : EReal) := by
  unfold kernelRun0_A.sl.HS2_9
  refine (canon_block _ _ _ k d).trans ?_
  split
  · rename_i h
    have ha : ∀ (k : Fin 2048) (d : Fin 128), kernelRun0_A.sl.v811 (F := Ideal) c arg1 harg1 arg2 harg2 arg4 harg4 arg6 harg6 arg11 arg13 x0 x1 x3 x5 (ix2 k d) = ((dvUpto Q K G 1792 k.val d.val : ℝ) : EReal) := by
      intro k d
      unfold kernelRun0_A.sl.v811
      refine (readCov_block arg13.view _ _ _ _).trans ((dv7 c arg1 harg1 arg2 harg2 arg4 harg4 arg6 harg6 arg11 arg13 x0 x1 x2 x3 x4 x5 Q K V O G H _ _).trans ?_)
      simp only [Nat.zero_add]
    generalize kernelRun0_A.sl.v811 (F := Ideal) c arg1 harg1 arg2 harg2 arg4 harg4 arg6 harg6 arg11 arg13 x0 x1 x3 x5 = acc at ha ⊢
    unfold kernelRun0_A.sl.r_41 kernelRun0_A.sl.r_40 kernelRun0_A.sl.r_39
    have hq := lq7 arg1 harg1 x0 x1 x2 x3 x4 x5 Q K V O G H
    have hk := lk7 c arg2 harg2 arg4 harg4 arg11 x0 x1 x2 x3 x4 x5 Q K V O G H
    have hg := lg7 arg6 harg6 x0 x1 x2 x3 x4 x5 Q K V O G H
    generalize View.readAt (Elt Ideal) arg1.view (Rect.unit (s := S2048x256) ![1792, 0] S256x256.size inb_S2048x256_S256x256_1792_0).toLoadRect (harg1.unread x0) = q at hq ⊢
    generalize kernelRun0_A.sl.v720 (F := Ideal) c arg2 harg2 arg4 harg4 arg11 x1 x3 = kk at hk ⊢
    generalize View.readAt (Elt Ideal) arg6.view (Rect.unit (s := S2048x128) ![1792, 0] S256x128.size inb_S2048x128_S256x128_1792_0).toLoadRect (harg6.unread x5) = g at hg ⊢
    obtain ⟨k', hk'⟩ : ∃ k' : Fin 2048, k' = ⟨k.val - 0, by omega⟩ := ⟨_, rfl⟩
    obtain ⟨d', hd'⟩ : ∃ d' : Fin 128, d' = ⟨d.val - 0, by omega⟩ := ⟨_, rfl⟩
    have hk2 : k.val = k'.val := by rw [hk']; rfl
    have hd2 : d.val = d'.val := by rw [hd']; rfl
    rw [← hk', ← hd', hk2, hd2, ← dvUpto_step (n := 2048) (c := 1792) rfl]
    have e := dv_eq (n := 2048) (c := 1792) rfl rfl (by norm_num) hq hk hg k' d'
    unfold pr ms mword fdiv at e
    generalize (∑ r ∈ range 256, prob Q K (1792 + r) k'.val * G (1792 + r) d'.val) = R at e ⊢
    clear hk' hd' hk2 hd2
    pointwise [k0_pay114, k0_pay113, kernelRun0_A.sl.v729, kernelRun0_A.sl.v727, kernelRun0_A.sl.v751, kernelRun0_A.sl.v767, kernelRun0_A.sl.v741, kernelRun0_A.sl.v759, kernelRun0_A.sl.v756, kernelRun0_A.sl.v750, kernelRun0_A.sl.v728, kernelRun0_A.sl.v724, kernelRun0_A.sl.v725, kernelRun0_A.sl.v747, kernelRun0_A.sl.v744, kernelRun0_A.sl.v742, kernelRun0_A.sl.v734, kernelRun0_A.sl.v733, kernelRun0_A.sl.v731, kernelRun0_A.sl.v730, k0_pay106, k0_pay104, k0_pay112, k0_pay118]
    dsimp only at e
    exact congrArg₂ (· + ·) (ha k' d') e
  · rename_i h
    refine (dv7 c arg1 harg1 arg2 harg2 arg4 harg4 arg6 harg6 arg11 arg13 x0 x1 x2 x3 x4 x5 Q K V O G H k d).trans ?_
    rw [dvUpto_skip (n := 2048) (c := 1792) rfl rfl _ _ _ (by omega)]

theorem out_dq (i : grid0.Coords) (r : Fin 2048) (d : Fin 256) :
    out0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix2 r d)
      = ((∑ k ∈ range 2048, dscore Q K V G r.val k * K k d.val : ℝ) : EReal) := by
  unfold out0_A_6 kernelRun0_A
  dsimp only
  rw [View.read_writes_junk_eq_canon]
  refine (canon_block _ _ _ r d).trans ?_
  split
  · rename_i h
    simp only [kernelRun0_A.sl.r_39, kernelRun0_A.sl.r_38, kernelRun0_A.sl.r_37]
    have hq := lq7 arg1 harg1 x0 x1 x2 x3 x4 x5 Q K V O G H
    have hk := lk7 c arg2 harg2 arg4 harg4 arg11 x0 x1 x2 x3 x4 x5 Q K V O G H
    have hv := lv7 arg3 harg3 x0 x1 x2 x3 x4 x5 Q K V O G H
    have ho := lo7 arg5 harg5 x0 x1 x2 x3 x4 x5 Q K V O G H
    have hg := lg7 arg6 harg6 x0 x1 x2 x3 x4 x5 Q K V O G H
    generalize View.readAt (Elt Ideal) arg1.view (Rect.unit (s := S2048x256) ![1792, 0] S256x256.size inb_S2048x256_S256x256_1792_0).toLoadRect (harg1.unread x0) = q at hq ⊢
    generalize kernelRun0_A.sl.v720 (F := Ideal) c arg2 harg2 arg4 harg4 arg11 x1 x3 = kk at hk ⊢
    generalize View.readAt (Elt Ideal) arg3.view (Rect.unit (s := S2048x128) ![0, 0] S2048x128.size inb_S2048x128_S2048x128_0_0).toLoadRect (harg3.unread x2) = v at hv ⊢
    generalize View.readAt (Elt Ideal) arg5.view (Rect.unit (s := S2048x128) ![1792, 0] S256x128.size inb_S2048x128_S256x128_1792_0).toLoadRect (harg5.unread x4) = o at ho ⊢
    generalize View.readAt (Elt Ideal) arg6.view (Rect.unit (s := S2048x128) ![1792, 0] S256x128.size inb_S2048x128_S256x128_1792_0).toLoadRect (harg6.unread x5) = g at hg ⊢
    obtain ⟨r', hr'⟩ : ∃ r' : Fin 256, r' = ⟨r.val - 1792, by omega⟩ := ⟨_, rfl⟩
    obtain ⟨d', hd'⟩ : ∃ d' : Fin 256, d' = ⟨d.val - 0, by omega⟩ := ⟨_, rfl⟩
    have hr2 : r.val = 1792 + r'.val := by rw [hr']; dsimp only; omega
    have hd2 : d.val = d'.val := by rw [hd']; rfl
    rw [← hr', ← hd', hr2, hd2]
    have e := dq_eq (n := 2048) (c := 1792) rfl rfl (by norm_num) hq hk hv hg ho H.out r' d'
    unfold pr ms mword fdiv at e
    dsimp only at e
    generalize (∑ k ∈ range 2048, dscore Q K V G (1792 + r'.val) k * K k d'.val) = R at e ⊢
    clear hr' hd' hr2 hd2 h
    pointwise [k0_pay116, k0_pay115, k0_pay112, k0_pay114, k0_pay113, kernelRun0_A.sl.v729, kernelRun0_A.sl.v727, kernelRun0_A.sl.v751, kernelRun0_A.sl.v767, kernelRun0_A.sl.v741, kernelRun0_A.sl.v759, kernelRun0_A.sl.v756, kernelRun0_A.sl.v750, kernelRun0_A.sl.v728, kernelRun0_A.sl.v724, kernelRun0_A.sl.v725, kernelRun0_A.sl.v747, kernelRun0_A.sl.v744, kernelRun0_A.sl.v742, kernelRun0_A.sl.v734, kernelRun0_A.sl.v733, kernelRun0_A.sl.v731, kernelRun0_A.sl.v730, k0_pay106, k0_pay104, k0_pay105, k0_pay117]
    exact e
  refine (canon_block _ _ _ r d).trans ?_
  split
  · rename_i h
    simp only [kernelRun0_A.sl.r_36, kernelRun0_A.sl.r_35, kernelRun0_A.sl.r_34, kernelRun0_A.sl.r_33, kernelRun0_A.sl.r_32]
    have hq := lq6 arg1 harg1 x0 x1 x2 x3 x4 x5 Q K V O G H
    have hk := lk6 c arg2 harg2 arg4 harg4 arg11 x0 x1 x2 x3 x4 x5 Q K V O G H
    have hv := lv6 arg3 harg3 x0 x1 x2 x3 x4 x5 Q K V O G H
    have ho := lo6 arg5 harg5 x0 x1 x2 x3 x4 x5 Q K V O G H
    have hg := lg6 arg6 harg6 x0 x1 x2 x3 x4 x5 Q K V O G H
    generalize View.readAt (Elt Ideal) arg1.view (Rect.unit (s := S2048x256) ![1536, 0] S256x256.size inb_S2048x256_S256x256_1536_0).toLoadRect (harg1.unread x0) = q at hq ⊢
    generalize kernelRun0_A.sl.v620 (F := Ideal) c arg2 harg2 arg4 harg4 arg11 x1 x3 = kk at hk ⊢
    generalize View.readAt (Elt Ideal) arg3.view (Rect.unit (s := S2048x128) ![0, 0] S1792x128.size inb_S2048x128_S1792x128_0_0).toLoadRect (harg3.unread x2) = v at hv ⊢
    generalize View.readAt (Elt Ideal) arg5.view (Rect.unit (s := S2048x128) ![1536, 0] S256x128.size inb_S2048x128_S256x128_1536_0).toLoadRect (harg5.unread x4) = o at ho ⊢
    generalize View.readAt (Elt Ideal) arg6.view (Rect.unit (s := S2048x128) ![1536, 0] S256x128.size inb_S2048x128_S256x128_1536_0).toLoadRect (harg6.unread x5) = g at hg ⊢
    obtain ⟨r', hr'⟩ : ∃ r' : Fin 256, r' = ⟨r.val - 1536, by omega⟩ := ⟨_, rfl⟩
    obtain ⟨d', hd'⟩ : ∃ d' : Fin 256, d' = ⟨d.val - 0, by omega⟩ := ⟨_, rfl⟩
    have hr2 : r.val = 1536 + r'.val := by rw [hr']; dsimp only; omega
    have hd2 : d.val = d'.val := by rw [hd']; rfl
    rw [← hr', ← hd', hr2, hd2]
    have e := dq_eq (n := 1792) (c := 1536) rfl rfl (by norm_num) hq hk hv hg ho H.out r' d'
    unfold pr ms mword fdiv at e
    dsimp only at e
    generalize (∑ k ∈ range 2048, dscore Q K V G (1536 + r'.val) k * K k d'.val) = R at e ⊢
    clear hr' hd' hr2 hd2 h
    pointwise [k0_pay101, k0_pay100, k0_pay99, k0_pay98, k0_pay96, k0_pay93, k0_pay95, k0_pay94, k0_pay92, k0_pay90, k0_pay97, k0_pay91, k0_pay102]
    exact e
  refine (canon_block _ _ _ r d).trans ?_
  split
  · rename_i h
    simp only [kernelRun0_A.sl.r_31, kernelRun0_A.sl.r_28, kernelRun0_A.sl.r_26, kernelRun0_A.sl.r_27]
    have hq := lq5 arg1 harg1 x0 x1 x2 x3 x4 x5 Q K V O G H
    have hk := lk5 c arg2 harg2 arg4 harg4 arg11 x0 x1 x2 x3 x4 x5 Q K V O G H
    have hv := lv5 arg3 harg3 x0 x1 x2 x3 x4 x5 Q K V O G H
    have ho := lo5 arg5 harg5 x0 x1 x2 x3 x4 x5 Q K V O G H
    have hg := lg5 arg6 harg6 x0 x1 x2 x3 x4 x5 Q K V O G H
    generalize View.readAt (Elt Ideal) arg1.view (Rect.unit (s := S2048x256) ![1280, 0] S256x256.size inb_S2048x256_S256x256_1280_0).toLoadRect (harg1.unread x0) = q at hq ⊢
    generalize kernelRun0_A.sl.v520 (F := Ideal) c arg2 harg2 arg4 harg4 arg11 x1 x3 = kk at hk ⊢
    generalize View.readAt (Elt Ideal) arg3.view (Rect.unit (s := S2048x128) ![0, 0] S1536x128.size inb_S2048x128_S1536x128_0_0).toLoadRect (harg3.unread x2) = v at hv ⊢
    generalize View.readAt (Elt Ideal) arg5.view (Rect.unit (s := S2048x128) ![1280, 0] S256x128.size inb_S2048x128_S256x128_1280_0).toLoadRect (harg5.unread x4) = o at ho ⊢
    generalize View.readAt (Elt Ideal) arg6.view (Rect.unit (s := S2048x128) ![1280, 0] S256x128.size inb_S2048x128_S256x128_1280_0).toLoadRect (harg6.unread x5) = g at hg ⊢
    obtain ⟨r', hr'⟩ : ∃ r' : Fin 256, r' = ⟨r.val - 1280, by omega⟩ := ⟨_, rfl⟩
    obtain ⟨d', hd'⟩ : ∃ d' : Fin 256, d' = ⟨d.val - 0, by omega⟩ := ⟨_, rfl⟩
    have hr2 : r.val = 1280 + r'.val := by rw [hr']; dsimp only; omega
    have hd2 : d.val = d'.val := by rw [hd']; rfl
    rw [← hr', ← hd', hr2, hd2]
    have e := dq_eq (n := 1536) (c := 1280) rfl rfl (by norm_num) hq hk hv hg ho H.out r' d'
    unfold pr ms mword fdiv at e
    dsimp only at e
    generalize (∑ k ∈ range 2048, dscore Q K V G (1280 + r'.val) k * K k d'.val) = R at e ⊢
    clear hr' hd' hr2 hd2 h
    pointwise [k0_pay86, k0_pay85, k0_pay82, k0_pay84, k0_pay83, k0_pay81, k0_pay80, kernelRun0_A.sl.v551, k0_pay79, k0_pay76, k0_pay78, k0_pay77, k0_pay87, k0_pay88]
    exact e
  refine (canon_block _ _ _ r d).trans ?_
  split
  · rename_i h
    simp only [kernelRun0_A.sl.r_25, kernelRun0_A.sl.r_24, kernelRun0_A.sl.r_23, kernelRun0_A.sl.r_22]
    have hq := lq4 arg1 harg1 x0 x1 x2 x3 x4 x5 Q K V O G H
    have hk := lk4 c arg2 harg2 arg4 harg4 arg11 x0 x1 x2 x3 x4 x5 Q K V O G H
    have hv := lv4 arg3 harg3 x0 x1 x2 x3 x4 x5 Q K V O G H
    have ho := lo4 arg5 harg5 x0 x1 x2 x3 x4 x5 Q K V O G H
    have hg := lg4 arg6 harg6 x0 x1 x2 x3 x4 x5 Q K V O G H
    generalize View.readAt (Elt Ideal) arg1.view (Rect.unit (s := S2048x256) ![1024, 0] S256x256.size inb_S2048x256_S256x256_1024_0).toLoadRect (harg1.unread x0) = q at hq ⊢
    generalize kernelRun0_A.sl.v420 (F := Ideal) c arg2 harg2 arg4 harg4 arg11 x1 x3 = kk at hk ⊢
    generalize View.readAt (Elt Ideal) arg3.view (Rect.unit (s := S2048x128) ![0, 0] S1280x128.size inb_S2048x128_S1280x128_0_0).toLoadRect (harg3.unread x2) = v at hv ⊢
    generalize View.readAt (Elt Ideal) arg5.view (Rect.unit (s := S2048x128) ![1024, 0] S256x128.size inb_S2048x128_S256x128_1024_0).toLoadRect (harg5.unread x4) = o at ho ⊢
    generalize View.readAt (Elt Ideal) arg6.view (Rect.unit (s := S2048x128) ![1024, 0] S256x128.size inb_S2048x128_S256x128_1024_0).toLoadRect (harg6.unread x5) = g at hg ⊢
    obtain ⟨r', hr'⟩ : ∃ r' : Fin 256, r' = ⟨r.val - 1024, by omega⟩ := ⟨_, rfl⟩
    obtain ⟨d', hd'⟩ : ∃ d' : Fin 256, d' = ⟨d.val - 0, by omega⟩ := ⟨_, rfl⟩
    have hr2 : r.val = 1024 + r'.val := by rw [hr']; dsimp only; omega
    have hd2 : d.val = d'.val := by rw [hd']; rfl
    rw [← hr', ← hd', hr2, hd2]
    have e := dq_eq (n := 1280) (c := 1024) rfl rfl (by norm_num) hq hk hv hg ho H.out r' d'
    unfold pr ms mword fdiv at e
    dsimp only at e
    generalize (∑ k ∈ range 2048, dscore Q K V G (1024 + r'.val) k * K k d'.val) = R at e ⊢
    clear hr' hd' hr2 hd2 h
    pointwise [k0_pay73, k0_pay72, k0_pay71, k0_pay70, k0_pay68, k0_pay66, k0_pay67, k0_pay65, k0_pay63, k0_pay69, k0_pay64, k0_pay74]
    exact e
  refine (canon_block _ _ _ r d).trans ?_
  split
  · rename_i h
    simp only [kernelRun0_A.sl.r_21, kernelRun0_A.sl.r_18, kernelRun0_A.sl.r_17, kernelRun0_A.sl.r_16]
    have hq := lq3 arg1 harg1 x0 x1 x2 x3 x4 x5 Q K V O G H
    have hk := lk3 c arg2 harg2 arg4 harg4 arg11 x0 x1 x2 x3 x4 x5 Q K V O G H
    have hv := lv3 arg3 harg3 x0 x1 x2 x3 x4 x5 Q K V O G H
    have ho := lo3 arg5 harg5 x0 x1 x2 x3 x4 x5 Q K V O G H
    have hg := lg3 arg6 harg6 x0 x1 x2 x3 x4 x5 Q K V O G H
    generalize View.readAt (Elt Ideal) arg1.view (Rect.unit (s := S2048x256) ![768, 0] S256x256.size inb_S2048x256_S256x256_768_0).toLoadRect (harg1.unread x0) = q at hq ⊢
    generalize kernelRun0_A.sl.v320 (F := Ideal) c arg2 harg2 arg4 harg4 arg11 x1 x3 = kk at hk ⊢
    generalize View.readAt (Elt Ideal) arg3.view (Rect.unit (s := S2048x128) ![0, 0] S1024x128.size inb_S2048x128_S1024x128_0_0).toLoadRect (harg3.unread x2) = v at hv ⊢
    generalize View.readAt (Elt Ideal) arg5.view (Rect.unit (s := S2048x128) ![768, 0] S256x128.size inb_S2048x128_S256x128_768_0).toLoadRect (harg5.unread x4) = o at ho ⊢
    generalize View.readAt (Elt Ideal) arg6.view (Rect.unit (s := S2048x128) ![768, 0] S256x128.size inb_S2048x128_S256x128_768_0).toLoadRect (harg6.unread x5) = g at hg ⊢
    obtain ⟨r', hr'⟩ : ∃ r' : Fin 256, r' = ⟨r.val - 768, by omega⟩ := ⟨_, rfl⟩
    obtain ⟨d', hd'⟩ : ∃ d' : Fin 256, d' = ⟨d.val - 0, by omega⟩ := ⟨_, rfl⟩
    have hr2 : r.val = 768 + r'.val := by rw [hr']; dsimp only; omega
    have hd2 : d.val = d'.val := by rw [hd']; rfl
    rw [← hr', ← hd', hr2, hd2]
    have e := dq_eq (n := 1024) (c := 768) rfl rfl (by norm_num) hq hk hv hg ho H.out r' d'
    unfold pr ms mword fdiv at e
    dsimp only at e
    generalize (∑ k ∈ range 2048, dscore Q K V G (768 + r'.val) k * K k d'.val) = R at e ⊢
    clear hr' hd' hr2 hd2 h
    pointwise [k0_pay60, k0_pay59, k0_pay56, k0_pay58, k0_pay57, k0_pay55, k0_pay54, kernelRun0_A.sl.v351, k0_pay53, k0_pay52, k0_pay50, k0_pay51, k0_pay61]
    exact e
  refine (canon_block _ _ _ r d).trans ?_
  split
  · rename_i h
    simp only [kernelRun0_A.sl.r_15, kernelRun0_A.sl.r_14, kernelRun0_A.sl.r_13, kernelRun0_A.sl.r_12]
    have hq := lq2 arg1 harg1 x0 x1 x2 x3 x4 x5 Q K V O G H
    have hk := lk2 c arg2 harg2 arg4 harg4 arg11 x0 x1 x2 x3 x4 x5 Q K V O G H
    have hv := lv2 arg3 harg3 x0 x1 x2 x3 x4 x5 Q K V O G H
    have ho := lo2 arg5 harg5 x0 x1 x2 x3 x4 x5 Q K V O G H
    have hg := lg2 arg6 harg6 x0 x1 x2 x3 x4 x5 Q K V O G H
    generalize View.readAt (Elt Ideal) arg1.view (Rect.unit (s := S2048x256) ![512, 0] S256x256.size inb_S2048x256_S256x256_512_0).toLoadRect (harg1.unread x0) = q at hq ⊢
    generalize kernelRun0_A.sl.v220 (F := Ideal) c arg2 harg2 arg4 harg4 arg11 x1 x3 = kk at hk ⊢
    generalize View.readAt (Elt Ideal) arg3.view (Rect.unit (s := S2048x128) ![0, 0] S768x128.size inb_S2048x128_S768x128_0_0).toLoadRect (harg3.unread x2) = v at hv ⊢
    generalize View.readAt (Elt Ideal) arg5.view (Rect.unit (s := S2048x128) ![512, 0] S256x128.size inb_S2048x128_S256x128_512_0).toLoadRect (harg5.unread x4) = o at ho ⊢
    generalize View.readAt (Elt Ideal) arg6.view (Rect.unit (s := S2048x128) ![512, 0] S256x128.size inb_S2048x128_S256x128_512_0).toLoadRect (harg6.unread x5) = g at hg ⊢
    obtain ⟨r', hr'⟩ : ∃ r' : Fin 256, r' = ⟨r.val - 512, by omega⟩ := ⟨_, rfl⟩
    obtain ⟨d', hd'⟩ : ∃ d' : Fin 256, d' = ⟨d.val - 0, by omega⟩ := ⟨_, rfl⟩
    have hr2 : r.val = 512 + r'.val := by rw [hr']; dsimp only; omega
    have hd2 : d.val = d'.val := by rw [hd']; rfl
    rw [← hr', ← hd', hr2, hd2]
    have e := dq_eq (n := 768) (c := 512) rfl rfl (by norm_num) hq hk hv hg ho H.out r' d'
    unfold pr ms mword fdiv at e
    dsimp only at e
    generalize (∑ k ∈ range 2048, dscore Q K V G (512 + r'.val) k * K k d'.val) = R at e ⊢
    clear hr' hd' hr2 hd2 h
    pointwise [k0_pay47, k0_pay46, k0_pay43, k0_pay45, k0_pay44, k0_pay41, k0_pay39, k0_pay40, k0_pay38, k0_pay36, k0_pay42, k0_pay37, k0_pay48]
    exact e
  refine (canon_block _ _ _ r d).trans ?_
  split
  · rename_i h
    simp only [kernelRun0_A.sl.r_11, kernelRun0_A.sl.r_7, kernelRun0_A.sl.r_6, kernelRun0_A.sl.r_10, kernelRun0_A.sl.r_5]
    have hq := lq1 arg1 harg1 x0 x1 x2 x3 x4 x5 Q K V O G H
    have hk := lk1 c arg2 harg2 arg4 harg4 arg11 x0 x1 x2 x3 x4 x5 Q K V O G H
    have hv := lv1 arg3 harg3 x0 x1 x2 x3 x4 x5 Q K V O G H
    have ho := lo1 arg5 harg5 x0 x1 x2 x3 x4 x5 Q K V O G H
    have hg := lg1 arg6 harg6 x0 x1 x2 x3 x4 x5 Q K V O G H
    generalize View.readAt (Elt Ideal) arg1.view (Rect.unit (s := S2048x256) ![256, 0] S256x256.size inb_S2048x256_S256x256_256_0).toLoadRect (harg1.unread x0) = q at hq ⊢
    generalize kernelRun0_A.sl.v120 (F := Ideal) c arg2 harg2 arg4 harg4 arg11 x1 x3 = kk at hk ⊢
    generalize View.readAt (Elt Ideal) arg3.view (Rect.unit (s := S2048x128) ![0, 0] S512x128.size inb_S2048x128_S512x128_0_0).toLoadRect (harg3.unread x2) = v at hv ⊢
    generalize View.readAt (Elt Ideal) arg5.view (Rect.unit (s := S2048x128) ![256, 0] S256x128.size inb_S2048x128_S256x128_256_0).toLoadRect (harg5.unread x4) = o at ho ⊢
    generalize View.readAt (Elt Ideal) arg6.view (Rect.unit (s := S2048x128) ![256, 0] S256x128.size inb_S2048x128_S256x128_256_0).toLoadRect (harg6.unread x5) = g at hg ⊢
    obtain ⟨r', hr'⟩ : ∃ r' : Fin 256, r' = ⟨r.val - 256, by omega⟩ := ⟨_, rfl⟩
    obtain ⟨d', hd'⟩ : ∃ d' : Fin 256, d' = ⟨d.val - 0, by omega⟩ := ⟨_, rfl⟩
    have hr2 : r.val = 256 + r'.val := by rw [hr']; dsimp only; omega
    have hd2 : d.val = d'.val := by rw [hd']; rfl
    rw [← hr', ← hd', hr2, hd2]
    have e := dq_eq (n := 512) (c := 256) rfl rfl (by norm_num) hq hk hv hg ho H.out r' d'
    unfold pr ms mword fdiv at e
    dsimp only at e
    generalize (∑ k ∈ range 2048, dscore Q K V G (256 + r'.val) k * K k d'.val) = R at e ⊢
    clear hr' hd' hr2 hd2 h
    pointwise [k0_pay27, k0_pay26, kernelRun0_A.sl.v151, k0_pay25, k0_pay24, k0_pay22, k0_pay23, k0_pay32, k0_pay31, k0_pay28, k0_pay30, k0_pay29, k0_pay33, k0_pay34]
    exact e
  refine (canon_block _ _ _ r d).trans ?_
  split
  · rename_i h
    simp only [kernelRun0_A.sl.r_3, kernelRun0_A.sl.r_2, kernelRun0_A.sl.r_1, kernelRun0_A.sl.r]
    have hq := lq0 arg1 harg1 x0 x1 x2 x3 x4 x5 Q K V O G H
    have hk := lk0 c arg2 harg2 arg4 harg4 arg11 x0 x1 x2 x3 x4 x5 Q K V O G H
    have hv := lv0 arg3 harg3 x0 x1 x2 x3 x4 x5 Q K V O G H
    have ho := lo0 arg5 harg5 x0 x1 x2 x3 x4 x5 Q K V O G H
    have hg := lg0 arg6 harg6 x0 x1 x2 x3 x4 x5 Q K V O G H
    generalize View.readAt (Elt Ideal) arg1.view (Rect.unit (s := S2048x256) ![0, 0] S256x256.size inb_S2048x256_S256x256_0_0).toLoadRect (harg1.unread x0) = q at hq ⊢
    generalize kernelRun0_A.sl.v20 (F := Ideal) c arg2 harg2 arg4 harg4 arg11 x1 x3 = kk at hk ⊢
    generalize View.readAt (Elt Ideal) arg3.view (Rect.unit (s := S2048x128) ![0, 0] S256x128.size inb_S2048x128_S256x128_0_0).toLoadRect (harg3.unread x2) = v at hv ⊢
    generalize View.readAt (Elt Ideal) arg5.view (Rect.unit (s := S2048x128) ![0, 0] S256x128.size inb_S2048x128_S256x128_0_0).toLoadRect (harg5.unread x4) = o at ho ⊢
    generalize View.readAt (Elt Ideal) arg6.view (Rect.unit (s := S2048x128) ![0, 0] S256x128.size inb_S2048x128_S256x128_0_0).toLoadRect (harg6.unread x5) = g at hg ⊢
    obtain ⟨r', hr'⟩ : ∃ r' : Fin 256, r' = ⟨r.val - 0, by omega⟩ := ⟨_, rfl⟩
    obtain ⟨d', hd'⟩ : ∃ d' : Fin 256, d' = ⟨d.val - 0, by omega⟩ := ⟨_, rfl⟩
    have hr2 : r.val = 0 + r'.val := by rw [hr']; dsimp only; omega
    have hd2 : d.val = d'.val := by rw [hd']; rfl
    rw [← hr', ← hd', hr2, hd2]
    have e := dq_eq (n := 256) (c := 0) rfl rfl (by norm_num) hq hk hv hg ho H.out r' d'
    unfold pr ms mword fdiv at e
    dsimp only at e
    generalize (∑ k ∈ range 2048, dscore Q K V G (0 + r'.val) k * K k d'.val) = R at e ⊢
    clear hr' hd' hr2 hd2 h
    pointwise [k0_pay18, k0_pay17, k0_pay14, k0_pay16, k0_pay15, k0_pay13, k0_pay11, k0_pay9, k0_pay10, k0_pay12, k0_pay8, k0_pay6, k0_pay7, k0_pay19]
    exact e
  · exact absurd r.2 (by omega)

theorem out_dkn (i : grid0.Coords) (k : Fin 2048) (d : Fin 128) :
    out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix2 k d) = ((dkUpto Q K V G 2048 k.val d.val : ℝ) : EReal) := by
  unfold out0_A_7 kernelRun0_A
  dsimp only
  rw [View.read_writes_junk_eq_canon]
  refine (canon_block _ _ _ k d).trans ?_
  rw [dif_pos (by omega)]
  pointwise [k0_pay119, k0_pay1]
  unfold kernelRun0_A.sl.v818
  refine (readCov_block arg12.view _ _ _ _).trans ((dk8 c arg1 harg1 arg2 harg2 arg3 harg3 arg4 harg4 arg5 harg5 arg6 harg6 arg11 arg12 x0 x1 x2 x3 x4 x5 Q K V O G H _ _).trans ?_)
  congr 2 <;> simp

theorem out_dv (i : grid0.Coords) (k : Fin 2048) (d : Fin 128) :
    out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix2 k d) = ((dvUpto Q K G 2048 k.val d.val : ℝ) : EReal) := by
  unfold out0_A_8 kernelRun0_A
  dsimp only
  rw [View.read_writes_junk_eq_canon]
  refine (canon_block _ _ _ k d).trans ?_
  rw [dif_pos (by omega)]
  pointwise [k0_pay1, k0_pay1, kernelRun0_A.sl.r_42]
  unfold kernelRun0_A.sl.v827
  refine (readCov_block arg13.view _ _ _ _).trans ((dv8 c arg1 harg1 arg2 harg2 arg4 harg4 arg6 harg6 arg11 arg13 x0 x1 x2 x3 x4 x5 Q K V O G H _ _).trans ?_)
  congr 2 <;> simp

theorem out_dkr (i : grid0.Coords) (k : Fin 2048) (d : Fin 128) :
    out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix2 k d) = ((dkUpto Q K V G 2048 k.val (128 + d.val) : ℝ) : EReal) := by
  unfold out0_A_9 kernelRun0_A
  dsimp only
  rw [View.read_writes_junk_eq_canon]
  refine (canon_block _ _ _ k d).trans ?_
  rw [dif_pos (by omega)]
  pointwise [k0_pay120, k0_pay1]
  unfold kernelRun0_A.sl.v823
  refine (readCov_block arg12.view _ _ _ _).trans ((dk8 c arg1 harg1 arg2 harg2 arg3 harg3 arg4 harg4 arg5 harg5 arg6 harg6 arg11 arg12 x0 x1 x2 x3 x4 x5 Q K V O G H _ _).trans ?_)
  congr 2 <;> simp

end Cert.KernelIdeal.Body

end
-- ==== Proof.Host.lean ====
/- The arrays the kernel's host code prepares, as functions of the arguments. -/
module

public import proofs.«01_k».proof.Proof.Gen.KernelIdeal.Frame
public import proofs.«01_k».proof.Proof.Gen.ReferenceIdeal.Read
public import Idealize.ShloMosaic.Lib.Pipeline.ValueKit
public import proofs.«01_k».proof.Proof.Tile

@[expose] public section
set_option maxRecDepth 16384
noncomputable section

namespace Cert.KernelIdeal.Host

open Cert.KernelIdeal Cert.KernelIdeal.Gen Cert.Attn Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2048x8x192.Idx → EReal := m ((c : Thread nD τ).loc main_arg0)
abbrev A1 : S2048x8x128.Idx → EReal := m ((c : Thread nD τ).loc main_arg1)
abbrev A2 : S2048x64.Idx → EReal := m ((c : Thread nD τ).loc main_arg2)
abbrev A3 : S2048x8x128.Idx → EReal := m ((c : Thread nD τ).loc main_arg3)
abbrev A4 : S2048x8x128.Idx → EReal := m ((c : Thread nD τ).loc main_arg4)

theorem e35 : V m c main_v35 = shapeCast _ (A4 m c) shapeCasts_S2048x8x128_S2048x1024 := by
  unfold V
  simp only [hostOps0, hostOps0_1, hostOps0_2, hostOps0_3, hostOps0_4, hostOps0_5, hostOps0_6, hostOps0_7, hostOps0_8, List.flatten_cons,
    List.flatten_nil, List.cons_append, List.nil_append, List.append_nil, TRef.binary, TRef.nullary, TRef.ternary, TRef.unary,
    TRef.toBuf, TRef.ofBuf, cast_eq]
  after_results_simp <;> rfl

theorem e34 : V m c main_v34 = truncf (F := Ideal) (φ := FTy.f32) .bf16 (pad S2048x128 ![0, 0] ![0, 64] ![0, 0] (A2 m c) (sitofp (F := Ideal) .f32 (constantI S_ 32 0#32)) pads_S2048x64_S2048x128_000_0640 h_S_) bitsLt_bf16_f32 := by
  unfold V
  simp only [hostOps0, hostOps0_1, hostOps0_2, hostOps0_3, hostOps0_4, hostOps0_5, hostOps0_6, hostOps0_7, hostOps0_8, List.flatten_cons,
    List.flatten_nil, List.cons_append, List.nil_append, List.append_nil, TRef.binary, TRef.nullary, TRef.ternary, TRef.unary,
    TRef.toBuf, TRef.ofBuf, cast_eq]
  after_results_simp <;> rfl

theorem e33 : V m c main_v33 = truncf (F := Ideal) (φ := FTy.f32) .bf16 (concatenate S2048x2048 1 [⟨S2048x1024, shapeCast _ (A1 m c) shapeCasts_S2048x8x128_S2048x1024⟩,
      ⟨S2048x1024, shapeCast _ (A3 m c) shapeCasts_S2048x8x128_S2048x1024⟩] concatenates_S2048x1024_S2048x1024_S2048x2048_d1) bitsLt_bf16_f32 := by
  unfold V
  simp only [hostOps0, hostOps0_1, hostOps0_2, hostOps0_3, hostOps0_4, hostOps0_5, hostOps0_6, hostOps0_7, hostOps0_8, List.flatten_cons,
    List.flatten_nil, List.cons_append, List.nil_append, List.append_nil, TRef.binary, TRef.nullary, TRef.ternary, TRef.unary,
    TRef.toBuf, TRef.ofBuf, cast_eq]
  after_results_simp <;> rfl

theorem e32 : V m c main_v32 = truncf (F := Ideal) (φ := FTy.f32) .bf16 (shapeCast _ (pad S2048x8x256 ![0, 0, 0] ![0, 0, 64] ![0, 0, 0] (A0 m c) (sitofp (F := Ideal) .f32 (constantI S_ 32 0#32))
      pads_S2048x8x192_S2048x8x256_000_000_0640 h_S_) shapeCasts_S2048x8x256_S2048x2048) bitsLt_bf16_f32 := by
  unfold V
  simp only [hostOps0, hostOps0_1, hostOps0_2, hostOps0_3, hostOps0_4, hostOps0_5, hostOps0_6, hostOps0_7, hostOps0_8, List.flatten_cons,
    List.flatten_nil, List.cons_append, List.nil_append, List.append_nil, TRef.binary, TRef.nullary, TRef.ternary, TRef.unary,
    TRef.toBuf, TRef.ofBuf, cast_eq]
  after_results_simp <;> rfl

/-- The host's attention output is the reference's own value. -/
theorem e25 : V m c main_v25 = shapeCast _ (Cert.ReferenceIdeal.Read.val_main_v41 (F := Ideal) (A0 m c) (A1 m c) (A2 m c) (A3 m c)) shapeCasts_S2048x8x128_S2048x1024 := by
  unfold V
  simp only [hostOps0, hostOps0_1, hostOps0_2, hostOps0_3, hostOps0_4, hostOps0_5, hostOps0_6, hostOps0_7, hostOps0_8, List.flatten_cons,
    List.flatten_nil, List.cons_append, List.nil_append, List.append_nil, TRef.binary, TRef.nullary, TRef.ternary, TRef.unary,
    TRef.toBuf, TRef.ofBuf, cast_eq]
  after_results_simp <;> rfl

end Cert.KernelIdeal.Host

end
-- ==== Proof.Ref.lean ====
/- The reference, one operation at a time, as real arithmetic: its scores, probabilities and gradients are the plain sums. -/
module

public import proofs.«01_k».proof.Proof.Gen.ReferenceIdeal.Read
public import Idealize.ShloMosaic.Lib.Pipeline.ValueKit
public import proofs.«01_k».proof.Proof.Tile

@[expose] public section
set_option maxRecDepth 16384
noncomputable section

namespace Cert.ReferenceIdeal.Real

open Cert.ReferenceIdeal Cert.ReferenceIdeal.Gen Cert.ReferenceIdeal.Read Cert.Attn Idealize.ShloMosaic Idealize.ShloMosaic.TcCoe Idealize.SL.Sem
open Finset (range)

/-- The arguments hold the numbers of these functions, by head. -/
structure Args (x0 : S2048x8x192.Idx → EReal) (x1 : S2048x8x128.Idx → EReal) (x2 : S2048x64.Idx → EReal) (x3 x4 : S2048x8x128.Idx → EReal)
    (Q K V G : ℕ → ℕ → ℕ → ℝ) : Prop where
  q : ∀ (r : Fin 2048) (h : Fin 8) (d : Fin 192), x0 (ix3 r h d) = ((Q h r d : ℝ) : EReal)
  kn : ∀ (k : Fin 2048) (h : Fin 8) (d : Fin 128), x1 (ix3 k h d) = ((K h k d : ℝ) : EReal)
  kr : ∀ (k : Fin 2048) (h : Fin 8) (d : Fin 64), x2 (ix2 k d) = ((K h k (128 + d) : ℝ) : EReal)
  v : ∀ (k : Fin 2048) (h : Fin 8) (d : Fin 128), x3 (ix3 k h d) = ((V h k d : ℝ) : EReal)
  g : ∀ (r : Fin 2048) (h : Fin 8) (d : Fin 128), x4 (ix3 r h d) = ((G h r d : ℝ) : EReal)
  q0 : ∀ h r d, 192 ≤ d → Q h r d = 0
  k0 : ∀ h k d, 192 ≤ d → K h k d = 0

/-! ## Each operation at an index -/

variable {x0 : S2048x8x192.Idx → EReal} {x1 : S2048x8x128.Idx → EReal} {x2 : S2048x64.Idx → EReal} {x3 x4 : S2048x8x128.Idx → EReal}

theorem s11 (h : Fin 8) (r k : Fin 2048) :
    val_main_v11_0 (F := Ideal) x0 x1 x2 (ix3 h r k) = Scalar.select (val_main_v11_1 (F := Ideal) (ix3 h r k)) (val_main_v5 (F := Ideal) x0 x1 x2 (ix3 h r k)) (Ideal.ofBits FTy.f32 4286578688#32) := by
  unfold val_main_v11_0 val_main_call1_v2 val_main_call1_v0 val_main_cst
  generalize hR : Scalar.select (val_main_v11_1 (F := Ideal) (ix3 h r k)) (val_main_v5 (F := Ideal) x0 x1 x2 (ix3 h r k)) (Ideal.ofBits FTy.f32 4286578688#32) = R
  pointwise
  exact hR

theorem s12 (h : Fin 8) (r : Fin 2048) :
    val_main_v12 (F := Ideal) x0 x1 x2 (ix2 h r) = Finset.univ.fold (β := Ideal FTy.f32) max (Ideal.ofBits FTy.f32 4286578688#32) fun x => val_main_v11_0 (F := Ideal) x0 x1 x2 (ix3 h r x) := by
  unfold val_main_v12 val_main_cst_0
  generalize hR : (Finset.univ.fold (β := Ideal FTy.f32) max (Ideal.ofBits FTy.f32 4286578688#32) fun x => val_main_v11_0 (F := Ideal) x0 x1 x2 (ix3 h r x)) = R
  pointwise
  exact hR

theorem s32 (h : Fin 8) (r k : Fin 2048) :
    val_main_v32 (F := Ideal) x0 x1 x2 (ix3 h r k) = Ideal.exp (val_main_v11_0 (F := Ideal) x0 x1 x2 (ix3 h r k) - val_main_v30 (F := Ideal) x0 x1 x2 (ix3 h r k)) := by
  unfold val_main_v32 val_main_v31
  generalize hR : Ideal.exp (val_main_v11_0 (F := Ideal) x0 x1 x2 (ix3 h r k) - val_main_v30 (F := Ideal) x0 x1 x2 (ix3 h r k)) = R
  pointwise
  exact hR

theorem s33 (h : Fin 8) (r : Fin 2048) :
    val_main_v33 (F := Ideal) x0 x1 x2 (ix2 h r) = ∑ x, val_main_v32 (F := Ideal) x0 x1 x2 (ix3 h r x) := by
  unfold val_main_v33 val_main_cst_8
  generalize hR : ∑ x, val_main_v32 (F := Ideal) x0 x1 x2 (ix3 h r x) = R
  pointwise
  exact hR

theorem s36 (h : Fin 8) (r k : Fin 2048) :
    val_main_v36 (F := Ideal) x0 x1 x2 (ix3 h r k) = Ideal.div (val_main_v32 (F := Ideal) x0 x1 x2 (ix3 h r k)) (val_main_v33 (F := Ideal) x0 x1 x2 (ix2 h r)) := by
  unfold val_main_v36 val_main_v35 val_main_v34
  generalize hR : Ideal.div (val_main_v32 (F := Ideal) x0 x1 x2 (ix3 h r k)) (val_main_v33 (F := Ideal) x0 x1 x2 (ix2 h r)) = R
  pointwise
  exact hR

theorem s46 (h : Fin 8) (r k : Fin 2048) :
    val_main_v46 (F := Ideal) x0 x1 x2 (ix3 h r k) = Ideal.div 1 (val_main_v33 (F := Ideal) x0 x1 x2 (ix2 h r) * val_main_v33 (F := Ideal) x0 x1 x2 (ix2 h r)) := by
  unfold val_main_v46 val_main_v39 val_main_v38 val_main_v37 val_main_v34 val_main_cst_9
  generalize hR : Ideal.div 1 (val_main_v33 (F := Ideal) x0 x1 x2 (ix2 h r) * val_main_v33 (F := Ideal) x0 x1 x2 (ix2 h r)) = R
  pointwise
  exact hR

theorem s43 (h : Fin 8) (r k : Fin 2048) :
    val_main_v43 (F := Ideal) x3 x4 (ix3 h r k) = ∑ x, x4 (ix3 r h x) * x3 (ix3 k h x) := by
  unfold val_main_v43 val_main_v42
  generalize hR : ∑ x, x4 (ix3 r h x) * x3 (ix3 k h x) = R
  pointwise
  exact hR

theorem s45 (h : Fin 8) (k : Fin 2048) (d : Fin 128) :
    val_main_v45 (F := Ideal) x0 x1 x2 x4 (ix3 k h d) = ∑ x, x4 (ix3 x h d) * val_main_v36 (F := Ideal) x0 x1 x2 (ix3 h x k) := by
  unfold val_main_v45 val_main_v44 val_main_v42
  generalize hR : ∑ x, x4 (ix3 x h d) * val_main_v36 (F := Ideal) x0 x1 x2 (ix3 h x k) = R
  pointwise
  exact hR

theorem s41 (h : Fin 8) (k : Fin 2048) (d : Fin 128) :
    val_main_v41 (F := Ideal) x0 x1 x2 x3 (ix3 k h d) = ∑ x, x3 (ix3 x h d) * val_main_v36 (F := Ideal) x0 x1 x2 (ix3 h k x) := by
  unfold val_main_v41 val_main_v40
  generalize hR : ∑ x, x3 (ix3 x h d) * val_main_v36 (F := Ideal) x0 x1 x2 (ix3 h k x) = R
  pointwise
  exact hR

theorem s48 (h : Fin 8) (r k : Fin 2048) :
    val_main_v48 (F := Ideal) x0 x1 x2 x3 x4 (ix3 h r k) = val_main_v43 (F := Ideal) x3 x4 (ix3 h r k) * val_main_v46 (F := Ideal) x0 x1 x2 (ix3 h r k) * val_main_v32 (F := Ideal) x0 x1 x2 (ix3 h r k) := by
  unfold val_main_v48 val_main_v47
  generalize hR : val_main_v43 (F := Ideal) x3 x4 (ix3 h r k) * val_main_v46 (F := Ideal) x0 x1 x2 (ix3 h r k) * val_main_v32 (F := Ideal) x0 x1 x2 (ix3 h r k) = R
  pointwise
  exact hR

theorem s54 (h : Fin 8) (r : Fin 2048) :
    val_main_v54 (F := Ideal) x0 x1 x2 x3 x4 (ix2 h r) = ∑ _x : Fin 1, -∑ x, val_main_v48 (F := Ideal) x0 x1 x2 x3 x4 (ix3 h r x) := by
  unfold val_main_v54 val_main_v51 val_main_v50 val_main_v49 val_main_cst_10 val_main_cst_11
  generalize hR : ∑ _x : Fin 1, -∑ x, val_main_v48 (F := Ideal) x0 x1 x2 x3 x4 (ix3 h r x) = R
  pointwise
  exact hR

theorem s56 (h : Fin 8) (r k : Fin 2048) :
    val_main_v56 (F := Ideal) x0 x1 x2 x3 x4 (ix3 h r k) = Ideal.div (val_main_v43 (F := Ideal) x3 x4 (ix3 h r k)) (val_main_v33 (F := Ideal) x0 x1 x2 (ix2 h r)) + val_main_v54 (F := Ideal) x0 x1 x2 x3 x4 (ix2 h r) := by
  unfold val_main_v56 val_main_v53 val_main_v52 val_main_v34 val_main_v55
  generalize hR : Ideal.div (val_main_v43 (F := Ideal) x3 x4 (ix3 h r k)) (val_main_v33 (F := Ideal) x0 x1 x2 (ix2 h r)) + val_main_v54 (F := Ideal) x0 x1 x2 x3 x4 (ix2 h r) = R
  pointwise
  exact hR

theorem s58 (h : Fin 8) (r k : Fin 2048) :
    val_main_v58 (F := Ideal) x0 x1 x2 x3 x4 (ix3 h r k) = Scalar.select (val_main_v11_1 (F := Ideal) (ix3 h r k)) (val_main_v56 (F := Ideal) x0 x1 x2 x3 x4 (ix3 h r k) * val_main_v32 (F := Ideal) x0 x1 x2 (ix3 h r k)) 0 := by
  unfold val_main_v58 val_main_v57 val_main_call2_v0 val_main_call2_cst
  generalize hR : Scalar.select (val_main_v11_1 (F := Ideal) (ix3 h r k)) (val_main_v56 (F := Ideal) x0 x1 x2 x3 x4 (ix3 h r k) * val_main_v32 (F := Ideal) x0 x1 x2 (ix3 h r k)) 0 = R
  pointwise
  exact hR

theorem s60 (h : Fin 8) (k : Fin 2048) (d : Fin 192) :
    val_main_v60 (F := Ideal) x0 x1 x2 x3 x4 (ix3 k h d) = ∑ x, val_main_v58 (F := Ideal) x0 x1 x2 x3 x4 (ix3 h x k) * x0 (ix3 x h d) := by
  unfold val_main_v60 val_main_v59
  generalize hR : ∑ x, val_main_v58 (F := Ideal) x0 x1 x2 x3 x4 (ix3 h x k) * x0 (ix3 x h d) = R
  pointwise
  exact hR

theorem s62 (h : Fin 8) (k : Fin 2048) (d : Fin 192) :
    val_main_v62 (F := Ideal) x0 x1 x2 x3 x4 (ix3 k h d) = ∑ x, val_main_v58 (F := Ideal) x0 x1 x2 x3 x4 (ix3 h k x) * val_main_v2 (F := Ideal) x1 x2 (ix3 x h d) := by
  unfold val_main_v62 val_main_v61
  generalize hR : ∑ x, val_main_v58 (F := Ideal) x0 x1 x2 x3 x4 (ix3 h k x) * val_main_v2 (F := Ideal) x1 x2 (ix3 x h d) = R
  pointwise
  exact hR

theorem s30 (h : Fin 8) (r k : Fin 2048) :
    val_main_v30 (F := Ideal) x0 x1 x2 (ix3 h r k) = max (Ideal.ofBits FTy.f32 4286578688#32 : Ideal FTy.f32) (val_main_v12 (F := Ideal) x0 x1 x2 (ix2 h r)) := by
  have e1 : idx_main_v29 (idx_main_v30 (ix3 h r k)) = ix2 h r := by
    funext a; match a with
    | ⟨0, _⟩ => rfl
    | ⟨1, _⟩ => rfl
  rw [val_main_v30_apply, val_main_v29_apply, val_main_v19_apply, e1]
  generalize val_main_v12 (F := Ideal) x0 x1 x2 (ix2 h r) = X
  rfl

/-! ## The mask -/

/-- The floor division of a word by 64, as the host computes it. -/
def hdiv (w : BitVec 32) : BitVec 32 :=
  Scalar.select (IntOp.andi (IntOp.cmpi .ne (if w = 0 then (0 : BitVec 32) else if w.msb = true then -1 else 1)
      (if (64#32 : BitVec 32) = 0 then (0 : BitVec 32) else if (64#32 : BitVec 32).msb = true then -1 else 1))
    (IntOp.cmpi .ne (IntOp.remsi ArithUnit.host w 64#32) 0#32))
    (IntOp.subi (IntOp.divsi ArithUnit.host w 64#32) 1#32) (IntOp.divsi ArithUnit.host w 64#32)

theorem hdiv_fin : ∀ a : Fin 2048, hdiv (BitVec.ofNat 32 a) = BitVec.ofNat 32 (a / 64) := by decide +kernel

theorem s4 (k : Fin 2048) : val_main_v4 (F := Ideal) (ix1 k) = BitVec.ofNat 32 (k.val / 64) := by
  refine Eq.trans ?_ (hdiv_fin k)
  unfold val_main_v4 val_main_call0_v11 val_main_call0_v13 val_main_call0_v6 val_main_call0_v3 val_main_call0_v5 val_main_call0_v4
    val_main_call0_v10 val_main_call0_v8 val_main_call0_v9 val_main_call0_v7 val_main_call0_c val_main_call0_v12 val_main_call0_c_0
    val_main_call0_v2 val_main_call0_v1 val_main_call0_v0 val_main_c val_main_v3
  generalize hR : hdiv (BitVec.ofNat 32 k.val) = R
  pointwise
  exact hR

theorem s10 (h : Fin 8) (r k : Fin 2048) :
    val_main_v11_1 (F := Ideal) (ix3 h r k) = IntOp.cmpi .sle (BitVec.ofNat 32 (k.val / 64)) (BitVec.ofNat 32 (r.val / 64)) := by
  rw [← s4, ← s4]
  unfold val_main_v11_1 val_main_v10 val_main_v8 val_main_v9 val_main_v6 val_main_v7
  pointwise

theorem sel_mask {α : Type} (h : Fin 8) (r k : Fin 2048) (a b : α) :
    Scalar.select (val_main_v11_1 (F := Ideal) (ix3 h r k)) a b = if allow r k then a else b := by
  have h3 := sle_fin ⟨k.val / 64, by omega⟩ ⟨r.val / 64, by omega⟩
  dsimp only at h3
  rw [s10, h3]
  unfold allow Scalar.select
  by_cases h : k.val / 64 ≤ r.val / 64
  · simp [h]
  · simp [h]

/-! ## As real numbers -/

section
variable {Q K V G : ℕ → ℕ → ℕ → ℝ} (H : Args x0 x1 x2 x3 x4 Q K V G)

/-- A sum over 192 columns is the sum over the padded 256 when the rest is zero. -/
theorem sum_pad (f : ℕ → ℝ) (hf : ∀ d, 192 ≤ d → f d = 0) : ∑ d ∈ range 192, f d = ∑ d ∈ range 256, f d :=
  sum_range_zero (by omega) f hf

include H in
theorem r2 (k : Fin 2048) (h : Fin 8) (d : Fin 192) : val_main_v2 (F := Ideal) x1 x2 (ix3 k h d) = ((K h k d : ℝ) : EReal) := by
  unfold val_main_v2 val_main_v1 val_main_v0
  pointwise
  split
  · rw [H.kn]
  · rw [H.kr k h]
    show ((K h k (128 + (d.val - 128)) : ℝ) : EReal) = _
    rw [show 128 + (d.val - 128) = d.val by omega]

include H in
theorem r5 (h : Fin 8) (r k : Fin 2048) : val_main_v5 (F := Ideal) x0 x1 x2 (ix3 h r k) = ((score (Q h) (K h) r k : ℝ) : EReal) := by
  have e : ∑ x : Fin 192, x0 (ix3 r h x) * val_main_v2 (F := Ideal) x1 x2 (ix3 k h x) = ((score (Q h) (K h) r k : ℝ) : EReal) := by
    have h1 : ∀ x : Fin 192, x0 (ix3 r h x) * val_main_v2 (F := Ideal) x1 x2 (ix3 k h x) = ((Q h r x * K h k x : ℝ) : EReal) := fun x => by
      rw [H.q, r2 H, EReal.coe_mul]
    rw [Finset.sum_congr rfl fun x _ => h1 x, coe_sum_fin 192 fun d => Q h r d * K h k d,
      sum_pad (fun d => Q h r d * K h k d) fun d hd => by rw [H.q0 _ _ _ hd, zero_mul]]
    rfl
  unfold val_main_v5
  generalize ((score (Q h) (K h) r k : ℝ) : EReal) = R at e ⊢
  pointwise
  exact e

/-- The sum of a row's weights. -/
def Z (h r : ℕ) : ℝ := ∑ l ∈ range 2048, wt (allow r) (score (Q h) (K h) r) l

theorem Z_pos (h r : ℕ) : 0 < Z (Q := Q) (K := K) h r := sum_wt_pos _ _ 0 (by omega) (allow_zero _)

include H in
theorem r11 (h : Fin 8) (r k : Fin 2048) :
    val_main_v11_0 (F := Ideal) x0 x1 x2 (ix3 h r k) = masked (allow r) (score (Q h) (K h) r) k := by
  rw [s11, sel_mask, r5 H, ninf]; rfl

include H in
/-- The exponentials of a row: its weights, scaled by a positive number. -/
theorem r32 (h : Fin 8) (r : Fin 2048) : ∃ E : ℝ, 0 < E ∧ ∀ k : Fin 2048,
    val_main_v32 (F := Ideal) x0 x1 x2 (ix3 h r k) = ((wt (allow r) (score (Q h) (K h) r) k * E : ℝ) : EReal) := by
  obtain ⟨M, hM⟩ := max_masked (n := 2048) (allow r) (score (Q h) (K h) r) ⟨0, by omega⟩ (allow_zero _)
  have hM' : Finset.univ.fold (β := Ideal FTy.f32) max (⊥ : EReal) (fun k : Fin 2048 => masked (allow r) (score (Q h) (K h) r) k) = (M : EReal) := by
    rw [← hM]
  have h12 : val_main_v12 (F := Ideal) x0 x1 x2 (ix2 h r) = (M : EReal) := by
    rw [s12]; simp only [r11 H, ninf]; exact hM'
  refine ⟨Real.exp (-M), Real.exp_pos _, fun k => ?_⟩
  have h30 : val_main_v30 (F := Ideal) x0 x1 x2 (ix3 h r k) = (M : EReal) := by
    rw [s30, h12, ninf]; exact max_eq_right bot_le
  rw [s32, r11 H, h30, exp_masked]

include H in
theorem r33 (h : Fin 8) (r : Fin 2048) (E : ℝ)
    (hE : ∀ k : Fin 2048, val_main_v32 (F := Ideal) x0 x1 x2 (ix3 h r k) = ((wt (allow r) (score (Q h) (K h) r) k * E : ℝ) : EReal)) :
    val_main_v33 (F := Ideal) x0 x1 x2 (ix2 h r) = ((Z (Q := Q) (K := K) h r * E : ℝ) : EReal) := by
  rw [s33, Finset.sum_congr rfl fun x _ => hE x, coe_sum_fin 2048 fun k => wt (allow r) (score (Q h) (K h) r) k * E, ← Finset.sum_mul]
  rfl

include H in
theorem r36 (h : Fin 8) (r k : Fin 2048) : val_main_v36 (F := Ideal) x0 x1 x2 (ix3 h r k) = ((prob (Q h) (K h) r k : ℝ) : EReal) := by
  obtain ⟨E, hE0, hE⟩ := r32 H h r
  have hZ := Z_pos (Q := Q) (K := K) h r
  rw [s36, hE, r33 H h r E hE, div_real _ _ (mul_pos hZ hE0).ne', mul_div_mul_right _ _ hE0.ne']
  rfl

include H in
theorem r43 (h : Fin 8) (r k : Fin 2048) : val_main_v43 (F := Ideal) x3 x4 (ix3 h r k) = ((dprob (V h) (G h) r k : ℝ) : EReal) := by
  have h1 : ∀ x : Fin 128, x4 (ix3 r h x) * x3 (ix3 k h x) = ((G h r x * V h k x : ℝ) : EReal) := fun x => by rw [H.g, H.v, EReal.coe_mul]
  rw [s43, Finset.sum_congr rfl fun x _ => h1 x, coe_sum_fin 128 fun d => G h r d * V h k d]
  rfl

include H in
/-- The gradient of the scores. -/
theorem r58 (h : Fin 8) (r k : Fin 2048) :
    val_main_v58 (F := Ideal) x0 x1 x2 x3 x4 (ix3 h r k) = ((dscore (Q h) (K h) (V h) (G h) r k : ℝ) : EReal) := by
  obtain ⟨E, hE0, hE⟩ := r32 H h r
  have hZ := Z_pos (Q := Q) (K := K) h r
  have hZE := (mul_pos hZ hE0).ne'
  have h33 := r33 H h r E hE
  generalize hz : Z (Q := Q) (K := K) h r = z at hZ hZE h33
  have hp : ∀ l, prob (Q h) (K h) r l = wt (allow r) (score (Q h) (K h) r) l / z := fun l => by rw [← hz]; rfl
  have h48 : ∀ x : Fin 2048, val_main_v48 (F := Ideal) x0 x1 x2 x3 x4 (ix3 h r x)
      = ((prob (Q h) (K h) r x * dprob (V h) (G h) r x / (z * E) : ℝ) : EReal) := fun x => by
    rw [s48, r43 H, s46, h33, hE, ← EReal.coe_mul, ← EReal.coe_one, div_real _ _ (mul_ne_zero hZE hZE), ← EReal.coe_mul, ← EReal.coe_mul]
    congr 1
    rw [hp]
    field_simp
  have h54 : val_main_v54 (F := Ideal) x0 x1 x2 x3 x4 (ix2 h r)
      = ((-((∑ l ∈ range 2048, prob (Q h) (K h) r l * dprob (V h) (G h) r l) / (z * E)) : ℝ) : EReal) := by
    rw [s54, Finset.sum_congr rfl fun x _ => h48 x, coe_sum_fin 2048 fun l => prob (Q h) (K h) r l * dprob (V h) (G h) r l / (z * E),
      ← EReal.coe_neg, Finset.sum_div]
    simp
  rw [s58, sel_mask, s56, h54, r43 H, h33, hE, div_real _ _ hZE, ← EReal.coe_add, ← EReal.coe_mul]
  by_cases ha : allow r k
  · rw [if_pos ha, dscore, hp k]
    congr 1
    field_simp
    ring
  · rw [if_neg ha, dscore_eq_zero _ _ _ _ ha, EReal.coe_zero]

include H in
/-- The attention's output. -/
theorem r41 (k : Fin 2048) (h : Fin 8) (d : Fin 128) : val_main_v41 (F := Ideal) x0 x1 x2 x3 (ix3 k h d)
    = ((∑ l ∈ range 2048, prob (Q h) (K h) k l * V h l d : ℝ) : EReal) := by
  have h1 : ∀ x : Fin 2048, x3 (ix3 x h d) * val_main_v36 (F := Ideal) x0 x1 x2 (ix3 h k x) = ((prob (Q h) (K h) k x * V h x d : ℝ) : EReal) :=
    fun x => by rw [H.v, r36 H, mul_comm, EReal.coe_mul]
  rw [s41, Finset.sum_congr rfl fun x _ => h1 x, coe_sum_fin 2048 fun l => prob (Q h) (K h) k l * V h l d]

include H in
/-- The gradient of the values. -/
theorem r45 (k : Fin 2048) (h : Fin 8) (d : Fin 128) : val_main_v45 (F := Ideal) x0 x1 x2 x4 (ix3 k h d)
    = ((dvUpto (Q h) (K h) (G h) 2048 k d : ℝ) : EReal) := by
  have h1 : ∀ x : Fin 2048, x4 (ix3 x h d) * val_main_v36 (F := Ideal) x0 x1 x2 (ix3 h x k) = ((prob (Q h) (K h) x k * G h x d : ℝ) : EReal) :=
    fun x => by rw [H.g, r36 H, mul_comm, EReal.coe_mul]
  rw [s45, Finset.sum_congr rfl fun x _ => h1 x, coe_sum_fin 2048 fun r => prob (Q h) (K h) r k * G h r d]
  rfl

include H in
/-- The gradient of the keys. -/
theorem r60 (k : Fin 2048) (h : Fin 8) (d : Fin 192) : val_main_v60 (F := Ideal) x0 x1 x2 x3 x4 (ix3 k h d)
    = ((dkUpto (Q h) (K h) (V h) (G h) 2048 k d : ℝ) : EReal) := by
  have h1 : ∀ x : Fin 2048, val_main_v58 (F := Ideal) x0 x1 x2 x3 x4 (ix3 h x k) * x0 (ix3 x h d)
      = ((dscore (Q h) (K h) (V h) (G h) x k * Q h x d : ℝ) : EReal) := fun x => by rw [H.q, r58 H, EReal.coe_mul]
  rw [s60, Finset.sum_congr rfl fun x _ => h1 x, coe_sum_fin 2048 fun r => dscore (Q h) (K h) (V h) (G h) r k * Q h r d]
  rfl

include H in
/-- The gradient of the queries. -/
theorem r62 (r : Fin 2048) (h : Fin 8) (d : Fin 192) : val_main_v62 (F := Ideal) x0 x1 x2 x3 x4 (ix3 r h d)
    = ((∑ k ∈ range 2048, dscore (Q h) (K h) (V h) (G h) r k * K h k d : ℝ) : EReal) := by
  have h1 : ∀ x : Fin 2048, val_main_v58 (F := Ideal) x0 x1 x2 x3 x4 (ix3 h r x) * val_main_v2 (F := Ideal) x1 x2 (ix3 x h d)
      = ((dscore (Q h) (K h) (V h) (G h) r x * K h x d : ℝ) : EReal) := fun x => by rw [r2 H, r58 H, EReal.coe_mul]
  rw [s62, Finset.sum_congr rfl fun x _ => h1 x, coe_sum_fin 2048 fun k => dscore (Q h) (K h) (V h) (G h) r k * K h k d]

/-! ## The results -/

theorem zero_word : (FloatOps.sitofp FTy.f32 (0#32 : BitVec 32) : Ideal FTy.f32) = (0 : EReal) := by
  show (((0#32 : BitVec 32).toInt : ℝ) : EReal) = 0
  simp

include H in
theorem o66 (r n : Fin 2048) : val_main_v66 (F := Ideal) x0 x1 x2 x3 x4 (ix2 r n)
    = ((∑ k ∈ range 2048, dscore (Q (n / 256)) (K (n / 256)) (V (n / 256)) (G (n / 256)) r k * K (n / 256) k (n % 256) : ℝ) : EReal) := by
  unfold val_main_v66 val_main_v65 val_main_call3_v0 val_main_c_12
  generalize hR : ((∑ k ∈ range 2048, dscore (Q (n.val / 256)) (K (n.val / 256)) (V (n.val / 256)) (G (n.val / 256)) r k * K (n.val / 256) k (n.val % 256) : ℝ) : EReal) = R
  pointwise
  rw [← hR]
  split
  · exact r62 H _ _ _
  · rw [zero_word]
    symm
    have : ∑ k ∈ range 2048, dscore (Q (n.val / 256)) (K (n.val / 256)) (V (n.val / 256)) (G (n.val / 256)) r k * K (n.val / 256) k (n.val % 256) = 0 :=
      Finset.sum_eq_zero fun k _ => by rw [H.k0 _ _ _ (by omega), mul_zero]
    rw [this, EReal.coe_zero]

include H in
theorem o68 (r : Fin 2048) (n : Fin 1024) : val_main_v68 (F := Ideal) x0 x1 x2 x3 x4 (ix2 r n)
    = ((dkUpto (Q (n / 128)) (K (n / 128)) (V (n / 128)) (G (n / 128)) 2048 r (n % 128) : ℝ) : EReal) := by
  unfold val_main_v68 val_main_v67 val_main_v63
  generalize hR : ((dkUpto (Q (n.val / 128)) (K (n.val / 128)) (V (n.val / 128)) (G (n.val / 128)) 2048 r (n.val % 128) : ℝ) : EReal) = R
  pointwise
  rw [← hR]
  exact r60 H _ _ _

include H in
theorem o70 (r : Fin 2048) (n : Fin 1024) : val_main_v70 (F := Ideal) x0 x1 x2 x4 (ix2 r n)
    = ((dvUpto (Q (n / 128)) (K (n / 128)) (G (n / 128)) 2048 r (n % 128) : ℝ) : EReal) := by
  unfold val_main_v70 val_main_v69
  generalize hR : ((dvUpto (Q (n.val / 128)) (K (n.val / 128)) (G (n.val / 128)) 2048 r (n.val % 128) : ℝ) : EReal) = R
  pointwise
  rw [← hR]
  exact r45 H _ _ _

include H in
theorem o72 (r : Fin 2048) (n : Fin 1024) : val_main_v72 (F := Ideal) x0 x1 x2 x3 x4 (ix2 r n)
    = ((dkUpto (Q (n / 128)) (K (n / 128)) (V (n / 128)) (G (n / 128)) 2048 r (128 + n % 128) : ℝ) : EReal) := by
  unfold val_main_v72 val_main_v71 val_main_v64 val_main_call4_v0 val_main_c_13
  generalize hR : ((dkUpto (Q (n.val / 128)) (K (n.val / 128)) (V (n.val / 128)) (G (n.val / 128)) 2048 r (128 + n.val % 128) : ℝ) : EReal) = R
  pointwise
  rw [← hR]
  split
  · exact r60 H _ _ _
  · rw [zero_word]
    symm
    have : dkUpto (Q (n.val / 128)) (K (n.val / 128)) (V (n.val / 128)) (G (n.val / 128)) 2048 r (128 + n.val % 128) = 0 :=
      Finset.sum_eq_zero fun k _ => by rw [H.q0 _ _ _ (by omega), mul_zero]
    rw [this, EReal.coe_zero]

end

end Cert.ReferenceIdeal.Real

end
-- ==== Proof.Blocks.lean ====
/- The blocks a grid point reads: head `t`'s columns of each argument, as real numbers. The precondition makes every argument a
   real number. -/
module

public import proofs.«01_k».proof.Defs
public import proofs.«01_k».proof.Proof.Gen.KernelIdeal.Frame
public import proofs.«01_k».proof.Proof.Gen.Pre_finite
public import Idealize.ShloMosaic.Lib.ReduceAll
public import proofs.«01_k».proof.Proof.Gen.ReferenceIdeal.Read
public import Idealize.ShloMosaic.Lib.Pipeline.ValueKit
public import proofs.«01_k».proof.Proof.Body
public import proofs.«01_k».proof.Proof.Host
public import proofs.«01_k».proof.Proof.Ref

@[expose] public section
set_option maxRecDepth 16384
noncomputable section

namespace Cert.KernelIdeal.Blocks

open Cert.KernelIdeal Cert.KernelIdeal.Gen Cert.KernelIdeal.Host Cert.Attn Idealize.ShloMosaic Idealize.ShloMosaic.TcCoe Idealize.SL.Sem
open Finset (range)

/-! ## The precondition -/

theorem finite_of {s : Shape} {ax : List (Fin s.rank)} (x : s.Idx → EReal) (hr : s.ReducesTo ax Cert.Pre_finite.S_) (hu : 0 < Cert.Pre_finite.S_.numel)
    (hb : Cert.Pre_finite.S_.BroadcastsInDim s (![] : Fin 0 → Fin s.rank))
    (e : Host.reduce IntOp.andi (cmpf .olt (Host.absf (F := Ideal) (φ := FTy.f32) x) (broadcastInDim s ![] hb (constant (F := Ideal) Cert.Pre_finite.S_ .f32 0x7F800000#32)))
      (constantI Cert.Pre_finite.S_ 1 1#1) hr hu ix0 = 1#1)
    (i : s.Idx) : x i = ((x i).toReal : EReal) := by
  haveI : Subsingleton Cert.Pre_finite.S_.Idx := ⟨fun a b => funext fun z => z.elim0⟩
  have h := Host.reduce_andi_all _ _ hr hu ix0 e i
  clear e
  pointwise at h
  have hlt : FloatOps.absf (F := Ideal) (φ := FTy.f32) (x i) < Ideal.ofBits FTy.f32 2139095040#32 := by
    by_contra hn
    rw [decide_eq_false hn] at h
    exact absurd h (by decide)
  have htop : Ideal.ofBits FTy.f32 2139095040#32 = ⊤ := by
    show Ideal.ieee 8 23 2139095040#32 = ⊤
    simp [Ideal.ieee, BitVec.toNat]
  rw [htop] at hlt
  have hlt' : max (x i) (-(x i)) < (⊤ : EReal) := hlt
  rw [max_lt_iff] at hlt'
  refine (EReal.coe_toReal hlt'.1.ne fun hb => ?_).symm
  rw [hb, EReal.neg_bot] at hlt'
  exact absurd hlt'.2 (lt_irrefl _)

theorem idx : ∀ t : Fin cfg0.N, win0_0.index t = ![0, t.val] ∧ win0_1.index t = ![0, t.val] ∧ win0_2.index t = ![0, t.val + 8]
    ∧ win0_3.index t = ![0, 0] ∧ win0_4.index t = ![0, t.val] ∧ win0_5.index t = ![0, t.val] ∧ win0_6.index t = ![0, t.val]
    ∧ win0_7.index t = ![0, t.val] ∧ win0_8.index t = ![0, t.val] ∧ win0_9.index t = ![0, t.val] :=
  (by decide +kernel : ∀ t : Fin grid0.N, _)

/-- The real arrays of a device's arguments, by head. -/
def Qf (x0 : S2048x8x192.Idx → EReal) (h r d : ℕ) : ℝ := if e : h < 8 ∧ r < 2048 ∧ d < 192 then (x0 (ix3 ⟨r, e.2.1⟩ ⟨h, e.1⟩ ⟨d, e.2.2⟩)).toReal else 0
def Kf (x1 : S2048x8x128.Idx → EReal) (x2 : S2048x64.Idx → EReal) (h k d : ℕ) : ℝ :=
  if e : h < 8 ∧ k < 2048 ∧ d < 128 then (x1 (ix3 ⟨k, e.2.1⟩ ⟨h, e.1⟩ ⟨d, e.2.2⟩)).toReal
  else if e : k < 2048 ∧ d - 128 < 64 ∧ 128 ≤ d then (x2 (ix2 ⟨k, e.1⟩ ⟨d - 128, e.2.1⟩)).toReal else 0
def Vf (x3 : S2048x8x128.Idx → EReal) (h k d : ℕ) : ℝ := if e : h < 8 ∧ k < 2048 ∧ d < 128 then (x3 (ix3 ⟨k, e.2.1⟩ ⟨h, e.1⟩ ⟨d, e.2.2⟩)).toReal else 0

theorem args_of {x0 : S2048x8x192.Idx → EReal} {x1 : S2048x8x128.Idx → EReal} {x2 : S2048x64.Idx → EReal} {x3 x4 : S2048x8x128.Idx → EReal}
    (f0 : ∀ i, x0 i = ((x0 i).toReal : EReal)) (f1 : ∀ i, x1 i = ((x1 i).toReal : EReal)) (f2 : ∀ i, x2 i = ((x2 i).toReal : EReal))
    (f3 : ∀ i, x3 i = ((x3 i).toReal : EReal)) (f4 : ∀ i, x4 i = ((x4 i).toReal : EReal)) :
    Cert.ReferenceIdeal.Real.Args x0 x1 x2 x3 x4 (Qf x0) (Kf x1 x2) (Vf x3) (Vf x4) where
  q r h d := by rw [Qf, dif_pos ⟨h.isLt, r.isLt, d.isLt⟩]; exact f0 _
  kn k h d := by rw [Kf, dif_pos ⟨h.isLt, k.isLt, d.isLt⟩]; exact f1 _
  kr k h d := by
    rw [Kf, dif_neg (by omega), dif_pos ⟨k.isLt, by omega, by omega⟩]
    have e : (⟨128 + d.val - 128, by omega⟩ : Fin 64) = d := Fin.ext (by show 128 + d.val - 128 = d.val; omega)
    rw [e]
    exact f2 _
  v k h d := by rw [Vf, dif_pos ⟨h.isLt, k.isLt, d.isLt⟩]; exact f3 _
  g k h d := by rw [Vf, dif_pos ⟨h.isLt, k.isLt, d.isLt⟩]; exact f4 _
  q0 h r d hd := by rw [Qf, dif_neg (by omega)]
  k0 h k d hd := by rw [Kf, dif_neg (by omega), dif_neg (by omega)]

/-- Under the precondition the arguments hold real numbers. -/
theorem args_pre (x0 : S2048x8x192.Idx → EReal) (x1 : S2048x8x128.Idx → EReal) (x2 : S2048x64.Idx → EReal) (x3 x4 : S2048x8x128.Idx → EReal)
    (e : Cert.Pre_finite.fn (F := Ideal) x0 x1 x2 x3 x4 = fun _ => 1#1) :
    Cert.ReferenceIdeal.Real.Args x0 x1 x2 x3 x4 (Qf x0) (Kf x1 x2) (Vf x3) (Vf x4) := by
  have e' := congrFun e ix0
  have and1 : ∀ a b : BitVec 1, IntOp.andi a b = 1#1 → a = 1#1 ∧ b = 1#1 := by decide
  obtain ⟨e1, h4⟩ := and1 _ _ e'
  obtain ⟨e2, h3⟩ := and1 _ _ e1
  obtain ⟨e3, h2⟩ := and1 _ _ e2
  obtain ⟨h0, h1⟩ := and1 _ _ e3
  exact args_of (finite_of x0 _ _ _ h0) (finite_of x1 _ _ _ h1) (finite_of x2 _ _ _ h2) (finite_of x3 _ _ _ h3) (finite_of x4 _ _ _ h4)

/-! ## The blocks -/

variable (m : (ℓ : Loc nD τ sig) → Buf (Elt Ideal) ℓ) (c : Dev nD)

variable {Q K V G : ℕ → ℕ → ℕ → ℝ} (H : Cert.ReferenceIdeal.Real.Args (A0 m c) (A1 m c) (A2 m c) (A3 m c) (A4 m c) Q K V G)
variable (t : Fin cfg0.N)

theorem lt8 : t.val < 8 := t.isLt

include H

theorem b0 (r : Fin 2048) (d : Fin 256) : iblk m c 0 t (ix2 r d) = ((Q t r d : ℝ) : EReal) := by
  have ht := lt8 t
  have e : iblk m c 0 t (ix2 r d) = Gen.V m c main_v32 (ix2 r ⟨t.val * 256 + d.val, by omega⟩) := by blk_ext [iblk, idx t]
  rw [e, e32]
  generalize hR : ((Q t r d : ℝ) : EReal) = R
  pointwise
  rw [← hR]
  split
  · exact H.q r t ⟨d.val, by assumption⟩
  · rw [Cert.ReferenceIdeal.Real.zero_word, H.q0 _ _ _ (by omega), EReal.coe_zero]

theorem b1 (k : Fin 2048) (d : Fin 128) : iblk m c 1 t (ix2 k d) = ((K t k d : ℝ) : EReal) := by
  have ht := lt8 t
  have e : iblk m c 1 t (ix2 k d) = Gen.V m c main_v33 (ix2 k ⟨t.val * 128 + d.val, by omega⟩) := by blk_ext [iblk, idx t]
  rw [e, e33]
  generalize hR : ((K t k d : ℝ) : EReal) = R
  pointwise
  rw [← hR]
  split
  · exact H.kn k t d
  · omega

theorem b2 (k : Fin 2048) (d : Fin 128) : iblk m c 2 t (ix2 k d) = ((V t k d : ℝ) : EReal) := by
  have ht := lt8 t
  have e : iblk m c 2 t (ix2 k d) = Gen.V m c main_v33 (ix2 k ⟨1024 + t.val * 128 + d.val, by omega⟩) := by blk_ext [iblk, idx t]
  rw [e, e33]
  generalize hR : ((V t k d : ℝ) : EReal) = R
  pointwise
  rw [← hR]
  split
  · omega
  · rw [H.v]
    congr 2 <;> (dsimp only; omega)

theorem b3 (k : Fin 2048) (d : Fin 128) : iblk m c 3 t (ix2 k d) = ((K t k (128 + d) : ℝ) : EReal) := by
  have ht := lt8 t
  have e : iblk m c 3 t (ix2 k d) = Gen.V m c main_v34 (ix2 k d) := by blk_ext [iblk, idx t]
  rw [e, e34]
  generalize hR : ((K t k (128 + d) : ℝ) : EReal) = R
  pointwise
  rw [← hR]
  split
  · rw [H.kr _ ⟨t.val, ht⟩]
  · rw [Cert.ReferenceIdeal.Real.zero_word, H.k0 _ _ _ (by omega), EReal.coe_zero]

theorem b4 (r : Fin 2048) (d : Fin 128) : iblk m c 4 t (ix2 r d) = ((∑ l ∈ range 2048, prob (Q t) (K t) r l * V t l d : ℝ) : EReal) := by
  have ht := lt8 t
  have e : iblk m c 4 t (ix2 r d) = Gen.V m c main_v25 (ix2 r ⟨t.val * 128 + d.val, by omega⟩) := by blk_ext [iblk, idx t]
  rw [e, e25]
  generalize hR : ((∑ l ∈ range 2048, prob (Q t) (K t) r l * V t l d : ℝ) : EReal) = R
  pointwise
  rw [← hR]
  exact Cert.ReferenceIdeal.Real.r41 H r t d

theorem b5 (r : Fin 2048) (d : Fin 128) : iblk m c 5 t (ix2 r d) = ((G t r d : ℝ) : EReal) := by
  have ht := lt8 t
  have e : iblk m c 5 t (ix2 r d) = Gen.V m c main_v35 (ix2 r ⟨t.val * 128 + d.val, by omega⟩) := by blk_ext [iblk, idx t]
  rw [e, e35]
  generalize hR : ((G t r d : ℝ) : EReal) = R
  pointwise
  rw [← hR]
  exact H.g r t d

/-- A grid point's blocks hold its head's arrays. -/
theorem holds : Body.Holds (iblk m c 0 t) (iblk m c 1 t) (iblk m c 2 t) (iblk m c 3 t) (iblk m c 4 t) (iblk m c 5 t)
    (Q t) (K t) (V t) (fun r d => ∑ l ∈ range 2048, prob (Q t) (K t) r l * V t l d) (G t) where
  q := b0 m c H t
  kn := b1 m c H t
  v := b2 m c H t
  kr := b3 m c H t
  o := b4 m c H t
  g := b5 m c H t
  out := fun _ _ _ _ => rfl

end Cert.KernelIdeal.Blocks

end
-- ==== Proof.Final.lean ====
/- The claim of the values: the arrays the kernel leaves are the reference's results. -/
module

public import proofs.«01_k».proof.Proof.Blocks
public import proofs.«01_k».proof.Proof.Gen.KernelIdeal.Value

@[expose] public section

set_option maxRecDepth 16384

noncomputable section

namespace Cert.KernelIdeal.Final

open Cert.KernelIdeal Cert.KernelIdeal.Gen Cert.KernelIdeal.Host Cert.KernelIdeal.Blocks Cert.Attn Idealize.ShloMosaic Idealize.ShloMosaic.TcCoe Idealize.SL.Sem
open Finset (range)

variable (m : (ℓ : Loc nD τ sig) → Buf (Elt Ideal) ℓ) (c : Dev nD)
variable {Q K V G : ℕ → ℕ → ℕ → ℝ} (H : Cert.ReferenceIdeal.Real.Args (A0 m c) (A1 m c) (A2 m c) (A3 m c) (A4 m c) Q K V G)

include H in
theorem arr6 : (dats m 0 c).arrAt 6 cfg0.N = Cert.ReferenceIdeal.Read.val_main_v66 (F := Ideal) (A0 m c) (A1 m c) (A2 m c) (A3 m c) (A4 m c) := by
  refine (dats m 0 c).arrAt_eq_of_covers 6 _ (by decide +kernel) fun t hf y => ?_
  have ht := lt8 t
  idx_vars y
  have e : ((cfg0.win 6).blk t).view.emb (ix2 y0 y1) = ix2 y0 ⟨t.val * 256 + y1.val, by omega⟩ := by blk_ext [idx t]
  refine Eq.trans ?_ (congrArg (Cert.ReferenceIdeal.Read.val_main_v66 (F := Ideal) (A0 m c) (A1 m c) (A2 m c) (A3 m c) (A4 m c)) e).symm
  have h1 : (t.val * 256 + y1.val) / 256 = t.val := by omega
  have h2 : (t.val * 256 + y1.val) % 256 = y1.val := by omega
  refine Eq.trans ?_ (Cert.ReferenceIdeal.Real.o66 H y0 ⟨t.val * 256 + y1.val, by omega⟩).symm
  dsimp only
  rw [h1, h2]
  blk_simp
  rw [after0_6]
  simp only [outsAt0]
  exact Body.out_dq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _)
    _ _ _ _ _ _ _ _ _ _ _ (holds m c H t) (grid0.coords t) y0 y1

include H in
theorem arr7 : (dats m 0 c).arrAt 7 cfg0.N = Cert.ReferenceIdeal.Read.val_main_v68 (F := Ideal) (A0 m c) (A1 m c) (A2 m c) (A3 m c) (A4 m c) := by
  refine (dats m 0 c).arrAt_eq_of_covers 7 _ (by decide +kernel) fun t hf y => ?_
  have ht := lt8 t
  idx_vars y
  have e : ((cfg0.win 7).blk t).view.emb (ix2 y0 y1) = ix2 y0 ⟨t.val * 128 + y1.val, by omega⟩ := by blk_ext [idx t]
  refine Eq.trans ?_ (congrArg (Cert.ReferenceIdeal.Read.val_main_v68 (F := Ideal) (A0 m c) (A1 m c) (A2 m c) (A3 m c) (A4 m c)) e).symm
  have h1 : (t.val * 128 + y1.val) / 128 = t.val := by omega
  have h2 : (t.val * 128 + y1.val) % 128 = y1.val := by omega
  refine Eq.trans ?_ (Cert.ReferenceIdeal.Real.o68 H y0 ⟨t.val * 128 + y1.val, by omega⟩).symm
  dsimp only
  rw [h1, h2]
  blk_simp
  rw [after0_7]
  simp only [outsAt0]
  exact Body.out_dkn c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _)
    _ _ _ _ _ _ _ _ _ _ _ (holds m c H t) (grid0.coords t) y0 y1

include H in
theorem arr8 : (dats m 0 c).arrAt 8 cfg0.N = Cert.ReferenceIdeal.Read.val_main_v70 (F := Ideal) (A0 m c) (A1 m c) (A2 m c) (A4 m c) := by
  refine (dats m 0 c).arrAt_eq_of_covers 8 _ (by decide +kernel) fun t hf y => ?_
  have ht := lt8 t
  idx_vars y
  have e : ((cfg0.win 8).blk t).view.emb (ix2 y0 y1) = ix2 y0 ⟨t.val * 128 + y1.val, by omega⟩ := by blk_ext [idx t]
  refine Eq.trans ?_ (congrArg (Cert.ReferenceIdeal.Read.val_main_v70 (F := Ideal) (A0 m c) (A1 m c) (A2 m c) (A4 m c)) e).symm
  have h1 : (t.val * 128 + y1.val) / 128 = t.val := by omega
  have h2 : (t.val * 128 + y1.val) % 128 = y1.val := by omega
  refine Eq.trans ?_ (Cert.ReferenceIdeal.Real.o70 H y0 ⟨t.val * 128 + y1.val, by omega⟩).symm
  dsimp only
  rw [h1, h2]
  blk_simp
  rw [after0_8]
  simp only [outsAt0]
  exact Body.out_dv c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _)
    _ _ _ _ _ _ _ _ _ _ _ (holds m c H t) (grid0.coords t) y0 y1

include H in
theorem arr9 : (dats m 0 c).arrAt 9 cfg0.N = Cert.ReferenceIdeal.Read.val_main_v72 (F := Ideal) (A0 m c) (A1 m c) (A2 m c) (A3 m c) (A4 m c) := by
  refine (dats m 0 c).arrAt_eq_of_covers 9 _ (by decide +kernel) fun t hf y => ?_
  have ht := lt8 t
  idx_vars y
  have e : ((cfg0.win 9).blk t).view.emb (ix2 y0 y1) = ix2 y0 ⟨t.val * 128 + y1.val, by omega⟩ := by blk_ext [idx t]
  refine Eq.trans ?_ (congrArg (Cert.ReferenceIdeal.Read.val_main_v72 (F := Ideal) (A0 m c) (A1 m c) (A2 m c) (A3 m c) (A4 m c)) e).symm
  have h1 : (t.val * 128 + y1.val) / 128 = t.val := by omega
  have h2 : (t.val * 128 + y1.val) % 128 = y1.val := by omega
  refine Eq.trans ?_ (Cert.ReferenceIdeal.Real.o72 H y0 ⟨t.val * 128 + y1.val, by omega⟩).symm
  dsimp only
  rw [h1, h2]
  blk_simp
  rw [after0_9]
  simp only [outsAt0]
  exact Body.out_dkr c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _)
    _ _ _ _ _ _ _ _ _ _ _ (holds m c H t) (grid0.coords t) y0 y1

end Cert.KernelIdeal.Final

end
-- ==== Proof.Whole.lean ====
/- A store of a whole buffer, read back, and two facts about the square of the positive part. -/
module

public import proofs.«01_k».proof.Proof.Tile

@[expose] public section
noncomputable section

namespace Cert.Attn

open Idealize.ShloMosaic

variable {e : EltTy} {Val : EltTy → Type} [∀ e, Nonempty (Val e)]

/-- A store of the whole of a buffer leaves its payload. -/
theorem canon_whole {s : Shape} {off : Fin s.rank → ℕ} (inb : ∀ x, off x + s.size x ≤ s.size x)
    (P : s.Idx → Val e) (L : List (View.Piece Val s e)) (y : s.Idx) :
    View.canon ((⟨Rect.unit (s := s) off s.size inb, P⟩ : View.Piece Val s e) :: L) y = P y := by
  have hx : (Rect.unit (s := s) off s.size inb).emb y = y := by
    funext x; apply Fin.ext
    have h := inb x
    show off x + 1 * (y x).val = (y x).val
    omega
  exact (congrArg _ hx.symm).trans (View.canon_cons_emb (Rect.unit (s := s) off s.size inb) P L y)

/-- The slope of the squared positive part vanishes where the positive part does, so choosing by the sign changes nothing. -/
theorem slope_choice (u a k : EReal) : (if 0 < u then a * (k * max u 0) else 0) = a * (k * max u 0) := by
  split
  · rfl
  · rename_i h
    rw [max_eq_right (not_lt.1 h), mul_zero, mul_zero]

end Cert.Attn

end
-- ==== Proof.Up.lean ====
/- The feed-forward block's first product with its squared positive part and the slope: the kernel's arrays are the reference's. -/
module

public import proofs.«01_k».proof.Proof.Gen.UpIdeal.Value
public import proofs.«01_k».proof.Proof.Gen.UpRefIdeal.Read
public import Idealize.ShloMosaic.Lib.Pipeline.ValueKit
public import proofs.«01_k».proof.Proof.Whole

@[expose] public section
set_option maxRecDepth 16384
noncomputable section

namespace Cert.UpIdeal.Final

open Cert.Attn Cert.UpIdeal Cert.UpIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2048x1024.Idx → EReal := m ((c : Thread nD τ).loc main_arg0)
abbrev A1 : S1024x4096.Idx → EReal := m ((c : Thread nD τ).loc main_arg1)

theorem e0 : V m c main_v0 = A0 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem e3 : V m c main_v3 = transpose S4x1024x1024 [1, 0, 2] (shapeCast S1024x4x1024 (A1 m c) shapeCasts_S1024x4096_S1024x4x1024) transposes_S1024x4x1024_S4x1024x1024_1_0_2 := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![0, 0] ∧ win0_1.index t = ![t.val / 2, 0, t.val % 2] ∧ win0_2.index t = ![0, t.val] ∧ win0_3.index t = ![0, t.val] :=
  (by decide +kernel : ∀ t : Fin grid0.N, _)

theorem lt8 (t : Fin cfg0.N) : t.val < 8 := t.isLt

/-- A grid point's blocks are the rows of the first factor and 512 columns of the second. -/
theorem b0 (t : Fin cfg0.N) (r : Fin 2048) (k : Fin 1024) : iblk m c 0 t (ix2 r k) = A0 m c (ix2 r k) := by
  rw [← e0]; blk_ext [iblk, idx t]
theorem b1 (t : Fin cfg0.N) (k : Fin 1024) (d : Fin 512) : iblk m c 1 t (ix3 0 k d) = A1 m c (ix2 k ⟨t.val * 512 + d.val, by have := lt8 t; omega⟩) := by
  have ht := lt8 t
  have e : iblk m c 1 t (ix3 0 k d) = V m c main_v3 (ix3 ⟨t.val / 2, by omega⟩ k ⟨t.val % 2 * 512 + d.val, by omega⟩) := by blk_ext [iblk, idx t]
  rw [e, e3]
  generalize hR : A1 m c (ix2 k ⟨t.val * 512 + d.val, by omega⟩) = R
  pointwise
  rw [← hR]
  congr 3
  omega

/-- The body's product of its blocks. -/
theorem prod_apply (x0 : Vec Ideal S2048x1024 .bf16) (x1 : Vec Ideal S1x1024x512 .bf16) (r : Fin 2048) (d : Fin 512) :
    k0_pay1 x0 x1 (ix2 r d) = (∑ k : Fin 1024, x0 (ix2 r k) * x1 (ix3 0 k d) : EReal) := by
  generalize hR : (∑ k : Fin 1024, x0 (ix2 r k) * x1 (ix3 0 k d) : EReal) = R
  pointwise [k0_pay1]
  exact hR

/-- What the body stores: the square of the product's positive part. -/
theorem out2_apply (x0 : Vec Ideal S2048x1024 .bf16) (x1 : Vec Ideal S1x1024x512 .bf16) (r : Fin 2048) (d : Fin 512) :
    out0_2 x0 x1 (ix2 r d) = max (∑ k : Fin 1024, x0 (ix2 r k) * x1 (ix3 0 k d) : EReal) 0 * max (∑ k : Fin 1024, x0 (ix2 r k) * x1 (ix3 0 k d) : EReal) 0 := by
  unfold out0_2
  refine (canon_whole _ _ _ _).trans ?_
  rw [← prod_apply]
  generalize hP : k0_pay1 x0 x1 = P
  have hP' : k0_pay1 (View.ld x0 r0_0) (View.ld x1 r0_1) = P := by
    rw [← hP]
    refine congrArg₂ k0_pay1 (funext fun y => ?_) (funext fun y => ?_)
    · pointwise
    · idx_vars y
      obtain rfl : y0 = 0 := Subsingleton.elim _ _
      pointwise
  rw [show k0_pay2 (View.ld x0 r0_0) (View.ld x1 r0_1) = _ from rfl, k0_pay2, hP']
  pointwise
/-- What the body stores beside it: twice the positive part. -/
theorem out3_apply (x0 : Vec Ideal S2048x1024 .bf16) (x1 : Vec Ideal S1x1024x512 .bf16) (r : Fin 2048) (d : Fin 512) :
    out0_3 x0 x1 (ix2 r d) = Ideal.ofBits .f32 0x40000000#32 * max (∑ k : Fin 1024, x0 (ix2 r k) * x1 (ix3 0 k d) : EReal) 0 := by
  unfold out0_3
  refine (canon_whole _ _ _ _).trans ?_
  rw [← prod_apply]
  generalize hP : k0_pay1 x0 x1 = P
  have hP' : k0_pay1 (View.ld x0 r0_0) (View.ld x1 r0_1) = P := by
    rw [← hP]
    refine congrArg₂ k0_pay1 (funext fun y => ?_) (funext fun y => ?_)
    · pointwise
    · idx_vars y
      obtain rfl : y0 = 0 := Subsingleton.elim _ _
      pointwise
  rw [show k0_pay3 (View.ld x0 r0_0) (View.ld x1 r0_1) = _ from rfl, k0_pay3, hP']
  pointwise

open Cert.UpRefIdeal.Read in
theorem ref8 (x0 : S2048x1024.Idx → EReal) (x1 : S1024x4096.Idx → EReal) (i : S2048x4096.Idx) :
    val_main_v8 (F := Ideal) x0 x1 i = max (val_main_v0 (F := Ideal) x0 x1 i : EReal) 0 * max (val_main_v0 (F := Ideal) x0 x1 i : EReal) 0 := by
  rw [val_main_v8_apply, val_main_v5_apply, val_main_v1_apply, val_main_call0_v0_apply, val_main_call0_cst_apply]
  generalize val_main_v0 (F := Ideal) x0 x1 i = u
  pointwise

open Cert.UpRefIdeal.Read in
theorem ref13 (x0 : S2048x1024.Idx → EReal) (x1 : S1024x4096.Idx → EReal) (i : S2048x4096.Idx) :
    val_main_v13 (F := Ideal) x0 x1 i = Ideal.ofBits .f32 0x40000000#32 * max (val_main_v0 (F := Ideal) x0 x1 i : EReal) 0 := by
  rw [val_main_v13_apply, val_main_v12_apply, val_main_v10_apply, val_main_v7_apply, val_main_v3_apply, val_main_v1_apply,
    val_main_v2_apply, val_main_cst_apply, val_main_v11_apply, val_main_cst_3_apply, val_main_v9_apply, val_main_cst_2_apply, val_main_v6_apply,
    val_main_cst_1_apply, val_main_call0_v0_apply, val_main_call0_cst_apply]
  generalize val_main_v0 (F := Ideal) x0 x1 i = u
  pointwise
  have h := slope_choice u 1 (Ideal.ofBits .f32 0x40000000#32)
  rwa [one_mul] at h

/-- A block's product is the reference's product at the block's place. -/
theorem sum_eq (t : Fin cfg0.N) (r : Fin 2048) (d : Fin 512) :
    (∑ k : Fin 1024, (fun a b : EReal => a * b) (iblk m c 0 t (ix2 r k)) (iblk m c 1 t (ix3 0 k d)) : EReal)
    = Cert.UpRefIdeal.Read.val_main_v0 (F := Ideal) (A0 m c) (A1 m c) (ix2 r ⟨t.val * 512 + d.val, by have := lt8 t; omega⟩) := by
  rw [Cert.UpRefIdeal.Read.val_main_v0_apply]
  refine Finset.sum_congr rfl fun k _ => ?_
  refine (congrArg₂ (fun a b : EReal => a * b) (b0 m c t r k) (b1 m c t k d)).trans ?_
  exact congrArg₂ (fun a b : EReal => a * b) (congrArg _ (funext fun a => by fin_cases a <;> rfl)) (congrArg _ (funext fun a => by fin_cases a <;> rfl))

theorem arr2 : (dats m 0 c).arrAt 2 cfg0.N = Cert.UpRefIdeal.Read.val_main_v8 (F := Ideal) (A0 m c) (A1 m c) := by
  refine (dats m 0 c).arrAt_eq_of_covers 2 _ (by decide +kernel) fun t hf y => ?_
  have ht := lt8 t
  idx_vars y
  have e : ((cfg0.win 2).blk t).view.emb (ix2 y0 y1) = ix2 y0 ⟨t.val * 512 + y1.val, by omega⟩ := by blk_ext [idx t]
  refine Eq.trans ?_ (congrArg (Cert.UpRefIdeal.Read.val_main_v8 (F := Ideal) (A0 m c) (A1 m c)) e).symm
  blk_simp
  rw [after0_2]
  refine (out2_apply _ _ y0 y1).trans ?_
  rw [ref8, ← sum_eq]

theorem arr3 : (dats m 0 c).arrAt 3 cfg0.N = Cert.UpRefIdeal.Read.val_main_v13 (F := Ideal) (A0 m c) (A1 m c) := by
  refine (dats m 0 c).arrAt_eq_of_covers 3 _ (by decide +kernel) fun t hf y => ?_
  have ht := lt8 t
  idx_vars y
  have e : ((cfg0.win 3).blk t).view.emb (ix2 y0 y1) = ix2 y0 ⟨t.val * 512 + y1.val, by omega⟩ := by blk_ext [idx t]
  refine Eq.trans ?_ (congrArg (Cert.UpRefIdeal.Read.val_main_v13 (F := Ideal) (A0 m c) (A1 m c)) e).symm
  blk_simp
  rw [after0_3]
  refine (out3_apply _ _ y0 y1).trans ?_
  rw [ref13, ← sum_eq]

end Cert.UpIdeal.Final

end
-- ==== Proof.Down.lean ====
/- The second half of the feed-forward block with its layer norm: the kernel's arrays are the reference's. -/
module

public import proofs.«01_k».proof.Proof.Gen.DownIdeal.Value
public import proofs.«01_k».proof.Proof.Gen.DownRefIdeal.Read
public import Idealize.ShloMosaic.Lib.Pipeline.ValueKit
public import proofs.«01_k».proof.Proof.Tile
public import proofs.«01_k».proof.Proof.Whole

@[expose] public section
set_option maxRecDepth 16384
noncomputable section

namespace Cert.DownIdeal.Final

open Cert.Attn Cert.DownIdeal Cert.DownIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2048x1024.Idx → EReal := m ((c : Thread nD τ).loc main_arg0)
abbrev A1 : S1024x4096.Idx → EReal := m ((c : Thread nD τ).loc main_arg1)
abbrev A2 : S4096x1024.Idx → EReal := m ((c : Thread nD τ).loc main_arg2)
abbrev A3 : S1x1024.Idx → EReal := m ((c : Thread nD τ).loc main_arg3)
abbrev A4 : S1x1024.Idx → EReal := m ((c : Thread nD τ).loc main_arg4)

/-- The hidden layer that the host code prepares is the reference's own value. -/
theorem e3 : V m c main_v3 = Cert.DownRefIdeal.Read.val_main_v4 (F := Ideal) (A0 m c) (A1 m c) := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl
theorem e4 : V m c main_v4 = A2 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl
theorem eA0 : V m c main_arg0 = A0 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl
theorem eA3 : V m c main_arg3 = A3 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl
theorem eA4 : V m c main_arg4 = A4 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

theorem lt4 (t : Fin cfg0.N) : t.val < 4 := t.isLt

theorem b0 (t : Fin cfg0.N) (r : Fin 512) (k : Fin 4096) : iblk m c 0 t (ix2 r k)
    = Cert.DownRefIdeal.Read.val_main_v4 (F := Ideal) (A0 m c) (A1 m c) (ix2 ⟨t.val * 512 + r.val, by have := lt4 t; omega⟩ k) := by
  rw [← e3]; have ht := lt4 t; blk_ext [iblk, idx t]
theorem b1 (t : Fin cfg0.N) (k : Fin 4096) (d : Fin 1024) : iblk m c 1 t (ix2 k d) = A2 m c (ix2 k d) := by
  rw [← e4]; blk_ext [iblk, idx t]
theorem b2 (t : Fin cfg0.N) (r : Fin 512) (d : Fin 1024) : iblk m c 2 t (ix2 r d) = A0 m c (ix2 ⟨t.val * 512 + r.val, by have := lt4 t; omega⟩ d) := by
  rw [← eA0]; have ht := lt4 t; blk_ext [iblk, idx t]
theorem b3 (t : Fin cfg0.N) (d : Fin 1024) : iblk m c 3 t (ix2 0 d) = A3 m c (ix2 0 d) := by
  rw [← eA3]; blk_ext [iblk, idx t]
theorem b4 (t : Fin cfg0.N) (d : Fin 1024) : iblk m c 4 t (ix2 0 d) = A4 m c (ix2 0 d) := by
  rw [← eA4]; blk_ext [iblk, idx t]

/-- A row's layer norm: its distance from the mean over the root of the variance, times the gain, plus the offset. -/
def mean (v : Fin 1024 → EReal) : EReal := Ideal.div (∑ k : Fin 1024, v k) (Ideal.ofBits .f32 0x44800000#32)
def lnorm (v : Fin 1024 → EReal) (g b : EReal) (d : Fin 1024) : EReal :=
  (v d - mean v) * Ideal.rsqrt (Ideal.div (∑ k : Fin 1024, (v k - mean v) * (v k - mean v)) (Ideal.ofBits .f32 0x44800000#32) + Ideal.ofBits .f32 0x3727C5AC#32) * g + b

/-- The sum that the layer norm takes: the scaled input and the product. -/
def vsum (x0 : Vec Ideal S512x4096 .bf16) (x1 : Vec Ideal S4096x1024 .bf16) (x2 : Vec Ideal S512x1024 .f32) (r : Fin 512) (d : Fin 1024) : EReal :=
  Ideal.ofBits .f32 0x3FD744FD#32 * x2 (ix2 r d) + ∑ k : Fin 4096, x0 (ix2 r k) * x1 (ix2 k d)

theorem v_apply (x0 : Vec Ideal S512x4096 .bf16) (x1 : Vec Ideal S4096x1024 .bf16) (x2 : Vec Ideal S512x1024 .f32) (r : Fin 512) (d : Fin 1024) :
    k0_pay3 (View.ld x0 r0_0) (View.ld x1 r0_1) (View.ld x2 r0_2) (ix2 r d) = vsum x0 x1 x2 r d := by
  generalize hR : vsum x0 x1 x2 r d = R
  pointwise [k0_pay3]
  exact hR

theorem y_apply (x0 : Vec Ideal S512x4096 .bf16) (x1 : Vec Ideal S4096x1024 .bf16) (x2 : Vec Ideal S512x1024 .f32)
    (x3 : Vec Ideal S1x1024 .f32) (x4 : Vec Ideal S1x1024 .f32) (r : Fin 512) (d : Fin 1024) :
    k0_pay4 (View.ld x0 r0_0) (View.ld x1 r0_1) (View.ld x2 r0_2) (View.ld x3 r0_3) (View.ld x4 r0_3) (ix2 r d)
      = lnorm (vsum x0 x1 x2 r) (x3 (ix2 0 d)) (x4 (ix2 0 d)) d := by
  rw [show vsum x0 x1 x2 r = fun d => k0_pay3 (View.ld x0 r0_0) (View.ld x1 r0_1) (View.ld x2 r0_2) (ix2 r d) from funext fun d => (v_apply x0 x1 x2 r d).symm]
  unfold k0_pay4
  generalize k0_pay3 (View.ld x0 r0_0) (View.ld x1 r0_1) (View.ld x2 r0_2) = v
  generalize hR : lnorm (fun d => v (ix2 r d)) (x3 (ix2 0 d)) (x4 (ix2 0 d)) d = R
  pointwise
  exact hR

theorem out7_apply (x0 : Vec Ideal S512x4096 .bf16) (x1 : Vec Ideal S4096x1024 .bf16) (x2 : Vec Ideal S512x1024 .f32)
    (x3 : Vec Ideal S1x1024 .f32) (x4 : Vec Ideal S1x1024 .f32) (r : Fin 512) (d : Fin 1024) : out0_7 x0 x1 x2 x3 x4 (ix2 r d) = vsum x0 x1 x2 r d := by
  unfold out0_7
  refine (canon_whole _ _ _ _).trans ?_
  rw [← v_apply]
  generalize k0_pay3 (View.ld x0 r0_0) (View.ld x1 r0_1) (View.ld x2 r0_2) = v
  pointwise [k0_pay2]
theorem out5_apply (x0 : Vec Ideal S512x4096 .bf16) (x1 : Vec Ideal S4096x1024 .bf16) (x2 : Vec Ideal S512x1024 .f32)
    (x3 : Vec Ideal S1x1024 .f32) (x4 : Vec Ideal S1x1024 .f32) (r : Fin 512) (d : Fin 1024) : out0_5 x0 x1 x2 x3 x4 (ix2 r d) = lnorm (vsum x0 x1 x2 r) (x3 (ix2 0 d)) (x4 (ix2 0 d)) d := by
  unfold out0_5
  refine (canon_whole _ _ _ _).trans ?_
  rw [← y_apply]
  unfold k0_pay5
  generalize k0_pay4 (View.ld x0 r0_0) (View.ld x1 r0_1) (View.ld x2 r0_2) (View.ld x3 r0_3) (View.ld x4 r0_3) = v
  pointwise
theorem out6_apply (x0 : Vec Ideal S512x4096 .bf16) (x1 : Vec Ideal S4096x1024 .bf16) (x2 : Vec Ideal S512x1024 .f32)
    (x3 : Vec Ideal S1x1024 .f32) (x4 : Vec Ideal S1x1024 .f32) (r : Fin 512) (d : Fin 1024) : out0_6 x0 x1 x2 x3 x4 (ix2 r d) = lnorm (vsum x0 x1 x2 r) (x3 (ix2 0 d)) (x4 (ix2 0 d)) d := by
  unfold out0_6
  refine (canon_whole _ _ _ _).trans ?_
  rw [← y_apply]
  unfold k0_pay1 k0_pay6
  generalize k0_pay4 (View.ld x0 r0_0) (View.ld x1 r0_1) (View.ld x2 r0_2) (View.ld x3 r0_3) (View.ld x4 r0_3) = v
  pointwise

open Cert.DownRefIdeal.Read in
theorem ref_v (x0 : S2048x1024.Idx → EReal) (x1 : S1024x4096.Idx → EReal) (x2 : S4096x1024.Idx → EReal) (r : Fin 2048) (d : Fin 1024) :
    val_main_v6 (F := Ideal) x0 x1 x2 (ix2 r d)
      = (Ideal.ofBits .f32 0x3FD744FD#32 * x0 (ix2 r d) + ∑ k : Fin 4096, (val_main_v4 (F := Ideal) x0 x1 (ix2 r k) : EReal) * (x2 (ix2 k d) : EReal) : EReal) := by
  rw [val_main_v6_apply, val_main_v1_apply, val_main_v0_apply, val_main_cst_apply, val_main_v5_apply]
  refine congrArg₂ (fun a b : EReal => a + b) rfl (Finset.sum_congr rfl fun k _ => ?_)
  exact congrArg₂ (fun a b : EReal => a * b) (congrArg _ (funext fun a => by fin_cases a <;> rfl)) (congrArg _ (funext fun a => by fin_cases a <;> rfl))

open Cert.DownRefIdeal.Read in
theorem ref_y (x0 : S2048x1024.Idx → EReal) (x1 : S1024x4096.Idx → EReal) (x2 : S4096x1024.Idx → EReal) (x3 x4 : S1x1024.Idx → EReal) (r : Fin 2048) (d : Fin 1024) :
    val_main_v28 (F := Ideal) x0 x1 x2 x3 x4 (ix2 r d)
      = lnorm (fun j => val_main_v6 (F := Ideal) x0 x1 x2 (ix2 r j)) (x3 (ix2 0 d)) (x4 (ix2 0 d)) d := by
  simp only [val_main_v28_apply, val_main_v27_apply, val_main_v26_apply, val_main_v25_apply, val_main_v24_apply, val_main_v23_apply,
    val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_v10_apply, val_main_v9_apply,
    val_main_v8_apply, val_main_v7_apply, val_main_cst_0_apply, val_main_cst_1_apply, val_main_cst_2_apply, val_main_cst_3_apply, val_main_cst_4_apply]
  have i1 : ∀ k, idx_main_v7 (idx_main_v8 (idx_main_v18 (ix2 r d))) k = ix2 r k := fun k => funext fun a => by fin_cases a <;> rfl
  have i2 : ∀ k, idx_main_v14 (idx_main_v15 (idx_main_v23 (ix2 r d))) k = ix2 r k := fun k => funext fun a => by fin_cases a <;> rfl
  have i3 : ∀ k j, idx_main_v7 (idx_main_v8 (idx_main_v11 (ix2 r k))) j = ix2 r j := fun k j => funext fun a => by fin_cases a <;> rfl
  have i4 : idx_main_v25 (ix2 r d) = ix2 0 d := funext fun a => by fin_cases a <;> rfl
  have i5 : idx_main_v27 (ix2 r d) = ix2 0 d := funext fun a => by fin_cases a <;> rfl
  simp only [i1, i2, i3, i4, i5]
  generalize val_main_v6 (F := Ideal) x0 x1 x2 = v
  generalize hR : lnorm (fun d => v (ix2 r d)) (x3 (ix2 0 d)) (x4 (ix2 0 d)) d = R
  pointwise
  exact hR

/-- A block's sum is the reference's at the block's place. -/
theorem vsum_eq (t : Fin cfg0.N) (r : Fin 512) (d : Fin 1024) :
    vsum (iblk m c 0 t) (iblk m c 1 t) (iblk m c 2 t) r d
      = Cert.DownRefIdeal.Read.val_main_v6 (F := Ideal) (A0 m c) (A1 m c) (A2 m c) (ix2 ⟨t.val * 512 + r.val, by have := lt4 t; omega⟩ d) := by
  rw [ref_v]
  refine congrArg₂ (fun a b : EReal => a + b) (congrArg (fun a : EReal => Ideal.ofBits .f32 0x3FD744FD#32 * a) (b2 m c t r d)) (Finset.sum_congr rfl fun k _ => ?_)
  exact congrArg₂ (fun a b : EReal => a * b) (b0 m c t r k) (b1 m c t k d)
theorem lnorm_eq (t : Fin cfg0.N) (r : Fin 512) (d : Fin 1024) :
    lnorm (vsum (iblk m c 0 t) (iblk m c 1 t) (iblk m c 2 t) r) (iblk m c 3 t (ix2 0 d)) (iblk m c 4 t (ix2 0 d)) d
      = Cert.DownRefIdeal.Read.val_main_v28 (F := Ideal) (A0 m c) (A1 m c) (A2 m c) (A3 m c) (A4 m c) (ix2 ⟨t.val * 512 + r.val, by have := lt4 t; omega⟩ d) := by
  rw [ref_y, b3, b4]
  exact congrArg (fun v => lnorm v (A3 m c (ix2 0 d)) (A4 m c (ix2 0 d)) d) (funext fun j => vsum_eq m c t r j)

theorem arr5 : (dats m 0 c).arrAt 5 cfg0.N = Cert.DownRefIdeal.Read.val_main_v28 (F := Ideal) (A0 m c) (A1 m c) (A2 m c) (A3 m c) (A4 m c) := by
  refine (dats m 0 c).arrAt_eq_of_covers 5 _ (by decide +kernel) fun t hf y => ?_
  have ht := lt4 t
  idx_vars y
  have e : ((cfg0.win 5).blk t).view.emb (ix2 y0 y1) = ix2 ⟨t.val * 512 + y0.val, by omega⟩ y1 := by blk_ext [idx t]
  refine Eq.trans ?_ (congrArg (Cert.DownRefIdeal.Read.val_main_v28 (F := Ideal) (A0 m c) (A1 m c) (A2 m c) (A3 m c) (A4 m c)) e).symm
  blk_simp
  rw [after0_5]
  exact (out5_apply _ _ _ _ _ y0 y1).trans (lnorm_eq m c t y0 y1)

theorem arr6 : (dats m 0 c).arrAt 6 cfg0.N = Cert.DownRefIdeal.Read.val_main_v29 (F := Ideal) (A0 m c) (A1 m c) (A2 m c) (A3 m c) (A4 m c) := by
  refine (dats m 0 c).arrAt_eq_of_covers 6 _ (by decide +kernel) fun t hf y => ?_
  have ht := lt4 t
  idx_vars y
  have e : ((cfg0.win 6).blk t).view.emb (ix2 y0 y1) = ix2 ⟨t.val * 512 + y0.val, by omega⟩ y1 := by blk_ext [idx t]
  refine Eq.trans ?_ (congrArg (Cert.DownRefIdeal.Read.val_main_v29 (F := Ideal) (A0 m c) (A1 m c) (A2 m c) (A3 m c) (A4 m c)) e).symm
  blk_simp
  rw [after0_6]
  exact (out6_apply _ _ _ _ _ y0 y1).trans (lnorm_eq m c t y0 y1)

theorem arr7 : (dats m 0 c).arrAt 7 cfg0.N = Cert.DownRefIdeal.Read.val_main_v6 (F := Ideal) (A0 m c) (A1 m c) (A2 m c) := by
  refine (dats m 0 c).arrAt_eq_of_covers 7 _ (by decide +kernel) fun t hf y => ?_
  have ht := lt4 t
  idx_vars y
  have e : ((cfg0.win 7).blk t).view.emb (ix2 y0 y1) = ix2 ⟨t.val * 512 + y0.val, by omega⟩ y1 := by blk_ext [idx t]
  refine Eq.trans ?_ (congrArg (Cert.DownRefIdeal.Read.val_main_v6 (F := Ideal) (A0 m c) (A1 m c) (A2 m c)) e).symm
  blk_simp
  rw [after0_7]
  exact (out7_apply _ _ _ _ _ y0 y1).trans (vsum_eq m c t y0 y1)

end Cert.DownIdeal.Final

end
-- ==== Proof.DownDw.lean ====
/- The gradient of the feed-forward block's second weight matrix: the kernel's array is the reference's. -/
module

public import proofs.«01_k».proof.Proof.Gen.DownDwIdeal.Value
public import proofs.«01_k».proof.Proof.Gen.DownDwRefIdeal.Read
public import Idealize.ShloMosaic.Lib.Pipeline.ValueKit
public import proofs.«01_k».proof.Proof.Tile

@[expose] public section
set_option maxRecDepth 16384
noncomputable section

namespace Cert.DownDwIdeal.Final

open Cert.Attn Cert.DownDwIdeal Cert.DownDwIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2048x1024.Idx → EReal := m ((c : Thread nD τ).loc main_arg0)
abbrev A1 : S1024x4096.Idx → EReal := m ((c : Thread nD τ).loc main_arg1)
abbrev A3 : S2048x1024.Idx → EReal := m ((c : Thread nD τ).loc main_arg3)

/-- The hidden layer that the host code prepares is the reference's own value. -/
theorem e3 : V m c main_v3 = Cert.DownDwRefIdeal.Read.val_main_v2 (F := Ideal) (A0 m c) (A1 m c) := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem e4 : V m c main_v4 = A3 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem lt8 (t : Fin cfg0.N) : t.val < 8 := t.isLt

/-- What the body stores is the product of its blocks. -/
theorem out_apply (x0 : Vec Ideal S2048x1024 .bf16) (x1 : Vec Ideal S2048x512 .bf16) (r : Fin 1024) (d : Fin 512) :
    out0_2 x0 x1 (ix2 r d) = ∑ k : Fin 2048, x0 (ix2 k r) * x1 (ix2 k d) := by
  unfold out0_2
  refine (canon_block _ _ _ r d).trans ?_
  rw [dif_pos (by omega)]
  generalize hR : (∑ k : Fin 2048, x0 (ix2 k r) * x1 (ix2 k d)) = R
  pointwise [k0_pay1]
  exact hR

theorem arr2 : (dats m 0 c).arrAt 2 cfg0.N = Cert.DownDwRefIdeal.Read.val_main_v6 (F := Ideal) (A0 m c) (A1 m c) (A3 m c) := by
  refine (dats m 0 c).arrAt_eq_of_covers 2 _ (by decide +kernel) fun t hf y => ?_
  have ht := lt8 t
  idx_vars y
  have e : ((cfg0.win 2).blk t).view.emb (ix2 y0 y1) = ix2 ⟨(t.val / 2) * 1024 + y0.val, by omega⟩ ⟨(t.val % 2) * 512 + y1.val, by omega⟩ := by blk_ext [idx t]
  refine Eq.trans ?_ (congrArg (Cert.DownDwRefIdeal.Read.val_main_v6 (F := Ideal) (A0 m c) (A1 m c) (A3 m c)) e).symm
  blk_simp
  rw [after0_2]
  refine (out_apply _ _ y0 y1).trans ?_
  have b0 : ∀ k : Fin 2048, iblk m c 0 t (ix2 k y0) = Cert.DownDwRefIdeal.Read.val_main_v2 (F := Ideal) (A0 m c) (A1 m c) (ix2 k ⟨(t.val / 2) * 1024 + y0.val, by omega⟩) := fun k => by
    rw [← e3]; blk_ext [iblk, idx t]
  have b1 : ∀ k : Fin 2048, iblk m c 1 t (ix2 k y1) = A3 m c (ix2 k ⟨(t.val % 2) * 512 + y1.val, by omega⟩) := fun k => by
    rw [← e4]; blk_ext [iblk, idx t]
  rw [Cert.DownDwRefIdeal.Read.val_main_v6_apply, Cert.DownDwRefIdeal.Read.val_main_v5_apply, Cert.DownDwRefIdeal.Read.val_main_v4_apply]
  refine Finset.sum_congr rfl fun k _ => ((congrArg₂ (fun a b : EReal => a * b) (b0 k) (b1 k)).trans (mul_comm _ _)).trans ?_
  exact congrArg₂ (fun a b : EReal => a * b) (congrArg _ (funext fun a => by fin_cases a <;> rfl)) (congrArg _ (funext fun a => by fin_cases a <;> rfl))

end Cert.DownDwIdeal.Final

end
-- ==== Proof.DownDx.lean ====
/- The gradient at the feed-forward block's hidden layer: the kernel's array is the reference's. -/
module

public import proofs.«01_k».proof.Proof.Gen.DownDxIdeal.Value
public import proofs.«01_k».proof.Proof.Gen.DownDxRefIdeal.Read
public import Idealize.ShloMosaic.Lib.Pipeline.ValueKit
public import proofs.«01_k».proof.Proof.Whole

@[expose] public section
set_option maxRecDepth 16384
noncomputable section

namespace Cert.DownDxIdeal.Final

open Cert.Attn Cert.DownDxIdeal Cert.DownDxIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2048x1024.Idx → EReal := m ((c : Thread nD τ).loc main_arg0)
abbrev A1 : S1024x4096.Idx → EReal := m ((c : Thread nD τ).loc main_arg1)
abbrev A2 : S4096x1024.Idx → EReal := m ((c : Thread nD τ).loc main_arg2)
abbrev A3 : S2048x1024.Idx → EReal := m ((c : Thread nD τ).loc main_arg3)

/-- The slope that the host code prepares is the reference's own factor. -/
theorem e6 : V m c main_v6 = Cert.DownDxRefIdeal.Read.val_main_v7 (F := Ideal) (A0 m c) (A1 m c) := by
  unfold V
  simp only [hostOps0, hostOps0_1, hostOps0_2, List.flatten_cons, List.flatten_nil, List.cons_append, List.nil_append, List.append_nil, TRef.binary, TRef.nullary,
    TRef.ternary, TRef.unary, TRef.toBuf, TRef.ofBuf, cast_eq]
  after_results_simp <;> rfl

theorem e4 : V m c main_v4 = A3 m c := by
  unfold V
  simp only [hostOps0, hostOps0_1, hostOps0_2, List.flatten_cons, List.flatten_nil, List.cons_append, List.nil_append, List.append_nil, TRef.binary, TRef.nullary,
    TRef.ternary, TRef.unary, TRef.toBuf, TRef.ofBuf, cast_eq]
  after_results_simp <;> rfl

theorem e5 : V m c main_v5 = A2 m c := by
  unfold V
  simp only [hostOps0, hostOps0_1, hostOps0_2, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![0, 0] ∧ win0_1.index t = ![t.val, 0] ∧ win0_2.index t = ![0, t.val] ∧ win0_3.index t = ![0, t.val] :=
  (by decide +kernel : ∀ t : Fin grid0.N, _)

theorem lt8 (t : Fin cfg0.N) : t.val < 8 := t.isLt

/-- What the body stores is the product of its blocks, times the slope. -/
theorem out_apply (x0 : Vec Ideal S2048x1024 .bf16) (x1 : Vec Ideal S512x1024 .bf16) (x2 : Vec Ideal S2048x512 .bf16) (r : Fin 2048) (d : Fin 512) :
    out0_3 x0 x1 x2 (ix2 r d) = (∑ k : Fin 1024, x0 (ix2 r k) * x1 (ix2 d k) : EReal) * x2 (ix2 r d) := by
  unfold out0_3
  refine (canon_whole _ _ _ _).trans ?_
  generalize hR : (∑ k : Fin 1024, x0 (ix2 r k) * x1 (ix2 d k) : EReal) * x2 (ix2 r d) = R
  pointwise [k0_pay1]
  exact hR

open Cert.DownDxRefIdeal.Read in
/-- The reference's choice by the sign of the input of the positive part changes nothing. -/
theorem ref_apply (x0 : S2048x1024.Idx → EReal) (x1 : S1024x4096.Idx → EReal) (x2 : S4096x1024.Idx → EReal) (x3 : S2048x1024.Idx → EReal) (i : S2048x4096.Idx) :
    val_main_v13 (F := Ideal) x0 x1 x2 x3 i = val_main_v9 (F := Ideal) x2 x3 i * val_main_v7 (F := Ideal) x0 x1 i := by
  rw [val_main_v13_apply, val_main_v12_apply, val_main_v10_apply, val_main_v7_apply, val_main_v3_apply, val_main_v1_apply,
    val_main_v2_apply, val_main_cst_apply, val_main_v11_apply, val_main_cst_2_apply, val_main_call0_v0_apply, val_main_call0_cst_apply]
  generalize val_main_v9 (F := Ideal) x2 x3 i = D
  generalize val_main_v0 (F := Ideal) x0 x1 i = u
  generalize val_main_v6 (F := Ideal) i = k
  pointwise
  exact slope_choice u D k

theorem arr3 : (dats m 0 c).arrAt 3 cfg0.N = Cert.DownDxRefIdeal.Read.val_main_v13 (F := Ideal) (A0 m c) (A1 m c) (A2 m c) (A3 m c) := by
  refine (dats m 0 c).arrAt_eq_of_covers 3 _ (by decide +kernel) fun t hf y => ?_
  have ht := lt8 t
  idx_vars y
  have e : ((cfg0.win 3).blk t).view.emb (ix2 y0 y1) = ix2 y0 ⟨t.val * 512 + y1.val, by omega⟩ := by blk_ext [idx t]
  refine Eq.trans ?_ (congrArg (Cert.DownDxRefIdeal.Read.val_main_v13 (F := Ideal) (A0 m c) (A1 m c) (A2 m c) (A3 m c)) e).symm
  blk_simp
  rw [after0_3]
  refine (out_apply _ _ _ y0 y1).trans ?_
  have b0 : ∀ k : Fin 1024, iblk m c 0 t (ix2 y0 k) = A3 m c (ix2 y0 k) := fun k => by
    rw [← e4]; blk_ext [iblk, idx t]
  have b1 : ∀ k : Fin 1024, iblk m c 1 t (ix2 y1 k) = A2 m c (ix2 ⟨t.val * 512 + y1.val, by omega⟩ k) := fun k => by
    rw [← e5]; blk_ext [iblk, idx t]
  have b2 : iblk m c 2 t (ix2 y0 y1) = Cert.DownDxRefIdeal.Read.val_main_v7 (F := Ideal) (A0 m c) (A1 m c) (ix2 y0 ⟨t.val * 512 + y1.val, by omega⟩) := by
    rw [← e6]; blk_ext [iblk, idx t]
  rw [ref_apply, Cert.DownDxRefIdeal.Read.val_main_v9_apply]
  refine congrArg₂ (fun a b : EReal => a * b) (Finset.sum_congr rfl fun k _ => ?_) b2
  refine (congrArg₂ (fun a b : EReal => a * b) (b0 k) (b1 k)).trans ?_
  exact congrArg₂ (fun a b : EReal => a * b) (congrArg _ (funext fun a => by fin_cases a <;> rfl)) (congrArg _ (funext fun a => by fin_cases a <;> rfl))

end Cert.DownDxIdeal.Final

end
-- ==== Proof.UpDw.lean ====
/- The gradient of the feed-forward block's first weight matrix, cut by chips: the kernel's array is the reference's. -/
module

public import proofs.«01_k».proof.Proof.Gen.UpDwIdeal.Value
public import proofs.«01_k».proof.Proof.Gen.UpDwRefIdeal.Read
public import Idealize.ShloMosaic.Lib.Pipeline.ValueKit
public import proofs.«01_k».proof.Proof.Whole

@[expose] public section
set_option maxRecDepth 16384
noncomputable section

namespace Cert.UpDwIdeal.Final

open Cert.Attn Cert.UpDwIdeal Cert.UpDwIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2048x1024.Idx → EReal := m ((c : Thread nD τ).loc main_arg0)
abbrev A1 : S1024x4096.Idx → EReal := m ((c : Thread nD τ).loc main_arg1)
abbrev A2 : S4096x1024.Idx → EReal := m ((c : Thread nD τ).loc main_arg2)
abbrev A3 : S2048x1024.Idx → EReal := m ((c : Thread nD τ).loc main_arg3)

theorem e13 : V m c main_v13 = A0 m c := by
  unfold V
  simp only [hostOps0, hostOps0_1, hostOps0_2, List.flatten_cons, List.flatten_nil, List.cons_append, List.nil_append, List.append_nil, TRef.binary, TRef.nullary,
    TRef.ternary, TRef.unary, TRef.toBuf, TRef.ofBuf, cast_eq]
  after_results_simp <;> rfl

/-- The hidden layer's gradient that the host code prepares is the reference's own value. -/
theorem e14 : V m c main_v14 = Cert.UpDwRefIdeal.Read.val_main_v12 (F := Ideal) (A0 m c) (A1 m c) (A2 m c) (A3 m c) := by
  unfold V
  simp only [hostOps0, hostOps0_1, hostOps0_2, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![0, 0] ∧ win0_1.index t = ![0, t.val] ∧ win0_2.index t = ![t.val / 2, 0, t.val % 2] :=
  (by decide +kernel : ∀ t : Fin grid0.N, _)

theorem lt8 (t : Fin cfg0.N) : t.val < 8 := t.isLt

/-- What the body stores is the product of its blocks. -/
theorem out_apply (x0 : Vec Ideal S2048x1024 .bf16) (x1 : Vec Ideal S2048x512 .bf16) (q : Fin 1) (r : Fin 1024) (d : Fin 512) :
    out0_2 x0 x1 (ix3 q r d) = (∑ k : Fin 2048, x0 (ix2 k r) * x1 (ix2 k d) : EReal) := by
  unfold out0_2
  refine (canon_whole _ _ _ _).trans ?_
  generalize hR : (∑ k : Fin 2048, x0 (ix2 k r) * x1 (ix2 k d) : EReal) = R
  pointwise [k0_pay1]
  exact hR

open Cert.UpDwRefIdeal.Read in
theorem ref_apply (x0 : S2048x1024.Idx → EReal) (x1 : S1024x4096.Idx → EReal) (x2 : S4096x1024.Idx → EReal) (x3 : S2048x1024.Idx → EReal) (q : Fin 4) (r d : Fin 1024) :
    val_main_v17 (F := Ideal) x0 x1 x2 x3 (ix3 q r d) = (∑ k : Fin 2048, val_main_v12 (F := Ideal) x0 x1 x2 x3 (ix2 k ⟨q.val * 1024 + d.val, by omega⟩) * x0 (ix2 k r) : EReal) := by
  rw [val_main_v17_apply, val_main_v16_apply, val_main_v15_apply, val_main_v14_apply, val_main_v13_apply]
  refine Finset.sum_congr rfl fun k _ => ?_
  exact congrArg₂ (fun a b : EReal => a * b)
    (congrArg (val_main_v12 (F := Ideal) x0 x1 x2 x3) (funext fun a => Fin.ext (by fin_cases a <;> (dsimp; try omega))))
    (congrArg x0 (funext fun a => Fin.ext (by fin_cases a <;> (dsimp; try omega))))

theorem arr2 : (dats m 0 c).arrAt 2 cfg0.N = Cert.UpDwRefIdeal.Read.val_main_v17 (F := Ideal) (A0 m c) (A1 m c) (A2 m c) (A3 m c) := by
  refine (dats m 0 c).arrAt_eq_of_covers 2 _ (by decide +kernel) fun t hf y => ?_
  have ht := lt8 t
  idx_vars y
  have e : ((cfg0.win 2).blk t).view.emb (ix3 y0 y1 y2) = ix3 ⟨t.val / 2, by omega⟩ y1 ⟨t.val % 2 * 512 + y2.val, by omega⟩ := by blk_ext [idx t]
  refine Eq.trans ?_ (congrArg (Cert.UpDwRefIdeal.Read.val_main_v17 (F := Ideal) (A0 m c) (A1 m c) (A2 m c) (A3 m c)) e).symm
  blk_simp
  rw [after0_2]
  refine (out_apply _ _ y0 y1 y2).trans ?_
  have b0 : ∀ k : Fin 2048, iblk m c 0 t (ix2 k y1) = A0 m c (ix2 k y1) := fun k => by
    rw [← e13]; blk_ext [iblk, idx t]
  have b1 : ∀ k : Fin 2048, iblk m c 1 t (ix2 k y2) = Cert.UpDwRefIdeal.Read.val_main_v12 (F := Ideal) (A0 m c) (A1 m c) (A2 m c) (A3 m c) (ix2 k ⟨t.val / 2 * 1024 + (t.val % 2 * 512 + y2.val), by omega⟩) := fun k => by
    rw [← e14]; blk_ext [iblk, idx t]
  rw [ref_apply]
  exact Finset.sum_congr rfl fun k _ => (congrArg₂ (fun a b : EReal => a * b) (b0 k) (b1 k)).trans (mul_comm _ _)

end Cert.UpDwIdeal.Final

end
-- ==== Proof.Pad.lean ====
/- Sums over zero-padded columns, and a sum in four parts. -/
module

public import proofs.«01_k».proof.Proof.Whole

@[expose] public section
noncomputable section

namespace Cert.Attn

open Idealize.ShloMosaic

/-- The padding value is zero. -/
theorem zero_word (φ : FTy) : (FloatOps.sitofp φ (0#32 : BitVec 32) : Ideal φ) = (0 : EReal) := by
  show (((0#32 : BitVec 32).toInt : ℝ) : EReal) = 0
  simp

/-- Terms that vanish past the first `n` do not count. -/
theorem sum_short {n m : ℕ} (hnm : n ≤ m) (f : Fin m → EReal) (g : Fin n → EReal) (h : ∀ k : Fin n, f ⟨k.val, by omega⟩ = g k)
    (h0 : ∀ k : Fin m, n ≤ k.val → f k = 0) : ∑ k, f k = ∑ k, g k := by
  obtain ⟨d, rfl⟩ := Nat.exists_eq_add_of_le hnm
  rw [Fin.sum_univ_add]
  have hz : ∑ i : Fin d, f (Fin.natAdd n i) = 0 := Finset.sum_eq_zero fun i _ => h0 _ (by simp)
  rw [hz, add_zero]
  exact Finset.sum_congr rfl fun k _ => h k

/-- A sum as the sum of four equal parts. -/
theorem sum_four {n N : ℕ} (hN : N = n + n + n + n) (f : Fin N → EReal) :
    ∑ k, f k = (((∑ k : Fin n, f ⟨k.val, by omega⟩) + ∑ k : Fin n, f ⟨n + k.val, by omega⟩) + ∑ k : Fin n, f ⟨n + n + k.val, by omega⟩)
      + ∑ k : Fin n, f ⟨n + n + n + k.val, by omega⟩ := by
  subst hN
  rw [Fin.sum_univ_add, Fin.sum_univ_add, Fin.sum_univ_add]
  rfl

end Cert.Attn

end
-- ==== Proof.GlaIn.lean ====
/- The gated linear attention's input product with zero columns: the kernel's array is the reference's. -/
module

public import proofs.«01_k».proof.Proof.Gen.GlaInIdeal.Value
public import proofs.«01_k».proof.Proof.Gen.GlaInRefIdeal.Read
public import Idealize.ShloMosaic.Lib.Pipeline.ValueKit
public import proofs.«01_k».proof.Proof.Pad

@[expose] public section
set_option maxRecDepth 16384
noncomputable section

namespace Cert.GlaInIdeal.Final

open Cert.Attn Cert.GlaInIdeal Cert.GlaInIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2048x1024.Idx → EReal := m ((c : Thread nD τ).loc main_arg0)
abbrev A1 : S1024x3088.Idx → EReal := m ((c : Thread nD τ).loc main_arg1)

theorem e0 : V m c main_v0 = A0 m c := by
  unfold V
  simp only [hostOps0, hostOps0_1, List.flatten_cons, List.flatten_nil, List.cons_append, List.nil_append, List.append_nil, TRef.binary, TRef.nullary,
    TRef.ternary, TRef.unary, TRef.toBuf, TRef.ofBuf, cast_eq]
  after_results_simp <;> rfl

theorem e3 : V m c main_v3 = pad S3200x1024 ![0, 0] ![112, 0] ![0, 0] (transpose S3088x1024 [1, 0] (A1 m c) transposes_S1024x3088_S3088x1024_1_0) (sitofp (F := Ideal) .bf16 (constantI S_ 32 0#32)) pads_S3088x1024_S3200x1024_01120_000 h_S_ := by
  unfold V
  simp only [hostOps0, hostOps0_1, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![0, 0] ∧ win0_1.index t = ![t.val, 0] ∧ win0_2.index t = ![0, t.val] :=
  (by decide +kernel : ∀ t : Fin grid0.N, _)

theorem lt5 (t : Fin cfg0.N) : t.val < 5 := t.isLt

theorem b0 (t : Fin cfg0.N) (r : Fin 2048) (k : Fin 1024) : iblk m c 0 t (ix2 r k) = A0 m c (ix2 r k) := by
  rw [← e0]; blk_ext [iblk, idx t]
/-- Past the weight's columns the block holds zeros. -/
theorem b1 (t : Fin cfg0.N) (d : Fin 640) (k : Fin 1024) :
    iblk m c 1 t (ix2 d k) = if h : t.val * 640 + d.val < 3088 then A1 m c (ix2 k ⟨t.val * 640 + d.val, h⟩) else 0 := by
  have ht := lt5 t
  have e : iblk m c 1 t (ix2 d k) = V m c main_v3 (ix2 ⟨t.val * 640 + d.val, by omega⟩ k) := by blk_ext [iblk, idx t]
  rw [e, e3]
  generalize hR : (if h : t.val * 640 + d.val < 3088 then A1 m c (ix2 k ⟨t.val * 640 + d.val, h⟩) else 0) = R
  pointwise
  rw [← hR, zero_word]

/-- What the body stores is the product of its blocks. -/
theorem out_apply (x0 : Vec Ideal S2048x1024 .bf16) (x1 : Vec Ideal S640x1024 .bf16) (r : Fin 2048) (d : Fin 640) :
    out0_2 x0 x1 (ix2 r d) = (∑ k : Fin 1024, x0 (ix2 r k) * x1 (ix2 d k) : EReal) := by
  unfold out0_2
  refine (canon_whole _ _ _ _).trans ?_
  generalize hR : (∑ k : Fin 1024, x0 (ix2 r k) * x1 (ix2 d k) : EReal) = R
  pointwise [k0_pay1]
  exact hR

open Cert.GlaInRefIdeal.Read in
theorem ref_apply (x0 : S2048x1024.Idx → EReal) (x1 : S1024x3088.Idx → EReal) (r : Fin 2048) (j : Fin 3200) :
    val_main_v1 (F := Ideal) x0 x1 (ix2 r j) = if h : j.val < 3088 then val_main_v0 (F := Ideal) x0 x1 (ix2 r ⟨j.val, h⟩) else 0 := by
  unfold val_main_v1 val_main_call0_v0 val_main_c
  generalize val_main_v0 (F := Ideal) x0 x1 = v
  generalize hR : (if h : j.val < 3088 then v (ix2 r ⟨j.val, h⟩) else 0) = R
  pointwise
  rw [← hR, zero_word]

theorem arr2 : (dats m 0 c).arrAt 2 cfg0.N = Cert.GlaInRefIdeal.Read.val_main_v1 (F := Ideal) (A0 m c) (A1 m c) := by
  refine (dats m 0 c).arrAt_eq_of_covers 2 _ (by decide +kernel) fun t hf y => ?_
  have ht := lt5 t
  idx_vars y
  have e : ((cfg0.win 2).blk t).view.emb (ix2 y0 y1) = ix2 y0 ⟨t.val * 640 + y1.val, by omega⟩ := by blk_ext [idx t]
  refine Eq.trans ?_ (congrArg (Cert.GlaInRefIdeal.Read.val_main_v1 (F := Ideal) (A0 m c) (A1 m c)) e).symm
  blk_simp
  rw [after0_2]
  refine (out_apply _ _ y0 y1).trans ?_
  rw [ref_apply]
  split
  · rename_i h
    rw [Cert.GlaInRefIdeal.Read.val_main_v0_apply]
    refine Finset.sum_congr rfl fun k _ => (congrArg₂ (fun a b : EReal => a * b) (b0 m c t y0 k) ((b1 m c t y1 k).trans (dif_pos h))).trans ?_
    exact congrArg₂ (fun a b : EReal => a * b) (congrArg _ (funext fun a => by fin_cases a <;> rfl)) (congrArg _ (funext fun a => by fin_cases a <;> rfl))
  · rename_i h
    exact Finset.sum_eq_zero fun k _ => (congrArg (fun b : EReal => _ * b) ((b1 m c t y1 k).trans (dif_neg h))).trans (mul_zero _)

end Cert.GlaInIdeal.Final

end
-- ==== Proof.GlaInDw.lean ====
/- The gradient of the gated linear attention's input weight with zero columns: the kernel's array is the reference's. -/
module

public import proofs.«01_k».proof.Proof.Gen.GlaInDwIdeal.Value
public import proofs.«01_k».proof.Proof.Gen.GlaInDwRefIdeal.Read
public import Idealize.ShloMosaic.Lib.Pipeline.ValueKit
public import proofs.«01_k».proof.Proof.Pad

@[expose] public section
set_option maxRecDepth 16384
noncomputable section

namespace Cert.GlaInDwIdeal.Final

open Cert.Attn Cert.GlaInDwIdeal Cert.GlaInDwIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2048x1024.Idx → EReal := m ((c : Thread nD τ).loc main_arg0)
abbrev A2 : S2048x3088.Idx → EReal := m ((c : Thread nD τ).loc main_arg2)

theorem e0 : V m c main_v0 = A0 m c := by
  unfold V
  simp only [hostOps0, hostOps0_1, List.flatten_cons, List.flatten_nil, List.cons_append, List.nil_append, List.append_nil, TRef.binary, TRef.nullary,
    TRef.ternary, TRef.unary, TRef.toBuf, TRef.ofBuf, cast_eq]
  after_results_simp <;> rfl

theorem e2 : V m c main_v2 = pad S2048x3200 ![0, 0] ![0, 112] ![0, 0] (A2 m c) (sitofp (F := Ideal) .bf16 (constantI S_ 32 0#32)) pads_S2048x3088_S2048x3200_000_01120 h_S_ := by
  unfold V
  simp only [hostOps0, hostOps0_1, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![0, 0] ∧ win0_1.index t = ![0, t.val] ∧ win0_2.index t = ![0, t.val] :=
  (by decide +kernel : ∀ t : Fin grid0.N, _)

theorem lt5 (t : Fin cfg0.N) : t.val < 5 := t.isLt

theorem b0 (t : Fin cfg0.N) (k : Fin 2048) (r : Fin 1024) : iblk m c 0 t (ix2 k r) = A0 m c (ix2 k r) := by
  rw [← e0]; blk_ext [iblk, idx t]
/-- Past the gradient's columns the block holds zeros. -/
theorem b1 (t : Fin cfg0.N) (k : Fin 2048) (d : Fin 640) :
    iblk m c 1 t (ix2 k d) = if h : t.val * 640 + d.val < 3088 then A2 m c (ix2 k ⟨t.val * 640 + d.val, h⟩) else 0 := by
  have ht := lt5 t
  have e : iblk m c 1 t (ix2 k d) = V m c main_v2 (ix2 k ⟨t.val * 640 + d.val, by omega⟩) := by blk_ext [iblk, idx t]
  rw [e, e2]
  generalize hR : (if h : t.val * 640 + d.val < 3088 then A2 m c (ix2 k ⟨t.val * 640 + d.val, h⟩) else 0) = R
  pointwise
  rw [← hR, zero_word]

/-- What the body stores is the product of its blocks. -/
theorem out_apply (x0 : Vec Ideal S2048x1024 .bf16) (x1 : Vec Ideal S2048x640 .bf16) (r : Fin 1024) (d : Fin 640) :
    out0_2 x0 x1 (ix2 r d) = (∑ k : Fin 2048, x0 (ix2 k r) * x1 (ix2 k d) : EReal) := by
  unfold out0_2
  refine (canon_whole _ _ _ _).trans ?_
  generalize hR : (∑ k : Fin 2048, x0 (ix2 k r) * x1 (ix2 k d) : EReal) = R
  pointwise [k0_pay1]
  exact hR

open Cert.GlaInDwRefIdeal.Read in
theorem ref_apply (x0 : S2048x1024.Idx → EReal) (x2 : S2048x3088.Idx → EReal) (r : Fin 1024) (j : Fin 3200) :
    val_main_v5 (F := Ideal) x0 x2 (ix2 r j) = if h : j.val < 3088 then val_main_v2 (F := Ideal) x0 x2 (ix2 r ⟨j.val, h⟩) else 0 := by
  rw [val_main_v5_apply]
  unfold val_main_v4 val_main_call0_v0 val_main_c
  generalize val_main_v2 (F := Ideal) x0 x2 = v
  generalize hR : (if h : j.val < 3088 then v (ix2 r ⟨j.val, h⟩) else 0) = R
  pointwise
  rw [← hR, zero_word]

theorem arr2 : (dats m 0 c).arrAt 2 cfg0.N = Cert.GlaInDwRefIdeal.Read.val_main_v5 (F := Ideal) (A0 m c) (A2 m c) := by
  refine (dats m 0 c).arrAt_eq_of_covers 2 _ (by decide +kernel) fun t hf y => ?_
  have ht := lt5 t
  idx_vars y
  have e : ((cfg0.win 2).blk t).view.emb (ix2 y0 y1) = ix2 y0 ⟨t.val * 640 + y1.val, by omega⟩ := by blk_ext [idx t]
  refine Eq.trans ?_ (congrArg (Cert.GlaInDwRefIdeal.Read.val_main_v5 (F := Ideal) (A0 m c) (A2 m c)) e).symm
  blk_simp
  rw [after0_2]
  refine (out_apply _ _ y0 y1).trans ?_
  rw [ref_apply]
  split
  · rename_i h
    rw [Cert.GlaInDwRefIdeal.Read.val_main_v2_apply, Cert.GlaInDwRefIdeal.Read.val_main_v1_apply]
    refine Finset.sum_congr rfl fun k _ => ((congrArg₂ (fun a b : EReal => a * b) (b0 m c t k y0) ((b1 m c t k y1).trans (dif_pos h))).trans (mul_comm _ _)).trans ?_
    exact congrArg₂ (fun a b : EReal => a * b) (congrArg _ (funext fun a => by fin_cases a <;> rfl)) (congrArg _ (funext fun a => by fin_cases a <;> rfl))
  · rename_i h
    exact Finset.sum_eq_zero fun k _ => (congrArg (fun b : EReal => _ * b) ((b1 m c t k y1).trans (dif_neg h))).trans (mul_zero _)

end Cert.GlaInDwIdeal.Final

end
-- ==== Proof.GlaInDx.lean ====
/- The gradient at the gated linear attention's input: the kernel's array is the reference's. -/
module

public import proofs.«01_k».proof.Proof.Gen.GlaInDxIdeal.Value
public import proofs.«01_k».proof.Proof.Gen.GlaInDxRefIdeal.Read
public import Idealize.ShloMosaic.Lib.Pipeline.ValueKit
public import proofs.«01_k».proof.Proof.Pad

@[expose] public section
set_option maxRecDepth 16384
noncomputable section

namespace Cert.GlaInDxIdeal.Final

open Cert.Attn Cert.GlaInDxIdeal Cert.GlaInDxIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A1 : S1024x3088.Idx → EReal := m ((c : Thread nD τ).loc main_arg1)
abbrev A2 : S2048x3088.Idx → EReal := m ((c : Thread nD τ).loc main_arg2)
abbrev A3 : S2048x1024.Idx → EReal := m ((c : Thread nD τ).loc main_arg3)

theorem e1 : V m c main_v1 = pad S2048x3200 ![0, 0] ![0, 112] ![0, 0] (A2 m c) (sitofp (F := Ideal) .bf16 (constantI S_ 32 0#32)) pads_S2048x3088_S2048x3200_000_01120 h_S_ := by
  unfold V
  simp only [hostOps0, hostOps0_1, hostOps0_2, hostOps0_3, List.flatten_cons, List.flatten_nil, List.cons_append, List.nil_append, List.append_nil, TRef.binary, TRef.nullary,
    TRef.ternary, TRef.unary, TRef.toBuf, TRef.ofBuf, cast_eq]
  after_results_simp <;> rfl

theorem e4 : V m c main_v4 = pad S3200x1024 ![0, 0] ![112, 0] ![0, 0] (transpose S3088x1024 [1, 0] (A1 m c) transposes_S1024x3088_S3088x1024_1_0) (sitofp (F := Ideal) .bf16 (constantI S_ 32 0#32)) pads_S3088x1024_S3200x1024_01120_000 h_S_ := by
  unfold V
  simp only [hostOps0, hostOps0_1, hostOps0_2, hostOps0_3, List.flatten_cons, List.flatten_nil, List.cons_append, List.nil_append, List.append_nil, TRef.binary, TRef.nullary,
    TRef.ternary, TRef.unary, TRef.toBuf, TRef.ofBuf, cast_eq]
  after_results_simp <;> rfl

theorem earg3 : V m c main_arg3 = A3 m c := by
  unfold V
  simp only [hostOps0, hostOps0_1, hostOps0_2, hostOps0_3, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem lt2 (t : Fin cfg0.N) : t.val < 2 := t.isLt

/-- Past the gradient's columns the block holds zeros. -/
theorem b0 (t : Fin cfg0.N) (r : Fin 1024) (k : Fin 3200) :
    iblk m c 0 t (ix2 r k) = if h : k.val < 3088 then A2 m c (ix2 ⟨t.val * 1024 + r.val, by have := lt2 t; omega⟩ ⟨k.val, h⟩) else 0 := by
  have ht := lt2 t
  have e : iblk m c 0 t (ix2 r k) = V m c main_v1 (ix2 ⟨t.val * 1024 + r.val, by omega⟩ k) := by blk_ext [iblk, idx t]
  rw [e, e1]
  generalize hR : (if h : k.val < 3088 then A2 m c (ix2 ⟨t.val * 1024 + r.val, by omega⟩ ⟨k.val, h⟩) else 0) = R
  pointwise
  rw [← hR]
  by_cases h : k.val < 3088
  · rw [dif_pos h, dif_pos ⟨by omega, h⟩]
  · rw [dif_neg h, dif_neg (fun hh => h hh.2), zero_word]
theorem b1 (t : Fin cfg0.N) (k : Fin 3200) (d : Fin 1024) :
    iblk m c 1 t (ix2 k d) = if h : k.val < 3088 then A1 m c (ix2 d ⟨k.val, h⟩) else 0 := by
  have e : iblk m c 1 t (ix2 k d) = V m c main_v4 (ix2 k d) := by blk_ext [iblk, idx t]
  rw [e, e4]
  generalize hR : (if h : k.val < 3088 then A1 m c (ix2 d ⟨k.val, h⟩) else 0) = R
  pointwise
  rw [← hR, zero_word]
theorem b2 (t : Fin cfg0.N) (r d : Fin 1024) : iblk m c 2 t (ix2 r d) = A3 m c (ix2 ⟨t.val * 1024 + r.val, by have := lt2 t; omega⟩ d) := by
  have ht := lt2 t
  rw [← earg3]; blk_ext [iblk, idx t]

/-- What the body stores is the product of its blocks plus the scaled gradient of the other branch. -/
theorem out_apply (x0 : Vec Ideal S1024x3200 .bf16) (x1 : Vec Ideal S3200x1024 .bf16) (x2 : Vec Ideal S1024x1024 .f32) (r d : Fin 1024) :
    out0_3 x0 x1 x2 (ix2 r d) = ((∑ k : Fin 3200, x0 (ix2 r k) * x1 (ix2 k d) : EReal) + Ideal.ofBits .f32 0x3FD744FD#32 * x2 (ix2 r d) : EReal) := by
  unfold out0_3
  refine (canon_whole _ _ _ _).trans ?_
  generalize hR : ((∑ k : Fin 3200, x0 (ix2 r k) * x1 (ix2 k d) : EReal) + Ideal.ofBits .f32 0x3FD744FD#32 * x2 (ix2 r d) : EReal) = R
  pointwise [k0_pay1]
  exact hR

theorem arr3 : (dats m 0 c).arrAt 3 cfg0.N = Cert.GlaInDxRefIdeal.Read.val_main_v8 (F := Ideal) (A1 m c) (A2 m c) (A3 m c) := by
  refine (dats m 0 c).arrAt_eq_of_covers 3 _ (by decide +kernel) fun t hf y => ?_
  have ht := lt2 t
  idx_vars y
  have e : ((cfg0.win 3).blk t).view.emb (ix2 y0 y1) = ix2 ⟨t.val * 1024 + y0.val, by omega⟩ y1 := by blk_ext [idx t]
  refine Eq.trans ?_ (congrArg (Cert.GlaInDxRefIdeal.Read.val_main_v8 (F := Ideal) (A1 m c) (A2 m c) (A3 m c)) e).symm
  blk_simp
  rw [after0_3]
  refine (out_apply _ _ _ y0 y1).trans ?_
  rw [Cert.GlaInDxRefIdeal.Read.val_main_v8_apply, Cert.GlaInDxRefIdeal.Read.val_main_v7_apply, Cert.GlaInDxRefIdeal.Read.val_main_v4_apply,
    Cert.GlaInDxRefIdeal.Read.val_main_v3_apply, Cert.GlaInDxRefIdeal.Read.val_main_cst_0_apply]
  refine (add_comm _ _).trans (congrArg₂ (fun a b : EReal => a + b) (congrArg (fun b : EReal => _ * b) (b2 m c t y0 y1)) ?_)
  refine sum_short (n := 3088) (by omega) _ _ (fun k => ?_) fun k hk => ?_
  · refine (congrArg₂ (fun a b : EReal => a * b) ((b0 m c t y0 ⟨k.val, by omega⟩).trans (dif_pos k.isLt)) ((b1 m c t ⟨k.val, by omega⟩ y1).trans (dif_pos k.isLt))).trans ?_
    exact congrArg₂ (fun a b : EReal => a * b) (congrArg _ (funext fun a => by fin_cases a <;> rfl)) (congrArg _ (funext fun a => by fin_cases a <;> rfl))
  · exact (congrArg (fun b : EReal => _ * b) ((b1 m c t k y1).trans (dif_neg (by omega)))).trans (mul_zero _)

end Cert.GlaInDxIdeal.Final

end
-- ==== Proof.ConvIn.lean ====
/- The short convolution's input product: the kernel's array is the reference's. -/
module

public import proofs.«01_k».proof.Proof.Gen.ConvInIdeal.Value
public import proofs.«01_k».proof.Proof.Gen.ConvInRefIdeal.Read
public import Idealize.ShloMosaic.Lib.Pipeline.ValueKit
public import proofs.«01_k».proof.Proof.Pad

@[expose] public section
set_option maxRecDepth 16384
noncomputable section

namespace Cert.ConvInIdeal.Final

open Cert.Attn Cert.ConvInIdeal Cert.ConvInIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2048x1024.Idx → EReal := m ((c : Thread nD τ).loc main_arg0)
abbrev A1 : S1024x3072.Idx → EReal := m ((c : Thread nD τ).loc main_arg1)

theorem e0 : V m c main_v0 = A0 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem e3 : V m c main_v3 = transpose S4x1024x768 [1, 0, 2] (shapeCast S1024x4x768 (A1 m c) shapeCasts_S1024x3072_S1024x4x768) transposes_S1024x4x768_S4x1024x768_1_0_2 := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![0, 0] ∧ win0_1.index t = ![t.val, 0, 0] ∧ win0_2.index t = ![0, t.val] :=
  (by decide +kernel : ∀ t : Fin grid0.N, _)

theorem lt4 (t : Fin cfg0.N) : t.val < 4 := t.isLt

theorem b0 (t : Fin cfg0.N) (r : Fin 2048) (k : Fin 1024) : iblk m c 0 t (ix2 r k) = A0 m c (ix2 r k) := by
  rw [← e0]; blk_ext [iblk, idx t]
theorem b1 (t : Fin cfg0.N) (k : Fin 1024) (d : Fin 768) : iblk m c 1 t (ix3 0 k d) = A1 m c (ix2 k ⟨t.val * 768 + d.val, by have := lt4 t; omega⟩) := by
  have ht := lt4 t
  have e : iblk m c 1 t (ix3 0 k d) = V m c main_v3 (ix3 ⟨t.val, by omega⟩ k d) := by blk_ext [iblk, idx t]
  rw [e, e3]
  generalize hR : A1 m c (ix2 k ⟨t.val * 768 + d.val, by omega⟩) = R
  pointwise
  rw [← hR]

/-- What the body stores is the product of its blocks. -/
theorem out_apply (x0 : Vec Ideal S2048x1024 .bf16) (x1 : Vec Ideal S1x1024x768 .bf16) (r : Fin 2048) (d : Fin 768) :
    out0_2 x0 x1 (ix2 r d) = (∑ k : Fin 1024, x0 (ix2 r k) * x1 (ix3 0 k d) : EReal) := by
  unfold out0_2
  refine (canon_whole _ _ _ _).trans ?_
  generalize hR : (∑ k : Fin 1024, x0 (ix2 r k) * x1 (ix3 0 k d) : EReal) = R
  pointwise [k0_pay1]
  exact hR

theorem arr2 : (dats m 0 c).arrAt 2 cfg0.N = Cert.ConvInRefIdeal.Read.val_main_v0 (F := Ideal) (A0 m c) (A1 m c) := by
  refine (dats m 0 c).arrAt_eq_of_covers 2 _ (by decide +kernel) fun t hf y => ?_
  have ht := lt4 t
  idx_vars y
  have e : ((cfg0.win 2).blk t).view.emb (ix2 y0 y1) = ix2 y0 ⟨t.val * 768 + y1.val, by omega⟩ := by blk_ext [idx t]
  refine Eq.trans ?_ (congrArg (Cert.ConvInRefIdeal.Read.val_main_v0 (F := Ideal) (A0 m c) (A1 m c)) e).symm
  blk_simp
  rw [after0_2]
  refine (out_apply _ _ y0 y1).trans ?_
  rw [Cert.ConvInRefIdeal.Read.val_main_v0_apply]
  refine Finset.sum_congr rfl fun k _ => (congrArg₂ (fun a b : EReal => a * b) (b0 m c t y0 k) (b1 m c t k y1)).trans ?_
  exact congrArg₂ (fun a b : EReal => a * b) (congrArg _ (funext fun a => by fin_cases a <;> rfl)) (congrArg _ (funext fun a => by fin_cases a <;> rfl))

end Cert.ConvInIdeal.Final

end
-- ==== Proof.ConvInDw.lean ====
/- The gradient of the short convolution's input weight, cut by chips: the kernel's array is the reference's. -/
module

public import proofs.«01_k».proof.Proof.Gen.ConvInDwIdeal.Value
public import proofs.«01_k».proof.Proof.Gen.ConvInDwRefIdeal.Read
public import Idealize.ShloMosaic.Lib.Pipeline.ValueKit
public import proofs.«01_k».proof.Proof.Pad

@[expose] public section
set_option maxRecDepth 16384
noncomputable section

namespace Cert.ConvInDwIdeal.Final

open Cert.Attn Cert.ConvInDwIdeal Cert.ConvInDwIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2048x1024.Idx → EReal := m ((c : Thread nD τ).loc main_arg0)
abbrev A2 : S2048x3072.Idx → EReal := m ((c : Thread nD τ).loc main_arg2)

theorem e0 : V m c main_v0 = A0 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem e1 : V m c main_v1 = A2 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![0, 0] ∧ win0_1.index t = ![0, t.val] ∧ win0_2.index t = ![t.val, 0, 0] :=
  (by decide +kernel : ∀ t : Fin grid0.N, _)

theorem lt4 (t : Fin cfg0.N) : t.val < 4 := t.isLt

/-- What the body stores is the product of its blocks. -/
theorem out_apply (x0 : Vec Ideal S2048x1024 .bf16) (x1 : Vec Ideal S2048x768 .bf16) (q : Fin 1) (r : Fin 1024) (d : Fin 768) :
    out0_2 x0 x1 (ix3 q r d) = (∑ k : Fin 2048, x0 (ix2 k r) * x1 (ix2 k d) : EReal) := by
  unfold out0_2
  refine (canon_whole _ _ _ _).trans ?_
  generalize hR : (∑ k : Fin 2048, x0 (ix2 k r) * x1 (ix2 k d) : EReal) = R
  pointwise [k0_pay1]
  exact hR

open Cert.ConvInDwRefIdeal.Read in
theorem ref_apply (x0 : S2048x1024.Idx → EReal) (x2 : S2048x3072.Idx → EReal) (q : Fin 4) (r : Fin 1024) (d : Fin 768) :
    val_main_v6 (F := Ideal) x0 x2 (ix3 q r d) = (∑ k : Fin 2048, x2 (ix2 k ⟨q.val * 768 + d.val, by omega⟩) * x0 (ix2 k r) : EReal) := by
  rw [val_main_v6_apply, val_main_v5_apply, val_main_v4_apply, val_main_v2_apply, val_main_v1_apply]
  refine Finset.sum_congr rfl fun k _ => ?_
  exact congrArg₂ (fun a b : EReal => a * b)
    (congrArg x2 (funext fun a => Fin.ext (by fin_cases a <;> (dsimp; try omega))))
    (congrArg x0 (funext fun a => Fin.ext (by fin_cases a <;> (dsimp; try omega))))

theorem arr2 : (dats m 0 c).arrAt 2 cfg0.N = Cert.ConvInDwRefIdeal.Read.val_main_v6 (F := Ideal) (A0 m c) (A2 m c) := by
  refine (dats m 0 c).arrAt_eq_of_covers 2 _ (by decide +kernel) fun t hf y => ?_
  have ht := lt4 t
  idx_vars y
  have e : ((cfg0.win 2).blk t).view.emb (ix3 y0 y1 y2) = ix3 ⟨t.val, by omega⟩ y1 y2 := by blk_ext [idx t]
  refine Eq.trans ?_ (congrArg (Cert.ConvInDwRefIdeal.Read.val_main_v6 (F := Ideal) (A0 m c) (A2 m c)) e).symm
  blk_simp
  rw [after0_2]
  refine (out_apply _ _ y0 y1 y2).trans ?_
  have b0 : ∀ k : Fin 2048, iblk m c 0 t (ix2 k y1) = A0 m c (ix2 k y1) := fun k => by
    rw [← e0]; blk_ext [iblk, idx t]
  have b1 : ∀ k : Fin 2048, iblk m c 1 t (ix2 k y2) = A2 m c (ix2 k ⟨t.val * 768 + y2.val, by omega⟩) := fun k => by
    rw [← e1]; blk_ext [iblk, idx t]
  rw [ref_apply]
  exact Finset.sum_congr rfl fun k _ => (congrArg₂ (fun a b : EReal => a * b) (b0 k) (b1 k)).trans (mul_comm _ _)

end Cert.ConvInDwIdeal.Final

end
-- ==== Proof.ConvInDx.lean ====
/- The gradients at the short convolution's input and at the gate before it: the kernel's arrays are the reference's. -/
module

public import proofs.«01_k».proof.Proof.Gen.ConvInDxIdeal.Value
public import proofs.«01_k».proof.Proof.Gen.ConvInDxRefIdeal.Read
public import Idealize.ShloMosaic.Lib.Pipeline.ValueKit
public import proofs.«01_k».proof.Proof.Pad

@[expose] public section
set_option maxRecDepth 16384
noncomputable section

namespace Cert.ConvInDxIdeal.Final

open Cert.Attn Cert.ConvInDxIdeal Cert.ConvInDxIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A1 : S1024x3072.Idx → EReal := m ((c : Thread nD τ).loc main_arg1)
abbrev A2 : S2048x3072.Idx → EReal := m ((c : Thread nD τ).loc main_arg2)
abbrev A3 : S2048x1024.Idx → EReal := m ((c : Thread nD τ).loc main_arg3)
abbrev A4 : S2048x1024.Idx → EReal := m ((c : Thread nD τ).loc main_arg4)
abbrev A5 : S2048x1024.Idx → EReal := m ((c : Thread nD τ).loc main_arg5)

theorem e0 : V m c main_v0 = A2 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem e3 : V m c main_v3 = transpose S4x1024x768 [1, 0, 2] (shapeCast S1024x4x768 (A1 m c) shapeCasts_S1024x3072_S1024x4x768) transposes_S1024x4x768_S4x1024x768_1_0_2 := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem earg3 : V m c main_arg3 = A3 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem earg4 : V m c main_arg4 = A4 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem earg5 : V m c main_arg5 = A5 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![t.val, 0] ∧ win0_1.index t = ![0, 0, 0] ∧ win0_2.index t = ![1, 0, 0] ∧ win0_3.index t = ![2, 0, 0] ∧ win0_4.index t = ![3, 0, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, _)

theorem lt4 (t : Fin cfg0.N) : t.val < 4 := t.isLt

theorem b0 (t : Fin cfg0.N) (r : Fin 512) (k : Fin 3072) : iblk m c 0 t (ix2 r k) = A2 m c (ix2 ⟨t.val * 512 + r.val, by have := lt4 t; omega⟩ k) := by
  rw [← e0]; have ht := lt4 t; blk_ext [iblk, idx t]
theorem b1 (t : Fin cfg0.N) (d : Fin 1024) (k : Fin 768) : iblk m c 1 t (ix3 0 d k) = A1 m c (ix2 d ⟨k.val, by omega⟩) := by
  have e : iblk m c 1 t (ix3 0 d k) = V m c main_v3 (ix3 0 d k) := by blk_ext [iblk, idx t]
  rw [e, e3]
  generalize hR : A1 m c (ix2 d ⟨k.val, by omega⟩) = R
  pointwise
  rw [← hR]
  try (congr 3; omega)
theorem b2 (t : Fin cfg0.N) (d : Fin 1024) (k : Fin 768) : iblk m c 2 t (ix3 0 d k) = A1 m c (ix2 d ⟨768 + k.val, by omega⟩) := by
  have e : iblk m c 2 t (ix3 0 d k) = V m c main_v3 (ix3 1 d k) := by blk_ext [iblk, idx t]
  rw [e, e3]
  generalize hR : A1 m c (ix2 d ⟨768 + k.val, by omega⟩) = R
  pointwise
  rw [← hR]
  try (congr 3; omega)
theorem b3 (t : Fin cfg0.N) (d : Fin 1024) (k : Fin 768) : iblk m c 3 t (ix3 0 d k) = A1 m c (ix2 d ⟨768 + 768 + k.val, by omega⟩) := by
  have e : iblk m c 3 t (ix3 0 d k) = V m c main_v3 (ix3 2 d k) := by blk_ext [iblk, idx t]
  rw [e, e3]
  generalize hR : A1 m c (ix2 d ⟨768 + 768 + k.val, by omega⟩) = R
  pointwise
  rw [← hR]
  try (congr 3; omega)
theorem b4 (t : Fin cfg0.N) (d : Fin 1024) (k : Fin 768) : iblk m c 4 t (ix3 0 d k) = A1 m c (ix2 d ⟨768 + 768 + 768 + k.val, by omega⟩) := by
  have e : iblk m c 4 t (ix3 0 d k) = V m c main_v3 (ix3 3 d k) := by blk_ext [iblk, idx t]
  rw [e, e3]
  generalize hR : A1 m c (ix2 d ⟨768 + 768 + 768 + k.val, by omega⟩) = R
  pointwise
  rw [← hR]
  try (congr 3; omega)
theorem b5 (t : Fin cfg0.N) (r : Fin 512) (d : Fin 1024) : iblk m c 5 t (ix2 r d) = A3 m c (ix2 ⟨t.val * 512 + r.val, by have := lt4 t; omega⟩ d) := by
  rw [← earg3]; have ht := lt4 t; blk_ext [iblk, idx t]
theorem b6 (t : Fin cfg0.N) (r : Fin 512) (d : Fin 1024) : iblk m c 6 t (ix2 r d) = A4 m c (ix2 ⟨t.val * 512 + r.val, by have := lt4 t; omega⟩ d) := by
  rw [← earg4]; have ht := lt4 t; blk_ext [iblk, idx t]
theorem b7 (t : Fin cfg0.N) (r : Fin 512) (d : Fin 1024) : iblk m c 7 t (ix2 r d) = A5 m c (ix2 ⟨t.val * 512 + r.val, by have := lt4 t; omega⟩ d) := by
  rw [← earg5]; have ht := lt4 t; blk_ext [iblk, idx t]

/-- The body's four products of column blocks, added. -/
def psum (x0 : Vec Ideal S512x3072 .bf16) (x1 x2 x3 x4 : Vec Ideal S1x1024x768 .bf16) (r : Fin 512) (d : Fin 1024) : EReal :=
  (((∑ k : Fin 768, x0 (ix2 r ⟨k.val, by omega⟩) * x1 (ix3 0 d k)) + (∑ k : Fin 768, x0 (ix2 r ⟨768 + k.val, by omega⟩) * x2 (ix3 0 d k))) + (∑ k : Fin 768, x0 (ix2 r ⟨768 + 768 + k.val, by omega⟩) * x3 (ix3 0 d k))) + (∑ k : Fin 768, x0 (ix2 r ⟨768 + 768 + 768 + k.val, by omega⟩) * x4 (ix3 0 d k))

theorem p_apply (x0 : Vec Ideal S512x3072 .bf16) (x1 x2 x3 x4 : Vec Ideal S1x1024x768 .bf16) (x5 x6 x7 : Vec Ideal S512x1024 .f32) (r : Fin 512) (d : Fin 1024) : k0_pay7 x0 x1 x2 x3 x4 x5 x6 x7 (ix2 r d) = psum x0 x1 x2 x3 x4 r d := by
  generalize hR : psum x0 x1 x2 x3 x4 r d = R
  pointwise [k0_pay7, k0_pay6]
  exact hR

/-- The gradient at the input: the products plus the scaled gradient of the other branch. -/
theorem dx_apply (x0 : Vec Ideal S512x3072 .bf16) (x1 x2 x3 x4 : Vec Ideal S1x1024x768 .bf16) (x5 x6 x7 : Vec Ideal S512x1024 .f32) (r : Fin 512) (d : Fin 1024) : k0_pay1 (k0_pay7 x0 x1 x2 x3 x4 x5 x6 x7) (View.ld x5 r0_5) (ix2 r d)
    = (psum x0 x1 x2 x3 x4 r d + Ideal.ofBits .f32 0x3FD744FD#32 * x5 (ix2 r d) : EReal) := by
  rw [← p_apply x0 x1 x2 x3 x4 x5 x6 x7]
  generalize k0_pay7 x0 x1 x2 x3 x4 x5 x6 x7 = v
  generalize hR : (v (ix2 r d) + Ideal.ofBits .f32 0x3FD744FD#32 * x5 (ix2 r d) : EReal) = R
  pointwise [k0_pay1]
  exact hR
theorem out8_apply (x0 : Vec Ideal S512x3072 .bf16) (x1 x2 x3 x4 : Vec Ideal S1x1024x768 .bf16) (x5 x6 x7 : Vec Ideal S512x1024 .f32) (r : Fin 512) (d : Fin 1024) : out0_8 x0 x1 x2 x3 x4 x5 x6 x7 (ix2 r d)
    = (psum x0 x1 x2 x3 x4 r d + Ideal.ofBits .f32 0x3FD744FD#32 * x5 (ix2 r d) : EReal) := by
  unfold out0_8
  refine (canon_whole _ _ _ _).trans ?_
  rw [← dx_apply x0 x1 x2 x3 x4 x5 x6 x7]
  unfold k0_pay3
  generalize k0_pay1 (k0_pay7 x0 x1 x2 x3 x4 x5 x6 x7) (View.ld x5 r0_5) = v
  pointwise
theorem out9_apply (x0 : Vec Ideal S512x3072 .bf16) (x1 x2 x3 x4 : Vec Ideal S1x1024x768 .bf16) (x5 x6 x7 : Vec Ideal S512x1024 .f32) (r : Fin 512) (d : Fin 1024) : out0_9 x0 x1 x2 x3 x4 x5 x6 x7 (ix2 r d)
    = ((psum x0 x1 x2 x3 x4 r d + Ideal.ofBits .f32 0x3FD744FD#32 * x5 (ix2 r d)) * Ideal.logistic (x6 (ix2 r d)) : EReal) := by
  unfold out0_9
  refine (canon_whole _ _ _ _).trans ?_
  rw [← dx_apply x0 x1 x2 x3 x4 x5 x6 x7]
  unfold k0_pay4
  generalize k0_pay1 (k0_pay7 x0 x1 x2 x3 x4 x5 x6 x7) (View.ld x5 r0_5) = v
  generalize hR : (v (ix2 r d) * Ideal.logistic (x6 (ix2 r d)) : EReal) = R
  pointwise [k0_pay2]
  exact hR
theorem out10_apply (x0 : Vec Ideal S512x3072 .bf16) (x1 x2 x3 x4 : Vec Ideal S1x1024x768 .bf16) (x5 x6 x7 : Vec Ideal S512x1024 .f32) (r : Fin 512) (d : Fin 1024) : out0_10 x0 x1 x2 x3 x4 x5 x6 x7 (ix2 r d)
    = ((psum x0 x1 x2 x3 x4 r d + Ideal.ofBits .f32 0x3FD744FD#32 * x5 (ix2 r d)) * x7 (ix2 r d) * Ideal.logistic (x6 (ix2 r d)) * (1 - Ideal.logistic (x6 (ix2 r d))) : EReal) := by
  unfold out0_10
  refine (canon_whole _ _ _ _).trans ?_
  rw [← dx_apply x0 x1 x2 x3 x4 x5 x6 x7]
  unfold k0_pay5
  generalize k0_pay1 (k0_pay7 x0 x1 x2 x3 x4 x5 x6 x7) (View.ld x5 r0_5) = v
  generalize hR : (v (ix2 r d) * x7 (ix2 r d) * Ideal.logistic (x6 (ix2 r d)) * (1 - Ideal.logistic (x6 (ix2 r d))) : EReal) = R
  pointwise [k0_pay2]
  exact hR

open Cert.ConvInDxRefIdeal.Read in
theorem ref_s (x4 : S2048x1024.Idx → EReal) (i : S2048x1024.Idx) : val_main_v14 (F := Ideal) x4 i = Ideal.logistic (x4 i) := by
  rw [val_main_v14_apply, val_main_v13_apply, val_main_cst_2_apply, val_main_v12_apply, val_main_v11_apply, val_main_cst_1_apply,
    val_main_v10_apply, val_main_v9_apply]
  generalize hR : Ideal.logistic (x4 i) = R
  pointwise
  exact hR

/-- A block's gradient is the reference's at the block's place. -/
theorem dx_eq (t : Fin cfg0.N) (r : Fin 512) (d : Fin 1024) :
    (fun p a : EReal => p + Ideal.ofBits .f32 0x3FD744FD#32 * a) (psum (iblk m c 0 t) (iblk m c 1 t) (iblk m c 2 t) (iblk m c 3 t) (iblk m c 4 t) r d) (iblk m c 5 t (ix2 r d))
      = Cert.ConvInDxRefIdeal.Read.val_main_v8 (F := Ideal) (A1 m c) (A2 m c) (A3 m c) (ix2 ⟨t.val * 512 + r.val, by have := lt4 t; omega⟩ d) := by
  rw [Cert.ConvInDxRefIdeal.Read.val_main_v8_apply, Cert.ConvInDxRefIdeal.Read.val_main_v7_apply, Cert.ConvInDxRefIdeal.Read.val_main_v4_apply,
    Cert.ConvInDxRefIdeal.Read.val_main_v3_apply, Cert.ConvInDxRefIdeal.Read.val_main_cst_0_apply]
  refine (add_comm _ _).trans (congrArg₂ (fun a b : EReal => a + b) (congrArg (fun b : EReal => _ * b) (b5 m c t r d)) ?_)
  refine Eq.trans ?_ (sum_four (n := 768) (by omega) _).symm
  refine congrArg₂ (fun a b : EReal => a + b) (congrArg₂ (fun a b : EReal => a + b) (congrArg₂ (fun a b : EReal => a + b) ?_ ?_) ?_) ?_
  · refine Finset.sum_congr rfl fun k _ => (congrArg₂ (fun a b : EReal => a * b) (b0 m c t r _) (b1 m c t d k)).trans ?_
    exact congrArg₂ (fun a b : EReal => a * b) (congrArg _ (funext fun a => by fin_cases a <;> rfl)) (congrArg _ (funext fun a => by fin_cases a <;> rfl))
  · refine Finset.sum_congr rfl fun k _ => (congrArg₂ (fun a b : EReal => a * b) (b0 m c t r _) (b2 m c t d k)).trans ?_
    exact congrArg₂ (fun a b : EReal => a * b) (congrArg _ (funext fun a => by fin_cases a <;> rfl)) (congrArg _ (funext fun a => by fin_cases a <;> rfl))
  · refine Finset.sum_congr rfl fun k _ => (congrArg₂ (fun a b : EReal => a * b) (b0 m c t r _) (b3 m c t d k)).trans ?_
    exact congrArg₂ (fun a b : EReal => a * b) (congrArg _ (funext fun a => by fin_cases a <;> rfl)) (congrArg _ (funext fun a => by fin_cases a <;> rfl))
  · refine Finset.sum_congr rfl fun k _ => (congrArg₂ (fun a b : EReal => a * b) (b0 m c t r _) (b4 m c t d k)).trans ?_
    exact congrArg₂ (fun a b : EReal => a * b) (congrArg _ (funext fun a => by fin_cases a <;> rfl)) (congrArg _ (funext fun a => by fin_cases a <;> rfl))

theorem arr8 : (dats m 0 c).arrAt 8 cfg0.N = Cert.ConvInDxRefIdeal.Read.val_main_v8 (F := Ideal) (A1 m c) (A2 m c) (A3 m c) := by
  refine (dats m 0 c).arrAt_eq_of_covers 8 _ (by decide +kernel) fun t hf y => ?_
  have ht := lt4 t
  idx_vars y
  have e : ((cfg0.win 8).blk t).view.emb (ix2 y0 y1) = ix2 ⟨t.val * 512 + y0.val, by omega⟩ y1 := by blk_ext [idx t]
  refine Eq.trans ?_ (congrArg (Cert.ConvInDxRefIdeal.Read.val_main_v8 (F := Ideal) (A1 m c) (A2 m c) (A3 m c)) e).symm
  blk_simp
  rw [after0_8]
  exact (out8_apply _ _ _ _ _ _ _ _ y0 y1).trans (dx_eq m c t y0 y1)

theorem arr9 : (dats m 0 c).arrAt 9 cfg0.N = Cert.ConvInDxRefIdeal.Read.val_main_v22 (F := Ideal) (A1 m c) (A2 m c) (A3 m c) (A4 m c) := by
  refine (dats m 0 c).arrAt_eq_of_covers 9 _ (by decide +kernel) fun t hf y => ?_
  have ht := lt4 t
  idx_vars y
  have e : ((cfg0.win 9).blk t).view.emb (ix2 y0 y1) = ix2 ⟨t.val * 512 + y0.val, by omega⟩ y1 := by blk_ext [idx t]
  refine Eq.trans ?_ (congrArg (Cert.ConvInDxRefIdeal.Read.val_main_v22 (F := Ideal) (A1 m c) (A2 m c) (A3 m c) (A4 m c)) e).symm
  blk_simp
  rw [after0_9]
  refine (out9_apply _ _ _ _ _ _ _ _ y0 y1).trans ?_
  rw [Cert.ConvInDxRefIdeal.Read.val_main_v22_apply, Cert.ConvInDxRefIdeal.Read.val_main_v19_apply, ref_s]
  refine (congrArg₂ (fun a b : EReal => a * b) (dx_eq m c t y0 y1) (congrArg Ideal.logistic (b6 m c t y0 y1))).trans ?_
  exact mul_comm _ _

theorem arr10 : (dats m 0 c).arrAt 10 cfg0.N = Cert.ConvInDxRefIdeal.Read.val_main_v23 (F := Ideal) (A1 m c) (A2 m c) (A3 m c) (A4 m c) (A5 m c) := by
  refine (dats m 0 c).arrAt_eq_of_covers 10 _ (by decide +kernel) fun t hf y => ?_
  have ht := lt4 t
  idx_vars y
  have e : ((cfg0.win 10).blk t).view.emb (ix2 y0 y1) = ix2 ⟨t.val * 512 + y0.val, by omega⟩ y1 := by blk_ext [idx t]
  refine Eq.trans ?_ (congrArg (Cert.ConvInDxRefIdeal.Read.val_main_v23 (F := Ideal) (A1 m c) (A2 m c) (A3 m c) (A4 m c) (A5 m c)) e).symm
  blk_simp
  rw [after0_10]
  refine (out10_apply _ _ _ _ _ _ _ _ y0 y1).trans ?_
  rw [Cert.ConvInDxRefIdeal.Read.val_main_v23_apply, Cert.ConvInDxRefIdeal.Read.val_main_v21_apply, Cert.ConvInDxRefIdeal.Read.val_main_v20_apply, Cert.ConvInDxRefIdeal.Read.val_main_v17_apply, Cert.ConvInDxRefIdeal.Read.val_main_v16_apply,
    Cert.ConvInDxRefIdeal.Read.val_main_v15_apply, Cert.ConvInDxRefIdeal.Read.val_main_cst_3_apply, ref_s]
  refine (mul_assoc _ _ _).trans (congrArg₂ (fun a b : EReal => a * b) (congrArg₂ (fun a b : EReal => a * b) (dx_eq m c t y0 y1) (b7 m c t y0 y1)) ?_)
  refine (congrArg (fun z : EReal => Ideal.logistic z * (1 - Ideal.logistic z)) (b6 m c t y0 y1)).trans ?_
  generalize A4 m c (ix2 ⟨t.val * 512 + y0.val, by omega⟩ y1) = z
  generalize hR : Ideal.logistic z * (1 - Ideal.logistic z) = R
  pointwise
  exact hR.symm

end Cert.ConvInDxIdeal.Final

end
-- ==== Proof.SquareDw.lean ====
/- The gradient of a square weight matrix: the kernel's array is the reference's. -/
module

public import proofs.«01_k».proof.Proof.Gen.SquareDwIdeal.Value
public import proofs.«01_k».proof.Proof.Gen.SquareDwRefIdeal.Read
public import Idealize.ShloMosaic.Lib.Pipeline.ValueKit
public import proofs.«01_k».proof.Proof.Pad

@[expose] public section
set_option maxRecDepth 16384
noncomputable section

namespace Cert.SquareDwIdeal.Final

open Cert.Attn Cert.SquareDwIdeal Cert.SquareDwIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2048x1024.Idx → EReal := m ((c : Thread nD τ).loc main_arg0)
abbrev A2 : S2048x1024.Idx → EReal := m ((c : Thread nD τ).loc main_arg2)

theorem e0 : V m c main_v0 = A0 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem e1 : V m c main_v1 = A2 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![0, 0] ∧ win0_1.index t = ![0, t.val] ∧ win0_2.index t = ![0, t.val] :=
  (by decide +kernel : ∀ t : Fin grid0.N, _)

theorem lt2 (t : Fin cfg0.N) : t.val < 2 := t.isLt

/-- What the body stores is the product of its blocks. -/
theorem out_apply (x0 : Vec Ideal S2048x1024 .bf16) (x1 : Vec Ideal S2048x512 .bf16) (r : Fin 1024) (d : Fin 512) :
    out0_2 x0 x1 (ix2 r d) = (∑ k : Fin 2048, x0 (ix2 k r) * x1 (ix2 k d) : EReal) := by
  unfold out0_2
  refine (canon_whole _ _ _ _).trans ?_
  generalize hR : (∑ k : Fin 2048, x0 (ix2 k r) * x1 (ix2 k d) : EReal) = R
  pointwise [k0_pay1]
  exact hR

theorem arr2 : (dats m 0 c).arrAt 2 cfg0.N = Cert.SquareDwRefIdeal.Read.val_main_v4 (F := Ideal) (A0 m c) (A2 m c) := by
  refine (dats m 0 c).arrAt_eq_of_covers 2 _ (by decide +kernel) fun t hf y => ?_
  have ht := lt2 t
  idx_vars y
  have e : ((cfg0.win 2).blk t).view.emb (ix2 y0 y1) = ix2 y0 ⟨t.val * 512 + y1.val, by omega⟩ := by blk_ext [idx t]
  refine Eq.trans ?_ (congrArg (Cert.SquareDwRefIdeal.Read.val_main_v4 (F := Ideal) (A0 m c) (A2 m c)) e).symm
  blk_simp
  rw [after0_2]
  refine (out_apply _ _ y0 y1).trans ?_
  have b0 : ∀ k : Fin 2048, iblk m c 0 t (ix2 k y0) = A0 m c (ix2 k y0) := fun k => by
    rw [← e0]; blk_ext [iblk, idx t]
  have b1 : ∀ k : Fin 2048, iblk m c 1 t (ix2 k y1) = A2 m c (ix2 k ⟨t.val * 512 + y1.val, by omega⟩) := fun k => by
    rw [← e1]; blk_ext [iblk, idx t]
  rw [Cert.SquareDwRefIdeal.Read.val_main_v4_apply, Cert.SquareDwRefIdeal.Read.val_main_v2_apply, Cert.SquareDwRefIdeal.Read.val_main_v1_apply]
  refine Finset.sum_congr rfl fun k _ => ((congrArg₂ (fun a b : EReal => a * b) (b0 k) (b1 k)).trans (mul_comm _ _)).trans ?_
  exact congrArg₂ (fun a b : EReal => a * b) (congrArg _ (funext fun a => by fin_cases a <;> rfl)) (congrArg _ (funext fun a => by fin_cases a <;> rfl))

end Cert.SquareDwIdeal.Final

end
-- ==== Proof.SquareDx.lean ====
/- The gradient through a product with a square weight matrix: the kernel's array is the reference's. -/
module

public import proofs.«01_k».proof.Proof.Gen.SquareDxIdeal.Value
public import proofs.«01_k».proof.Proof.Gen.SquareDxRefIdeal.Read
public import Idealize.ShloMosaic.Lib.Pipeline.ValueKit
public import proofs.«01_k».proof.Proof.Pad

@[expose] public section
set_option maxRecDepth 16384
noncomputable section

namespace Cert.SquareDxIdeal.Final

open Cert.Attn Cert.SquareDxIdeal Cert.SquareDxIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A1 : S1024x1024.Idx → EReal := m ((c : Thread nD τ).loc main_arg1)
abbrev A2 : S2048x1024.Idx → EReal := m ((c : Thread nD τ).loc main_arg2)

theorem e0 : V m c main_v0 = A2 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem e1 : V m c main_v1 = A1 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![t.val, 0] ∧ win0_1.index t = ![0, 0] ∧ win0_2.index t = ![t.val, 0] :=
  (by decide +kernel : ∀ t : Fin grid0.N, _)

theorem lt2 (t : Fin cfg0.N) : t.val < 2 := t.isLt

/-- What the body stores is the product of its blocks. -/
theorem out_apply (x0 : Vec Ideal S1024x1024 .bf16) (x1 : Vec Ideal S1024x1024 .bf16) (r : Fin 1024) (d : Fin 1024) :
    out0_2 x0 x1 (ix2 r d) = (∑ k : Fin 1024, x0 (ix2 r k) * x1 (ix2 d k) : EReal) := by
  unfold out0_2
  refine (canon_whole _ _ _ _).trans ?_
  generalize hR : (∑ k : Fin 1024, x0 (ix2 r k) * x1 (ix2 d k) : EReal) = R
  pointwise [k0_pay1]
  exact hR

theorem arr2 : (dats m 0 c).arrAt 2 cfg0.N = Cert.SquareDxRefIdeal.Read.val_main_v3 (F := Ideal) (A1 m c) (A2 m c) := by
  refine (dats m 0 c).arrAt_eq_of_covers 2 _ (by decide +kernel) fun t hf y => ?_
  have ht := lt2 t
  idx_vars y
  have e : ((cfg0.win 2).blk t).view.emb (ix2 y0 y1) = ix2 ⟨t.val * 1024 + y0.val, by omega⟩ y1 := by blk_ext [idx t]
  refine Eq.trans ?_ (congrArg (Cert.SquareDxRefIdeal.Read.val_main_v3 (F := Ideal) (A1 m c) (A2 m c)) e).symm
  blk_simp
  rw [after0_2]
  refine (out_apply _ _ y0 y1).trans ?_
  have b0 : ∀ k : Fin 1024, iblk m c 0 t (ix2 y0 k) = A2 m c (ix2 ⟨t.val * 1024 + y0.val, by omega⟩ k) := fun k => by
    rw [← e0]; blk_ext [iblk, idx t]
  have b1 : ∀ k : Fin 1024, iblk m c 1 t (ix2 y1 k) = A1 m c (ix2 y1 k) := fun k => by
    rw [← e1]; blk_ext [iblk, idx t]
  rw [Cert.SquareDxRefIdeal.Read.val_main_v3_apply]
  refine Finset.sum_congr rfl fun k _ => (congrArg₂ (fun a b : EReal => a * b) (b0 k) (b1 k)).trans ?_
  exact congrArg₂ (fun a b : EReal => a * b) (congrArg _ (funext fun a => by fin_cases a <;> rfl)) (congrArg _ (funext fun a => by fin_cases a <;> rfl))

end Cert.SquareDxIdeal.Final

end
-- ==== Proof.MixOut.lean ====
/- The mixer's output product with the residual and the layer norm: the kernel's arrays are the reference's. -/
module

public import proofs.«01_k».proof.Proof.Gen.MixOutIdeal.Value
public import proofs.«01_k».proof.Proof.Gen.MixOutRefIdeal.Read
public import Idealize.ShloMosaic.Lib.Pipeline.ValueKit
public import proofs.«01_k».proof.Proof.Pad

@[expose] public section
set_option maxRecDepth 16384
noncomputable section

namespace Cert.MixOutIdeal.Final

open Cert.Attn Cert.MixOutIdeal Cert.MixOutIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2048x1024.Idx → EReal := m ((c : Thread nD τ).loc main_arg0)
abbrev A1 : S1024x1024.Idx → EReal := m ((c : Thread nD τ).loc main_arg1)
abbrev A2 : S2048x1024.Idx → EReal := m ((c : Thread nD τ).loc main_arg2)
abbrev A3 : S1x1024.Idx → EReal := m ((c : Thread nD τ).loc main_arg3)
abbrev A4 : S1x1024.Idx → EReal := m ((c : Thread nD τ).loc main_arg4)

theorem e0 : V m c main_v0 = A0 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem e1 : V m c main_v1 = A1 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem earg2 : V m c main_arg2 = A2 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem earg3 : V m c main_arg3 = A3 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem earg4 : V m c main_arg4 = A4 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

theorem lt4 (t : Fin cfg0.N) : t.val < 4 := t.isLt

theorem b0 (t : Fin cfg0.N) (r : Fin 512) (d : Fin 1024) : iblk m c 0 t (ix2 r d) = A0 m c (ix2 ⟨t.val * 512 + r.val, by have := lt4 t; omega⟩ d) := by
  rw [← e0]; have ht := lt4 t; blk_ext [iblk, idx t]
theorem b1 (t : Fin cfg0.N) (r d : Fin 1024) : iblk m c 1 t (ix2 r d) = A1 m c (ix2 r d) := by
  rw [← e1]; have ht := lt4 t; blk_ext [iblk, idx t]
theorem b2 (t : Fin cfg0.N) (r : Fin 512) (d : Fin 1024) : iblk m c 2 t (ix2 r d) = A2 m c (ix2 ⟨t.val * 512 + r.val, by have := lt4 t; omega⟩ d) := by
  rw [← earg2]; have ht := lt4 t; blk_ext [iblk, idx t]
theorem b3 (t : Fin cfg0.N) (d : Fin 1024) : iblk m c 3 t (ix2 0 d) = A3 m c (ix2 0 d) := by
  rw [← earg3]; have ht := lt4 t; blk_ext [iblk, idx t]
theorem b4 (t : Fin cfg0.N) (d : Fin 1024) : iblk m c 4 t (ix2 0 d) = A4 m c (ix2 0 d) := by
  rw [← earg4]; have ht := lt4 t; blk_ext [iblk, idx t]

/-- A row's layer norm: its distance from the mean over the root of the variance, times the gain, plus the offset. -/
def mean (v : Fin 1024 → EReal) : EReal := Ideal.div (∑ k : Fin 1024, v k) (Ideal.ofBits .f32 0x44800000#32)
def lnorm (v : Fin 1024 → EReal) (g b : EReal) (d : Fin 1024) : EReal :=
  (v d - mean v) * Ideal.rsqrt (Ideal.div (∑ k : Fin 1024, (v k - mean v) * (v k - mean v)) (Ideal.ofBits .f32 0x44800000#32) + Ideal.ofBits .f32 0x3727C5AC#32) * g + b

/-- The sum that the layer norm takes: the scaled input and the product. -/
def vsum (x0 : Vec Ideal S512x1024 .bf16) (x1 : Vec Ideal S1024x1024 .bf16) (x2 : Vec Ideal S512x1024 .f32) (r : Fin 512) (d : Fin 1024) : EReal :=
  Ideal.ofBits .f32 0x3FD744FD#32 * x2 (ix2 r d) + ∑ k : Fin 1024, x0 (ix2 r k) * x1 (ix2 k d)

theorem v_apply (x0 : Vec Ideal S512x1024 .bf16) (x1 : Vec Ideal S1024x1024 .bf16) (x2 : Vec Ideal S512x1024 .f32) (r : Fin 512) (d : Fin 1024) :
    k0_pay3 (View.ld x0 r0_0) (View.ld x1 r0_1) (View.ld x2 r0_0) (ix2 r d) = vsum x0 x1 x2 r d := by
  generalize hR : vsum x0 x1 x2 r d = R
  pointwise [k0_pay3]
  exact hR

theorem y_apply (x0 : Vec Ideal S512x1024 .bf16) (x1 : Vec Ideal S1024x1024 .bf16) (x2 : Vec Ideal S512x1024 .f32)
    (x3 : Vec Ideal S1x1024 .f32) (x4 : Vec Ideal S1x1024 .f32) (r : Fin 512) (d : Fin 1024) :
    k0_pay4 (View.ld x0 r0_0) (View.ld x1 r0_1) (View.ld x2 r0_0) (View.ld x3 r0_2) (View.ld x4 r0_2) (ix2 r d)
      = lnorm (vsum x0 x1 x2 r) (x3 (ix2 0 d)) (x4 (ix2 0 d)) d := by
  rw [show vsum x0 x1 x2 r = fun d => k0_pay3 (View.ld x0 r0_0) (View.ld x1 r0_1) (View.ld x2 r0_0) (ix2 r d) from funext fun d => (v_apply x0 x1 x2 r d).symm]
  unfold k0_pay4
  generalize k0_pay3 (View.ld x0 r0_0) (View.ld x1 r0_1) (View.ld x2 r0_0) = v
  generalize hR : lnorm (fun d => v (ix2 r d)) (x3 (ix2 0 d)) (x4 (ix2 0 d)) d = R
  pointwise
  exact hR

theorem out7_apply (x0 : Vec Ideal S512x1024 .bf16) (x1 : Vec Ideal S1024x1024 .bf16) (x2 : Vec Ideal S512x1024 .f32)
    (x3 : Vec Ideal S1x1024 .f32) (x4 : Vec Ideal S1x1024 .f32) (r : Fin 512) (d : Fin 1024) : out0_7 x0 x1 x2 x3 x4 (ix2 r d) = vsum x0 x1 x2 r d := by
  unfold out0_7
  refine (canon_whole _ _ _ _).trans ?_
  rw [← v_apply]
  generalize k0_pay3 (View.ld x0 r0_0) (View.ld x1 r0_1) (View.ld x2 r0_0) = v
  pointwise [k0_pay2]
theorem out5_apply (x0 : Vec Ideal S512x1024 .bf16) (x1 : Vec Ideal S1024x1024 .bf16) (x2 : Vec Ideal S512x1024 .f32)
    (x3 : Vec Ideal S1x1024 .f32) (x4 : Vec Ideal S1x1024 .f32) (r : Fin 512) (d : Fin 1024) : out0_5 x0 x1 x2 x3 x4 (ix2 r d) = lnorm (vsum x0 x1 x2 r) (x3 (ix2 0 d)) (x4 (ix2 0 d)) d := by
  unfold out0_5
  refine (canon_whole _ _ _ _).trans ?_
  rw [← y_apply]
  unfold k0_pay5
  generalize k0_pay4 (View.ld x0 r0_0) (View.ld x1 r0_1) (View.ld x2 r0_0) (View.ld x3 r0_2) (View.ld x4 r0_2) = v
  pointwise
theorem out6_apply (x0 : Vec Ideal S512x1024 .bf16) (x1 : Vec Ideal S1024x1024 .bf16) (x2 : Vec Ideal S512x1024 .f32)
    (x3 : Vec Ideal S1x1024 .f32) (x4 : Vec Ideal S1x1024 .f32) (r : Fin 512) (d : Fin 1024) : out0_6 x0 x1 x2 x3 x4 (ix2 r d) = lnorm (vsum x0 x1 x2 r) (x3 (ix2 0 d)) (x4 (ix2 0 d)) d := by
  unfold out0_6
  refine (canon_whole _ _ _ _).trans ?_
  rw [← y_apply]
  unfold k0_pay1 k0_pay6
  generalize k0_pay4 (View.ld x0 r0_0) (View.ld x1 r0_1) (View.ld x2 r0_0) (View.ld x3 r0_2) (View.ld x4 r0_2) = v
  pointwise

open Cert.MixOutRefIdeal.Read in
theorem ref_v (x0 : S2048x1024.Idx → EReal) (x1 : S1024x1024.Idx → EReal) (x2 : S2048x1024.Idx → EReal) (r : Fin 2048) (d : Fin 1024) :
    val_main_v3 (F := Ideal) x0 x1 x2 (ix2 r d)
      = (Ideal.ofBits .f32 0x3FD744FD#32 * x2 (ix2 r d) + ∑ k : Fin 1024, (x0 (ix2 r k) : EReal) * (x1 (ix2 k d) : EReal) : EReal) := by
  rw [val_main_v3_apply, val_main_v1_apply, val_main_v0_apply, val_main_cst_apply, val_main_v2_apply]
  refine congrArg₂ (fun a b : EReal => a + b) rfl (Finset.sum_congr rfl fun k _ => ?_)
  exact congrArg₂ (fun a b : EReal => a * b) (congrArg _ (funext fun a => by fin_cases a <;> rfl)) (congrArg _ (funext fun a => by fin_cases a <;> rfl))

open Cert.MixOutRefIdeal.Read in
theorem ref_y (x0 : S2048x1024.Idx → EReal) (x1 : S1024x1024.Idx → EReal) (x2 : S2048x1024.Idx → EReal) (x3 x4 : S1x1024.Idx → EReal) (r : Fin 2048) (d : Fin 1024) :
    val_main_v25 (F := Ideal) x0 x1 x2 x3 x4 (ix2 r d)
      = lnorm (fun j => val_main_v3 (F := Ideal) x0 x1 x2 (ix2 r j)) (x3 (ix2 0 d)) (x4 (ix2 0 d)) d := by
  simp only [val_main_v25_apply, val_main_v24_apply, val_main_v23_apply, val_main_v22_apply, val_main_v21_apply, val_main_v20_apply,
    val_main_v19_apply, val_main_v18_apply, val_main_v17_apply, val_main_v16_apply, val_main_v15_apply, val_main_v14_apply, val_main_v13_apply,
    val_main_v12_apply, val_main_v11_apply, val_main_v10_apply, val_main_v9_apply, val_main_v8_apply, val_main_v7_apply, val_main_v6_apply,
    val_main_v5_apply, val_main_v4_apply, val_main_cst_0_apply, val_main_cst_1_apply, val_main_cst_2_apply, val_main_cst_3_apply, val_main_cst_4_apply]
  have i1 : ∀ k, idx_main_v4 (idx_main_v5 (idx_main_v15 (ix2 r d))) k = ix2 r k := fun k => funext fun a => by fin_cases a <;> rfl
  have i2 : ∀ k, idx_main_v11 (idx_main_v12 (idx_main_v20 (ix2 r d))) k = ix2 r k := fun k => funext fun a => by fin_cases a <;> rfl
  have i3 : ∀ k j, idx_main_v4 (idx_main_v5 (idx_main_v8 (ix2 r k))) j = ix2 r j := fun k j => funext fun a => by fin_cases a <;> rfl
  have i4 : idx_main_v22 (ix2 r d) = ix2 0 d := funext fun a => by fin_cases a <;> rfl
  have i5 : idx_main_v24 (ix2 r d) = ix2 0 d := funext fun a => by fin_cases a <;> rfl
  simp only [i1, i2, i3, i4, i5]
  generalize val_main_v3 (F := Ideal) x0 x1 x2 = v
  generalize hR : lnorm (fun d => v (ix2 r d)) (x3 (ix2 0 d)) (x4 (ix2 0 d)) d = R
  pointwise
  exact hR

/-- A block's sum is the reference's at the block's place. -/
theorem vsum_eq (t : Fin cfg0.N) (r : Fin 512) (d : Fin 1024) :
    vsum (iblk m c 0 t) (iblk m c 1 t) (iblk m c 2 t) r d
      = Cert.MixOutRefIdeal.Read.val_main_v3 (F := Ideal) (A0 m c) (A1 m c) (A2 m c) (ix2 ⟨t.val * 512 + r.val, by have := lt4 t; omega⟩ d) := by
  rw [ref_v]
  refine congrArg₂ (fun a b : EReal => a + b) (congrArg (fun a : EReal => Ideal.ofBits .f32 0x3FD744FD#32 * a) (b2 m c t r d)) (Finset.sum_congr rfl fun k _ => ?_)
  exact congrArg₂ (fun a b : EReal => a * b) (b0 m c t r k) (b1 m c t k d)
theorem lnorm_eq (t : Fin cfg0.N) (r : Fin 512) (d : Fin 1024) :
    lnorm (vsum (iblk m c 0 t) (iblk m c 1 t) (iblk m c 2 t) r) (iblk m c 3 t (ix2 0 d)) (iblk m c 4 t (ix2 0 d)) d
      = Cert.MixOutRefIdeal.Read.val_main_v25 (F := Ideal) (A0 m c) (A1 m c) (A2 m c) (A3 m c) (A4 m c) (ix2 ⟨t.val * 512 + r.val, by have := lt4 t; omega⟩ d) := by
  rw [ref_y, b3, b4]
  exact congrArg (fun v => lnorm v (A3 m c (ix2 0 d)) (A4 m c (ix2 0 d)) d) (funext fun j => vsum_eq m c t r j)

theorem arr5 : (dats m 0 c).arrAt 5 cfg0.N = Cert.MixOutRefIdeal.Read.val_main_v25 (F := Ideal) (A0 m c) (A1 m c) (A2 m c) (A3 m c) (A4 m c) := by
  refine (dats m 0 c).arrAt_eq_of_covers 5 _ (by decide +kernel) fun t hf y => ?_
  have ht := lt4 t
  idx_vars y
  have e : ((cfg0.win 5).blk t).view.emb (ix2 y0 y1) = ix2 ⟨t.val * 512 + y0.val, by omega⟩ y1 := by blk_ext [idx t]
  refine Eq.trans ?_ (congrArg (Cert.MixOutRefIdeal.Read.val_main_v25 (F := Ideal) (A0 m c) (A1 m c) (A2 m c) (A3 m c) (A4 m c)) e).symm
  blk_simp
  rw [after0_5]
  exact (out5_apply _ _ _ _ _ y0 y1).trans (lnorm_eq m c t y0 y1)

theorem arr6 : (dats m 0 c).arrAt 6 cfg0.N = Cert.MixOutRefIdeal.Read.val_main_v26 (F := Ideal) (A0 m c) (A1 m c) (A2 m c) (A3 m c) (A4 m c) := by
  refine (dats m 0 c).arrAt_eq_of_covers 6 _ (by decide +kernel) fun t hf y => ?_
  have ht := lt4 t
  idx_vars y
  have e : ((cfg0.win 6).blk t).view.emb (ix2 y0 y1) = ix2 ⟨t.val * 512 + y0.val, by omega⟩ y1 := by blk_ext [idx t]
  refine Eq.trans ?_ (congrArg (Cert.MixOutRefIdeal.Read.val_main_v26 (F := Ideal) (A0 m c) (A1 m c) (A2 m c) (A3 m c) (A4 m c)) e).symm
  blk_simp
  rw [after0_6]
  exact (out6_apply _ _ _ _ _ y0 y1).trans (lnorm_eq m c t y0 y1)

theorem arr7 : (dats m 0 c).arrAt 7 cfg0.N = Cert.MixOutRefIdeal.Read.val_main_v3 (F := Ideal) (A0 m c) (A1 m c) (A2 m c) := by
  refine (dats m 0 c).arrAt_eq_of_covers 7 _ (by decide +kernel) fun t hf y => ?_
  have ht := lt4 t
  idx_vars y
  have e : ((cfg0.win 7).blk t).view.emb (ix2 y0 y1) = ix2 ⟨t.val * 512 + y0.val, by omega⟩ y1 := by blk_ext [idx t]
  refine Eq.trans ?_ (congrArg (Cert.MixOutRefIdeal.Read.val_main_v3 (F := Ideal) (A0 m c) (A1 m c) (A2 m c)) e).symm
  blk_simp
  rw [after0_7]
  exact (out7_apply _ _ _ _ _ y0 y1).trans (vsum_eq m c t y0 y1)

end Cert.MixOutIdeal.Final

end
-- ==== Proof.Gate.lean ====
/- The gate over the per-layer embedding: the kernel's arrays are the reference's. -/
module

public import proofs.«01_k».proof.Proof.Gen.GateIdeal.Value
public import proofs.«01_k».proof.Proof.Gen.GateRefIdeal.Read
public import Idealize.ShloMosaic.Lib.Pipeline.ValueKit
public import proofs.«01_k».proof.Proof.Pad

@[expose] public section
set_option maxRecDepth 16384
noncomputable section

namespace Cert.GateIdeal.Final

open Cert.Attn Cert.GateIdeal Cert.GateIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2048x1024.Idx → EReal := m ((c : Thread nD τ).loc main_arg0)
abbrev A1 : S1024x1024.Idx → EReal := m ((c : Thread nD τ).loc main_arg1)
abbrev A2 : S2048x1024.Idx → EReal := m ((c : Thread nD τ).loc main_arg2)

theorem e0 : V m c main_v0 = A0 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem e1 : V m c main_v1 = A1 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem earg0 : V m c main_arg0 = A0 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem earg2 : V m c main_arg2 = A2 m c := by
  unfold V
  simp only [hostOps0, List.flatten_cons, List.flatten_nil, List.cons_append, List.nil_append, List.append_nil, TRef.binary, TRef.nullary,
    TRef.ternary, TRef.unary, TRef.toBuf, TRef.ofBuf, cast_eq]
  after_results_simp <;> rfl

theorem idx : ∀ t : Fin cfg0.N, win0_0.index t = ![t.val / 2, 0] ∧ win0_1.index t = ![0, t.val % 2] ∧ win0_2.index t = ![t.val / 2, t.val % 2] ∧ win0_3.index t = ![t.val / 2, t.val % 2] ∧ win0_4.index t = ![t.val / 2, t.val % 2] ∧ win0_5.index t = ![t.val / 2, t.val % 2] ∧ win0_6.index t = ![t.val / 2, t.val % 2] :=
  (by decide +kernel : ∀ t : Fin grid0.N, _)

theorem lt4 (t : Fin cfg0.N) : t.val < 4 := t.isLt

theorem b0 (t : Fin cfg0.N) (r k : Fin 1024) : iblk m c 0 t (ix2 r k) = A0 m c (ix2 ⟨t.val / 2 * 1024 + r.val, by have := lt4 t; omega⟩ k) := by
  rw [← e0]; have ht := lt4 t; blk_ext [iblk, idx t]
theorem b1 (t : Fin cfg0.N) (k : Fin 1024) (d : Fin 512) : iblk m c 1 t (ix2 k d) = A1 m c (ix2 k ⟨t.val % 2 * 512 + d.val, by omega⟩) := by
  rw [← e1]; have ht := lt4 t; blk_ext [iblk, idx t]
theorem b2 (t : Fin cfg0.N) (r : Fin 1024) (d : Fin 512) : iblk m c 2 t (ix2 r d) = A0 m c (ix2 ⟨t.val / 2 * 1024 + r.val, by have := lt4 t; omega⟩ ⟨t.val % 2 * 512 + d.val, by omega⟩) := by
  rw [← earg0]; have ht := lt4 t; blk_ext [iblk, idx t]
theorem b3 (t : Fin cfg0.N) (r : Fin 1024) (d : Fin 512) : iblk m c 3 t (ix2 r d) = A2 m c (ix2 ⟨t.val / 2 * 1024 + r.val, by have := lt4 t; omega⟩ ⟨t.val % 2 * 512 + d.val, by omega⟩) := by
  rw [← earg2]; have ht := lt4 t; blk_ext [iblk, idx t]

/-- The body's product of its blocks. -/
def zsum (x0 : Vec Ideal S1024x1024 .bf16) (x1 : Vec Ideal S1024x512 .bf16) (r : Fin 1024) (d : Fin 512) : EReal := ∑ k : Fin 1024, x0 (ix2 r k) * x1 (ix2 k d)

theorem z_apply (x0 : Vec Ideal S1024x1024 .bf16) (x1 : Vec Ideal S1024x512 .bf16) (r : Fin 1024) (d : Fin 512) : k0_pay1 (View.ld x0 r0_0) (View.ld x1 r0_1) (ix2 r d) = zsum x0 x1 r d := by
  generalize hR : zsum x0 x1 r d = R
  pointwise [k0_pay1]
  exact hR

theorem out4_apply (x0 : Vec Ideal S1024x1024 .bf16) (x1 : Vec Ideal S1024x512 .bf16) (x2 x3 : Vec Ideal S1024x512 .f32) (r : Fin 1024) (d : Fin 512) : out0_4 x0 x1 x2 x3 (ix2 r d) = zsum x0 x1 r d := by
  unfold out0_4
  refine (canon_whole _ _ _ _).trans ?_
  rw [← z_apply]
  unfold k0_pay3
  generalize k0_pay1 (View.ld x0 r0_0) (View.ld x1 r0_1) = v
  pointwise

/-- The gate opens by the logistic of the product. -/
theorem y_apply (x0 : Vec Ideal S1024x1024 .bf16) (x1 : Vec Ideal S1024x512 .bf16) (x2 x3 : Vec Ideal S1024x512 .f32) (r : Fin 1024) (d : Fin 512) :
    k0_pay2 (View.ld x0 r0_0) (View.ld x1 r0_1) (View.ld x2 r0_1) (View.ld x3 r0_1) (ix2 r d) = (x2 (ix2 r d) + Ideal.logistic (zsum x0 x1 r d) * x3 (ix2 r d) : EReal) := by
  rw [← z_apply]
  unfold k0_pay2
  generalize k0_pay1 (View.ld x0 r0_0) (View.ld x1 r0_1) = v
  generalize hR : (x2 (ix2 r d) + Ideal.logistic (v (ix2 r d)) * x3 (ix2 r d) : EReal) = R
  pointwise
  exact hR
theorem out5_apply (x0 : Vec Ideal S1024x1024 .bf16) (x1 : Vec Ideal S1024x512 .bf16) (x2 x3 : Vec Ideal S1024x512 .f32) (r : Fin 1024) (d : Fin 512) : out0_5 x0 x1 x2 x3 (ix2 r d) = (x2 (ix2 r d) + Ideal.logistic (zsum x0 x1 r d) * x3 (ix2 r d) : EReal) := by
  unfold out0_5
  refine (canon_whole _ _ _ _).trans ?_
  rw [← y_apply]
  unfold k0_pay4
  generalize k0_pay2 (View.ld x0 r0_0) (View.ld x1 r0_1) (View.ld x2 r0_1) (View.ld x3 r0_1) = v
  pointwise
theorem out6_apply (x0 : Vec Ideal S1024x1024 .bf16) (x1 : Vec Ideal S1024x512 .bf16) (x2 x3 : Vec Ideal S1024x512 .f32) (r : Fin 1024) (d : Fin 512) : out0_6 x0 x1 x2 x3 (ix2 r d) = (x2 (ix2 r d) + Ideal.logistic (zsum x0 x1 r d) * x3 (ix2 r d) : EReal) := by
  unfold out0_6
  refine (canon_whole _ _ _ _).trans ?_
  rw [← y_apply]
  unfold k0_pay5
  generalize k0_pay2 (View.ld x0 r0_0) (View.ld x1 r0_1) (View.ld x2 r0_1) (View.ld x3 r0_1) = v
  pointwise

open Cert.GateRefIdeal.Read in
theorem ref_apply (x0 : S2048x1024.Idx → EReal) (x1 : S1024x1024.Idx → EReal) (x2 : S2048x1024.Idx → EReal) (i : S2048x1024.Idx) :
    val_main_v8 (F := Ideal) x0 x1 x2 i = (x0 i + Ideal.logistic (val_main_v0 (F := Ideal) x0 x1 i) * x2 i : EReal) := by
  rw [val_main_v8_apply, val_main_v7_apply, val_main_v6_apply, val_main_v5_apply, val_main_cst_0_apply, val_main_v4_apply, val_main_v3_apply,
    val_main_cst_apply, val_main_v2_apply, val_main_v1_apply]
  generalize val_main_v0 (F := Ideal) x0 x1 i = z
  generalize hR : (x0 i + Ideal.logistic z * x2 i : EReal) = R
  pointwise
  exact hR

/-- A block's product is the reference's at the block's place. -/
theorem z_eq (t : Fin cfg0.N) (r : Fin 1024) (d : Fin 512) :
    zsum (iblk m c 0 t) (iblk m c 1 t) r d = Cert.GateRefIdeal.Read.val_main_v0 (F := Ideal) (A0 m c) (A1 m c) (ix2 ⟨t.val / 2 * 1024 + r.val, by have := lt4 t; omega⟩ ⟨t.val % 2 * 512 + d.val, by omega⟩) := by
  rw [Cert.GateRefIdeal.Read.val_main_v0_apply]
  refine Finset.sum_congr rfl fun k _ => (congrArg₂ (fun a b : EReal => a * b) (b0 m c t r k) (b1 m c t k d)).trans ?_
  exact congrArg₂ (fun a b : EReal => a * b) (congrArg _ (funext fun a => by fin_cases a <;> rfl)) (congrArg _ (funext fun a => by fin_cases a <;> rfl))
theorem y_eq (t : Fin cfg0.N) (r : Fin 1024) (d : Fin 512) :
    (fun a z p : EReal => a + Ideal.logistic z * p) (iblk m c 2 t (ix2 r d)) (zsum (iblk m c 0 t) (iblk m c 1 t) r d) (iblk m c 3 t (ix2 r d))
      = Cert.GateRefIdeal.Read.val_main_v8 (F := Ideal) (A0 m c) (A1 m c) (A2 m c) (ix2 ⟨t.val / 2 * 1024 + r.val, by have := lt4 t; omega⟩ ⟨t.val % 2 * 512 + d.val, by omega⟩) := by
  rw [ref_apply, z_eq, b2, b3]

theorem arr4 : (dats m 0 c).arrAt 4 cfg0.N = Cert.GateRefIdeal.Read.val_main_v0 (F := Ideal) (A0 m c) (A1 m c) := by
  refine (dats m 0 c).arrAt_eq_of_covers 4 _ (by decide +kernel) fun t hf y => ?_
  have ht := lt4 t
  idx_vars y
  have e : ((cfg0.win 4).blk t).view.emb (ix2 y0 y1) = ix2 ⟨t.val / 2 * 1024 + y0.val, by omega⟩ ⟨t.val % 2 * 512 + y1.val, by omega⟩ := by blk_ext [idx t]
  refine Eq.trans ?_ (congrArg (Cert.GateRefIdeal.Read.val_main_v0 (F := Ideal) (A0 m c) (A1 m c)) e).symm
  blk_simp
  rw [after0_4]
  exact (out4_apply _ _ _ _ y0 y1).trans (z_eq m c t y0 y1)

theorem arr5 : (dats m 0 c).arrAt 5 cfg0.N = Cert.GateRefIdeal.Read.val_main_v8 (F := Ideal) (A0 m c) (A1 m c) (A2 m c) := by
  refine (dats m 0 c).arrAt_eq_of_covers 5 _ (by decide +kernel) fun t hf y => ?_
  have ht := lt4 t
  idx_vars y
  have e : ((cfg0.win 5).blk t).view.emb (ix2 y0 y1) = ix2 ⟨t.val / 2 * 1024 + y0.val, by omega⟩ ⟨t.val % 2 * 512 + y1.val, by omega⟩ := by blk_ext [idx t]
  refine Eq.trans ?_ (congrArg (Cert.GateRefIdeal.Read.val_main_v8 (F := Ideal) (A0 m c) (A1 m c) (A2 m c)) e).symm
  blk_simp
  rw [after0_5]
  exact (out5_apply _ _ _ _ y0 y1).trans (y_eq m c t y0 y1)

theorem arr6 : (dats m 0 c).arrAt 6 cfg0.N = Cert.GateRefIdeal.Read.val_main_v9 (F := Ideal) (A0 m c) (A1 m c) (A2 m c) := by
  refine (dats m 0 c).arrAt_eq_of_covers 6 _ (by decide +kernel) fun t hf y => ?_
  have ht := lt4 t
  idx_vars y
  have e : ((cfg0.win 6).blk t).view.emb (ix2 y0 y1) = ix2 ⟨t.val / 2 * 1024 + y0.val, by omega⟩ ⟨t.val % 2 * 512 + y1.val, by omega⟩ := by blk_ext [idx t]
  refine Eq.trans ?_ (congrArg (Cert.GateRefIdeal.Read.val_main_v9 (F := Ideal) (A0 m c) (A1 m c) (A2 m c)) e).symm
  blk_simp
  rw [after0_6]
  exact (out6_apply _ _ _ _ y0 y1).trans (y_eq m c t y0 y1)

end Cert.GateIdeal.Final

end
-- ==== Proof.Opt.lean ====
/- One step of the optimiser for one entry of a weight. -/
module

public import proofs.«01_k».proof.Proof.Pad

@[expose] public section
noncomputable section

namespace Cert.Attn

open Idealize.ShloMosaic

/-- The new first moment, from the old one and the gradient. -/
def adM (x g : Ideal .f32) : Ideal .f32 :=
  FloatOps.addf (FloatOps.mulf (FloatOps.ofBits .f32 0x3F666666#32) x) (FloatOps.mulf (FloatOps.ofBits .f32 0x3DCCCCCD#32) g)

/-- The new second moment. -/
def adV (x g : Ideal .f32) : Ideal .f32 :=
  FloatOps.addf (FloatOps.mulf (FloatOps.ofBits .f32 0x3F7FBE77#32) x)
    (FloatOps.mulf (FloatOps.ofBits .f32 0x3A83126F#32) (FloatOps.mulf g g))

/-- The change of the weight, from the weight and the new moments. -/
def adD (w m v : Ideal .f32) : Ideal .f32 :=
  FloatOps.mulf (FloatOps.ofBits .f32 0xBA83126F#32)
    (FloatOps.addf (FloatOps.divf (FloatOps.divf m (FloatOps.ofBits .f32 0x3F26BD02#32))
      (FloatOps.addf (FloatOps.sqrt (FloatOps.divf v (FloatOps.ofBits .f32 0x3C231ACC#32))) (FloatOps.ofBits .f32 0x322BCC77#32)))
      (FloatOps.mulf (FloatOps.ofBits .f32 0x3C23D70A#32) w))

end Cert.Attn

end
-- ==== Proof.StepGlaIn.lean ====
/- The optimiser's step for the input product of the gated linear attention, with the rows of the shard first: the kernel's arrays are the reference's. -/
module

public import proofs.«01_k».proof.Proof.Gen.StepGlaInIdeal.Value
public import proofs.«01_k».proof.Proof.Gen.StepGlaInRefIdeal.Read
public import Idealize.ShloMosaic.Lib.Pipeline.ValueKit
public import proofs.«01_k».proof.Proof.Opt

@[expose] public section
set_option maxRecDepth 16384
noncomputable section

namespace Cert.StepGlaInIdeal.Final

open Cert.Attn Cert.StepGlaInIdeal Cert.StepGlaInIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2x1024x772.Idx → EReal := m ((c : Thread nD τ).loc main_arg0)
abbrev A1 : S2x1024x772.Idx → EReal := m ((c : Thread nD τ).loc main_arg1)
abbrev A2 : S2x1024x772.Idx → EReal := m ((c : Thread nD τ).loc main_arg2)
abbrev A3 : S1024x772.Idx → EReal := m ((c : Thread nD τ).loc main_arg3)
abbrev A4 : S1024x772.Idx → EReal := m ((c : Thread nD τ).loc main_arg4)

/-- The array that the call reads for a weight or a moment. -/
abbrev turn (x : Vec Ideal S2x1024x772 .f32) : Vec Ideal S772x2x1024 .f32 := transpose S772x2x1024 [2, 0, 1] x transposes_S2x1024x772_S772x2x1024_2_0_1

/-- The array that the call reads for the gradients. -/
abbrev pair (x y : Vec Ideal S1024x772 .f32) : Vec Ideal S772x2x1024 .f32 :=
  concatenate S772x2x1024 1 [⟨S772x1x1024, broadcastInDim S772x1x1024 ![0, 2] bcast_S772x1024_S772x1x1024_0_2 (transpose S772x1024 [1, 0] x transposes_S1024x772_S772x1024_1_0)⟩,
    ⟨S772x1x1024, broadcastInDim S772x1x1024 ![0, 2] bcast_S772x1024_S772x1x1024_0_2 (transpose S772x1024 [1, 0] y transposes_S1024x772_S772x1024_1_0)⟩]
    concatenates_S772x1x1024_S772x1x1024_S772x2x1024_d1

theorem turn_apply (x : Vec Ideal S2x1024x772 .f32) (a : Fin 772) (l : Fin 2) (k : Fin 1024) : turn x (ix3 a l k) = x (ix3 l k a) := by
  generalize hR : x (ix3 l k a) = R
  pointwise [turn]
  exact hR

theorem e5 : V m c main_v5 = turn (A0 m c) := by
  unfold V
  simp only [hostOps0, List.flatten_cons, List.flatten_nil, List.cons_append, List.nil_append, List.append_nil, TRef.binary, TRef.nullary,
    TRef.ternary, TRef.unary, TRef.reshape, TRef.toBuf, TRef.ofBuf, cast_eq]
  after_results_simp <;> rfl

theorem e6 : V m c main_v6 = turn (A1 m c) := by
  unfold V
  simp only [hostOps0, List.flatten_cons, List.flatten_nil, List.cons_append, List.nil_append, List.append_nil, TRef.binary, TRef.nullary,
    TRef.ternary, TRef.unary, TRef.reshape, TRef.toBuf, TRef.ofBuf, cast_eq]
  after_results_simp <;> rfl

theorem e7 : V m c main_v7 = turn (A2 m c) := by
  unfold V
  simp only [hostOps0, List.flatten_cons, List.flatten_nil, List.cons_append, List.nil_append, List.append_nil, TRef.binary, TRef.nullary,
    TRef.ternary, TRef.unary, TRef.reshape, TRef.toBuf, TRef.ofBuf, cast_eq]
  after_results_simp <;> rfl

theorem e4 : V m c main_v4 = pair (A3 m c) (A4 m c) := by
  unfold V
  simp only [hostOps0, List.flatten_cons, List.flatten_nil, List.cons_append, List.nil_append, List.append_nil, TRef.binary, TRef.nullary,
    TRef.ternary, TRef.unary, TRef.reshape, TRef.toBuf, TRef.ofBuf, cast_eq]
  after_results_simp <;> rfl

theorem idx : ∀ t : Fin cfg0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0] :=
  (by decide +kernel : ∀ t : Fin grid0.N, _)

theorem lt (t : Fin cfg0.N) : t.val < 4 := t.isLt

/-- The place of a block's row in the array. -/
abbrev row (t : Fin cfg0.N) (r : Fin 193) : Fin 772 := ⟨t.val * 193 + r.val, by have := lt t; omega⟩

theorem b0 (t : Fin cfg0.N) (r : Fin 193) (l : Fin 2) (k : Fin 1024) : iblk m c 0 t (ix3 r l k) = A0 m c (ix3 l k (row t r)) := by
  rw [← turn_apply (A0 m c) (row t r) l k, ← e5]; have ht := lt t; blk_ext [iblk, idx t]
theorem b1 (t : Fin cfg0.N) (r : Fin 193) (l : Fin 2) (k : Fin 1024) : iblk m c 1 t (ix3 r l k) = A1 m c (ix3 l k (row t r)) := by
  rw [← turn_apply (A1 m c) (row t r) l k, ← e6]; have ht := lt t; blk_ext [iblk, idx t]
theorem b2 (t : Fin cfg0.N) (r : Fin 193) (l : Fin 2) (k : Fin 1024) : iblk m c 2 t (ix3 r l k) = A2 m c (ix3 l k (row t r)) := by
  rw [← turn_apply (A2 m c) (row t r) l k, ← e7]; have ht := lt t; blk_ext [iblk, idx t]
theorem b3 (t : Fin cfg0.N) (r : Fin 193) (l : Fin 2) (k : Fin 1024) : iblk m c 3 t (ix3 r l k) = pair (A3 m c) (A4 m c) (ix3 (row t r) l k) := by
  rw [← e4]; have ht := lt t; blk_ext [iblk, idx t]

theorem out4_apply (x0 x1 x2 x3 : Vec Ideal S193x2x1024 .f32) (r : Fin 193) (l : Fin 2) (k : Fin 1024) : out0_4 x0 x1 x2 x3 (ix3 r l k) = x3 (ix3 r l k) := by
  unfold out0_4
  refine (canon_whole _ _ _ _).trans ?_
  generalize hR : x3 (ix3 r l k) = R
  pointwise [k0_pay1]
  exact hR

theorem out5_apply (x0 x1 x2 x3 : Vec Ideal S193x2x1024 .f32) (r : Fin 193) (l : Fin 2) (k : Fin 1024) : out0_5 x0 x1 x2 x3 (ix3 r l k) = adD (x0 (ix3 r l k)) (adM (x1 (ix3 r l k)) (x3 (ix3 r l k))) (adV (x2 (ix3 r l k)) (x3 (ix3 r l k))) := by
  unfold out0_5
  refine (canon_whole _ _ _ _).trans ?_
  generalize hR : adD (x0 (ix3 r l k)) (adM (x1 (ix3 r l k)) (x3 (ix3 r l k))) (adV (x2 (ix3 r l k)) (x3 (ix3 r l k))) = R
  pointwise [k0_pay4, k0_pay2, k0_pay3, k0_pay1]
  exact hR

theorem out6_apply (x0 x1 x2 x3 : Vec Ideal S193x2x1024 .f32) (r : Fin 193) (l : Fin 2) (k : Fin 1024) : out0_6 x0 x1 x2 x3 (ix3 r l k) = adM (x1 (ix3 r l k)) (x3 (ix3 r l k)) := by
  unfold out0_6
  refine (canon_whole _ _ _ _).trans ?_
  generalize hR : adM (x1 (ix3 r l k)) (x3 (ix3 r l k)) = R
  pointwise [k0_pay2, k0_pay1]
  exact hR

theorem out7_apply (x0 x1 x2 x3 : Vec Ideal S193x2x1024 .f32) (r : Fin 193) (l : Fin 2) (k : Fin 1024) : out0_7 x0 x1 x2 x3 (ix3 r l k) = adV (x2 (ix3 r l k)) (x3 (ix3 r l k)) := by
  unfold out0_7
  refine (canon_whole _ _ _ _).trans ?_
  generalize hR : adV (x2 (ix3 r l k)) (x3 (ix3 r l k)) = R
  pointwise [k0_pay3, k0_pay1]
  exact hR

theorem pair_apply (x y : Vec Ideal S1024x772 .f32) (a : Fin 772) (l : Fin 2) (k : Fin 1024) : pair x y (ix3 a l k) = Cert.StepGlaInRefIdeal.Read.val_main_v2 (F := Ideal) x y (ix3 l k a) := by
  have hl : l = 0 ∨ l = 1 := by omega
  unfold pair Cert.StepGlaInRefIdeal.Read.val_main_v2 Cert.StepGlaInRefIdeal.Read.val_main_v0 Cert.StepGlaInRefIdeal.Read.val_main_v1
  rcases hl with rfl | rfl
  · pointwise
  · pointwise

/-- The reference's results with the rows of the shard first. -/
theorem place (a : Fin 772) (l : Fin 2) (k : Fin 1024) : Cert.StepGlaInRefIdeal.Read.idx_main_v27 (ix3 a l k) = ix3 l k a := by
  funext x
  fin_cases x <;> rfl

theorem ref0_apply (x3 : S1024x772.Idx → EReal) (x4 : S1024x772.Idx → EReal) (a : Fin 772) (l : Fin 2) (k : Fin 1024) :
    Cert.StepGlaInRefIdeal.Read.val_main_v27 (F := Ideal) x3 x4 (ix3 a l k) = Cert.StepGlaInRefIdeal.Read.val_main_v2 (F := Ideal) x3 x4 (ix3 l k a) := by
  have h : Cert.StepGlaInRefIdeal.Read.idx_main_v27 (ix3 a l k) = ix3 l k a := place a l k
  simp only [Cert.StepGlaInRefIdeal.Read.val_main_v27_apply, h]

theorem ref2_apply (x1 : S2x1024x772.Idx → EReal) (x3 : S1024x772.Idx → EReal) (x4 : S1024x772.Idx → EReal) (a : Fin 772) (l : Fin 2) (k : Fin 1024) :
    Cert.StepGlaInRefIdeal.Read.val_main_v29 (F := Ideal) x1 x3 x4 (ix3 a l k) = adM (x1 (ix3 l k a)) (Cert.StepGlaInRefIdeal.Read.val_main_v2 (F := Ideal) x3 x4 (ix3 l k a)) := by
  have h : Cert.StepGlaInRefIdeal.Read.idx_main_v29 (ix3 a l k) = ix3 l k a := place a l k
  simp only [Cert.StepGlaInRefIdeal.Read.val_main_v29_apply, h, Cert.StepGlaInRefIdeal.Read.val_main_v0_apply, Cert.StepGlaInRefIdeal.Read.val_main_v1_apply, Cert.StepGlaInRefIdeal.Read.val_main_cst_apply, Cert.StepGlaInRefIdeal.Read.val_main_v3_apply, Cert.StepGlaInRefIdeal.Read.val_main_v4_apply, Cert.StepGlaInRefIdeal.Read.val_main_cst_0_apply, Cert.StepGlaInRefIdeal.Read.val_main_v5_apply, Cert.StepGlaInRefIdeal.Read.val_main_v6_apply, Cert.StepGlaInRefIdeal.Read.val_main_v7_apply, Cert.StepGlaInRefIdeal.Read.val_main_cst_1_apply, Cert.StepGlaInRefIdeal.Read.val_main_v8_apply, Cert.StepGlaInRefIdeal.Read.val_main_v9_apply, Cert.StepGlaInRefIdeal.Read.val_main_v10_apply, Cert.StepGlaInRefIdeal.Read.val_main_cst_2_apply, Cert.StepGlaInRefIdeal.Read.val_main_v11_apply, Cert.StepGlaInRefIdeal.Read.val_main_v12_apply, Cert.StepGlaInRefIdeal.Read.val_main_v13_apply, Cert.StepGlaInRefIdeal.Read.val_main_cst_3_apply, Cert.StepGlaInRefIdeal.Read.val_main_v14_apply, Cert.StepGlaInRefIdeal.Read.val_main_v15_apply, Cert.StepGlaInRefIdeal.Read.val_main_cst_4_apply, Cert.StepGlaInRefIdeal.Read.val_main_v16_apply, Cert.StepGlaInRefIdeal.Read.val_main_v17_apply, Cert.StepGlaInRefIdeal.Read.val_main_v18_apply, Cert.StepGlaInRefIdeal.Read.val_main_cst_5_apply, Cert.StepGlaInRefIdeal.Read.val_main_v19_apply, Cert.StepGlaInRefIdeal.Read.val_main_v20_apply, Cert.StepGlaInRefIdeal.Read.val_main_v21_apply, Cert.StepGlaInRefIdeal.Read.val_main_cst_6_apply, Cert.StepGlaInRefIdeal.Read.val_main_v22_apply, Cert.StepGlaInRefIdeal.Read.val_main_v23_apply, Cert.StepGlaInRefIdeal.Read.val_main_v24_apply, Cert.StepGlaInRefIdeal.Read.val_main_cst_7_apply, Cert.StepGlaInRefIdeal.Read.val_main_v25_apply, Cert.StepGlaInRefIdeal.Read.val_main_v26_apply]
  rfl

theorem ref3_apply (x2 : S2x1024x772.Idx → EReal) (x3 : S1024x772.Idx → EReal) (x4 : S1024x772.Idx → EReal) (a : Fin 772) (l : Fin 2) (k : Fin 1024) :
    Cert.StepGlaInRefIdeal.Read.val_main_v30 (F := Ideal) x2 x3 x4 (ix3 a l k) = adV (x2 (ix3 l k a)) (Cert.StepGlaInRefIdeal.Read.val_main_v2 (F := Ideal) x3 x4 (ix3 l k a)) := by
  have h : Cert.StepGlaInRefIdeal.Read.idx_main_v30 (ix3 a l k) = ix3 l k a := place a l k
  simp only [Cert.StepGlaInRefIdeal.Read.val_main_v30_apply, h, Cert.StepGlaInRefIdeal.Read.val_main_v0_apply, Cert.StepGlaInRefIdeal.Read.val_main_v1_apply, Cert.StepGlaInRefIdeal.Read.val_main_cst_apply, Cert.StepGlaInRefIdeal.Read.val_main_v3_apply, Cert.StepGlaInRefIdeal.Read.val_main_v4_apply, Cert.StepGlaInRefIdeal.Read.val_main_cst_0_apply, Cert.StepGlaInRefIdeal.Read.val_main_v5_apply, Cert.StepGlaInRefIdeal.Read.val_main_v6_apply, Cert.StepGlaInRefIdeal.Read.val_main_v7_apply, Cert.StepGlaInRefIdeal.Read.val_main_cst_1_apply, Cert.StepGlaInRefIdeal.Read.val_main_v8_apply, Cert.StepGlaInRefIdeal.Read.val_main_v9_apply, Cert.StepGlaInRefIdeal.Read.val_main_v10_apply, Cert.StepGlaInRefIdeal.Read.val_main_cst_2_apply, Cert.StepGlaInRefIdeal.Read.val_main_v11_apply, Cert.StepGlaInRefIdeal.Read.val_main_v12_apply, Cert.StepGlaInRefIdeal.Read.val_main_v13_apply, Cert.StepGlaInRefIdeal.Read.val_main_cst_3_apply, Cert.StepGlaInRefIdeal.Read.val_main_v14_apply, Cert.StepGlaInRefIdeal.Read.val_main_v15_apply, Cert.StepGlaInRefIdeal.Read.val_main_cst_4_apply, Cert.StepGlaInRefIdeal.Read.val_main_v16_apply, Cert.StepGlaInRefIdeal.Read.val_main_v17_apply, Cert.StepGlaInRefIdeal.Read.val_main_v18_apply, Cert.StepGlaInRefIdeal.Read.val_main_cst_5_apply, Cert.StepGlaInRefIdeal.Read.val_main_v19_apply, Cert.StepGlaInRefIdeal.Read.val_main_v20_apply, Cert.StepGlaInRefIdeal.Read.val_main_v21_apply, Cert.StepGlaInRefIdeal.Read.val_main_cst_6_apply, Cert.StepGlaInRefIdeal.Read.val_main_v22_apply, Cert.StepGlaInRefIdeal.Read.val_main_v23_apply, Cert.StepGlaInRefIdeal.Read.val_main_v24_apply, Cert.StepGlaInRefIdeal.Read.val_main_cst_7_apply, Cert.StepGlaInRefIdeal.Read.val_main_v25_apply, Cert.StepGlaInRefIdeal.Read.val_main_v26_apply]
  rfl

theorem ref1_apply (x0 : S2x1024x772.Idx → EReal) (x1 : S2x1024x772.Idx → EReal) (x2 : S2x1024x772.Idx → EReal) (x3 : S1024x772.Idx → EReal) (x4 : S1024x772.Idx → EReal) (a : Fin 772) (l : Fin 2) (k : Fin 1024) :
    Cert.StepGlaInRefIdeal.Read.val_main_v28 (F := Ideal) x0 x1 x2 x3 x4 (ix3 a l k) = adD (x0 (ix3 l k a)) (adM (x1 (ix3 l k a)) (Cert.StepGlaInRefIdeal.Read.val_main_v2 (F := Ideal) x3 x4 (ix3 l k a))) (adV (x2 (ix3 l k a)) (Cert.StepGlaInRefIdeal.Read.val_main_v2 (F := Ideal) x3 x4 (ix3 l k a))) := by
  have h : Cert.StepGlaInRefIdeal.Read.idx_main_v28 (ix3 a l k) = ix3 l k a := place a l k
  simp only [Cert.StepGlaInRefIdeal.Read.val_main_v28_apply, h, Cert.StepGlaInRefIdeal.Read.val_main_v0_apply, Cert.StepGlaInRefIdeal.Read.val_main_v1_apply, Cert.StepGlaInRefIdeal.Read.val_main_cst_apply, Cert.StepGlaInRefIdeal.Read.val_main_v3_apply, Cert.StepGlaInRefIdeal.Read.val_main_v4_apply, Cert.StepGlaInRefIdeal.Read.val_main_cst_0_apply, Cert.StepGlaInRefIdeal.Read.val_main_v5_apply, Cert.StepGlaInRefIdeal.Read.val_main_v6_apply, Cert.StepGlaInRefIdeal.Read.val_main_v7_apply, Cert.StepGlaInRefIdeal.Read.val_main_cst_1_apply, Cert.StepGlaInRefIdeal.Read.val_main_v8_apply, Cert.StepGlaInRefIdeal.Read.val_main_v9_apply, Cert.StepGlaInRefIdeal.Read.val_main_v10_apply, Cert.StepGlaInRefIdeal.Read.val_main_cst_2_apply, Cert.StepGlaInRefIdeal.Read.val_main_v11_apply, Cert.StepGlaInRefIdeal.Read.val_main_v12_apply, Cert.StepGlaInRefIdeal.Read.val_main_v13_apply, Cert.StepGlaInRefIdeal.Read.val_main_cst_3_apply, Cert.StepGlaInRefIdeal.Read.val_main_v14_apply, Cert.StepGlaInRefIdeal.Read.val_main_v15_apply, Cert.StepGlaInRefIdeal.Read.val_main_cst_4_apply, Cert.StepGlaInRefIdeal.Read.val_main_v16_apply, Cert.StepGlaInRefIdeal.Read.val_main_v17_apply, Cert.StepGlaInRefIdeal.Read.val_main_v18_apply, Cert.StepGlaInRefIdeal.Read.val_main_cst_5_apply, Cert.StepGlaInRefIdeal.Read.val_main_v19_apply, Cert.StepGlaInRefIdeal.Read.val_main_v20_apply, Cert.StepGlaInRefIdeal.Read.val_main_v21_apply, Cert.StepGlaInRefIdeal.Read.val_main_cst_6_apply, Cert.StepGlaInRefIdeal.Read.val_main_v22_apply, Cert.StepGlaInRefIdeal.Read.val_main_v23_apply, Cert.StepGlaInRefIdeal.Read.val_main_v24_apply, Cert.StepGlaInRefIdeal.Read.val_main_cst_7_apply, Cert.StepGlaInRefIdeal.Read.val_main_v25_apply, Cert.StepGlaInRefIdeal.Read.val_main_v26_apply]
  rfl

theorem arr4 : (dats m 0 c).arrAt 4 cfg0.N = Cert.StepGlaInRefIdeal.Read.val_main_v27 (F := Ideal) (A3 m c) (A4 m c) := by
  refine (dats m 0 c).arrAt_eq_of_covers 4 _ (by decide +kernel) fun t hf y => ?_
  have ht := lt t
  idx_vars y
  have e : ((cfg0.win 4).blk t).view.emb (ix3 y0 y1 y2) = ix3 (row t y0) y1 y2 := by blk_ext [idx t]
  refine Eq.trans ?_ (congrArg (Cert.StepGlaInRefIdeal.Read.val_main_v27 (F := Ideal) (A3 m c) (A4 m c)) e).symm
  blk_simp
  rw [after0_4]
  refine (out4_apply _ _ _ _ y0 y1 y2).trans ?_
  rw [ref0_apply]
  exact ((b3 m c t y0 y1 y2).trans (pair_apply _ _ _ _ _))

theorem arr5 : (dats m 0 c).arrAt 5 cfg0.N = Cert.StepGlaInRefIdeal.Read.val_main_v28 (F := Ideal) (A0 m c) (A1 m c) (A2 m c) (A3 m c) (A4 m c) := by
  refine (dats m 0 c).arrAt_eq_of_covers 5 _ (by decide +kernel) fun t hf y => ?_
  have ht := lt t
  idx_vars y
  have e : ((cfg0.win 5).blk t).view.emb (ix3 y0 y1 y2) = ix3 (row t y0) y1 y2 := by blk_ext [idx t]
  refine Eq.trans ?_ (congrArg (Cert.StepGlaInRefIdeal.Read.val_main_v28 (F := Ideal) (A0 m c) (A1 m c) (A2 m c) (A3 m c) (A4 m c)) e).symm
  blk_simp
  rw [after0_5]
  refine (out5_apply _ _ _ _ y0 y1 y2).trans ?_
  rw [ref1_apply]
  exact congr (congrArg₂ adD (b0 m c t y0 y1 y2) (congrArg₂ adM (b1 m c t y0 y1 y2) ((b3 m c t y0 y1 y2).trans (pair_apply _ _ _ _ _)))) (congrArg₂ adV (b2 m c t y0 y1 y2) ((b3 m c t y0 y1 y2).trans (pair_apply _ _ _ _ _)))

theorem arr6 : (dats m 0 c).arrAt 6 cfg0.N = Cert.StepGlaInRefIdeal.Read.val_main_v29 (F := Ideal) (A1 m c) (A3 m c) (A4 m c) := by
  refine (dats m 0 c).arrAt_eq_of_covers 6 _ (by decide +kernel) fun t hf y => ?_
  have ht := lt t
  idx_vars y
  have e : ((cfg0.win 6).blk t).view.emb (ix3 y0 y1 y2) = ix3 (row t y0) y1 y2 := by blk_ext [idx t]
  refine Eq.trans ?_ (congrArg (Cert.StepGlaInRefIdeal.Read.val_main_v29 (F := Ideal) (A1 m c) (A3 m c) (A4 m c)) e).symm
  blk_simp
  rw [after0_6]
  refine (out6_apply _ _ _ _ y0 y1 y2).trans ?_
  rw [ref2_apply]
  exact congrArg₂ adM (b1 m c t y0 y1 y2) ((b3 m c t y0 y1 y2).trans (pair_apply _ _ _ _ _))

theorem arr7 : (dats m 0 c).arrAt 7 cfg0.N = Cert.StepGlaInRefIdeal.Read.val_main_v30 (F := Ideal) (A2 m c) (A3 m c) (A4 m c) := by
  refine (dats m 0 c).arrAt_eq_of_covers 7 _ (by decide +kernel) fun t hf y => ?_
  have ht := lt t
  idx_vars y
  have e : ((cfg0.win 7).blk t).view.emb (ix3 y0 y1 y2) = ix3 (row t y0) y1 y2 := by blk_ext [idx t]
  refine Eq.trans ?_ (congrArg (Cert.StepGlaInRefIdeal.Read.val_main_v30 (F := Ideal) (A2 m c) (A3 m c) (A4 m c)) e).symm
  blk_simp
  rw [after0_7]
  refine (out7_apply _ _ _ _ y0 y1 y2).trans ?_
  rw [ref3_apply]
  exact congrArg₂ adV (b2 m c t y0 y1 y2) ((b3 m c t y0 y1 y2).trans (pair_apply _ _ _ _ _))

end Cert.StepGlaInIdeal.Final

end
-- ==== Proof.StepGlaOut.lean ====
/- The optimiser's step for the output product of the gated linear attention: the kernel's arrays are the reference's. -/
module

public import proofs.«01_k».proof.Proof.Gen.StepGlaOutIdeal.Value
public import proofs.«01_k».proof.Proof.Gen.StepGlaOutRefIdeal.Read
public import Idealize.ShloMosaic.Lib.Pipeline.ValueKit
public import proofs.«01_k».proof.Proof.Opt

@[expose] public section
set_option maxRecDepth 16384
noncomputable section

namespace Cert.StepGlaOutIdeal.Final

open Cert.Attn Cert.StepGlaOutIdeal Cert.StepGlaOutIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S2x256x1024.Idx → EReal := m ((c : Thread nD τ).loc main_arg0)
abbrev A1 : S2x256x1024.Idx → EReal := m ((c : Thread nD τ).loc main_arg1)
abbrev A2 : S2x256x1024.Idx → EReal := m ((c : Thread nD τ).loc main_arg2)
abbrev A3 : S256x1024.Idx → EReal := m ((c : Thread nD τ).loc main_arg3)
abbrev A4 : S256x1024.Idx → EReal := m ((c : Thread nD τ).loc main_arg4)

theorem e0 : V m c main_arg0 = A0 m c := by
  unfold V
  rfl

theorem e1 : V m c main_arg1 = A1 m c := by
  unfold V
  rfl

theorem e2 : V m c main_arg2 = A2 m c := by
  unfold V
  rfl

theorem e3 : V m c main_arg3 = A3 m c := by
  unfold V
  rfl

theorem e4 : V m c main_arg4 = A4 m c := by
  unfold V
  rfl

theorem idx : ∀ t : Fin cfg0.N, win0_0.index t = ![t.val, 0, 0]
    ∧ win0_1.index t = ![t.val, 0, 0]
    ∧ win0_2.index t = ![t.val, 0, 0]
    ∧ win0_3.index t = ![0, 0]
    ∧ win0_4.index t = ![0, 0]
    ∧ win0_5.index t = ![t.val, 0, 0]
    ∧ win0_6.index t = ![t.val, 0, 0]
    ∧ win0_7.index t = ![t.val, 0, 0]
    ∧ win0_8.index t = ![t.val, 0, 0]
    ∧ (grid0.coords t 0).val = t.val :=
  (by decide +kernel : ∀ t : Fin grid0.N, _)

theorem lt (t : Fin cfg0.N) : t.val < 2 := t.isLt

/-- The place of a block's row in the array. -/
abbrev row (t : Fin cfg0.N) (r : Fin 256) : Fin 256 := r
abbrev lay (t : Fin cfg0.N) : Fin 2 := ⟨t.val, by have := lt t; omega⟩

theorem b0 (t : Fin cfg0.N) (u : Fin 1) (r : Fin 256) (d : Fin 1024) : iblk m c 0 t (ix3 u r d) = A0 m c (ix3 (lay t) (row t r) d) := by
  rw [← e0]; have ht := lt t; blk_ext [iblk, idx t]
theorem b1 (t : Fin cfg0.N) (u : Fin 1) (r : Fin 256) (d : Fin 1024) : iblk m c 1 t (ix3 u r d) = A1 m c (ix3 (lay t) (row t r) d) := by
  rw [← e1]; have ht := lt t; blk_ext [iblk, idx t]
theorem b2 (t : Fin cfg0.N) (u : Fin 1) (r : Fin 256) (d : Fin 1024) : iblk m c 2 t (ix3 u r d) = A2 m c (ix3 (lay t) (row t r) d) := by
  rw [← e2]; have ht := lt t; blk_ext [iblk, idx t]
theorem b3 (t : Fin cfg0.N) (h : t.val = 0) (r : Fin 256) (d : Fin 1024) : iblk m c 3 t (ix2 r d) = A3 m c (ix2 (row t r) d) := by
  rw [← e3]; have ht := lt t; blk_ext [iblk, idx t, h]
theorem b4 (t : Fin cfg0.N) (h : t.val = 1) (r : Fin 256) (d : Fin 1024) : iblk m c 4 t (ix2 r d) = A4 m c (ix2 (row t r) d) := by
  rw [← e4]; have ht := lt t; blk_ext [iblk, idx t, h]

theorem out5_apply (i : grid0.Coords) (x0 x1 x2 : Vec Ideal S1x256x1024 .f32) (x3 x4 : Vec Ideal S256x1024 .f32) (u : Fin 1) (r : Fin 256) (d : Fin 1024) : out0_5 i x0 x1 x2 x3 x4 (ix3 u r d) = k0_pay5 i (View.ld x3 r0_0) (View.ld x4 r0_0) (ix2 r d) := by
  unfold out0_5
  refine (canon_whole _ _ _ _).trans ?_
  obtain rfl : u = 0 := Subsingleton.elim _ _
  unfold k0_pay4
  generalize k0_pay5 i (View.ld x3 r0_0) (View.ld x4 r0_0) = g
  generalize hR : g (ix2 r d) = R
  pointwise
  exact hR

theorem out6_apply (i : grid0.Coords) (x0 x1 x2 : Vec Ideal S1x256x1024 .f32) (x3 x4 : Vec Ideal S256x1024 .f32) (u : Fin 1) (r : Fin 256) (d : Fin 1024) : out0_6 i x0 x1 x2 x3 x4 (ix3 u r d) = adD (x0 (ix3 u r d)) (adM (x1 (ix3 u r d)) (k0_pay5 i (View.ld x3 r0_0) (View.ld x4 r0_0) (ix2 r d))) (adV (x2 (ix3 u r d)) (k0_pay5 i (View.ld x3 r0_0) (View.ld x4 r0_0) (ix2 r d))) := by
  unfold out0_6
  refine (canon_whole _ _ _ _).trans ?_
  obtain rfl : u = 0 := Subsingleton.elim _ _
  unfold k0_pay1 k0_pay8 k0_pay6 k0_pay7
  generalize k0_pay5 i (View.ld x3 r0_0) (View.ld x4 r0_0) = g
  generalize hR : adD (x0 (ix3 0 r d)) (adM (x1 (ix3 0 r d)) (g (ix2 r d))) (adV (x2 (ix3 0 r d)) (g (ix2 r d))) = R
  pointwise
  exact hR

theorem out7_apply (i : grid0.Coords) (x0 x1 x2 : Vec Ideal S1x256x1024 .f32) (x3 x4 : Vec Ideal S256x1024 .f32) (u : Fin 1) (r : Fin 256) (d : Fin 1024) : out0_7 i x0 x1 x2 x3 x4 (ix3 u r d) = adM (x1 (ix3 u r d)) (k0_pay5 i (View.ld x3 r0_0) (View.ld x4 r0_0) (ix2 r d)) := by
  unfold out0_7
  refine (canon_whole _ _ _ _).trans ?_
  obtain rfl : u = 0 := Subsingleton.elim _ _
  unfold k0_pay2 k0_pay6
  generalize k0_pay5 i (View.ld x3 r0_0) (View.ld x4 r0_0) = g
  generalize hR : adM (x1 (ix3 0 r d)) (g (ix2 r d)) = R
  pointwise
  exact hR

theorem out8_apply (i : grid0.Coords) (x0 x1 x2 : Vec Ideal S1x256x1024 .f32) (x3 x4 : Vec Ideal S256x1024 .f32) (u : Fin 1) (r : Fin 256) (d : Fin 1024) : out0_8 i x0 x1 x2 x3 x4 (ix3 u r d) = adV (x2 (ix3 u r d)) (k0_pay5 i (View.ld x3 r0_0) (View.ld x4 r0_0) (ix2 r d)) := by
  unfold out0_8
  refine (canon_whole _ _ _ _).trans ?_
  obtain rfl : u = 0 := Subsingleton.elim _ _
  unfold k0_pay3 k0_pay7
  generalize k0_pay5 i (View.ld x3 r0_0) (View.ld x4 r0_0) = g
  generalize hR : adV (x2 (ix3 0 r d)) (g (ix2 r d)) = R
  pointwise
  exact hR

theorem ref2_apply (x1 : S2x256x1024.Idx → EReal) (x3 : S256x1024.Idx → EReal) (x4 : S256x1024.Idx → EReal) (i : S2x256x1024.Idx) : Cert.StepGlaOutRefIdeal.Read.val_main_v7 (F := Ideal) x1 x3 x4 i = adM (x1 i) (Cert.StepGlaOutRefIdeal.Read.val_main_v2 (F := Ideal) x3 x4 i) := by
  simp only [Cert.StepGlaOutRefIdeal.Read.val_main_v0_apply, Cert.StepGlaOutRefIdeal.Read.val_main_v1_apply, Cert.StepGlaOutRefIdeal.Read.val_main_cst_apply, Cert.StepGlaOutRefIdeal.Read.val_main_v3_apply, Cert.StepGlaOutRefIdeal.Read.val_main_v4_apply, Cert.StepGlaOutRefIdeal.Read.val_main_cst_0_apply, Cert.StepGlaOutRefIdeal.Read.val_main_v5_apply, Cert.StepGlaOutRefIdeal.Read.val_main_v6_apply, Cert.StepGlaOutRefIdeal.Read.val_main_v7_apply, Cert.StepGlaOutRefIdeal.Read.val_main_cst_1_apply, Cert.StepGlaOutRefIdeal.Read.val_main_v8_apply, Cert.StepGlaOutRefIdeal.Read.val_main_v9_apply, Cert.StepGlaOutRefIdeal.Read.val_main_v10_apply, Cert.StepGlaOutRefIdeal.Read.val_main_cst_2_apply, Cert.StepGlaOutRefIdeal.Read.val_main_v11_apply, Cert.StepGlaOutRefIdeal.Read.val_main_v12_apply, Cert.StepGlaOutRefIdeal.Read.val_main_v13_apply, Cert.StepGlaOutRefIdeal.Read.val_main_cst_3_apply, Cert.StepGlaOutRefIdeal.Read.val_main_v14_apply, Cert.StepGlaOutRefIdeal.Read.val_main_v15_apply, Cert.StepGlaOutRefIdeal.Read.val_main_cst_4_apply, Cert.StepGlaOutRefIdeal.Read.val_main_v16_apply, Cert.StepGlaOutRefIdeal.Read.val_main_v17_apply, Cert.StepGlaOutRefIdeal.Read.val_main_v18_apply, Cert.StepGlaOutRefIdeal.Read.val_main_cst_5_apply, Cert.StepGlaOutRefIdeal.Read.val_main_v19_apply, Cert.StepGlaOutRefIdeal.Read.val_main_v20_apply, Cert.StepGlaOutRefIdeal.Read.val_main_v21_apply, Cert.StepGlaOutRefIdeal.Read.val_main_cst_6_apply, Cert.StepGlaOutRefIdeal.Read.val_main_v22_apply, Cert.StepGlaOutRefIdeal.Read.val_main_v23_apply, Cert.StepGlaOutRefIdeal.Read.val_main_v24_apply, Cert.StepGlaOutRefIdeal.Read.val_main_cst_7_apply, Cert.StepGlaOutRefIdeal.Read.val_main_v25_apply, Cert.StepGlaOutRefIdeal.Read.val_main_v26_apply]
  rfl

theorem ref3_apply (x2 : S2x256x1024.Idx → EReal) (x3 : S256x1024.Idx → EReal) (x4 : S256x1024.Idx → EReal) (i : S2x256x1024.Idx) : Cert.StepGlaOutRefIdeal.Read.val_main_v13 (F := Ideal) x2 x3 x4 i = adV (x2 i) (Cert.StepGlaOutRefIdeal.Read.val_main_v2 (F := Ideal) x3 x4 i) := by
  simp only [Cert.StepGlaOutRefIdeal.Read.val_main_v0_apply, Cert.StepGlaOutRefIdeal.Read.val_main_v1_apply, Cert.StepGlaOutRefIdeal.Read.val_main_cst_apply, Cert.StepGlaOutRefIdeal.Read.val_main_v3_apply, Cert.StepGlaOutRefIdeal.Read.val_main_v4_apply, Cert.StepGlaOutRefIdeal.Read.val_main_cst_0_apply, Cert.StepGlaOutRefIdeal.Read.val_main_v5_apply, Cert.StepGlaOutRefIdeal.Read.val_main_v6_apply, Cert.StepGlaOutRefIdeal.Read.val_main_v7_apply, Cert.StepGlaOutRefIdeal.Read.val_main_cst_1_apply, Cert.StepGlaOutRefIdeal.Read.val_main_v8_apply, Cert.StepGlaOutRefIdeal.Read.val_main_v9_apply, Cert.StepGlaOutRefIdeal.Read.val_main_v10_apply, Cert.StepGlaOutRefIdeal.Read.val_main_cst_2_apply, Cert.StepGlaOutRefIdeal.Read.val_main_v11_apply, Cert.StepGlaOutRefIdeal.Read.val_main_v12_apply, Cert.StepGlaOutRefIdeal.Read.val_main_v13_apply, Cert.StepGlaOutRefIdeal.Read.val_main_cst_3_apply, Cert.StepGlaOutRefIdeal.Read.val_main_v14_apply, Cert.StepGlaOutRefIdeal.Read.val_main_v15_apply, Cert.StepGlaOutRefIdeal.Read.val_main_cst_4_apply, Cert.StepGlaOutRefIdeal.Read.val_main_v16_apply, Cert.StepGlaOutRefIdeal.Read.val_main_v17_apply, Cert.StepGlaOutRefIdeal.Read.val_main_v18_apply, Cert.StepGlaOutRefIdeal.Read.val_main_cst_5_apply, Cert.StepGlaOutRefIdeal.Read.val_main_v19_apply, Cert.StepGlaOutRefIdeal.Read.val_main_v20_apply, Cert.StepGlaOutRefIdeal.Read.val_main_v21_apply, Cert.StepGlaOutRefIdeal.Read.val_main_cst_6_apply, Cert.StepGlaOutRefIdeal.Read.val_main_v22_apply, Cert.StepGlaOutRefIdeal.Read.val_main_v23_apply, Cert.StepGlaOutRefIdeal.Read.val_main_v24_apply, Cert.StepGlaOutRefIdeal.Read.val_main_cst_7_apply, Cert.StepGlaOutRefIdeal.Read.val_main_v25_apply, Cert.StepGlaOutRefIdeal.Read.val_main_v26_apply]
  rfl

theorem ref1_apply (x0 : S2x256x1024.Idx → EReal) (x1 : S2x256x1024.Idx → EReal) (x2 : S2x256x1024.Idx → EReal) (x3 : S256x1024.Idx → EReal) (x4 : S256x1024.Idx → EReal) (i : S2x256x1024.Idx) : Cert.StepGlaOutRefIdeal.Read.val_main_v26 (F := Ideal) x0 x1 x2 x3 x4 i = adD (x0 i) (adM (x1 i) (Cert.StepGlaOutRefIdeal.Read.val_main_v2 (F := Ideal) x3 x4 i)) (adV (x2 i) (Cert.StepGlaOutRefIdeal.Read.val_main_v2 (F := Ideal) x3 x4 i)) := by
  simp only [Cert.StepGlaOutRefIdeal.Read.val_main_v0_apply, Cert.StepGlaOutRefIdeal.Read.val_main_v1_apply, Cert.StepGlaOutRefIdeal.Read.val_main_cst_apply, Cert.StepGlaOutRefIdeal.Read.val_main_v3_apply, Cert.StepGlaOutRefIdeal.Read.val_main_v4_apply, Cert.StepGlaOutRefIdeal.Read.val_main_cst_0_apply, Cert.StepGlaOutRefIdeal.Read.val_main_v5_apply, Cert.StepGlaOutRefIdeal.Read.val_main_v6_apply, Cert.StepGlaOutRefIdeal.Read.val_main_v7_apply, Cert.StepGlaOutRefIdeal.Read.val_main_cst_1_apply, Cert.StepGlaOutRefIdeal.Read.val_main_v8_apply, Cert.StepGlaOutRefIdeal.Read.val_main_v9_apply, Cert.StepGlaOutRefIdeal.Read.val_main_v10_apply, Cert.StepGlaOutRefIdeal.Read.val_main_cst_2_apply, Cert.StepGlaOutRefIdeal.Read.val_main_v11_apply, Cert.StepGlaOutRefIdeal.Read.val_main_v12_apply, Cert.StepGlaOutRefIdeal.Read.val_main_v13_apply, Cert.StepGlaOutRefIdeal.Read.val_main_cst_3_apply, Cert.StepGlaOutRefIdeal.Read.val_main_v14_apply, Cert.StepGlaOutRefIdeal.Read.val_main_v15_apply, Cert.StepGlaOutRefIdeal.Read.val_main_cst_4_apply, Cert.StepGlaOutRefIdeal.Read.val_main_v16_apply, Cert.StepGlaOutRefIdeal.Read.val_main_v17_apply, Cert.StepGlaOutRefIdeal.Read.val_main_v18_apply, Cert.StepGlaOutRefIdeal.Read.val_main_cst_5_apply, Cert.StepGlaOutRefIdeal.Read.val_main_v19_apply, Cert.StepGlaOutRefIdeal.Read.val_main_v20_apply, Cert.StepGlaOutRefIdeal.Read.val_main_v21_apply, Cert.StepGlaOutRefIdeal.Read.val_main_cst_6_apply, Cert.StepGlaOutRefIdeal.Read.val_main_v22_apply, Cert.StepGlaOutRefIdeal.Read.val_main_v23_apply, Cert.StepGlaOutRefIdeal.Read.val_main_v24_apply, Cert.StepGlaOutRefIdeal.Read.val_main_cst_7_apply, Cert.StepGlaOutRefIdeal.Read.val_main_v25_apply, Cert.StepGlaOutRefIdeal.Read.val_main_v26_apply]
  rfl

/-- The stacked gradients at a layer. -/
theorem stack0 (u : Fin 2) (h : u.val = 0) (r : Fin 256) (d : Fin 1024) : Cert.StepGlaOutRefIdeal.Read.val_main_v2 (F := Ideal) (A3 m c) (A4 m c) (ix3 u r d) = A3 m c (ix2 r d) := by
  obtain rfl : u = 0 := Fin.ext h
  generalize hR : A3 m c (ix2 r d) = R
  unfold Cert.StepGlaOutRefIdeal.Read.val_main_v2 Cert.StepGlaOutRefIdeal.Read.val_main_v0 Cert.StepGlaOutRefIdeal.Read.val_main_v1
  generalize A3 m c = y0, A4 m c = y1 at hR ⊢
  pointwise
  exact hR
theorem stack1 (u : Fin 2) (h : u.val = 1) (r : Fin 256) (d : Fin 1024) : Cert.StepGlaOutRefIdeal.Read.val_main_v2 (F := Ideal) (A3 m c) (A4 m c) (ix3 u r d) = A4 m c (ix2 r d) := by
  obtain rfl : u = 1 := Fin.ext h
  generalize hR : A4 m c (ix2 r d) = R
  unfold Cert.StepGlaOutRefIdeal.Read.val_main_v2 Cert.StepGlaOutRefIdeal.Read.val_main_v0 Cert.StepGlaOutRefIdeal.Read.val_main_v1
  generalize A3 m c = y0, A4 m c = y1 at hR ⊢
  pointwise
  exact hR

theorem g_eq (t : Fin cfg0.N) (r : Fin 256) (d : Fin 1024) : k0_pay5 (grid0.coords t) (View.ld (iblk m c 3 t) r0_0) (View.ld (iblk m c 4 t) r0_0) (ix2 r d) = Cert.StepGlaOutRefIdeal.Read.val_main_v2 (F := Ideal) (A3 m c) (A4 m c) (ix3 (lay t) (row t r) d) := by
  have ht := lt t
  have hc : (grid0.coords t 0).val = t.val := by simp only [idx t]
  have hl : t.val = 0 ∨ t.val = 1 := by omega
  unfold k0_pay5
  rcases hl with h | h
  · rw [stack0 m c (lay t) h (row t r) d, ← b3 m c t h, hc, h]
    pointwise <;> rfl
  · rw [stack1 m c (lay t) h (row t r) d, ← b4 m c t h, hc, h]
    pointwise <;> rfl

theorem arr5 : (dats m 0 c).arrAt 5 cfg0.N = Cert.StepGlaOutRefIdeal.Read.val_main_v2 (F := Ideal) (A3 m c) (A4 m c) := by
  refine (dats m 0 c).arrAt_eq_of_covers 5 _ (by decide +kernel) fun t hf y => ?_
  have ht := lt t
  idx_vars y
  have e : ((cfg0.win 5).blk t).view.emb (ix3 y0 y1 y2) = ix3 (lay t) (row t y1) y2 := by blk_ext [idx t]
  refine Eq.trans ?_ (congrArg (Cert.StepGlaOutRefIdeal.Read.val_main_v2 (F := Ideal) (A3 m c) (A4 m c)) e).symm
  blk_simp
  rw [after0_5]
  refine (out5_apply _ _ _ _ _ _ y0 y1 y2).trans ?_
  exact g_eq m c t y1 y2

theorem arr6 : (dats m 0 c).arrAt 6 cfg0.N = Cert.StepGlaOutRefIdeal.Read.val_main_v26 (F := Ideal) (A0 m c) (A1 m c) (A2 m c) (A3 m c) (A4 m c) := by
  refine (dats m 0 c).arrAt_eq_of_covers 6 _ (by decide +kernel) fun t hf y => ?_
  have ht := lt t
  idx_vars y
  have e : ((cfg0.win 6).blk t).view.emb (ix3 y0 y1 y2) = ix3 (lay t) (row t y1) y2 := by blk_ext [idx t]
  refine Eq.trans ?_ (congrArg (Cert.StepGlaOutRefIdeal.Read.val_main_v26 (F := Ideal) (A0 m c) (A1 m c) (A2 m c) (A3 m c) (A4 m c)) e).symm
  blk_simp
  rw [after0_6]
  refine (out6_apply _ _ _ _ _ _ y0 y1 y2).trans ?_
  rw [ref1_apply]
  exact congr (congrArg₂ adD (b0 m c t y0 y1 y2) (congrArg₂ adM (b1 m c t y0 y1 y2) (g_eq m c t y1 y2))) (congrArg₂ adV (b2 m c t y0 y1 y2) (g_eq m c t y1 y2))

theorem arr7 : (dats m 0 c).arrAt 7 cfg0.N = Cert.StepGlaOutRefIdeal.Read.val_main_v7 (F := Ideal) (A1 m c) (A3 m c) (A4 m c) := by
  refine (dats m 0 c).arrAt_eq_of_covers 7 _ (by decide +kernel) fun t hf y => ?_
  have ht := lt t
  idx_vars y
  have e : ((cfg0.win 7).blk t).view.emb (ix3 y0 y1 y2) = ix3 (lay t) (row t y1) y2 := by blk_ext [idx t]
  refine Eq.trans ?_ (congrArg (Cert.StepGlaOutRefIdeal.Read.val_main_v7 (F := Ideal) (A1 m c) (A3 m c) (A4 m c)) e).symm
  blk_simp
  rw [after0_7]
  refine (out7_apply _ _ _ _ _ _ y0 y1 y2).trans ?_
  rw [ref2_apply]
  exact congrArg₂ adM (b1 m c t y0 y1 y2) (g_eq m c t y1 y2)

theorem arr8 : (dats m 0 c).arrAt 8 cfg0.N = Cert.StepGlaOutRefIdeal.Read.val_main_v13 (F := Ideal) (A2 m c) (A3 m c) (A4 m c) := by
  refine (dats m 0 c).arrAt_eq_of_covers 8 _ (by decide +kernel) fun t hf y => ?_
  have ht := lt t
  idx_vars y
  have e : ((cfg0.win 8).blk t).view.emb (ix3 y0 y1 y2) = ix3 (lay t) (row t y1) y2 := by blk_ext [idx t]
  refine Eq.trans ?_ (congrArg (Cert.StepGlaOutRefIdeal.Read.val_main_v13 (F := Ideal) (A2 m c) (A3 m c) (A4 m c)) e).symm
  blk_simp
  rw [after0_8]
  refine (out8_apply _ _ _ _ _ _ y0 y1 y2).trans ?_
  rw [ref3_apply]
  exact congrArg₂ adV (b2 m c t y0 y1 y2) (g_eq m c t y1 y2)

end Cert.StepGlaOutIdeal.Final

end
-- ==== Proof.StepMlaIn.lean ====
/- The optimiser's step for the input product of the multi-head latent mixer: the kernel's arrays are the reference's. -/
module

public import proofs.«01_k».proof.Proof.Gen.StepMlaInIdeal.Value
public import proofs.«01_k».proof.Proof.Gen.StepMlaInRefIdeal.Read
public import Idealize.ShloMosaic.Lib.Pipeline.ValueKit
public import proofs.«01_k».proof.Proof.Opt

@[expose] public section
set_option maxRecDepth 16384
noncomputable section

namespace Cert.StepMlaInIdeal.Final

open Cert.Attn Cert.StepMlaInIdeal Cert.StepMlaInIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S1x256x576.Idx → EReal := m ((c : Thread nD τ).loc main_arg0)
abbrev A1 : S1x256x576.Idx → EReal := m ((c : Thread nD τ).loc main_arg1)
abbrev A2 : S1x256x576.Idx → EReal := m ((c : Thread nD τ).loc main_arg2)
abbrev A3 : S256x576.Idx → EReal := m ((c : Thread nD τ).loc main_arg3)

theorem e0 : V m c main_arg0 = A0 m c := by
  unfold V
  rfl

theorem e1 : V m c main_arg1 = A1 m c := by
  unfold V
  rfl

theorem e2 : V m c main_arg2 = A2 m c := by
  unfold V
  rfl

theorem e3 : V m c main_arg3 = A3 m c := by
  unfold V
  rfl

theorem idx : ∀ t : Fin cfg0.N, win0_0.index t = ![0, 0, 0]
    ∧ win0_1.index t = ![0, 0, 0]
    ∧ win0_2.index t = ![0, 0, 0]
    ∧ win0_3.index t = ![0, 0]
    ∧ win0_4.index t = ![0, 0, 0]
    ∧ win0_5.index t = ![0, 0, 0]
    ∧ win0_6.index t = ![0, 0, 0]
    ∧ win0_7.index t = ![0, 0, 0] :=
  (by decide +kernel : ∀ t : Fin grid0.N, _)

theorem lt (t : Fin cfg0.N) : t.val < 1 := t.isLt

/-- The place of a block's row in the array. -/
abbrev row (t : Fin cfg0.N) (r : Fin 256) : Fin 256 := r
abbrev lay (t : Fin cfg0.N) : Fin 1 := 0

theorem b0 (t : Fin cfg0.N) (u : Fin 1) (r : Fin 256) (d : Fin 576) : iblk m c 0 t (ix3 u r d) = A0 m c (ix3 (lay t) (row t r) d) := by
  rw [← e0]; have ht := lt t; blk_ext [iblk, idx t]
theorem b1 (t : Fin cfg0.N) (u : Fin 1) (r : Fin 256) (d : Fin 576) : iblk m c 1 t (ix3 u r d) = A1 m c (ix3 (lay t) (row t r) d) := by
  rw [← e1]; have ht := lt t; blk_ext [iblk, idx t]
theorem b2 (t : Fin cfg0.N) (u : Fin 1) (r : Fin 256) (d : Fin 576) : iblk m c 2 t (ix3 u r d) = A2 m c (ix3 (lay t) (row t r) d) := by
  rw [← e2]; have ht := lt t; blk_ext [iblk, idx t]
theorem b3 (t : Fin cfg0.N) (r : Fin 256) (d : Fin 576) : iblk m c 3 t (ix2 r d) = A3 m c (ix2 (row t r) d) := by
  rw [← e3]; have ht := lt t; blk_ext [iblk, idx t]

theorem out4_apply (x0 x1 x2 : Vec Ideal S1x256x576 .f32) (x3 : Vec Ideal S256x576 .f32) (u : Fin 1) (r : Fin 256) (d : Fin 576) : out0_4 x0 x1 x2 x3 (ix3 u r d) = x3 (ix2 r d) := by
  unfold out0_4
  refine (canon_whole _ _ _ _).trans ?_
  obtain rfl : u = 0 := Subsingleton.elim _ _
  generalize hR : x3 (ix2 r d) = R
  pointwise [k0_pay3]
  exact hR

theorem out5_apply (x0 x1 x2 : Vec Ideal S1x256x576 .f32) (x3 : Vec Ideal S256x576 .f32) (u : Fin 1) (r : Fin 256) (d : Fin 576) : out0_5 x0 x1 x2 x3 (ix3 u r d) = adD (x0 (ix3 u r d)) (adM (x1 (ix3 u r d)) (x3 (ix2 r d))) (adV (x2 (ix3 u r d)) (x3 (ix2 r d))) := by
  unfold out0_5
  refine (canon_whole _ _ _ _).trans ?_
  obtain rfl : u = 0 := Subsingleton.elim _ _
  generalize hR : adD (x0 (ix3 0 r d)) (adM (x1 (ix3 0 r d)) (x3 (ix2 r d))) (adV (x2 (ix3 0 r d)) (x3 (ix2 r d))) = R
  pointwise [k0_pay6, k0_pay4, k0_pay5]
  exact hR

theorem out6_apply (x0 x1 x2 : Vec Ideal S1x256x576 .f32) (x3 : Vec Ideal S256x576 .f32) (u : Fin 1) (r : Fin 256) (d : Fin 576) : out0_6 x0 x1 x2 x3 (ix3 u r d) = adM (x1 (ix3 u r d)) (x3 (ix2 r d)) := by
  unfold out0_6
  refine (canon_whole _ _ _ _).trans ?_
  obtain rfl : u = 0 := Subsingleton.elim _ _
  generalize hR : adM (x1 (ix3 0 r d)) (x3 (ix2 r d)) = R
  pointwise [k0_pay1, k0_pay4]
  exact hR

theorem out7_apply (x0 x1 x2 : Vec Ideal S1x256x576 .f32) (x3 : Vec Ideal S256x576 .f32) (u : Fin 1) (r : Fin 256) (d : Fin 576) : out0_7 x0 x1 x2 x3 (ix3 u r d) = adV (x2 (ix3 u r d)) (x3 (ix2 r d)) := by
  unfold out0_7
  refine (canon_whole _ _ _ _).trans ?_
  obtain rfl : u = 0 := Subsingleton.elim _ _
  generalize hR : adV (x2 (ix3 0 r d)) (x3 (ix2 r d)) = R
  pointwise [k0_pay2, k0_pay5]
  exact hR

theorem ref2_apply (x1 : S1x256x576.Idx → EReal) (x3 : S256x576.Idx → EReal) (i : S1x256x576.Idx) : Cert.StepMlaInRefIdeal.Read.val_main_v5 (F := Ideal) x1 x3 i = adM (x1 i) (Cert.StepMlaInRefIdeal.Read.val_main_v0 (F := Ideal) x3 i) := by
  simp only [Cert.StepMlaInRefIdeal.Read.val_main_cst_apply, Cert.StepMlaInRefIdeal.Read.val_main_v1_apply, Cert.StepMlaInRefIdeal.Read.val_main_v2_apply, Cert.StepMlaInRefIdeal.Read.val_main_cst_0_apply, Cert.StepMlaInRefIdeal.Read.val_main_v3_apply, Cert.StepMlaInRefIdeal.Read.val_main_v4_apply, Cert.StepMlaInRefIdeal.Read.val_main_v5_apply, Cert.StepMlaInRefIdeal.Read.val_main_cst_1_apply, Cert.StepMlaInRefIdeal.Read.val_main_v6_apply, Cert.StepMlaInRefIdeal.Read.val_main_v7_apply, Cert.StepMlaInRefIdeal.Read.val_main_v8_apply, Cert.StepMlaInRefIdeal.Read.val_main_cst_2_apply, Cert.StepMlaInRefIdeal.Read.val_main_v9_apply, Cert.StepMlaInRefIdeal.Read.val_main_v10_apply, Cert.StepMlaInRefIdeal.Read.val_main_v11_apply, Cert.StepMlaInRefIdeal.Read.val_main_cst_3_apply, Cert.StepMlaInRefIdeal.Read.val_main_v12_apply, Cert.StepMlaInRefIdeal.Read.val_main_v13_apply, Cert.StepMlaInRefIdeal.Read.val_main_cst_4_apply, Cert.StepMlaInRefIdeal.Read.val_main_v14_apply, Cert.StepMlaInRefIdeal.Read.val_main_v15_apply, Cert.StepMlaInRefIdeal.Read.val_main_v16_apply, Cert.StepMlaInRefIdeal.Read.val_main_cst_5_apply, Cert.StepMlaInRefIdeal.Read.val_main_v17_apply, Cert.StepMlaInRefIdeal.Read.val_main_v18_apply, Cert.StepMlaInRefIdeal.Read.val_main_v19_apply, Cert.StepMlaInRefIdeal.Read.val_main_cst_6_apply, Cert.StepMlaInRefIdeal.Read.val_main_v20_apply, Cert.StepMlaInRefIdeal.Read.val_main_v21_apply, Cert.StepMlaInRefIdeal.Read.val_main_v22_apply, Cert.StepMlaInRefIdeal.Read.val_main_cst_7_apply, Cert.StepMlaInRefIdeal.Read.val_main_v23_apply, Cert.StepMlaInRefIdeal.Read.val_main_v24_apply]
  rfl

theorem ref3_apply (x2 : S1x256x576.Idx → EReal) (x3 : S256x576.Idx → EReal) (i : S1x256x576.Idx) : Cert.StepMlaInRefIdeal.Read.val_main_v11 (F := Ideal) x2 x3 i = adV (x2 i) (Cert.StepMlaInRefIdeal.Read.val_main_v0 (F := Ideal) x3 i) := by
  simp only [Cert.StepMlaInRefIdeal.Read.val_main_cst_apply, Cert.StepMlaInRefIdeal.Read.val_main_v1_apply, Cert.StepMlaInRefIdeal.Read.val_main_v2_apply, Cert.StepMlaInRefIdeal.Read.val_main_cst_0_apply, Cert.StepMlaInRefIdeal.Read.val_main_v3_apply, Cert.StepMlaInRefIdeal.Read.val_main_v4_apply, Cert.StepMlaInRefIdeal.Read.val_main_v5_apply, Cert.StepMlaInRefIdeal.Read.val_main_cst_1_apply, Cert.StepMlaInRefIdeal.Read.val_main_v6_apply, Cert.StepMlaInRefIdeal.Read.val_main_v7_apply, Cert.StepMlaInRefIdeal.Read.val_main_v8_apply, Cert.StepMlaInRefIdeal.Read.val_main_cst_2_apply, Cert.StepMlaInRefIdeal.Read.val_main_v9_apply, Cert.StepMlaInRefIdeal.Read.val_main_v10_apply, Cert.StepMlaInRefIdeal.Read.val_main_v11_apply, Cert.StepMlaInRefIdeal.Read.val_main_cst_3_apply, Cert.StepMlaInRefIdeal.Read.val_main_v12_apply, Cert.StepMlaInRefIdeal.Read.val_main_v13_apply, Cert.StepMlaInRefIdeal.Read.val_main_cst_4_apply, Cert.StepMlaInRefIdeal.Read.val_main_v14_apply, Cert.StepMlaInRefIdeal.Read.val_main_v15_apply, Cert.StepMlaInRefIdeal.Read.val_main_v16_apply, Cert.StepMlaInRefIdeal.Read.val_main_cst_5_apply, Cert.StepMlaInRefIdeal.Read.val_main_v17_apply, Cert.StepMlaInRefIdeal.Read.val_main_v18_apply, Cert.StepMlaInRefIdeal.Read.val_main_v19_apply, Cert.StepMlaInRefIdeal.Read.val_main_cst_6_apply, Cert.StepMlaInRefIdeal.Read.val_main_v20_apply, Cert.StepMlaInRefIdeal.Read.val_main_v21_apply, Cert.StepMlaInRefIdeal.Read.val_main_v22_apply, Cert.StepMlaInRefIdeal.Read.val_main_cst_7_apply, Cert.StepMlaInRefIdeal.Read.val_main_v23_apply, Cert.StepMlaInRefIdeal.Read.val_main_v24_apply]
  rfl

theorem ref1_apply (x0 : S1x256x576.Idx → EReal) (x1 : S1x256x576.Idx → EReal) (x2 : S1x256x576.Idx → EReal) (x3 : S256x576.Idx → EReal) (i : S1x256x576.Idx) : Cert.StepMlaInRefIdeal.Read.val_main_v24 (F := Ideal) x0 x1 x2 x3 i = adD (x0 i) (adM (x1 i) (Cert.StepMlaInRefIdeal.Read.val_main_v0 (F := Ideal) x3 i)) (adV (x2 i) (Cert.StepMlaInRefIdeal.Read.val_main_v0 (F := Ideal) x3 i)) := by
  simp only [Cert.StepMlaInRefIdeal.Read.val_main_cst_apply, Cert.StepMlaInRefIdeal.Read.val_main_v1_apply, Cert.StepMlaInRefIdeal.Read.val_main_v2_apply, Cert.StepMlaInRefIdeal.Read.val_main_cst_0_apply, Cert.StepMlaInRefIdeal.Read.val_main_v3_apply, Cert.StepMlaInRefIdeal.Read.val_main_v4_apply, Cert.StepMlaInRefIdeal.Read.val_main_v5_apply, Cert.StepMlaInRefIdeal.Read.val_main_cst_1_apply, Cert.StepMlaInRefIdeal.Read.val_main_v6_apply, Cert.StepMlaInRefIdeal.Read.val_main_v7_apply, Cert.StepMlaInRefIdeal.Read.val_main_v8_apply, Cert.StepMlaInRefIdeal.Read.val_main_cst_2_apply, Cert.StepMlaInRefIdeal.Read.val_main_v9_apply, Cert.StepMlaInRefIdeal.Read.val_main_v10_apply, Cert.StepMlaInRefIdeal.Read.val_main_v11_apply, Cert.StepMlaInRefIdeal.Read.val_main_cst_3_apply, Cert.StepMlaInRefIdeal.Read.val_main_v12_apply, Cert.StepMlaInRefIdeal.Read.val_main_v13_apply, Cert.StepMlaInRefIdeal.Read.val_main_cst_4_apply, Cert.StepMlaInRefIdeal.Read.val_main_v14_apply, Cert.StepMlaInRefIdeal.Read.val_main_v15_apply, Cert.StepMlaInRefIdeal.Read.val_main_v16_apply, Cert.StepMlaInRefIdeal.Read.val_main_cst_5_apply, Cert.StepMlaInRefIdeal.Read.val_main_v17_apply, Cert.StepMlaInRefIdeal.Read.val_main_v18_apply, Cert.StepMlaInRefIdeal.Read.val_main_v19_apply, Cert.StepMlaInRefIdeal.Read.val_main_cst_6_apply, Cert.StepMlaInRefIdeal.Read.val_main_v20_apply, Cert.StepMlaInRefIdeal.Read.val_main_v21_apply, Cert.StepMlaInRefIdeal.Read.val_main_v22_apply, Cert.StepMlaInRefIdeal.Read.val_main_cst_7_apply, Cert.StepMlaInRefIdeal.Read.val_main_v23_apply, Cert.StepMlaInRefIdeal.Read.val_main_v24_apply]
  rfl

theorem g_eq (t : Fin cfg0.N) (r : Fin 256) (d : Fin 576) : iblk m c 3 t (ix2 r d) = Cert.StepMlaInRefIdeal.Read.val_main_v0 (F := Ideal) (A3 m c) (ix3 (lay t) (row t r) d) := by
  rw [b3 m c t r d]
  generalize hR : A3 m c (ix2 (row t r) d) = R
  unfold Cert.StepMlaInRefIdeal.Read.val_main_v0
  generalize A3 m c = y at hR ⊢
  pointwise
  exact hR.symm

theorem arr4 : (dats m 0 c).arrAt 4 cfg0.N = Cert.StepMlaInRefIdeal.Read.val_main_v0 (F := Ideal) (A3 m c) := by
  refine (dats m 0 c).arrAt_eq_of_covers 4 _ (by decide +kernel) fun t hf y => ?_
  have ht := lt t
  idx_vars y
  have e : ((cfg0.win 4).blk t).view.emb (ix3 y0 y1 y2) = ix3 (lay t) (row t y1) y2 := by blk_ext [idx t]
  refine Eq.trans ?_ (congrArg (Cert.StepMlaInRefIdeal.Read.val_main_v0 (F := Ideal) (A3 m c)) e).symm
  blk_simp
  rw [after0_4]
  refine (out4_apply _ _ _ _ y0 y1 y2).trans ?_
  exact g_eq m c t y1 y2

theorem arr5 : (dats m 0 c).arrAt 5 cfg0.N = Cert.StepMlaInRefIdeal.Read.val_main_v24 (F := Ideal) (A0 m c) (A1 m c) (A2 m c) (A3 m c) := by
  refine (dats m 0 c).arrAt_eq_of_covers 5 _ (by decide +kernel) fun t hf y => ?_
  have ht := lt t
  idx_vars y
  have e : ((cfg0.win 5).blk t).view.emb (ix3 y0 y1 y2) = ix3 (lay t) (row t y1) y2 := by blk_ext [idx t]
  refine Eq.trans ?_ (congrArg (Cert.StepMlaInRefIdeal.Read.val_main_v24 (F := Ideal) (A0 m c) (A1 m c) (A2 m c) (A3 m c)) e).symm
  blk_simp
  rw [after0_5]
  refine (out5_apply _ _ _ _ y0 y1 y2).trans ?_
  rw [ref1_apply]
  exact congr (congrArg₂ adD (b0 m c t y0 y1 y2) (congrArg₂ adM (b1 m c t y0 y1 y2) (g_eq m c t y1 y2))) (congrArg₂ adV (b2 m c t y0 y1 y2) (g_eq m c t y1 y2))

theorem arr6 : (dats m 0 c).arrAt 6 cfg0.N = Cert.StepMlaInRefIdeal.Read.val_main_v5 (F := Ideal) (A1 m c) (A3 m c) := by
  refine (dats m 0 c).arrAt_eq_of_covers 6 _ (by decide +kernel) fun t hf y => ?_
  have ht := lt t
  idx_vars y
  have e : ((cfg0.win 6).blk t).view.emb (ix3 y0 y1 y2) = ix3 (lay t) (row t y1) y2 := by blk_ext [idx t]
  refine Eq.trans ?_ (congrArg (Cert.StepMlaInRefIdeal.Read.val_main_v5 (F := Ideal) (A1 m c) (A3 m c)) e).symm
  blk_simp
  rw [after0_6]
  refine (out6_apply _ _ _ _ y0 y1 y2).trans ?_
  rw [ref2_apply]
  exact congrArg₂ adM (b1 m c t y0 y1 y2) (g_eq m c t y1 y2)

theorem arr7 : (dats m 0 c).arrAt 7 cfg0.N = Cert.StepMlaInRefIdeal.Read.val_main_v11 (F := Ideal) (A2 m c) (A3 m c) := by
  refine (dats m 0 c).arrAt_eq_of_covers 7 _ (by decide +kernel) fun t hf y => ?_
  have ht := lt t
  idx_vars y
  have e : ((cfg0.win 7).blk t).view.emb (ix3 y0 y1 y2) = ix3 (lay t) (row t y1) y2 := by blk_ext [idx t]
  refine Eq.trans ?_ (congrArg (Cert.StepMlaInRefIdeal.Read.val_main_v11 (F := Ideal) (A2 m c) (A3 m c)) e).symm
  blk_simp
  rw [after0_7]
  refine (out7_apply _ _ _ _ y0 y1 y2).trans ?_
  rw [ref3_apply]
  exact congrArg₂ adV (b2 m c t y0 y1 y2) (g_eq m c t y1 y2)

end Cert.StepMlaInIdeal.Final

end
-- ==== Proof.StepMlaUq.lean ====
/- The optimiser's step for the query product of the multi-head latent mixer: the kernel's arrays are the reference's. -/
module

public import proofs.«01_k».proof.Proof.Gen.StepMlaUqIdeal.Value
public import proofs.«01_k».proof.Proof.Gen.StepMlaUqRefIdeal.Read
public import Idealize.ShloMosaic.Lib.Pipeline.ValueKit
public import proofs.«01_k».proof.Proof.Opt

@[expose] public section
set_option maxRecDepth 16384
noncomputable section

namespace Cert.StepMlaUqIdeal.Final

open Cert.Attn Cert.StepMlaUqIdeal Cert.StepMlaUqIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S1x256x384.Idx → EReal := m ((c : Thread nD τ).loc main_arg0)
abbrev A1 : S1x256x384.Idx → EReal := m ((c : Thread nD τ).loc main_arg1)
abbrev A2 : S1x256x384.Idx → EReal := m ((c : Thread nD τ).loc main_arg2)
abbrev A3 : S256x384.Idx → EReal := m ((c : Thread nD τ).loc main_arg3)

theorem e0 : V m c main_arg0 = A0 m c := by
  unfold V
  rfl

theorem e1 : V m c main_arg1 = A1 m c := by
  unfold V
  rfl

theorem e2 : V m c main_arg2 = A2 m c := by
  unfold V
  rfl

theorem e3 : V m c main_arg3 = A3 m c := by
  unfold V
  rfl

theorem idx : ∀ t : Fin cfg0.N, win0_0.index t = ![0, 0, 0]
    ∧ win0_1.index t = ![0, 0, 0]
    ∧ win0_2.index t = ![0, 0, 0]
    ∧ win0_3.index t = ![0, 0]
    ∧ win0_4.index t = ![0, 0, 0]
    ∧ win0_5.index t = ![0, 0, 0]
    ∧ win0_6.index t = ![0, 0, 0]
    ∧ win0_7.index t = ![0, 0, 0] :=
  (by decide +kernel : ∀ t : Fin grid0.N, _)

theorem lt (t : Fin cfg0.N) : t.val < 1 := t.isLt

/-- The place of a block's row in the array. -/
abbrev row (t : Fin cfg0.N) (r : Fin 256) : Fin 256 := r
abbrev lay (t : Fin cfg0.N) : Fin 1 := 0

theorem b0 (t : Fin cfg0.N) (u : Fin 1) (r : Fin 256) (d : Fin 384) : iblk m c 0 t (ix3 u r d) = A0 m c (ix3 (lay t) (row t r) d) := by
  rw [← e0]; have ht := lt t; blk_ext [iblk, idx t]
theorem b1 (t : Fin cfg0.N) (u : Fin 1) (r : Fin 256) (d : Fin 384) : iblk m c 1 t (ix3 u r d) = A1 m c (ix3 (lay t) (row t r) d) := by
  rw [← e1]; have ht := lt t; blk_ext [iblk, idx t]
theorem b2 (t : Fin cfg0.N) (u : Fin 1) (r : Fin 256) (d : Fin 384) : iblk m c 2 t (ix3 u r d) = A2 m c (ix3 (lay t) (row t r) d) := by
  rw [← e2]; have ht := lt t; blk_ext [iblk, idx t]
theorem b3 (t : Fin cfg0.N) (r : Fin 256) (d : Fin 384) : iblk m c 3 t (ix2 r d) = A3 m c (ix2 (row t r) d) := by
  rw [← e3]; have ht := lt t; blk_ext [iblk, idx t]

theorem out4_apply (x0 x1 x2 : Vec Ideal S1x256x384 .f32) (x3 : Vec Ideal S256x384 .f32) (u : Fin 1) (r : Fin 256) (d : Fin 384) : out0_4 x0 x1 x2 x3 (ix3 u r d) = x3 (ix2 r d) := by
  unfold out0_4
  refine (canon_whole _ _ _ _).trans ?_
  obtain rfl : u = 0 := Subsingleton.elim _ _
  generalize hR : x3 (ix2 r d) = R
  pointwise [k0_pay3]
  exact hR

theorem out5_apply (x0 x1 x2 : Vec Ideal S1x256x384 .f32) (x3 : Vec Ideal S256x384 .f32) (u : Fin 1) (r : Fin 256) (d : Fin 384) : out0_5 x0 x1 x2 x3 (ix3 u r d) = adD (x0 (ix3 u r d)) (adM (x1 (ix3 u r d)) (x3 (ix2 r d))) (adV (x2 (ix3 u r d)) (x3 (ix2 r d))) := by
  unfold out0_5
  refine (canon_whole _ _ _ _).trans ?_
  obtain rfl : u = 0 := Subsingleton.elim _ _
  generalize hR : adD (x0 (ix3 0 r d)) (adM (x1 (ix3 0 r d)) (x3 (ix2 r d))) (adV (x2 (ix3 0 r d)) (x3 (ix2 r d))) = R
  pointwise [k0_pay6, k0_pay4, k0_pay5]
  exact hR

theorem out6_apply (x0 x1 x2 : Vec Ideal S1x256x384 .f32) (x3 : Vec Ideal S256x384 .f32) (u : Fin 1) (r : Fin 256) (d : Fin 384) : out0_6 x0 x1 x2 x3 (ix3 u r d) = adM (x1 (ix3 u r d)) (x3 (ix2 r d)) := by
  unfold out0_6
  refine (canon_whole _ _ _ _).trans ?_
  obtain rfl : u = 0 := Subsingleton.elim _ _
  generalize hR : adM (x1 (ix3 0 r d)) (x3 (ix2 r d)) = R
  pointwise [k0_pay1, k0_pay4]
  exact hR

theorem out7_apply (x0 x1 x2 : Vec Ideal S1x256x384 .f32) (x3 : Vec Ideal S256x384 .f32) (u : Fin 1) (r : Fin 256) (d : Fin 384) : out0_7 x0 x1 x2 x3 (ix3 u r d) = adV (x2 (ix3 u r d)) (x3 (ix2 r d)) := by
  unfold out0_7
  refine (canon_whole _ _ _ _).trans ?_
  obtain rfl : u = 0 := Subsingleton.elim _ _
  generalize hR : adV (x2 (ix3 0 r d)) (x3 (ix2 r d)) = R
  pointwise [k0_pay2, k0_pay5]
  exact hR

theorem ref2_apply (x1 : S1x256x384.Idx → EReal) (x3 : S256x384.Idx → EReal) (i : S1x256x384.Idx) : Cert.StepMlaUqRefIdeal.Read.val_main_v5 (F := Ideal) x1 x3 i = adM (x1 i) (Cert.StepMlaUqRefIdeal.Read.val_main_v0 (F := Ideal) x3 i) := by
  simp only [Cert.StepMlaUqRefIdeal.Read.val_main_cst_apply, Cert.StepMlaUqRefIdeal.Read.val_main_v1_apply, Cert.StepMlaUqRefIdeal.Read.val_main_v2_apply, Cert.StepMlaUqRefIdeal.Read.val_main_cst_0_apply, Cert.StepMlaUqRefIdeal.Read.val_main_v3_apply, Cert.StepMlaUqRefIdeal.Read.val_main_v4_apply, Cert.StepMlaUqRefIdeal.Read.val_main_v5_apply, Cert.StepMlaUqRefIdeal.Read.val_main_cst_1_apply, Cert.StepMlaUqRefIdeal.Read.val_main_v6_apply, Cert.StepMlaUqRefIdeal.Read.val_main_v7_apply, Cert.StepMlaUqRefIdeal.Read.val_main_v8_apply, Cert.StepMlaUqRefIdeal.Read.val_main_cst_2_apply, Cert.StepMlaUqRefIdeal.Read.val_main_v9_apply, Cert.StepMlaUqRefIdeal.Read.val_main_v10_apply, Cert.StepMlaUqRefIdeal.Read.val_main_v11_apply, Cert.StepMlaUqRefIdeal.Read.val_main_cst_3_apply, Cert.StepMlaUqRefIdeal.Read.val_main_v12_apply, Cert.StepMlaUqRefIdeal.Read.val_main_v13_apply, Cert.StepMlaUqRefIdeal.Read.val_main_cst_4_apply, Cert.StepMlaUqRefIdeal.Read.val_main_v14_apply, Cert.StepMlaUqRefIdeal.Read.val_main_v15_apply, Cert.StepMlaUqRefIdeal.Read.val_main_v16_apply, Cert.StepMlaUqRefIdeal.Read.val_main_cst_5_apply, Cert.StepMlaUqRefIdeal.Read.val_main_v17_apply, Cert.StepMlaUqRefIdeal.Read.val_main_v18_apply, Cert.StepMlaUqRefIdeal.Read.val_main_v19_apply, Cert.StepMlaUqRefIdeal.Read.val_main_cst_6_apply, Cert.StepMlaUqRefIdeal.Read.val_main_v20_apply, Cert.StepMlaUqRefIdeal.Read.val_main_v21_apply, Cert.StepMlaUqRefIdeal.Read.val_main_v22_apply, Cert.StepMlaUqRefIdeal.Read.val_main_cst_7_apply, Cert.StepMlaUqRefIdeal.Read.val_main_v23_apply, Cert.StepMlaUqRefIdeal.Read.val_main_v24_apply]
  rfl

theorem ref3_apply (x2 : S1x256x384.Idx → EReal) (x3 : S256x384.Idx → EReal) (i : S1x256x384.Idx) : Cert.StepMlaUqRefIdeal.Read.val_main_v11 (F := Ideal) x2 x3 i = adV (x2 i) (Cert.StepMlaUqRefIdeal.Read.val_main_v0 (F := Ideal) x3 i) := by
  simp only [Cert.StepMlaUqRefIdeal.Read.val_main_cst_apply, Cert.StepMlaUqRefIdeal.Read.val_main_v1_apply, Cert.StepMlaUqRefIdeal.Read.val_main_v2_apply, Cert.StepMlaUqRefIdeal.Read.val_main_cst_0_apply, Cert.StepMlaUqRefIdeal.Read.val_main_v3_apply, Cert.StepMlaUqRefIdeal.Read.val_main_v4_apply, Cert.StepMlaUqRefIdeal.Read.val_main_v5_apply, Cert.StepMlaUqRefIdeal.Read.val_main_cst_1_apply, Cert.StepMlaUqRefIdeal.Read.val_main_v6_apply, Cert.StepMlaUqRefIdeal.Read.val_main_v7_apply, Cert.StepMlaUqRefIdeal.Read.val_main_v8_apply, Cert.StepMlaUqRefIdeal.Read.val_main_cst_2_apply, Cert.StepMlaUqRefIdeal.Read.val_main_v9_apply, Cert.StepMlaUqRefIdeal.Read.val_main_v10_apply, Cert.StepMlaUqRefIdeal.Read.val_main_v11_apply, Cert.StepMlaUqRefIdeal.Read.val_main_cst_3_apply, Cert.StepMlaUqRefIdeal.Read.val_main_v12_apply, Cert.StepMlaUqRefIdeal.Read.val_main_v13_apply, Cert.StepMlaUqRefIdeal.Read.val_main_cst_4_apply, Cert.StepMlaUqRefIdeal.Read.val_main_v14_apply, Cert.StepMlaUqRefIdeal.Read.val_main_v15_apply, Cert.StepMlaUqRefIdeal.Read.val_main_v16_apply, Cert.StepMlaUqRefIdeal.Read.val_main_cst_5_apply, Cert.StepMlaUqRefIdeal.Read.val_main_v17_apply, Cert.StepMlaUqRefIdeal.Read.val_main_v18_apply, Cert.StepMlaUqRefIdeal.Read.val_main_v19_apply, Cert.StepMlaUqRefIdeal.Read.val_main_cst_6_apply, Cert.StepMlaUqRefIdeal.Read.val_main_v20_apply, Cert.StepMlaUqRefIdeal.Read.val_main_v21_apply, Cert.StepMlaUqRefIdeal.Read.val_main_v22_apply, Cert.StepMlaUqRefIdeal.Read.val_main_cst_7_apply, Cert.StepMlaUqRefIdeal.Read.val_main_v23_apply, Cert.StepMlaUqRefIdeal.Read.val_main_v24_apply]
  rfl

theorem ref1_apply (x0 : S1x256x384.Idx → EReal) (x1 : S1x256x384.Idx → EReal) (x2 : S1x256x384.Idx → EReal) (x3 : S256x384.Idx → EReal) (i : S1x256x384.Idx) : Cert.StepMlaUqRefIdeal.Read.val_main_v24 (F := Ideal) x0 x1 x2 x3 i = adD (x0 i) (adM (x1 i) (Cert.StepMlaUqRefIdeal.Read.val_main_v0 (F := Ideal) x3 i)) (adV (x2 i) (Cert.StepMlaUqRefIdeal.Read.val_main_v0 (F := Ideal) x3 i)) := by
  simp only [Cert.StepMlaUqRefIdeal.Read.val_main_cst_apply, Cert.StepMlaUqRefIdeal.Read.val_main_v1_apply, Cert.StepMlaUqRefIdeal.Read.val_main_v2_apply, Cert.StepMlaUqRefIdeal.Read.val_main_cst_0_apply, Cert.StepMlaUqRefIdeal.Read.val_main_v3_apply, Cert.StepMlaUqRefIdeal.Read.val_main_v4_apply, Cert.StepMlaUqRefIdeal.Read.val_main_v5_apply, Cert.StepMlaUqRefIdeal.Read.val_main_cst_1_apply, Cert.StepMlaUqRefIdeal.Read.val_main_v6_apply, Cert.StepMlaUqRefIdeal.Read.val_main_v7_apply, Cert.StepMlaUqRefIdeal.Read.val_main_v8_apply, Cert.StepMlaUqRefIdeal.Read.val_main_cst_2_apply, Cert.StepMlaUqRefIdeal.Read.val_main_v9_apply, Cert.StepMlaUqRefIdeal.Read.val_main_v10_apply, Cert.StepMlaUqRefIdeal.Read.val_main_v11_apply, Cert.StepMlaUqRefIdeal.Read.val_main_cst_3_apply, Cert.StepMlaUqRefIdeal.Read.val_main_v12_apply, Cert.StepMlaUqRefIdeal.Read.val_main_v13_apply, Cert.StepMlaUqRefIdeal.Read.val_main_cst_4_apply, Cert.StepMlaUqRefIdeal.Read.val_main_v14_apply, Cert.StepMlaUqRefIdeal.Read.val_main_v15_apply, Cert.StepMlaUqRefIdeal.Read.val_main_v16_apply, Cert.StepMlaUqRefIdeal.Read.val_main_cst_5_apply, Cert.StepMlaUqRefIdeal.Read.val_main_v17_apply, Cert.StepMlaUqRefIdeal.Read.val_main_v18_apply, Cert.StepMlaUqRefIdeal.Read.val_main_v19_apply, Cert.StepMlaUqRefIdeal.Read.val_main_cst_6_apply, Cert.StepMlaUqRefIdeal.Read.val_main_v20_apply, Cert.StepMlaUqRefIdeal.Read.val_main_v21_apply, Cert.StepMlaUqRefIdeal.Read.val_main_v22_apply, Cert.StepMlaUqRefIdeal.Read.val_main_cst_7_apply, Cert.StepMlaUqRefIdeal.Read.val_main_v23_apply, Cert.StepMlaUqRefIdeal.Read.val_main_v24_apply]
  rfl

theorem g_eq (t : Fin cfg0.N) (r : Fin 256) (d : Fin 384) : iblk m c 3 t (ix2 r d) = Cert.StepMlaUqRefIdeal.Read.val_main_v0 (F := Ideal) (A3 m c) (ix3 (lay t) (row t r) d) := by
  rw [b3 m c t r d]
  generalize hR : A3 m c (ix2 (row t r) d) = R
  unfold Cert.StepMlaUqRefIdeal.Read.val_main_v0
  generalize A3 m c = y at hR ⊢
  pointwise
  exact hR.symm

theorem arr4 : (dats m 0 c).arrAt 4 cfg0.N = Cert.StepMlaUqRefIdeal.Read.val_main_v0 (F := Ideal) (A3 m c) := by
  refine (dats m 0 c).arrAt_eq_of_covers 4 _ (by decide +kernel) fun t hf y => ?_
  have ht := lt t
  idx_vars y
  have e : ((cfg0.win 4).blk t).view.emb (ix3 y0 y1 y2) = ix3 (lay t) (row t y1) y2 := by blk_ext [idx t]
  refine Eq.trans ?_ (congrArg (Cert.StepMlaUqRefIdeal.Read.val_main_v0 (F := Ideal) (A3 m c)) e).symm
  blk_simp
  rw [after0_4]
  refine (out4_apply _ _ _ _ y0 y1 y2).trans ?_
  exact g_eq m c t y1 y2

theorem arr5 : (dats m 0 c).arrAt 5 cfg0.N = Cert.StepMlaUqRefIdeal.Read.val_main_v24 (F := Ideal) (A0 m c) (A1 m c) (A2 m c) (A3 m c) := by
  refine (dats m 0 c).arrAt_eq_of_covers 5 _ (by decide +kernel) fun t hf y => ?_
  have ht := lt t
  idx_vars y
  have e : ((cfg0.win 5).blk t).view.emb (ix3 y0 y1 y2) = ix3 (lay t) (row t y1) y2 := by blk_ext [idx t]
  refine Eq.trans ?_ (congrArg (Cert.StepMlaUqRefIdeal.Read.val_main_v24 (F := Ideal) (A0 m c) (A1 m c) (A2 m c) (A3 m c)) e).symm
  blk_simp
  rw [after0_5]
  refine (out5_apply _ _ _ _ y0 y1 y2).trans ?_
  rw [ref1_apply]
  exact congr (congrArg₂ adD (b0 m c t y0 y1 y2) (congrArg₂ adM (b1 m c t y0 y1 y2) (g_eq m c t y1 y2))) (congrArg₂ adV (b2 m c t y0 y1 y2) (g_eq m c t y1 y2))

theorem arr6 : (dats m 0 c).arrAt 6 cfg0.N = Cert.StepMlaUqRefIdeal.Read.val_main_v5 (F := Ideal) (A1 m c) (A3 m c) := by
  refine (dats m 0 c).arrAt_eq_of_covers 6 _ (by decide +kernel) fun t hf y => ?_
  have ht := lt t
  idx_vars y
  have e : ((cfg0.win 6).blk t).view.emb (ix3 y0 y1 y2) = ix3 (lay t) (row t y1) y2 := by blk_ext [idx t]
  refine Eq.trans ?_ (congrArg (Cert.StepMlaUqRefIdeal.Read.val_main_v5 (F := Ideal) (A1 m c) (A3 m c)) e).symm
  blk_simp
  rw [after0_6]
  refine (out6_apply _ _ _ _ y0 y1 y2).trans ?_
  rw [ref2_apply]
  exact congrArg₂ adM (b1 m c t y0 y1 y2) (g_eq m c t y1 y2)

theorem arr7 : (dats m 0 c).arrAt 7 cfg0.N = Cert.StepMlaUqRefIdeal.Read.val_main_v11 (F := Ideal) (A2 m c) (A3 m c) := by
  refine (dats m 0 c).arrAt_eq_of_covers 7 _ (by decide +kernel) fun t hf y => ?_
  have ht := lt t
  idx_vars y
  have e : ((cfg0.win 7).blk t).view.emb (ix3 y0 y1 y2) = ix3 (lay t) (row t y1) y2 := by blk_ext [idx t]
  refine Eq.trans ?_ (congrArg (Cert.StepMlaUqRefIdeal.Read.val_main_v11 (F := Ideal) (A2 m c) (A3 m c)) e).symm
  blk_simp
  rw [after0_7]
  refine (out7_apply _ _ _ _ y0 y1 y2).trans ?_
  rw [ref3_apply]
  exact congrArg₂ adV (b2 m c t y0 y1 y2) (g_eq m c t y1 y2)

end Cert.StepMlaUqIdeal.Final

end
-- ==== Proof.StepMlaUkv.lean ====
/- The optimiser's step for the key and value product of the multi-head latent mixer: the kernel's arrays are the reference's. -/
module

public import proofs.«01_k».proof.Proof.Gen.StepMlaUkvIdeal.Value
public import proofs.«01_k».proof.Proof.Gen.StepMlaUkvRefIdeal.Read
public import Idealize.ShloMosaic.Lib.Pipeline.ValueKit
public import proofs.«01_k».proof.Proof.Opt

@[expose] public section
set_option maxRecDepth 16384
noncomputable section

namespace Cert.StepMlaUkvIdeal.Final

open Cert.Attn Cert.StepMlaUkvIdeal Cert.StepMlaUkvIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S1x256x512.Idx → EReal := m ((c : Thread nD τ).loc main_arg0)
abbrev A1 : S1x256x512.Idx → EReal := m ((c : Thread nD τ).loc main_arg1)
abbrev A2 : S1x256x512.Idx → EReal := m ((c : Thread nD τ).loc main_arg2)
abbrev A3 : S256x512.Idx → EReal := m ((c : Thread nD τ).loc main_arg3)

theorem e0 : V m c main_arg0 = A0 m c := by
  unfold V
  rfl

theorem e1 : V m c main_arg1 = A1 m c := by
  unfold V
  rfl

theorem e2 : V m c main_arg2 = A2 m c := by
  unfold V
  rfl

theorem e3 : V m c main_arg3 = A3 m c := by
  unfold V
  rfl

theorem idx : ∀ t : Fin cfg0.N, win0_0.index t = ![0, 0, 0]
    ∧ win0_1.index t = ![0, 0, 0]
    ∧ win0_2.index t = ![0, 0, 0]
    ∧ win0_3.index t = ![0, 0]
    ∧ win0_4.index t = ![0, 0, 0]
    ∧ win0_5.index t = ![0, 0, 0]
    ∧ win0_6.index t = ![0, 0, 0]
    ∧ win0_7.index t = ![0, 0, 0] :=
  (by decide +kernel : ∀ t : Fin grid0.N, _)

theorem lt (t : Fin cfg0.N) : t.val < 1 := t.isLt

/-- The place of a block's row in the array. -/
abbrev row (t : Fin cfg0.N) (r : Fin 256) : Fin 256 := r
abbrev lay (t : Fin cfg0.N) : Fin 1 := 0

theorem b0 (t : Fin cfg0.N) (u : Fin 1) (r : Fin 256) (d : Fin 512) : iblk m c 0 t (ix3 u r d) = A0 m c (ix3 (lay t) (row t r) d) := by
  rw [← e0]; have ht := lt t; blk_ext [iblk, idx t]
theorem b1 (t : Fin cfg0.N) (u : Fin 1) (r : Fin 256) (d : Fin 512) : iblk m c 1 t (ix3 u r d) = A1 m c (ix3 (lay t) (row t r) d) := by
  rw [← e1]; have ht := lt t; blk_ext [iblk, idx t]
theorem b2 (t : Fin cfg0.N) (u : Fin 1) (r : Fin 256) (d : Fin 512) : iblk m c 2 t (ix3 u r d) = A2 m c (ix3 (lay t) (row t r) d) := by
  rw [← e2]; have ht := lt t; blk_ext [iblk, idx t]
theorem b3 (t : Fin cfg0.N) (r : Fin 256) (d : Fin 512) : iblk m c 3 t (ix2 r d) = A3 m c (ix2 (row t r) d) := by
  rw [← e3]; have ht := lt t; blk_ext [iblk, idx t]

theorem out4_apply (x0 x1 x2 : Vec Ideal S1x256x512 .f32) (x3 : Vec Ideal S256x512 .f32) (u : Fin 1) (r : Fin 256) (d : Fin 512) : out0_4 x0 x1 x2 x3 (ix3 u r d) = x3 (ix2 r d) := by
  unfold out0_4
  refine (canon_whole _ _ _ _).trans ?_
  obtain rfl : u = 0 := Subsingleton.elim _ _
  generalize hR : x3 (ix2 r d) = R
  pointwise [k0_pay3]
  exact hR

theorem out5_apply (x0 x1 x2 : Vec Ideal S1x256x512 .f32) (x3 : Vec Ideal S256x512 .f32) (u : Fin 1) (r : Fin 256) (d : Fin 512) : out0_5 x0 x1 x2 x3 (ix3 u r d) = adD (x0 (ix3 u r d)) (adM (x1 (ix3 u r d)) (x3 (ix2 r d))) (adV (x2 (ix3 u r d)) (x3 (ix2 r d))) := by
  unfold out0_5
  refine (canon_whole _ _ _ _).trans ?_
  obtain rfl : u = 0 := Subsingleton.elim _ _
  generalize hR : adD (x0 (ix3 0 r d)) (adM (x1 (ix3 0 r d)) (x3 (ix2 r d))) (adV (x2 (ix3 0 r d)) (x3 (ix2 r d))) = R
  pointwise [k0_pay6, k0_pay4, k0_pay5]
  exact hR

theorem out6_apply (x0 x1 x2 : Vec Ideal S1x256x512 .f32) (x3 : Vec Ideal S256x512 .f32) (u : Fin 1) (r : Fin 256) (d : Fin 512) : out0_6 x0 x1 x2 x3 (ix3 u r d) = adM (x1 (ix3 u r d)) (x3 (ix2 r d)) := by
  unfold out0_6
  refine (canon_whole _ _ _ _).trans ?_
  obtain rfl : u = 0 := Subsingleton.elim _ _
  generalize hR : adM (x1 (ix3 0 r d)) (x3 (ix2 r d)) = R
  pointwise [k0_pay1, k0_pay4]
  exact hR

theorem out7_apply (x0 x1 x2 : Vec Ideal S1x256x512 .f32) (x3 : Vec Ideal S256x512 .f32) (u : Fin 1) (r : Fin 256) (d : Fin 512) : out0_7 x0 x1 x2 x3 (ix3 u r d) = adV (x2 (ix3 u r d)) (x3 (ix2 r d)) := by
  unfold out0_7
  refine (canon_whole _ _ _ _).trans ?_
  obtain rfl : u = 0 := Subsingleton.elim _ _
  generalize hR : adV (x2 (ix3 0 r d)) (x3 (ix2 r d)) = R
  pointwise [k0_pay2, k0_pay5]
  exact hR

theorem ref2_apply (x1 : S1x256x512.Idx → EReal) (x3 : S256x512.Idx → EReal) (i : S1x256x512.Idx) : Cert.StepMlaUkvRefIdeal.Read.val_main_v5 (F := Ideal) x1 x3 i = adM (x1 i) (Cert.StepMlaUkvRefIdeal.Read.val_main_v0 (F := Ideal) x3 i) := by
  simp only [Cert.StepMlaUkvRefIdeal.Read.val_main_cst_apply, Cert.StepMlaUkvRefIdeal.Read.val_main_v1_apply, Cert.StepMlaUkvRefIdeal.Read.val_main_v2_apply, Cert.StepMlaUkvRefIdeal.Read.val_main_cst_0_apply, Cert.StepMlaUkvRefIdeal.Read.val_main_v3_apply, Cert.StepMlaUkvRefIdeal.Read.val_main_v4_apply, Cert.StepMlaUkvRefIdeal.Read.val_main_v5_apply, Cert.StepMlaUkvRefIdeal.Read.val_main_cst_1_apply, Cert.StepMlaUkvRefIdeal.Read.val_main_v6_apply, Cert.StepMlaUkvRefIdeal.Read.val_main_v7_apply, Cert.StepMlaUkvRefIdeal.Read.val_main_v8_apply, Cert.StepMlaUkvRefIdeal.Read.val_main_cst_2_apply, Cert.StepMlaUkvRefIdeal.Read.val_main_v9_apply, Cert.StepMlaUkvRefIdeal.Read.val_main_v10_apply, Cert.StepMlaUkvRefIdeal.Read.val_main_v11_apply, Cert.StepMlaUkvRefIdeal.Read.val_main_cst_3_apply, Cert.StepMlaUkvRefIdeal.Read.val_main_v12_apply, Cert.StepMlaUkvRefIdeal.Read.val_main_v13_apply, Cert.StepMlaUkvRefIdeal.Read.val_main_cst_4_apply, Cert.StepMlaUkvRefIdeal.Read.val_main_v14_apply, Cert.StepMlaUkvRefIdeal.Read.val_main_v15_apply, Cert.StepMlaUkvRefIdeal.Read.val_main_v16_apply, Cert.StepMlaUkvRefIdeal.Read.val_main_cst_5_apply, Cert.StepMlaUkvRefIdeal.Read.val_main_v17_apply, Cert.StepMlaUkvRefIdeal.Read.val_main_v18_apply, Cert.StepMlaUkvRefIdeal.Read.val_main_v19_apply, Cert.StepMlaUkvRefIdeal.Read.val_main_cst_6_apply, Cert.StepMlaUkvRefIdeal.Read.val_main_v20_apply, Cert.StepMlaUkvRefIdeal.Read.val_main_v21_apply, Cert.StepMlaUkvRefIdeal.Read.val_main_v22_apply, Cert.StepMlaUkvRefIdeal.Read.val_main_cst_7_apply, Cert.StepMlaUkvRefIdeal.Read.val_main_v23_apply, Cert.StepMlaUkvRefIdeal.Read.val_main_v24_apply]
  rfl

theorem ref3_apply (x2 : S1x256x512.Idx → EReal) (x3 : S256x512.Idx → EReal) (i : S1x256x512.Idx) : Cert.StepMlaUkvRefIdeal.Read.val_main_v11 (F := Ideal) x2 x3 i = adV (x2 i) (Cert.StepMlaUkvRefIdeal.Read.val_main_v0 (F := Ideal) x3 i) := by
  simp only [Cert.StepMlaUkvRefIdeal.Read.val_main_cst_apply, Cert.StepMlaUkvRefIdeal.Read.val_main_v1_apply, Cert.StepMlaUkvRefIdeal.Read.val_main_v2_apply, Cert.StepMlaUkvRefIdeal.Read.val_main_cst_0_apply, Cert.StepMlaUkvRefIdeal.Read.val_main_v3_apply, Cert.StepMlaUkvRefIdeal.Read.val_main_v4_apply, Cert.StepMlaUkvRefIdeal.Read.val_main_v5_apply, Cert.StepMlaUkvRefIdeal.Read.val_main_cst_1_apply, Cert.StepMlaUkvRefIdeal.Read.val_main_v6_apply, Cert.StepMlaUkvRefIdeal.Read.val_main_v7_apply, Cert.StepMlaUkvRefIdeal.Read.val_main_v8_apply, Cert.StepMlaUkvRefIdeal.Read.val_main_cst_2_apply, Cert.StepMlaUkvRefIdeal.Read.val_main_v9_apply, Cert.StepMlaUkvRefIdeal.Read.val_main_v10_apply, Cert.StepMlaUkvRefIdeal.Read.val_main_v11_apply, Cert.StepMlaUkvRefIdeal.Read.val_main_cst_3_apply, Cert.StepMlaUkvRefIdeal.Read.val_main_v12_apply, Cert.StepMlaUkvRefIdeal.Read.val_main_v13_apply, Cert.StepMlaUkvRefIdeal.Read.val_main_cst_4_apply, Cert.StepMlaUkvRefIdeal.Read.val_main_v14_apply, Cert.StepMlaUkvRefIdeal.Read.val_main_v15_apply, Cert.StepMlaUkvRefIdeal.Read.val_main_v16_apply, Cert.StepMlaUkvRefIdeal.Read.val_main_cst_5_apply, Cert.StepMlaUkvRefIdeal.Read.val_main_v17_apply, Cert.StepMlaUkvRefIdeal.Read.val_main_v18_apply, Cert.StepMlaUkvRefIdeal.Read.val_main_v19_apply, Cert.StepMlaUkvRefIdeal.Read.val_main_cst_6_apply, Cert.StepMlaUkvRefIdeal.Read.val_main_v20_apply, Cert.StepMlaUkvRefIdeal.Read.val_main_v21_apply, Cert.StepMlaUkvRefIdeal.Read.val_main_v22_apply, Cert.StepMlaUkvRefIdeal.Read.val_main_cst_7_apply, Cert.StepMlaUkvRefIdeal.Read.val_main_v23_apply, Cert.StepMlaUkvRefIdeal.Read.val_main_v24_apply]
  rfl

theorem ref1_apply (x0 : S1x256x512.Idx → EReal) (x1 : S1x256x512.Idx → EReal) (x2 : S1x256x512.Idx → EReal) (x3 : S256x512.Idx → EReal) (i : S1x256x512.Idx) : Cert.StepMlaUkvRefIdeal.Read.val_main_v24 (F := Ideal) x0 x1 x2 x3 i = adD (x0 i) (adM (x1 i) (Cert.StepMlaUkvRefIdeal.Read.val_main_v0 (F := Ideal) x3 i)) (adV (x2 i) (Cert.StepMlaUkvRefIdeal.Read.val_main_v0 (F := Ideal) x3 i)) := by
  simp only [Cert.StepMlaUkvRefIdeal.Read.val_main_cst_apply, Cert.StepMlaUkvRefIdeal.Read.val_main_v1_apply, Cert.StepMlaUkvRefIdeal.Read.val_main_v2_apply, Cert.StepMlaUkvRefIdeal.Read.val_main_cst_0_apply, Cert.StepMlaUkvRefIdeal.Read.val_main_v3_apply, Cert.StepMlaUkvRefIdeal.Read.val_main_v4_apply, Cert.StepMlaUkvRefIdeal.Read.val_main_v5_apply, Cert.StepMlaUkvRefIdeal.Read.val_main_cst_1_apply, Cert.StepMlaUkvRefIdeal.Read.val_main_v6_apply, Cert.StepMlaUkvRefIdeal.Read.val_main_v7_apply, Cert.StepMlaUkvRefIdeal.Read.val_main_v8_apply, Cert.StepMlaUkvRefIdeal.Read.val_main_cst_2_apply, Cert.StepMlaUkvRefIdeal.Read.val_main_v9_apply, Cert.StepMlaUkvRefIdeal.Read.val_main_v10_apply, Cert.StepMlaUkvRefIdeal.Read.val_main_v11_apply, Cert.StepMlaUkvRefIdeal.Read.val_main_cst_3_apply, Cert.StepMlaUkvRefIdeal.Read.val_main_v12_apply, Cert.StepMlaUkvRefIdeal.Read.val_main_v13_apply, Cert.StepMlaUkvRefIdeal.Read.val_main_cst_4_apply, Cert.StepMlaUkvRefIdeal.Read.val_main_v14_apply, Cert.StepMlaUkvRefIdeal.Read.val_main_v15_apply, Cert.StepMlaUkvRefIdeal.Read.val_main_v16_apply, Cert.StepMlaUkvRefIdeal.Read.val_main_cst_5_apply, Cert.StepMlaUkvRefIdeal.Read.val_main_v17_apply, Cert.StepMlaUkvRefIdeal.Read.val_main_v18_apply, Cert.StepMlaUkvRefIdeal.Read.val_main_v19_apply, Cert.StepMlaUkvRefIdeal.Read.val_main_cst_6_apply, Cert.StepMlaUkvRefIdeal.Read.val_main_v20_apply, Cert.StepMlaUkvRefIdeal.Read.val_main_v21_apply, Cert.StepMlaUkvRefIdeal.Read.val_main_v22_apply, Cert.StepMlaUkvRefIdeal.Read.val_main_cst_7_apply, Cert.StepMlaUkvRefIdeal.Read.val_main_v23_apply, Cert.StepMlaUkvRefIdeal.Read.val_main_v24_apply]
  rfl

theorem g_eq (t : Fin cfg0.N) (r : Fin 256) (d : Fin 512) : iblk m c 3 t (ix2 r d) = Cert.StepMlaUkvRefIdeal.Read.val_main_v0 (F := Ideal) (A3 m c) (ix3 (lay t) (row t r) d) := by
  rw [b3 m c t r d]
  generalize hR : A3 m c (ix2 (row t r) d) = R
  unfold Cert.StepMlaUkvRefIdeal.Read.val_main_v0
  generalize A3 m c = y at hR ⊢
  pointwise
  exact hR.symm

theorem arr4 : (dats m 0 c).arrAt 4 cfg0.N = Cert.StepMlaUkvRefIdeal.Read.val_main_v0 (F := Ideal) (A3 m c) := by
  refine (dats m 0 c).arrAt_eq_of_covers 4 _ (by decide +kernel) fun t hf y => ?_
  have ht := lt t
  idx_vars y
  have e : ((cfg0.win 4).blk t).view.emb (ix3 y0 y1 y2) = ix3 (lay t) (row t y1) y2 := by blk_ext [idx t]
  refine Eq.trans ?_ (congrArg (Cert.StepMlaUkvRefIdeal.Read.val_main_v0 (F := Ideal) (A3 m c)) e).symm
  blk_simp
  rw [after0_4]
  refine (out4_apply _ _ _ _ y0 y1 y2).trans ?_
  exact g_eq m c t y1 y2

theorem arr5 : (dats m 0 c).arrAt 5 cfg0.N = Cert.StepMlaUkvRefIdeal.Read.val_main_v24 (F := Ideal) (A0 m c) (A1 m c) (A2 m c) (A3 m c) := by
  refine (dats m 0 c).arrAt_eq_of_covers 5 _ (by decide +kernel) fun t hf y => ?_
  have ht := lt t
  idx_vars y
  have e : ((cfg0.win 5).blk t).view.emb (ix3 y0 y1 y2) = ix3 (lay t) (row t y1) y2 := by blk_ext [idx t]
  refine Eq.trans ?_ (congrArg (Cert.StepMlaUkvRefIdeal.Read.val_main_v24 (F := Ideal) (A0 m c) (A1 m c) (A2 m c) (A3 m c)) e).symm
  blk_simp
  rw [after0_5]
  refine (out5_apply _ _ _ _ y0 y1 y2).trans ?_
  rw [ref1_apply]
  exact congr (congrArg₂ adD (b0 m c t y0 y1 y2) (congrArg₂ adM (b1 m c t y0 y1 y2) (g_eq m c t y1 y2))) (congrArg₂ adV (b2 m c t y0 y1 y2) (g_eq m c t y1 y2))

theorem arr6 : (dats m 0 c).arrAt 6 cfg0.N = Cert.StepMlaUkvRefIdeal.Read.val_main_v5 (F := Ideal) (A1 m c) (A3 m c) := by
  refine (dats m 0 c).arrAt_eq_of_covers 6 _ (by decide +kernel) fun t hf y => ?_
  have ht := lt t
  idx_vars y
  have e : ((cfg0.win 6).blk t).view.emb (ix3 y0 y1 y2) = ix3 (lay t) (row t y1) y2 := by blk_ext [idx t]
  refine Eq.trans ?_ (congrArg (Cert.StepMlaUkvRefIdeal.Read.val_main_v5 (F := Ideal) (A1 m c) (A3 m c)) e).symm
  blk_simp
  rw [after0_6]
  refine (out6_apply _ _ _ _ y0 y1 y2).trans ?_
  rw [ref2_apply]
  exact congrArg₂ adM (b1 m c t y0 y1 y2) (g_eq m c t y1 y2)

theorem arr7 : (dats m 0 c).arrAt 7 cfg0.N = Cert.StepMlaUkvRefIdeal.Read.val_main_v11 (F := Ideal) (A2 m c) (A3 m c) := by
  refine (dats m 0 c).arrAt_eq_of_covers 7 _ (by decide +kernel) fun t hf y => ?_
  have ht := lt t
  idx_vars y
  have e : ((cfg0.win 7).blk t).view.emb (ix3 y0 y1 y2) = ix3 (lay t) (row t y1) y2 := by blk_ext [idx t]
  refine Eq.trans ?_ (congrArg (Cert.StepMlaUkvRefIdeal.Read.val_main_v11 (F := Ideal) (A2 m c) (A3 m c)) e).symm
  blk_simp
  rw [after0_7]
  refine (out7_apply _ _ _ _ y0 y1 y2).trans ?_
  rw [ref3_apply]
  exact congrArg₂ adV (b2 m c t y0 y1 y2) (g_eq m c t y1 y2)

end Cert.StepMlaUkvIdeal.Final

end
-- ==== Proof.StepRowsOut.lean ====
/- The optimiser's step for the output products of the multi-head latent and the convolution mixers: the kernel's arrays are the reference's. -/
module

public import proofs.«01_k».proof.Proof.Gen.StepRowsOutIdeal.Value
public import proofs.«01_k».proof.Proof.Gen.StepRowsOutRefIdeal.Read
public import Idealize.ShloMosaic.Lib.Pipeline.ValueKit
public import proofs.«01_k».proof.Proof.Opt

@[expose] public section
set_option maxRecDepth 16384
noncomputable section

namespace Cert.StepRowsOutIdeal.Final

open Cert.Attn Cert.StepRowsOutIdeal Cert.StepRowsOutIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S1x256x1024.Idx → EReal := m ((c : Thread nD τ).loc main_arg0)
abbrev A1 : S1x256x1024.Idx → EReal := m ((c : Thread nD τ).loc main_arg1)
abbrev A2 : S1x256x1024.Idx → EReal := m ((c : Thread nD τ).loc main_arg2)
abbrev A3 : S256x1024.Idx → EReal := m ((c : Thread nD τ).loc main_arg3)

theorem e0 : V m c main_arg0 = A0 m c := by
  unfold V
  rfl

theorem e1 : V m c main_arg1 = A1 m c := by
  unfold V
  rfl

theorem e2 : V m c main_arg2 = A2 m c := by
  unfold V
  rfl

theorem e3 : V m c main_arg3 = A3 m c := by
  unfold V
  rfl

theorem idx : ∀ t : Fin cfg0.N, win0_0.index t = ![0, 0, 0]
    ∧ win0_1.index t = ![0, 0, 0]
    ∧ win0_2.index t = ![0, 0, 0]
    ∧ win0_3.index t = ![0, 0]
    ∧ win0_4.index t = ![0, 0, 0]
    ∧ win0_5.index t = ![0, 0, 0]
    ∧ win0_6.index t = ![0, 0, 0]
    ∧ win0_7.index t = ![0, 0, 0] :=
  (by decide +kernel : ∀ t : Fin grid0.N, _)

theorem lt (t : Fin cfg0.N) : t.val < 1 := t.isLt

/-- The place of a block's row in the array. -/
abbrev row (t : Fin cfg0.N) (r : Fin 256) : Fin 256 := r
abbrev lay (t : Fin cfg0.N) : Fin 1 := 0

theorem b0 (t : Fin cfg0.N) (u : Fin 1) (r : Fin 256) (d : Fin 1024) : iblk m c 0 t (ix3 u r d) = A0 m c (ix3 (lay t) (row t r) d) := by
  rw [← e0]; have ht := lt t; blk_ext [iblk, idx t]
theorem b1 (t : Fin cfg0.N) (u : Fin 1) (r : Fin 256) (d : Fin 1024) : iblk m c 1 t (ix3 u r d) = A1 m c (ix3 (lay t) (row t r) d) := by
  rw [← e1]; have ht := lt t; blk_ext [iblk, idx t]
theorem b2 (t : Fin cfg0.N) (u : Fin 1) (r : Fin 256) (d : Fin 1024) : iblk m c 2 t (ix3 u r d) = A2 m c (ix3 (lay t) (row t r) d) := by
  rw [← e2]; have ht := lt t; blk_ext [iblk, idx t]
theorem b3 (t : Fin cfg0.N) (r : Fin 256) (d : Fin 1024) : iblk m c 3 t (ix2 r d) = A3 m c (ix2 (row t r) d) := by
  rw [← e3]; have ht := lt t; blk_ext [iblk, idx t]

theorem out4_apply (x0 x1 x2 : Vec Ideal S1x256x1024 .f32) (x3 : Vec Ideal S256x1024 .f32) (u : Fin 1) (r : Fin 256) (d : Fin 1024) : out0_4 x0 x1 x2 x3 (ix3 u r d) = x3 (ix2 r d) := by
  unfold out0_4
  refine (canon_whole _ _ _ _).trans ?_
  obtain rfl : u = 0 := Subsingleton.elim _ _
  generalize hR : x3 (ix2 r d) = R
  pointwise [k0_pay3]
  exact hR

theorem out5_apply (x0 x1 x2 : Vec Ideal S1x256x1024 .f32) (x3 : Vec Ideal S256x1024 .f32) (u : Fin 1) (r : Fin 256) (d : Fin 1024) : out0_5 x0 x1 x2 x3 (ix3 u r d) = adD (x0 (ix3 u r d)) (adM (x1 (ix3 u r d)) (x3 (ix2 r d))) (adV (x2 (ix3 u r d)) (x3 (ix2 r d))) := by
  unfold out0_5
  refine (canon_whole _ _ _ _).trans ?_
  obtain rfl : u = 0 := Subsingleton.elim _ _
  generalize hR : adD (x0 (ix3 0 r d)) (adM (x1 (ix3 0 r d)) (x3 (ix2 r d))) (adV (x2 (ix3 0 r d)) (x3 (ix2 r d))) = R
  pointwise [k0_pay6, k0_pay4, k0_pay5]
  exact hR

theorem out6_apply (x0 x1 x2 : Vec Ideal S1x256x1024 .f32) (x3 : Vec Ideal S256x1024 .f32) (u : Fin 1) (r : Fin 256) (d : Fin 1024) : out0_6 x0 x1 x2 x3 (ix3 u r d) = adM (x1 (ix3 u r d)) (x3 (ix2 r d)) := by
  unfold out0_6
  refine (canon_whole _ _ _ _).trans ?_
  obtain rfl : u = 0 := Subsingleton.elim _ _
  generalize hR : adM (x1 (ix3 0 r d)) (x3 (ix2 r d)) = R
  pointwise [k0_pay1, k0_pay4]
  exact hR

theorem out7_apply (x0 x1 x2 : Vec Ideal S1x256x1024 .f32) (x3 : Vec Ideal S256x1024 .f32) (u : Fin 1) (r : Fin 256) (d : Fin 1024) : out0_7 x0 x1 x2 x3 (ix3 u r d) = adV (x2 (ix3 u r d)) (x3 (ix2 r d)) := by
  unfold out0_7
  refine (canon_whole _ _ _ _).trans ?_
  obtain rfl : u = 0 := Subsingleton.elim _ _
  generalize hR : adV (x2 (ix3 0 r d)) (x3 (ix2 r d)) = R
  pointwise [k0_pay2, k0_pay5]
  exact hR

theorem ref2_apply (x1 : S1x256x1024.Idx → EReal) (x3 : S256x1024.Idx → EReal) (i : S1x256x1024.Idx) : Cert.StepRowsOutRefIdeal.Read.val_main_v5 (F := Ideal) x1 x3 i = adM (x1 i) (Cert.StepRowsOutRefIdeal.Read.val_main_v0 (F := Ideal) x3 i) := by
  simp only [Cert.StepRowsOutRefIdeal.Read.val_main_cst_apply, Cert.StepRowsOutRefIdeal.Read.val_main_v1_apply, Cert.StepRowsOutRefIdeal.Read.val_main_v2_apply, Cert.StepRowsOutRefIdeal.Read.val_main_cst_0_apply, Cert.StepRowsOutRefIdeal.Read.val_main_v3_apply, Cert.StepRowsOutRefIdeal.Read.val_main_v4_apply, Cert.StepRowsOutRefIdeal.Read.val_main_v5_apply, Cert.StepRowsOutRefIdeal.Read.val_main_cst_1_apply, Cert.StepRowsOutRefIdeal.Read.val_main_v6_apply, Cert.StepRowsOutRefIdeal.Read.val_main_v7_apply, Cert.StepRowsOutRefIdeal.Read.val_main_v8_apply, Cert.StepRowsOutRefIdeal.Read.val_main_cst_2_apply, Cert.StepRowsOutRefIdeal.Read.val_main_v9_apply, Cert.StepRowsOutRefIdeal.Read.val_main_v10_apply, Cert.StepRowsOutRefIdeal.Read.val_main_v11_apply, Cert.StepRowsOutRefIdeal.Read.val_main_cst_3_apply, Cert.StepRowsOutRefIdeal.Read.val_main_v12_apply, Cert.StepRowsOutRefIdeal.Read.val_main_v13_apply, Cert.StepRowsOutRefIdeal.Read.val_main_cst_4_apply, Cert.StepRowsOutRefIdeal.Read.val_main_v14_apply, Cert.StepRowsOutRefIdeal.Read.val_main_v15_apply, Cert.StepRowsOutRefIdeal.Read.val_main_v16_apply, Cert.StepRowsOutRefIdeal.Read.val_main_cst_5_apply, Cert.StepRowsOutRefIdeal.Read.val_main_v17_apply, Cert.StepRowsOutRefIdeal.Read.val_main_v18_apply, Cert.StepRowsOutRefIdeal.Read.val_main_v19_apply, Cert.StepRowsOutRefIdeal.Read.val_main_cst_6_apply, Cert.StepRowsOutRefIdeal.Read.val_main_v20_apply, Cert.StepRowsOutRefIdeal.Read.val_main_v21_apply, Cert.StepRowsOutRefIdeal.Read.val_main_v22_apply, Cert.StepRowsOutRefIdeal.Read.val_main_cst_7_apply, Cert.StepRowsOutRefIdeal.Read.val_main_v23_apply, Cert.StepRowsOutRefIdeal.Read.val_main_v24_apply]
  rfl

theorem ref3_apply (x2 : S1x256x1024.Idx → EReal) (x3 : S256x1024.Idx → EReal) (i : S1x256x1024.Idx) : Cert.StepRowsOutRefIdeal.Read.val_main_v11 (F := Ideal) x2 x3 i = adV (x2 i) (Cert.StepRowsOutRefIdeal.Read.val_main_v0 (F := Ideal) x3 i) := by
  simp only [Cert.StepRowsOutRefIdeal.Read.val_main_cst_apply, Cert.StepRowsOutRefIdeal.Read.val_main_v1_apply, Cert.StepRowsOutRefIdeal.Read.val_main_v2_apply, Cert.StepRowsOutRefIdeal.Read.val_main_cst_0_apply, Cert.StepRowsOutRefIdeal.Read.val_main_v3_apply, Cert.StepRowsOutRefIdeal.Read.val_main_v4_apply, Cert.StepRowsOutRefIdeal.Read.val_main_v5_apply, Cert.StepRowsOutRefIdeal.Read.val_main_cst_1_apply, Cert.StepRowsOutRefIdeal.Read.val_main_v6_apply, Cert.StepRowsOutRefIdeal.Read.val_main_v7_apply, Cert.StepRowsOutRefIdeal.Read.val_main_v8_apply, Cert.StepRowsOutRefIdeal.Read.val_main_cst_2_apply, Cert.StepRowsOutRefIdeal.Read.val_main_v9_apply, Cert.StepRowsOutRefIdeal.Read.val_main_v10_apply, Cert.StepRowsOutRefIdeal.Read.val_main_v11_apply, Cert.StepRowsOutRefIdeal.Read.val_main_cst_3_apply, Cert.StepRowsOutRefIdeal.Read.val_main_v12_apply, Cert.StepRowsOutRefIdeal.Read.val_main_v13_apply, Cert.StepRowsOutRefIdeal.Read.val_main_cst_4_apply, Cert.StepRowsOutRefIdeal.Read.val_main_v14_apply, Cert.StepRowsOutRefIdeal.Read.val_main_v15_apply, Cert.StepRowsOutRefIdeal.Read.val_main_v16_apply, Cert.StepRowsOutRefIdeal.Read.val_main_cst_5_apply, Cert.StepRowsOutRefIdeal.Read.val_main_v17_apply, Cert.StepRowsOutRefIdeal.Read.val_main_v18_apply, Cert.StepRowsOutRefIdeal.Read.val_main_v19_apply, Cert.StepRowsOutRefIdeal.Read.val_main_cst_6_apply, Cert.StepRowsOutRefIdeal.Read.val_main_v20_apply, Cert.StepRowsOutRefIdeal.Read.val_main_v21_apply, Cert.StepRowsOutRefIdeal.Read.val_main_v22_apply, Cert.StepRowsOutRefIdeal.Read.val_main_cst_7_apply, Cert.StepRowsOutRefIdeal.Read.val_main_v23_apply, Cert.StepRowsOutRefIdeal.Read.val_main_v24_apply]
  rfl

theorem ref1_apply (x0 : S1x256x1024.Idx → EReal) (x1 : S1x256x1024.Idx → EReal) (x2 : S1x256x1024.Idx → EReal) (x3 : S256x1024.Idx → EReal) (i : S1x256x1024.Idx) : Cert.StepRowsOutRefIdeal.Read.val_main_v24 (F := Ideal) x0 x1 x2 x3 i = adD (x0 i) (adM (x1 i) (Cert.StepRowsOutRefIdeal.Read.val_main_v0 (F := Ideal) x3 i)) (adV (x2 i) (Cert.StepRowsOutRefIdeal.Read.val_main_v0 (F := Ideal) x3 i)) := by
  simp only [Cert.StepRowsOutRefIdeal.Read.val_main_cst_apply, Cert.StepRowsOutRefIdeal.Read.val_main_v1_apply, Cert.StepRowsOutRefIdeal.Read.val_main_v2_apply, Cert.StepRowsOutRefIdeal.Read.val_main_cst_0_apply, Cert.StepRowsOutRefIdeal.Read.val_main_v3_apply, Cert.StepRowsOutRefIdeal.Read.val_main_v4_apply, Cert.StepRowsOutRefIdeal.Read.val_main_v5_apply, Cert.StepRowsOutRefIdeal.Read.val_main_cst_1_apply, Cert.StepRowsOutRefIdeal.Read.val_main_v6_apply, Cert.StepRowsOutRefIdeal.Read.val_main_v7_apply, Cert.StepRowsOutRefIdeal.Read.val_main_v8_apply, Cert.StepRowsOutRefIdeal.Read.val_main_cst_2_apply, Cert.StepRowsOutRefIdeal.Read.val_main_v9_apply, Cert.StepRowsOutRefIdeal.Read.val_main_v10_apply, Cert.StepRowsOutRefIdeal.Read.val_main_v11_apply, Cert.StepRowsOutRefIdeal.Read.val_main_cst_3_apply, Cert.StepRowsOutRefIdeal.Read.val_main_v12_apply, Cert.StepRowsOutRefIdeal.Read.val_main_v13_apply, Cert.StepRowsOutRefIdeal.Read.val_main_cst_4_apply, Cert.StepRowsOutRefIdeal.Read.val_main_v14_apply, Cert.StepRowsOutRefIdeal.Read.val_main_v15_apply, Cert.StepRowsOutRefIdeal.Read.val_main_v16_apply, Cert.StepRowsOutRefIdeal.Read.val_main_cst_5_apply, Cert.StepRowsOutRefIdeal.Read.val_main_v17_apply, Cert.StepRowsOutRefIdeal.Read.val_main_v18_apply, Cert.StepRowsOutRefIdeal.Read.val_main_v19_apply, Cert.StepRowsOutRefIdeal.Read.val_main_cst_6_apply, Cert.StepRowsOutRefIdeal.Read.val_main_v20_apply, Cert.StepRowsOutRefIdeal.Read.val_main_v21_apply, Cert.StepRowsOutRefIdeal.Read.val_main_v22_apply, Cert.StepRowsOutRefIdeal.Read.val_main_cst_7_apply, Cert.StepRowsOutRefIdeal.Read.val_main_v23_apply, Cert.StepRowsOutRefIdeal.Read.val_main_v24_apply]
  rfl

theorem g_eq (t : Fin cfg0.N) (r : Fin 256) (d : Fin 1024) : iblk m c 3 t (ix2 r d) = Cert.StepRowsOutRefIdeal.Read.val_main_v0 (F := Ideal) (A3 m c) (ix3 (lay t) (row t r) d) := by
  rw [b3 m c t r d]
  generalize hR : A3 m c (ix2 (row t r) d) = R
  unfold Cert.StepRowsOutRefIdeal.Read.val_main_v0
  generalize A3 m c = y at hR ⊢
  pointwise
  exact hR.symm

theorem arr4 : (dats m 0 c).arrAt 4 cfg0.N = Cert.StepRowsOutRefIdeal.Read.val_main_v0 (F := Ideal) (A3 m c) := by
  refine (dats m 0 c).arrAt_eq_of_covers 4 _ (by decide +kernel) fun t hf y => ?_
  have ht := lt t
  idx_vars y
  have e : ((cfg0.win 4).blk t).view.emb (ix3 y0 y1 y2) = ix3 (lay t) (row t y1) y2 := by blk_ext [idx t]
  refine Eq.trans ?_ (congrArg (Cert.StepRowsOutRefIdeal.Read.val_main_v0 (F := Ideal) (A3 m c)) e).symm
  blk_simp
  rw [after0_4]
  refine (out4_apply _ _ _ _ y0 y1 y2).trans ?_
  exact g_eq m c t y1 y2

theorem arr5 : (dats m 0 c).arrAt 5 cfg0.N = Cert.StepRowsOutRefIdeal.Read.val_main_v24 (F := Ideal) (A0 m c) (A1 m c) (A2 m c) (A3 m c) := by
  refine (dats m 0 c).arrAt_eq_of_covers 5 _ (by decide +kernel) fun t hf y => ?_
  have ht := lt t
  idx_vars y
  have e : ((cfg0.win 5).blk t).view.emb (ix3 y0 y1 y2) = ix3 (lay t) (row t y1) y2 := by blk_ext [idx t]
  refine Eq.trans ?_ (congrArg (Cert.StepRowsOutRefIdeal.Read.val_main_v24 (F := Ideal) (A0 m c) (A1 m c) (A2 m c) (A3 m c)) e).symm
  blk_simp
  rw [after0_5]
  refine (out5_apply _ _ _ _ y0 y1 y2).trans ?_
  rw [ref1_apply]
  exact congr (congrArg₂ adD (b0 m c t y0 y1 y2) (congrArg₂ adM (b1 m c t y0 y1 y2) (g_eq m c t y1 y2))) (congrArg₂ adV (b2 m c t y0 y1 y2) (g_eq m c t y1 y2))

theorem arr6 : (dats m 0 c).arrAt 6 cfg0.N = Cert.StepRowsOutRefIdeal.Read.val_main_v5 (F := Ideal) (A1 m c) (A3 m c) := by
  refine (dats m 0 c).arrAt_eq_of_covers 6 _ (by decide +kernel) fun t hf y => ?_
  have ht := lt t
  idx_vars y
  have e : ((cfg0.win 6).blk t).view.emb (ix3 y0 y1 y2) = ix3 (lay t) (row t y1) y2 := by blk_ext [idx t]
  refine Eq.trans ?_ (congrArg (Cert.StepRowsOutRefIdeal.Read.val_main_v5 (F := Ideal) (A1 m c) (A3 m c)) e).symm
  blk_simp
  rw [after0_6]
  refine (out6_apply _ _ _ _ y0 y1 y2).trans ?_
  rw [ref2_apply]
  exact congrArg₂ adM (b1 m c t y0 y1 y2) (g_eq m c t y1 y2)

theorem arr7 : (dats m 0 c).arrAt 7 cfg0.N = Cert.StepRowsOutRefIdeal.Read.val_main_v11 (F := Ideal) (A2 m c) (A3 m c) := by
  refine (dats m 0 c).arrAt_eq_of_covers 7 _ (by decide +kernel) fun t hf y => ?_
  have ht := lt t
  idx_vars y
  have e : ((cfg0.win 7).blk t).view.emb (ix3 y0 y1 y2) = ix3 (lay t) (row t y1) y2 := by blk_ext [idx t]
  refine Eq.trans ?_ (congrArg (Cert.StepRowsOutRefIdeal.Read.val_main_v11 (F := Ideal) (A2 m c) (A3 m c)) e).symm
  blk_simp
  rw [after0_7]
  refine (out7_apply _ _ _ _ y0 y1 y2).trans ?_
  rw [ref3_apply]
  exact congrArg₂ adV (b2 m c t y0 y1 y2) (g_eq m c t y1 y2)

end Cert.StepRowsOutIdeal.Final

end
-- ==== Proof.StepConvIn.lean ====
/- The optimiser's step for the input product of the convolution mixer: the kernel's arrays are the reference's. -/
module

public import proofs.«01_k».proof.Proof.Gen.StepConvInIdeal.Value
public import proofs.«01_k».proof.Proof.Gen.StepConvInRefIdeal.Read
public import Idealize.ShloMosaic.Lib.Pipeline.ValueKit
public import proofs.«01_k».proof.Proof.Opt

@[expose] public section
set_option maxRecDepth 16384
noncomputable section

namespace Cert.StepConvInIdeal.Final

open Cert.Attn Cert.StepConvInIdeal Cert.StepConvInIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S1x1024x768.Idx → EReal := m ((c : Thread nD τ).loc main_arg0)
abbrev A1 : S1x1024x768.Idx → EReal := m ((c : Thread nD τ).loc main_arg1)
abbrev A2 : S1x1024x768.Idx → EReal := m ((c : Thread nD τ).loc main_arg2)
abbrev A3 : S1024x768.Idx → EReal := m ((c : Thread nD τ).loc main_arg3)

theorem e0 : V m c main_arg0 = A0 m c := by
  unfold V
  rfl

theorem e1 : V m c main_arg1 = A1 m c := by
  unfold V
  rfl

theorem e2 : V m c main_arg2 = A2 m c := by
  unfold V
  rfl

theorem e3 : V m c main_arg3 = A3 m c := by
  unfold V
  rfl

theorem idx : ∀ t : Fin cfg0.N, win0_0.index t = ![0, t.val, 0]
    ∧ win0_1.index t = ![0, t.val, 0]
    ∧ win0_2.index t = ![0, t.val, 0]
    ∧ win0_3.index t = ![t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

theorem lt (t : Fin cfg0.N) : t.val < 4 := t.isLt

/-- The place of a block's row in the array. -/
abbrev row (t : Fin cfg0.N) (r : Fin 256) : Fin 1024 := ⟨t.val * 256 + r.val, by have := lt t; omega⟩
abbrev lay (t : Fin cfg0.N) : Fin 1 := 0

theorem b0 (t : Fin cfg0.N) (u : Fin 1) (r : Fin 256) (d : Fin 768) : iblk m c 0 t (ix3 u r d) = A0 m c (ix3 (lay t) (row t r) d) := by
  rw [← e0]; have ht := lt t; blk_ext [iblk, idx t]
theorem b1 (t : Fin cfg0.N) (u : Fin 1) (r : Fin 256) (d : Fin 768) : iblk m c 1 t (ix3 u r d) = A1 m c (ix3 (lay t) (row t r) d) := by
  rw [← e1]; have ht := lt t; blk_ext [iblk, idx t]
theorem b2 (t : Fin cfg0.N) (u : Fin 1) (r : Fin 256) (d : Fin 768) : iblk m c 2 t (ix3 u r d) = A2 m c (ix3 (lay t) (row t r) d) := by
  rw [← e2]; have ht := lt t; blk_ext [iblk, idx t]
theorem b3 (t : Fin cfg0.N) (r : Fin 256) (d : Fin 768) : iblk m c 3 t (ix2 r d) = A3 m c (ix2 (row t r) d) := by
  rw [← e3]; have ht := lt t; blk_ext [iblk, idx t]

theorem out4_apply (x0 x1 x2 : Vec Ideal S1x256x768 .f32) (x3 : Vec Ideal S256x768 .f32) (u : Fin 1) (r : Fin 256) (d : Fin 768) : out0_4 x0 x1 x2 x3 (ix3 u r d) = x3 (ix2 r d) := by
  unfold out0_4
  refine (canon_whole _ _ _ _).trans ?_
  obtain rfl : u = 0 := Subsingleton.elim _ _
  generalize hR : x3 (ix2 r d) = R
  pointwise [k0_pay3]
  exact hR

theorem out5_apply (x0 x1 x2 : Vec Ideal S1x256x768 .f32) (x3 : Vec Ideal S256x768 .f32) (u : Fin 1) (r : Fin 256) (d : Fin 768) : out0_5 x0 x1 x2 x3 (ix3 u r d) = adD (x0 (ix3 u r d)) (adM (x1 (ix3 u r d)) (x3 (ix2 r d))) (adV (x2 (ix3 u r d)) (x3 (ix2 r d))) := by
  unfold out0_5
  refine (canon_whole _ _ _ _).trans ?_
  obtain rfl : u = 0 := Subsingleton.elim _ _
  generalize hR : adD (x0 (ix3 0 r d)) (adM (x1 (ix3 0 r d)) (x3 (ix2 r d))) (adV (x2 (ix3 0 r d)) (x3 (ix2 r d))) = R
  pointwise [k0_pay6, k0_pay4, k0_pay5]
  exact hR

theorem out6_apply (x0 x1 x2 : Vec Ideal S1x256x768 .f32) (x3 : Vec Ideal S256x768 .f32) (u : Fin 1) (r : Fin 256) (d : Fin 768) : out0_6 x0 x1 x2 x3 (ix3 u r d) = adM (x1 (ix3 u r d)) (x3 (ix2 r d)) := by
  unfold out0_6
  refine (canon_whole _ _ _ _).trans ?_
  obtain rfl : u = 0 := Subsingleton.elim _ _
  generalize hR : adM (x1 (ix3 0 r d)) (x3 (ix2 r d)) = R
  pointwise [k0_pay1, k0_pay4]
  exact hR

theorem out7_apply (x0 x1 x2 : Vec Ideal S1x256x768 .f32) (x3 : Vec Ideal S256x768 .f32) (u : Fin 1) (r : Fin 256) (d : Fin 768) : out0_7 x0 x1 x2 x3 (ix3 u r d) = adV (x2 (ix3 u r d)) (x3 (ix2 r d)) := by
  unfold out0_7
  refine (canon_whole _ _ _ _).trans ?_
  obtain rfl : u = 0 := Subsingleton.elim _ _
  generalize hR : adV (x2 (ix3 0 r d)) (x3 (ix2 r d)) = R
  pointwise [k0_pay2, k0_pay5]
  exact hR

theorem ref2_apply (x1 : S1x1024x768.Idx → EReal) (x3 : S1024x768.Idx → EReal) (i : S1x1024x768.Idx) : Cert.StepConvInRefIdeal.Read.val_main_v5 (F := Ideal) x1 x3 i = adM (x1 i) (Cert.StepConvInRefIdeal.Read.val_main_v0 (F := Ideal) x3 i) := by
  simp only [Cert.StepConvInRefIdeal.Read.val_main_cst_apply, Cert.StepConvInRefIdeal.Read.val_main_v1_apply, Cert.StepConvInRefIdeal.Read.val_main_v2_apply, Cert.StepConvInRefIdeal.Read.val_main_cst_0_apply, Cert.StepConvInRefIdeal.Read.val_main_v3_apply, Cert.StepConvInRefIdeal.Read.val_main_v4_apply, Cert.StepConvInRefIdeal.Read.val_main_v5_apply, Cert.StepConvInRefIdeal.Read.val_main_cst_1_apply, Cert.StepConvInRefIdeal.Read.val_main_v6_apply, Cert.StepConvInRefIdeal.Read.val_main_v7_apply, Cert.StepConvInRefIdeal.Read.val_main_v8_apply, Cert.StepConvInRefIdeal.Read.val_main_cst_2_apply, Cert.StepConvInRefIdeal.Read.val_main_v9_apply, Cert.StepConvInRefIdeal.Read.val_main_v10_apply, Cert.StepConvInRefIdeal.Read.val_main_v11_apply, Cert.StepConvInRefIdeal.Read.val_main_cst_3_apply, Cert.StepConvInRefIdeal.Read.val_main_v12_apply, Cert.StepConvInRefIdeal.Read.val_main_v13_apply, Cert.StepConvInRefIdeal.Read.val_main_cst_4_apply, Cert.StepConvInRefIdeal.Read.val_main_v14_apply, Cert.StepConvInRefIdeal.Read.val_main_v15_apply, Cert.StepConvInRefIdeal.Read.val_main_v16_apply, Cert.StepConvInRefIdeal.Read.val_main_cst_5_apply, Cert.StepConvInRefIdeal.Read.val_main_v17_apply, Cert.StepConvInRefIdeal.Read.val_main_v18_apply, Cert.StepConvInRefIdeal.Read.val_main_v19_apply, Cert.StepConvInRefIdeal.Read.val_main_cst_6_apply, Cert.StepConvInRefIdeal.Read.val_main_v20_apply, Cert.StepConvInRefIdeal.Read.val_main_v21_apply, Cert.StepConvInRefIdeal.Read.val_main_v22_apply, Cert.StepConvInRefIdeal.Read.val_main_cst_7_apply, Cert.StepConvInRefIdeal.Read.val_main_v23_apply, Cert.StepConvInRefIdeal.Read.val_main_v24_apply]
  rfl

theorem ref3_apply (x2 : S1x1024x768.Idx → EReal) (x3 : S1024x768.Idx → EReal) (i : S1x1024x768.Idx) : Cert.StepConvInRefIdeal.Read.val_main_v11 (F := Ideal) x2 x3 i = adV (x2 i) (Cert.StepConvInRefIdeal.Read.val_main_v0 (F := Ideal) x3 i) := by
  simp only [Cert.StepConvInRefIdeal.Read.val_main_cst_apply, Cert.StepConvInRefIdeal.Read.val_main_v1_apply, Cert.StepConvInRefIdeal.Read.val_main_v2_apply, Cert.StepConvInRefIdeal.Read.val_main_cst_0_apply, Cert.StepConvInRefIdeal.Read.val_main_v3_apply, Cert.StepConvInRefIdeal.Read.val_main_v4_apply, Cert.StepConvInRefIdeal.Read.val_main_v5_apply, Cert.StepConvInRefIdeal.Read.val_main_cst_1_apply, Cert.StepConvInRefIdeal.Read.val_main_v6_apply, Cert.StepConvInRefIdeal.Read.val_main_v7_apply, Cert.StepConvInRefIdeal.Read.val_main_v8_apply, Cert.StepConvInRefIdeal.Read.val_main_cst_2_apply, Cert.StepConvInRefIdeal.Read.val_main_v9_apply, Cert.StepConvInRefIdeal.Read.val_main_v10_apply, Cert.StepConvInRefIdeal.Read.val_main_v11_apply, Cert.StepConvInRefIdeal.Read.val_main_cst_3_apply, Cert.StepConvInRefIdeal.Read.val_main_v12_apply, Cert.StepConvInRefIdeal.Read.val_main_v13_apply, Cert.StepConvInRefIdeal.Read.val_main_cst_4_apply, Cert.StepConvInRefIdeal.Read.val_main_v14_apply, Cert.StepConvInRefIdeal.Read.val_main_v15_apply, Cert.StepConvInRefIdeal.Read.val_main_v16_apply, Cert.StepConvInRefIdeal.Read.val_main_cst_5_apply, Cert.StepConvInRefIdeal.Read.val_main_v17_apply, Cert.StepConvInRefIdeal.Read.val_main_v18_apply, Cert.StepConvInRefIdeal.Read.val_main_v19_apply, Cert.StepConvInRefIdeal.Read.val_main_cst_6_apply, Cert.StepConvInRefIdeal.Read.val_main_v20_apply, Cert.StepConvInRefIdeal.Read.val_main_v21_apply, Cert.StepConvInRefIdeal.Read.val_main_v22_apply, Cert.StepConvInRefIdeal.Read.val_main_cst_7_apply, Cert.StepConvInRefIdeal.Read.val_main_v23_apply, Cert.StepConvInRefIdeal.Read.val_main_v24_apply]
  rfl

theorem ref1_apply (x0 : S1x1024x768.Idx → EReal) (x1 : S1x1024x768.Idx → EReal) (x2 : S1x1024x768.Idx → EReal) (x3 : S1024x768.Idx → EReal) (i : S1x1024x768.Idx) : Cert.StepConvInRefIdeal.Read.val_main_v24 (F := Ideal) x0 x1 x2 x3 i = adD (x0 i) (adM (x1 i) (Cert.StepConvInRefIdeal.Read.val_main_v0 (F := Ideal) x3 i)) (adV (x2 i) (Cert.StepConvInRefIdeal.Read.val_main_v0 (F := Ideal) x3 i)) := by
  simp only [Cert.StepConvInRefIdeal.Read.val_main_cst_apply, Cert.StepConvInRefIdeal.Read.val_main_v1_apply, Cert.StepConvInRefIdeal.Read.val_main_v2_apply, Cert.StepConvInRefIdeal.Read.val_main_cst_0_apply, Cert.StepConvInRefIdeal.Read.val_main_v3_apply, Cert.StepConvInRefIdeal.Read.val_main_v4_apply, Cert.StepConvInRefIdeal.Read.val_main_v5_apply, Cert.StepConvInRefIdeal.Read.val_main_cst_1_apply, Cert.StepConvInRefIdeal.Read.val_main_v6_apply, Cert.StepConvInRefIdeal.Read.val_main_v7_apply, Cert.StepConvInRefIdeal.Read.val_main_v8_apply, Cert.StepConvInRefIdeal.Read.val_main_cst_2_apply, Cert.StepConvInRefIdeal.Read.val_main_v9_apply, Cert.StepConvInRefIdeal.Read.val_main_v10_apply, Cert.StepConvInRefIdeal.Read.val_main_v11_apply, Cert.StepConvInRefIdeal.Read.val_main_cst_3_apply, Cert.StepConvInRefIdeal.Read.val_main_v12_apply, Cert.StepConvInRefIdeal.Read.val_main_v13_apply, Cert.StepConvInRefIdeal.Read.val_main_cst_4_apply, Cert.StepConvInRefIdeal.Read.val_main_v14_apply, Cert.StepConvInRefIdeal.Read.val_main_v15_apply, Cert.StepConvInRefIdeal.Read.val_main_v16_apply, Cert.StepConvInRefIdeal.Read.val_main_cst_5_apply, Cert.StepConvInRefIdeal.Read.val_main_v17_apply, Cert.StepConvInRefIdeal.Read.val_main_v18_apply, Cert.StepConvInRefIdeal.Read.val_main_v19_apply, Cert.StepConvInRefIdeal.Read.val_main_cst_6_apply, Cert.StepConvInRefIdeal.Read.val_main_v20_apply, Cert.StepConvInRefIdeal.Read.val_main_v21_apply, Cert.StepConvInRefIdeal.Read.val_main_v22_apply, Cert.StepConvInRefIdeal.Read.val_main_cst_7_apply, Cert.StepConvInRefIdeal.Read.val_main_v23_apply, Cert.StepConvInRefIdeal.Read.val_main_v24_apply]
  rfl

theorem g_eq (t : Fin cfg0.N) (r : Fin 256) (d : Fin 768) : iblk m c 3 t (ix2 r d) = Cert.StepConvInRefIdeal.Read.val_main_v0 (F := Ideal) (A3 m c) (ix3 (lay t) (row t r) d) := by
  rw [b3 m c t r d]
  generalize hR : A3 m c (ix2 (row t r) d) = R
  unfold Cert.StepConvInRefIdeal.Read.val_main_v0
  generalize A3 m c = y at hR ⊢
  pointwise
  exact hR.symm

theorem arr4 : (dats m 0 c).arrAt 4 cfg0.N = Cert.StepConvInRefIdeal.Read.val_main_v0 (F := Ideal) (A3 m c) := by
  refine (dats m 0 c).arrAt_eq_of_covers 4 _ (by decide +kernel) fun t hf y => ?_
  have ht := lt t
  idx_vars y
  have e : ((cfg0.win 4).blk t).view.emb (ix3 y0 y1 y2) = ix3 (lay t) (row t y1) y2 := by blk_ext [idx t]
  refine Eq.trans ?_ (congrArg (Cert.StepConvInRefIdeal.Read.val_main_v0 (F := Ideal) (A3 m c)) e).symm
  blk_simp
  rw [after0_4]
  refine (out4_apply _ _ _ _ y0 y1 y2).trans ?_
  exact g_eq m c t y1 y2

theorem arr5 : (dats m 0 c).arrAt 5 cfg0.N = Cert.StepConvInRefIdeal.Read.val_main_v24 (F := Ideal) (A0 m c) (A1 m c) (A2 m c) (A3 m c) := by
  refine (dats m 0 c).arrAt_eq_of_covers 5 _ (by decide +kernel) fun t hf y => ?_
  have ht := lt t
  idx_vars y
  have e : ((cfg0.win 5).blk t).view.emb (ix3 y0 y1 y2) = ix3 (lay t) (row t y1) y2 := by blk_ext [idx t]
  refine Eq.trans ?_ (congrArg (Cert.StepConvInRefIdeal.Read.val_main_v24 (F := Ideal) (A0 m c) (A1 m c) (A2 m c) (A3 m c)) e).symm
  blk_simp
  rw [after0_5]
  refine (out5_apply _ _ _ _ y0 y1 y2).trans ?_
  rw [ref1_apply]
  exact congr (congrArg₂ adD (b0 m c t y0 y1 y2) (congrArg₂ adM (b1 m c t y0 y1 y2) (g_eq m c t y1 y2))) (congrArg₂ adV (b2 m c t y0 y1 y2) (g_eq m c t y1 y2))

theorem arr6 : (dats m 0 c).arrAt 6 cfg0.N = Cert.StepConvInRefIdeal.Read.val_main_v5 (F := Ideal) (A1 m c) (A3 m c) := by
  refine (dats m 0 c).arrAt_eq_of_covers 6 _ (by decide +kernel) fun t hf y => ?_
  have ht := lt t
  idx_vars y
  have e : ((cfg0.win 6).blk t).view.emb (ix3 y0 y1 y2) = ix3 (lay t) (row t y1) y2 := by blk_ext [idx t]
  refine Eq.trans ?_ (congrArg (Cert.StepConvInRefIdeal.Read.val_main_v5 (F := Ideal) (A1 m c) (A3 m c)) e).symm
  blk_simp
  rw [after0_6]
  refine (out6_apply _ _ _ _ y0 y1 y2).trans ?_
  rw [ref2_apply]
  exact congrArg₂ adM (b1 m c t y0 y1 y2) (g_eq m c t y1 y2)

theorem arr7 : (dats m 0 c).arrAt 7 cfg0.N = Cert.StepConvInRefIdeal.Read.val_main_v11 (F := Ideal) (A2 m c) (A3 m c) := by
  refine (dats m 0 c).arrAt_eq_of_covers 7 _ (by decide +kernel) fun t hf y => ?_
  have ht := lt t
  idx_vars y
  have e : ((cfg0.win 7).blk t).view.emb (ix3 y0 y1 y2) = ix3 (lay t) (row t y1) y2 := by blk_ext [idx t]
  refine Eq.trans ?_ (congrArg (Cert.StepConvInRefIdeal.Read.val_main_v11 (F := Ideal) (A2 m c) (A3 m c)) e).symm
  blk_simp
  rw [after0_7]
  refine (out7_apply _ _ _ _ y0 y1 y2).trans ?_
  rw [ref3_apply]
  exact congrArg₂ adV (b2 m c t y0 y1 y2) (g_eq m c t y1 y2)

end Cert.StepConvInIdeal.Final

end
-- ==== Proof.StepMlp.lean ====
/- The optimiser's step for the two products of the feed-forward block: the kernel's arrays are the reference's. -/
module

public import proofs.«01_k».proof.Proof.Gen.StepMlpIdeal.Value
public import proofs.«01_k».proof.Proof.Gen.StepMlpRefIdeal.Read
public import Idealize.ShloMosaic.Lib.Pipeline.ValueKit
public import proofs.«01_k».proof.Proof.Opt

@[expose] public section
set_option maxRecDepth 16384
noncomputable section

namespace Cert.StepMlpIdeal.Final

open Cert.Attn Cert.StepMlpIdeal Cert.StepMlpIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S4x1024x1024.Idx → EReal := m ((c : Thread nD τ).loc main_arg0)
abbrev A1 : S4x1024x1024.Idx → EReal := m ((c : Thread nD τ).loc main_arg1)
abbrev A2 : S4x1024x1024.Idx → EReal := m ((c : Thread nD τ).loc main_arg2)
abbrev A3 : S1024x1024.Idx → EReal := m ((c : Thread nD τ).loc main_arg3)
abbrev A4 : S1024x1024.Idx → EReal := m ((c : Thread nD τ).loc main_arg4)
abbrev A5 : S1024x1024.Idx → EReal := m ((c : Thread nD τ).loc main_arg5)
abbrev A6 : S1024x1024.Idx → EReal := m ((c : Thread nD τ).loc main_arg6)

theorem e0 : V m c main_arg0 = A0 m c := by
  unfold V
  rfl

theorem e1 : V m c main_arg1 = A1 m c := by
  unfold V
  rfl

theorem e2 : V m c main_arg2 = A2 m c := by
  unfold V
  rfl

theorem e3 : V m c main_arg3 = A3 m c := by
  unfold V
  rfl

theorem e4 : V m c main_arg4 = A4 m c := by
  unfold V
  rfl

theorem e5 : V m c main_arg5 = A5 m c := by
  unfold V
  rfl

theorem e6 : V m c main_arg6 = A6 m c := by
  unfold V
  rfl

theorem idx : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![if t.val / 4 = 0 then t.val % 4 else 0, 0]
    ∧ win0_4.index t = ![if t.val / 4 = 1 then t.val % 4 else 0, 0]
    ∧ win0_5.index t = ![if t.val / 4 = 2 then t.val % 4 else 0, 0]
    ∧ win0_6.index t = ![if t.val / 4 = 3 then t.val % 4 else 0, 0]
    ∧ win0_7.index t = ![t.val / 4, t.val % 4, 0]
    ∧ win0_8.index t = ![t.val / 4, t.val % 4, 0]
    ∧ win0_9.index t = ![t.val / 4, t.val % 4, 0]
    ∧ win0_10.index t = ![t.val / 4, t.val % 4, 0]
    ∧ (grid0.coords t 0).val = t.val / 4 :=
  (by decide +kernel : ∀ t : Fin grid0.N, _)

theorem lt (t : Fin cfg0.N) : t.val < 16 := t.isLt

/-- The place of a block's row in the array. -/
abbrev row (t : Fin cfg0.N) (r : Fin 256) : Fin 1024 := ⟨t.val % 4 * 256 + r.val, by have := lt t; omega⟩
abbrev lay (t : Fin cfg0.N) : Fin 4 := ⟨t.val / 4, by have := lt t; omega⟩

theorem b0 (t : Fin cfg0.N) (u : Fin 1) (r : Fin 256) (d : Fin 1024) : iblk m c 0 t (ix3 u r d) = A0 m c (ix3 (lay t) (row t r) d) := by
  rw [← e0]; have ht := lt t; blk_ext [iblk, idx t]
theorem b1 (t : Fin cfg0.N) (u : Fin 1) (r : Fin 256) (d : Fin 1024) : iblk m c 1 t (ix3 u r d) = A1 m c (ix3 (lay t) (row t r) d) := by
  rw [← e1]; have ht := lt t; blk_ext [iblk, idx t]
theorem b2 (t : Fin cfg0.N) (u : Fin 1) (r : Fin 256) (d : Fin 1024) : iblk m c 2 t (ix3 u r d) = A2 m c (ix3 (lay t) (row t r) d) := by
  rw [← e2]; have ht := lt t; blk_ext [iblk, idx t]
theorem b3 (t : Fin cfg0.N) (h : t.val / 4 = 0) (r : Fin 256) (d : Fin 1024) : iblk m c 3 t (ix2 r d) = A3 m c (ix2 (row t r) d) := by
  rw [← e3]; have ht := lt t; blk_ext [iblk, idx t, h]; rw [if_pos trivial]
theorem b4 (t : Fin cfg0.N) (h : t.val / 4 = 1) (r : Fin 256) (d : Fin 1024) : iblk m c 4 t (ix2 r d) = A4 m c (ix2 (row t r) d) := by
  rw [← e4]; have ht := lt t; blk_ext [iblk, idx t, h]; rw [if_pos trivial]
theorem b5 (t : Fin cfg0.N) (h : t.val / 4 = 2) (r : Fin 256) (d : Fin 1024) : iblk m c 5 t (ix2 r d) = A5 m c (ix2 (row t r) d) := by
  rw [← e5]; have ht := lt t; blk_ext [iblk, idx t, h]; rw [if_pos trivial]
theorem b6 (t : Fin cfg0.N) (h : t.val / 4 = 3) (r : Fin 256) (d : Fin 1024) : iblk m c 6 t (ix2 r d) = A6 m c (ix2 (row t r) d) := by
  rw [← e6]; have ht := lt t; blk_ext [iblk, idx t, h]; rw [if_pos trivial]

theorem out7_apply (i : grid0.Coords) (x0 x1 x2 : Vec Ideal S1x256x1024 .f32) (x3 x4 x5 x6 : Vec Ideal S256x1024 .f32) (u : Fin 1) (r : Fin 256) (d : Fin 1024) : out0_7 i x0 x1 x2 x3 x4 x5 x6 (ix3 u r d) = k0_pay5 i (View.ld x3 r0_0) (View.ld x4 r0_0) (View.ld x5 r0_0) (View.ld x6 r0_0) (ix2 r d) := by
  unfold out0_7
  refine (canon_whole _ _ _ _).trans ?_
  obtain rfl : u = 0 := Subsingleton.elim _ _
  unfold k0_pay4
  generalize k0_pay5 i (View.ld x3 r0_0) (View.ld x4 r0_0) (View.ld x5 r0_0) (View.ld x6 r0_0) = g
  generalize hR : g (ix2 r d) = R
  pointwise
  exact hR

theorem out8_apply (i : grid0.Coords) (x0 x1 x2 : Vec Ideal S1x256x1024 .f32) (x3 x4 x5 x6 : Vec Ideal S256x1024 .f32) (u : Fin 1) (r : Fin 256) (d : Fin 1024) : out0_8 i x0 x1 x2 x3 x4 x5 x6 (ix3 u r d) = adD (x0 (ix3 u r d)) (adM (x1 (ix3 u r d)) (k0_pay5 i (View.ld x3 r0_0) (View.ld x4 r0_0) (View.ld x5 r0_0) (View.ld x6 r0_0) (ix2 r d))) (adV (x2 (ix3 u r d)) (k0_pay5 i (View.ld x3 r0_0) (View.ld x4 r0_0) (View.ld x5 r0_0) (View.ld x6 r0_0) (ix2 r d))) := by
  unfold out0_8
  refine (canon_whole _ _ _ _).trans ?_
  obtain rfl : u = 0 := Subsingleton.elim _ _
  unfold k0_pay1 k0_pay6 k0_pay9 k0_pay10 k0_pay7 k0_pay8
  generalize k0_pay5 i (View.ld x3 r0_0) (View.ld x4 r0_0) (View.ld x5 r0_0) (View.ld x6 r0_0) = g
  generalize hR : adD (x0 (ix3 0 r d)) (adM (x1 (ix3 0 r d)) (g (ix2 r d))) (adV (x2 (ix3 0 r d)) (g (ix2 r d))) = R
  pointwise
  exact hR

theorem out9_apply (i : grid0.Coords) (x0 x1 x2 : Vec Ideal S1x256x1024 .f32) (x3 x4 x5 x6 : Vec Ideal S256x1024 .f32) (u : Fin 1) (r : Fin 256) (d : Fin 1024) : out0_9 i x0 x1 x2 x3 x4 x5 x6 (ix3 u r d) = adM (x1 (ix3 u r d)) (k0_pay5 i (View.ld x3 r0_0) (View.ld x4 r0_0) (View.ld x5 r0_0) (View.ld x6 r0_0) (ix2 r d)) := by
  unfold out0_9
  refine (canon_whole _ _ _ _).trans ?_
  obtain rfl : u = 0 := Subsingleton.elim _ _
  unfold k0_pay2 k0_pay7
  generalize k0_pay5 i (View.ld x3 r0_0) (View.ld x4 r0_0) (View.ld x5 r0_0) (View.ld x6 r0_0) = g
  generalize hR : adM (x1 (ix3 0 r d)) (g (ix2 r d)) = R
  pointwise
  exact hR

theorem out10_apply (i : grid0.Coords) (x0 x1 x2 : Vec Ideal S1x256x1024 .f32) (x3 x4 x5 x6 : Vec Ideal S256x1024 .f32) (u : Fin 1) (r : Fin 256) (d : Fin 1024) : out0_10 i x0 x1 x2 x3 x4 x5 x6 (ix3 u r d) = adV (x2 (ix3 u r d)) (k0_pay5 i (View.ld x3 r0_0) (View.ld x4 r0_0) (View.ld x5 r0_0) (View.ld x6 r0_0) (ix2 r d)) := by
  unfold out0_10
  refine (canon_whole _ _ _ _).trans ?_
  obtain rfl : u = 0 := Subsingleton.elim _ _
  unfold k0_pay3 k0_pay8
  generalize k0_pay5 i (View.ld x3 r0_0) (View.ld x4 r0_0) (View.ld x5 r0_0) (View.ld x6 r0_0) = g
  generalize hR : adV (x2 (ix3 0 r d)) (g (ix2 r d)) = R
  pointwise
  exact hR

theorem ref2_apply (x1 : S4x1024x1024.Idx → EReal) (x3 : S1024x1024.Idx → EReal) (x4 : S1024x1024.Idx → EReal) (x5 : S1024x1024.Idx → EReal) (x6 : S1024x1024.Idx → EReal) (i : S4x1024x1024.Idx) : Cert.StepMlpRefIdeal.Read.val_main_v9 (F := Ideal) x1 x3 x4 x5 x6 i = adM (x1 i) (Cert.StepMlpRefIdeal.Read.val_main_v4 (F := Ideal) x3 x4 x5 x6 i) := by
  simp only [Cert.StepMlpRefIdeal.Read.val_main_v0_apply, Cert.StepMlpRefIdeal.Read.val_main_v1_apply, Cert.StepMlpRefIdeal.Read.val_main_v2_apply, Cert.StepMlpRefIdeal.Read.val_main_v3_apply, Cert.StepMlpRefIdeal.Read.val_main_cst_apply, Cert.StepMlpRefIdeal.Read.val_main_v5_apply, Cert.StepMlpRefIdeal.Read.val_main_v6_apply, Cert.StepMlpRefIdeal.Read.val_main_cst_0_apply, Cert.StepMlpRefIdeal.Read.val_main_v7_apply, Cert.StepMlpRefIdeal.Read.val_main_v8_apply, Cert.StepMlpRefIdeal.Read.val_main_v9_apply, Cert.StepMlpRefIdeal.Read.val_main_cst_1_apply, Cert.StepMlpRefIdeal.Read.val_main_v10_apply, Cert.StepMlpRefIdeal.Read.val_main_v11_apply, Cert.StepMlpRefIdeal.Read.val_main_v12_apply, Cert.StepMlpRefIdeal.Read.val_main_cst_2_apply, Cert.StepMlpRefIdeal.Read.val_main_v13_apply, Cert.StepMlpRefIdeal.Read.val_main_v14_apply, Cert.StepMlpRefIdeal.Read.val_main_v15_apply, Cert.StepMlpRefIdeal.Read.val_main_cst_3_apply, Cert.StepMlpRefIdeal.Read.val_main_v16_apply, Cert.StepMlpRefIdeal.Read.val_main_v17_apply, Cert.StepMlpRefIdeal.Read.val_main_cst_4_apply, Cert.StepMlpRefIdeal.Read.val_main_v18_apply, Cert.StepMlpRefIdeal.Read.val_main_v19_apply, Cert.StepMlpRefIdeal.Read.val_main_v20_apply, Cert.StepMlpRefIdeal.Read.val_main_cst_5_apply, Cert.StepMlpRefIdeal.Read.val_main_v21_apply, Cert.StepMlpRefIdeal.Read.val_main_v22_apply, Cert.StepMlpRefIdeal.Read.val_main_v23_apply, Cert.StepMlpRefIdeal.Read.val_main_cst_6_apply, Cert.StepMlpRefIdeal.Read.val_main_v24_apply, Cert.StepMlpRefIdeal.Read.val_main_v25_apply, Cert.StepMlpRefIdeal.Read.val_main_v26_apply, Cert.StepMlpRefIdeal.Read.val_main_cst_7_apply, Cert.StepMlpRefIdeal.Read.val_main_v27_apply, Cert.StepMlpRefIdeal.Read.val_main_v28_apply]
  rfl

theorem ref3_apply (x2 : S4x1024x1024.Idx → EReal) (x3 : S1024x1024.Idx → EReal) (x4 : S1024x1024.Idx → EReal) (x5 : S1024x1024.Idx → EReal) (x6 : S1024x1024.Idx → EReal) (i : S4x1024x1024.Idx) : Cert.StepMlpRefIdeal.Read.val_main_v15 (F := Ideal) x2 x3 x4 x5 x6 i = adV (x2 i) (Cert.StepMlpRefIdeal.Read.val_main_v4 (F := Ideal) x3 x4 x5 x6 i) := by
  simp only [Cert.StepMlpRefIdeal.Read.val_main_v0_apply, Cert.StepMlpRefIdeal.Read.val_main_v1_apply, Cert.StepMlpRefIdeal.Read.val_main_v2_apply, Cert.StepMlpRefIdeal.Read.val_main_v3_apply, Cert.StepMlpRefIdeal.Read.val_main_cst_apply, Cert.StepMlpRefIdeal.Read.val_main_v5_apply, Cert.StepMlpRefIdeal.Read.val_main_v6_apply, Cert.StepMlpRefIdeal.Read.val_main_cst_0_apply, Cert.StepMlpRefIdeal.Read.val_main_v7_apply, Cert.StepMlpRefIdeal.Read.val_main_v8_apply, Cert.StepMlpRefIdeal.Read.val_main_v9_apply, Cert.StepMlpRefIdeal.Read.val_main_cst_1_apply, Cert.StepMlpRefIdeal.Read.val_main_v10_apply, Cert.StepMlpRefIdeal.Read.val_main_v11_apply, Cert.StepMlpRefIdeal.Read.val_main_v12_apply, Cert.StepMlpRefIdeal.Read.val_main_cst_2_apply, Cert.StepMlpRefIdeal.Read.val_main_v13_apply, Cert.StepMlpRefIdeal.Read.val_main_v14_apply, Cert.StepMlpRefIdeal.Read.val_main_v15_apply, Cert.StepMlpRefIdeal.Read.val_main_cst_3_apply, Cert.StepMlpRefIdeal.Read.val_main_v16_apply, Cert.StepMlpRefIdeal.Read.val_main_v17_apply, Cert.StepMlpRefIdeal.Read.val_main_cst_4_apply, Cert.StepMlpRefIdeal.Read.val_main_v18_apply, Cert.StepMlpRefIdeal.Read.val_main_v19_apply, Cert.StepMlpRefIdeal.Read.val_main_v20_apply, Cert.StepMlpRefIdeal.Read.val_main_cst_5_apply, Cert.StepMlpRefIdeal.Read.val_main_v21_apply, Cert.StepMlpRefIdeal.Read.val_main_v22_apply, Cert.StepMlpRefIdeal.Read.val_main_v23_apply, Cert.StepMlpRefIdeal.Read.val_main_cst_6_apply, Cert.StepMlpRefIdeal.Read.val_main_v24_apply, Cert.StepMlpRefIdeal.Read.val_main_v25_apply, Cert.StepMlpRefIdeal.Read.val_main_v26_apply, Cert.StepMlpRefIdeal.Read.val_main_cst_7_apply, Cert.StepMlpRefIdeal.Read.val_main_v27_apply, Cert.StepMlpRefIdeal.Read.val_main_v28_apply]
  rfl

theorem ref1_apply (x0 : S4x1024x1024.Idx → EReal) (x1 : S4x1024x1024.Idx → EReal) (x2 : S4x1024x1024.Idx → EReal) (x3 : S1024x1024.Idx → EReal) (x4 : S1024x1024.Idx → EReal) (x5 : S1024x1024.Idx → EReal) (x6 : S1024x1024.Idx → EReal) (i : S4x1024x1024.Idx) : Cert.StepMlpRefIdeal.Read.val_main_v28 (F := Ideal) x0 x1 x2 x3 x4 x5 x6 i = adD (x0 i) (adM (x1 i) (Cert.StepMlpRefIdeal.Read.val_main_v4 (F := Ideal) x3 x4 x5 x6 i)) (adV (x2 i) (Cert.StepMlpRefIdeal.Read.val_main_v4 (F := Ideal) x3 x4 x5 x6 i)) := by
  simp only [Cert.StepMlpRefIdeal.Read.val_main_v0_apply, Cert.StepMlpRefIdeal.Read.val_main_v1_apply, Cert.StepMlpRefIdeal.Read.val_main_v2_apply, Cert.StepMlpRefIdeal.Read.val_main_v3_apply, Cert.StepMlpRefIdeal.Read.val_main_cst_apply, Cert.StepMlpRefIdeal.Read.val_main_v5_apply, Cert.StepMlpRefIdeal.Read.val_main_v6_apply, Cert.StepMlpRefIdeal.Read.val_main_cst_0_apply, Cert.StepMlpRefIdeal.Read.val_main_v7_apply, Cert.StepMlpRefIdeal.Read.val_main_v8_apply, Cert.StepMlpRefIdeal.Read.val_main_v9_apply, Cert.StepMlpRefIdeal.Read.val_main_cst_1_apply, Cert.StepMlpRefIdeal.Read.val_main_v10_apply, Cert.StepMlpRefIdeal.Read.val_main_v11_apply, Cert.StepMlpRefIdeal.Read.val_main_v12_apply, Cert.StepMlpRefIdeal.Read.val_main_cst_2_apply, Cert.StepMlpRefIdeal.Read.val_main_v13_apply, Cert.StepMlpRefIdeal.Read.val_main_v14_apply, Cert.StepMlpRefIdeal.Read.val_main_v15_apply, Cert.StepMlpRefIdeal.Read.val_main_cst_3_apply, Cert.StepMlpRefIdeal.Read.val_main_v16_apply, Cert.StepMlpRefIdeal.Read.val_main_v17_apply, Cert.StepMlpRefIdeal.Read.val_main_cst_4_apply, Cert.StepMlpRefIdeal.Read.val_main_v18_apply, Cert.StepMlpRefIdeal.Read.val_main_v19_apply, Cert.StepMlpRefIdeal.Read.val_main_v20_apply, Cert.StepMlpRefIdeal.Read.val_main_cst_5_apply, Cert.StepMlpRefIdeal.Read.val_main_v21_apply, Cert.StepMlpRefIdeal.Read.val_main_v22_apply, Cert.StepMlpRefIdeal.Read.val_main_v23_apply, Cert.StepMlpRefIdeal.Read.val_main_cst_6_apply, Cert.StepMlpRefIdeal.Read.val_main_v24_apply, Cert.StepMlpRefIdeal.Read.val_main_v25_apply, Cert.StepMlpRefIdeal.Read.val_main_v26_apply, Cert.StepMlpRefIdeal.Read.val_main_cst_7_apply, Cert.StepMlpRefIdeal.Read.val_main_v27_apply, Cert.StepMlpRefIdeal.Read.val_main_v28_apply]
  rfl

/-- The stacked gradients at a layer. -/
theorem stack0 (u : Fin 4) (h : u.val = 0) (r : Fin 1024) (d : Fin 1024) : Cert.StepMlpRefIdeal.Read.val_main_v4 (F := Ideal) (A3 m c) (A4 m c) (A5 m c) (A6 m c) (ix3 u r d) = A3 m c (ix2 r d) := by
  obtain rfl : u = 0 := Fin.ext h
  generalize hR : A3 m c (ix2 r d) = R
  unfold Cert.StepMlpRefIdeal.Read.val_main_v4 Cert.StepMlpRefIdeal.Read.val_main_v0 Cert.StepMlpRefIdeal.Read.val_main_v1 Cert.StepMlpRefIdeal.Read.val_main_v2 Cert.StepMlpRefIdeal.Read.val_main_v3
  generalize A3 m c = y0, A4 m c = y1, A5 m c = y2, A6 m c = y3 at hR ⊢
  pointwise
  exact hR
theorem stack1 (u : Fin 4) (h : u.val = 1) (r : Fin 1024) (d : Fin 1024) : Cert.StepMlpRefIdeal.Read.val_main_v4 (F := Ideal) (A3 m c) (A4 m c) (A5 m c) (A6 m c) (ix3 u r d) = A4 m c (ix2 r d) := by
  obtain rfl : u = 1 := Fin.ext h
  generalize hR : A4 m c (ix2 r d) = R
  unfold Cert.StepMlpRefIdeal.Read.val_main_v4 Cert.StepMlpRefIdeal.Read.val_main_v0 Cert.StepMlpRefIdeal.Read.val_main_v1 Cert.StepMlpRefIdeal.Read.val_main_v2 Cert.StepMlpRefIdeal.Read.val_main_v3
  generalize A3 m c = y0, A4 m c = y1, A5 m c = y2, A6 m c = y3 at hR ⊢
  pointwise
  exact hR
theorem stack2 (u : Fin 4) (h : u.val = 2) (r : Fin 1024) (d : Fin 1024) : Cert.StepMlpRefIdeal.Read.val_main_v4 (F := Ideal) (A3 m c) (A4 m c) (A5 m c) (A6 m c) (ix3 u r d) = A5 m c (ix2 r d) := by
  obtain rfl : u = 2 := Fin.ext h
  generalize hR : A5 m c (ix2 r d) = R
  unfold Cert.StepMlpRefIdeal.Read.val_main_v4 Cert.StepMlpRefIdeal.Read.val_main_v0 Cert.StepMlpRefIdeal.Read.val_main_v1 Cert.StepMlpRefIdeal.Read.val_main_v2 Cert.StepMlpRefIdeal.Read.val_main_v3
  generalize A3 m c = y0, A4 m c = y1, A5 m c = y2, A6 m c = y3 at hR ⊢
  pointwise
  exact hR
theorem stack3 (u : Fin 4) (h : u.val = 3) (r : Fin 1024) (d : Fin 1024) : Cert.StepMlpRefIdeal.Read.val_main_v4 (F := Ideal) (A3 m c) (A4 m c) (A5 m c) (A6 m c) (ix3 u r d) = A6 m c (ix2 r d) := by
  obtain rfl : u = 3 := Fin.ext h
  generalize hR : A6 m c (ix2 r d) = R
  unfold Cert.StepMlpRefIdeal.Read.val_main_v4 Cert.StepMlpRefIdeal.Read.val_main_v0 Cert.StepMlpRefIdeal.Read.val_main_v1 Cert.StepMlpRefIdeal.Read.val_main_v2 Cert.StepMlpRefIdeal.Read.val_main_v3
  generalize A3 m c = y0, A4 m c = y1, A5 m c = y2, A6 m c = y3 at hR ⊢
  pointwise
  exact hR

theorem g_eq (t : Fin cfg0.N) (r : Fin 256) (d : Fin 1024) : k0_pay5 (grid0.coords t) (View.ld (iblk m c 3 t) r0_0) (View.ld (iblk m c 4 t) r0_0) (View.ld (iblk m c 5 t) r0_0) (View.ld (iblk m c 6 t) r0_0) (ix2 r d) = Cert.StepMlpRefIdeal.Read.val_main_v4 (F := Ideal) (A3 m c) (A4 m c) (A5 m c) (A6 m c) (ix3 (lay t) (row t r) d) := by
  have ht := lt t
  have hc : (grid0.coords t 0).val = t.val / 4 := by simp only [idx t]
  have hl : t.val / 4 = 0 ∨ t.val / 4 = 1 ∨ t.val / 4 = 2 ∨ t.val / 4 = 3 := by omega
  unfold k0_pay5
  rcases hl with h | h | h | h
  · rw [stack0 m c (lay t) h (row t r) d, ← b3 m c t h, hc, h]
    pointwise <;> rfl
  · rw [stack1 m c (lay t) h (row t r) d, ← b4 m c t h, hc, h]
    pointwise <;> rfl
  · rw [stack2 m c (lay t) h (row t r) d, ← b5 m c t h, hc, h]
    pointwise <;> rfl
  · rw [stack3 m c (lay t) h (row t r) d, ← b6 m c t h, hc, h]
    pointwise <;> rfl

theorem arr7 : (dats m 0 c).arrAt 7 cfg0.N = Cert.StepMlpRefIdeal.Read.val_main_v4 (F := Ideal) (A3 m c) (A4 m c) (A5 m c) (A6 m c) := by
  refine (dats m 0 c).arrAt_eq_of_covers 7 _ (by decide +kernel) fun t hf y => ?_
  have ht := lt t
  idx_vars y
  have e : ((cfg0.win 7).blk t).view.emb (ix3 y0 y1 y2) = ix3 (lay t) (row t y1) y2 := by blk_ext [idx t]
  refine Eq.trans ?_ (congrArg (Cert.StepMlpRefIdeal.Read.val_main_v4 (F := Ideal) (A3 m c) (A4 m c) (A5 m c) (A6 m c)) e).symm
  blk_simp
  rw [after0_7]
  refine (out7_apply _ _ _ _ _ _ _ _ y0 y1 y2).trans ?_
  exact g_eq m c t y1 y2

theorem arr8 : (dats m 0 c).arrAt 8 cfg0.N = Cert.StepMlpRefIdeal.Read.val_main_v28 (F := Ideal) (A0 m c) (A1 m c) (A2 m c) (A3 m c) (A4 m c) (A5 m c) (A6 m c) := by
  refine (dats m 0 c).arrAt_eq_of_covers 8 _ (by decide +kernel) fun t hf y => ?_
  have ht := lt t
  idx_vars y
  have e : ((cfg0.win 8).blk t).view.emb (ix3 y0 y1 y2) = ix3 (lay t) (row t y1) y2 := by blk_ext [idx t]
  refine Eq.trans ?_ (congrArg (Cert.StepMlpRefIdeal.Read.val_main_v28 (F := Ideal) (A0 m c) (A1 m c) (A2 m c) (A3 m c) (A4 m c) (A5 m c) (A6 m c)) e).symm
  blk_simp
  rw [after0_8]
  refine (out8_apply _ _ _ _ _ _ _ _ y0 y1 y2).trans ?_
  rw [ref1_apply]
  exact congr (congrArg₂ adD (b0 m c t y0 y1 y2) (congrArg₂ adM (b1 m c t y0 y1 y2) (g_eq m c t y1 y2))) (congrArg₂ adV (b2 m c t y0 y1 y2) (g_eq m c t y1 y2))

theorem arr9 : (dats m 0 c).arrAt 9 cfg0.N = Cert.StepMlpRefIdeal.Read.val_main_v9 (F := Ideal) (A1 m c) (A3 m c) (A4 m c) (A5 m c) (A6 m c) := by
  refine (dats m 0 c).arrAt_eq_of_covers 9 _ (by decide +kernel) fun t hf y => ?_
  have ht := lt t
  idx_vars y
  have e : ((cfg0.win 9).blk t).view.emb (ix3 y0 y1 y2) = ix3 (lay t) (row t y1) y2 := by blk_ext [idx t]
  refine Eq.trans ?_ (congrArg (Cert.StepMlpRefIdeal.Read.val_main_v9 (F := Ideal) (A1 m c) (A3 m c) (A4 m c) (A5 m c) (A6 m c)) e).symm
  blk_simp
  rw [after0_9]
  refine (out9_apply _ _ _ _ _ _ _ _ y0 y1 y2).trans ?_
  rw [ref2_apply]
  exact congrArg₂ adM (b1 m c t y0 y1 y2) (g_eq m c t y1 y2)

theorem arr10 : (dats m 0 c).arrAt 10 cfg0.N = Cert.StepMlpRefIdeal.Read.val_main_v15 (F := Ideal) (A2 m c) (A3 m c) (A4 m c) (A5 m c) (A6 m c) := by
  refine (dats m 0 c).arrAt_eq_of_covers 10 _ (by decide +kernel) fun t hf y => ?_
  have ht := lt t
  idx_vars y
  have e : ((cfg0.win 10).blk t).view.emb (ix3 y0 y1 y2) = ix3 (lay t) (row t y1) y2 := by blk_ext [idx t]
  refine Eq.trans ?_ (congrArg (Cert.StepMlpRefIdeal.Read.val_main_v15 (F := Ideal) (A2 m c) (A3 m c) (A4 m c) (A5 m c) (A6 m c)) e).symm
  blk_simp
  rw [after0_10]
  refine (out10_apply _ _ _ _ _ _ _ _ y0 y1 y2).trans ?_
  rw [ref3_apply]
  exact congrArg₂ adV (b2 m c t y0 y1 y2) (g_eq m c t y1 y2)

end Cert.StepMlpIdeal.Final

end
-- ==== Proof.StepPleGate.lean ====
/- The optimiser's step for the gate over the per-layer embedding: the kernel's arrays are the reference's. -/
module

public import proofs.«01_k».proof.Proof.Gen.StepPleGateIdeal.Value
public import proofs.«01_k».proof.Proof.Gen.StepPleGateRefIdeal.Read
public import Idealize.ShloMosaic.Lib.Pipeline.ValueKit
public import proofs.«01_k».proof.Proof.Opt

@[expose] public section
set_option maxRecDepth 16384
noncomputable section

namespace Cert.StepPleGateIdeal.Final

open Cert.Attn Cert.StepPleGateIdeal Cert.StepPleGateIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S4x256x1024.Idx → EReal := m ((c : Thread nD τ).loc main_arg0)
abbrev A1 : S4x256x1024.Idx → EReal := m ((c : Thread nD τ).loc main_arg1)
abbrev A2 : S4x256x1024.Idx → EReal := m ((c : Thread nD τ).loc main_arg2)
abbrev A3 : S256x1024.Idx → EReal := m ((c : Thread nD τ).loc main_arg3)
abbrev A4 : S256x1024.Idx → EReal := m ((c : Thread nD τ).loc main_arg4)
abbrev A5 : S256x1024.Idx → EReal := m ((c : Thread nD τ).loc main_arg5)
abbrev A6 : S256x1024.Idx → EReal := m ((c : Thread nD τ).loc main_arg6)

theorem e0 : V m c main_arg0 = A0 m c := by
  unfold V
  rfl

theorem e1 : V m c main_arg1 = A1 m c := by
  unfold V
  rfl

theorem e2 : V m c main_arg2 = A2 m c := by
  unfold V
  rfl

theorem e3 : V m c main_arg3 = A3 m c := by
  unfold V
  rfl

theorem e4 : V m c main_arg4 = A4 m c := by
  unfold V
  rfl

theorem e5 : V m c main_arg5 = A5 m c := by
  unfold V
  rfl

theorem e6 : V m c main_arg6 = A6 m c := by
  unfold V
  rfl

theorem idx : ∀ t : Fin cfg0.N, win0_0.index t = ![t.val, 0, 0]
    ∧ win0_1.index t = ![t.val, 0, 0]
    ∧ win0_2.index t = ![t.val, 0, 0]
    ∧ win0_3.index t = ![0, 0]
    ∧ win0_4.index t = ![0, 0]
    ∧ win0_5.index t = ![0, 0]
    ∧ win0_6.index t = ![0, 0]
    ∧ win0_7.index t = ![t.val, 0, 0]
    ∧ win0_8.index t = ![t.val, 0, 0]
    ∧ win0_9.index t = ![t.val, 0, 0]
    ∧ win0_10.index t = ![t.val, 0, 0]
    ∧ (grid0.coords t 0).val = t.val :=
  (by decide +kernel : ∀ t : Fin grid0.N, _)

theorem lt (t : Fin cfg0.N) : t.val < 4 := t.isLt

/-- The place of a block's row in the array. -/
abbrev row (t : Fin cfg0.N) (r : Fin 256) : Fin 256 := r
abbrev lay (t : Fin cfg0.N) : Fin 4 := ⟨t.val, by have := lt t; omega⟩

theorem b0 (t : Fin cfg0.N) (u : Fin 1) (r : Fin 256) (d : Fin 1024) : iblk m c 0 t (ix3 u r d) = A0 m c (ix3 (lay t) (row t r) d) := by
  rw [← e0]; have ht := lt t; blk_ext [iblk, idx t]
theorem b1 (t : Fin cfg0.N) (u : Fin 1) (r : Fin 256) (d : Fin 1024) : iblk m c 1 t (ix3 u r d) = A1 m c (ix3 (lay t) (row t r) d) := by
  rw [← e1]; have ht := lt t; blk_ext [iblk, idx t]
theorem b2 (t : Fin cfg0.N) (u : Fin 1) (r : Fin 256) (d : Fin 1024) : iblk m c 2 t (ix3 u r d) = A2 m c (ix3 (lay t) (row t r) d) := by
  rw [← e2]; have ht := lt t; blk_ext [iblk, idx t]
theorem b3 (t : Fin cfg0.N) (h : t.val = 0) (r : Fin 256) (d : Fin 1024) : iblk m c 3 t (ix2 r d) = A3 m c (ix2 (row t r) d) := by
  rw [← e3]; have ht := lt t; blk_ext [iblk, idx t, h]
theorem b4 (t : Fin cfg0.N) (h : t.val = 1) (r : Fin 256) (d : Fin 1024) : iblk m c 4 t (ix2 r d) = A4 m c (ix2 (row t r) d) := by
  rw [← e4]; have ht := lt t; blk_ext [iblk, idx t, h]
theorem b5 (t : Fin cfg0.N) (h : t.val = 2) (r : Fin 256) (d : Fin 1024) : iblk m c 5 t (ix2 r d) = A5 m c (ix2 (row t r) d) := by
  rw [← e5]; have ht := lt t; blk_ext [iblk, idx t, h]
theorem b6 (t : Fin cfg0.N) (h : t.val = 3) (r : Fin 256) (d : Fin 1024) : iblk m c 6 t (ix2 r d) = A6 m c (ix2 (row t r) d) := by
  rw [← e6]; have ht := lt t; blk_ext [iblk, idx t, h]

theorem out7_apply (i : grid0.Coords) (x0 x1 x2 : Vec Ideal S1x256x1024 .f32) (x3 x4 x5 x6 : Vec Ideal S256x1024 .f32) (u : Fin 1) (r : Fin 256) (d : Fin 1024) : out0_7 i x0 x1 x2 x3 x4 x5 x6 (ix3 u r d) = k0_pay5 i (View.ld x3 r0_0) (View.ld x4 r0_0) (View.ld x5 r0_0) (View.ld x6 r0_0) (ix2 r d) := by
  unfold out0_7
  refine (canon_whole _ _ _ _).trans ?_
  obtain rfl : u = 0 := Subsingleton.elim _ _
  unfold k0_pay4
  generalize k0_pay5 i (View.ld x3 r0_0) (View.ld x4 r0_0) (View.ld x5 r0_0) (View.ld x6 r0_0) = g
  generalize hR : g (ix2 r d) = R
  pointwise
  exact hR

theorem out8_apply (i : grid0.Coords) (x0 x1 x2 : Vec Ideal S1x256x1024 .f32) (x3 x4 x5 x6 : Vec Ideal S256x1024 .f32) (u : Fin 1) (r : Fin 256) (d : Fin 1024) : out0_8 i x0 x1 x2 x3 x4 x5 x6 (ix3 u r d) = adD (x0 (ix3 u r d)) (adM (x1 (ix3 u r d)) (k0_pay5 i (View.ld x3 r0_0) (View.ld x4 r0_0) (View.ld x5 r0_0) (View.ld x6 r0_0) (ix2 r d))) (adV (x2 (ix3 u r d)) (k0_pay5 i (View.ld x3 r0_0) (View.ld x4 r0_0) (View.ld x5 r0_0) (View.ld x6 r0_0) (ix2 r d))) := by
  unfold out0_8
  refine (canon_whole _ _ _ _).trans ?_
  obtain rfl : u = 0 := Subsingleton.elim _ _
  unfold k0_pay1 k0_pay6 k0_pay9 k0_pay10 k0_pay7 k0_pay8
  generalize k0_pay5 i (View.ld x3 r0_0) (View.ld x4 r0_0) (View.ld x5 r0_0) (View.ld x6 r0_0) = g
  generalize hR : adD (x0 (ix3 0 r d)) (adM (x1 (ix3 0 r d)) (g (ix2 r d))) (adV (x2 (ix3 0 r d)) (g (ix2 r d))) = R
  pointwise
  exact hR

theorem out9_apply (i : grid0.Coords) (x0 x1 x2 : Vec Ideal S1x256x1024 .f32) (x3 x4 x5 x6 : Vec Ideal S256x1024 .f32) (u : Fin 1) (r : Fin 256) (d : Fin 1024) : out0_9 i x0 x1 x2 x3 x4 x5 x6 (ix3 u r d) = adM (x1 (ix3 u r d)) (k0_pay5 i (View.ld x3 r0_0) (View.ld x4 r0_0) (View.ld x5 r0_0) (View.ld x6 r0_0) (ix2 r d)) := by
  unfold out0_9
  refine (canon_whole _ _ _ _).trans ?_
  obtain rfl : u = 0 := Subsingleton.elim _ _
  unfold k0_pay2 k0_pay7
  generalize k0_pay5 i (View.ld x3 r0_0) (View.ld x4 r0_0) (View.ld x5 r0_0) (View.ld x6 r0_0) = g
  generalize hR : adM (x1 (ix3 0 r d)) (g (ix2 r d)) = R
  pointwise
  exact hR

theorem out10_apply (i : grid0.Coords) (x0 x1 x2 : Vec Ideal S1x256x1024 .f32) (x3 x4 x5 x6 : Vec Ideal S256x1024 .f32) (u : Fin 1) (r : Fin 256) (d : Fin 1024) : out0_10 i x0 x1 x2 x3 x4 x5 x6 (ix3 u r d) = adV (x2 (ix3 u r d)) (k0_pay5 i (View.ld x3 r0_0) (View.ld x4 r0_0) (View.ld x5 r0_0) (View.ld x6 r0_0) (ix2 r d)) := by
  unfold out0_10
  refine (canon_whole _ _ _ _).trans ?_
  obtain rfl : u = 0 := Subsingleton.elim _ _
  unfold k0_pay3 k0_pay8
  generalize k0_pay5 i (View.ld x3 r0_0) (View.ld x4 r0_0) (View.ld x5 r0_0) (View.ld x6 r0_0) = g
  generalize hR : adV (x2 (ix3 0 r d)) (g (ix2 r d)) = R
  pointwise
  exact hR

theorem ref2_apply (x1 : S4x256x1024.Idx → EReal) (x3 : S256x1024.Idx → EReal) (x4 : S256x1024.Idx → EReal) (x5 : S256x1024.Idx → EReal) (x6 : S256x1024.Idx → EReal) (i : S4x256x1024.Idx) : Cert.StepPleGateRefIdeal.Read.val_main_v9 (F := Ideal) x1 x3 x4 x5 x6 i = adM (x1 i) (Cert.StepPleGateRefIdeal.Read.val_main_v4 (F := Ideal) x3 x4 x5 x6 i) := by
  simp only [Cert.StepPleGateRefIdeal.Read.val_main_v0_apply, Cert.StepPleGateRefIdeal.Read.val_main_v1_apply, Cert.StepPleGateRefIdeal.Read.val_main_v2_apply, Cert.StepPleGateRefIdeal.Read.val_main_v3_apply, Cert.StepPleGateRefIdeal.Read.val_main_cst_apply, Cert.StepPleGateRefIdeal.Read.val_main_v5_apply, Cert.StepPleGateRefIdeal.Read.val_main_v6_apply, Cert.StepPleGateRefIdeal.Read.val_main_cst_0_apply, Cert.StepPleGateRefIdeal.Read.val_main_v7_apply, Cert.StepPleGateRefIdeal.Read.val_main_v8_apply, Cert.StepPleGateRefIdeal.Read.val_main_v9_apply, Cert.StepPleGateRefIdeal.Read.val_main_cst_1_apply, Cert.StepPleGateRefIdeal.Read.val_main_v10_apply, Cert.StepPleGateRefIdeal.Read.val_main_v11_apply, Cert.StepPleGateRefIdeal.Read.val_main_v12_apply, Cert.StepPleGateRefIdeal.Read.val_main_cst_2_apply, Cert.StepPleGateRefIdeal.Read.val_main_v13_apply, Cert.StepPleGateRefIdeal.Read.val_main_v14_apply, Cert.StepPleGateRefIdeal.Read.val_main_v15_apply, Cert.StepPleGateRefIdeal.Read.val_main_cst_3_apply, Cert.StepPleGateRefIdeal.Read.val_main_v16_apply, Cert.StepPleGateRefIdeal.Read.val_main_v17_apply, Cert.StepPleGateRefIdeal.Read.val_main_cst_4_apply, Cert.StepPleGateRefIdeal.Read.val_main_v18_apply, Cert.StepPleGateRefIdeal.Read.val_main_v19_apply, Cert.StepPleGateRefIdeal.Read.val_main_v20_apply, Cert.StepPleGateRefIdeal.Read.val_main_cst_5_apply, Cert.StepPleGateRefIdeal.Read.val_main_v21_apply, Cert.StepPleGateRefIdeal.Read.val_main_v22_apply, Cert.StepPleGateRefIdeal.Read.val_main_v23_apply, Cert.StepPleGateRefIdeal.Read.val_main_cst_6_apply, Cert.StepPleGateRefIdeal.Read.val_main_v24_apply, Cert.StepPleGateRefIdeal.Read.val_main_v25_apply, Cert.StepPleGateRefIdeal.Read.val_main_v26_apply, Cert.StepPleGateRefIdeal.Read.val_main_cst_7_apply, Cert.StepPleGateRefIdeal.Read.val_main_v27_apply, Cert.StepPleGateRefIdeal.Read.val_main_v28_apply]
  rfl

theorem ref3_apply (x2 : S4x256x1024.Idx → EReal) (x3 : S256x1024.Idx → EReal) (x4 : S256x1024.Idx → EReal) (x5 : S256x1024.Idx → EReal) (x6 : S256x1024.Idx → EReal) (i : S4x256x1024.Idx) : Cert.StepPleGateRefIdeal.Read.val_main_v15 (F := Ideal) x2 x3 x4 x5 x6 i = adV (x2 i) (Cert.StepPleGateRefIdeal.Read.val_main_v4 (F := Ideal) x3 x4 x5 x6 i) := by
  simp only [Cert.StepPleGateRefIdeal.Read.val_main_v0_apply, Cert.StepPleGateRefIdeal.Read.val_main_v1_apply, Cert.StepPleGateRefIdeal.Read.val_main_v2_apply, Cert.StepPleGateRefIdeal.Read.val_main_v3_apply, Cert.StepPleGateRefIdeal.Read.val_main_cst_apply, Cert.StepPleGateRefIdeal.Read.val_main_v5_apply, Cert.StepPleGateRefIdeal.Read.val_main_v6_apply, Cert.StepPleGateRefIdeal.Read.val_main_cst_0_apply, Cert.StepPleGateRefIdeal.Read.val_main_v7_apply, Cert.StepPleGateRefIdeal.Read.val_main_v8_apply, Cert.StepPleGateRefIdeal.Read.val_main_v9_apply, Cert.StepPleGateRefIdeal.Read.val_main_cst_1_apply, Cert.StepPleGateRefIdeal.Read.val_main_v10_apply, Cert.StepPleGateRefIdeal.Read.val_main_v11_apply, Cert.StepPleGateRefIdeal.Read.val_main_v12_apply, Cert.StepPleGateRefIdeal.Read.val_main_cst_2_apply, Cert.StepPleGateRefIdeal.Read.val_main_v13_apply, Cert.StepPleGateRefIdeal.Read.val_main_v14_apply, Cert.StepPleGateRefIdeal.Read.val_main_v15_apply, Cert.StepPleGateRefIdeal.Read.val_main_cst_3_apply, Cert.StepPleGateRefIdeal.Read.val_main_v16_apply, Cert.StepPleGateRefIdeal.Read.val_main_v17_apply, Cert.StepPleGateRefIdeal.Read.val_main_cst_4_apply, Cert.StepPleGateRefIdeal.Read.val_main_v18_apply, Cert.StepPleGateRefIdeal.Read.val_main_v19_apply, Cert.StepPleGateRefIdeal.Read.val_main_v20_apply, Cert.StepPleGateRefIdeal.Read.val_main_cst_5_apply, Cert.StepPleGateRefIdeal.Read.val_main_v21_apply, Cert.StepPleGateRefIdeal.Read.val_main_v22_apply, Cert.StepPleGateRefIdeal.Read.val_main_v23_apply, Cert.StepPleGateRefIdeal.Read.val_main_cst_6_apply, Cert.StepPleGateRefIdeal.Read.val_main_v24_apply, Cert.StepPleGateRefIdeal.Read.val_main_v25_apply, Cert.StepPleGateRefIdeal.Read.val_main_v26_apply, Cert.StepPleGateRefIdeal.Read.val_main_cst_7_apply, Cert.StepPleGateRefIdeal.Read.val_main_v27_apply, Cert.StepPleGateRefIdeal.Read.val_main_v28_apply]
  rfl

theorem ref1_apply (x0 : S4x256x1024.Idx → EReal) (x1 : S4x256x1024.Idx → EReal) (x2 : S4x256x1024.Idx → EReal) (x3 : S256x1024.Idx → EReal) (x4 : S256x1024.Idx → EReal) (x5 : S256x1024.Idx → EReal) (x6 : S256x1024.Idx → EReal) (i : S4x256x1024.Idx) : Cert.StepPleGateRefIdeal.Read.val_main_v28 (F := Ideal) x0 x1 x2 x3 x4 x5 x6 i = adD (x0 i) (adM (x1 i) (Cert.StepPleGateRefIdeal.Read.val_main_v4 (F := Ideal) x3 x4 x5 x6 i)) (adV (x2 i) (Cert.StepPleGateRefIdeal.Read.val_main_v4 (F := Ideal) x3 x4 x5 x6 i)) := by
  simp only [Cert.StepPleGateRefIdeal.Read.val_main_v0_apply, Cert.StepPleGateRefIdeal.Read.val_main_v1_apply, Cert.StepPleGateRefIdeal.Read.val_main_v2_apply, Cert.StepPleGateRefIdeal.Read.val_main_v3_apply, Cert.StepPleGateRefIdeal.Read.val_main_cst_apply, Cert.StepPleGateRefIdeal.Read.val_main_v5_apply, Cert.StepPleGateRefIdeal.Read.val_main_v6_apply, Cert.StepPleGateRefIdeal.Read.val_main_cst_0_apply, Cert.StepPleGateRefIdeal.Read.val_main_v7_apply, Cert.StepPleGateRefIdeal.Read.val_main_v8_apply, Cert.StepPleGateRefIdeal.Read.val_main_v9_apply, Cert.StepPleGateRefIdeal.Read.val_main_cst_1_apply, Cert.StepPleGateRefIdeal.Read.val_main_v10_apply, Cert.StepPleGateRefIdeal.Read.val_main_v11_apply, Cert.StepPleGateRefIdeal.Read.val_main_v12_apply, Cert.StepPleGateRefIdeal.Read.val_main_cst_2_apply, Cert.StepPleGateRefIdeal.Read.val_main_v13_apply, Cert.StepPleGateRefIdeal.Read.val_main_v14_apply, Cert.StepPleGateRefIdeal.Read.val_main_v15_apply, Cert.StepPleGateRefIdeal.Read.val_main_cst_3_apply, Cert.StepPleGateRefIdeal.Read.val_main_v16_apply, Cert.StepPleGateRefIdeal.Read.val_main_v17_apply, Cert.StepPleGateRefIdeal.Read.val_main_cst_4_apply, Cert.StepPleGateRefIdeal.Read.val_main_v18_apply, Cert.StepPleGateRefIdeal.Read.val_main_v19_apply, Cert.StepPleGateRefIdeal.Read.val_main_v20_apply, Cert.StepPleGateRefIdeal.Read.val_main_cst_5_apply, Cert.StepPleGateRefIdeal.Read.val_main_v21_apply, Cert.StepPleGateRefIdeal.Read.val_main_v22_apply, Cert.StepPleGateRefIdeal.Read.val_main_v23_apply, Cert.StepPleGateRefIdeal.Read.val_main_cst_6_apply, Cert.StepPleGateRefIdeal.Read.val_main_v24_apply, Cert.StepPleGateRefIdeal.Read.val_main_v25_apply, Cert.StepPleGateRefIdeal.Read.val_main_v26_apply, Cert.StepPleGateRefIdeal.Read.val_main_cst_7_apply, Cert.StepPleGateRefIdeal.Read.val_main_v27_apply, Cert.StepPleGateRefIdeal.Read.val_main_v28_apply]
  rfl

/-- The stacked gradients at a layer. -/
theorem stack0 (u : Fin 4) (h : u.val = 0) (r : Fin 256) (d : Fin 1024) : Cert.StepPleGateRefIdeal.Read.val_main_v4 (F := Ideal) (A3 m c) (A4 m c) (A5 m c) (A6 m c) (ix3 u r d) = A3 m c (ix2 r d) := by
  obtain rfl : u = 0 := Fin.ext h
  generalize hR : A3 m c (ix2 r d) = R
  unfold Cert.StepPleGateRefIdeal.Read.val_main_v4 Cert.StepPleGateRefIdeal.Read.val_main_v0 Cert.StepPleGateRefIdeal.Read.val_main_v1 Cert.StepPleGateRefIdeal.Read.val_main_v2 Cert.StepPleGateRefIdeal.Read.val_main_v3
  generalize A3 m c = y0, A4 m c = y1, A5 m c = y2, A6 m c = y3 at hR ⊢
  pointwise
  exact hR
theorem stack1 (u : Fin 4) (h : u.val = 1) (r : Fin 256) (d : Fin 1024) : Cert.StepPleGateRefIdeal.Read.val_main_v4 (F := Ideal) (A3 m c) (A4 m c) (A5 m c) (A6 m c) (ix3 u r d) = A4 m c (ix2 r d) := by
  obtain rfl : u = 1 := Fin.ext h
  generalize hR : A4 m c (ix2 r d) = R
  unfold Cert.StepPleGateRefIdeal.Read.val_main_v4 Cert.StepPleGateRefIdeal.Read.val_main_v0 Cert.StepPleGateRefIdeal.Read.val_main_v1 Cert.StepPleGateRefIdeal.Read.val_main_v2 Cert.StepPleGateRefIdeal.Read.val_main_v3
  generalize A3 m c = y0, A4 m c = y1, A5 m c = y2, A6 m c = y3 at hR ⊢
  pointwise
  exact hR
theorem stack2 (u : Fin 4) (h : u.val = 2) (r : Fin 256) (d : Fin 1024) : Cert.StepPleGateRefIdeal.Read.val_main_v4 (F := Ideal) (A3 m c) (A4 m c) (A5 m c) (A6 m c) (ix3 u r d) = A5 m c (ix2 r d) := by
  obtain rfl : u = 2 := Fin.ext h
  generalize hR : A5 m c (ix2 r d) = R
  unfold Cert.StepPleGateRefIdeal.Read.val_main_v4 Cert.StepPleGateRefIdeal.Read.val_main_v0 Cert.StepPleGateRefIdeal.Read.val_main_v1 Cert.StepPleGateRefIdeal.Read.val_main_v2 Cert.StepPleGateRefIdeal.Read.val_main_v3
  generalize A3 m c = y0, A4 m c = y1, A5 m c = y2, A6 m c = y3 at hR ⊢
  pointwise
  exact hR
theorem stack3 (u : Fin 4) (h : u.val = 3) (r : Fin 256) (d : Fin 1024) : Cert.StepPleGateRefIdeal.Read.val_main_v4 (F := Ideal) (A3 m c) (A4 m c) (A5 m c) (A6 m c) (ix3 u r d) = A6 m c (ix2 r d) := by
  obtain rfl : u = 3 := Fin.ext h
  generalize hR : A6 m c (ix2 r d) = R
  unfold Cert.StepPleGateRefIdeal.Read.val_main_v4 Cert.StepPleGateRefIdeal.Read.val_main_v0 Cert.StepPleGateRefIdeal.Read.val_main_v1 Cert.StepPleGateRefIdeal.Read.val_main_v2 Cert.StepPleGateRefIdeal.Read.val_main_v3
  generalize A3 m c = y0, A4 m c = y1, A5 m c = y2, A6 m c = y3 at hR ⊢
  pointwise
  exact hR

theorem g_eq (t : Fin cfg0.N) (r : Fin 256) (d : Fin 1024) : k0_pay5 (grid0.coords t) (View.ld (iblk m c 3 t) r0_0) (View.ld (iblk m c 4 t) r0_0) (View.ld (iblk m c 5 t) r0_0) (View.ld (iblk m c 6 t) r0_0) (ix2 r d) = Cert.StepPleGateRefIdeal.Read.val_main_v4 (F := Ideal) (A3 m c) (A4 m c) (A5 m c) (A6 m c) (ix3 (lay t) (row t r) d) := by
  have ht := lt t
  have hc : (grid0.coords t 0).val = t.val := by simp only [idx t]
  have hl : t.val = 0 ∨ t.val = 1 ∨ t.val = 2 ∨ t.val = 3 := by omega
  unfold k0_pay5
  rcases hl with h | h | h | h
  · rw [stack0 m c (lay t) h (row t r) d, ← b3 m c t h, hc, h]
    pointwise <;> rfl
  · rw [stack1 m c (lay t) h (row t r) d, ← b4 m c t h, hc, h]
    pointwise <;> rfl
  · rw [stack2 m c (lay t) h (row t r) d, ← b5 m c t h, hc, h]
    pointwise <;> rfl
  · rw [stack3 m c (lay t) h (row t r) d, ← b6 m c t h, hc, h]
    pointwise <;> rfl

theorem arr7 : (dats m 0 c).arrAt 7 cfg0.N = Cert.StepPleGateRefIdeal.Read.val_main_v4 (F := Ideal) (A3 m c) (A4 m c) (A5 m c) (A6 m c) := by
  refine (dats m 0 c).arrAt_eq_of_covers 7 _ (by decide +kernel) fun t hf y => ?_
  have ht := lt t
  idx_vars y
  have e : ((cfg0.win 7).blk t).view.emb (ix3 y0 y1 y2) = ix3 (lay t) (row t y1) y2 := by blk_ext [idx t]
  refine Eq.trans ?_ (congrArg (Cert.StepPleGateRefIdeal.Read.val_main_v4 (F := Ideal) (A3 m c) (A4 m c) (A5 m c) (A6 m c)) e).symm
  blk_simp
  rw [after0_7]
  refine (out7_apply _ _ _ _ _ _ _ _ y0 y1 y2).trans ?_
  exact g_eq m c t y1 y2

theorem arr8 : (dats m 0 c).arrAt 8 cfg0.N = Cert.StepPleGateRefIdeal.Read.val_main_v28 (F := Ideal) (A0 m c) (A1 m c) (A2 m c) (A3 m c) (A4 m c) (A5 m c) (A6 m c) := by
  refine (dats m 0 c).arrAt_eq_of_covers 8 _ (by decide +kernel) fun t hf y => ?_
  have ht := lt t
  idx_vars y
  have e : ((cfg0.win 8).blk t).view.emb (ix3 y0 y1 y2) = ix3 (lay t) (row t y1) y2 := by blk_ext [idx t]
  refine Eq.trans ?_ (congrArg (Cert.StepPleGateRefIdeal.Read.val_main_v28 (F := Ideal) (A0 m c) (A1 m c) (A2 m c) (A3 m c) (A4 m c) (A5 m c) (A6 m c)) e).symm
  blk_simp
  rw [after0_8]
  refine (out8_apply _ _ _ _ _ _ _ _ y0 y1 y2).trans ?_
  rw [ref1_apply]
  exact congr (congrArg₂ adD (b0 m c t y0 y1 y2) (congrArg₂ adM (b1 m c t y0 y1 y2) (g_eq m c t y1 y2))) (congrArg₂ adV (b2 m c t y0 y1 y2) (g_eq m c t y1 y2))

theorem arr9 : (dats m 0 c).arrAt 9 cfg0.N = Cert.StepPleGateRefIdeal.Read.val_main_v9 (F := Ideal) (A1 m c) (A3 m c) (A4 m c) (A5 m c) (A6 m c) := by
  refine (dats m 0 c).arrAt_eq_of_covers 9 _ (by decide +kernel) fun t hf y => ?_
  have ht := lt t
  idx_vars y
  have e : ((cfg0.win 9).blk t).view.emb (ix3 y0 y1 y2) = ix3 (lay t) (row t y1) y2 := by blk_ext [idx t]
  refine Eq.trans ?_ (congrArg (Cert.StepPleGateRefIdeal.Read.val_main_v9 (F := Ideal) (A1 m c) (A3 m c) (A4 m c) (A5 m c) (A6 m c)) e).symm
  blk_simp
  rw [after0_9]
  refine (out9_apply _ _ _ _ _ _ _ _ y0 y1 y2).trans ?_
  rw [ref2_apply]
  exact congrArg₂ adM (b1 m c t y0 y1 y2) (g_eq m c t y1 y2)

theorem arr10 : (dats m 0 c).arrAt 10 cfg0.N = Cert.StepPleGateRefIdeal.Read.val_main_v15 (F := Ideal) (A2 m c) (A3 m c) (A4 m c) (A5 m c) (A6 m c) := by
  refine (dats m 0 c).arrAt_eq_of_covers 10 _ (by decide +kernel) fun t hf y => ?_
  have ht := lt t
  idx_vars y
  have e : ((cfg0.win 10).blk t).view.emb (ix3 y0 y1 y2) = ix3 (lay t) (row t y1) y2 := by blk_ext [idx t]
  refine Eq.trans ?_ (congrArg (Cert.StepPleGateRefIdeal.Read.val_main_v15 (F := Ideal) (A2 m c) (A3 m c) (A4 m c) (A5 m c) (A6 m c)) e).symm
  blk_simp
  rw [after0_10]
  refine (out10_apply _ _ _ _ _ _ _ _ y0 y1 y2).trans ?_
  rw [ref3_apply]
  exact congrArg₂ adV (b2 m c t y0 y1 y2) (g_eq m c t y1 y2)

end Cert.StepPleGateIdeal.Final

end
-- ==== Proof.StepPleProj.lean ====
/- The optimiser's step for the projection of the per-layer embedding: the kernel's arrays are the reference's. -/
module

public import proofs.«01_k».proof.Proof.Gen.StepPleProjIdeal.Value
public import proofs.«01_k».proof.Proof.Gen.StepPleProjRefIdeal.Read
public import Idealize.ShloMosaic.Lib.Pipeline.ValueKit
public import proofs.«01_k».proof.Proof.Opt

@[expose] public section
set_option maxRecDepth 16384
noncomputable section

namespace Cert.StepPleProjIdeal.Final

open Cert.Attn Cert.StepPleProjIdeal Cert.StepPleProjIdeal.Gen Idealize.ShloMosaic Idealize.ShloMosaic.TcCoe Idealize.SL.Sem Idealize.ShloMosaic.StableHlo

variable (m : (ℓ : Loc nD τ sig) → Buf (Elt Ideal) ℓ) (c : Dev nD)

/-- An argument of the program on a device. -/
abbrev A0 : S4x256x256.Idx → EReal := m ((c : Thread nD τ).loc main_arg0)
abbrev A1 : S4x256x256.Idx → EReal := m ((c : Thread nD τ).loc main_arg1)
abbrev A2 : S4x256x256.Idx → EReal := m ((c : Thread nD τ).loc main_arg2)
abbrev A3 : S256x256.Idx → EReal := m ((c : Thread nD τ).loc main_arg3)
abbrev A4 : S256x256.Idx → EReal := m ((c : Thread nD τ).loc main_arg4)
abbrev A5 : S256x256.Idx → EReal := m ((c : Thread nD τ).loc main_arg5)
abbrev A6 : S256x256.Idx → EReal := m ((c : Thread nD τ).loc main_arg6)

theorem e0 : V m c main_arg0 = A0 m c := by
  unfold V
  rfl

theorem e1 : V m c main_arg1 = A1 m c := by
  unfold V
  rfl

theorem e2 : V m c main_arg2 = A2 m c := by
  unfold V
  rfl

theorem e3 : V m c main_arg3 = A3 m c := by
  unfold V
  rfl

theorem e4 : V m c main_arg4 = A4 m c := by
  unfold V
  rfl

theorem e5 : V m c main_arg5 = A5 m c := by
  unfold V
  rfl

theorem e6 : V m c main_arg6 = A6 m c := by
  unfold V
  rfl

theorem idx : ∀ t : Fin cfg0.N, win0_0.index t = ![t.val, 0, 0]
    ∧ win0_1.index t = ![t.val, 0, 0]
    ∧ win0_2.index t = ![t.val, 0, 0]
    ∧ win0_3.index t = ![0, 0]
    ∧ win0_4.index t = ![0, 0]
    ∧ win0_5.index t = ![0, 0]
    ∧ win0_6.index t = ![0, 0]
    ∧ win0_7.index t = ![t.val, 0, 0]
    ∧ win0_8.index t = ![t.val, 0, 0]
    ∧ win0_9.index t = ![t.val, 0, 0]
    ∧ win0_10.index t = ![t.val, 0, 0]
    ∧ (grid0.coords t 0).val = t.val :=
  (by decide +kernel : ∀ t : Fin grid0.N, _)

theorem lt (t : Fin cfg0.N) : t.val < 4 := t.isLt

/-- The place of a block's row in the array. -/
abbrev row (t : Fin cfg0.N) (r : Fin 256) : Fin 256 := r
abbrev lay (t : Fin cfg0.N) : Fin 4 := ⟨t.val, by have := lt t; omega⟩

theorem b0 (t : Fin cfg0.N) (u : Fin 1) (r : Fin 256) (d : Fin 256) : iblk m c 0 t (ix3 u r d) = A0 m c (ix3 (lay t) (row t r) d) := by
  rw [← e0]; have ht := lt t; blk_ext [iblk, idx t]
theorem b1 (t : Fin cfg0.N) (u : Fin 1) (r : Fin 256) (d : Fin 256) : iblk m c 1 t (ix3 u r d) = A1 m c (ix3 (lay t) (row t r) d) := by
  rw [← e1]; have ht := lt t; blk_ext [iblk, idx t]
theorem b2 (t : Fin cfg0.N) (u : Fin 1) (r : Fin 256) (d : Fin 256) : iblk m c 2 t (ix3 u r d) = A2 m c (ix3 (lay t) (row t r) d) := by
  rw [← e2]; have ht := lt t; blk_ext [iblk, idx t]
theorem b3 (t : Fin cfg0.N) (h : t.val = 0) (r : Fin 256) (d : Fin 256) : iblk m c 3 t (ix2 r d) = A3 m c (ix2 (row t r) d) := by
  rw [← e3]; have ht := lt t; blk_ext [iblk, idx t, h]
theorem b4 (t : Fin cfg0.N) (h : t.val = 1) (r : Fin 256) (d : Fin 256) : iblk m c 4 t (ix2 r d) = A4 m c (ix2 (row t r) d) := by
  rw [← e4]; have ht := lt t; blk_ext [iblk, idx t, h]
theorem b5 (t : Fin cfg0.N) (h : t.val = 2) (r : Fin 256) (d : Fin 256) : iblk m c 5 t (ix2 r d) = A5 m c (ix2 (row t r) d) := by
  rw [← e5]; have ht := lt t; blk_ext [iblk, idx t, h]
theorem b6 (t : Fin cfg0.N) (h : t.val = 3) (r : Fin 256) (d : Fin 256) : iblk m c 6 t (ix2 r d) = A6 m c (ix2 (row t r) d) := by
  rw [← e6]; have ht := lt t; blk_ext [iblk, idx t, h]

theorem out7_apply (i : grid0.Coords) (x0 x1 x2 : Vec Ideal S1x256x256 .f32) (x3 x4 x5 x6 : Vec Ideal S256x256 .f32) (u : Fin 1) (r : Fin 256) (d : Fin 256) : out0_7 i x0 x1 x2 x3 x4 x5 x6 (ix3 u r d) = k0_pay5 i (View.ld x3 r0_0) (View.ld x4 r0_0) (View.ld x5 r0_0) (View.ld x6 r0_0) (ix2 r d) := by
  unfold out0_7
  refine (canon_whole _ _ _ _).trans ?_
  obtain rfl : u = 0 := Subsingleton.elim _ _
  unfold k0_pay4
  generalize k0_pay5 i (View.ld x3 r0_0) (View.ld x4 r0_0) (View.ld x5 r0_0) (View.ld x6 r0_0) = g
  generalize hR : g (ix2 r d) = R
  pointwise
  exact hR

theorem out8_apply (i : grid0.Coords) (x0 x1 x2 : Vec Ideal S1x256x256 .f32) (x3 x4 x5 x6 : Vec Ideal S256x256 .f32) (u : Fin 1) (r : Fin 256) (d : Fin 256) : out0_8 i x0 x1 x2 x3 x4 x5 x6 (ix3 u r d) = adD (x0 (ix3 u r d)) (adM (x1 (ix3 u r d)) (k0_pay5 i (View.ld x3 r0_0) (View.ld x4 r0_0) (View.ld x5 r0_0) (View.ld x6 r0_0) (ix2 r d))) (adV (x2 (ix3 u r d)) (k0_pay5 i (View.ld x3 r0_0) (View.ld x4 r0_0) (View.ld x5 r0_0) (View.ld x6 r0_0) (ix2 r d))) := by
  unfold out0_8
  refine (canon_whole _ _ _ _).trans ?_
  obtain rfl : u = 0 := Subsingleton.elim _ _
  unfold k0_pay1 k0_pay6 k0_pay9 k0_pay10 k0_pay7 k0_pay8
  generalize k0_pay5 i (View.ld x3 r0_0) (View.ld x4 r0_0) (View.ld x5 r0_0) (View.ld x6 r0_0) = g
  generalize hR : adD (x0 (ix3 0 r d)) (adM (x1 (ix3 0 r d)) (g (ix2 r d))) (adV (x2 (ix3 0 r d)) (g (ix2 r d))) = R
  pointwise
  exact hR

theorem out9_apply (i : grid0.Coords) (x0 x1 x2 : Vec Ideal S1x256x256 .f32) (x3 x4 x5 x6 : Vec Ideal S256x256 .f32) (u : Fin 1) (r : Fin 256) (d : Fin 256) : out0_9 i x0 x1 x2 x3 x4 x5 x6 (ix3 u r d) = adM (x1 (ix3 u r d)) (k0_pay5 i (View.ld x3 r0_0) (View.ld x4 r0_0) (View.ld x5 r0_0) (View.ld x6 r0_0) (ix2 r d)) := by
  unfold out0_9
  refine (canon_whole _ _ _ _).trans ?_
  obtain rfl : u = 0 := Subsingleton.elim _ _
  unfold k0_pay2 k0_pay7
  generalize k0_pay5 i (View.ld x3 r0_0) (View.ld x4 r0_0) (View.ld x5 r0_0) (View.ld x6 r0_0) = g
  generalize hR : adM (x1 (ix3 0 r d)) (g (ix2 r d)) = R
  pointwise
  exact hR

theorem out10_apply (i : grid0.Coords) (x0 x1 x2 : Vec Ideal S1x256x256 .f32) (x3 x4 x5 x6 : Vec Ideal S256x256 .f32) (u : Fin 1) (r : Fin 256) (d : Fin 256) : out0_10 i x0 x1 x2 x3 x4 x5 x6 (ix3 u r d) = adV (x2 (ix3 u r d)) (k0_pay5 i (View.ld x3 r0_0) (View.ld x4 r0_0) (View.ld x5 r0_0) (View.ld x6 r0_0) (ix2 r d)) := by
  unfold out0_10
  refine (canon_whole _ _ _ _).trans ?_
  obtain rfl : u = 0 := Subsingleton.elim _ _
  unfold k0_pay3 k0_pay8
  generalize k0_pay5 i (View.ld x3 r0_0) (View.ld x4 r0_0) (View.ld x5 r0_0) (View.ld x6 r0_0) = g
  generalize hR : adV (x2 (ix3 0 r d)) (g (ix2 r d)) = R
  pointwise
  exact hR

theorem ref2_apply (x1 : S4x256x256.Idx → EReal) (x3 : S256x256.Idx → EReal) (x4 : S256x256.Idx → EReal) (x5 : S256x256.Idx → EReal) (x6 : S256x256.Idx → EReal) (i : S4x256x256.Idx) : Cert.StepPleProjRefIdeal.Read.val_main_v9 (F := Ideal) x1 x3 x4 x5 x6 i = adM (x1 i) (Cert.StepPleProjRefIdeal.Read.val_main_v4 (F := Ideal) x3 x4 x5 x6 i) := by
  simp only [Cert.StepPleProjRefIdeal.Read.val_main_v0_apply, Cert.StepPleProjRefIdeal.Read.val_main_v1_apply, Cert.StepPleProjRefIdeal.Read.val_main_v2_apply, Cert.StepPleProjRefIdeal.Read.val_main_v3_apply, Cert.StepPleProjRefIdeal.Read.val_main_cst_apply, Cert.StepPleProjRefIdeal.Read.val_main_v5_apply, Cert.StepPleProjRefIdeal.Read.val_main_v6_apply, Cert.StepPleProjRefIdeal.Read.val_main_cst_0_apply, Cert.StepPleProjRefIdeal.Read.val_main_v7_apply, Cert.StepPleProjRefIdeal.Read.val_main_v8_apply, Cert.StepPleProjRefIdeal.Read.val_main_v9_apply, Cert.StepPleProjRefIdeal.Read.val_main_cst_1_apply, Cert.StepPleProjRefIdeal.Read.val_main_v10_apply, Cert.StepPleProjRefIdeal.Read.val_main_v11_apply, Cert.StepPleProjRefIdeal.Read.val_main_v12_apply, Cert.StepPleProjRefIdeal.Read.val_main_cst_2_apply, Cert.StepPleProjRefIdeal.Read.val_main_v13_apply, Cert.StepPleProjRefIdeal.Read.val_main_v14_apply, Cert.StepPleProjRefIdeal.Read.val_main_v15_apply, Cert.StepPleProjRefIdeal.Read.val_main_cst_3_apply, Cert.StepPleProjRefIdeal.Read.val_main_v16_apply, Cert.StepPleProjRefIdeal.Read.val_main_v17_apply, Cert.StepPleProjRefIdeal.Read.val_main_cst_4_apply, Cert.StepPleProjRefIdeal.Read.val_main_v18_apply, Cert.StepPleProjRefIdeal.Read.val_main_v19_apply, Cert.StepPleProjRefIdeal.Read.val_main_v20_apply, Cert.StepPleProjRefIdeal.Read.val_main_cst_5_apply, Cert.StepPleProjRefIdeal.Read.val_main_v21_apply, Cert.StepPleProjRefIdeal.Read.val_main_v22_apply, Cert.StepPleProjRefIdeal.Read.val_main_v23_apply, Cert.StepPleProjRefIdeal.Read.val_main_cst_6_apply, Cert.StepPleProjRefIdeal.Read.val_main_v24_apply, Cert.StepPleProjRefIdeal.Read.val_main_v25_apply, Cert.StepPleProjRefIdeal.Read.val_main_v26_apply, Cert.StepPleProjRefIdeal.Read.val_main_cst_7_apply, Cert.StepPleProjRefIdeal.Read.val_main_v27_apply, Cert.StepPleProjRefIdeal.Read.val_main_v28_apply]
  rfl

theorem ref3_apply (x2 : S4x256x256.Idx → EReal) (x3 : S256x256.Idx → EReal) (x4 : S256x256.Idx → EReal) (x5 : S256x256.Idx → EReal) (x6 : S256x256.Idx → EReal) (i : S4x256x256.Idx) : Cert.StepPleProjRefIdeal.Read.val_main_v15 (F := Ideal) x2 x3 x4 x5 x6 i = adV (x2 i) (Cert.StepPleProjRefIdeal.Read.val_main_v4 (F := Ideal) x3 x4 x5 x6 i) := by
  simp only [Cert.StepPleProjRefIdeal.Read.val_main_v0_apply, Cert.StepPleProjRefIdeal.Read.val_main_v1_apply, Cert.StepPleProjRefIdeal.Read.val_main_v2_apply, Cert.StepPleProjRefIdeal.Read.val_main_v3_apply, Cert.StepPleProjRefIdeal.Read.val_main_cst_apply, Cert.StepPleProjRefIdeal.Read.val_main_v5_apply, Cert.StepPleProjRefIdeal.Read.val_main_v6_apply, Cert.StepPleProjRefIdeal.Read.val_main_cst_0_apply, Cert.StepPleProjRefIdeal.Read.val_main_v7_apply, Cert.StepPleProjRefIdeal.Read.val_main_v8_apply, Cert.StepPleProjRefIdeal.Read.val_main_v9_apply, Cert.StepPleProjRefIdeal.Read.val_main_cst_1_apply, Cert.StepPleProjRefIdeal.Read.val_main_v10_apply, Cert.StepPleProjRefIdeal.Read.val_main_v11_apply, Cert.StepPleProjRefIdeal.Read.val_main_v12_apply, Cert.StepPleProjRefIdeal.Read.val_main_cst_2_apply, Cert.StepPleProjRefIdeal.Read.val_main_v13_apply, Cert.StepPleProjRefIdeal.Read.val_main_v14_apply, Cert.StepPleProjRefIdeal.Read.val_main_v15_apply, Cert.StepPleProjRefIdeal.Read.val_main_cst_3_apply, Cert.StepPleProjRefIdeal.Read.val_main_v16_apply, Cert.StepPleProjRefIdeal.Read.val_main_v17_apply, Cert.StepPleProjRefIdeal.Read.val_main_cst_4_apply, Cert.StepPleProjRefIdeal.Read.val_main_v18_apply, Cert.StepPleProjRefIdeal.Read.val_main_v19_apply, Cert.StepPleProjRefIdeal.Read.val_main_v20_apply, Cert.StepPleProjRefIdeal.Read.val_main_cst_5_apply, Cert.StepPleProjRefIdeal.Read.val_main_v21_apply, Cert.StepPleProjRefIdeal.Read.val_main_v22_apply, Cert.StepPleProjRefIdeal.Read.val_main_v23_apply, Cert.StepPleProjRefIdeal.Read.val_main_cst_6_apply, Cert.StepPleProjRefIdeal.Read.val_main_v24_apply, Cert.StepPleProjRefIdeal.Read.val_main_v25_apply, Cert.StepPleProjRefIdeal.Read.val_main_v26_apply, Cert.StepPleProjRefIdeal.Read.val_main_cst_7_apply, Cert.StepPleProjRefIdeal.Read.val_main_v27_apply, Cert.StepPleProjRefIdeal.Read.val_main_v28_apply]
  rfl

theorem ref1_apply (x0 : S4x256x256.Idx → EReal) (x1 : S4x256x256.Idx → EReal) (x2 : S4x256x256.Idx → EReal) (x3 : S256x256.Idx → EReal) (x4 : S256x256.Idx → EReal) (x5 : S256x256.Idx → EReal) (x6 : S256x256.Idx → EReal) (i : S4x256x256.Idx) : Cert.StepPleProjRefIdeal.Read.val_main_v28 (F := Ideal) x0 x1 x2 x3 x4 x5 x6 i = adD (x0 i) (adM (x1 i) (Cert.StepPleProjRefIdeal.Read.val_main_v4 (F := Ideal) x3 x4 x5 x6 i)) (adV (x2 i) (Cert.StepPleProjRefIdeal.Read.val_main_v4 (F := Ideal) x3 x4 x5 x6 i)) := by
  simp only [Cert.StepPleProjRefIdeal.Read.val_main_v0_apply, Cert.StepPleProjRefIdeal.Read.val_main_v1_apply, Cert.StepPleProjRefIdeal.Read.val_main_v2_apply, Cert.StepPleProjRefIdeal.Read.val_main_v3_apply, Cert.StepPleProjRefIdeal.Read.val_main_cst_apply, Cert.StepPleProjRefIdeal.Read.val_main_v5_apply, Cert.StepPleProjRefIdeal.Read.val_main_v6_apply, Cert.StepPleProjRefIdeal.Read.val_main_cst_0_apply, Cert.StepPleProjRefIdeal.Read.val_main_v7_apply, Cert.StepPleProjRefIdeal.Read.val_main_v8_apply, Cert.StepPleProjRefIdeal.Read.val_main_v9_apply, Cert.StepPleProjRefIdeal.Read.val_main_cst_1_apply, Cert.StepPleProjRefIdeal.Read.val_main_v10_apply, Cert.StepPleProjRefIdeal.Read.val_main_v11_apply, Cert.StepPleProjRefIdeal.Read.val_main_v12_apply, Cert.StepPleProjRefIdeal.Read.val_main_cst_2_apply, Cert.StepPleProjRefIdeal.Read.val_main_v13_apply, Cert.StepPleProjRefIdeal.Read.val_main_v14_apply, Cert.StepPleProjRefIdeal.Read.val_main_v15_apply, Cert.StepPleProjRefIdeal.Read.val_main_cst_3_apply, Cert.StepPleProjRefIdeal.Read.val_main_v16_apply, Cert.StepPleProjRefIdeal.Read.val_main_v17_apply, Cert.StepPleProjRefIdeal.Read.val_main_cst_4_apply, Cert.StepPleProjRefIdeal.Read.val_main_v18_apply, Cert.StepPleProjRefIdeal.Read.val_main_v19_apply, Cert.StepPleProjRefIdeal.Read.val_main_v20_apply, Cert.StepPleProjRefIdeal.Read.val_main_cst_5_apply, Cert.StepPleProjRefIdeal.Read.val_main_v21_apply, Cert.StepPleProjRefIdeal.Read.val_main_v22_apply, Cert.StepPleProjRefIdeal.Read.val_main_v23_apply, Cert.StepPleProjRefIdeal.Read.val_main_cst_6_apply, Cert.StepPleProjRefIdeal.Read.val_main_v24_apply, Cert.StepPleProjRefIdeal.Read.val_main_v25_apply, Cert.StepPleProjRefIdeal.Read.val_main_v26_apply, Cert.StepPleProjRefIdeal.Read.val_main_cst_7_apply, Cert.StepPleProjRefIdeal.Read.val_main_v27_apply, Cert.StepPleProjRefIdeal.Read.val_main_v28_apply]
  rfl

/-- The stacked gradients at a layer. -/
theorem stack0 (u : Fin 4) (h : u.val = 0) (r : Fin 256) (d : Fin 256) : Cert.StepPleProjRefIdeal.Read.val_main_v4 (F := Ideal) (A3 m c) (A4 m c) (A5 m c) (A6 m c) (ix3 u r d) = A3 m c (ix2 r d) := by
  obtain rfl : u = 0 := Fin.ext h
  generalize hR : A3 m c (ix2 r d) = R
  unfold Cert.StepPleProjRefIdeal.Read.val_main_v4 Cert.StepPleProjRefIdeal.Read.val_main_v0 Cert.StepPleProjRefIdeal.Read.val_main_v1 Cert.StepPleProjRefIdeal.Read.val_main_v2 Cert.StepPleProjRefIdeal.Read.val_main_v3
  generalize A3 m c = y0, A4 m c = y1, A5 m c = y2, A6 m c = y3 at hR ⊢
  pointwise
  exact hR
theorem stack1 (u : Fin 4) (h : u.val = 1) (r : Fin 256) (d : Fin 256) : Cert.StepPleProjRefIdeal.Read.val_main_v4 (F := Ideal) (A3 m c) (A4 m c) (A5 m c) (A6 m c) (ix3 u r d) = A4 m c (ix2 r d) := by
  obtain rfl : u = 1 := Fin.ext h
  generalize hR : A4 m c (ix2 r d) = R
  unfold Cert.StepPleProjRefIdeal.Read.val_main_v4 Cert.StepPleProjRefIdeal.Read.val_main_v0 Cert.StepPleProjRefIdeal.Read.val_main_v1 Cert.StepPleProjRefIdeal.Read.val_main_v2 Cert.StepPleProjRefIdeal.Read.val_main_v3
  generalize A3 m c = y0, A4 m c = y1, A5 m c = y2, A6 m c = y3 at hR ⊢
  pointwise
  exact hR
theorem stack2 (u : Fin 4) (h : u.val = 2) (r : Fin 256) (d : Fin 256) : Cert.StepPleProjRefIdeal.Read.val_main_v4 (F := Ideal) (A3 m c) (A4 m c) (A5 m c) (A6 m c) (ix3 u r d) = A5 m c (ix2 r d) := by
  obtain rfl : u = 2 := Fin.ext h
  generalize hR : A5 m c (ix2 r d) = R
  unfold Cert.StepPleProjRefIdeal.Read.val_main_v4 Cert.StepPleProjRefIdeal.Read.val_main_v0 Cert.StepPleProjRefIdeal.Read.val_main_v1 Cert.StepPleProjRefIdeal.Read.val_main_v2 Cert.StepPleProjRefIdeal.Read.val_main_v3
  generalize A3 m c = y0, A4 m c = y1, A5 m c = y2, A6 m c = y3 at hR ⊢
  pointwise
  exact hR
theorem stack3 (u : Fin 4) (h : u.val = 3) (r : Fin 256) (d : Fin 256) : Cert.StepPleProjRefIdeal.Read.val_main_v4 (F := Ideal) (A3 m c) (A4 m c) (A5 m c) (A6 m c) (ix3 u r d) = A6 m c (ix2 r d) := by
  obtain rfl : u = 3 := Fin.ext h
  generalize hR : A6 m c (ix2 r d) = R
  unfold Cert.StepPleProjRefIdeal.Read.val_main_v4 Cert.StepPleProjRefIdeal.Read.val_main_v0 Cert.StepPleProjRefIdeal.Read.val_main_v1 Cert.StepPleProjRefIdeal.Read.val_main_v2 Cert.StepPleProjRefIdeal.Read.val_main_v3
  generalize A3 m c = y0, A4 m c = y1, A5 m c = y2, A6 m c = y3 at hR ⊢
  pointwise
  exact hR

theorem g_eq (t : Fin cfg0.N) (r : Fin 256) (d : Fin 256) : k0_pay5 (grid0.coords t) (View.ld (iblk m c 3 t) r0_0) (View.ld (iblk m c 4 t) r0_0) (View.ld (iblk m c 5 t) r0_0) (View.ld (iblk m c 6 t) r0_0) (ix2 r d) = Cert.StepPleProjRefIdeal.Read.val_main_v4 (F := Ideal) (A3 m c) (A4 m c) (A5 m c) (A6 m c) (ix3 (lay t) (row t r) d) := by
  have ht := lt t
  have hc : (grid0.coords t 0).val = t.val := by simp only [idx t]
  have hl : t.val = 0 ∨ t.val = 1 ∨ t.val = 2 ∨ t.val = 3 := by omega
  unfold k0_pay5
  rcases hl with h | h | h | h
  · rw [stack0 m c (lay t) h (row t r) d, ← b3 m c t h, hc, h]
    pointwise <;> rfl
  · rw [stack1 m c (lay t) h (row t r) d, ← b4 m c t h, hc, h]
    pointwise <;> rfl
  · rw [stack2 m c (lay t) h (row t r) d, ← b5 m c t h, hc, h]
    pointwise <;> rfl
  · rw [stack3 m c (lay t) h (row t r) d, ← b6 m c t h, hc, h]
    pointwise <;> rfl

theorem arr7 : (dats m 0 c).arrAt 7 cfg0.N = Cert.StepPleProjRefIdeal.Read.val_main_v4 (F := Ideal) (A3 m c) (A4 m c) (A5 m c) (A6 m c) := by
  refine (dats m 0 c).arrAt_eq_of_covers 7 _ (by decide +kernel) fun t hf y => ?_
  have ht := lt t
  idx_vars y
  have e : ((cfg0.win 7).blk t).view.emb (ix3 y0 y1 y2) = ix3 (lay t) (row t y1) y2 := by blk_ext [idx t]
  refine Eq.trans ?_ (congrArg (Cert.StepPleProjRefIdeal.Read.val_main_v4 (F := Ideal) (A3 m c) (A4 m c) (A5 m c) (A6 m c)) e).symm
  blk_simp
  rw [after0_7]
  refine (out7_apply _ _ _ _ _ _ _ _ y0 y1 y2).trans ?_
  exact g_eq m c t y1 y2

theorem arr8 : (dats m 0 c).arrAt 8 cfg0.N = Cert.StepPleProjRefIdeal.Read.val_main_v28 (F := Ideal) (A0 m c) (A1 m c) (A2 m c) (A3 m c) (A4 m c) (A5 m c) (A6 m c) := by
  refine (dats m 0 c).arrAt_eq_of_covers 8 _ (by decide +kernel) fun t hf y => ?_
  have ht := lt t
  idx_vars y
  have e : ((cfg0.win 8).blk t).view.emb (ix3 y0 y1 y2) = ix3 (lay t) (row t y1) y2 := by blk_ext [idx t]
  refine Eq.trans ?_ (congrArg (Cert.StepPleProjRefIdeal.Read.val_main_v28 (F := Ideal) (A0 m c) (A1 m c) (A2 m c) (A3 m c) (A4 m c) (A5 m c) (A6 m c)) e).symm
  blk_simp
  rw [after0_8]
  refine (out8_apply _ _ _ _ _ _ _ _ y0 y1 y2).trans ?_
  rw [ref1_apply]
  exact congr (congrArg₂ adD (b0 m c t y0 y1 y2) (congrArg₂ adM (b1 m c t y0 y1 y2) (g_eq m c t y1 y2))) (congrArg₂ adV (b2 m c t y0 y1 y2) (g_eq m c t y1 y2))

theorem arr9 : (dats m 0 c).arrAt 9 cfg0.N = Cert.StepPleProjRefIdeal.Read.val_main_v9 (F := Ideal) (A1 m c) (A3 m c) (A4 m c) (A5 m c) (A6 m c) := by
  refine (dats m 0 c).arrAt_eq_of_covers 9 _ (by decide +kernel) fun t hf y => ?_
  have ht := lt t
  idx_vars y
  have e : ((cfg0.win 9).blk t).view.emb (ix3 y0 y1 y2) = ix3 (lay t) (row t y1) y2 := by blk_ext [idx t]
  refine Eq.trans ?_ (congrArg (Cert.StepPleProjRefIdeal.Read.val_main_v9 (F := Ideal) (A1 m c) (A3 m c) (A4 m c) (A5 m c) (A6 m c)) e).symm
  blk_simp
  rw [after0_9]
  refine (out9_apply _ _ _ _ _ _ _ _ y0 y1 y2).trans ?_
  rw [ref2_apply]
  exact congrArg₂ adM (b1 m c t y0 y1 y2) (g_eq m c t y1 y2)

theorem arr10 : (dats m 0 c).arrAt 10 cfg0.N = Cert.StepPleProjRefIdeal.Read.val_main_v15 (F := Ideal) (A2 m c) (A3 m c) (A4 m c) (A5 m c) (A6 m c) := by
  refine (dats m 0 c).arrAt_eq_of_covers 10 _ (by decide +kernel) fun t hf y => ?_
  have ht := lt t
  idx_vars y
  have e : ((cfg0.win 10).blk t).view.emb (ix3 y0 y1 y2) = ix3 (lay t) (row t y1) y2 := by blk_ext [idx t]
  refine Eq.trans ?_ (congrArg (Cert.StepPleProjRefIdeal.Read.val_main_v15 (F := Ideal) (A2 m c) (A3 m c) (A4 m c) (A5 m c) (A6 m c)) e).symm
  blk_simp
  rw [after0_10]
  refine (out10_apply _ _ _ _ _ _ _ _ y0 y1 y2).trans ?_
  rw [ref3_apply]
  exact congrArg₂ adV (b2 m c t y0 y1 y2) (g_eq m c t y1 y2)

end Cert.StepPleProjIdeal.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Up
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Down
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.DownDw
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.DownDx
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.UpDw
public import proofs.«01_k».proof.Proof.Gen.GlaIn
public import proofs.«01_k».proof.Proof.Gen.GlaIn.Skeleton
public import proofs.«01_k».proof.Proof.Gen.GlaIn.Launch
public import proofs.«01_k».proof.Proof.Gen.GlaIn.Points
public import proofs.«01_k».proof.Proof.Gen.GlaIn.Frame
public import proofs.«01_k».proof.Proof.Gen.GlaInIdeal
public import proofs.«01_k».proof.Proof.Gen.GlaInIdeal.Skeleton
public import proofs.«01_k».proof.Proof.Gen.GlaInIdeal.Launch
public import proofs.«01_k».proof.Proof.Gen.GlaInIdeal.Points
public import proofs.«01_k».proof.Proof.Gen.GlaInIdeal.Frame
public import proofs.«01_k».proof.Proof.Gen.GlaInIdeal.Value
public import proofs.«01_k».proof.Proof.Gen.GlaInRefIdeal
public import proofs.«01_k».proof.Proof.Gen.GlaInRefIdeal.Run
public import proofs.«01_k».proof.Proof.Gen.GlaInRefIdeal.Read
public import proofs.«01_k».proof.Proof.GlaIn
public import proofs.«01_k».proof.Proof.Gen.GlaInDw
public import proofs.«01_k».proof.Proof.Gen.GlaInDw.Skeleton
public import proofs.«01_k».proof.Proof.Gen.GlaInDw.Launch
public import proofs.«01_k».proof.Proof.Gen.GlaInDw.Points
public import proofs.«01_k».proof.Proof.Gen.GlaInDw.Frame
public import proofs.«01_k».proof.Proof.Gen.GlaInDwIdeal
public import proofs.«01_k».proof.Proof.Gen.GlaInDwIdeal.Skeleton
public import proofs.«01_k».proof.Proof.Gen.GlaInDwIdeal.Launch
public import proofs.«01_k».proof.Proof.Gen.GlaInDwIdeal.Points
public import proofs.«01_k».proof.Proof.Gen.GlaInDwIdeal.Frame
public import proofs.«01_k».proof.Proof.Gen.GlaInDwIdeal.Value
public import proofs.«01_k».proof.Proof.Gen.GlaInDwRefIdeal
public import proofs.«01_k».proof.Proof.Gen.GlaInDwRefIdeal.Run
public import proofs.«01_k».proof.Proof.Gen.GlaInDwRefIdeal.Read
public import proofs.«01_k».proof.Proof.GlaInDw
public import proofs.«01_k».proof.Proof.Gen.GlaInDx
public import proofs.«01_k».proof.Proof.Gen.GlaInDx.Skeleton
public import proofs.«01_k».proof.Proof.Gen.GlaInDx.Launch
public import proofs.«01_k».proof.Proof.Gen.GlaInDx.Points
public import proofs.«01_k».proof.Proof.Gen.GlaInDx.Frame
public import proofs.«01_k».proof.Proof.Gen.GlaInDxIdeal
public import proofs.«01_k».proof.Proof.Gen.GlaInDxIdeal.Skeleton
public import proofs.«01_k».proof.Proof.Gen.GlaInDxIdeal.Launch
public import proofs.«01_k».proof.Proof.Gen.GlaInDxIdeal.Points
public import proofs.«01_k».proof.Proof.Gen.GlaInDxIdeal.Frame
public import proofs.«01_k».proof.Proof.Gen.GlaInDxIdeal.Value
public import proofs.«01_k».proof.Proof.Gen.GlaInDxRefIdeal
public import proofs.«01_k».proof.Proof.Gen.GlaInDxRefIdeal.Run
public import proofs.«01_k».proof.Proof.Gen.GlaInDxRefIdeal.Read
public import proofs.«01_k».proof.Proof.GlaInDx
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInIdeal.Value
public import proofs.«01_k».proof.Proof.Gen.ConvInRefIdeal
public import proofs.«01_k».proof.Proof.Gen.ConvInRefIdeal.Run
public import proofs.«01_k».proof.Proof.Gen.ConvInRefIdeal.Read
public import proofs.«01_k».proof.Proof.ConvIn
public import proofs.«01_k».proof.Proof.Gen.ConvInDw
public import proofs.«01_k».proof.Proof.Gen.ConvInDw.Skeleton
public import proofs.«01_k».proof.Proof.Gen.ConvInDw.Launch
public import proofs.«01_k».proof.Proof.Gen.ConvInDw.Points
public import proofs.«01_k».proof.Proof.Gen.ConvInDw.Frame
public import proofs.«01_k».proof.Proof.Gen.ConvInDwIdeal
public import proofs.«01_k».proof.Proof.Gen.ConvInDwIdeal.Skeleton
public import proofs.«01_k».proof.Proof.Gen.ConvInDwIdeal.Launch
public import proofs.«01_k».proof.Proof.Gen.ConvInDwIdeal.Points
public import proofs.«01_k».proof.Proof.Gen.ConvInDwIdeal.Frame
public import proofs.«01_k».proof.Proof.Gen.ConvInDwIdeal.Value
public import proofs.«01_k».proof.Proof.Gen.ConvInDwRefIdeal
public import proofs.«01_k».proof.Proof.Gen.ConvInDwRefIdeal.Run
public import proofs.«01_k».proof.Proof.Gen.ConvInDwRefIdeal.Read
public import proofs.«01_k».proof.Proof.ConvInDw
public import proofs.«01_k».proof.Proof.Gen.ConvInDx
public import proofs.«01_k».proof.Proof.Gen.ConvInDx.Skeleton
public import proofs.«01_k».proof.Proof.Gen.ConvInDx.Launch
public import proofs.«01_k».proof.Proof.Gen.ConvInDx.Points
public import proofs.«01_k».proof.Proof.Gen.ConvInDx.Frame
public import proofs.«01_k».proof.Proof.Gen.ConvInDxIdeal
public import proofs.«01_k».proof.Proof.Gen.ConvInDxIdeal.Skeleton
public import proofs.«01_k».proof.Proof.Gen.ConvInDxIdeal.Launch
public import proofs.«01_k».proof.Proof.Gen.ConvInDxIdeal.Points
public import proofs.«01_k».proof.Proof.Gen.ConvInDxIdeal.Frame
public import proofs.«01_k».proof.Proof.Gen.ConvInDxIdeal.Value
public import proofs.«01_k».proof.Proof.Gen.ConvInDxRefIdeal
public import proofs.«01_k».proof.Proof.Gen.ConvInDxRefIdeal.Run
public import proofs.«01_k».proof.Proof.Gen.ConvInDxRefIdeal.Read
public import proofs.«01_k».proof.Proof.ConvInDx
public import proofs.«01_k».proof.Proof.Gen.SquareDw
public import proofs.«01_k».proof.Proof.Gen.SquareDw.Skeleton
public import proofs.«01_k».proof.Proof.Gen.SquareDw.Launch
public import proofs.«01_k».proof.Proof.Gen.SquareDw.Points
public import proofs.«01_k».proof.Proof.Gen.SquareDw.Frame
public import proofs.«01_k».proof.Proof.Gen.SquareDwIdeal
public import proofs.«01_k».proof.Proof.Gen.SquareDwIdeal.Skeleton
public import proofs.«01_k».proof.Proof.Gen.SquareDwIdeal.Launch
public import proofs.«01_k».proof.Proof.Gen.SquareDwIdeal.Points
public import proofs.«01_k».proof.Proof.Gen.SquareDwIdeal.Frame
public import proofs.«01_k».proof.Proof.Gen.SquareDwIdeal.Value
public import proofs.«01_k».proof.Proof.Gen.SquareDwRefIdeal
public import proofs.«01_k».proof.Proof.Gen.SquareDwRefIdeal.Run
public import proofs.«01_k».proof.Proof.Gen.SquareDwRefIdeal.Read
public import proofs.«01_k».proof.Proof.SquareDw
public import proofs.«01_k».proof.Proof.Gen.SquareDx
public import proofs.«01_k».proof.Proof.Gen.SquareDx.Skeleton
public import proofs.«01_k».proof.Proof.Gen.SquareDx.Launch
public import proofs.«01_k».proof.Proof.Gen.SquareDx.Points
public import proofs.«01_k».proof.Proof.Gen.SquareDx.Frame
public import proofs.«01_k».proof.Proof.Gen.SquareDxIdeal
public import proofs.«01_k».proof.Proof.Gen.SquareDxIdeal.Skeleton
public import proofs.«01_k».proof.Proof.Gen.SquareDxIdeal.Launch
public import proofs.«01_k».proof.Proof.Gen.SquareDxIdeal.Points
public import proofs.«01_k».proof.Proof.Gen.SquareDxIdeal.Frame
public import proofs.«01_k».proof.Proof.Gen.SquareDxIdeal.Value
public import proofs.«01_k».proof.Proof.Gen.SquareDxRefIdeal
public import proofs.«01_k».proof.Proof.Gen.SquareDxRefIdeal.Run
public import proofs.«01_k».proof.Proof.Gen.SquareDxRefIdeal.Read
public import proofs.«01_k».proof.Proof.SquareDx
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.MixOut
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gate
public import proofs.«01_k».proof.Proof.Gen.StepGlaIn
public import proofs.«01_k».proof.Proof.Gen.StepGlaIn.Skeleton
public import proofs.«01_k».proof.Proof.Gen.StepGlaIn.Launch
public import proofs.«01_k».proof.Proof.Gen.StepGlaIn.Points
public import proofs.«01_k».proof.Proof.Gen.StepGlaIn.Frame
public import proofs.«01_k».proof.Proof.Gen.StepGlaInIdeal
public import proofs.«01_k».proof.Proof.Gen.StepGlaInIdeal.Skeleton
public import proofs.«01_k».proof.Proof.Gen.StepGlaInIdeal.Launch
public import proofs.«01_k».proof.Proof.Gen.StepGlaInIdeal.Points
public import proofs.«01_k».proof.Proof.Gen.StepGlaInIdeal.Frame
public import proofs.«01_k».proof.Proof.Gen.StepGlaInIdeal.Value
public import proofs.«01_k».proof.Proof.Gen.StepGlaInRefIdeal
public import proofs.«01_k».proof.Proof.Gen.StepGlaInRefIdeal.Run
public import proofs.«01_k».proof.Proof.Gen.StepGlaInRefIdeal.Read
public import proofs.«01_k».proof.Proof.StepGlaIn
public import proofs.«01_k».proof.Proof.Gen.StepGlaOut
public import proofs.«01_k».proof.Proof.Gen.StepGlaOut.Skeleton
public import proofs.«01_k».proof.Proof.Gen.StepGlaOut.Launch
public import proofs.«01_k».proof.Proof.Gen.StepGlaOut.Points
public import proofs.«01_k».proof.Proof.Gen.StepGlaOut.Frame
public import proofs.«01_k».proof.Proof.Gen.StepGlaOutIdeal
public import proofs.«01_k».proof.Proof.Gen.StepGlaOutIdeal.Skeleton
public import proofs.«01_k».proof.Proof.Gen.StepGlaOutIdeal.Launch
public import proofs.«01_k».proof.Proof.Gen.StepGlaOutIdeal.Points
public import proofs.«01_k».proof.Proof.Gen.StepGlaOutIdeal.Frame
public import proofs.«01_k».proof.Proof.Gen.StepGlaOutIdeal.Value
public import proofs.«01_k».proof.Proof.Gen.StepGlaOutRefIdeal
public import proofs.«01_k».proof.Proof.Gen.StepGlaOutRefIdeal.Run
public import proofs.«01_k».proof.Proof.Gen.StepGlaOutRefIdeal.Read
public import proofs.«01_k».proof.Proof.StepGlaOut
public import proofs.«01_k».proof.Proof.Gen.StepMlaIn
public import proofs.«01_k».proof.Proof.Gen.StepMlaIn.Skeleton
public import proofs.«01_k».proof.Proof.Gen.StepMlaIn.Launch
public import proofs.«01_k».proof.Proof.Gen.StepMlaIn.Points
public import proofs.«01_k».proof.Proof.Gen.StepMlaIn.Frame
public import proofs.«01_k».proof.Proof.Gen.StepMlaInIdeal
public import proofs.«01_k».proof.Proof.Gen.StepMlaInIdeal.Skeleton
public import proofs.«01_k».proof.Proof.Gen.StepMlaInIdeal.Launch
public import proofs.«01_k».proof.Proof.Gen.StepMlaInIdeal.Points
public import proofs.«01_k».proof.Proof.Gen.StepMlaInIdeal.Frame
public import proofs.«01_k».proof.Proof.Gen.StepMlaInIdeal.Value
public import proofs.«01_k».proof.Proof.Gen.StepMlaInRefIdeal
public import proofs.«01_k».proof.Proof.Gen.StepMlaInRefIdeal.Run
public import proofs.«01_k».proof.Proof.Gen.StepMlaInRefIdeal.Read
public import proofs.«01_k».proof.Proof.StepMlaIn
public import proofs.«01_k».proof.Proof.Gen.StepMlaUq
public import proofs.«01_k».proof.Proof.Gen.StepMlaUq.Skeleton
public import proofs.«01_k».proof.Proof.Gen.StepMlaUq.Launch
public import proofs.«01_k».proof.Proof.Gen.StepMlaUq.Points
public import proofs.«01_k».proof.Proof.Gen.StepMlaUq.Frame
public import proofs.«01_k».proof.Proof.Gen.StepMlaUqIdeal
public import proofs.«01_k».proof.Proof.Gen.StepMlaUqIdeal.Skeleton
public import proofs.«01_k».proof.Proof.Gen.StepMlaUqIdeal.Launch
public import proofs.«01_k».proof.Proof.Gen.StepMlaUqIdeal.Points
public import proofs.«01_k».proof.Proof.Gen.StepMlaUqIdeal.Frame
public import proofs.«01_k».proof.Proof.Gen.StepMlaUqIdeal.Value
public import proofs.«01_k».proof.Proof.Gen.StepMlaUqRefIdeal
public import proofs.«01_k».proof.Proof.Gen.StepMlaUqRefIdeal.Run
public import proofs.«01_k».proof.Proof.Gen.StepMlaUqRefIdeal.Read
public import proofs.«01_k».proof.Proof.StepMlaUq
public import proofs.«01_k».proof.Proof.Gen.StepMlaUkv
public import proofs.«01_k».proof.Proof.Gen.StepMlaUkv.Skeleton
public import proofs.«01_k».proof.Proof.Gen.StepMlaUkv.Launch
public import proofs.«01_k».proof.Proof.Gen.StepMlaUkv.Points
public import proofs.«01_k».proof.Proof.Gen.StepMlaUkv.Frame
public import proofs.«01_k».proof.Proof.Gen.StepMlaUkvIdeal
public import proofs.«01_k».proof.Proof.Gen.StepMlaUkvIdeal.Skeleton
public import proofs.«01_k».proof.Proof.Gen.StepMlaUkvIdeal.Launch
public import proofs.«01_k».proof.Proof.Gen.StepMlaUkvIdeal.Points
public import proofs.«01_k».proof.Proof.Gen.StepMlaUkvIdeal.Frame
public import proofs.«01_k».proof.Proof.Gen.StepMlaUkvIdeal.Value
public import proofs.«01_k».proof.Proof.Gen.StepMlaUkvRefIdeal
public import proofs.«01_k».proof.Proof.Gen.StepMlaUkvRefIdeal.Run
public import proofs.«01_k».proof.Proof.Gen.StepMlaUkvRefIdeal.Read
public import proofs.«01_k».proof.Proof.StepMlaUkv
public import proofs.«01_k».proof.Proof.Gen.StepRowsOut
public import proofs.«01_k».proof.Proof.Gen.StepRowsOut.Skeleton
public import proofs.«01_k».proof.Proof.Gen.StepRowsOut.Launch
public import proofs.«01_k».proof.Proof.Gen.StepRowsOut.Points
public import proofs.«01_k».proof.Proof.Gen.StepRowsOut.Frame
public import proofs.«01_k».proof.Proof.Gen.StepRowsOutIdeal
public import proofs.«01_k».proof.Proof.Gen.StepRowsOutIdeal.Skeleton
public import proofs.«01_k».proof.Proof.Gen.StepRowsOutIdeal.Launch
public import proofs.«01_k».proof.Proof.Gen.StepRowsOutIdeal.Points
public import proofs.«01_k».proof.Proof.Gen.StepRowsOutIdeal.Frame
public import proofs.«01_k».proof.Proof.Gen.StepRowsOutIdeal.Value
public import proofs.«01_k».proof.Proof.Gen.StepRowsOutRefIdeal
public import proofs.«01_k».proof.Proof.Gen.StepRowsOutRefIdeal.Run
public import proofs.«01_k».proof.Proof.Gen.StepRowsOutRefIdeal.Read
public import proofs.«01_k».proof.Proof.StepRowsOut
public import proofs.«01_k».proof.Proof.Gen.StepConvIn
public import proofs.«01_k».proof.Proof.Gen.StepConvIn.Skeleton
public import proofs.«01_k».proof.Proof.Gen.StepConvIn.Launch
public import proofs.«01_k».proof.Proof.Gen.StepConvIn.Points
public import proofs.«01_k».proof.Proof.Gen.StepConvIn.Frame
public import proofs.«01_k».proof.Proof.Gen.StepConvInIdeal
public import proofs.«01_k».proof.Proof.Gen.StepConvInIdeal.Skeleton
public import proofs.«01_k».proof.Proof.Gen.StepConvInIdeal.Launch
public import proofs.«01_k».proof.Proof.Gen.StepConvInIdeal.Points
public import proofs.«01_k».proof.Proof.Gen.StepConvInIdeal.Frame
public import proofs.«01_k».proof.Proof.Gen.StepConvInIdeal.Value
public import proofs.«01_k».proof.Proof.Gen.StepConvInRefIdeal
public import proofs.«01_k».proof.Proof.Gen.StepConvInRefIdeal.Run
public import proofs.«01_k».proof.Proof.Gen.StepConvInRefIdeal.Read
public import proofs.«01_k».proof.Proof.StepConvIn
public import proofs.«01_k».proof.Proof.Gen.StepMlp
public import proofs.«01_k».proof.Proof.Gen.StepMlp.Skeleton
public import proofs.«01_k».proof.Proof.Gen.StepMlp.Launch
public import proofs.«01_k».proof.Proof.Gen.StepMlp.Points
public import proofs.«01_k».proof.Proof.Gen.StepMlp.Frame
public import proofs.«01_k».proof.Proof.Gen.StepMlpIdeal
public import proofs.«01_k».proof.Proof.Gen.StepMlpIdeal.Skeleton
public import proofs.«01_k».proof.Proof.Gen.StepMlpIdeal.Launch
public import proofs.«01_k».proof.Proof.Gen.StepMlpIdeal.Points
public import proofs.«01_k».proof.Proof.Gen.StepMlpIdeal.Frame
public import proofs.«01_k».proof.Proof.Gen.StepMlpIdeal.Value
public import proofs.«01_k».proof.Proof.Gen.StepMlpRefIdeal
public import proofs.«01_k».proof.Proof.Gen.StepMlpRefIdeal.Run
public import proofs.«01_k».proof.Proof.Gen.StepMlpRefIdeal.Read
public import proofs.«01_k».proof.Proof.StepMlp
public import proofs.«01_k».proof.Proof.Gen.StepPleGate
public import proofs.«01_k».proof.Proof.Gen.StepPleGate.Skeleton
public import proofs.«01_k».proof.Proof.Gen.StepPleGate.Launch
public import proofs.«01_k».proof.Proof.Gen.StepPleGate.Points
public import proofs.«01_k».proof.Proof.Gen.StepPleGate.Frame
public import proofs.«01_k».proof.Proof.Gen.StepPleGateIdeal
public import proofs.«01_k».proof.Proof.Gen.StepPleGateIdeal.Skeleton
public import proofs.«01_k».proof.Proof.Gen.StepPleGateIdeal.Launch
public import proofs.«01_k».proof.Proof.Gen.StepPleGateIdeal.Points
public import proofs.«01_k».proof.Proof.Gen.StepPleGateIdeal.Frame
public import proofs.«01_k».proof.Proof.Gen.StepPleGateIdeal.Value
public import proofs.«01_k».proof.Proof.Gen.StepPleGateRefIdeal
public import proofs.«01_k».proof.Proof.Gen.StepPleGateRefIdeal.Run
public import proofs.«01_k».proof.Proof.Gen.StepPleGateRefIdeal.Read
public import proofs.«01_k».proof.Proof.StepPleGate
public import proofs.«01_k».proof.Proof.Gen.StepPleProj
public import proofs.«01_k».proof.Proof.Gen.StepPleProj.Skeleton
public import proofs.«01_k».proof.Proof.Gen.StepPleProj.Launch
public import proofs.«01_k».proof.Proof.Gen.StepPleProj.Points
public import proofs.«01_k».proof.Proof.Gen.StepPleProj.Frame
public import proofs.«01_k».proof.Proof.Gen.StepPleProjIdeal
public import proofs.«01_k».proof.Proof.Gen.StepPleProjIdeal.Skeleton
public import proofs.«01_k».proof.Proof.Gen.StepPleProjIdeal.Launch
public import proofs.«01_k».proof.Proof.Gen.StepPleProjIdeal.Points
public import proofs.«01_k».proof.Proof.Gen.StepPleProjIdeal.Frame
public import proofs.«01_k».proof.Proof.Gen.StepPleProjIdeal.Value
public import proofs.«01_k».proof.Proof.Gen.StepPleProjRefIdeal
public import proofs.«01_k».proof.Proof.Gen.StepPleProjRefIdeal.Run
public import proofs.«01_k».proof.Proof.Gen.StepPleProjRefIdeal.Read
public import proofs.«01_k».proof.Proof.StepPleProj
public import Idealize.ShloMosaic.Adequacy
public import Idealize.ShloMosaic.Init
public import Idealize.ShloMosaic.Lib.Quiescent

@[expose] public section

noncomputable section

namespace Cert.Proof

open Idealize.ShloMosaic Idealize.SL.Sem Cert.Kernel

set_option maxHeartbeats 1600000 in
/-- The two programs end with the same results where the arguments are real numbers. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have H := fun c => Cert.KernelIdeal.Blocks.args_pre _ _ _ _ _ (hpre c)
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, fun c => (Cert.KernelIdeal.Gen.dats m 0 c).arrAt 9 Cert.KernelIdeal.cfg0.N,
    Cert.KernelIdeal.Value.run_blocks m g, ?_⟩
  refine (θ_run _ _ _).mono (fun r h c => ?_) (Cert.ReferenceIdeal.Value.run m' g')
  obtain ⟨h0, h1, h2, h3, ha⟩ := h c
  obtain ⟨a0, a1, a2, a3, a4⟩ := hagree c
  refine ⟨?_, ?_, ?_, ?_, ha⟩
  · refine h0.trans ((Cert.ReferenceIdeal.Read.val_main_v66_eq m' c).trans ?_)
    refine Eq.trans ?_ (Cert.KernelIdeal.Final.arr6 m c (H c)).symm
    rw [a0, a1, a2, a3, a4]
  · refine h1.trans ((Cert.ReferenceIdeal.Read.val_main_v68_eq m' c).trans ?_)
    refine Eq.trans ?_ (Cert.KernelIdeal.Final.arr7 m c (H c)).symm
    rw [a0, a1, a2, a3, a4]
  · refine h2.trans ((Cert.ReferenceIdeal.Read.val_main_v70_eq m' c).trans ?_)
    refine Eq.trans ?_ (Cert.KernelIdeal.Final.arr8 m c (H c)).symm
    rw [a0, a1, a2, a4]
  · refine h3.trans ((Cert.ReferenceIdeal.Read.val_main_v72_eq m' c).trans ?_)
    refine Eq.trans ?_ (Cert.KernelIdeal.Final.arr9 m c (H c)).symm
    rw [a0, a1, a2, a3, a4]

theorem frame_ref : Cert.quiescent_ReferenceIdeal (hReferenceIdeal := Cert.ReferenceIdeal.Gen.facts) := by
  intro m g _
  exact (θ_run _ _ _).mono (fun r h => ⟨fun c => (h c).2.2.2.2, sem_eq_zero_of_no_sems (by decide) r.2⟩) (Cert.ReferenceIdeal.Value.run m g)

/-- The calls of the feed-forward block, of the mixers, of the gate and of the optimiser: the results agree for all arguments. -/
theorem algebraic_Up : Cert.algebraic_UpIdeal_UpRefIdeal (hUpIdeal := Cert.UpIdeal.Gen.facts) (hUpRefIdeal := Cert.UpRefIdeal.Gen.facts) := by
  intro m g m' g' _ hagree
  refine ⟨fun c => (Cert.UpIdeal.Gen.dats m 0 c).arrAt 2 Cert.UpIdeal.cfg0.N, fun c => (Cert.UpIdeal.Gen.dats m 0 c).arrAt 3 Cert.UpIdeal.cfg0.N, Cert.UpIdeal.Value.run_blocks m g, ?_⟩
  refine (θ_run _ _ _).mono (fun r h c => ?_) (Cert.UpRefIdeal.Value.run m' g')
  obtain ⟨h0, h1, ha⟩ := h c
  obtain ⟨a0, a1⟩ := hagree c
  refine ⟨?_, ?_, ha⟩
  · refine h0.trans ((Cert.UpRefIdeal.Read.val_main_v8_eq _ _).trans ?_)
    refine Eq.trans ?_ (Cert.UpIdeal.Final.arr2 m c).symm
    rw [a0, a1]
  · refine h1.trans ((Cert.UpRefIdeal.Read.val_main_v13_eq _ _).trans ?_)
    refine Eq.trans ?_ (Cert.UpIdeal.Final.arr3 m c).symm
    rw [a0, a1]

theorem frame_ref_Up : Cert.quiescent_UpRefIdeal (hUpRefIdeal := Cert.UpRefIdeal.Gen.facts) := by
  intro m g _
  exact (θ_run _ _ _).mono (fun r h => ⟨fun c => (h c).2.2, sem_eq_zero_of_no_sems (by decide) r.2⟩) (Cert.UpRefIdeal.Value.run m g)

set_option maxHeartbeats 1600000 in
theorem algebraic_Down : Cert.algebraic_DownIdeal_DownRefIdeal (hDownIdeal := Cert.DownIdeal.Gen.facts) (hDownRefIdeal := Cert.DownRefIdeal.Gen.facts) := by
  intro m g m' g' _ hagree
  refine ⟨fun c => (Cert.DownIdeal.Gen.dats m 0 c).arrAt 5 Cert.DownIdeal.cfg0.N, fun c => (Cert.DownIdeal.Gen.dats m 0 c).arrAt 6 Cert.DownIdeal.cfg0.N, fun c => (Cert.DownIdeal.Gen.dats m 0 c).arrAt 7 Cert.DownIdeal.cfg0.N, Cert.DownIdeal.Value.run_blocks m g, ?_⟩
  refine (θ_run _ _ _).mono (fun r h c => ?_) (Cert.DownRefIdeal.Value.run m' g')
  obtain ⟨h0, h1, h2, ha⟩ := h c
  obtain ⟨a0, a1, a2, a3, a4⟩ := hagree c
  refine ⟨?_, ?_, ?_, ha⟩
  · refine h0.trans ((Cert.DownRefIdeal.Read.val_main_v28_eq m' c).trans ?_)
    refine Eq.trans ?_ (Cert.DownIdeal.Final.arr5 m c).symm
    rw [a0, a1, a2, a3, a4]
  · refine h1.trans ((Cert.DownRefIdeal.Read.val_main_v29_eq m' c).trans ?_)
    refine Eq.trans ?_ (Cert.DownIdeal.Final.arr6 m c).symm
    rw [a0, a1, a2, a3, a4]
  · refine h2.trans ((Cert.DownRefIdeal.Read.val_main_v6_eq _ _ _).trans ?_)
    refine Eq.trans ?_ (Cert.DownIdeal.Final.arr7 m c).symm
    rw [a0, a1, a2]

theorem frame_ref_Down : Cert.quiescent_DownRefIdeal (hDownRefIdeal := Cert.DownRefIdeal.Gen.facts) := by
  intro m g _
  exact (θ_run _ _ _).mono (fun r h => ⟨fun c => (h c).2.2.2, sem_eq_zero_of_no_sems (by decide) r.2⟩) (Cert.DownRefIdeal.Value.run m g)

set_option maxHeartbeats 1600000 in
theorem algebraic_DownDw : Cert.algebraic_DownDwIdeal_DownDwRefIdeal (hDownDwIdeal := Cert.DownDwIdeal.Gen.facts) (hDownDwRefIdeal := Cert.DownDwRefIdeal.Gen.facts) := by
  intro m g m' g' _ hagree
  refine ⟨fun c => (Cert.DownDwIdeal.Gen.dats m 0 c).arrAt 2 Cert.DownDwIdeal.cfg0.N, Cert.DownDwIdeal.Value.run_blocks m g, ?_⟩
  refine (θ_run _ _ _).mono (fun r h c => ?_) (Cert.DownDwRefIdeal.Value.run m' g')
  obtain ⟨h0, ha⟩ := h c
  obtain ⟨a0, a1, a2, a3⟩ := hagree c
  refine ⟨?_, ha⟩
  · refine h0.trans ((Cert.DownDwRefIdeal.Read.val_main_v6_eq _ _ _).trans ?_)
    refine Eq.trans ?_ (Cert.DownDwIdeal.Final.arr2 m c).symm
    rw [a0, a1, a3]

theorem frame_ref_DownDw : Cert.quiescent_DownDwRefIdeal (hDownDwRefIdeal := Cert.DownDwRefIdeal.Gen.facts) := by
  intro m g _
  exact (θ_run _ _ _).mono (fun r h => ⟨fun c => (h c).2, sem_eq_zero_of_no_sems (by decide) r.2⟩) (Cert.DownDwRefIdeal.Value.run m g)

set_option maxHeartbeats 1600000 in
theorem algebraic_DownDx : Cert.algebraic_DownDxIdeal_DownDxRefIdeal (hDownDxIdeal := Cert.DownDxIdeal.Gen.facts) (hDownDxRefIdeal := Cert.DownDxRefIdeal.Gen.facts) := by
  intro m g m' g' _ hagree
  refine ⟨fun c => (Cert.DownDxIdeal.Gen.dats m 0 c).arrAt 3 Cert.DownDxIdeal.cfg0.N, Cert.DownDxIdeal.Value.run_blocks m g, ?_⟩
  refine (θ_run _ _ _).mono (fun r h c => ?_) (Cert.DownDxRefIdeal.Value.run m' g')
  obtain ⟨h0, ha⟩ := h c
  obtain ⟨a0, a1, a2, a3⟩ := hagree c
  refine ⟨?_, ha⟩
  · refine h0.trans ((Cert.DownDxRefIdeal.Read.val_main_v13_eq _ _ _ _).trans ?_)
    refine Eq.trans ?_ (Cert.DownDxIdeal.Final.arr3 m c).symm
    rw [a0, a1, a2, a3]

theorem frame_ref_DownDx : Cert.quiescent_DownDxRefIdeal (hDownDxRefIdeal := Cert.DownDxRefIdeal.Gen.facts) := by
  intro m g _
  exact (θ_run _ _ _).mono (fun r h => ⟨fun c => (h c).2, sem_eq_zero_of_no_sems (by decide) r.2⟩) (Cert.DownDxRefIdeal.Value.run m g)

set_option maxHeartbeats 1600000 in
theorem algebraic_UpDw : Cert.algebraic_UpDwIdeal_UpDwRefIdeal (hUpDwIdeal := Cert.UpDwIdeal.Gen.facts) (hUpDwRefIdeal := Cert.UpDwRefIdeal.Gen.facts) := by
  intro m g m' g' _ hagree
  refine ⟨fun c => (Cert.UpDwIdeal.Gen.dats m 0 c).arrAt 2 Cert.UpDwIdeal.cfg0.N, Cert.UpDwIdeal.Value.run_blocks m g, ?_⟩
  refine (θ_run _ _ _).mono (fun r h c => ?_) (Cert.UpDwRefIdeal.Value.run m' g')
  obtain ⟨h0, ha⟩ := h c
  obtain ⟨a0, a1, a2, a3⟩ := hagree c
  refine ⟨?_, ha⟩
  · refine h0.trans ((Cert.UpDwRefIdeal.Read.val_main_v17_eq _ _ _ _).trans ?_)
    refine Eq.trans ?_ (Cert.UpDwIdeal.Final.arr2 m c).symm
    rw [a0, a1, a2, a3]

theorem frame_ref_UpDw : Cert.quiescent_UpDwRefIdeal (hUpDwRefIdeal := Cert.UpDwRefIdeal.Gen.facts) := by
  intro m g _
  exact (θ_run _ _ _).mono (fun r h => ⟨fun c => (h c).2, sem_eq_zero_of_no_sems (by decide) r.2⟩) (Cert.UpDwRefIdeal.Value.run m g)

set_option maxHeartbeats 1600000 in
theorem algebraic_GlaIn : Cert.algebraic_GlaInIdeal_GlaInRefIdeal (hGlaInIdeal := Cert.GlaInIdeal.Gen.facts) (hGlaInRefIdeal := Cert.GlaInRefIdeal.Gen.facts) := by
  intro m g m' g' _ hagree
  refine ⟨fun c => (Cert.GlaInIdeal.Gen.dats m 0 c).arrAt 2 Cert.GlaInIdeal.cfg0.N, Cert.GlaInIdeal.Value.run_blocks m g, ?_⟩
  refine (θ_run _ _ _).mono (fun r h c => ?_) (Cert.GlaInRefIdeal.Value.run m' g')
  obtain ⟨h0, ha⟩ := h c
  obtain ⟨a0, a1⟩ := hagree c
  refine ⟨?_, ha⟩
  · refine h0.trans ((Cert.GlaInRefIdeal.Read.val_main_v1_eq _ _).trans ?_)
    refine Eq.trans ?_ (Cert.GlaInIdeal.Final.arr2 m c).symm
    rw [a0, a1]

theorem frame_ref_GlaIn : Cert.quiescent_GlaInRefIdeal (hGlaInRefIdeal := Cert.GlaInRefIdeal.Gen.facts) := by
  intro m g _
  exact (θ_run _ _ _).mono (fun r h => ⟨fun c => (h c).2, sem_eq_zero_of_no_sems (by decide) r.2⟩) (Cert.GlaInRefIdeal.Value.run m g)

set_option maxHeartbeats 1600000 in
theorem algebraic_GlaInDw : Cert.algebraic_GlaInDwIdeal_GlaInDwRefIdeal (hGlaInDwIdeal := Cert.GlaInDwIdeal.Gen.facts) (hGlaInDwRefIdeal := Cert.GlaInDwRefIdeal.Gen.facts) := by
  intro m g m' g' _ hagree
  refine ⟨fun c => (Cert.GlaInDwIdeal.Gen.dats m 0 c).arrAt 2 Cert.GlaInDwIdeal.cfg0.N, Cert.GlaInDwIdeal.Value.run_blocks m g, ?_⟩
  refine (θ_run _ _ _).mono (fun r h c => ?_) (Cert.GlaInDwRefIdeal.Value.run m' g')
  obtain ⟨h0, ha⟩ := h c
  obtain ⟨a0, a1, a2⟩ := hagree c
  refine ⟨?_, ha⟩
  · refine h0.trans ((Cert.GlaInDwRefIdeal.Read.val_main_v5_eq _ _).trans ?_)
    refine Eq.trans ?_ (Cert.GlaInDwIdeal.Final.arr2 m c).symm
    rw [a0, a2]

theorem frame_ref_GlaInDw : Cert.quiescent_GlaInDwRefIdeal (hGlaInDwRefIdeal := Cert.GlaInDwRefIdeal.Gen.facts) := by
  intro m g _
  exact (θ_run _ _ _).mono (fun r h => ⟨fun c => (h c).2, sem_eq_zero_of_no_sems (by decide) r.2⟩) (Cert.GlaInDwRefIdeal.Value.run m g)

set_option maxHeartbeats 1600000 in
theorem algebraic_GlaInDx : Cert.algebraic_GlaInDxIdeal_GlaInDxRefIdeal (hGlaInDxIdeal := Cert.GlaInDxIdeal.Gen.facts) (hGlaInDxRefIdeal := Cert.GlaInDxRefIdeal.Gen.facts) := by
  intro m g m' g' _ hagree
  refine ⟨fun c => (Cert.GlaInDxIdeal.Gen.dats m 0 c).arrAt 3 Cert.GlaInDxIdeal.cfg0.N, Cert.GlaInDxIdeal.Value.run_blocks m g, ?_⟩
  refine (θ_run _ _ _).mono (fun r h c => ?_) (Cert.GlaInDxRefIdeal.Value.run m' g')
  obtain ⟨h0, ha⟩ := h c
  obtain ⟨a0, a1, a2, a3⟩ := hagree c
  refine ⟨?_, ha⟩
  · refine h0.trans ((Cert.GlaInDxRefIdeal.Read.val_main_v8_eq _ _ _).trans ?_)
    refine Eq.trans ?_ (Cert.GlaInDxIdeal.Final.arr3 m c).symm
    rw [a1, a2, a3]

theorem frame_ref_GlaInDx : Cert.quiescent_GlaInDxRefIdeal (hGlaInDxRefIdeal := Cert.GlaInDxRefIdeal.Gen.facts) := by
  intro m g _
  exact (θ_run _ _ _).mono (fun r h => ⟨fun c => (h c).2, sem_eq_zero_of_no_sems (by decide) r.2⟩) (Cert.GlaInDxRefIdeal.Value.run m g)

set_option maxHeartbeats 1600000 in
theorem algebraic_ConvIn : Cert.algebraic_ConvInIdeal_ConvInRefIdeal (hConvInIdeal := Cert.ConvInIdeal.Gen.facts) (hConvInRefIdeal := Cert.ConvInRefIdeal.Gen.facts) := by
  intro m g m' g' _ hagree
  refine ⟨fun c => (Cert.ConvInIdeal.Gen.dats m 0 c).arrAt 2 Cert.ConvInIdeal.cfg0.N, Cert.ConvInIdeal.Value.run_blocks m g, ?_⟩
  refine (θ_run _ _ _).mono (fun r h c => ?_) (Cert.ConvInRefIdeal.Value.run m' g')
  obtain ⟨h0, ha⟩ := h c
  obtain ⟨a0, a1⟩ := hagree c
  refine ⟨?_, ha⟩
  · refine h0.trans ((Cert.ConvInRefIdeal.Read.val_main_v0_eq _ _).trans ?_)
    refine Eq.trans ?_ (Cert.ConvInIdeal.Final.arr2 m c).symm
    rw [a0, a1]

theorem frame_ref_ConvIn : Cert.quiescent_ConvInRefIdeal (hConvInRefIdeal := Cert.ConvInRefIdeal.Gen.facts) := by
  intro m g _
  exact (θ_run _ _ _).mono (fun r h => ⟨fun c => (h c).2, sem_eq_zero_of_no_sems (by decide) r.2⟩) (Cert.ConvInRefIdeal.Value.run m g)

set_option maxHeartbeats 1600000 in
theorem algebraic_ConvInDw : Cert.algebraic_ConvInDwIdeal_ConvInDwRefIdeal (hConvInDwIdeal := Cert.ConvInDwIdeal.Gen.facts) (hConvInDwRefIdeal := Cert.ConvInDwRefIdeal.Gen.facts) := by
  intro m g m' g' _ hagree
  refine ⟨fun c => (Cert.ConvInDwIdeal.Gen.dats m 0 c).arrAt 2 Cert.ConvInDwIdeal.cfg0.N, Cert.ConvInDwIdeal.Value.run_blocks m g, ?_⟩
  refine (θ_run _ _ _).mono (fun r h c => ?_) (Cert.ConvInDwRefIdeal.Value.run m' g')
  obtain ⟨h0, ha⟩ := h c
  obtain ⟨a0, a1, a2⟩ := hagree c
  refine ⟨?_, ha⟩
  · refine h0.trans ((Cert.ConvInDwRefIdeal.Read.val_main_v6_eq _ _).trans ?_)
    refine Eq.trans ?_ (Cert.ConvInDwIdeal.Final.arr2 m c).symm
    rw [a0, a2]

theorem frame_ref_ConvInDw : Cert.quiescent_ConvInDwRefIdeal (hConvInDwRefIdeal := Cert.ConvInDwRefIdeal.Gen.facts) := by
  intro m g _
  exact (θ_run _ _ _).mono (fun r h => ⟨fun c => (h c).2, sem_eq_zero_of_no_sems (by decide) r.2⟩) (Cert.ConvInDwRefIdeal.Value.run m g)

set_option maxHeartbeats 1600000 in
theorem algebraic_ConvInDx : Cert.algebraic_ConvInDxIdeal_ConvInDxRefIdeal (hConvInDxIdeal := Cert.ConvInDxIdeal.Gen.facts) (hConvInDxRefIdeal := Cert.ConvInDxRefIdeal.Gen.facts) := by
  intro m g m' g' _ hagree
  refine ⟨fun c => (Cert.ConvInDxIdeal.Gen.dats m 0 c).arrAt 8 Cert.ConvInDxIdeal.cfg0.N, fun c => (Cert.ConvInDxIdeal.Gen.dats m 0 c).arrAt 9 Cert.ConvInDxIdeal.cfg0.N, fun c => (Cert.ConvInDxIdeal.Gen.dats m 0 c).arrAt 10 Cert.ConvInDxIdeal.cfg0.N, Cert.ConvInDxIdeal.Value.run_blocks m g, ?_⟩
  refine (θ_run _ _ _).mono (fun r h c => ?_) (Cert.ConvInDxRefIdeal.Value.run m' g')
  obtain ⟨h0, h1, h2, ha⟩ := h c
  obtain ⟨a0, a1, a2, a3, a4, a5⟩ := hagree c
  refine ⟨?_, ?_, ?_, ha⟩
  · refine h0.trans ((Cert.ConvInDxRefIdeal.Read.val_main_v8_eq _ _ _).trans ?_)
    refine Eq.trans ?_ (Cert.ConvInDxIdeal.Final.arr8 m c).symm
    rw [a1, a2, a3]
  · refine h1.trans ((Cert.ConvInDxRefIdeal.Read.val_main_v22_eq _ _ _ _).trans ?_)
    refine Eq.trans ?_ (Cert.ConvInDxIdeal.Final.arr9 m c).symm
    rw [a1, a2, a3, a4]
  · refine h2.trans ((Cert.ConvInDxRefIdeal.Read.val_main_v23_eq _ _ _ _ _).trans ?_)
    refine Eq.trans ?_ (Cert.ConvInDxIdeal.Final.arr10 m c).symm
    rw [a1, a2, a3, a4, a5]

theorem frame_ref_ConvInDx : Cert.quiescent_ConvInDxRefIdeal (hConvInDxRefIdeal := Cert.ConvInDxRefIdeal.Gen.facts) := by
  intro m g _
  exact (θ_run _ _ _).mono (fun r h => ⟨fun c => (h c).2.2.2, sem_eq_zero_of_no_sems (by decide) r.2⟩) (Cert.ConvInDxRefIdeal.Value.run m g)

set_option maxHeartbeats 1600000 in
theorem algebraic_SquareDw : Cert.algebraic_SquareDwIdeal_SquareDwRefIdeal (hSquareDwIdeal := Cert.SquareDwIdeal.Gen.facts) (hSquareDwRefIdeal := Cert.SquareDwRefIdeal.Gen.facts) := by
  intro m g m' g' _ hagree
  refine ⟨fun c => (Cert.SquareDwIdeal.Gen.dats m 0 c).arrAt 2 Cert.SquareDwIdeal.cfg0.N, Cert.SquareDwIdeal.Value.run_blocks m g, ?_⟩
  refine (θ_run _ _ _).mono (fun r h c => ?_) (Cert.SquareDwRefIdeal.Value.run m' g')
  obtain ⟨h0, ha⟩ := h c
  obtain ⟨a0, a1, a2⟩ := hagree c
  refine ⟨?_, ha⟩
  · refine h0.trans ((Cert.SquareDwRefIdeal.Read.val_main_v4_eq _ _).trans ?_)
    refine Eq.trans ?_ (Cert.SquareDwIdeal.Final.arr2 m c).symm
    rw [a0, a2]

theorem frame_ref_SquareDw : Cert.quiescent_SquareDwRefIdeal (hSquareDwRefIdeal := Cert.SquareDwRefIdeal.Gen.facts) := by
  intro m g _
  exact (θ_run _ _ _).mono (fun r h => ⟨fun c => (h c).2, sem_eq_zero_of_no_sems (by decide) r.2⟩) (Cert.SquareDwRefIdeal.Value.run m g)

set_option maxHeartbeats 1600000 in
theorem algebraic_SquareDx : Cert.algebraic_SquareDxIdeal_SquareDxRefIdeal (hSquareDxIdeal := Cert.SquareDxIdeal.Gen.facts) (hSquareDxRefIdeal := Cert.SquareDxRefIdeal.Gen.facts) := by
  intro m g m' g' _ hagree
  refine ⟨fun c => (Cert.SquareDxIdeal.Gen.dats m 0 c).arrAt 2 Cert.SquareDxIdeal.cfg0.N, Cert.SquareDxIdeal.Value.run_blocks m g, ?_⟩
  refine (θ_run _ _ _).mono (fun r h c => ?_) (Cert.SquareDxRefIdeal.Value.run m' g')
  obtain ⟨h0, ha⟩ := h c
  obtain ⟨a0, a1, a2⟩ := hagree c
  refine ⟨?_, ha⟩
  · refine h0.trans ((Cert.SquareDxRefIdeal.Read.val_main_v3_eq _ _).trans ?_)
    refine Eq.trans ?_ (Cert.SquareDxIdeal.Final.arr2 m c).symm
    rw [a1, a2]

theorem frame_ref_SquareDx : Cert.quiescent_SquareDxRefIdeal (hSquareDxRefIdeal := Cert.SquareDxRefIdeal.Gen.facts) := by
  intro m g _
  exact (θ_run _ _ _).mono (fun r h => ⟨fun c => (h c).2, sem_eq_zero_of_no_sems (by decide) r.2⟩) (Cert.SquareDxRefIdeal.Value.run m g)

set_option maxHeartbeats 1600000 in
theorem algebraic_MixOut : Cert.algebraic_MixOutIdeal_MixOutRefIdeal (hMixOutIdeal := Cert.MixOutIdeal.Gen.facts) (hMixOutRefIdeal := Cert.MixOutRefIdeal.Gen.facts) := by
  intro m g m' g' _ hagree
  refine ⟨fun c => (Cert.MixOutIdeal.Gen.dats m 0 c).arrAt 5 Cert.MixOutIdeal.cfg0.N, fun c => (Cert.MixOutIdeal.Gen.dats m 0 c).arrAt 6 Cert.MixOutIdeal.cfg0.N, fun c => (Cert.MixOutIdeal.Gen.dats m 0 c).arrAt 7 Cert.MixOutIdeal.cfg0.N, Cert.MixOutIdeal.Value.run_blocks m g, ?_⟩
  refine (θ_run _ _ _).mono (fun r h c => ?_) (Cert.MixOutRefIdeal.Value.run m' g')
  obtain ⟨h0, h1, h2, ha⟩ := h c
  obtain ⟨a0, a1, a2, a3, a4⟩ := hagree c
  refine ⟨?_, ?_, ?_, ha⟩
  · refine h0.trans ((Cert.MixOutRefIdeal.Read.val_main_v25_eq _ _ _ _ _).trans ?_)
    refine Eq.trans ?_ (Cert.MixOutIdeal.Final.arr5 m c).symm
    rw [a0, a1, a2, a3, a4]
  · refine h1.trans ((Cert.MixOutRefIdeal.Read.val_main_v26_eq _ _ _ _ _).trans ?_)
    refine Eq.trans ?_ (Cert.MixOutIdeal.Final.arr6 m c).symm
    rw [a0, a1, a2, a3, a4]
  · refine h2.trans ((Cert.MixOutRefIdeal.Read.val_main_v3_eq _ _ _).trans ?_)
    refine Eq.trans ?_ (Cert.MixOutIdeal.Final.arr7 m c).symm
    rw [a0, a1, a2]

theorem frame_ref_MixOut : Cert.quiescent_MixOutRefIdeal (hMixOutRefIdeal := Cert.MixOutRefIdeal.Gen.facts) := by
  intro m g _
  exact (θ_run _ _ _).mono (fun r h => ⟨fun c => (h c).2.2.2, sem_eq_zero_of_no_sems (by decide) r.2⟩) (Cert.MixOutRefIdeal.Value.run m g)

set_option maxHeartbeats 1600000 in
theorem algebraic_Gate : Cert.algebraic_GateIdeal_GateRefIdeal (hGateIdeal := Cert.GateIdeal.Gen.facts) (hGateRefIdeal := Cert.GateRefIdeal.Gen.facts) := by
  intro m g m' g' _ hagree
  refine ⟨fun c => (Cert.GateIdeal.Gen.dats m 0 c).arrAt 4 Cert.GateIdeal.cfg0.N, fun c => (Cert.GateIdeal.Gen.dats m 0 c).arrAt 5 Cert.GateIdeal.cfg0.N, fun c => (Cert.GateIdeal.Gen.dats m 0 c).arrAt 6 Cert.GateIdeal.cfg0.N, Cert.GateIdeal.Value.run_blocks m g, ?_⟩
  refine (θ_run _ _ _).mono (fun r h c => ?_) (Cert.GateRefIdeal.Value.run m' g')
  obtain ⟨h0, h1, h2, ha⟩ := h c
  obtain ⟨a0, a1, a2⟩ := hagree c
  refine ⟨?_, ?_, ?_, ha⟩
  · refine h0.trans ((Cert.GateRefIdeal.Read.val_main_v0_eq _ _).trans ?_)
    refine Eq.trans ?_ (Cert.GateIdeal.Final.arr4 m c).symm
    rw [a0, a1]
  · refine h1.trans ((Cert.GateRefIdeal.Read.val_main_v8_eq _ _ _).trans ?_)
    refine Eq.trans ?_ (Cert.GateIdeal.Final.arr5 m c).symm
    rw [a0, a1, a2]
  · refine h2.trans ((Cert.GateRefIdeal.Read.val_main_v9_eq _ _ _).trans ?_)
    refine Eq.trans ?_ (Cert.GateIdeal.Final.arr6 m c).symm
    rw [a0, a1, a2]

theorem frame_ref_Gate : Cert.quiescent_GateRefIdeal (hGateRefIdeal := Cert.GateRefIdeal.Gen.facts) := by
  intro m g _
  exact (θ_run _ _ _).mono (fun r h => ⟨fun c => (h c).2.2.2, sem_eq_zero_of_no_sems (by decide) r.2⟩) (Cert.GateRefIdeal.Value.run m g)

set_option maxHeartbeats 1600000 in
theorem algebraic_StepGlaIn : Cert.algebraic_StepGlaInIdeal_StepGlaInRefIdeal (hStepGlaInIdeal := Cert.StepGlaInIdeal.Gen.facts) (hStepGlaInRefIdeal := Cert.StepGlaInRefIdeal.Gen.facts) := by
  intro m g m' g' _ hagree
  refine ⟨fun c => (Cert.StepGlaInIdeal.Gen.dats m 0 c).arrAt 4 Cert.StepGlaInIdeal.cfg0.N, fun c => (Cert.StepGlaInIdeal.Gen.dats m 0 c).arrAt 5 Cert.StepGlaInIdeal.cfg0.N, fun c => (Cert.StepGlaInIdeal.Gen.dats m 0 c).arrAt 6 Cert.StepGlaInIdeal.cfg0.N, fun c => (Cert.StepGlaInIdeal.Gen.dats m 0 c).arrAt 7 Cert.StepGlaInIdeal.cfg0.N, Cert.StepGlaInIdeal.Value.run_blocks m g, ?_⟩
  refine (θ_run _ _ _).mono (fun r h c => ?_) (Cert.StepGlaInRefIdeal.Value.run m' g')
  obtain ⟨h0, h1, h2, h3, ha⟩ := h c
  obtain ⟨a0, a1, a2, a3, a4⟩ := hagree c
  refine ⟨?_, ?_, ?_, ?_, ha⟩
  · refine h0.trans ((Cert.StepGlaInRefIdeal.Read.val_main_v27_eq _ _).trans ?_)
    refine Eq.trans ?_ (Cert.StepGlaInIdeal.Final.arr4 m c).symm
    rw [a3, a4]
  · refine h1.trans ((Cert.StepGlaInRefIdeal.Read.val_main_v28_eq _ _ _ _ _).trans ?_)
    refine Eq.trans ?_ (Cert.StepGlaInIdeal.Final.arr5 m c).symm
    rw [a0, a1, a2, a3, a4]
  · refine h2.trans ((Cert.StepGlaInRefIdeal.Read.val_main_v29_eq _ _ _).trans ?_)
    refine Eq.trans ?_ (Cert.StepGlaInIdeal.Final.arr6 m c).symm
    rw [a1, a3, a4]
  · refine h3.trans ((Cert.StepGlaInRefIdeal.Read.val_main_v30_eq _ _ _).trans ?_)
    refine Eq.trans ?_ (Cert.StepGlaInIdeal.Final.arr7 m c).symm
    rw [a2, a3, a4]

theorem frame_ref_StepGlaIn : Cert.quiescent_StepGlaInRefIdeal (hStepGlaInRefIdeal := Cert.StepGlaInRefIdeal.Gen.facts) := by
  intro m g _
  exact (θ_run _ _ _).mono (fun r h => ⟨fun c => (h c).2.2.2.2, sem_eq_zero_of_no_sems (by decide) r.2⟩) (Cert.StepGlaInRefIdeal.Value.run m g)

set_option maxHeartbeats 1600000 in
theorem algebraic_StepGlaOut : Cert.algebraic_StepGlaOutIdeal_StepGlaOutRefIdeal (hStepGlaOutIdeal := Cert.StepGlaOutIdeal.Gen.facts) (hStepGlaOutRefIdeal := Cert.StepGlaOutRefIdeal.Gen.facts) := by
  intro m g m' g' _ hagree
  refine ⟨fun c => (Cert.StepGlaOutIdeal.Gen.dats m 0 c).arrAt 5 Cert.StepGlaOutIdeal.cfg0.N, fun c => (Cert.StepGlaOutIdeal.Gen.dats m 0 c).arrAt 6 Cert.StepGlaOutIdeal.cfg0.N, fun c => (Cert.StepGlaOutIdeal.Gen.dats m 0 c).arrAt 7 Cert.StepGlaOutIdeal.cfg0.N, fun c => (Cert.StepGlaOutIdeal.Gen.dats m 0 c).arrAt 8 Cert.StepGlaOutIdeal.cfg0.N, Cert.StepGlaOutIdeal.Value.run_blocks m g, ?_⟩
  refine (θ_run _ _ _).mono (fun r h c => ?_) (Cert.StepGlaOutRefIdeal.Value.run m' g')
  obtain ⟨h0, h1, h2, h3, ha⟩ := h c
  obtain ⟨a0, a1, a2, a3, a4⟩ := hagree c
  refine ⟨?_, ?_, ?_, ?_, ha⟩
  · refine h0.trans ((Cert.StepGlaOutRefIdeal.Read.val_main_v2_eq _ _).trans ?_)
    refine Eq.trans ?_ (Cert.StepGlaOutIdeal.Final.arr5 m c).symm
    rw [a3, a4]
  · refine h1.trans ((Cert.StepGlaOutRefIdeal.Read.val_main_v26_eq _ _ _ _ _).trans ?_)
    refine Eq.trans ?_ (Cert.StepGlaOutIdeal.Final.arr6 m c).symm
    rw [a0, a1, a2, a3, a4]
  · refine h2.trans ((Cert.StepGlaOutRefIdeal.Read.val_main_v7_eq _ _ _).trans ?_)
    refine Eq.trans ?_ (Cert.StepGlaOutIdeal.Final.arr7 m c).symm
    rw [a1, a3, a4]
  · refine h3.trans ((Cert.StepGlaOutRefIdeal.Read.val_main_v13_eq _ _ _).trans ?_)
    refine Eq.trans ?_ (Cert.StepGlaOutIdeal.Final.arr8 m c).symm
    rw [a2, a3, a4]

theorem frame_ref_StepGlaOut : Cert.quiescent_StepGlaOutRefIdeal (hStepGlaOutRefIdeal := Cert.StepGlaOutRefIdeal.Gen.facts) := by
  intro m g _
  exact (θ_run _ _ _).mono (fun r h => ⟨fun c => (h c).2.2.2.2, sem_eq_zero_of_no_sems (by decide) r.2⟩) (Cert.StepGlaOutRefIdeal.Value.run m g)

set_option maxHeartbeats 1600000 in
theorem algebraic_StepMlaIn : Cert.algebraic_StepMlaInIdeal_StepMlaInRefIdeal (hStepMlaInIdeal := Cert.StepMlaInIdeal.Gen.facts) (hStepMlaInRefIdeal := Cert.StepMlaInRefIdeal.Gen.facts) := by
  intro m g m' g' _ hagree
  refine ⟨fun c => (Cert.StepMlaInIdeal.Gen.dats m 0 c).arrAt 4 Cert.StepMlaInIdeal.cfg0.N, fun c => (Cert.StepMlaInIdeal.Gen.dats m 0 c).arrAt 5 Cert.StepMlaInIdeal.cfg0.N, fun c => (Cert.StepMlaInIdeal.Gen.dats m 0 c).arrAt 6 Cert.StepMlaInIdeal.cfg0.N, fun c => (Cert.StepMlaInIdeal.Gen.dats m 0 c).arrAt 7 Cert.StepMlaInIdeal.cfg0.N, Cert.StepMlaInIdeal.Value.run_blocks m g, ?_⟩
  refine (θ_run _ _ _).mono (fun r h c => ?_) (Cert.StepMlaInRefIdeal.Value.run m' g')
  obtain ⟨h0, h1, h2, h3, ha⟩ := h c
  obtain ⟨a0, a1, a2, a3⟩ := hagree c
  refine ⟨?_, ?_, ?_, ?_, ha⟩
  · refine h0.trans ((Cert.StepMlaInRefIdeal.Read.val_main_v0_eq _).trans ?_)
    refine Eq.trans ?_ (Cert.StepMlaInIdeal.Final.arr4 m c).symm
    rw [a3]
  · refine h1.trans ((Cert.StepMlaInRefIdeal.Read.val_main_v24_eq _ _ _ _).trans ?_)
    refine Eq.trans ?_ (Cert.StepMlaInIdeal.Final.arr5 m c).symm
    rw [a0, a1, a2, a3]
  · refine h2.trans ((Cert.StepMlaInRefIdeal.Read.val_main_v5_eq _ _).trans ?_)
    refine Eq.trans ?_ (Cert.StepMlaInIdeal.Final.arr6 m c).symm
    rw [a1, a3]
  · refine h3.trans ((Cert.StepMlaInRefIdeal.Read.val_main_v11_eq _ _).trans ?_)
    refine Eq.trans ?_ (Cert.StepMlaInIdeal.Final.arr7 m c).symm
    rw [a2, a3]

theorem frame_ref_StepMlaIn : Cert.quiescent_StepMlaInRefIdeal (hStepMlaInRefIdeal := Cert.StepMlaInRefIdeal.Gen.facts) := by
  intro m g _
  exact (θ_run _ _ _).mono (fun r h => ⟨fun c => (h c).2.2.2.2, sem_eq_zero_of_no_sems (by decide) r.2⟩) (Cert.StepMlaInRefIdeal.Value.run m g)

set_option maxHeartbeats 1600000 in
theorem algebraic_StepMlaUq : Cert.algebraic_StepMlaUqIdeal_StepMlaUqRefIdeal (hStepMlaUqIdeal := Cert.StepMlaUqIdeal.Gen.facts) (hStepMlaUqRefIdeal := Cert.StepMlaUqRefIdeal.Gen.facts) := by
  intro m g m' g' _ hagree
  refine ⟨fun c => (Cert.StepMlaUqIdeal.Gen.dats m 0 c).arrAt 4 Cert.StepMlaUqIdeal.cfg0.N, fun c => (Cert.StepMlaUqIdeal.Gen.dats m 0 c).arrAt 5 Cert.StepMlaUqIdeal.cfg0.N, fun c => (Cert.StepMlaUqIdeal.Gen.dats m 0 c).arrAt 6 Cert.StepMlaUqIdeal.cfg0.N, fun c => (Cert.StepMlaUqIdeal.Gen.dats m 0 c).arrAt 7 Cert.StepMlaUqIdeal.cfg0.N, Cert.StepMlaUqIdeal.Value.run_blocks m g, ?_⟩
  refine (θ_run _ _ _).mono (fun r h c => ?_) (Cert.StepMlaUqRefIdeal.Value.run m' g')
  obtain ⟨h0, h1, h2, h3, ha⟩ := h c
  obtain ⟨a0, a1, a2, a3⟩ := hagree c
  refine ⟨?_, ?_, ?_, ?_, ha⟩
  · refine h0.trans ((Cert.StepMlaUqRefIdeal.Read.val_main_v0_eq _).trans ?_)
    refine Eq.trans ?_ (Cert.StepMlaUqIdeal.Final.arr4 m c).symm
    rw [a3]
  · refine h1.trans ((Cert.StepMlaUqRefIdeal.Read.val_main_v24_eq _ _ _ _).trans ?_)
    refine Eq.trans ?_ (Cert.StepMlaUqIdeal.Final.arr5 m c).symm
    rw [a0, a1, a2, a3]
  · refine h2.trans ((Cert.StepMlaUqRefIdeal.Read.val_main_v5_eq _ _).trans ?_)
    refine Eq.trans ?_ (Cert.StepMlaUqIdeal.Final.arr6 m c).symm
    rw [a1, a3]
  · refine h3.trans ((Cert.StepMlaUqRefIdeal.Read.val_main_v11_eq _ _).trans ?_)
    refine Eq.trans ?_ (Cert.StepMlaUqIdeal.Final.arr7 m c).symm
    rw [a2, a3]

theorem frame_ref_StepMlaUq : Cert.quiescent_StepMlaUqRefIdeal (hStepMlaUqRefIdeal := Cert.StepMlaUqRefIdeal.Gen.facts) := by
  intro m g _
  exact (θ_run _ _ _).mono (fun r h => ⟨fun c => (h c).2.2.2.2, sem_eq_zero_of_no_sems (by decide) r.2⟩) (Cert.StepMlaUqRefIdeal.Value.run m g)

set_option maxHeartbeats 1600000 in
theorem algebraic_StepMlaUkv : Cert.algebraic_StepMlaUkvIdeal_StepMlaUkvRefIdeal (hStepMlaUkvIdeal := Cert.StepMlaUkvIdeal.Gen.facts) (hStepMlaUkvRefIdeal := Cert.StepMlaUkvRefIdeal.Gen.facts) := by
  intro m g m' g' _ hagree
  refine ⟨fun c => (Cert.StepMlaUkvIdeal.Gen.dats m 0 c).arrAt 4 Cert.StepMlaUkvIdeal.cfg0.N, fun c => (Cert.StepMlaUkvIdeal.Gen.dats m 0 c).arrAt 5 Cert.StepMlaUkvIdeal.cfg0.N, fun c => (Cert.StepMlaUkvIdeal.Gen.dats m 0 c).arrAt 6 Cert.StepMlaUkvIdeal.cfg0.N, fun c => (Cert.StepMlaUkvIdeal.Gen.dats m 0 c).arrAt 7 Cert.StepMlaUkvIdeal.cfg0.N, Cert.StepMlaUkvIdeal.Value.run_blocks m g, ?_⟩
  refine (θ_run _ _ _).mono (fun r h c => ?_) (Cert.StepMlaUkvRefIdeal.Value.run m' g')
  obtain ⟨h0, h1, h2, h3, ha⟩ := h c
  obtain ⟨a0, a1, a2, a3⟩ := hagree c
  refine ⟨?_, ?_, ?_, ?_, ha⟩
  · refine h0.trans ((Cert.StepMlaUkvRefIdeal.Read.val_main_v0_eq _).trans ?_)
    refine Eq.trans ?_ (Cert.StepMlaUkvIdeal.Final.arr4 m c).symm
    rw [a3]
  · refine h1.trans ((Cert.StepMlaUkvRefIdeal.Read.val_main_v24_eq _ _ _ _).trans ?_)
    refine Eq.trans ?_ (Cert.StepMlaUkvIdeal.Final.arr5 m c).symm
    rw [a0, a1, a2, a3]
  · refine h2.trans ((Cert.StepMlaUkvRefIdeal.Read.val_main_v5_eq _ _).trans ?_)
    refine Eq.trans ?_ (Cert.StepMlaUkvIdeal.Final.arr6 m c).symm
    rw [a1, a3]
  · refine h3.trans ((Cert.StepMlaUkvRefIdeal.Read.val_main_v11_eq _ _).trans ?_)
    refine Eq.trans ?_ (Cert.StepMlaUkvIdeal.Final.arr7 m c).symm
    rw [a2, a3]

theorem frame_ref_StepMlaUkv : Cert.quiescent_StepMlaUkvRefIdeal (hStepMlaUkvRefIdeal := Cert.StepMlaUkvRefIdeal.Gen.facts) := by
  intro m g _
  exact (θ_run _ _ _).mono (fun r h => ⟨fun c => (h c).2.2.2.2, sem_eq_zero_of_no_sems (by decide) r.2⟩) (Cert.StepMlaUkvRefIdeal.Value.run m g)

set_option maxHeartbeats 1600000 in
theorem algebraic_StepRowsOut : Cert.algebraic_StepRowsOutIdeal_StepRowsOutRefIdeal (hStepRowsOutIdeal := Cert.StepRowsOutIdeal.Gen.facts) (hStepRowsOutRefIdeal := Cert.StepRowsOutRefIdeal.Gen.facts) := by
  intro m g m' g' _ hagree
  refine ⟨fun c => (Cert.StepRowsOutIdeal.Gen.dats m 0 c).arrAt 4 Cert.StepRowsOutIdeal.cfg0.N, fun c => (Cert.StepRowsOutIdeal.Gen.dats m 0 c).arrAt 5 Cert.StepRowsOutIdeal.cfg0.N, fun c => (Cert.StepRowsOutIdeal.Gen.dats m 0 c).arrAt 6 Cert.StepRowsOutIdeal.cfg0.N, fun c => (Cert.StepRowsOutIdeal.Gen.dats m 0 c).arrAt 7 Cert.StepRowsOutIdeal.cfg0.N, Cert.StepRowsOutIdeal.Value.run_blocks m g, ?_⟩
  refine (θ_run _ _ _).mono (fun r h c => ?_) (Cert.StepRowsOutRefIdeal.Value.run m' g')
  obtain ⟨h0, h1, h2, h3, ha⟩ := h c
  obtain ⟨a0, a1, a2, a3⟩ := hagree c
  refine ⟨?_, ?_, ?_, ?_, ha⟩
  · refine h0.trans ((Cert.StepRowsOutRefIdeal.Read.val_main_v0_eq _).trans ?_)
    refine Eq.trans ?_ (Cert.StepRowsOutIdeal.Final.arr4 m c).symm
    rw [a3]
  · refine h1.trans ((Cert.StepRowsOutRefIdeal.Read.val_main_v24_eq _ _ _ _).trans ?_)
    refine Eq.trans ?_ (Cert.StepRowsOutIdeal.Final.arr5 m c).symm
    rw [a0, a1, a2, a3]
  · refine h2.trans ((Cert.StepRowsOutRefIdeal.Read.val_main_v5_eq _ _).trans ?_)
    refine Eq.trans ?_ (Cert.StepRowsOutIdeal.Final.arr6 m c).symm
    rw [a1, a3]
  · refine h3.trans ((Cert.StepRowsOutRefIdeal.Read.val_main_v11_eq _ _).trans ?_)
    refine Eq.trans ?_ (Cert.StepRowsOutIdeal.Final.arr7 m c).symm
    rw [a2, a3]

theorem frame_ref_StepRowsOut : Cert.quiescent_StepRowsOutRefIdeal (hStepRowsOutRefIdeal := Cert.StepRowsOutRefIdeal.Gen.facts) := by
  intro m g _
  exact (θ_run _ _ _).mono (fun r h => ⟨fun c => (h c).2.2.2.2, sem_eq_zero_of_no_sems (by decide) r.2⟩) (Cert.StepRowsOutRefIdeal.Value.run m g)

set_option maxHeartbeats 1600000 in
theorem algebraic_StepConvIn : Cert.algebraic_StepConvInIdeal_StepConvInRefIdeal (hStepConvInIdeal := Cert.StepConvInIdeal.Gen.facts) (hStepConvInRefIdeal := Cert.StepConvInRefIdeal.Gen.facts) := by
  intro m g m' g' _ hagree
  refine ⟨fun c => (Cert.StepConvInIdeal.Gen.dats m 0 c).arrAt 4 Cert.StepConvInIdeal.cfg0.N, fun c => (Cert.StepConvInIdeal.Gen.dats m 0 c).arrAt 5 Cert.StepConvInIdeal.cfg0.N, fun c => (Cert.StepConvInIdeal.Gen.dats m 0 c).arrAt 6 Cert.StepConvInIdeal.cfg0.N, fun c => (Cert.StepConvInIdeal.Gen.dats m 0 c).arrAt 7 Cert.StepConvInIdeal.cfg0.N, Cert.StepConvInIdeal.Value.run_blocks m g, ?_⟩
  refine (θ_run _ _ _).mono (fun r h c => ?_) (Cert.StepConvInRefIdeal.Value.run m' g')
  obtain ⟨h0, h1, h2, h3, ha⟩ := h c
  obtain ⟨a0, a1, a2, a3⟩ := hagree c
  refine ⟨?_, ?_, ?_, ?_, ha⟩
  · refine h0.trans ((Cert.StepConvInRefIdeal.Read.val_main_v0_eq _).trans ?_)
    refine Eq.trans ?_ (Cert.StepConvInIdeal.Final.arr4 m c).symm
    rw [a3]
  · refine h1.trans ((Cert.StepConvInRefIdeal.Read.val_main_v24_eq _ _ _ _).trans ?_)
    refine Eq.trans ?_ (Cert.StepConvInIdeal.Final.arr5 m c).symm
    rw [a0, a1, a2, a3]
  · refine h2.trans ((Cert.StepConvInRefIdeal.Read.val_main_v5_eq _ _).trans ?_)
    refine Eq.trans ?_ (Cert.StepConvInIdeal.Final.arr6 m c).symm
    rw [a1, a3]
  · refine h3.trans ((Cert.StepConvInRefIdeal.Read.val_main_v11_eq _ _).trans ?_)
    refine Eq.trans ?_ (Cert.StepConvInIdeal.Final.arr7 m c).symm
    rw [a2, a3]

theorem frame_ref_StepConvIn : Cert.quiescent_StepConvInRefIdeal (hStepConvInRefIdeal := Cert.StepConvInRefIdeal.Gen.facts) := by
  intro m g _
  exact (θ_run _ _ _).mono (fun r h => ⟨fun c => (h c).2.2.2.2, sem_eq_zero_of_no_sems (by decide) r.2⟩) (Cert.StepConvInRefIdeal.Value.run m g)

set_option maxHeartbeats 1600000 in
theorem algebraic_StepMlp : Cert.algebraic_StepMlpIdeal_StepMlpRefIdeal (hStepMlpIdeal := Cert.StepMlpIdeal.Gen.facts) (hStepMlpRefIdeal := Cert.StepMlpRefIdeal.Gen.facts) := by
  intro m g m' g' _ hagree
  refine ⟨fun c => (Cert.StepMlpIdeal.Gen.dats m 0 c).arrAt 7 Cert.StepMlpIdeal.cfg0.N, fun c => (Cert.StepMlpIdeal.Gen.dats m 0 c).arrAt 8 Cert.StepMlpIdeal.cfg0.N, fun c => (Cert.StepMlpIdeal.Gen.dats m 0 c).arrAt 9 Cert.StepMlpIdeal.cfg0.N, fun c => (Cert.StepMlpIdeal.Gen.dats m 0 c).arrAt 10 Cert.StepMlpIdeal.cfg0.N, Cert.StepMlpIdeal.Value.run_blocks m g, ?_⟩
  refine (θ_run _ _ _).mono (fun r h c => ?_) (Cert.StepMlpRefIdeal.Value.run m' g')
  obtain ⟨h0, h1, h2, h3, ha⟩ := h c
  obtain ⟨a0, a1, a2, a3, a4, a5, a6⟩ := hagree c
  refine ⟨?_, ?_, ?_, ?_, ha⟩
  · refine h0.trans ((Cert.StepMlpRefIdeal.Read.val_main_v4_eq _ _ _ _).trans ?_)
    refine Eq.trans ?_ (Cert.StepMlpIdeal.Final.arr7 m c).symm
    rw [a3, a4, a5, a6]
  · refine h1.trans ((Cert.StepMlpRefIdeal.Read.val_main_v28_eq _ _ _ _ _ _ _).trans ?_)
    refine Eq.trans ?_ (Cert.StepMlpIdeal.Final.arr8 m c).symm
    rw [a0, a1, a2, a3, a4, a5, a6]
  · refine h2.trans ((Cert.StepMlpRefIdeal.Read.val_main_v9_eq _ _ _ _ _).trans ?_)
    refine Eq.trans ?_ (Cert.StepMlpIdeal.Final.arr9 m c).symm
    rw [a1, a3, a4, a5, a6]
  · refine h3.trans ((Cert.StepMlpRefIdeal.Read.val_main_v15_eq _ _ _ _ _).trans ?_)
    refine Eq.trans ?_ (Cert.StepMlpIdeal.Final.arr10 m c).symm
    rw [a2, a3, a4, a5, a6]

theorem frame_ref_StepMlp : Cert.quiescent_StepMlpRefIdeal (hStepMlpRefIdeal := Cert.StepMlpRefIdeal.Gen.facts) := by
  intro m g _
  exact (θ_run _ _ _).mono (fun r h => ⟨fun c => (h c).2.2.2.2, sem_eq_zero_of_no_sems (by decide) r.2⟩) (Cert.StepMlpRefIdeal.Value.run m g)

set_option maxHeartbeats 1600000 in
theorem algebraic_StepPleGate : Cert.algebraic_StepPleGateIdeal_StepPleGateRefIdeal (hStepPleGateIdeal := Cert.StepPleGateIdeal.Gen.facts) (hStepPleGateRefIdeal := Cert.StepPleGateRefIdeal.Gen.facts) := by
  intro m g m' g' _ hagree
  refine ⟨fun c => (Cert.StepPleGateIdeal.Gen.dats m 0 c).arrAt 7 Cert.StepPleGateIdeal.cfg0.N, fun c => (Cert.StepPleGateIdeal.Gen.dats m 0 c).arrAt 8 Cert.StepPleGateIdeal.cfg0.N, fun c => (Cert.StepPleGateIdeal.Gen.dats m 0 c).arrAt 9 Cert.StepPleGateIdeal.cfg0.N, fun c => (Cert.StepPleGateIdeal.Gen.dats m 0 c).arrAt 10 Cert.StepPleGateIdeal.cfg0.N, Cert.StepPleGateIdeal.Value.run_blocks m g, ?_⟩
  refine (θ_run _ _ _).mono (fun r h c => ?_) (Cert.StepPleGateRefIdeal.Value.run m' g')
  obtain ⟨h0, h1, h2, h3, ha⟩ := h c
  obtain ⟨a0, a1, a2, a3, a4, a5, a6⟩ := hagree c
  refine ⟨?_, ?_, ?_, ?_, ha⟩
  · refine h0.trans ((Cert.StepPleGateRefIdeal.Read.val_main_v4_eq _ _ _ _).trans ?_)
    refine Eq.trans ?_ (Cert.StepPleGateIdeal.Final.arr7 m c).symm
    rw [a3, a4, a5, a6]
  · refine h1.trans ((Cert.StepPleGateRefIdeal.Read.val_main_v28_eq _ _ _ _ _ _ _).trans ?_)
    refine Eq.trans ?_ (Cert.StepPleGateIdeal.Final.arr8 m c).symm
    rw [a0, a1, a2, a3, a4, a5, a6]
  · refine h2.trans ((Cert.StepPleGateRefIdeal.Read.val_main_v9_eq _ _ _ _ _).trans ?_)
    refine Eq.trans ?_ (Cert.StepPleGateIdeal.Final.arr9 m c).symm
    rw [a1, a3, a4, a5, a6]
  · refine h3.trans ((Cert.StepPleGateRefIdeal.Read.val_main_v15_eq _ _ _ _ _).trans ?_)
    refine Eq.trans ?_ (Cert.StepPleGateIdeal.Final.arr10 m c).symm
    rw [a2, a3, a4, a5, a6]

theorem frame_ref_StepPleGate : Cert.quiescent_StepPleGateRefIdeal (hStepPleGateRefIdeal := Cert.StepPleGateRefIdeal.Gen.facts) := by
  intro m g _
  exact (θ_run _ _ _).mono (fun r h => ⟨fun c => (h c).2.2.2.2, sem_eq_zero_of_no_sems (by decide) r.2⟩) (Cert.StepPleGateRefIdeal.Value.run m g)

set_option maxHeartbeats 1600000 in
theorem algebraic_StepPleProj : Cert.algebraic_StepPleProjIdeal_StepPleProjRefIdeal (hStepPleProjIdeal := Cert.StepPleProjIdeal.Gen.facts) (hStepPleProjRefIdeal := Cert.StepPleProjRefIdeal.Gen.facts) := by
  intro m g m' g' _ hagree
  refine ⟨fun c => (Cert.StepPleProjIdeal.Gen.dats m 0 c).arrAt 7 Cert.StepPleProjIdeal.cfg0.N, fun c => (Cert.StepPleProjIdeal.Gen.dats m 0 c).arrAt 8 Cert.StepPleProjIdeal.cfg0.N, fun c => (Cert.StepPleProjIdeal.Gen.dats m 0 c).arrAt 9 Cert.StepPleProjIdeal.cfg0.N, fun c => (Cert.StepPleProjIdeal.Gen.dats m 0 c).arrAt 10 Cert.StepPleProjIdeal.cfg0.N, Cert.StepPleProjIdeal.Value.run_blocks m g, ?_⟩
  refine (θ_run _ _ _).mono (fun r h c => ?_) (Cert.StepPleProjRefIdeal.Value.run m' g')
  obtain ⟨h0, h1, h2, h3, ha⟩ := h c
  obtain ⟨a0, a1, a2, a3, a4, a5, a6⟩ := hagree c
  refine ⟨?_, ?_, ?_, ?_, ha⟩
  · refine h0.trans ((Cert.StepPleProjRefIdeal.Read.val_main_v4_eq _ _ _ _).trans ?_)
    refine Eq.trans ?_ (Cert.StepPleProjIdeal.Final.arr7 m c).symm
    rw [a3, a4, a5, a6]
  · refine h1.trans ((Cert.StepPleProjRefIdeal.Read.val_main_v28_eq _ _ _ _ _ _ _).trans ?_)
    refine Eq.trans ?_ (Cert.StepPleProjIdeal.Final.arr8 m c).symm
    rw [a0, a1, a2, a3, a4, a5, a6]
  · refine h2.trans ((Cert.StepPleProjRefIdeal.Read.val_main_v9_eq _ _ _ _ _).trans ?_)
    refine Eq.trans ?_ (Cert.StepPleProjIdeal.Final.arr9 m c).symm
    rw [a1, a3, a4, a5, a6]
  · refine h3.trans ((Cert.StepPleProjRefIdeal.Read.val_main_v15_eq _ _ _ _ _).trans ?_)
    refine Eq.trans ?_ (Cert.StepPleProjIdeal.Final.arr10 m c).symm
    rw [a2, a3, a4, a5, a6]

theorem frame_ref_StepPleProj : Cert.quiescent_StepPleProjRefIdeal (hStepPleProjRefIdeal := Cert.StepPleProjRefIdeal.Gen.facts) := by
  intro m g _
  exact (θ_run _ _ _).mono (fun r h => ⟨fun c => (h c).2.2.2.2, sem_eq_zero_of_no_sems (by decide) r.2⟩) (Cert.StepPleProjRefIdeal.Value.run m g)

theorem claim : Cert.Claim := ⟨Cert.Kernel.Gen.facts, Cert.KernelIdeal.Gen.facts, Cert.ReferenceIdeal.Gen.facts, Cert.Up.Gen.facts, Cert.UpIdeal.Gen.facts, Cert.UpRefIdeal.Gen.facts, Cert.Down.Gen.facts, Cert.DownIdeal.Gen.facts, Cert.DownRefIdeal.Gen.facts, Cert.DownDw.Gen.facts, Cert.DownDwIdeal.Gen.facts, Cert.DownDwRefIdeal.Gen.facts, Cert.DownDx.Gen.facts, Cert.DownDxIdeal.Gen.facts, Cert.DownDxRefIdeal.Gen.facts, Cert.UpDw.Gen.facts, Cert.UpDwIdeal.Gen.facts, Cert.UpDwRefIdeal.Gen.facts, Cert.GlaIn.Gen.facts, Cert.GlaInIdeal.Gen.facts, Cert.GlaInRefIdeal.Gen.facts, Cert.GlaInDw.Gen.facts, Cert.GlaInDwIdeal.Gen.facts, Cert.GlaInDwRefIdeal.Gen.facts, Cert.GlaInDx.Gen.facts, Cert.GlaInDxIdeal.Gen.facts, Cert.GlaInDxRefIdeal.Gen.facts, Cert.ConvIn.Gen.facts, Cert.ConvInIdeal.Gen.facts, Cert.ConvInRefIdeal.Gen.facts, Cert.ConvInDw.Gen.facts, Cert.ConvInDwIdeal.Gen.facts, Cert.ConvInDwRefIdeal.Gen.facts, Cert.ConvInDx.Gen.facts, Cert.ConvInDxIdeal.Gen.facts, Cert.ConvInDxRefIdeal.Gen.facts, Cert.SquareDw.Gen.facts, Cert.SquareDwIdeal.Gen.facts, Cert.SquareDwRefIdeal.Gen.facts, Cert.SquareDx.Gen.facts, Cert.SquareDxIdeal.Gen.facts, Cert.SquareDxRefIdeal.Gen.facts, Cert.MixOut.Gen.facts, Cert.MixOutIdeal.Gen.facts, Cert.MixOutRefIdeal.Gen.facts, Cert.Gate.Gen.facts, Cert.GateIdeal.Gen.facts, Cert.GateRefIdeal.Gen.facts, Cert.StepGlaOut.Gen.facts, Cert.StepGlaOutIdeal.Gen.facts, Cert.StepGlaOutRefIdeal.Gen.facts, Cert.StepMlaIn.Gen.facts, Cert.StepMlaInIdeal.Gen.facts, Cert.StepMlaInRefIdeal.Gen.facts, Cert.StepMlaUq.Gen.facts, Cert.StepMlaUqIdeal.Gen.facts, Cert.StepMlaUqRefIdeal.Gen.facts, Cert.StepMlaUkv.Gen.facts, Cert.StepMlaUkvIdeal.Gen.facts, Cert.StepMlaUkvRefIdeal.Gen.facts, Cert.StepRowsOut.Gen.facts, Cert.StepRowsOutIdeal.Gen.facts, Cert.StepRowsOutRefIdeal.Gen.facts, Cert.StepConvIn.Gen.facts, Cert.StepConvInIdeal.Gen.facts, Cert.StepConvInRefIdeal.Gen.facts, Cert.StepMlp.Gen.facts, Cert.StepMlpIdeal.Gen.facts, Cert.StepMlpRefIdeal.Gen.facts, Cert.StepPleGate.Gen.facts, Cert.StepPleGateIdeal.Gen.facts, Cert.StepPleGateRefIdeal.Gen.facts, Cert.StepPleProj.Gen.facts, Cert.StepPleProjIdeal.Gen.facts, Cert.StepPleProjRefIdeal.Gen.facts, Cert.StepGlaIn.Gen.facts, Cert.StepGlaInIdeal.Gen.facts, Cert.StepGlaInRefIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.Up.Gen.frame m ρ,
  fun m ρ _ => Cert.UpIdeal.Gen.frame m ρ,
  frame_ref_Up,
  fun m ρ _ => Cert.Down.Gen.frame m ρ,
  fun m ρ _ => Cert.DownIdeal.Gen.frame m ρ,
  frame_ref_Down,
  fun m ρ _ => Cert.DownDw.Gen.frame m ρ,
  fun m ρ _ => Cert.DownDwIdeal.Gen.frame m ρ,
  frame_ref_DownDw,
  fun m ρ _ => Cert.DownDx.Gen.frame m ρ,
  fun m ρ _ => Cert.DownDxIdeal.Gen.frame m ρ,
  frame_ref_DownDx,
  fun m ρ _ => Cert.UpDw.Gen.frame m ρ,
  fun m ρ _ => Cert.UpDwIdeal.Gen.frame m ρ,
  frame_ref_UpDw,
  fun m ρ _ => Cert.GlaIn.Gen.frame m ρ,
  fun m ρ _ => Cert.GlaInIdeal.Gen.frame m ρ,
  frame_ref_GlaIn,
  fun m ρ _ => Cert.GlaInDw.Gen.frame m ρ,
  fun m ρ _ => Cert.GlaInDwIdeal.Gen.frame m ρ,
  frame_ref_GlaInDw,
  fun m ρ _ => Cert.GlaInDx.Gen.frame m ρ,
  fun m ρ _ => Cert.GlaInDxIdeal.Gen.frame m ρ,
  frame_ref_GlaInDx,
  fun m ρ _ => Cert.ConvIn.Gen.frame m ρ,
  fun m ρ _ => Cert.ConvInIdeal.Gen.frame m ρ,
  frame_ref_ConvIn,
  fun m ρ _ => Cert.ConvInDw.Gen.frame m ρ,
  fun m ρ _ => Cert.ConvInDwIdeal.Gen.frame m ρ,
  frame_ref_ConvInDw,
  fun m ρ _ => Cert.ConvInDx.Gen.frame m ρ,
  fun m ρ _ => Cert.ConvInDxIdeal.Gen.frame m ρ,
  frame_ref_ConvInDx,
  fun m ρ _ => Cert.SquareDw.Gen.frame m ρ,
  fun m ρ _ => Cert.SquareDwIdeal.Gen.frame m ρ,
  frame_ref_SquareDw,
  fun m ρ _ => Cert.SquareDx.Gen.frame m ρ,
  fun m ρ _ => Cert.SquareDxIdeal.Gen.frame m ρ,
  frame_ref_SquareDx,
  fun m ρ _ => Cert.MixOut.Gen.frame m ρ,
  fun m ρ _ => Cert.MixOutIdeal.Gen.frame m ρ,
  frame_ref_MixOut,
  fun m ρ _ => Cert.Gate.Gen.frame m ρ,
  fun m ρ _ => Cert.GateIdeal.Gen.frame m ρ,
  frame_ref_Gate,
  fun m ρ _ => Cert.StepGlaOut.Gen.frame m ρ,
  fun m ρ _ => Cert.StepGlaOutIdeal.Gen.frame m ρ,
  frame_ref_StepGlaOut,
  fun m ρ _ => Cert.StepMlaIn.Gen.frame m ρ,
  fun m ρ _ => Cert.StepMlaInIdeal.Gen.frame m ρ,
  frame_ref_StepMlaIn,
  fun m ρ _ => Cert.StepMlaUq.Gen.frame m ρ,
  fun m ρ _ => Cert.StepMlaUqIdeal.Gen.frame m ρ,
  frame_ref_StepMlaUq,
  fun m ρ _ => Cert.StepMlaUkv.Gen.frame m ρ,
  fun m ρ _ => Cert.StepMlaUkvIdeal.Gen.frame m ρ,
  frame_ref_StepMlaUkv,
  fun m ρ _ => Cert.StepRowsOut.Gen.frame m ρ,
  fun m ρ _ => Cert.StepRowsOutIdeal.Gen.frame m ρ,
  frame_ref_StepRowsOut,
  fun m ρ _ => Cert.StepConvIn.Gen.frame m ρ,
  fun m ρ _ => Cert.StepConvInIdeal.Gen.frame m ρ,
  frame_ref_StepConvIn,
  fun m ρ _ => Cert.StepMlp.Gen.frame m ρ,
  fun m ρ _ => Cert.StepMlpIdeal.Gen.frame m ρ,
  frame_ref_StepMlp,
  fun m ρ _ => Cert.StepPleGate.Gen.frame m ρ,
  fun m ρ _ => Cert.StepPleGateIdeal.Gen.frame m ρ,
  frame_ref_StepPleGate,
  fun m ρ _ => Cert.StepPleProj.Gen.frame m ρ,
  fun m ρ _ => Cert.StepPleProjIdeal.Gen.frame m ρ,
  frame_ref_StepPleProj,
  fun m ρ _ => Cert.StepGlaIn.Gen.frame m ρ,
  fun m ρ _ => Cert.StepGlaInIdeal.Gen.frame m ρ,
  frame_ref_StepGlaIn,
  trivial,
  algebraic,
  trivial,
  algebraic_Up,
  trivial,
  algebraic_Down,
  trivial,
  algebraic_DownDw,
  trivial,
  algebraic_DownDx,
  trivial,
  algebraic_UpDw,
  trivial,
  algebraic_GlaIn,
  trivial,
  algebraic_GlaInDw,
  trivial,
  algebraic_GlaInDx,
  trivial,
  algebraic_ConvIn,
  trivial,
  algebraic_ConvInDw,
  trivial,
  algebraic_ConvInDx,
  trivial,
  algebraic_SquareDw,
  trivial,
  algebraic_SquareDx,
  trivial,
  algebraic_MixOut,
  trivial,
  algebraic_Gate,
  trivial,
  algebraic_StepGlaOut,
  trivial,
  algebraic_StepMlaIn,
  trivial,
  algebraic_StepMlaUq,
  trivial,
  algebraic_StepMlaUkv,
  trivial,
  algebraic_StepRowsOut,
  trivial,
  algebraic_StepConvIn,
  trivial,
  algebraic_StepMlp,
  trivial,
  algebraic_StepPleGate,
  trivial,
  algebraic_StepPleProj,
  trivial,
  algebraic_StepGlaIn⟩

end Cert.Proof

end
